-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8192x4096 : Shape := ⟨2, ![8192, 4096]⟩
abbrev S1x4096x16384 : Shape := ⟨3, ![1, 4096, 16384]⟩
abbrev S1x3x4096 : Shape := ⟨3, ![1, 3, 4096]⟩
abbrev S1024x4096 : Shape := ⟨2, ![1024, 4096]⟩
abbrev S1x3x256 : Shape := ⟨3, ![1, 3, 256]⟩
abbrev S1024x256 : Shape := ⟨2, ![1024, 256]⟩
abbrev S4096x1024 : Shape := ⟨2, ![4096, 1024]⟩
abbrev S2x4x512x256 : Shape := ⟨4, ![2, 4, 512, 256]⟩
abbrev S2x4 : Shape := ⟨2, ![2, 4]⟩
abbrev S8x256 : Shape := ⟨2, ![8, 256]⟩
abbrev S1x1 : Shape := ⟨2, ![1, 1]⟩
abbrev S_ : Shape := ⟨0, ![]⟩
abbrev S1x1x512x256 : Shape := ⟨4, ![1, 1, 512, 256]⟩
abbrev S512x256 : Shape := ⟨2, ![512, 256]⟩
abbrev S1x512x256 : Shape := ⟨3, ![1, 512, 256]⟩
abbrev S1024x1024 : Shape := ⟨2, ![1024, 1024]⟩
abbrev S3x256 : Shape := ⟨2, ![3, 256]⟩
abbrev S1032x256 : Shape := ⟨2, ![1032, 256]⟩
abbrev S1x256 : Shape := ⟨2, ![1, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x16384, .f32⟩
  | .hbm, ⟨2, _⟩ => ⟨S1x3x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x3x256, .f32⟩
  | .local _ .vmem, ⟨3, _⟩ => ⟨S1x3x256, .f32⟩
  | .local _ .vmem, ⟨4, _⟩ => ⟨S1024x256, .bf16⟩
  | .local _ .vmem, ⟨5, _⟩ => ⟨S1024x256, .bf16⟩
  | .local _ .vmem, ⟨6, _⟩ => ⟨S4096x1024, .bf16⟩
  | .local _ .vmem, ⟨7, _⟩ => ⟨S4096x1024, .bf16⟩
  | .local _ .vmem, ⟨8, _⟩ => ⟨S2x4x512x256, .f32⟩
  | .local _ .vmem, ⟨9, _⟩ => ⟨S8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 (c0_i32_8 : BitVec 32) (c0_i32_10 : BitVec 32) (c0_i32_6 : BitVec 32) : Fin 3 → Nat :=
  let c0_i32_18 : BitVec 32 := 0#32
  let c8_i32_9 : BitVec 32 := 8#32
  let v18 : BitVec 32 := Scalar.remsi c0_i32_8 c8_i32_9
  let c512_i32 : BitVec 32 := 512#32
  let v19 : BitVec 32 := Scalar.muli v18 c512_i32
  let c8_i32_7 : BitVec 32 := 8#32
  let v16 : BitVec 32 := Scalar.divsi c0_i32_6 c8_i32_7
  let c16_i32 : BitVec 32 := 16#32
  let v17 : BitVec 32 := Scalar.remsi v16 c16_i32
  let v20 : BitVec 32 := Scalar.addi c0_i32_10 v17
  let c256_i32 : BitVec 32 := 256#32
  let v21 : BitVec 32 := Scalar.muli v20 c256_i32
  ![0, v19.toNat, v21.toNat]
def k0_off1_at (r : Fin 36) : BitVec 32 × BitVec 32 × BitVec 32 :=
  if r.val < 18 then
    if r.val < 9 then
      if r.val < 4 then
        if r.val < 2 then
          if r.val < 1 then
            (0#32, 0#32, 0#32)
          else
            (0#32, 16#32, 0#32)
        else
          if r.val < 3 then
            (0#32, 32#32, 0#32)
          else
            (0#32, 48#32, 0#32)
      else
        if r.val < 6 then
          if r.val < 5 then
            (1#32, 0#32, 1#32)
          else
            (1#32, 16#32, 1#32)
        else
          if r.val < 7 then
            (1#32, 32#32, 1#32)
          else
            if r.val < 8 then
              (1#32, 48#32, 1#32)
            else
              (2#32, 0#32, 2#32)
    else
      if r.val < 13 then
        if r.val < 11 then
          if r.val < 10 then
            (2#32, 16#32, 2#32)
          else
            (2#32, 32#32, 2#32)
        else
          if r.val < 12 then
            (2#32, 48#32, 2#32)
          else
            (3#32, 0#32, 3#32)
      else
        if r.val < 15 then
          if r.val < 14 then
            (3#32, 16#32, 3#32)
          else
            (3#32, 32#32, 3#32)
        else
          if r.val < 16 then
            (3#32, 48#32, 3#32)
          else
            if r.val < 17 then
              (4#32, 0#32, 4#32)
            else
              (4#32, 16#32, 4#32)
  else
    if r.val < 27 then
      if r.val < 22 then
        if r.val < 20 then
          if r.val < 19 then
            (4#32, 32#32, 4#32)
          else
            (4#32, 48#32, 4#32)
        else
          if r.val < 21 then
            (5#32, 0#32, 5#32)
          else
            (5#32, 16#32, 5#32)
      else
        if r.val < 24 then
          if r.val < 23 then
            (5#32, 32#32, 5#32)
          else
            (5#32, 48#32, 5#32)
        else
          if r.val < 25 then
            (6#32, 0#32, 6#32)
          else
            if r.val < 26 then
              (6#32, 16#32, 6#32)
            else
              (6#32, 32#32, 6#32)
    else
      if r.val < 31 then
        if r.val < 29 then
          if r.val < 28 then
            (6#32, 48#32, 6#32)
          else
            (7#32, 0#32, 7#32)
        else
          if r.val < 30 then
            (7#32, 16#32, 7#32)
          else
            (7#32, 32#32, 7#32)
      else
        if r.val < 33 then
          if r.val < 32 then
            (7#32, 48#32, 7#32)
          else
            (8#32, 0#32, 8#32)
        else
          if r.val < 34 then
            (8#32, 16#32, 8#32)
          else
            if r.val < 35 then
              (8#32, 32#32, 8#32)
            else
              (8#32, 48#32, 8#32)
def k0_mult1 : BitVec 32 :=
  let c0_i32_135 : BitVec 32 := 0#32
  c0_i32_135
def k0_mult2 : BitVec 32 :=
  let c512_i32_239 : BitVec 32 := 512#32
  c512_i32_239
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
def k0_mult8 : BitVec 32 :=
  let c3584_i32 : BitVec 32 := 3584#32
  c3584_i32
def k0_cond2 (i : grid0.Coords) : BitVec 1 :=
  let arg0 : BitVec 32 := BitVec.ofNat 32 (i 0).val
  let c2_i32 : BitVec 32 := 2#32
  let v5 : BitVec 32 := Scalar.remsi arg0 c2_i32
  let c0_i32_1 : BitVec 32 := 0#32
  let v6 : BitVec 1 := Scalar.cmpi .eq v5 c0_i32_1
  let v7 : BitVec 32 := Scalar.extui v6
  let c0_i32_2 : BitVec 32 := 0#32
  let v8 : BitVec 1 := Scalar.cmpi .ne v7 c0_i32_2
  v8

def k0_off2 (i : grid0.Coords) : Fin 2 → Nat :=
  let arg1 : BitVec 32 := BitVec.ofNat 32 (i 1).val
  let c2_i32_6 : BitVec 32 := 2#32
  let v16 : BitVec 32 := Scalar.remsi arg1 c2_i32_6
  let c0_i32_20 : BitVec 32 := 0#32
  ![v16.toNat, 0]
def k0_off3 (i : grid0.Coords) : Fin 4 → Nat :=
  let arg1 : BitVec 32 := BitVec.ofNat 32 (i 1).val
  let c2_i32_6 : BitVec 32 := 2#32
  let v16 : BitVec 32 := Scalar.remsi arg1 c2_i32_6
  let c0_i32_19 : BitVec 32 := 0#32
  let c0_i32_21 : BitVec 32 := 0#32
  let c0_i32_22 : BitVec 32 := 0#32
  ![v16.toNat, 0, 0, 0]
def k0_off4 (i : grid0.Coords) (c0_i32_10 : BitVec 32) : Fin 3 → Nat :=
  let c0_i32_18 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_7 : BitVec 32 := 8#32
  let v17 : BitVec 32 := Scalar.addi v1 c8_i32_7
  let c8_i32_9 : BitVec 32 := 8#32
  let v20 : BitVec 32 := Scalar.remsi v17 c8_i32_9
  let c512_i32 : BitVec 32 := 512#32
  let v21 : BitVec 32 := Scalar.muli v20 c512_i32
  let c8_i32_8 : BitVec 32 := 8#32
  let v18 : BitVec 32 := Scalar.divsi v17 c8_i32_8
  let c16_i32 : BitVec 32 := 16#32
  let v19 : BitVec 32 := Scalar.remsi v18 c16_i32
  let v22 : BitVec 32 := Scalar.addi c0_i32_10 v19
  let c256_i32 : BitVec 32 := 256#32
  let v23 : BitVec 32 := Scalar.muli v22 c256_i32
  ![0, v21.toNat, v23.toNat]
def k0_off5 (i : grid0.Coords) : Fin 2 → Nat :=
  let arg1 : BitVec 32 := BitVec.ofNat 32 (i 1).val
  let c2_i32_6 : BitVec 32 := 2#32
  let v16 : BitVec 32 := Scalar.remsi arg1 c2_i32_6
  let c1_i32_25 : BitVec 32 := 1#32
  ![v16.toNat, 1]
def k0_off6 (i : grid0.Coords) : Fin 4 → Nat :=
  let arg1 : BitVec 32 := BitVec.ofNat 32 (i 1).val
  let c2_i32_6 : BitVec 32 := 2#32
  let v16 : BitVec 32 := Scalar.remsi arg1 c2_i32_6
  let c1_i32_24 : BitVec 32 := 1#32
  let c0_i32_26 : BitVec 32 := 0#32
  let c0_i32_27 : BitVec 32 := 0#32
  ![v16.toNat, 1, 0, 0]
def k0_off7 (i : grid0.Coords) : Fin 2 → Nat :=
  let arg1 : BitVec 32 := BitVec.ofNat 32 (i 1).val
  let c2_i32_6 : BitVec 32 := 2#32
  let v16 : BitVec 32 := Scalar.remsi arg1 c2_i32_6
  let c2_i32_30 : BitVec 32 := 2#32
  ![v16.toNat, 2]
def k0_off8 (i : grid0.Coords) : Fin 4 → Nat :=
  let arg1 : BitVec 32 := BitVec.ofNat 32 (i 1).val
  let c2_i32_6 : BitVec 32 := 2#32
  let v16 : BitVec 32 := Scalar.remsi arg1 c2_i32_6
  let c2_i32_29 : BitVec 32 := 2#32
  let c0_i32_31 : BitVec 32 := 0#32
  let c0_i32_32 : BitVec 32 := 0#32
  ![v16.toNat, 2, 0, 0]
def k0_off9 (i : grid0.Coords) : Fin 2 → Nat :=
  let arg1 : BitVec 32 := BitVec.ofNat 32 (i 1).val
  let c2_i32_6 : BitVec 32 := 2#32
  let v16 : BitVec 32 := Scalar.remsi arg1 c2_i32_6
  let c3_i32_34 : BitVec 32 := 3#32
  ![v16.toNat, 3]
def k0_off10 (i : grid0.Coords) : Fin 4 → Nat :=
  let arg1 : BitVec 32 := BitVec.ofNat 32 (i 1).val
  let c2_i32_6 : BitVec 32 := 2#32
  let v16 : BitVec 32 := Scalar.remsi arg1 c2_i32_6
  let c3_i32 : BitVec 32 := 3#32
  let c0_i32_35 : BitVec 32 := 0#32
  let c0_i32_36 : BitVec 32 := 0#32
  ![v16.toNat, 3, 0, 0]
def k0_off11 (i : grid0.Coords) : Fin 2 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c0_i32_57 : BitVec 32 := 0#32
  ![v59.toNat, 0]
def k0_off12 (i : grid0.Coords) : Fin 4 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c0_i32_56 : BitVec 32 := 0#32
  let c0_i32_58 : BitVec 32 := 0#32
  let c0_i32_59 : BitVec 32 := 0#32
  ![v59.toNat, 0, 0, 0]
def k0_off13 (i : grid0.Coords) (c0_i32_44 : BitVec 32) : Fin 3 → Nat :=
  let c0_i32_55 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_37 : BitVec 32 := 8#32
  let v57 : BitVec 32 := Scalar.addi v1 c8_i32_37
  let c1_i32_38 : BitVec 32 := 1#32
  let v58 : BitVec 32 := Scalar.addi v57 c1_i32_38
  let c8_i32_42 : BitVec 32 := 8#32
  let v62 : BitVec 32 := Scalar.remsi v58 c8_i32_42
  let c512_i32_43 : BitVec 32 := 512#32
  let v63 : BitVec 32 := Scalar.muli v62 c512_i32_43
  let c8_i32_40 : BitVec 32 := 8#32
  let v60 : BitVec 32 := Scalar.divsi v58 c8_i32_40
  let c16_i32_41 : BitVec 32 := 16#32
  let v61 : BitVec 32 := Scalar.remsi v60 c16_i32_41
  let v64 : BitVec 32 := Scalar.addi c0_i32_44 v61
  let c256_i32_45 : BitVec 32 := 256#32
  let v65 : BitVec 32 := Scalar.muli v64 c256_i32_45
  ![0, v63.toNat, v65.toNat]
def k0_off14 (i : grid0.Coords) : Fin 2 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c1_i32_62 : BitVec 32 := 1#32
  ![v59.toNat, 1]
def k0_off15 (i : grid0.Coords) : Fin 4 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c1_i32_61 : BitVec 32 := 1#32
  let c0_i32_63 : BitVec 32 := 0#32
  let c0_i32_64 : BitVec 32 := 0#32
  ![v59.toNat, 1, 0, 0]
def k0_off16 (i : grid0.Coords) : Fin 2 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c2_i32_67 : BitVec 32 := 2#32
  ![v59.toNat, 2]
def k0_off17 (i : grid0.Coords) : Fin 4 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c2_i32_66 : BitVec 32 := 2#32
  let c0_i32_68 : BitVec 32 := 0#32
  let c0_i32_69 : BitVec 32 := 0#32
  ![v59.toNat, 2, 0, 0]
def k0_off18 (i : grid0.Coords) : Fin 2 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c3_i32_72 : BitVec 32 := 3#32
  ![v59.toNat, 3]
def k0_off19 (i : grid0.Coords) : Fin 4 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c3_i32_71 : BitVec 32 := 3#32
  let c0_i32_73 : BitVec 32 := 0#32
  let c0_i32_74 : BitVec 32 := 0#32
  ![v59.toNat, 3, 0, 0]
def k0_mult9 (i : grid0.Coords) : BitVec 32 :=
  let arg1 : BitVec 32 := BitVec.ofNat 32 (i 1).val
  let c512_i32_75 : BitVec 32 := 512#32
  let v99 : BitVec 32 := Scalar.muli arg1 c512_i32_75
  v99
def k0_off20 (i : grid0.Coords) : Fin 4 → Nat :=
  let arg1 : BitVec 32 := BitVec.ofNat 32 (i 1).val
  let c2_i32_6 : BitVec 32 := 2#32
  let v16 : BitVec 32 := Scalar.remsi arg1 c2_i32_6
  let v101 : Index := Scalar.indexCast v16
  let c0 : Index := 0#32
  let c0_76 : Index := 0#32
  let c0_77 : Index := 0#32
  ![v101.toNat, 0, 0, 0]
def k0_off21 (i : grid0.Coords) : Fin 2 → Nat :=
  let arg1 : BitVec 32 := BitVec.ofNat 32 (i 1).val
  let c512_i32_75 : BitVec 32 := 512#32
  let v99 : BitVec 32 := Scalar.muli arg1 c512_i32_75
  let v100 : BitVec 32 := v99
  let v105 : Index := Scalar.indexCast v100
  let c0_78 : Index := 0#32
  ![v105.toNat, 0]
def k0_off22 (i : grid0.Coords) : Fin 4 → Nat :=
  let arg1 : BitVec 32 := BitVec.ofNat 32 (i 1).val
  let c2_i32_6 : BitVec 32 := 2#32
  let v16 : BitVec 32 := Scalar.remsi arg1 c2_i32_6
  let v109 : Index := Scalar.indexCast v16
  let c1 : Index := 1#32
  let c0_79 : Index := 0#32
  let c0_80 : Index := 0#32
  ![v109.toNat, 1, 0, 0]
def k0_off23 (i : grid0.Coords) : Fin 2 → Nat :=
  let arg1 : BitVec 32 := BitVec.ofNat 32 (i 1).val
  let c512_i32_75 : BitVec 32 := 512#32
  let v99 : BitVec 32 := Scalar.muli arg1 c512_i32_75
  let v100 : BitVec 32 := v99
  let v113 : Index := Scalar.indexCast v100
  let c256 : Index := 256#32
  ![v113.toNat, 256]
def k0_off24 (i : grid0.Coords) : Fin 4 → Nat :=
  let arg1 : BitVec 32 := BitVec.ofNat 32 (i 1).val
  let c2_i32_6 : BitVec 32 := 2#32
  let v16 : BitVec 32 := Scalar.remsi arg1 c2_i32_6
  let v117 : Index := Scalar.indexCast v16
  let c2 : Index := 2#32
  let c0_81 : Index := 0#32
  let c0_82 : Index := 0#32
  ![v117.toNat, 2, 0, 0]
def k0_off25 (i : grid0.Coords) : Fin 2 → Nat :=
  let arg1 : BitVec 32 := BitVec.ofNat 32 (i 1).val
  let c512_i32_75 : BitVec 32 := 512#32
  let v99 : BitVec 32 := Scalar.muli arg1 c512_i32_75
  let v100 : BitVec 32 := v99
  let v121 : Index := Scalar.indexCast v100
  let c512 : Index := 512#32
  ![v121.toNat, 512]
def k0_off26 (i : grid0.Coords) : Fin 4 → Nat :=
  let arg1 : BitVec 32 := BitVec.ofNat 32 (i 1).val
  let c2_i32_6 : BitVec 32 := 2#32
  let v16 : BitVec 32 := Scalar.remsi arg1 c2_i32_6
  let v125 : Index := Scalar.indexCast v16
  let c3 : Index := 3#32
  let c0_83 : Index := 0#32
  let c0_84 : Index := 0#32
  ![v125.toNat, 3, 0, 0]
def k0_off27 (i : grid0.Coords) : Fin 2 → Nat :=
  let arg1 : BitVec 32 := BitVec.ofNat 32 (i 1).val
  let c512_i32_75 : BitVec 32 := 512#32
  let v99 : BitVec 32 := Scalar.muli arg1 c512_i32_75
  let v100 : BitVec 32 := v99
  let v129 : Index := Scalar.indexCast v100
  let c768 : Index := 768#32
  ![v129.toNat, 768]
def k0_cond4 (i : grid0.Coords) : BitVec 1 :=
  let arg0 : BitVec 32 := BitVec.ofNat 32 (i 0).val
  let c2_i32_3 : BitVec 32 := 2#32
  let v9 : BitVec 32 := Scalar.remsi arg0 c2_i32_3
  let c1_i32 : BitVec 32 := 1#32
  let v10 : BitVec 1 := Scalar.cmpi .eq v9 c1_i32
  let v11 : BitVec 32 := Scalar.extui v10
  let c0_i32_4 : BitVec 32 := 0#32
  let v12 : BitVec 1 := Scalar.cmpi .ne v11 c0_i32_4
  v12

def k0_off28 (i : grid0.Coords) : Fin 2 → Nat :=
  let arg1 : BitVec 32 := BitVec.ofNat 32 (i 1).val
  let c2_i32_6 : BitVec 32 := 2#32
  let v16 : BitVec 32 := Scalar.remsi arg1 c2_i32_6
  let c0_i32_20 : BitVec 32 := 0#32
  ![v16.toNat, 0]
def k0_off29 (i : grid0.Coords) : Fin 4 → Nat :=
  let arg1 : BitVec 32 := BitVec.ofNat 32 (i 1).val
  let c2_i32_6 : BitVec 32 := 2#32
  let v16 : BitVec 32 := Scalar.remsi arg1 c2_i32_6
  let c0_i32_19 : BitVec 32 := 0#32
  let c0_i32_21 : BitVec 32 := 0#32
  let c0_i32_22 : BitVec 32 := 0#32
  ![v16.toNat, 0, 0, 0]
def k0_off30 (i : grid0.Coords) (c0_i32_10 : BitVec 32) : Fin 3 → Nat :=
  let c0_i32_18 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_7 : BitVec 32 := 8#32
  let v17 : BitVec 32 := Scalar.addi v1 c8_i32_7
  let c8_i32_9 : BitVec 32 := 8#32
  let v20 : BitVec 32 := Scalar.remsi v17 c8_i32_9
  let c512_i32 : BitVec 32 := 512#32
  let v21 : BitVec 32 := Scalar.muli v20 c512_i32
  let c8_i32_8 : BitVec 32 := 8#32
  let v18 : BitVec 32 := Scalar.divsi v17 c8_i32_8
  let c16_i32 : BitVec 32 := 16#32
  let v19 : BitVec 32 := Scalar.remsi v18 c16_i32
  let v22 : BitVec 32 := Scalar.addi c0_i32_10 v19
  let c256_i32 : BitVec 32 := 256#32
  let v23 : BitVec 32 := Scalar.muli v22 c256_i32
  ![0, v21.toNat, v23.toNat]
def k0_off31 (i : grid0.Coords) : Fin 2 → Nat :=
  let arg1 : BitVec 32 := BitVec.ofNat 32 (i 1).val
  let c2_i32_6 : BitVec 32 := 2#32
  let v16 : BitVec 32 := Scalar.remsi arg1 c2_i32_6
  let c1_i32_25 : BitVec 32 := 1#32
  ![v16.toNat, 1]
def k0_off32 (i : grid0.Coords) : Fin 4 → Nat :=
  let arg1 : BitVec 32 := BitVec.ofNat 32 (i 1).val
  let c2_i32_6 : BitVec 32 := 2#32
  let v16 : BitVec 32 := Scalar.remsi arg1 c2_i32_6
  let c1_i32_24 : BitVec 32 := 1#32
  let c0_i32_26 : BitVec 32 := 0#32
  let c0_i32_27 : BitVec 32 := 0#32
  ![v16.toNat, 1, 0, 0]
def k0_off33 (i : grid0.Coords) : Fin 2 → Nat :=
  let arg1 : BitVec 32 := BitVec.ofNat 32 (i 1).val
  let c2_i32_6 : BitVec 32 := 2#32
  let v16 : BitVec 32 := Scalar.remsi arg1 c2_i32_6
  let c2_i32_30 : BitVec 32 := 2#32
  ![v16.toNat, 2]
def k0_off34 (i : grid0.Coords) : Fin 4 → Nat :=
  let arg1 : BitVec 32 := BitVec.ofNat 32 (i 1).val
  let c2_i32_6 : BitVec 32 := 2#32
  let v16 : BitVec 32 := Scalar.remsi arg1 c2_i32_6
  let c2_i32_29 : BitVec 32 := 2#32
  let c0_i32_31 : BitVec 32 := 0#32
  let c0_i32_32 : BitVec 32 := 0#32
  ![v16.toNat, 2, 0, 0]
def k0_off35 (i : grid0.Coords) : Fin 2 → Nat :=
  let arg1 : BitVec 32 := BitVec.ofNat 32 (i 1).val
  let c2_i32_6 : BitVec 32 := 2#32
  let v16 : BitVec 32 := Scalar.remsi arg1 c2_i32_6
  let c3_i32_34 : BitVec 32 := 3#32
  ![v16.toNat, 3]
def k0_off36 (i : grid0.Coords) : Fin 4 → Nat :=
  let arg1 : BitVec 32 := BitVec.ofNat 32 (i 1).val
  let c2_i32_6 : BitVec 32 := 2#32
  let v16 : BitVec 32 := Scalar.remsi arg1 c2_i32_6
  let c3_i32 : BitVec 32 := 3#32
  let c0_i32_35 : BitVec 32 := 0#32
  let c0_i32_36 : BitVec 32 := 0#32
  ![v16.toNat, 3, 0, 0]
def k0_off37 (i : grid0.Coords) : Fin 2 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c0_i32_57 : BitVec 32 := 0#32
  ![v59.toNat, 0]
def k0_off38 (i : grid0.Coords) : Fin 4 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c0_i32_56 : BitVec 32 := 0#32
  let c0_i32_58 : BitVec 32 := 0#32
  let c0_i32_59 : BitVec 32 := 0#32
  ![v59.toNat, 0, 0, 0]
def k0_off39 (i : grid0.Coords) (c0_i32_44 : BitVec 32) : Fin 3 → Nat :=
  let c0_i32_55 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_37 : BitVec 32 := 8#32
  let v57 : BitVec 32 := Scalar.addi v1 c8_i32_37
  let c1_i32_38 : BitVec 32 := 1#32
  let v58 : BitVec 32 := Scalar.addi v57 c1_i32_38
  let c8_i32_42 : BitVec 32 := 8#32
  let v62 : BitVec 32 := Scalar.remsi v58 c8_i32_42
  let c512_i32_43 : BitVec 32 := 512#32
  let v63 : BitVec 32 := Scalar.muli v62 c512_i32_43
  let c8_i32_40 : BitVec 32 := 8#32
  let v60 : BitVec 32 := Scalar.divsi v58 c8_i32_40
  let c16_i32_41 : BitVec 32 := 16#32
  let v61 : BitVec 32 := Scalar.remsi v60 c16_i32_41
  let v64 : BitVec 32 := Scalar.addi c0_i32_44 v61
  let c256_i32_45 : BitVec 32 := 256#32
  let v65 : BitVec 32 := Scalar.muli v64 c256_i32_45
  ![0, v63.toNat, v65.toNat]
def k0_off40 (i : grid0.Coords) : Fin 2 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c1_i32_62 : BitVec 32 := 1#32
  ![v59.toNat, 1]
def k0_off41 (i : grid0.Coords) : Fin 4 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c1_i32_61 : BitVec 32 := 1#32
  let c0_i32_63 : BitVec 32 := 0#32
  let c0_i32_64 : BitVec 32 := 0#32
  ![v59.toNat, 1, 0, 0]
def k0_off42 (i : grid0.Coords) : Fin 2 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c2_i32_67 : BitVec 32 := 2#32
  ![v59.toNat, 2]
def k0_off43 (i : grid0.Coords) : Fin 4 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c2_i32_66 : BitVec 32 := 2#32
  let c0_i32_68 : BitVec 32 := 0#32
  let c0_i32_69 : BitVec 32 := 0#32
  ![v59.toNat, 2, 0, 0]
def k0_off44 (i : grid0.Coords) : Fin 2 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c3_i32_72 : BitVec 32 := 3#32
  ![v59.toNat, 3]
def k0_off45 (i : grid0.Coords) : Fin 4 → Nat :=
  let c1_i32_39 : BitVec 32 := 1#32
  let arg1 : BitVec 32 := BitVec.ofNat 32 (i 1).val
  let c2_i32_6 : BitVec 32 := 2#32
  let v16 : BitVec 32 := Scalar.remsi arg1 c2_i32_6
  let v59 : BitVec 32 := Scalar.subi c1_i32_39 v16
  let c3_i32_71 : BitVec 32 := 3#32
  let c0_i32_73 : BitVec 32 := 0#32
  let c0_i32_74 : BitVec 32 := 0#32
  ![v59.toNat, 3, 0, 0]
def k0_mult10 (i : grid0.Coords) : BitVec 32 :=
  let arg1 : BitVec 32 := BitVec.ofNat 32 (i 1).val
  let c512_i32_75 : BitVec 32 := 512#32
  let v99 : BitVec 32 := Scalar.muli arg1 c512_i32_75
  v99
def k0_off46 (i : grid0.Coords) : Fin 4 → Nat :=
  let arg1 : BitVec 32 := BitVec.ofNat 32 (i 1).val
  let c2_i32_6 : BitVec 32 := 2#32
  let v16 : BitVec 32 := Scalar.remsi arg1 c2_i32_6
  let v101 : Index := Scalar.indexCast v16
  let c0 : Index := 0#32
  let c0_76 : Index := 0#32
  let c0_77 : Index := 0#32
  ![v101.toNat, 0, 0, 0]
def k0_off47 (i : grid0.Coords) : Fin 2 → Nat :=
  let arg1 : BitVec 32 := BitVec.ofNat 32 (i 1).val
  let c512_i32_75 : BitVec 32 := 512#32
  let v99 : BitVec 32 := Scalar.muli arg1 c512_i32_75
  let v100 : BitVec 32 := v99
  let v105 : Index := Scalar.indexCast v100
  let c0_78 : Index := 0#32
  ![v105.toNat, 0]
def k0_off48 (i : grid0.Coords) : Fin 4 → Nat :=
  let arg1 : BitVec 32 := BitVec.ofNat 32 (i 1).val
  let c2_i32_6 : BitVec 32 := 2#32
  let v16 : BitVec 32 := Scalar.remsi arg1 c2_i32_6
  let v109 : Index := Scalar.indexCast v16
  let c1 : Index := 1#32
  let c0_79 : Index := 0#32
  let c0_80 : Index := 0#32
  ![v109.toNat, 1, 0, 0]
def k0_off49 (i : grid0.Coords) : Fin 2 → Nat :=
  let arg1 : BitVec 32 := BitVec.ofNat 32 (i 1).val
  let c512_i32_75 : BitVec 32 := 512#32
  let v99 : BitVec 32 := Scalar.muli arg1 c512_i32_75
  let v100 : BitVec 32 := v99
  let v113 : Index := Scalar.indexCast v100
  let c256 : Index := 256#32
  ![v113.toNat, 256]
def k0_off50 (i : grid0.Coords) : Fin 4 → Nat :=
  let arg1 : BitVec 32 := BitVec.ofNat 32 (i 1).val
  let c2_i32_6 : BitVec 32 := 2#32
  let v16 : BitVec 32 := Scalar.remsi arg1 c2_i32_6
  let v117 : Index := Scalar.indexCast v16
  let c2 : Index := 2#32
  let c0_81 : Index := 0#32
  let c0_82 : Index := 0#32
  ![v117.toNat, 2, 0, 0]
def k0_off51 (i : grid0.Coords) : Fin 2 → Nat :=
  let arg1 : BitVec 32 := BitVec.ofNat 32 (i 1).val
  let c512_i32_75 : BitVec 32 := 512#32
  let v99 : BitVec 32 := Scalar.muli arg1 c512_i32_75
  let v100 : BitVec 32 := v99
  let v121 : Index := Scalar.indexCast v100
  let c512 : Index := 512#32
  ![v121.toNat, 512]
def k0_off52 (i : grid0.Coords) : Fin 4 → Nat :=
  let arg1 : BitVec 32 := BitVec.ofNat 32 (i 1).val
  let c2_i32_6 : BitVec 32 := 2#32
  let v16 : BitVec 32 := Scalar.remsi arg1 c2_i32_6
  let v125 : Index := Scalar.indexCast v16
  let c3 : Index := 3#32
  let c0_83 : Index := 0#32
  let c0_84 : Index := 0#32
  ![v125.toNat, 3, 0, 0]
def k0_off53 (i : grid0.Coords) : Fin 2 → Nat :=
  let arg1 : BitVec 32 := BitVec.ofNat 32 (i 1).val
  let c512_i32_75 : BitVec 32 := 512#32
  let v99 : BitVec 32 := Scalar.muli arg1 c512_i32_75
  let v100 : BitVec 32 := v99
  let v129 : Index := Scalar.indexCast v100
  let c768 : Index := 768#32
  ![v129.toNat, 768]
def k0_cond6 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c127_i32 : BitVec 32 := 127#32
  let v13 : BitVec 1 := Scalar.cmpi .eq v1 c127_i32
  let v14 : BitVec 32 := Scalar.extui v13
  let c0_i32_5 : BitVec 32 := 0#32
  let v15 : BitVec 1 := Scalar.cmpi .ne v14 c0_i32_5
  v15

def k0_off54 (i : grid0.Coords) : Fin 2 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c0_i32_22 : BitVec 32 := 0#32
  ![v19.toNat, 0]
def k0_off55 (i : grid0.Coords) : Fin 4 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c0_i32_21 : BitVec 32 := 0#32
  let c0_i32_23 : BitVec 32 := 0#32
  let c0_i32_24 : BitVec 32 := 0#32
  ![v19.toNat, 0, 0, 0]
def k0_off56 (i : grid0.Coords) (c0_i32_12 : BitVec 32) : Fin 3 → Nat :=
  let c0_i32_20 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_6 : BitVec 32 := 8#32
  let v16 : BitVec 32 := Scalar.addi v1 c8_i32_6
  let c1_i32_7 : BitVec 32 := 1#32
  let v17 : BitVec 32 := Scalar.addi v16 c1_i32_7
  let c8_i32_11 : BitVec 32 := 8#32
  let v22 : BitVec 32 := Scalar.remsi v17 c8_i32_11
  let c512_i32 : BitVec 32 := 512#32
  let v23 : BitVec 32 := Scalar.muli v22 c512_i32
  let c8_i32_10 : BitVec 32 := 8#32
  let v20 : BitVec 32 := Scalar.divsi v17 c8_i32_10
  let c16_i32 : BitVec 32 := 16#32
  let v21 : BitVec 32 := Scalar.remsi v20 c16_i32
  let v24 : BitVec 32 := Scalar.addi c0_i32_12 v21
  let c256_i32 : BitVec 32 := 256#32
  let v25 : BitVec 32 := Scalar.muli v24 c256_i32
  ![0, v23.toNat, v25.toNat]
def k0_off57 (i : grid0.Coords) : Fin 2 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c1_i32_27 : BitVec 32 := 1#32
  ![v19.toNat, 1]
def k0_off58 (i : grid0.Coords) : Fin 4 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c1_i32_26 : BitVec 32 := 1#32
  let c0_i32_28 : BitVec 32 := 0#32
  let c0_i32_29 : BitVec 32 := 0#32
  ![v19.toNat, 1, 0, 0]
def k0_off59 (i : grid0.Coords) : Fin 2 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c2_i32_32 : BitVec 32 := 2#32
  ![v19.toNat, 2]
def k0_off60 (i : grid0.Coords) : Fin 4 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c2_i32_31 : BitVec 32 := 2#32
  let c0_i32_33 : BitVec 32 := 0#32
  let c0_i32_34 : BitVec 32 := 0#32
  ![v19.toNat, 2, 0, 0]
def k0_off61 (i : grid0.Coords) : Fin 2 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c3_i32_36 : BitVec 32 := 3#32
  ![v19.toNat, 3]
def k0_off62 (i : grid0.Coords) : Fin 4 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c3_i32 : BitVec 32 := 3#32
  let c0_i32_37 : BitVec 32 := 0#32
  let c0_i32_38 : BitVec 32 := 0#32
  ![v19.toNat, 3, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x4096 : Shape := ⟨2, ![8192, 4096]⟩
abbrev S1x4096x16384 : Shape := ⟨3, ![1, 4096, 16384]⟩
abbrev S1x3x4096 : Shape := ⟨3, ![1, 3, 4096]⟩
abbrev S2x4096x4096 : Shape := ⟨3, ![2, 4096, 4096]⟩
abbrev S4096x16384 : Shape := ⟨2, ![4096, 16384]⟩
abbrev S2x4096x16384 : Shape := ⟨3, ![2, 4096, 16384]⟩
abbrev S3x4096 : Shape := ⟨2, ![3, 4096]⟩
abbrev S_ : Shape := ⟨0, ![]⟩
abbrev S2x4098x4096 : Shape := ⟨3, ![2, 4098, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x16384, .f32⟩
  | .hbm, ⟨2, _⟩ => ⟨S1x3x4096, .f32⟩
  | .hbm, ⟨3, _⟩ => ⟨S8192x4096, .f32⟩
  | .hbm, ⟨4, _⟩ => ⟨S2x4096x4096, .f32⟩
  | .hbm, ⟨5, _⟩ => ⟨S4096x16384, .f32⟩
  | .hbm, ⟨6, _⟩ => ⟨S2x4096x16384, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S3x4096, .f32⟩
  | .hbm, ⟨13, _⟩ => ⟨S_, .i32⟩
  | .hbm, ⟨14, _⟩ => ⟨S_, .f32⟩
  | .hbm, ⟨15, _⟩ => ⟨S2x4098x4096, .f32⟩
  | .hbm, ⟨16, _⟩ => ⟨S2x4096x4096, .f32⟩
  | .hbm, ⟨17, _⟩ => ⟨S1x4096, .f32⟩
  | .hbm, ⟨18, _⟩ => ⟨S4096, .f32⟩
  | .hbm, ⟨19, _⟩ => ⟨S1x1x4096, .f32⟩
  | .hbm, ⟨20, _⟩ => ⟨S2x4096x4096, .f32⟩
  | .hbm, ⟨21, _⟩ => ⟨S2x4096x4096, .f32⟩
  | .hbm, ⟨22, _⟩ => ⟨S_, .f32⟩
  | .hbm, ⟨23, _⟩ => ⟨S2x4096x4096, .f32⟩
  | .hbm, ⟨24, _⟩ => ⟨S2x4096x4096, .f32⟩
  | .hbm, ⟨25, _⟩ => ⟨S2x4096x4096, .f32⟩
  | .hbm, ⟨26, _⟩ => ⟨S1x4096, .f32⟩
  | .hbm, ⟨27, _⟩ => ⟨S4096, .f32⟩
  | .hbm, ⟨28, _⟩ => ⟨S1x1x4096, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S2x4096x4096, .f32⟩
  | .hbm, ⟨33, _⟩ => ⟨S1x4096, .f32⟩
  | .hbm, ⟨34, _⟩ => ⟨S4096, .f32⟩
  | .hbm, ⟨35, _⟩ => ⟨S1x1x4096, .f32⟩
  | .hbm, ⟨36, _⟩ => ⟨S2x4096x4096, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S2x4096x4096, .f32⟩
  | .hbm, ⟨41, _⟩ => ⟨S2x4096x4096, .f32⟩
  | .hbm, ⟨42, _⟩ => ⟨S_, .f32⟩
  | .hbm, ⟨43, _⟩ => ⟨S2x4096x4096, .f32⟩
  | .hbm, ⟨44, _⟩ => ⟨S2x4096x4096, .f32⟩
  | .hbm, ⟨45, _⟩ => ⟨S_, .f32⟩
  | .hbm, ⟨46, _⟩ => ⟨S2x4096x4096, .f32⟩
  | .hbm, ⟨47, _⟩ => ⟨S2x4096x4096, .f32⟩
  | .hbm, ⟨48, _⟩ => ⟨S2x4096x4096, .f32⟩
  | .hbm, ⟨49, _⟩ => ⟨S2x4096x4096, .f32⟩
  | .hbm, ⟨50, _⟩ => ⟨S2x4096x4096, .bf16⟩
  | .hbm, ⟨51, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel2.lean ====
abbrev S8192x4096 : Shape := ⟨2, ![8192, 4096]⟩
abbrev S1x4096x12320 : Shape := ⟨3, ![1, 4096, 12320]⟩
abbrev S1x12320x4096 : Shape := ⟨3, ![1, 12320, 4096]⟩
abbrev S8192x12288 : Shape := ⟨2, ![8192, 12288]⟩
abbrev S1024x4096 : Shape := ⟨2, ![1024, 4096]⟩
abbrev S1024x1024 : Shape := ⟨2, ![1024, 1024]⟩
abbrev S2x1x128x4096 : Shape := ⟨4, ![2, 1, 128, 4096]⟩
abbrev S2x1 : Shape := ⟨2, ![2, 1]⟩
abbrev S1x1 : Shape := ⟨2, ![1, 1]⟩
abbrev S_ : Shape := ⟨0, ![]⟩
abbrev S1x1x128x4096 : Shape := ⟨4, ![1, 1, 128, 4096]⟩
abbrev S128x4096 : Shape := ⟨2, ![128, 4096]⟩
abbrev S1x128x4096 : Shape := ⟨3, ![1, 128, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x12320, .f32⟩
  | .hbm, ⟨2, _⟩ => ⟨S1x12320x4096, .f32⟩
  | .hbm, ⟨3, _⟩ => ⟨S8192x12288, .f32⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .f32⟩
  | .local _ .vmem, ⟨4, _⟩ => ⟨S1024x4096, .bf16⟩
  | .local _ .vmem, ⟨5, _⟩ => ⟨S1024x4096, .bf16⟩
  | .local _ .vmem, ⟨6, _⟩ => ⟨S2x1x128x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 (c0_i32_6 : BitVec 32) (c0_i32_8 : BitVec 32) : Fin 3 → Nat :=
  let c0_i32_10 : BitVec 32 := 0#32
  let c8_i32_7 : BitVec 32 := 8#32
  let v16 : BitVec 32 := Scalar.divsi c0_i32_6 c8_i32_7
  let c12_i32 : BitVec 32 := 12#32
  let v17 : BitVec 32 := Scalar.remsi v16 c12_i32
  let c1024_i32 : BitVec 32 := 1024#32
  let v19 : BitVec 32 := Scalar.muli v17 c1024_i32
  let c8_i32_9 : BitVec 32 := 8#32
  let v18 : BitVec 32 := Scalar.remsi c0_i32_8 c8_i32_9
  let c128_i32 : BitVec 32 := 128#32
  let v20 : BitVec 32 := Scalar.muli v18 c128_i32
  let v21 : BitVec 32 := Scalar.addi v19 v20
  let c0_i32_17 : BitVec 32 := 0#32
  ![0, v21.toNat, 0]
def k0_off1_at (r : Fin 9) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        if r.val < 8 then
          (7#32, 7#32)
        else
          (8#32, 8#32)
def k0_mult1 : BitVec 32 :=
  let c0_i32_48 : BitVec 32 := 0#32
  c0_i32_48
def k0_mult2 : BitVec 32 :=
  let c128_i32_83 : BitVec 32 := 128#32
  c128_i32_83
def k0_mult3 : BitVec 32 :=
  let c256_i32 : BitVec 32 := 256#32
  c256_i32
def k0_mult4 : BitVec 32 :=
  let c384_i32 : BitVec 32 := 384#32
  c384_i32
def k0_mult5 : BitVec 32 :=
  let c512_i32 : BitVec 32 := 512#32
  c512_i32
def k0_mult6 : BitVec 32 :=
  let c640_i32 : BitVec 32 := 640#32
  c640_i32
def k0_mult7 : BitVec 32 :=
  let c768_i32 : BitVec 32 := 768#32
  c768_i32
def k0_mult8 : BitVec 32 :=
  let c896_i32 : BitVec 32 := 896#32
  c896_i32
def k0_cond2 (i : grid0.Coords) : BitVec 1 :=
  let arg0 : BitVec 32 := BitVec.ofNat 32 (i 0).val
  let c2_i32 : BitVec 32 := 2#32
  let v5 : BitVec 32 := Scalar.remsi arg0 c2_i32
  let c0_i32_1 : BitVec 32 := 0#32
  let v6 : BitVec 1 := Scalar.cmpi .eq v5 c0_i32_1
  let v7 : BitVec 32 := Scalar.extui v6
  let c0_i32_2 : BitVec 32 := 0#32
  let v8 : BitVec 1 := Scalar.cmpi .ne v7 c0_i32_2
  v8

def k0_off2 (i : grid0.Coords) : Fin 2 → Nat :=
  let arg1 : BitVec 32 := BitVec.ofNat 32 (i 1).val
  let c2_i32_6 : BitVec 32 := 2#32
  let v16 : BitVec 32 := Scalar.remsi arg1 c2_i32_6
  let c0_i32_12 : BitVec 32 := 0#32
  ![v16.toNat, 0]
def k0_off3 (i : grid0.Coords) : Fin 4 → Nat :=
  let arg1 : BitVec 32 := BitVec.ofNat 32 (i 1).val
  let c2_i32_6 : BitVec 32 := 2#32
  let v16 : BitVec 32 := Scalar.remsi arg1 c2_i32_6
  let c0_i32_11 : BitVec 32 := 0#32
  let c0_i32_13 : BitVec 32 := 0#32
  let c0_i32_14 : BitVec 32 := 0#32
  ![v16.toNat, 0, 0, 0]
def k0_off4 (i : grid0.Coords) : Fin 3 → Nat :=
  let c0_i32_10 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_7 : BitVec 32 := 8#32
  let v17 : BitVec 32 := Scalar.addi v1 c8_i32_7
  let c8_i32_8 : BitVec 32 := 8#32
  let v18 : BitVec 32 := Scalar.divsi v17 c8_i32_8
  let c12_i32 : BitVec 32 := 12#32
  let v19 : BitVec 32 := Scalar.remsi v18 c12_i32
  let c1024_i32 : BitVec 32 := 1024#32
  let v21 : BitVec 32 := Scalar.muli v19 c1024_i32
  let c8_i32_9 : BitVec 32 := 8#32
  let v20 : BitVec 32 := Scalar.remsi v17 c8_i32_9
  let c128_i32 : BitVec 32 := 128#32
  let v22 : BitVec 32 := Scalar.muli v20 c128_i32
  let v23 : BitVec 32 := Scalar.addi v21 v22
  let c0_i32_15 : BitVec 32 := 0#32
  ![0, v23.toNat, 0]
def k0_off5 (i : grid0.Coords) : Fin 2 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_26 : BitVec 32 := 0#32
  ![v32.toNat, 0]
def k0_off6 (i : grid0.Coords) : Fin 4 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_25 : BitVec 32 := 0#32
  let c0_i32_27 : BitVec 32 := 0#32
  let c0_i32_28 : BitVec 32 := 0#32
  ![v32.toNat, 0, 0, 0]
def k0_off7 (i : grid0.Coords) : Fin 3 → Nat :=
  let c0_i32_24 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_16 : BitVec 32 := 8#32
  let v30 : BitVec 32 := Scalar.addi v1 c8_i32_16
  let c1_i32_17 : BitVec 32 := 1#32
  let v31 : BitVec 32 := Scalar.addi v30 c1_i32_17
  let c8_i32_19 : BitVec 32 := 8#32
  let v33 : BitVec 32 := Scalar.divsi v31 c8_i32_19
  let c12_i32_20 : BitVec 32 := 12#32
  let v34 : BitVec 32 := Scalar.remsi v33 c12_i32_20
  let c1024_i32_22 : BitVec 32 := 1024#32
  let v36 : BitVec 32 := Scalar.muli v34 c1024_i32_22
  let c8_i32_21 : BitVec 32 := 8#32
  let v35 : BitVec 32 := Scalar.remsi v31 c8_i32_21
  let c128_i32_23 : BitVec 32 := 128#32
  let v37 : BitVec 32 := Scalar.muli v35 c128_i32_23
  let v38 : BitVec 32 := Scalar.addi v36 v37
  let c0_i32_29 : BitVec 32 := 0#32
  ![0, v38.toNat, 0]
def k0_mult9 (i : grid0.Coords) : BitVec 32 :=
  let arg1 : BitVec 32 := BitVec.ofNat 32 (i 1).val
  let c128_i32_30 : BitVec 32 := 128#32
  let v45 : BitVec 32 := Scalar.muli arg1 c128_i32_30
  v45
def k0_off8 (i : grid0.Coords) : Fin 4 → Nat :=
  let arg1 : BitVec 32 := BitVec.ofNat 32 (i 1).val
  let c2_i32_6 : BitVec 32 := 2#32
  let v16 : BitVec 32 := Scalar.remsi arg1 c2_i32_6
  let v47 : Index := Scalar.indexCast v16
  let c0 : Index := 0#32
  let c0_31 : Index := 0#32
  let c0_32 : Index := 0#32
  ![v47.toNat, 0, 0, 0]
def k0_off9 (i : grid0.Coords) : Fin 2 → Nat :=
  let arg1 : BitVec 32 := BitVec.ofNat 32 (i 1).val
  let c128_i32_30 : BitVec 32 := 128#32
  let v45 : BitVec 32 := Scalar.muli arg1 c128_i32_30
  let v46 : BitVec 32 := v45
  let v51 : Index := Scalar.indexCast v46
  let c0_33 : Index := 0#32
  ![v51.toNat, 0]
def k0_cond3 (i : grid0.Coords) : BitVec 1 :=
  let arg0 : BitVec 32 := BitVec.ofNat 32 (i 0).val
  let c2_i32_3 : BitVec 32 := 2#32
  let v9 : BitVec 32 := Scalar.remsi arg0 c2_i32_3
  let c1_i32 : BitVec 32 := 1#32
  let v10 : BitVec 1 := Scalar.cmpi .eq v9 c1_i32
  let v11 : BitVec 32 := Scalar.extui v10
  let c0_i32_4 : BitVec 32 := 0#32
  let v12 : BitVec 1 := Scalar.cmpi .ne v11 c0_i32_4
  v12

def k0_off10 (i : grid0.Coords) : Fin 2 → Nat :=
  let arg1 : BitVec 32 := BitVec.ofNat 32 (i 1).val
  let c2_i32_6 : BitVec 32 := 2#32
  let v16 : BitVec 32 := Scalar.remsi arg1 c2_i32_6
  let c0_i32_12 : BitVec 32 := 0#32
  ![v16.toNat, 0]
def k0_off11 (i : grid0.Coords) : Fin 4 → Nat :=
  let arg1 : BitVec 32 := BitVec.ofNat 32 (i 1).val
  let c2_i32_6 : BitVec 32 := 2#32
  let v16 : BitVec 32 := Scalar.remsi arg1 c2_i32_6
  let c0_i32_11 : BitVec 32 := 0#32
  let c0_i32_13 : BitVec 32 := 0#32
  let c0_i32_14 : BitVec 32 := 0#32
  ![v16.toNat, 0, 0, 0]
def k0_off12 (i : grid0.Coords) : Fin 3 → Nat :=
  let c0_i32_10 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_7 : BitVec 32 := 8#32
  let v17 : BitVec 32 := Scalar.addi v1 c8_i32_7
  let c8_i32_8 : BitVec 32 := 8#32
  let v18 : BitVec 32 := Scalar.divsi v17 c8_i32_8
  let c12_i32 : BitVec 32 := 12#32
  let v19 : BitVec 32 := Scalar.remsi v18 c12_i32
  let c1024_i32 : BitVec 32 := 1024#32
  let v21 : BitVec 32 := Scalar.muli v19 c1024_i32
  let c8_i32_9 : BitVec 32 := 8#32
  let v20 : BitVec 32 := Scalar.remsi v17 c8_i32_9
  let c128_i32 : BitVec 32 := 128#32
  let v22 : BitVec 32 := Scalar.muli v20 c128_i32
  let v23 : BitVec 32 := Scalar.addi v21 v22
  let c0_i32_15 : BitVec 32 := 0#32
  ![0, v23.toNat, 0]
def k0_off13 (i : grid0.Coords) : Fin 2 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_26 : BitVec 32 := 0#32
  ![v32.toNat, 0]
def k0_off14 (i : grid0.Coords) : Fin 4 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_25 : BitVec 32 := 0#32
  let c0_i32_27 : BitVec 32 := 0#32
  let c0_i32_28 : BitVec 32 := 0#32
  ![v32.toNat, 0, 0, 0]
def k0_off15 (i : grid0.Coords) : Fin 3 → Nat :=
  let c0_i32_24 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_16 : BitVec 32 := 8#32
  let v30 : BitVec 32 := Scalar.addi v1 c8_i32_16
  let c1_i32_17 : BitVec 32 := 1#32
  let v31 : BitVec 32 := Scalar.addi v30 c1_i32_17
  let c8_i32_19 : BitVec 32 := 8#32
  let v33 : BitVec 32 := Scalar.divsi v31 c8_i32_19
  let c12_i32_20 : BitVec 32 := 12#32
  let v34 : BitVec 32 := Scalar.remsi v33 c12_i32_20
  let c1024_i32_22 : BitVec 32 := 1024#32
  let v36 : BitVec 32 := Scalar.muli v34 c1024_i32_22
  let c8_i32_21 : BitVec 32 := 8#32
  let v35 : BitVec 32 := Scalar.remsi v31 c8_i32_21
  let c128_i32_23 : BitVec 32 := 128#32
  let v37 : BitVec 32 := Scalar.muli v35 c128_i32_23
  let v38 : BitVec 32 := Scalar.addi v36 v37
  let c0_i32_29 : BitVec 32 := 0#32
  ![0, v38.toNat, 0]
def k0_mult10 (i : grid0.Coords) : BitVec 32 :=
  let arg1 : BitVec 32 := BitVec.ofNat 32 (i 1).val
  let c128_i32_30 : BitVec 32 := 128#32
  let v45 : BitVec 32 := Scalar.muli arg1 c128_i32_30
  v45
def k0_off16 (i : grid0.Coords) : Fin 4 → Nat :=
  let arg1 : BitVec 32 := BitVec.ofNat 32 (i 1).val
  let c2_i32_6 : BitVec 32 := 2#32
  let v16 : BitVec 32 := Scalar.remsi arg1 c2_i32_6
  let v47 : Index := Scalar.indexCast v16
  let c0 : Index := 0#32
  let c0_31 : Index := 0#32
  let c0_32 : Index := 0#32
  ![v47.toNat, 0, 0, 0]
def k0_off17 (i : grid0.Coords) : Fin 2 → Nat :=
  let arg1 : BitVec 32 := BitVec.ofNat 32 (i 1).val
  let c128_i32_30 : BitVec 32 := 128#32
  let v45 : BitVec 32 := Scalar.muli arg1 c128_i32_30
  let v46 : BitVec 32 := v45
  let v51 : Index := Scalar.indexCast v46
  let c0_33 : Index := 0#32
  ![v51.toNat, 0]
def k0_cond4 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c95_i32 : BitVec 32 := 95#32
  let v13 : BitVec 1 := Scalar.cmpi .eq v1 c95_i32
  let v14 : BitVec 32 := Scalar.extui v13
  let c0_i32_5 : BitVec 32 := 0#32
  let v15 : BitVec 1 := Scalar.cmpi .ne v14 c0_i32_5
  v15

def k0_off18 (i : grid0.Coords) : Fin 2 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c0_i32_14 : BitVec 32 := 0#32
  ![v19.toNat, 0]
def k0_off19 (i : grid0.Coords) : Fin 4 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c0_i32_13 : BitVec 32 := 0#32
  let c0_i32_15 : BitVec 32 := 0#32
  let c0_i32_16 : BitVec 32 := 0#32
  ![v19.toNat, 0, 0, 0]
def k0_off20 (i : grid0.Coords) : Fin 3 → Nat :=
  let c0_i32_12 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_6 : BitVec 32 := 8#32
  let v16 : BitVec 32 := Scalar.addi v1 c8_i32_6
  let c1_i32_7 : BitVec 32 := 1#32
  let v17 : BitVec 32 := Scalar.addi v16 c1_i32_7
  let c8_i32_10 : BitVec 32 := 8#32
  let v20 : BitVec 32 := Scalar.divsi v17 c8_i32_10
  let c12_i32 : BitVec 32 := 12#32
  let v21 : BitVec 32 := Scalar.remsi v20 c12_i32
  let c1024_i32 : BitVec 32 := 1024#32
  let v23 : BitVec 32 := Scalar.muli v21 c1024_i32
  let c8_i32_11 : BitVec 32 := 8#32
  let v22 : BitVec 32 := Scalar.remsi v17 c8_i32_11
  let c128_i32 : BitVec 32 := 128#32
  let v24 : BitVec 32 := Scalar.muli v22 c128_i32
  let v25 : BitVec 32 := Scalar.addi v23 v24
  let c0_i32_17 : BitVec 32 := 0#32
  ![0, v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S8192x4096 : Shape := ⟨2, ![8192, 4096]⟩
abbrev S1x4096x12320 : Shape := ⟨3, ![1, 4096, 12320]⟩
abbrev S2x4096x4096 : Shape := ⟨3, ![2, 4096, 4096]⟩
abbrev S4096x12320 : Shape := ⟨2, ![4096, 12320]⟩
abbrev S2x4096x12320 : Shape := ⟨3, ![2, 4096, 12320]⟩
abbrev S2x4096x12288 : Shape := ⟨3, ![2, 4096, 12288]⟩
abbrev S8192x12288 : Shape := ⟨2, ![8192, 12288]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x12320, .f32⟩
  | .hbm, ⟨2, _⟩ => ⟨S8192x4096, .f32⟩
  | .hbm, ⟨3, _⟩ => ⟨S2x4096x4096, .f32⟩
  | .hbm, ⟨4, _⟩ => ⟨S4096x12320, .f32⟩
  | .hbm, ⟨5, _⟩ => ⟨S2x4096x12320, .f32⟩
  | .hbm, ⟨6, _⟩ => ⟨S2x4096x12288, .f32⟩
  | .hbm, ⟨7, _⟩ => ⟨S8192x12288, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S8192x4096 : Shape := ⟨2, ![8192, 4096]⟩
abbrev S1x4096x4096 : Shape := ⟨3, ![1, 4096, 4096]⟩
abbrev S1024x4096 : Shape := ⟨2, ![1024, 4096]⟩
abbrev S1024x1024 : Shape := ⟨2, ![1024, 1024]⟩
abbrev S4096x1024 : Shape := ⟨2, ![4096, 1024]⟩
abbrev S2x1x512x1024 : Shape := ⟨4, ![2, 1, 512, 1024]⟩
abbrev S2x1 : Shape := ⟨2, ![2, 1]⟩
abbrev S1x1 : Shape := ⟨2, ![1, 1]⟩
abbrev S_ : Shape := ⟨0, ![]⟩
abbrev S1x1x512x1024 : Shape := ⟨4, ![1, 1, 512, 1024]⟩
abbrev S512x1024 : Shape := ⟨2, ![512, 1024]⟩
abbrev S1x512x1024 : Shape := ⟨3, ![1, 512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S4096x1024, .bf16⟩
  | .local _ .vmem, ⟨7, _⟩ => ⟨S4096x1024, .bf16⟩
  | .local _ .vmem, ⟨8, _⟩ => ⟨S2x1x512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 (c0_i32_8 : BitVec 32) (c0_i32_6 : BitVec 32) : Fin 3 → Nat :=
  let c0_i32_11 : BitVec 32 := 0#32
  let c8_i32_9 : BitVec 32 := 8#32
  let v18 : BitVec 32 := Scalar.remsi c0_i32_8 c8_i32_9
  let c512_i32 : BitVec 32 := 512#32
  let v19 : BitVec 32 := Scalar.muli v18 c512_i32
  let c0_i32_10 : BitVec 32 := 0#32
  let c8_i32_7 : BitVec 32 := 8#32
  let v16 : BitVec 32 := Scalar.divsi c0_i32_6 c8_i32_7
  let c4_i32 : BitVec 32 := 4#32
  let v17 : BitVec 32 := Scalar.remsi v16 c4_i32
  let v20 : BitVec 32 := Scalar.addi c0_i32_10 v17
  let c1024_i32 : BitVec 32 := 1024#32
  let v21 : BitVec 32 := Scalar.muli v20 c1024_i32
  ![0, v19.toNat, v21.toNat]
def k0_off1_at (r : Fin 9) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        if r.val < 8 then
          (7#32, 7#32)
        else
          (8#32, 8#32)
def k0_mult1 : BitVec 32 :=
  let c0_i32_48 : BitVec 32 := 0#32
  c0_i32_48
def k0_mult2 : BitVec 32 :=
  let c512_i32_83 : BitVec 32 := 512#32
  c512_i32_83
def k0_mult3 : BitVec 32 :=
  let c1024_i32_117 : BitVec 32 := 1024#32
  c1024_i32_117
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
def k0_mult8 : BitVec 32 :=
  let c3584_i32 : BitVec 32 := 3584#32
  c3584_i32
def k0_cond2 (i : grid0.Coords) : BitVec 1 :=
  let arg0 : BitVec 32 := BitVec.ofNat 32 (i 0).val
  let c2_i32 : BitVec 32 := 2#32
  let v5 : BitVec 32 := Scalar.remsi arg0 c2_i32
  let c0_i32_1 : BitVec 32 := 0#32
  let v6 : BitVec 1 := Scalar.cmpi .eq v5 c0_i32_1
  let v7 : BitVec 32 := Scalar.extui v6
  let c0_i32_2 : BitVec 32 := 0#32
  let v8 : BitVec 1 := Scalar.cmpi .ne v7 c0_i32_2
  v8

def k0_off2 (i : grid0.Coords) : Fin 2 → Nat :=
  let arg1 : BitVec 32 := BitVec.ofNat 32 (i 1).val
  let c2_i32_6 : BitVec 32 := 2#32
  let v16 : BitVec 32 := Scalar.remsi arg1 c2_i32_6
  let c0_i32_13 : BitVec 32 := 0#32
  ![v16.toNat, 0]
def k0_off3 (i : grid0.Coords) : Fin 4 → Nat :=
  let arg1 : BitVec 32 := BitVec.ofNat 32 (i 1).val
  let c2_i32_6 : BitVec 32 := 2#32
  let v16 : BitVec 32 := Scalar.remsi arg1 c2_i32_6
  let c0_i32_12 : BitVec 32 := 0#32
  let c0_i32_14 : BitVec 32 := 0#32
  let c0_i32_15 : BitVec 32 := 0#32
  ![v16.toNat, 0, 0, 0]
def k0_off4 (i : grid0.Coords) : Fin 3 → Nat :=
  let c0_i32_11 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_7 : BitVec 32 := 8#32
  let v17 : BitVec 32 := Scalar.addi v1 c8_i32_7
  let c8_i32_9 : BitVec 32 := 8#32
  let v20 : BitVec 32 := Scalar.remsi v17 c8_i32_9
  let c512_i32 : BitVec 32 := 512#32
  let v21 : BitVec 32 := Scalar.muli v20 c512_i32
  let c0_i32_10 : BitVec 32 := 0#32
  let c8_i32_8 : BitVec 32 := 8#32
  let v18 : BitVec 32 := Scalar.divsi v17 c8_i32_8
  let c4_i32 : BitVec 32 := 4#32
  let v19 : BitVec 32 := Scalar.remsi v18 c4_i32
  let v22 : BitVec 32 := Scalar.addi c0_i32_10 v19
  let c1024_i32 : BitVec 32 := 1024#32
  let v23 : BitVec 32 := Scalar.muli v22 c1024_i32
  ![0, v21.toNat, v23.toNat]
def k0_off5 (i : grid0.Coords) : Fin 2 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_27 : BitVec 32 := 0#32
  ![v32.toNat, 0]
def k0_off6 (i : grid0.Coords) : Fin 4 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_26 : BitVec 32 := 0#32
  let c0_i32_28 : BitVec 32 := 0#32
  let c0_i32_29 : BitVec 32 := 0#32
  ![v32.toNat, 0, 0, 0]
def k0_off7 (i : grid0.Coords) : Fin 3 → Nat :=
  let c0_i32_25 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_16 : BitVec 32 := 8#32
  let v30 : BitVec 32 := Scalar.addi v1 c8_i32_16
  let c1_i32_17 : BitVec 32 := 1#32
  let v31 : BitVec 32 := Scalar.addi v30 c1_i32_17
  let c8_i32_21 : BitVec 32 := 8#32
  let v35 : BitVec 32 := Scalar.remsi v31 c8_i32_21
  let c512_i32_22 : BitVec 32 := 512#32
  let v36 : BitVec 32 := Scalar.muli v35 c512_i32_22
  let c0_i32_23 : BitVec 32 := 0#32
  let c8_i32_19 : BitVec 32 := 8#32
  let v33 : BitVec 32 := Scalar.divsi v31 c8_i32_19
  let c4_i32_20 : BitVec 32 := 4#32
  let v34 : BitVec 32 := Scalar.remsi v33 c4_i32_20
  let v37 : BitVec 32 := Scalar.addi c0_i32_23 v34
  let c1024_i32_24 : BitVec 32 := 1024#32
  let v38 : BitVec 32 := Scalar.muli v37 c1024_i32_24
  ![0, v36.toNat, v38.toNat]
def k0_mult9 (i : grid0.Coords) : BitVec 32 :=
  let arg1 : BitVec 32 := BitVec.ofNat 32 (i 1).val
  let c512_i32_30 : BitVec 32 := 512#32
  let v45 : BitVec 32 := Scalar.muli arg1 c512_i32_30
  v45
def k0_off8 (i : grid0.Coords) : Fin 4 → Nat :=
  let arg1 : BitVec 32 := BitVec.ofNat 32 (i 1).val
  let c2_i32_6 : BitVec 32 := 2#32
  let v16 : BitVec 32 := Scalar.remsi arg1 c2_i32_6
  let v47 : Index := Scalar.indexCast v16
  let c0 : Index := 0#32
  let c0_31 : Index := 0#32
  let c0_32 : Index := 0#32
  ![v47.toNat, 0, 0, 0]
def k0_off9 (i : grid0.Coords) : Fin 2 → Nat :=
  let arg1 : BitVec 32 := BitVec.ofNat 32 (i 1).val
  let c512_i32_30 : BitVec 32 := 512#32
  let v45 : BitVec 32 := Scalar.muli arg1 c512_i32_30
  let v46 : BitVec 32 := v45
  let v51 : Index := Scalar.indexCast v46
  let c0_33 : Index := 0#32
  ![v51.toNat, 0]
def k0_cond3 (i : grid0.Coords) : BitVec 1 :=
  let arg0 : BitVec 32 := BitVec.ofNat 32 (i 0).val
  let c2_i32_3 : BitVec 32 := 2#32
  let v9 : BitVec 32 := Scalar.remsi arg0 c2_i32_3
  let c1_i32 : BitVec 32 := 1#32
  let v10 : BitVec 1 := Scalar.cmpi .eq v9 c1_i32
  let v11 : BitVec 32 := Scalar.extui v10
  let c0_i32_4 : BitVec 32 := 0#32
  let v12 : BitVec 1 := Scalar.cmpi .ne v11 c0_i32_4
  v12

def k0_off10 (i : grid0.Coords) : Fin 2 → Nat :=
  let arg1 : BitVec 32 := BitVec.ofNat 32 (i 1).val
  let c2_i32_6 : BitVec 32 := 2#32
  let v16 : BitVec 32 := Scalar.remsi arg1 c2_i32_6
  let c0_i32_13 : BitVec 32 := 0#32
  ![v16.toNat, 0]
def k0_off11 (i : grid0.Coords) : Fin 4 → Nat :=
  let arg1 : BitVec 32 := BitVec.ofNat 32 (i 1).val
  let c2_i32_6 : BitVec 32 := 2#32
  let v16 : BitVec 32 := Scalar.remsi arg1 c2_i32_6
  let c0_i32_12 : BitVec 32 := 0#32
  let c0_i32_14 : BitVec 32 := 0#32
  let c0_i32_15 : BitVec 32 := 0#32
  ![v16.toNat, 0, 0, 0]
def k0_off12 (i : grid0.Coords) : Fin 3 → Nat :=
  let c0_i32_11 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_7 : BitVec 32 := 8#32
  let v17 : BitVec 32 := Scalar.addi v1 c8_i32_7
  let c8_i32_9 : BitVec 32 := 8#32
  let v20 : BitVec 32 := Scalar.remsi v17 c8_i32_9
  let c512_i32 : BitVec 32 := 512#32
  let v21 : BitVec 32 := Scalar.muli v20 c512_i32
  let c0_i32_10 : BitVec 32 := 0#32
  let c8_i32_8 : BitVec 32 := 8#32
  let v18 : BitVec 32 := Scalar.divsi v17 c8_i32_8
  let c4_i32 : BitVec 32 := 4#32
  let v19 : BitVec 32 := Scalar.remsi v18 c4_i32
  let v22 : BitVec 32 := Scalar.addi c0_i32_10 v19
  let c1024_i32 : BitVec 32 := 1024#32
  let v23 : BitVec 32 := Scalar.muli v22 c1024_i32
  ![0, v21.toNat, v23.toNat]
def k0_off13 (i : grid0.Coords) : Fin 2 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_27 : BitVec 32 := 0#32
  ![v32.toNat, 0]
def k0_off14 (i : grid0.Coords) : Fin 4 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_26 : BitVec 32 := 0#32
  let c0_i32_28 : BitVec 32 := 0#32
  let c0_i32_29 : BitVec 32 := 0#32
  ![v32.toNat, 0, 0, 0]
def k0_off15 (i : grid0.Coords) : Fin 3 → Nat :=
  let c0_i32_25 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_16 : BitVec 32 := 8#32
  let v30 : BitVec 32 := Scalar.addi v1 c8_i32_16
  let c1_i32_17 : BitVec 32 := 1#32
  let v31 : BitVec 32 := Scalar.addi v30 c1_i32_17
  let c8_i32_21 : BitVec 32 := 8#32
  let v35 : BitVec 32 := Scalar.remsi v31 c8_i32_21
  let c512_i32_22 : BitVec 32 := 512#32
  let v36 : BitVec 32 := Scalar.muli v35 c512_i32_22
  let c0_i32_23 : BitVec 32 := 0#32
  let c8_i32_19 : BitVec 32 := 8#32
  let v33 : BitVec 32 := Scalar.divsi v31 c8_i32_19
  let c4_i32_20 : BitVec 32 := 4#32
  let v34 : BitVec 32 := Scalar.remsi v33 c4_i32_20
  let v37 : BitVec 32 := Scalar.addi c0_i32_23 v34
  let c1024_i32_24 : BitVec 32 := 1024#32
  let v38 : BitVec 32 := Scalar.muli v37 c1024_i32_24
  ![0, v36.toNat, v38.toNat]
def k0_mult10 (i : grid0.Coords) : BitVec 32 :=
  let arg1 : BitVec 32 := BitVec.ofNat 32 (i 1).val
  let c512_i32_30 : BitVec 32 := 512#32
  let v45 : BitVec 32 := Scalar.muli arg1 c512_i32_30
  v45
def k0_off16 (i : grid0.Coords) : Fin 4 → Nat :=
  let arg1 : BitVec 32 := BitVec.ofNat 32 (i 1).val
  let c2_i32_6 : BitVec 32 := 2#32
  let v16 : BitVec 32 := Scalar.remsi arg1 c2_i32_6
  let v47 : Index := Scalar.indexCast v16
  let c0 : Index := 0#32
  let c0_31 : Index := 0#32
  let c0_32 : Index := 0#32
  ![v47.toNat, 0, 0, 0]
def k0_off17 (i : grid0.Coords) : Fin 2 → Nat :=
  let arg1 : BitVec 32 := BitVec.ofNat 32 (i 1).val
  let c512_i32_30 : BitVec 32 := 512#32
  let v45 : BitVec 32 := Scalar.muli arg1 c512_i32_30
  let v46 : BitVec 32 := v45
  let v51 : Index := Scalar.indexCast v46
  let c0_33 : Index := 0#32
  ![v51.toNat, 0]
def k0_cond4 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c31_i32 : BitVec 32 := 31#32
  let v13 : BitVec 1 := Scalar.cmpi .eq v1 c31_i32
  let v14 : BitVec 32 := Scalar.extui v13
  let c0_i32_5 : BitVec 32 := 0#32
  let v15 : BitVec 1 := Scalar.cmpi .ne v14 c0_i32_5
  v15

def k0_off18 (i : grid0.Coords) : Fin 2 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c0_i32_15 : BitVec 32 := 0#32
  ![v19.toNat, 0]
def k0_off19 (i : grid0.Coords) : Fin 4 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c0_i32_14 : BitVec 32 := 0#32
  let c0_i32_16 : BitVec 32 := 0#32
  let c0_i32_17 : BitVec 32 := 0#32
  ![v19.toNat, 0, 0, 0]
def k0_off20 (i : grid0.Coords) : Fin 3 → Nat :=
  let c0_i32_13 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_6 : BitVec 32 := 8#32
  let v16 : BitVec 32 := Scalar.addi v1 c8_i32_6
  let c1_i32_7 : BitVec 32 := 1#32
  let v17 : BitVec 32 := Scalar.addi v16 c1_i32_7
  let c8_i32_11 : BitVec 32 := 8#32
  let v22 : BitVec 32 := Scalar.remsi v17 c8_i32_11
  let c512_i32 : BitVec 32 := 512#32
  let v23 : BitVec 32 := Scalar.muli v22 c512_i32
  let c0_i32_12 : BitVec 32 := 0#32
  let c8_i32_10 : BitVec 32 := 8#32
  let v20 : BitVec 32 := Scalar.divsi v17 c8_i32_10
  let c4_i32 : BitVec 32 := 4#32
  let v21 : BitVec 32 := Scalar.remsi v20 c4_i32
  let v24 : BitVec 32 := Scalar.addi c0_i32_12 v21
  let c1024_i32 : BitVec 32 := 1024#32
  let v25 : BitVec 32 := Scalar.muli v24 c1024_i32
  ![0, v23.toNat, v25.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S1x4096x4096 : Shape := ⟨3, ![1, 4096, 4096]⟩
abbrev S2x4096x4096 : Shape := ⟨3, ![2, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S2x4096x4096, .f32⟩
  | .hbm, ⟨4, _⟩ => ⟨S8192x4096, .f32⟩
  | .hbm, ⟨5, _⟩ => ⟨S2x4096x4096, .f32⟩
  | .hbm, ⟨6, _⟩ => ⟨S4096x4096, .f32⟩
  | .hbm, ⟨7, _⟩ => ⟨S2x4096x4096, .f32⟩
  | .hbm, ⟨8, _⟩ => ⟨S2x4096x4096, .f32⟩
  | .hbm, ⟨9, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8192x4096 : Shape := ⟨2, ![8192, 4096]⟩
abbrev S4096 : Shape := ⟨1, ![4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S2x4096x4096, .f32⟩
  | .hbm, ⟨3, _⟩ => ⟨S2x4096x4096, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x4096, .f32⟩
  | .hbm, ⟨15, _⟩ => ⟨S2x4096x4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S8192x2048 : Shape := ⟨2, ![8192, 2048]⟩
abbrev S1x4096x4096 : Shape := ⟨3, ![1, 4096, 4096]⟩
abbrev S8192x4096 : Shape := ⟨2, ![8192, 4096]⟩
abbrev S1024x2048 : Shape := ⟨2, ![1024, 2048]⟩
abbrev S1024x1024 : Shape := ⟨2, ![1024, 1024]⟩
abbrev S4096x1024 : Shape := ⟨2, ![4096, 1024]⟩
abbrev S2x1x512x1024 : Shape := ⟨4, ![2, 1, 512, 1024]⟩
abbrev S2x1 : Shape := ⟨2, ![2, 1]⟩
abbrev S1x1 : Shape := ⟨2, ![1, 1]⟩
abbrev S_ : Shape := ⟨0, ![]⟩
abbrev S1x1x512x1024 : Shape := ⟨4, ![1, 1, 512, 1024]⟩
abbrev S512x1024 : Shape := ⟨2, ![512, 1024]⟩
abbrev S1x512x1024 : Shape := ⟨3, ![1, 512, 1024]⟩
abbrev S2048x1024 : Shape := ⟨2, ![2048, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S4096x1024, .bf16⟩
  | .local _ .vmem, ⟨9, _⟩ => ⟨S4096x1024, .bf16⟩
  | .local _ .vmem, ⟨10, _⟩ => ⟨S2x1x512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 (c0_i32_8 : BitVec 32) (c0_i32_6 : BitVec 32) : Fin 3 → Nat :=
  let c0_i32_11 : BitVec 32 := 0#32
  let c8_i32_9 : BitVec 32 := 8#32
  let v18 : BitVec 32 := Scalar.remsi c0_i32_8 c8_i32_9
  let c512_i32 : BitVec 32 := 512#32
  let v19 : BitVec 32 := Scalar.muli v18 c512_i32
  let c0_i32_10 : BitVec 32 := 0#32
  let c8_i32_7 : BitVec 32 := 8#32
  let v16 : BitVec 32 := Scalar.divsi c0_i32_6 c8_i32_7
  let c4_i32 : BitVec 32 := 4#32
  let v17 : BitVec 32 := Scalar.remsi v16 c4_i32
  let v20 : BitVec 32 := Scalar.addi c0_i32_10 v17
  let c1024_i32 : BitVec 32 := 1024#32
  let v21 : BitVec 32 := Scalar.muli v20 c1024_i32
  ![0, v19.toNat, v21.toNat]
def k0_off1_at (r : Fin 9) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        if r.val < 8 then
          (7#32, 7#32)
        else
          (8#32, 8#32)
def k0_mult1 : BitVec 32 :=
  let c0_i32_48 : BitVec 32 := 0#32
  c0_i32_48
def k0_mult2 : BitVec 32 :=
  let c512_i32_83 : BitVec 32 := 512#32
  c512_i32_83
def k0_mult3 : BitVec 32 :=
  let c1024_i32_117 : BitVec 32 := 1024#32
  c1024_i32_117
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
def k0_mult8 : BitVec 32 :=
  let c3584_i32 : BitVec 32 := 3584#32
  c3584_i32
def k0_cond2 (i : grid0.Coords) : BitVec 1 :=
  let arg0 : BitVec 32 := BitVec.ofNat 32 (i 0).val
  let c2_i32 : BitVec 32 := 2#32
  let v5 : BitVec 32 := Scalar.remsi arg0 c2_i32
  let c0_i32_1 : BitVec 32 := 0#32
  let v6 : BitVec 1 := Scalar.cmpi .eq v5 c0_i32_1
  let v7 : BitVec 32 := Scalar.extui v6
  let c0_i32_2 : BitVec 32 := 0#32
  let v8 : BitVec 1 := Scalar.cmpi .ne v7 c0_i32_2
  v8

def k0_off2 (i : grid0.Coords) : Fin 2 → Nat :=
  let arg1 : BitVec 32 := BitVec.ofNat 32 (i 1).val
  let c2_i32_6 : BitVec 32 := 2#32
  let v16 : BitVec 32 := Scalar.remsi arg1 c2_i32_6
  let c0_i32_13 : BitVec 32 := 0#32
  ![v16.toNat, 0]
def k0_off3 (i : grid0.Coords) : Fin 4 → Nat :=
  let arg1 : BitVec 32 := BitVec.ofNat 32 (i 1).val
  let c2_i32_6 : BitVec 32 := 2#32
  let v16 : BitVec 32 := Scalar.remsi arg1 c2_i32_6
  let c0_i32_12 : BitVec 32 := 0#32
  let c0_i32_14 : BitVec 32 := 0#32
  let c0_i32_15 : BitVec 32 := 0#32
  ![v16.toNat, 0, 0, 0]
def k0_off4 (i : grid0.Coords) : Fin 3 → Nat :=
  let c0_i32_11 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_7 : BitVec 32 := 8#32
  let v17 : BitVec 32 := Scalar.addi v1 c8_i32_7
  let c8_i32_9 : BitVec 32 := 8#32
  let v20 : BitVec 32 := Scalar.remsi v17 c8_i32_9
  let c512_i32 : BitVec 32 := 512#32
  let v21 : BitVec 32 := Scalar.muli v20 c512_i32
  let c0_i32_10 : BitVec 32 := 0#32
  let c8_i32_8 : BitVec 32 := 8#32
  let v18 : BitVec 32 := Scalar.divsi v17 c8_i32_8
  let c4_i32 : BitVec 32 := 4#32
  let v19 : BitVec 32 := Scalar.remsi v18 c4_i32
  let v22 : BitVec 32 := Scalar.addi c0_i32_10 v19
  let c1024_i32 : BitVec 32 := 1024#32
  let v23 : BitVec 32 := Scalar.muli v22 c1024_i32
  ![0, v21.toNat, v23.toNat]
def k0_off5 (i : grid0.Coords) : Fin 2 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_27 : BitVec 32 := 0#32
  ![v32.toNat, 0]
def k0_off6 (i : grid0.Coords) : Fin 4 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_26 : BitVec 32 := 0#32
  let c0_i32_28 : BitVec 32 := 0#32
  let c0_i32_29 : BitVec 32 := 0#32
  ![v32.toNat, 0, 0, 0]
def k0_off7 (i : grid0.Coords) : Fin 3 → Nat :=
  let c0_i32_25 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_16 : BitVec 32 := 8#32
  let v30 : BitVec 32 := Scalar.addi v1 c8_i32_16
  let c1_i32_17 : BitVec 32 := 1#32
  let v31 : BitVec 32 := Scalar.addi v30 c1_i32_17
  let c8_i32_21 : BitVec 32 := 8#32
  let v35 : BitVec 32 := Scalar.remsi v31 c8_i32_21
  let c512_i32_22 : BitVec 32 := 512#32
  let v36 : BitVec 32 := Scalar.muli v35 c512_i32_22
  let c0_i32_23 : BitVec 32 := 0#32
  let c8_i32_19 : BitVec 32 := 8#32
  let v33 : BitVec 32 := Scalar.divsi v31 c8_i32_19
  let c4_i32_20 : BitVec 32 := 4#32
  let v34 : BitVec 32 := Scalar.remsi v33 c4_i32_20
  let v37 : BitVec 32 := Scalar.addi c0_i32_23 v34
  let c1024_i32_24 : BitVec 32 := 1024#32
  let v38 : BitVec 32 := Scalar.muli v37 c1024_i32_24
  ![0, v36.toNat, v38.toNat]
def k0_mult9 (i : grid0.Coords) : BitVec 32 :=
  let arg1 : BitVec 32 := BitVec.ofNat 32 (i 1).val
  let c512_i32_30 : BitVec 32 := 512#32
  let v45 : BitVec 32 := Scalar.muli arg1 c512_i32_30
  v45
def k0_off8 (i : grid0.Coords) : Fin 4 → Nat :=
  let arg1 : BitVec 32 := BitVec.ofNat 32 (i 1).val
  let c2_i32_6 : BitVec 32 := 2#32
  let v16 : BitVec 32 := Scalar.remsi arg1 c2_i32_6
  let v47 : Index := Scalar.indexCast v16
  let c0 : Index := 0#32
  let c0_31 : Index := 0#32
  let c0_32 : Index := 0#32
  ![v47.toNat, 0, 0, 0]
def k0_off9 (i : grid0.Coords) : Fin 2 → Nat :=
  let arg1 : BitVec 32 := BitVec.ofNat 32 (i 1).val
  let c512_i32_30 : BitVec 32 := 512#32
  let v45 : BitVec 32 := Scalar.muli arg1 c512_i32_30
  let v46 : BitVec 32 := v45
  let v51 : Index := Scalar.indexCast v46
  let c0_33 : Index := 0#32
  ![v51.toNat, 0]
def k0_cond3 (i : grid0.Coords) : BitVec 1 :=
  let arg0 : BitVec 32 := BitVec.ofNat 32 (i 0).val
  let c2_i32_3 : BitVec 32 := 2#32
  let v9 : BitVec 32 := Scalar.remsi arg0 c2_i32_3
  let c1_i32 : BitVec 32 := 1#32
  let v10 : BitVec 1 := Scalar.cmpi .eq v9 c1_i32
  let v11 : BitVec 32 := Scalar.extui v10
  let c0_i32_4 : BitVec 32 := 0#32
  let v12 : BitVec 1 := Scalar.cmpi .ne v11 c0_i32_4
  v12

def k0_off10 (i : grid0.Coords) : Fin 2 → Nat :=
  let arg1 : BitVec 32 := BitVec.ofNat 32 (i 1).val
  let c2_i32_6 : BitVec 32 := 2#32
  let v16 : BitVec 32 := Scalar.remsi arg1 c2_i32_6
  let c0_i32_13 : BitVec 32 := 0#32
  ![v16.toNat, 0]
def k0_off11 (i : grid0.Coords) : Fin 4 → Nat :=
  let arg1 : BitVec 32 := BitVec.ofNat 32 (i 1).val
  let c2_i32_6 : BitVec 32 := 2#32
  let v16 : BitVec 32 := Scalar.remsi arg1 c2_i32_6
  let c0_i32_12 : BitVec 32 := 0#32
  let c0_i32_14 : BitVec 32 := 0#32
  let c0_i32_15 : BitVec 32 := 0#32
  ![v16.toNat, 0, 0, 0]
def k0_off12 (i : grid0.Coords) : Fin 3 → Nat :=
  let c0_i32_11 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_7 : BitVec 32 := 8#32
  let v17 : BitVec 32 := Scalar.addi v1 c8_i32_7
  let c8_i32_9 : BitVec 32 := 8#32
  let v20 : BitVec 32 := Scalar.remsi v17 c8_i32_9
  let c512_i32 : BitVec 32 := 512#32
  let v21 : BitVec 32 := Scalar.muli v20 c512_i32
  let c0_i32_10 : BitVec 32 := 0#32
  let c8_i32_8 : BitVec 32 := 8#32
  let v18 : BitVec 32 := Scalar.divsi v17 c8_i32_8
  let c4_i32 : BitVec 32 := 4#32
  let v19 : BitVec 32 := Scalar.remsi v18 c4_i32
  let v22 : BitVec 32 := Scalar.addi c0_i32_10 v19
  let c1024_i32 : BitVec 32 := 1024#32
  let v23 : BitVec 32 := Scalar.muli v22 c1024_i32
  ![0, v21.toNat, v23.toNat]
def k0_off13 (i : grid0.Coords) : Fin 2 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_27 : BitVec 32 := 0#32
  ![v32.toNat, 0]
def k0_off14 (i : grid0.Coords) : Fin 4 → Nat :=
  let c1_i32_18 : BitVec 32 := 1#32
  let arg1 : BitVec 32 := BitVec.ofNat 32 (i 1).val
  let c2_i32_6 : BitVec 32 := 2#32
  let v16 : BitVec 32 := Scalar.remsi arg1 c2_i32_6
  let v32 : BitVec 32 := Scalar.subi c1_i32_18 v16
  let c0_i32_26 : BitVec 32 := 0#32
  let c0_i32_28 : BitVec 32 := 0#32
  let c0_i32_29 : BitVec 32 := 0#32
  ![v32.toNat, 0, 0, 0]
def k0_off15 (i : grid0.Coords) : Fin 3 → Nat :=
  let c0_i32_25 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_16 : BitVec 32 := 8#32
  let v30 : BitVec 32 := Scalar.addi v1 c8_i32_16
  let c1_i32_17 : BitVec 32 := 1#32
  let v31 : BitVec 32 := Scalar.addi v30 c1_i32_17
  let c8_i32_21 : BitVec 32 := 8#32
  let v35 : BitVec 32 := Scalar.remsi v31 c8_i32_21
  let c512_i32_22 : BitVec 32 := 512#32
  let v36 : BitVec 32 := Scalar.muli v35 c512_i32_22
  let c0_i32_23 : BitVec 32 := 0#32
  let c8_i32_19 : BitVec 32 := 8#32
  let v33 : BitVec 32 := Scalar.divsi v31 c8_i32_19
  let c4_i32_20 : BitVec 32 := 4#32
  let v34 : BitVec 32 := Scalar.remsi v33 c4_i32_20
  let v37 : BitVec 32 := Scalar.addi c0_i32_23 v34
  let c1024_i32_24 : BitVec 32 := 1024#32
  let v38 : BitVec 32 := Scalar.muli v37 c1024_i32_24
  ![0, v36.toNat, v38.toNat]
def k0_mult10 (i : grid0.Coords) : BitVec 32 :=
  let arg1 : BitVec 32 := BitVec.ofNat 32 (i 1).val
  let c512_i32_30 : BitVec 32 := 512#32
  let v45 : BitVec 32 := Scalar.muli arg1 c512_i32_30
  v45
def k0_off16 (i : grid0.Coords) : Fin 4 → Nat :=
  let arg1 : BitVec 32 := BitVec.ofNat 32 (i 1).val
  let c2_i32_6 : BitVec 32 := 2#32
  let v16 : BitVec 32 := Scalar.remsi arg1 c2_i32_6
  let v47 : Index := Scalar.indexCast v16
  let c0 : Index := 0#32
  let c0_31 : Index := 0#32
  let c0_32 : Index := 0#32
  ![v47.toNat, 0, 0, 0]
def k0_off17 (i : grid0.Coords) : Fin 2 → Nat :=
  let arg1 : BitVec 32 := BitVec.ofNat 32 (i 1).val
  let c512_i32_30 : BitVec 32 := 512#32
  let v45 : BitVec 32 := Scalar.muli arg1 c512_i32_30
  let v46 : BitVec 32 := v45
  let v51 : Index := Scalar.indexCast v46
  let c0_33 : Index := 0#32
  ![v51.toNat, 0]
def k0_cond4 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c31_i32 : BitVec 32 := 31#32
  let v13 : BitVec 1 := Scalar.cmpi .eq v1 c31_i32
  let v14 : BitVec 32 := Scalar.extui v13
  let c0_i32_5 : BitVec 32 := 0#32
  let v15 : BitVec 1 := Scalar.cmpi .ne v14 c0_i32_5
  v15

def k0_off18 (i : grid0.Coords) : Fin 2 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c0_i32_15 : BitVec 32 := 0#32
  ![v19.toNat, 0]
def k0_off19 (i : grid0.Coords) : Fin 4 → Nat :=
  let c1_i32_9 : BitVec 32 := 1#32
  let arg1 : BitVec 32 := BitVec.ofNat 32 (i 1).val
  let c2_i32_8 : BitVec 32 := 2#32
  let v18 : BitVec 32 := Scalar.remsi arg1 c2_i32_8
  let v19 : BitVec 32 := Scalar.subi c1_i32_9 v18
  let c0_i32_14 : BitVec 32 := 0#32
  let c0_i32_16 : BitVec 32 := 0#32
  let c0_i32_17 : BitVec 32 := 0#32
  ![v19.toNat, 0, 0, 0]
def k0_off20 (i : grid0.Coords) : Fin 3 → Nat :=
  let c0_i32_13 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_6 : BitVec 32 := 8#32
  let v16 : BitVec 32 := Scalar.addi v1 c8_i32_6
  let c1_i32_7 : BitVec 32 := 1#32
  let v17 : BitVec 32 := Scalar.addi v16 c1_i32_7
  let c8_i32_11 : BitVec 32 := 8#32
  let v22 : BitVec 32 := Scalar.remsi v17 c8_i32_11
  let c512_i32 : BitVec 32 := 512#32
  let v23 : BitVec 32 := Scalar.muli v22 c512_i32
  let c0_i32_12 : BitVec 32 := 0#32
  let c8_i32_10 : BitVec 32 := 8#32
  let v20 : BitVec 32 := Scalar.divsi v17 c8_i32_10
  let c4_i32 : BitVec 32 := 4#32
  let v21 : BitVec 32 := Scalar.remsi v20 c4_i32
  let v24 : BitVec 32 := Scalar.addi c0_i32_12 v21
  let c1024_i32 : BitVec 32 := 1024#32
  let v25 : BitVec 32 := Scalar.muli v24 c1024_i32
  ![0, v23.toNat, v25.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S1x4096x4096 : Shape := ⟨3, ![1, 4096, 4096]⟩
abbrev S8192x4096 : Shape := ⟨2, ![8192, 4096]⟩
abbrev S2x4096x4096 : Shape := ⟨3, ![2, 4096, 4096]⟩
abbrev S2x4096x2048 : Shape := ⟨3, ![2, 4096, 2048]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S2x4096x4096, .f32⟩
  | .hbm, ⟨5, _⟩ => ⟨S8192x2048, .f32⟩
  | .hbm, ⟨6, _⟩ => ⟨S2x4096x2048, .f32⟩
  | .hbm, ⟨7, _⟩ => ⟨S8192x2048, .f32⟩
  | .hbm, ⟨8, _⟩ => ⟨S2x4096x2048, .f32⟩
  | .hbm, ⟨9, _⟩ => ⟨S2x4096x4096, .f32⟩
  | .hbm, ⟨10, _⟩ => ⟨S4096x4096, .f32⟩
  | .hbm, ⟨11, _⟩ => ⟨S2x4096x4096, .f32⟩
  | .hbm, ⟨12, _⟩ => ⟨S2x4096x4096, .f32⟩
  | .hbm, ⟨13, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S8192x4096 : Shape := ⟨2, ![8192, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x4096 : Shape := ⟨2, ![8192, 4096]⟩
abbrev S1x4096 : Shape := ⟨2, ![1, 4096]⟩
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S2x4096x4096, .f32⟩
  | .hbm, ⟨3, _⟩ => ⟨S4096, .f32⟩
  | .hbm, ⟨4, _⟩ => ⟨S2x4096x4096, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x4096, .f32⟩
  | .hbm, ⟨16, _⟩ => ⟨S2x4096x4096, .f32⟩
  | .hbm, ⟨17, _⟩ => ⟨S1x1x4096, .f32⟩
  | .hbm, ⟨18, _⟩ => ⟨S2x4096x4096, .f32⟩
  | .hbm, ⟨19, _⟩ => ⟨S2x4096x4096, .f32⟩
  | .hbm, ⟨20, _⟩ => ⟨S2x4096x4096, .bf16⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel7.lean ====
abbrev S8192x4096 : Shape := ⟨2, ![8192, 4096]⟩
abbrev S1x4096 : Shape := ⟨2, ![1, 4096]⟩
abbrev S1x4096x12320 : Shape := ⟨3, ![1, 4096, 12320]⟩
abbrev S1x16 : Shape := ⟨2, ![1, 16]⟩
abbrev S1x12320x4096 : Shape := ⟨3, ![1, 12320, 4096]⟩
abbrev S1x32x4096 : Shape := ⟨3, ![1, 32, 4096]⟩
abbrev S32x4096 : Shape := ⟨2, ![32, 4096]⟩
abbrev S_ : Shape := ⟨0, ![]⟩
abbrev S128x4096 : Shape := ⟨2, ![128, 4096]⟩
abbrev S4096 : Shape := ⟨1, ![4096]⟩
abbrev S16 : Shape := ⟨1, ![16]⟩
abbrev S128 : Shape := ⟨1, ![128]⟩
abbrev S1x128 : Shape := ⟨2, ![1, 128]⟩
abbrev S8192x128 : Shape := ⟨2, ![8192, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩

abbrev nBuf : Space → Nat
  | .hbm => 25
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x12320, .f32⟩
  | .hbm, ⟨3, _⟩ => ⟨S1x16, .f32⟩
  | .hbm, ⟨4, _⟩ => ⟨S1x16, .f32⟩
  | .hbm, ⟨5, _⟩ => ⟨S1x12320x4096, .f32⟩
  | .hbm, ⟨6, _⟩ => ⟨S1x32x4096, .f32⟩
  | .hbm, ⟨7, _⟩ => ⟨S32x4096, .f32⟩
  | .hbm, ⟨8, _⟩ => ⟨S_, .i32⟩
  | .hbm, ⟨9, _⟩ => ⟨S_, .f32⟩
  | .hbm, ⟨10, _⟩ => ⟨S128x4096, .f32⟩
  | .hbm, ⟨11, _⟩ => ⟨S4096, .f32⟩
  | .hbm, ⟨12, _⟩ => ⟨S16, .f32⟩
  | .hbm, ⟨13, _⟩ => ⟨S16, .f32⟩
  | .hbm, ⟨14, _⟩ => ⟨S1x4096, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S8192x4096, .bf16⟩
  | .hbm, ⟨24, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S128x4096, .f32⟩
  | .local _ .vmem, ⟨4, _⟩ => ⟨S1x128, .f32⟩
  | .local _ .vmem, ⟨5, _⟩ => ⟨S1x128, .f32⟩
  | .local _ .vmem, ⟨6, _⟩ => ⟨S512x4096, .bf16⟩
  | .local _ .vmem, ⟨7, _⟩ => ⟨S512x4096, .bf16⟩
  | .local _ .vmem, ⟨8, _⟩ => ⟨S512x128, .f32⟩
  | .local _ .vmem, ⟨9, _⟩ => ⟨S512x128, .f32⟩
  | .local _ .vmem, ⟨10, _⟩ => ⟨S128x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x4096 : Shape := ⟨2, ![8192, 4096]⟩
abbrev S1x4096 : Shape := ⟨2, ![1, 4096]⟩
abbrev S1x4096x12320 : Shape := ⟨3, ![1, 4096, 12320]⟩
abbrev S1x16 : Shape := ⟨2, ![1, 16]⟩
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S4096x12320 : Shape := ⟨2, ![4096, 12320]⟩
abbrev S4096x32 : Shape := ⟨2, ![4096, 32]⟩
abbrev S2x4096x32 : Shape := ⟨3, ![2, 4096, 32]⟩
abbrev S2x4096x16 : Shape := ⟨3, ![2, 4096, 16]⟩
abbrev S16 : Shape := ⟨1, ![16]⟩
abbrev S1x1x16 : Shape := ⟨3, ![1, 1, 16]⟩
abbrev S2x64x64x16 : Shape := ⟨4, ![2, 64, 64, 16]⟩
abbrev S2x4096x96 : Shape := ⟨3, ![2, 4096, 96]⟩
abbrev S2x4096x128 : Shape := ⟨3, ![2, 4096, 128]⟩
abbrev S8192x128 : Shape := ⟨2, ![8192, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x12320, .f32⟩
  | .hbm, ⟨3, _⟩ => ⟨S1x16, .f32⟩
  | .hbm, ⟨4, _⟩ => ⟨S1x16, .f32⟩
  | .hbm, ⟨5, _⟩ => ⟨S2x4096x4096, .f32⟩
  | .hbm, ⟨6, _⟩ => ⟨S4096, .f32⟩
  | .hbm, ⟨7, _⟩ => ⟨S2x4096x4096, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x4096, .f32⟩
  | .hbm, ⟨19, _⟩ => ⟨S2x4096x4096, .f32⟩
  | .hbm, ⟨20, _⟩ => ⟨S1x1x4096, .f32⟩
  | .hbm, ⟨21, _⟩ => ⟨S2x4096x4096, .f32⟩
  | .hbm, ⟨22, _⟩ => ⟨S2x4096x4096, .f32⟩
  | .hbm, ⟨23, _⟩ => ⟨S4096x12320, .f32⟩
  | .hbm, ⟨24, _⟩ => ⟨S4096x32, .f32⟩
  | .hbm, ⟨25, _⟩ => ⟨S2x4096x32, .f32⟩
  | .hbm, ⟨26, _⟩ => ⟨S2x4096x16, .f32⟩
  | .hbm, ⟨27, _⟩ => ⟨S2x4096x16, .f32⟩
  | .hbm, ⟨28, _⟩ => ⟨S2x4096x16, .f32⟩
  | .hbm, ⟨29, _⟩ => ⟨S2x4096x16, .f32⟩
  | .hbm, ⟨30, _⟩ => ⟨S_, .f32⟩
  | .hbm, ⟨31, _⟩ => ⟨S2x4096x16, .f32⟩
  | .hbm, ⟨32, _⟩ => ⟨S2x4096x16, .f32⟩
  | .hbm, ⟨33, _⟩ => ⟨S_, .f32⟩
  | .hbm, ⟨34, _⟩ => ⟨S2x4096x16, .f32⟩
  | .hbm, ⟨35, _⟩ => ⟨S2x4096x16, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S1x1x16, .f32⟩
  | .hbm, ⟨41, _⟩ => ⟨S2x4096x16, .f32⟩
  | .hbm, ⟨42, _⟩ => ⟨S2x4096x16, .f32⟩
  | .hbm, ⟨43, _⟩ => ⟨S_, .f32⟩
  | .hbm, ⟨44, _⟩ => ⟨S2x4096x16, .f32⟩
  | .hbm, ⟨45, _⟩ => ⟨S2x4096x16, .f32⟩
  | .hbm, ⟨46, _⟩ => ⟨S2x4096x16, .f32⟩
  | .hbm, ⟨47, _⟩ => ⟨S2x4096x16, .f32⟩
  | .hbm, ⟨48, _⟩ => ⟨S2x4096x16, .i1⟩
  | .hbm, ⟨49, _⟩ => ⟨S2x4096x16, .f32⟩
  | .hbm, ⟨50, _⟩ => ⟨S2x4096x16, .f32⟩
  | .hbm, ⟨51, _⟩ => ⟨S2x4096x16, .f32⟩
  | .hbm, ⟨52, _⟩ => ⟨S2x4096x16, .f32⟩
  | .hbm, ⟨53, _⟩ => ⟨S2x4096x16, .f32⟩
  | .hbm, ⟨54, _⟩ => ⟨S2x4096x16, .f32⟩
  | .hbm, ⟨55, _⟩ => ⟨S2x4096x16, .f32⟩
  | .hbm, ⟨56, _⟩ => ⟨S2x4096x16, .f32⟩
  | .hbm, ⟨57, _⟩ => ⟨S1x1x16, .f32⟩
  | .hbm, ⟨58, _⟩ => ⟨S2x4096x16, .f32⟩
  | .hbm, ⟨59, _⟩ => ⟨S2x4096x16, .f32⟩
  | .hbm, ⟨60, _⟩ => ⟨S2x64x64x16, .f32⟩
  | .hbm, ⟨61, _⟩ => ⟨S_, .f32⟩
  | .hbm, ⟨62, _⟩ => ⟨S_, .f32⟩
  | .hbm, ⟨63, _⟩ => ⟨S2x64x64x16, .f32⟩
  | .hbm, ⟨64, _⟩ => ⟨S2x4096x16, .f32⟩
  | .hbm, ⟨65, _⟩ => ⟨S_, .f32⟩
  | .hbm, ⟨66, _⟩ => ⟨S2x4096x96, .f32⟩
  | .hbm, ⟨67, _⟩ => ⟨S2x4096x96, .f32⟩
  | .hbm, ⟨68, _⟩ => ⟨S2x4096x128, .f32⟩
  | .hbm, ⟨69, _⟩ => ⟨S2x4096x4096, .bf16⟩
  | .hbm, ⟨70, _⟩ => ⟨S8192x4096, .bf16⟩
  | .hbm, ⟨71, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call1_call0_cst : Ref sig .tc := ⟨.hbm, 61, rfl⟩
abbrev main_call1_call0_v0 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]
-- ==== Proof.Ring.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branch conditions over the points -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 16 < 8 :=
  (by decide +kernel : ∀ t : Fin grid0.N, k0_cond2 (grid0.coords t) = 1#1 ↔ t.val % 16 < 8)
theorem hcond4 : ∀ t : Fin cfg0.N, k0_cond4 (grid0.coords t) = 1#1 ↔ 8 ≤ t.val % 16 :=
  (by decide +kernel : ∀ t : Fin grid0.N, k0_cond4 (grid0.coords t) = 1#1 ↔ 8 ≤ t.val % 16)
theorem hcond6 : ∀ t : Fin cfg0.N, k0_cond6 (grid0.coords t) = 1#1 ↔ t.val = 127 :=
  (by decide +kernel : ∀ t : Fin grid0.N, k0_cond6 (grid0.coords t) = 1#1 ↔ t.val = 127)
/-- The points whose row block begins a sequence: where the rows carried from the block before are cleared. -/
abbrev condZ (i : grid0.Coords) : Prop :=
  Scalar.cmpi .ne (Scalar.extui (Scalar.cmpi .eq (Scalar.remsi (BitVec.ofNat 32 (i 1).val) 4#32) 0#32)) (0#32 : BitVec 32) = (1#1 : BitVec 1)
theorem hcondZ : ∀ t : Fin cfg0.N, condZ (grid0.coords t) ↔ t.val % 4 = 0 :=
  (by decide +kernel : ∀ t : Fin grid0.N, condZ (grid0.coords t) ↔ t.val % 4 = 0)

/-! ## The memrefs -/

abbrev wbf0 : Memref sig .tc .vmem S4096x1024 .bf16 := Memref.whole cc0_scratch0
abbrev wbf1 : Memref sig .tc .vmem S4096x1024 .bf16 := Memref.whole cc0_scratch1
abbrev stg : Memref sig .tc .vmem S2x4x512x256 .f32 := Memref.whole cc0_scratch2
abbrev hist : Memref sig .tc .vmem S8x256 .f32 := Memref.whole cc0_scratch4
abbrev wM : Memref sig .tc .hbm S1x4096x16384 .f32 := Memref.whole main_arg1
/-- The contents of a memref's buffer on core `c`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The staging ring: two slots of four parts -/

theorem inb_part (s : Fin 2) (n : Fin 4) : ∀ a, (![s.val, n.val, 0, 0] : Fin 4 → Nat) a + S1x1x512x256.size a ≤ S2x4x512x256.size a := by
  have := s.isLt; have := n.isLt; intro a; fin_cases a <;> simp <;> omega
theorem inb_src (b : ℕ) (n : Fin 4) : ∀ a, (![0, 512 * (b % 8), 256 * (b / 8 % 16) + 4096 * n.val] : Fin 3 → Nat) a + S1x512x256.size a ≤ S1x4096x16384.size a := by
  have := n.isLt; have := Nat.mod_lt b (by decide : 0 < 8); have := Nat.mod_lt (b / 8) (by decide : 0 < 16)
  intro a; fin_cases a <;> simp <;> omega
theorem inb_cell (s : Fin 2) (n : Fin 4) : ∀ a, (![s.val, n.val] : Fin 2 → Nat) a + S1x1.size a ≤ S2x4.size a := by
  have := s.isLt; have := n.isLt; intro a; fin_cases a <;> simp <;> omega
/-- Part `n` of slot `s`. -/
def rpart (s : Fin 2) (n : Fin 4) : Memref sig .tc .vmem S512x256 .f32 :=
  (stg.slice (Rect.unit (s := S2x4x512x256) ![s.val, n.val, 0, 0] S1x1x512x256.size (inb_part s n)) (fun _ => rfl)).squeeze S512x256 squeezes_S1x1x512x256_S512x256
/-- Part `n` of slab `b` of the weights: rows `512 (b mod 8)` on, the columns of column block `b / 8` in group `n`. -/
def srcB (b : ℕ) (n : Fin 4) : Memref sig .tc .hbm S512x256 .f32 :=
  (wM.slice (Rect.unit (s := S1x4096x16384) ![0, 512 * (b % 8), 256 * (b / 8 % 16) + 4096 * n.val] S1x512x256.size (inb_src b n)) (fun _ => rfl)).squeeze S512x256 squeezes_S1x512x256_S512x256
/-- The cell of part `n` of slot `s`. -/
def cellA (s : Fin 2) (n : Fin 4) : DmaSems sig S_ := (cc0_scratch3.slice (Rect.unit (s := S2x4) ![s.val, n.val] S1x1.size (inb_cell s n))).squeeze S_ squeezes_S1x1_S_
abbrev cellR (s : Fin 2) (n : Fin 4) : SemLoc sig := SemLoc.dma (cellA s n).sem

section Ring
variable (c : Dev nD) (W : HbBuf (F := F) c wM)
/-- The weights are lent by share: one copy for each part of each slot. -/
def qh (s : Fin 2) : PosShare TreeShare := if s.val = 0 then fullShare.left else fullShare.right
def qs (s : Fin 2) (n : Fin 4) : PosShare TreeShare :=
  if n.val = 0 then (qh s).left.left else if n.val = 1 then (qh s).left.right else if n.val = 2 then (qh s).right.left else (qh s).right.right
abbrev partP (s : Fin 2) (n : Fin 4) (f : HbBuf (F := F) c (rpart s n)) : sProp 𝕄 := (rpart s n).view.loc (c : Thread nD τ) ↦[(rpart s n).view.set]{fullShare} f
abbrev cellP (s : Fin 2) (n : Fin 4) : sProp 𝕄 := semVal ((c : Thread nD τ), cellR s n) 0
abbrev srcP (s : Fin 2) (n : Fin 4) (b : ℕ) : sProp 𝕄 := (srcB b n).view.loc (c : Thread nD τ) ↦[(srcB b n).view.set]{qs s n} W
/-- What is left of a copy while slab `b`'s part is lent. -/
def restP (s : Fin 2) (n : Fin 4) (b : ℕ) : sProp 𝕄 := ((c : Thread nD τ).loc main_arg1) ↦[Finset.univ \ (srcB b n).view.set]{qs s n} W
/-- A copy whole. -/
def wholeP (s : Fin 2) (n : Fin 4) : sProp 𝕄 := ((c : Thread nD τ).loc main_arg1) ↦[Finset.univ]{qs s n} W
abbrev landed (s : Fin 2) (n : Fin 4) (b : ℕ) (f : HbBuf (F := F) c (rpart s n)) : HbBuf (F := F) c (rpart s n) :=
  (rpart s n).view.writes (Elt F) f [⟨Rect.whole S512x256, ReadAs.same.apply ((srcB b n).view.read (Elt F) W)⟩]
abbrev flightP (s : Fin 2) (n : Fin 4) (b : ℕ) (f : HbBuf (F := F) c (rpart s n)) : sProp 𝕄 :=
  Transfers.Flight countersEmb (c : Thread nD τ) (cellR s n) default ((rpart s n).view.amount (cellR s n))
    iprop(partP c s n (landed c W s n b f) ∗ srcP c W s n b)
/-- Part `n` of slot `s` in flight with slab `b`; and free. -/
def inflP (s : Fin 2) (n : Fin 4) (b : ℕ) : sProp 𝕄 := iprop(∃ f, flightP c W s n b f ∗ restP c W s n b)
def freeP (s : Fin 2) (n : Fin 4) : sProp 𝕄 := iprop(cellP c s n ∗ (∃ f, partP c s n f) ∗ wholeP c W s n)
def infl (s : Fin 2) (b : ℕ) : sProp 𝕄 := iprop(inflP c W s 0 b ∗ inflP c W s 1 b ∗ inflP c W s 2 b ∗ inflP c W s 3 b)
def free (s : Fin 2) : sProp 𝕄 := iprop(freeP c W s 0 ∗ freeP c W s 1 ∗ freeP c W s 2 ∗ freeP c W s 3)
theorem src_split (s : Fin 2) (n : Fin 4) (b : ℕ) : wholeP (F := F) c W s n ⊣⊢ iprop(srcP c W s n b ∗ restP c W s n b) := by
  unfold restP wholeP; exact pointsTo_split_subset (Finset.subset_univ _)
end Ring

/-! ## The body's operands are the ring's slots, slabs and cells -/

section Canon
omit [FloatOps F]
/-- Cells, parts of the stage and slabs of the weights at equal offsets are equal. -/
theorem cell_at {o o' : Fin 2 → Nat} (e : o = o') (h : ∀ a, o a + S1x1.size a ≤ S2x4.size a) (h' : ∀ a, o' a + S1x1.size a ≤ S2x4.size a) :
    (cc0_scratch3.slice (Rect.unit (s := S2x4) o S1x1.size h)).squeeze S_ squeezes_S1x1_S_ = (cc0_scratch3.slice (Rect.unit (s := S2x4) o' S1x1.size h')).squeeze S_ squeezes_S1x1_S_ := by
  subst e; rfl
theorem part_at {o o' : Fin 4 → Nat} (e : o = o') (h : ∀ a, o a + S1x1x512x256.size a ≤ S2x4x512x256.size a) (h' : ∀ a, o' a + S1x1x512x256.size a ≤ S2x4x512x256.size a) :
    (stg.slice (Rect.unit (s := S2x4x512x256) o S1x1x512x256.size h) (fun _ => rfl)).squeeze S512x256 squeezes_S1x1x512x256_S512x256 = (stg.slice (Rect.unit (s := S2x4x512x256) o' S1x1x512x256.size h') (fun _ => rfl)).squeeze S512x256 squeezes_S1x1x512x256_S512x256 := by
  subst e; rfl
theorem slab_at {o o' : Fin 3 → Nat} (e : o = o') (h : ∀ a, o a + S1x512x256.size a ≤ S1x4096x16384.size a) (h' : ∀ a, o' a + S1x512x256.size a ≤ S1x4096x16384.size a) :
    (wM.slice (Rect.unit (s := S1x4096x16384) o S1x512x256.size h) (fun _ => rfl)).squeeze S512x256 squeezes_S1x512x256_S512x256 = (wM.slice (Rect.unit (s := S1x4096x16384) o' S1x512x256.size h') (fun _ => rfl)).squeeze S512x256 squeezes_S1x512x256_S512x256 := by
  subst e; rfl
set_option synthInstance.maxSize 4096 in
theorem coff2 : ∀ t : Fin grid0.N, k0_off2 (grid0.coords t) = ![(Ring.sl 2 t.val).val, 0] := by decide +kernel
@[sl_canon] theorem canon2 (t : Fin grid0.N) (h : k0_cond2 (grid0.coords t) = 1#1) :
    (cc0_scratch3.slice (Rect.unit (s := S2x4) (k0_off2 (grid0.coords t)) S1x1.size (k0_off2_inb (grid0.coords t) h))).squeeze S_ squeezes_S1x1_S_ = cellA (Ring.sl 2 t.val) 0 :=
  cell_at (coff2 t) _ _
set_option synthInstance.maxSize 4096 in
theorem coff3 : ∀ t : Fin grid0.N, k0_off3 (grid0.coords t) = ![(Ring.sl 2 t.val).val, 0, 0, 0] := by decide +kernel
@[sl_canon] theorem canon3 (t : Fin grid0.N) (h : k0_cond2 (grid0.coords t) = 1#1) :
    (stg.slice (Rect.unit (s := S2x4x512x256) (k0_off3 (grid0.coords t)) S1x1x512x256.size (k0_off3_inb (grid0.coords t) h)) (fun _ => rfl)).squeeze S512x256 squeezes_S1x1x512x256_S512x256 = rpart (Ring.sl 2 t.val) 0 :=
  part_at (coff3 t) _ _
set_option synthInstance.maxSize 4096 in
theorem coff4_0 : ∀ t : Fin grid0.N, k0_off4 (grid0.coords t) 0#32 = ![0, 512 * ((t.val + 8) % 8), 256 * ((t.val + 8) / 8 % 16) + 4096 * 0] := by decide +kernel
@[sl_canon] theorem canon4_0 (t : Fin grid0.N) (h : k0_cond2 (grid0.coords t) = 1#1) :
    (wM.slice (Rect.unit (s := S1x4096x16384) (k0_off4 (grid0.coords t) 0#32) S1x512x256.size (k0_off4_inb (grid0.coords t) h 0)) (fun _ => rfl)).squeeze S512x256 squeezes_S1x512x256_S512x256 = srcB (t.val + 8) 0 :=
  slab_at (coff4_0 t) _ _
set_option synthInstance.maxSize 4096 in
theorem coff5 : ∀ t : Fin grid0.N, k0_off5 (grid0.coords t) = ![(Ring.sl 2 t.val).val, 1] := by decide +kernel
@[sl_canon] theorem canon5 (t : Fin grid0.N) (h : k0_cond2 (grid0.coords t) = 1#1) :
    (cc0_scratch3.slice (Rect.unit (s := S2x4) (k0_off5 (grid0.coords t)) S1x1.size (k0_off5_inb (grid0.coords t) h))).squeeze S_ squeezes_S1x1_S_ = cellA (Ring.sl 2 t.val) 1 :=
  cell_at (coff5 t) _ _
set_option synthInstance.maxSize 4096 in
theorem coff6 : ∀ t : Fin grid0.N, k0_off6 (grid0.coords t) = ![(Ring.sl 2 t.val).val, 1, 0, 0] := by decide +kernel
@[sl_canon] theorem canon6 (t : Fin grid0.N) (h : k0_cond2 (grid0.coords t) = 1#1) :
    (stg.slice (Rect.unit (s := S2x4x512x256) (k0_off6 (grid0.coords t)) S1x1x512x256.size (k0_off6_inb (grid0.coords t) h)) (fun _ => rfl)).squeeze S512x256 squeezes_S1x1x512x256_S512x256 = rpart (Ring.sl 2 t.val) 1 :=
  part_at (coff6 t) _ _
set_option synthInstance.maxSize 4096 in
theorem coff4_1 : ∀ t : Fin grid0.N, k0_off4 (grid0.coords t) 16#32 = ![0, 512 * ((t.val + 8) % 8), 256 * ((t.val + 8) / 8 % 16) + 4096 * 1] := by decide +kernel
@[sl_canon] theorem canon4_1 (t : Fin grid0.N) (h : k0_cond2 (grid0.coords t) = 1#1) :
    (wM.slice (Rect.unit (s := S1x4096x16384) (k0_off4 (grid0.coords t) 16#32) S1x512x256.size (k0_off4_inb (grid0.coords t) h 1)) (fun _ => rfl)).squeeze S512x256 squeezes_S1x512x256_S512x256 = srcB (t.val + 8) 1 :=
  slab_at (coff4_1 t) _ _
set_option synthInstance.maxSize 4096 in
theorem coff7 : ∀ t : Fin grid0.N, k0_off7 (grid0.coords t) = ![(Ring.sl 2 t.val).val, 2] := by decide +kernel
@[sl_canon] theorem canon7 (t : Fin grid0.N) (h : k0_cond2 (grid0.coords t) = 1#1) :
    (cc0_scratch3.slice (Rect.unit (s := S2x4) (k0_off7 (grid0.coords t)) S1x1.size (k0_off7_inb (grid0.coords t) h))).squeeze S_ squeezes_S1x1_S_ = cellA (Ring.sl 2 t.val) 2 :=
  cell_at (coff7 t) _ _
set_option synthInstance.maxSize 4096 in
theorem coff8 : ∀ t : Fin grid0.N, k0_off8 (grid0.coords t) = ![(Ring.sl 2 t.val).val, 2, 0, 0] := by decide +kernel
@[sl_canon] theorem canon8 (t : Fin grid0.N) (h : k0_cond2 (grid0.coords t) = 1#1) :
    (stg.slice (Rect.unit (s := S2x4x512x256) (k0_off8 (grid0.coords t)) S1x1x512x256.size (k0_off8_inb (grid0.coords t) h)) (fun _ => rfl)).squeeze S512x256 squeezes_S1x1x512x256_S512x256 = rpart (Ring.sl 2 t.val) 2 :=
  part_at (coff8 t) _ _
set_option synthInstance.maxSize 4096 in
theorem coff4_2 : ∀ t : Fin grid0.N, k0_off4 (grid0.coords t) 32#32 = ![0, 512 * ((t.val + 8) % 8), 256 * ((t.val + 8) / 8 % 16) + 4096 * 2] := by decide +kernel
@[sl_canon] theorem canon4_2 (t : Fin grid0.N) (h : k0_cond2 (grid0.coords t) = 1#1) :
    (wM.slice (Rect.unit (s := S1x4096x16384) (k0_off4 (grid0.coords t) 32#32) S1x512x256.size (k0_off4_inb (grid0.coords t) h 2)) (fun _ => rfl)).squeeze S512x256 squeezes_S1x512x256_S512x256 = srcB (t.val + 8) 2 :=
  slab_at (coff4_2 t) _ _
set_option synthInstance.maxSize 4096 in
theorem coff9 : ∀ t : Fin grid0.N, k0_off9 (grid0.coords t) = ![(Ring.sl 2 t.val).val, 3] := by decide +kernel
@[sl_canon] theorem canon9 (t : Fin grid0.N) (h : k0_cond2 (grid0.coords t) = 1#1) :
    (cc0_scratch3.slice (Rect.unit (s := S2x4) (k0_off9 (grid0.coords t)) S1x1.size (k0_off9_inb (grid0.coords t) h))).squeeze S_ squeezes_S1x1_S_ = cellA (Ring.sl 2 t.val) 3 :=
  cell_at (coff9 t) _ _
set_option synthInstance.maxSize 4096 in
theorem coff10 : ∀ t : Fin grid0.N, k0_off10 (grid0.coords t) = ![(Ring.sl 2 t.val).val, 3, 0, 0] := by decide +kernel
@[sl_canon] theorem canon10 (t : Fin grid0.N) (h : k0_cond2 (grid0.coords t) = 1#1) :
    (stg.slice (Rect.unit (s := S2x4x512x256) (k0_off10 (grid0.coords t)) S1x1x512x256.size (k0_off10_inb (grid0.coords t) h)) (fun _ => rfl)).squeeze S512x256 squeezes_S1x1x512x256_S512x256 = rpart (Ring.sl 2 t.val) 3 :=
  part_at (coff10 t) _ _
set_option synthInstance.maxSize 4096 in
theorem coff4_3 : ∀ t : Fin grid0.N, k0_off4 (grid0.coords t) 48#32 = ![0, 512 * ((t.val + 8) % 8), 256 * ((t.val + 8) / 8 % 16) + 4096 * 3] := by decide +kernel
@[sl_canon] theorem canon4_3 (t : Fin grid0.N) (h : k0_cond2 (grid0.coords t) = 1#1) :
    (wM.slice (Rect.unit (s := S1x4096x16384) (k0_off4 (grid0.coords t) 48#32) S1x512x256.size (k0_off4_inb (grid0.coords t) h 3)) (fun _ => rfl)).squeeze S512x256 squeezes_S1x512x256_S512x256 = srcB (t.val + 8) 3 :=
  slab_at (coff4_3 t) _ _
set_option synthInstance.maxSize 4096 in
theorem coff11 : ∀ t : Fin grid0.N, k0_off11 (grid0.coords t) = ![(Ring.sl 2 (t.val + 1)).val, 0] := by decide +kernel
@[sl_canon] theorem canon11 (t : Fin grid0.N) (h : k0_cond2 (grid0.coords t) = 1#1) :
    (cc0_scratch3.slice (Rect.unit (s := S2x4) (k0_off11 (grid0.coords t)) S1x1.size (k0_off11_inb (grid0.coords t) h))).squeeze S_ squeezes_S1x1_S_ = cellA (Ring.sl 2 (t.val + 1)) 0 :=
  cell_at (coff11 t) _ _
set_option synthInstance.maxSize 4096 in
theorem coff12 : ∀ t : Fin grid0.N, k0_off12 (grid0.coords t) = ![(Ring.sl 2 (t.val + 1)).val, 0, 0, 0] := by decide +kernel
@[sl_canon] theorem canon12 (t : Fin grid0.N) (h : k0_cond2 (grid0.coords t) = 1#1) :
    (stg.slice (Rect.unit (s := S2x4x512x256) (k0_off12 (grid0.coords t)) S1x1x512x256.size (k0_off12_inb (grid0.coords t) h)) (fun _ => rfl)).squeeze S512x256 squeezes_S1x1x512x256_S512x256 = rpart (Ring.sl 2 (t.val + 1)) 0 :=
  part_at (coff12 t) _ _
set_option synthInstance.maxSize 4096 in
theorem coff13_0 : ∀ t : Fin grid0.N, k0_off13 (grid0.coords t) 0#32 = ![0, 512 * ((t.val + 9) % 8), 256 * ((t.val + 9) / 8 % 16) + 4096 * 0] := by decide +kernel
@[sl_canon] theorem canon13_0 (t : Fin grid0.N) (h : k0_cond2 (grid0.coords t) = 1#1) :
    (wM.slice (Rect.unit (s := S1x4096x16384) (k0_off13 (grid0.coords t) 0#32) S1x512x256.size (k0_off13_inb (grid0.coords t) h 0)) (fun _ => rfl)).squeeze S512x256 squeezes_S1x512x256_S512x256 = srcB (t.val + 9) 0 :=
  slab_at (coff13_0 t) _ _
set_option synthInstance.maxSize 4096 in
theorem coff14 : ∀ t : Fin grid0.N, k0_off14 (grid0.coords t) = ![(Ring.sl 2 (t.val + 1)).val, 1] := by decide +kernel
@[sl_canon] theorem canon14 (t : Fin grid0.N) (h : k0_cond2 (grid0.coords t) = 1#1) :
    (cc0_scratch3.slice (Rect.unit (s := S2x4) (k0_off14 (grid0.coords t)) S1x1.size (k0_off14_inb (grid0.coords t) h))).squeeze S_ squeezes_S1x1_S_ = cellA (Ring.sl 2 (t.val + 1)) 1 :=
  cell_at (coff14 t) _ _
set_option synthInstance.maxSize 4096 in
theorem coff15 : ∀ t : Fin grid0.N, k0_off15 (grid0.coords t) = ![(Ring.sl 2 (t.val + 1)).val, 1, 0, 0] := by decide +kernel
@[sl_canon] theorem canon15 (t : Fin grid0.N) (h : k0_cond2 (grid0.coords t) = 1#1) :
    (stg.slice (Rect.unit (s := S2x4x512x256) (k0_off15 (grid0.coords t)) S1x1x512x256.size (k0_off15_inb (grid0.coords t) h)) (fun _ => rfl)).squeeze S512x256 squeezes_S1x1x512x256_S512x256 = rpart (Ring.sl 2 (t.val + 1)) 1 :=
  part_at (coff15 t) _ _
set_option synthInstance.maxSize 4096 in
theorem coff13_1 : ∀ t : Fin grid0.N, k0_off13 (grid0.coords t) 16#32 = ![0, 512 * ((t.val + 9) % 8), 256 * ((t.val + 9) / 8 % 16) + 4096 * 1] := by decide +kernel
@[sl_canon] theorem canon13_1 (t : Fin grid0.N) (h : k0_cond2 (grid0.coords t) = 1#1) :
    (wM.slice (Rect.unit (s := S1x4096x16384) (k0_off13 (grid0.coords t) 16#32) S1x512x256.size (k0_off13_inb (grid0.coords t) h 1)) (fun _ => rfl)).squeeze S512x256 squeezes_S1x512x256_S512x256 = srcB (t.val + 9) 1 :=
  slab_at (coff13_1 t) _ _
set_option synthInstance.maxSize 4096 in
theorem coff16 : ∀ t : Fin grid0.N, k0_off16 (grid0.coords t) = ![(Ring.sl 2 (t.val + 1)).val, 2] := by decide +kernel
@[sl_canon] theorem canon16 (t : Fin grid0.N) (h : k0_cond2 (grid0.coords t) = 1#1) :
    (cc0_scratch3.slice (Rect.unit (s := S2x4) (k0_off16 (grid0.coords t)) S1x1.size (k0_off16_inb (grid0.coords t) h))).squeeze S_ squeezes_S1x1_S_ = cellA (Ring.sl 2 (t.val + 1)) 2 :=
  cell_at (coff16 t) _ _
set_option synthInstance.maxSize 4096 in
theorem coff17 : ∀ t : Fin grid0.N, k0_off17 (grid0.coords t) = ![(Ring.sl 2 (t.val + 1)).val, 2, 0, 0] := by decide +kernel
@[sl_canon] theorem canon17 (t : Fin grid0.N) (h : k0_cond2 (grid0.coords t) = 1#1) :
    (stg.slice (Rect.unit (s := S2x4x512x256) (k0_off17 (grid0.coords t)) S1x1x512x256.size (k0_off17_inb (grid0.coords t) h)) (fun _ => rfl)).squeeze S512x256 squeezes_S1x1x512x256_S512x256 = rpart (Ring.sl 2 (t.val + 1)) 2 :=
  part_at (coff17 t) _ _
set_option synthInstance.maxSize 4096 in
theorem coff13_2 : ∀ t : Fin grid0.N, k0_off13 (grid0.coords t) 32#32 = ![0, 512 * ((t.val + 9) % 8), 256 * ((t.val + 9) / 8 % 16) + 4096 * 2] := by decide +kernel
@[sl_canon] theorem canon13_2 (t : Fin grid0.N) (h : k0_cond2 (grid0.coords t) = 1#1) :
    (wM.slice (Rect.unit (s := S1x4096x16384) (k0_off13 (grid0.coords t) 32#32) S1x512x256.size (k0_off13_inb (grid0.coords t) h 2)) (fun _ => rfl)).squeeze S512x256 squeezes_S1x512x256_S512x256 = srcB (t.val + 9) 2 :=
  slab_at (coff13_2 t) _ _
set_option synthInstance.maxSize 4096 in
theorem coff18 : ∀ t : Fin grid0.N, k0_off18 (grid0.coords t) = ![(Ring.sl 2 (t.val + 1)).val, 3] := by decide +kernel
@[sl_canon] theorem canon18 (t : Fin grid0.N) (h : k0_cond2 (grid0.coords t) = 1#1) :
    (cc0_scratch3.slice (Rect.unit (s := S2x4) (k0_off18 (grid0.coords t)) S1x1.size (k0_off18_inb (grid0.coords t) h))).squeeze S_ squeezes_S1x1_S_ = cellA (Ring.sl 2 (t.val + 1)) 3 :=
  cell_at (coff18 t) _ _
set_option synthInstance.maxSize 4096 in
theorem coff19 : ∀ t : Fin grid0.N, k0_off19 (grid0.coords t) = ![(Ring.sl 2 (t.val + 1)).val, 3, 0, 0] := by decide +kernel
@[sl_canon] theorem canon19 (t : Fin grid0.N) (h : k0_cond2 (grid0.coords t) = 1#1) :
    (stg.slice (Rect.unit (s := S2x4x512x256) (k0_off19 (grid0.coords t)) S1x1x512x256.size (k0_off19_inb (grid0.coords t) h)) (fun _ => rfl)).squeeze S512x256 squeezes_S1x1x512x256_S512x256 = rpart (Ring.sl 2 (t.val + 1)) 3 :=
  part_at (coff19 t) _ _
set_option synthInstance.maxSize 4096 in
theorem coff13_3 : ∀ t : Fin grid0.N, k0_off13 (grid0.coords t) 48#32 = ![0, 512 * ((t.val + 9) % 8), 256 * ((t.val + 9) / 8 % 16) + 4096 * 3] := by decide +kernel
@[sl_canon] theorem canon13_3 (t : Fin grid0.N) (h : k0_cond2 (grid0.coords t) = 1#1) :
    (wM.slice (Rect.unit (s := S1x4096x16384) (k0_off13 (grid0.coords t) 48#32) S1x512x256.size (k0_off13_inb (grid0.coords t) h 3)) (fun _ => rfl)).squeeze S512x256 squeezes_S1x512x256_S512x256 = srcB (t.val + 9) 3 :=
  slab_at (coff13_3 t) _ _
set_option synthInstance.maxSize 4096 in
theorem coff20 : ∀ t : Fin grid0.N, k0_off20 (grid0.coords t) = ![(Ring.sl 2 t.val).val, 0, 0, 0] := by decide +kernel
instance (priority := high) closedOff20 (t : Fin grid0.N) : ClosedOff (k0_off20 (grid0.coords t)) := ⟨![(Ring.sl 2 t.val).val, 0, 0, 0], coff20 t⟩
set_option synthInstance.maxSize 4096 in
theorem coff21 : ∀ t : Fin grid0.N, k0_off21 (grid0.coords t) = ![512 * (t.val % 8), 0] := by decide +kernel
set_option synthInstance.maxSize 4096 in
theorem coff22 : ∀ t : Fin grid0.N, k0_off22 (grid0.coords t) = ![(Ring.sl 2 t.val).val, 1, 0, 0] := by decide +kernel
instance (priority := high) closedOff22 (t : Fin grid0.N) : ClosedOff (k0_off22 (grid0.coords t)) := ⟨![(Ring.sl 2 t.val).val, 1, 0, 0], coff22 t⟩
set_option synthInstance.maxSize 4096 in
theorem coff23 : ∀ t : Fin grid0.N, k0_off23 (grid0.coords t) = ![512 * (t.val % 8), 256] := by decide +kernel
set_option synthInstance.maxSize 4096 in
theorem coff24 : ∀ t : Fin grid0.N, k0_off24 (grid0.coords t) = ![(Ring.sl 2 t.val).val, 2, 0, 0] := by decide +kernel
instance (priority := high) closedOff24 (t : Fin grid0.N) : ClosedOff (k0_off24 (grid0.coords t)) := ⟨![(Ring.sl 2 t.val).val, 2, 0, 0], coff24 t⟩
set_option synthInstance.maxSize 4096 in
theorem coff25 : ∀ t : Fin grid0.N, k0_off25 (grid0.coords t) = ![512 * (t.val % 8), 512] := by decide +kernel
set_option synthInstance.maxSize 4096 in
theorem coff26 : ∀ t : Fin grid0.N, k0_off26 (grid0.coords t) = ![(Ring.sl 2 t.val).val, 3, 0, 0] := by decide +kernel
instance (priority := high) closedOff26 (t : Fin grid0.N) : ClosedOff (k0_off26 (grid0.coords t)) := ⟨![(Ring.sl 2 t.val).val, 3, 0, 0], coff26 t⟩
set_option synthInstance.maxSize 4096 in
theorem coff27 : ∀ t : Fin grid0.N, k0_off27 (grid0.coords t) = ![512 * (t.val % 8), 768] := by decide +kernel
set_option synthInstance.maxSize 4096 in
theorem coff28 : ∀ t : Fin grid0.N, k0_off28 (grid0.coords t) = ![(Ring.sl 2 t.val).val, 0] := by decide +kernel
@[sl_canon] theorem canon28 (t : Fin grid0.N) (h : k0_cond4 (grid0.coords t) = 1#1) :
    (cc0_scratch3.slice (Rect.unit (s := S2x4) (k0_off28 (grid0.coords t)) S1x1.size (k0_off28_inb (grid0.coords t) h))).squeeze S_ squeezes_S1x1_S_ = cellA (Ring.sl 2 t.val) 0 :=
  cell_at (coff28 t) _ _
set_option synthInstance.maxSize 4096 in
theorem coff29 : ∀ t : Fin grid0.N, k0_off29 (grid0.coords t) = ![(Ring.sl 2 t.val).val, 0, 0, 0] := by decide +kernel
@[sl_canon] theorem canon29 (t : Fin grid0.N) (h : k0_cond4 (grid0.coords t) = 1#1) :
    (stg.slice (Rect.unit (s := S2x4x512x256) (k0_off29 (grid0.coords t)) S1x1x512x256.size (k0_off29_inb (grid0.coords t) h)) (fun _ => rfl)).squeeze S512x256 squeezes_S1x1x512x256_S512x256 = rpart (Ring.sl 2 t.val) 0 :=
  part_at (coff29 t) _ _
set_option synthInstance.maxSize 4096 in
theorem coff30_0 : ∀ t : Fin grid0.N, k0_off30 (grid0.coords t) 0#32 = ![0, 512 * ((t.val + 8) % 8), 256 * ((t.val + 8) / 8 % 16) + 4096 * 0] := by decide +kernel
@[sl_canon] theorem canon30_0 (t : Fin grid0.N) (h : k0_cond4 (grid0.coords t) = 1#1) :
    (wM.slice (Rect.unit (s := S1x4096x16384) (k0_off30 (grid0.coords t) 0#32) S1x512x256.size (k0_off30_inb (grid0.coords t) h 0)) (fun _ => rfl)).squeeze S512x256 squeezes_S1x512x256_S512x256 = srcB (t.val + 8) 0 :=
  slab_at (coff30_0 t) _ _
set_option synthInstance.maxSize 4096 in
theorem coff31 : ∀ t : Fin grid0.N, k0_off31 (grid0.coords t) = ![(Ring.sl 2 t.val).val, 1] := by decide +kernel
@[sl_canon] theorem canon31 (t : Fin grid0.N) (h : k0_cond4 (grid0.coords t) = 1#1) :
    (cc0_scratch3.slice (Rect.unit (s := S2x4) (k0_off31 (grid0.coords t)) S1x1.size (k0_off31_inb (grid0.coords t) h))).squeeze S_ squeezes_S1x1_S_ = cellA (Ring.sl 2 t.val) 1 :=
  cell_at (coff31 t) _ _
set_option synthInstance.maxSize 4096 in
theorem coff32 : ∀ t : Fin grid0.N, k0_off32 (grid0.coords t) = ![(Ring.sl 2 t.val).val, 1, 0, 0] := by decide +kernel
@[sl_canon] theorem canon32 (t : Fin grid0.N) (h : k0_cond4 (grid0.coords t) = 1#1) :
    (stg.slice (Rect.unit (s := S2x4x512x256) (k0_off32 (grid0.coords t)) S1x1x512x256.size (k0_off32_inb (grid0.coords t) h)) (fun _ => rfl)).squeeze S512x256 squeezes_S1x1x512x256_S512x256 = rpart (Ring.sl 2 t.val) 1 :=
  part_at (coff32 t) _ _
set_option synthInstance.maxSize 4096 in
theorem coff30_1 : ∀ t : Fin grid0.N, k0_off30 (grid0.coords t) 16#32 = ![0, 512 * ((t.val + 8) % 8), 256 * ((t.val + 8) / 8 % 16) + 4096 * 1] := by decide +kernel
@[sl_canon] theorem canon30_1 (t : Fin grid0.N) (h : k0_cond4 (grid0.coords t) = 1#1) :
    (wM.slice (Rect.unit (s := S1x4096x16384) (k0_off30 (grid0.coords t) 16#32) S1x512x256.size (k0_off30_inb (grid0.coords t) h 1)) (fun _ => rfl)).squeeze S512x256 squeezes_S1x512x256_S512x256 = srcB (t.val + 8) 1 :=
  slab_at (coff30_1 t) _ _
set_option synthInstance.maxSize 4096 in
theorem coff33 : ∀ t : Fin grid0.N, k0_off33 (grid0.coords t) = ![(Ring.sl 2 t.val).val, 2] := by decide +kernel
@[sl_canon] theorem canon33 (t : Fin grid0.N) (h : k0_cond4 (grid0.coords t) = 1#1) :
    (cc0_scratch3.slice (Rect.unit (s := S2x4) (k0_off33 (grid0.coords t)) S1x1.size (k0_off33_inb (grid0.coords t) h))).squeeze S_ squeezes_S1x1_S_ = cellA (Ring.sl 2 t.val) 2 :=
  cell_at (coff33 t) _ _
set_option synthInstance.maxSize 4096 in
theorem coff34 : ∀ t : Fin grid0.N, k0_off34 (grid0.coords t) = ![(Ring.sl 2 t.val).val, 2, 0, 0] := by decide +kernel
@[sl_canon] theorem canon34 (t : Fin grid0.N) (h : k0_cond4 (grid0.coords t) = 1#1) :
    (stg.slice (Rect.unit (s := S2x4x512x256) (k0_off34 (grid0.coords t)) S1x1x512x256.size (k0_off34_inb (grid0.coords t) h)) (fun _ => rfl)).squeeze S512x256 squeezes_S1x1x512x256_S512x256 = rpart (Ring.sl 2 t.val) 2 :=
  part_at (coff34 t) _ _
set_option synthInstance.maxSize 4096 in
theorem coff30_2 : ∀ t : Fin grid0.N, k0_off30 (grid0.coords t) 32#32 = ![0, 512 * ((t.val + 8) % 8), 256 * ((t.val + 8) / 8 % 16) + 4096 * 2] := by decide +kernel
@[sl_canon] theorem canon30_2 (t : Fin grid0.N) (h : k0_cond4 (grid0.coords t) = 1#1) :
    (wM.slice (Rect.unit (s := S1x4096x16384) (k0_off30 (grid0.coords t) 32#32) S1x512x256.size (k0_off30_inb (grid0.coords t) h 2)) (fun _ => rfl)).squeeze S512x256 squeezes_S1x512x256_S512x256 = srcB (t.val + 8) 2 :=
  slab_at (coff30_2 t) _ _
set_option synthInstance.maxSize 4096 in
theorem coff35 : ∀ t : Fin grid0.N, k0_off35 (grid0.coords t) = ![(Ring.sl 2 t.val).val, 3] := by decide +kernel
@[sl_canon] theorem canon35 (t : Fin grid0.N) (h : k0_cond4 (grid0.coords t) = 1#1) :
    (cc0_scratch3.slice (Rect.unit (s := S2x4) (k0_off35 (grid0.coords t)) S1x1.size (k0_off35_inb (grid0.coords t) h))).squeeze S_ squeezes_S1x1_S_ = cellA (Ring.sl 2 t.val) 3 :=
  cell_at (coff35 t) _ _
set_option synthInstance.maxSize 4096 in
theorem coff36 : ∀ t : Fin grid0.N, k0_off36 (grid0.coords t) = ![(Ring.sl 2 t.val).val, 3, 0, 0] := by decide +kernel
@[sl_canon] theorem canon36 (t : Fin grid0.N) (h : k0_cond4 (grid0.coords t) = 1#1) :
    (stg.slice (Rect.unit (s := S2x4x512x256) (k0_off36 (grid0.coords t)) S1x1x512x256.size (k0_off36_inb (grid0.coords t) h)) (fun _ => rfl)).squeeze S512x256 squeezes_S1x1x512x256_S512x256 = rpart (Ring.sl 2 t.val) 3 :=
  part_at (coff36 t) _ _
set_option synthInstance.maxSize 4096 in
theorem coff30_3 : ∀ t : Fin grid0.N, k0_off30 (grid0.coords t) 48#32 = ![0, 512 * ((t.val + 8) % 8), 256 * ((t.val + 8) / 8 % 16) + 4096 * 3] := by decide +kernel
@[sl_canon] theorem canon30_3 (t : Fin grid0.N) (h : k0_cond4 (grid0.coords t) = 1#1) :
    (wM.slice (Rect.unit (s := S1x4096x16384) (k0_off30 (grid0.coords t) 48#32) S1x512x256.size (k0_off30_inb (grid0.coords t) h 3)) (fun _ => rfl)).squeeze S512x256 squeezes_S1x512x256_S512x256 = srcB (t.val + 8) 3 :=
  slab_at (coff30_3 t) _ _
set_option synthInstance.maxSize 4096 in
theorem coff37 : ∀ t : Fin grid0.N, k0_off37 (grid0.coords t) = ![(Ring.sl 2 (t.val + 1)).val, 0] := by decide +kernel
@[sl_canon] theorem canon37 (t : Fin grid0.N) (h : k0_cond4 (grid0.coords t) = 1#1) :
    (cc0_scratch3.slice (Rect.unit (s := S2x4) (k0_off37 (grid0.coords t)) S1x1.size (k0_off37_inb (grid0.coords t) h))).squeeze S_ squeezes_S1x1_S_ = cellA (Ring.sl 2 (t.val + 1)) 0 :=
  cell_at (coff37 t) _ _
set_option synthInstance.maxSize 4096 in
theorem coff38 : ∀ t : Fin grid0.N, k0_off38 (grid0.coords t) = ![(Ring.sl 2 (t.val + 1)).val, 0, 0, 0] := by decide +kernel
@[sl_canon] theorem canon38 (t : Fin grid0.N) (h : k0_cond4 (grid0.coords t) = 1#1) :
    (stg.slice (Rect.unit (s := S2x4x512x256) (k0_off38 (grid0.coords t)) S1x1x512x256.size (k0_off38_inb (grid0.coords t) h)) (fun _ => rfl)).squeeze S512x256 squeezes_S1x1x512x256_S512x256 = rpart (Ring.sl 2 (t.val + 1)) 0 :=
  part_at (coff38 t) _ _
set_option synthInstance.maxSize 4096 in
theorem coff39_0 : ∀ t : Fin grid0.N, k0_off39 (grid0.coords t) 0#32 = ![0, 512 * ((t.val + 9) % 8), 256 * ((t.val + 9) / 8 % 16) + 4096 * 0] := by decide +kernel
@[sl_canon] theorem canon39_0 (t : Fin grid0.N) (h : k0_cond4 (grid0.coords t) = 1#1) :
    (wM.slice (Rect.unit (s := S1x4096x16384) (k0_off39 (grid0.coords t) 0#32) S1x512x256.size (k0_off39_inb (grid0.coords t) h 0)) (fun _ => rfl)).squeeze S512x256 squeezes_S1x512x256_S512x256 = srcB (t.val + 9) 0 :=
  slab_at (coff39_0 t) _ _
set_option synthInstance.maxSize 4096 in
theorem coff40 : ∀ t : Fin grid0.N, k0_off40 (grid0.coords t) = ![(Ring.sl 2 (t.val + 1)).val, 1] := by decide +kernel
@[sl_canon] theorem canon40 (t : Fin grid0.N) (h : k0_cond4 (grid0.coords t) = 1#1) :
    (cc0_scratch3.slice (Rect.unit (s := S2x4) (k0_off40 (grid0.coords t)) S1x1.size (k0_off40_inb (grid0.coords t) h))).squeeze S_ squeezes_S1x1_S_ = cellA (Ring.sl 2 (t.val + 1)) 1 :=
  cell_at (coff40 t) _ _
set_option synthInstance.maxSize 4096 in
theorem coff41 : ∀ t : Fin grid0.N, k0_off41 (grid0.coords t) = ![(Ring.sl 2 (t.val + 1)).val, 1, 0, 0] := by decide +kernel
@[sl_canon] theorem canon41 (t : Fin grid0.N) (h : k0_cond4 (grid0.coords t) = 1#1) :
    (stg.slice (Rect.unit (s := S2x4x512x256) (k0_off41 (grid0.coords t)) S1x1x512x256.size (k0_off41_inb (grid0.coords t) h)) (fun _ => rfl)).squeeze S512x256 squeezes_S1x1x512x256_S512x256 = rpart (Ring.sl 2 (t.val + 1)) 1 :=
  part_at (coff41 t) _ _
set_option synthInstance.maxSize 4096 in
theorem coff39_1 : ∀ t : Fin grid0.N, k0_off39 (grid0.coords t) 16#32 = ![0, 512 * ((t.val + 9) % 8), 256 * ((t.val + 9) / 8 % 16) + 4096 * 1] := by decide +kernel
@[sl_canon] theorem canon39_1 (t : Fin grid0.N) (h : k0_cond4 (grid0.coords t) = 1#1) :
    (wM.slice (Rect.unit (s := S1x4096x16384) (k0_off39 (grid0.coords t) 16#32) S1x512x256.size (k0_off39_inb (grid0.coords t) h 1)) (fun _ => rfl)).squeeze S512x256 squeezes_S1x512x256_S512x256 = srcB (t.val + 9) 1 :=
  slab_at (coff39_1 t) _ _
set_option synthInstance.maxSize 4096 in
theorem coff42 : ∀ t : Fin grid0.N, k0_off42 (grid0.coords t) = ![(Ring.sl 2 (t.val + 1)).val, 2] := by decide +kernel
@[sl_canon] theorem canon42 (t : Fin grid0.N) (h : k0_cond4 (grid0.coords t) = 1#1) :
    (cc0_scratch3.slice (Rect.unit (s := S2x4) (k0_off42 (grid0.coords t)) S1x1.size (k0_off42_inb (grid0.coords t) h))).squeeze S_ squeezes_S1x1_S_ = cellA (Ring.sl 2 (t.val + 1)) 2 :=
  cell_at (coff42 t) _ _
set_option synthInstance.maxSize 4096 in
theorem coff43 : ∀ t : Fin grid0.N, k0_off43 (grid0.coords t) = ![(Ring.sl 2 (t.val + 1)).val, 2, 0, 0] := by decide +kernel
@[sl_canon] theorem canon43 (t : Fin grid0.N) (h : k0_cond4 (grid0.coords t) = 1#1) :
    (stg.slice (Rect.unit (s := S2x4x512x256) (k0_off43 (grid0.coords t)) S1x1x512x256.size (k0_off43_inb (grid0.coords t) h)) (fun _ => rfl)).squeeze S512x256 squeezes_S1x1x512x256_S512x256 = rpart (Ring.sl 2 (t.val + 1)) 2 :=
  part_at (coff43 t) _ _
set_option synthInstance.maxSize 4096 in
theorem coff39_2 : ∀ t : Fin grid0.N, k0_off39 (grid0.coords t) 32#32 = ![0, 512 * ((t.val + 9) % 8), 256 * ((t.val + 9) / 8 % 16) + 4096 * 2] := by decide +kernel
@[sl_canon] theorem canon39_2 (t : Fin grid0.N) (h : k0_cond4 (grid0.coords t) = 1#1) :
    (wM.slice (Rect.unit (s := S1x4096x16384) (k0_off39 (grid0.coords t) 32#32) S1x512x256.size (k0_off39_inb (grid0.coords t) h 2)) (fun _ => rfl)).squeeze S512x256 squeezes_S1x512x256_S512x256 = srcB (t.val + 9) 2 :=
  slab_at (coff39_2 t) _ _
set_option synthInstance.maxSize 4096 in
theorem coff44 : ∀ t : Fin grid0.N, k0_off44 (grid0.coords t) = ![(Ring.sl 2 (t.val + 1)).val, 3] := by decide +kernel
@[sl_canon] theorem canon44 (t : Fin grid0.N) (h : k0_cond4 (grid0.coords t) = 1#1) :
    (cc0_scratch3.slice (Rect.unit (s := S2x4) (k0_off44 (grid0.coords t)) S1x1.size (k0_off44_inb (grid0.coords t) h))).squeeze S_ squeezes_S1x1_S_ = cellA (Ring.sl 2 (t.val + 1)) 3 :=
  cell_at (coff44 t) _ _
set_option synthInstance.maxSize 4096 in
theorem coff45 : ∀ t : Fin grid0.N, k0_off45 (grid0.coords t) = ![(Ring.sl 2 (t.val + 1)).val, 3, 0, 0] := by decide +kernel
@[sl_canon] theorem canon45 (t : Fin grid0.N) (h : k0_cond4 (grid0.coords t) = 1#1) :
    (stg.slice (Rect.unit (s := S2x4x512x256) (k0_off45 (grid0.coords t)) S1x1x512x256.size (k0_off45_inb (grid0.coords t) h)) (fun _ => rfl)).squeeze S512x256 squeezes_S1x1x512x256_S512x256 = rpart (Ring.sl 2 (t.val + 1)) 3 :=
  part_at (coff45 t) _ _
set_option synthInstance.maxSize 4096 in
theorem coff39_3 : ∀ t : Fin grid0.N, k0_off39 (grid0.coords t) 48#32 = ![0, 512 * ((t.val + 9) % 8), 256 * ((t.val + 9) / 8 % 16) + 4096 * 3] := by decide +kernel
@[sl_canon] theorem canon39_3 (t : Fin grid0.N) (h : k0_cond4 (grid0.coords t) = 1#1) :
    (wM.slice (Rect.unit (s := S1x4096x16384) (k0_off39 (grid0.coords t) 48#32) S1x512x256.size (k0_off39_inb (grid0.coords t) h 3)) (fun _ => rfl)).squeeze S512x256 squeezes_S1x512x256_S512x256 = srcB (t.val + 9) 3 :=
  slab_at (coff39_3 t) _ _
set_option synthInstance.maxSize 4096 in
theorem coff46 : ∀ t : Fin grid0.N, k0_off46 (grid0.coords t) = ![(Ring.sl 2 t.val).val, 0, 0, 0] := by decide +kernel
instance (priority := high) closedOff46 (t : Fin grid0.N) : ClosedOff (k0_off46 (grid0.coords t)) := ⟨![(Ring.sl 2 t.val).val, 0, 0, 0], coff46 t⟩
set_option synthInstance.maxSize 4096 in
theorem coff47 : ∀ t : Fin grid0.N, k0_off47 (grid0.coords t) = ![512 * (t.val % 8), 0] := by decide +kernel
set_option synthInstance.maxSize 4096 in
theorem coff48 : ∀ t : Fin grid0.N, k0_off48 (grid0.coords t) = ![(Ring.sl 2 t.val).val, 1, 0, 0] := by decide +kernel
instance (priority := high) closedOff48 (t : Fin grid0.N) : ClosedOff (k0_off48 (grid0.coords t)) := ⟨![(Ring.sl 2 t.val).val, 1, 0, 0], coff48 t⟩
set_option synthInstance.maxSize 4096 in
theorem coff49 : ∀ t : Fin grid0.N, k0_off49 (grid0.coords t) = ![512 * (t.val % 8), 256] := by decide +kernel
set_option synthInstance.maxSize 4096 in
theorem coff50 : ∀ t : Fin grid0.N, k0_off50 (grid0.coords t) = ![(Ring.sl 2 t.val).val, 2, 0, 0] := by decide +kernel
instance (priority := high) closedOff50 (t : Fin grid0.N) : ClosedOff (k0_off50 (grid0.coords t)) := ⟨![(Ring.sl 2 t.val).val, 2, 0, 0], coff50 t⟩
set_option synthInstance.maxSize 4096 in
theorem coff51 : ∀ t : Fin grid0.N, k0_off51 (grid0.coords t) = ![512 * (t.val % 8), 512] := by decide +kernel
set_option synthInstance.maxSize 4096 in
theorem coff52 : ∀ t : Fin grid0.N, k0_off52 (grid0.coords t) = ![(Ring.sl 2 t.val).val, 3, 0, 0] := by decide +kernel
instance (priority := high) closedOff52 (t : Fin grid0.N) : ClosedOff (k0_off52 (grid0.coords t)) := ⟨![(Ring.sl 2 t.val).val, 3, 0, 0], coff52 t⟩
set_option synthInstance.maxSize 4096 in
theorem coff53 : ∀ t : Fin grid0.N, k0_off53 (grid0.coords t) = ![512 * (t.val % 8), 768] := by decide +kernel
set_option synthInstance.maxSize 4096 in
theorem coff54 : ∀ t : Fin grid0.N, k0_off54 (grid0.coords t) = ![(Ring.sl 2 (t.val + 1)).val, 0] := by decide +kernel
@[sl_canon] theorem canon54 (t : Fin grid0.N) (h : k0_cond6 (grid0.coords t) = 1#1) :
    (cc0_scratch3.slice (Rect.unit (s := S2x4) (k0_off54 (grid0.coords t)) S1x1.size (k0_off54_inb (grid0.coords t) h))).squeeze S_ squeezes_S1x1_S_ = cellA (Ring.sl 2 (t.val + 1)) 0 :=
  cell_at (coff54 t) _ _
set_option synthInstance.maxSize 4096 in
theorem coff55 : ∀ t : Fin grid0.N, k0_off55 (grid0.coords t) = ![(Ring.sl 2 (t.val + 1)).val, 0, 0, 0] := by decide +kernel
@[sl_canon] theorem canon55 (t : Fin grid0.N) (h : k0_cond6 (grid0.coords t) = 1#1) :
    (stg.slice (Rect.unit (s := S2x4x512x256) (k0_off55 (grid0.coords t)) S1x1x512x256.size (k0_off55_inb (grid0.coords t) h)) (fun _ => rfl)).squeeze S512x256 squeezes_S1x1x512x256_S512x256 = rpart (Ring.sl 2 (t.val + 1)) 0 :=
  part_at (coff55 t) _ _
set_option synthInstance.maxSize 4096 in
theorem coff56_0 : ∀ t : Fin grid0.N, k0_off56 (grid0.coords t) 0#32 = ![0, 512 * ((t.val + 9) % 8), 256 * ((t.val + 9) / 8 % 16) + 4096 * 0] := by decide +kernel
@[sl_canon] theorem canon56_0 (t : Fin grid0.N) (h : k0_cond6 (grid0.coords t) = 1#1) :
    (wM.slice (Rect.unit (s := S1x4096x16384) (k0_off56 (grid0.coords t) 0#32) S1x512x256.size (k0_off56_inb (grid0.coords t) h 0)) (fun _ => rfl)).squeeze S512x256 squeezes_S1x512x256_S512x256 = srcB (t.val + 9) 0 :=
  slab_at (coff56_0 t) _ _
set_option synthInstance.maxSize 4096 in
theorem coff57 : ∀ t : Fin grid0.N, k0_off57 (grid0.coords t) = ![(Ring.sl 2 (t.val + 1)).val, 1] := by decide +kernel
@[sl_canon] theorem canon57 (t : Fin grid0.N) (h : k0_cond6 (grid0.coords t) = 1#1) :
    (cc0_scratch3.slice (Rect.unit (s := S2x4) (k0_off57 (grid0.coords t)) S1x1.size (k0_off57_inb (grid0.coords t) h))).squeeze S_ squeezes_S1x1_S_ = cellA (Ring.sl 2 (t.val + 1)) 1 :=
  cell_at (coff57 t) _ _
set_option synthInstance.maxSize 4096 in
theorem coff58 : ∀ t : Fin grid0.N, k0_off58 (grid0.coords t) = ![(Ring.sl 2 (t.val + 1)).val, 1, 0, 0] := by decide +kernel
@[sl_canon] theorem canon58 (t : Fin grid0.N) (h : k0_cond6 (grid0.coords t) = 1#1) :
    (stg.slice (Rect.unit (s := S2x4x512x256) (k0_off58 (grid0.coords t)) S1x1x512x256.size (k0_off58_inb (grid0.coords t) h)) (fun _ => rfl)).squeeze S512x256 squeezes_S1x1x512x256_S512x256 = rpart (Ring.sl 2 (t.val + 1)) 1 :=
  part_at (coff58 t) _ _
set_option synthInstance.maxSize 4096 in
theorem coff56_1 : ∀ t : Fin grid0.N, k0_off56 (grid0.coords t) 16#32 = ![0, 512 * ((t.val + 9) % 8), 256 * ((t.val + 9) / 8 % 16) + 4096 * 1] := by decide +kernel
@[sl_canon] theorem canon56_1 (t : Fin grid0.N) (h : k0_cond6 (grid0.coords t) = 1#1) :
    (wM.slice (Rect.unit (s := S1x4096x16384) (k0_off56 (grid0.coords t) 16#32) S1x512x256.size (k0_off56_inb (grid0.coords t) h 1)) (fun _ => rfl)).squeeze S512x256 squeezes_S1x512x256_S512x256 = srcB (t.val + 9) 1 :=
  slab_at (coff56_1 t) _ _
set_option synthInstance.maxSize 4096 in
theorem coff59 : ∀ t : Fin grid0.N, k0_off59 (grid0.coords t) = ![(Ring.sl 2 (t.val + 1)).val, 2] := by decide +kernel
@[sl_canon] theorem canon59 (t : Fin grid0.N) (h : k0_cond6 (grid0.coords t) = 1#1) :
    (cc0_scratch3.slice (Rect.unit (s := S2x4) (k0_off59 (grid0.coords t)) S1x1.size (k0_off59_inb (grid0.coords t) h))).squeeze S_ squeezes_S1x1_S_ = cellA (Ring.sl 2 (t.val + 1)) 2 :=
  cell_at (coff59 t) _ _
set_option synthInstance.maxSize 4096 in
theorem coff60 : ∀ t : Fin grid0.N, k0_off60 (grid0.coords t) = ![(Ring.sl 2 (t.val + 1)).val, 2, 0, 0] := by decide +kernel
@[sl_canon] theorem canon60 (t : Fin grid0.N) (h : k0_cond6 (grid0.coords t) = 1#1) :
    (stg.slice (Rect.unit (s := S2x4x512x256) (k0_off60 (grid0.coords t)) S1x1x512x256.size (k0_off60_inb (grid0.coords t) h)) (fun _ => rfl)).squeeze S512x256 squeezes_S1x1x512x256_S512x256 = rpart (Ring.sl 2 (t.val + 1)) 2 :=
  part_at (coff60 t) _ _
set_option synthInstance.maxSize 4096 in
theorem coff56_2 : ∀ t : Fin grid0.N, k0_off56 (grid0.coords t) 32#32 = ![0, 512 * ((t.val + 9) % 8), 256 * ((t.val + 9) / 8 % 16) + 4096 * 2] := by decide +kernel
@[sl_canon] theorem canon56_2 (t : Fin grid0.N) (h : k0_cond6 (grid0.coords t) = 1#1) :
    (wM.slice (Rect.unit (s := S1x4096x16384) (k0_off56 (grid0.coords t) 32#32) S1x512x256.size (k0_off56_inb (grid0.coords t) h 2)) (fun _ => rfl)).squeeze S512x256 squeezes_S1x512x256_S512x256 = srcB (t.val + 9) 2 :=
  slab_at (coff56_2 t) _ _
set_option synthInstance.maxSize 4096 in
theorem coff61 : ∀ t : Fin grid0.N, k0_off61 (grid0.coords t) = ![(Ring.sl 2 (t.val + 1)).val, 3] := by decide +kernel
@[sl_canon] theorem canon61 (t : Fin grid0.N) (h : k0_cond6 (grid0.coords t) = 1#1) :
    (cc0_scratch3.slice (Rect.unit (s := S2x4) (k0_off61 (grid0.coords t)) S1x1.size (k0_off61_inb (grid0.coords t) h))).squeeze S_ squeezes_S1x1_S_ = cellA (Ring.sl 2 (t.val + 1)) 3 :=
  cell_at (coff61 t) _ _
set_option synthInstance.maxSize 4096 in
theorem coff62 : ∀ t : Fin grid0.N, k0_off62 (grid0.coords t) = ![(Ring.sl 2 (t.val + 1)).val, 3, 0, 0] := by decide +kernel
@[sl_canon] theorem canon62 (t : Fin grid0.N) (h : k0_cond6 (grid0.coords t) = 1#1) :
    (stg.slice (Rect.unit (s := S2x4x512x256) (k0_off62 (grid0.coords t)) S1x1x512x256.size (k0_off62_inb (grid0.coords t) h)) (fun _ => rfl)).squeeze S512x256 squeezes_S1x1x512x256_S512x256 = rpart (Ring.sl 2 (t.val + 1)) 3 :=
  part_at (coff62 t) _ _
set_option synthInstance.maxSize 4096 in
theorem coff56_3 : ∀ t : Fin grid0.N, k0_off56 (grid0.coords t) 48#32 = ![0, 512 * ((t.val + 9) % 8), 256 * ((t.val + 9) / 8 % 16) + 4096 * 3] := by decide +kernel
@[sl_canon] theorem canon56_3 (t : Fin grid0.N) (h : k0_cond6 (grid0.coords t) = 1#1) :
    (wM.slice (Rect.unit (s := S1x4096x16384) (k0_off56 (grid0.coords t) 48#32) S1x512x256.size (k0_off56_inb (grid0.coords t) h 3)) (fun _ => rfl)).squeeze S512x256 squeezes_S1x512x256_S512x256 = srcB (t.val + 9) 3 :=
  slab_at (coff56_3 t) _ _
end Canon

end Cert.KernelIdeal.Own

end
-- ==== Proof.Spec.lean ====
module

public import proofs.«01_k».proof.Proof.Ring
public import Idealize.ShloMosaic.Lib.ValueLayout
public import Idealize.ShloMosaic.Lib.WritesUnit
public import Idealize.ShloMosaic.Lib.VecWindow
public import Idealize.ShloMosaic.Lib.Pipeline.Value
public import Idealize.ShloMosaic.Lib.Tactic.Stretches

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## What the buffers hold -/

/-- The index of the weights' element at row `y 0` and column `y 1` of column block `jj`: four groups of 256 columns. -/
def wIdx (jj : ℕ) (y : S4096x1024.Idx) : S1x4096x16384.Idx :=
  ix3 (⟨0, Nat.one_pos⟩ : Fin 1) ⟨(y 0).val, (y 0).isLt⟩
    ⟨256 * (jj % 16) + 4096 * ((y 1).val / 256) + (y 1).val % 256, by
      have h := (y 1).isLt; have : S4096x1024.size 1 = 1024 := rfl
      have := Nat.mod_lt jj (by decide : 0 < 16); have := Nat.mod_lt (y 1).val (by decide : 0 < 256); omega⟩

section Spec
variable (c : Dev nD) (W : HbBuf (F := F) c wM)

/-- Column block `jj` of the weights, narrowed. -/
def wcols (jj : ℕ) : Vec F S4096x1024 .bf16 := fun y => FloatOps.truncf .bf16 bitsLt_bf16_f32 (W (wIdx jj y))

/-- The contents after slab `b` is put in: its 512 rows are those of its column block. -/
def castIn (b : ℕ) (D : Vec F S4096x1024 .bf16) : Vec F S4096x1024 .bf16 :=
  fun y => if 512 * (b % 8) ≤ (y 0).val ∧ (y 0).val < 512 * (b % 8) + 512 then wcols c W (b / 8) y else D y

/-- The output block of a point. -/
def outV (x : Vec F S1024x4096 .bf16) (C : Vec F S4096x1024 .bf16) (cw : Vec F S1x3x256 .f32) (H : Vec F S8x256 .f32) : Vec F S1024x256 .bf16 :=
  k0_pay4 (k0_pay47 x C) (k0_pay49 x C) (k0_pay50 x C) (k0_pay51 x C) cw H
/-- The rows a point carries to the next. -/
def histV (x : Vec F S1024x4096 .bf16) (C : Vec F S4096x1024 .bf16) : Vec F S8x256 .f32 := k0_pay3 (k0_pay49 x C) (k0_pay51 x C)

theorem inb_cast (r : ℕ) (hr : r + 512 ≤ 4096) (n : Fin 4) : ∀ a, (![r, 256 * n.val] : Fin 2 → Nat) a + S512x256.size a ≤ S4096x1024.size a := by
  have := n.isLt; intro a; fin_cases a <;> simp <;> omega

theorem src_read (b : ℕ) (n : Fin 4) (x : S512x256.Idx) (hi) :
    (srcB b n).view.read (Elt F) W x
      = W (wIdx (b / 8) ((Rect.unit (s := S4096x1024) ![512 * (b % 8), 256 * n.val] S512x256.size hi).emb x)) := by
  have hn := n.isLt
  have h0 : (x 0).val < 512 := (x 0).isLt
  have h1 : (x 1).val < 256 := (x 1).isLt
  show W ((srcB b n).view.emb x) = _
  refine congrArg W ?_
  show (Rect.unit (s := S1x4096x16384) ![0, 512 * (b % 8), 256 * (b / 8 % 16) + 4096 * n.val] S1x512x256.size (inb_src b n)).emb (Shape.reshapeEquiv _ x) = _
  conv_lhs => rw [eq_ix2 x]
  erw [reshapeEquiv_ix2_1ab]
  funext a
  apply Fin.ext
  fin_cases a
  · show 0 + 1 * 0 = 0
    omega
  · show 512 * (b % 8) + 1 * (x 0).val = 512 * (b % 8) + 1 * (x 0).val
    rfl
  · show 256 * (b / 8 % 16) + 4096 * n.val + 1 * (x 1).val = 256 * (b / 8 % 16) + 4096 * ((256 * n.val + 1 * (x 1).val) / 256) + (256 * n.val + 1 * (x 1).val) % 256
    omega

/-- A landed slab's part, read back and narrowed, is its rows of its column block. -/
theorem cast_piece (s : Fin 2) (n : Fin 4) (b : ℕ) (f : HbBuf (F := F) c (rpart s n)) (L) (off : Fin 4 → ℕ) (inb) (hoff : off = ![s.val, n.val, 0, 0]) (hc) (x : S512x256.Idx) (hi) :
    truncf .bf16 (shapeCast S512x256 (View.readAt (Elt F) stg.view (Rect.unit (s := S2x4x512x256) off S1x1x512x256.size inb).toLoadRect
      ((rpart s n).view.writes (Elt F) f (⟨Rect.whole S512x256, ReadAs.same.apply ((srcB b n).view.read (Elt F) W)⟩ :: L))) hc) bitsLt_bf16_f32 x
      = wcols c W (b / 8) ((Rect.unit (s := S4096x1024) ![512 * (b % 8), 256 * n.val] S512x256.size hi).emb x) := by
  subst hoff
  show FloatOps.truncf .bf16 bitsLt_bf16_f32 ((rpart s n).view.read (Elt F) ((rpart s n).view.writes (Elt F) ((rpart s n).view.writes (Elt F) f L) [⟨Rect.whole S512x256, ReadAs.same.apply ((srcB b n).view.read (Elt F) W)⟩]) x) = FloatOps.truncf .bf16 bitsLt_bf16_f32 _
  refine congrArg _ ?_
  exact (congrFun (View.read_writes_whole ..) x).trans (src_read c W b n x hi)

end Spec

theorem mem_cast (r k : ℕ) (inb) (y : S4096x1024.Idx) (h : r ≤ (y 0).val ∧ (y 0).val < r + 512) (g : k ≤ (y 1).val ∧ (y 1).val < k + 256) :
    y ∈ (Rect.unit (s := S4096x1024) ![r, k] S512x256.size inb).set := Rect.mem_set_unit.mpr (Fin.forall_fin_two.2 ⟨h, g⟩)

theorem of_mem_cast (r k : ℕ) (inb) (y : S4096x1024.Idx) (h : y ∈ (Rect.unit (s := S4096x1024) ![r, k] S512x256.size inb).set) :
    r ≤ (y 0).val ∧ (y 0).val < r + 512 := Rect.mem_set_unit.mp h 0

section Pieces
variable (M : Memref sig .tc .vmem S4096x1024 .bf16) (f : M.view.ty.Contents (Elt F)) (G : Vec F S4096x1024 .bf16)

theorem read_cast4 (r : ℕ) (hr : r + 512 ≤ 4096) (o0 o1 o2 o3 : Fin 2 → ℕ) (i0 i1 i2 i3) (p0 p1 p2 p3 : Vec F S512x256 .bf16)
    (h0 : o0 = ![r, 0]) (h1 : o1 = ![r, 256]) (h2 : o2 = ![r, 512]) (h3 : o3 = ![r, 768])
    (e0 : ∀ x hi, p0 x = G ((Rect.unit (s := S4096x1024) ![r, 256 * (0 : Fin 4).val] S512x256.size hi).emb x))
    (e1 : ∀ x hi, p1 x = G ((Rect.unit (s := S4096x1024) ![r, 256 * (1 : Fin 4).val] S512x256.size hi).emb x))
    (e2 : ∀ x hi, p2 x = G ((Rect.unit (s := S4096x1024) ![r, 256 * (2 : Fin 4).val] S512x256.size hi).emb x))
    (e3 : ∀ x hi, p3 x = G ((Rect.unit (s := S4096x1024) ![r, 256 * (3 : Fin 4).val] S512x256.size hi).emb x)) (L : List (View.Piece (Elt F) S4096x1024 .bf16)) (y : S4096x1024.Idx) :
    M.view.read (Elt F) (M.view.writes (Elt F) f (⟨Rect.unit (s := S4096x1024) o3 S512x256.size i3, p3⟩ :: ⟨Rect.unit (s := S4096x1024) o2 S512x256.size i2, p2⟩ :: ⟨Rect.unit (s := S4096x1024) o1 S512x256.size i1, p1⟩ :: ⟨Rect.unit (s := S4096x1024) o0 S512x256.size i0, p0⟩ :: L)) y
      = if r ≤ (y 0).val ∧ (y 0).val < r + 512 then G y else M.view.read (Elt F) (M.view.writes (Elt F) f L) y := by
  subst h0 h1 h2 h3
  have key : M.view.writes (Elt F) f (⟨Rect.unit (s := S4096x1024) ![r, 768] S512x256.size i3, p3⟩ :: ⟨Rect.unit (s := S4096x1024) ![r, 512] S512x256.size i2, p2⟩ :: ⟨Rect.unit (s := S4096x1024) ![r, 256] S512x256.size i1, p1⟩ :: ⟨Rect.unit (s := S4096x1024) ![r, 0] S512x256.size i0, p0⟩ :: L)
      = M.view.writes (Elt F) (M.view.writes (Elt F) f L) [⟨Rect.unit (s := S4096x1024) ![r, 768] S512x256.size i3, p3⟩, ⟨Rect.unit (s := S4096x1024) ![r, 512] S512x256.size i2, p2⟩, ⟨Rect.unit (s := S4096x1024) ![r, 256] S512x256.size i1, p1⟩, ⟨Rect.unit (s := S4096x1024) ![r, 0] S512x256.size i0, p0⟩] := rfl
  rw [key]
  have hy1 : (y 1).val < 1024 := (y 1).isLt
  split
  case isTrue h =>
    refine View.read_writes_apply_of_pieces M.view _ G _ ?_ y ?_
    · intro p hp x
      simp only [List.mem_cons, List.not_mem_nil, _root_.or_false] at hp
      rcases hp with rfl | rfl | rfl | rfl
      · exact e3 x i3
      · exact e2 x i2
      · exact e1 x i1
      · exact e0 x i0
    · rcases (by omega : (y 1).val < 256 ∨ (256 ≤ (y 1).val ∧ (y 1).val < 512) ∨ (512 ≤ (y 1).val ∧ (y 1).val < 768) ∨ 768 ≤ (y 1).val) with g | g | g | g
      · exact ⟨⟨Rect.unit (s := S4096x1024) ![r, 0] S512x256.size i0, p0⟩, by simp, mem_cast r 0 i0 y h (by omega)⟩
      · exact ⟨⟨Rect.unit (s := S4096x1024) ![r, 256] S512x256.size i1, p1⟩, by simp, mem_cast r 256 i1 y h (by omega)⟩
      · exact ⟨⟨Rect.unit (s := S4096x1024) ![r, 512] S512x256.size i2, p2⟩, by simp, mem_cast r 512 i2 y h (by omega)⟩
      · exact ⟨⟨Rect.unit (s := S4096x1024) ![r, 768] S512x256.size i3, p3⟩, by simp, mem_cast r 768 i3 y h (by omega)⟩
  case isFalse h =>
    refine View.read_writes_apply_of_forall_not_mem M.view _ y _ ?_
    intro p hp hm
    simp only [List.mem_cons, List.not_mem_nil, _root_.or_false] at hp
    apply h
    rcases hp with rfl | rfl | rfl | rfl
    · exact of_mem_cast r 768 i3 y hm
    · exact of_mem_cast r 512 i2 y hm
    · exact of_mem_cast r 256 i1 y hm
    · exact of_mem_cast r 0 i0 y hm

end Pieces

/-! ## The casts' payloads -/

section Pay
theorem pe1 (v : Vec F S1x1x512x256 .f32) : k0_pay1 v = truncf .bf16 (shapeCast S512x256 v shapeCasts_S1x1x512x256_S512x256) bitsLt_bf16_f32 := shapeCast_self _ _
theorem pe8 (v : Vec F S1x1x512x256 .f32) : k0_pay8 v = truncf .bf16 (shapeCast S512x256 v shapeCasts_S1x1x512x256_S512x256) bitsLt_bf16_f32 := shapeCast_self _ _
theorem pe9 (v : Vec F S1x1x512x256 .f32) : k0_pay9 v = truncf .bf16 (shapeCast S512x256 v shapeCasts_S1x1x512x256_S512x256) bitsLt_bf16_f32 := shapeCast_self _ _
theorem pe11 (v : Vec F S1x1x512x256 .f32) : k0_pay11 (k0_pay10 v) = truncf .bf16 (shapeCast S512x256 v shapeCasts_S1x1x512x256_S512x256) bitsLt_bf16_f32 := shapeCast_self _ _
theorem pe12 (v : Vec F S1x1x512x256 .f32) : k0_pay12 v = truncf .bf16 (shapeCast S512x256 v shapeCasts_S1x1x512x256_S512x256) bitsLt_bf16_f32 := shapeCast_self _ _
theorem pe13 (v : Vec F S1x1x512x256 .f32) : k0_pay13 v = truncf .bf16 (shapeCast S512x256 v shapeCasts_S1x1x512x256_S512x256) bitsLt_bf16_f32 := shapeCast_self _ _
theorem pe14 (v : Vec F S1x1x512x256 .f32) : k0_pay14 v = truncf .bf16 (shapeCast S512x256 v shapeCasts_S1x1x512x256_S512x256) bitsLt_bf16_f32 := shapeCast_self _ _
theorem pe15 (v : Vec F S1x1x512x256 .f32) : k0_pay15 v = truncf .bf16 (shapeCast S512x256 v shapeCasts_S1x1x512x256_S512x256) bitsLt_bf16_f32 := shapeCast_self _ _
theorem pe16 (v : Vec F S1x1x512x256 .f32) : k0_pay16 v = truncf .bf16 (shapeCast S512x256 v shapeCasts_S1x1x512x256_S512x256) bitsLt_bf16_f32 := shapeCast_self _ _
theorem pe17 (v : Vec F S1x1x512x256 .f32) : k0_pay17 v = truncf .bf16 (shapeCast S512x256 v shapeCasts_S1x1x512x256_S512x256) bitsLt_bf16_f32 := shapeCast_self _ _
theorem pe18 (v : Vec F S1x1x512x256 .f32) : k0_pay18 v = truncf .bf16 (shapeCast S512x256 v shapeCasts_S1x1x512x256_S512x256) bitsLt_bf16_f32 := shapeCast_self _ _
theorem pe19 (v : Vec F S1x1x512x256 .f32) : k0_pay19 v = truncf .bf16 (shapeCast S512x256 v shapeCasts_S1x1x512x256_S512x256) bitsLt_bf16_f32 := shapeCast_self _ _
theorem pe20 (v : Vec F S1x1x512x256 .f32) : k0_pay20 v = truncf .bf16 (shapeCast S512x256 v shapeCasts_S1x1x512x256_S512x256) bitsLt_bf16_f32 := shapeCast_self _ _
theorem pe21 (v : Vec F S1x1x512x256 .f32) : k0_pay21 v = truncf .bf16 (shapeCast S512x256 v shapeCasts_S1x1x512x256_S512x256) bitsLt_bf16_f32 := shapeCast_self _ _
theorem pe22 (v : Vec F S1x1x512x256 .f32) : k0_pay22 v = truncf .bf16 (shapeCast S512x256 v shapeCasts_S1x1x512x256_S512x256) bitsLt_bf16_f32 := shapeCast_self _ _
theorem pe23 (v : Vec F S1x1x512x256 .f32) : k0_pay23 v = truncf .bf16 (shapeCast S512x256 v shapeCasts_S1x1x512x256_S512x256) bitsLt_bf16_f32 := shapeCast_self _ _
theorem pe24 (v : Vec F S1x1x512x256 .f32) : k0_pay24 v = truncf .bf16 (shapeCast S512x256 v shapeCasts_S1x1x512x256_S512x256) bitsLt_bf16_f32 := shapeCast_self _ _
theorem pe25 (v : Vec F S1x1x512x256 .f32) : k0_pay25 v = truncf .bf16 (shapeCast S512x256 v shapeCasts_S1x1x512x256_S512x256) bitsLt_bf16_f32 := shapeCast_self _ _
theorem pe26 (v : Vec F S1x1x512x256 .f32) : k0_pay26 v = truncf .bf16 (shapeCast S512x256 v shapeCasts_S1x1x512x256_S512x256) bitsLt_bf16_f32 := shapeCast_self _ _
theorem pe27 (v : Vec F S1x1x512x256 .f32) : k0_pay27 v = truncf .bf16 (shapeCast S512x256 v shapeCasts_S1x1x512x256_S512x256) bitsLt_bf16_f32 := shapeCast_self _ _
theorem pe28 (v : Vec F S1x1x512x256 .f32) : k0_pay28 v = truncf .bf16 (shapeCast S512x256 v shapeCasts_S1x1x512x256_S512x256) bitsLt_bf16_f32 := shapeCast_self _ _
theorem pe29 (v : Vec F S1x1x512x256 .f32) : k0_pay29 v = truncf .bf16 (shapeCast S512x256 v shapeCasts_S1x1x512x256_S512x256) bitsLt_bf16_f32 := shapeCast_self _ _
theorem pe31 (v : Vec F S1x1x512x256 .f32) : k0_pay31 (k0_pay30 v) = truncf .bf16 (shapeCast S512x256 v shapeCasts_S1x1x512x256_S512x256) bitsLt_bf16_f32 := shapeCast_self _ _
theorem pe32 (v : Vec F S1x1x512x256 .f32) : k0_pay32 v = truncf .bf16 (shapeCast S512x256 v shapeCasts_S1x1x512x256_S512x256) bitsLt_bf16_f32 := shapeCast_self _ _
theorem pe33 (v : Vec F S1x1x512x256 .f32) : k0_pay33 v = truncf .bf16 (shapeCast S512x256 v shapeCasts_S1x1x512x256_S512x256) bitsLt_bf16_f32 := shapeCast_self _ _
theorem pe34 (v : Vec F S1x1x512x256 .f32) : k0_pay34 v = truncf .bf16 (shapeCast S512x256 v shapeCasts_S1x1x512x256_S512x256) bitsLt_bf16_f32 := shapeCast_self _ _
theorem pe35 (v : Vec F S1x1x512x256 .f32) : k0_pay35 v = truncf .bf16 (shapeCast S512x256 v shapeCasts_S1x1x512x256_S512x256) bitsLt_bf16_f32 := shapeCast_self _ _
theorem pe37 (v : Vec F S1x1x512x256 .f32) : k0_pay37 (k0_pay36 v) = truncf .bf16 (shapeCast S512x256 v shapeCasts_S1x1x512x256_S512x256) bitsLt_bf16_f32 := shapeCast_self _ _
theorem pe38 (v : Vec F S1x1x512x256 .f32) : k0_pay38 v = truncf .bf16 (shapeCast S512x256 v shapeCasts_S1x1x512x256_S512x256) bitsLt_bf16_f32 := shapeCast_self _ _
theorem pe39 (v : Vec F S1x1x512x256 .f32) : k0_pay39 v = truncf .bf16 (shapeCast S512x256 v shapeCasts_S1x1x512x256_S512x256) bitsLt_bf16_f32 := shapeCast_self _ _
theorem pe40 (v : Vec F S1x1x512x256 .f32) : k0_pay40 v = truncf .bf16 (shapeCast S512x256 v shapeCasts_S1x1x512x256_S512x256) bitsLt_bf16_f32 := shapeCast_self _ _
theorem pe41 (v : Vec F S1x1x512x256 .f32) : k0_pay41 v = truncf .bf16 (shapeCast S512x256 v shapeCasts_S1x1x512x256_S512x256) bitsLt_bf16_f32 := shapeCast_self _ _
theorem pe43 (v : Vec F S1x1x512x256 .f32) : k0_pay43 (k0_pay42 v) = truncf .bf16 (shapeCast S512x256 v shapeCasts_S1x1x512x256_S512x256) bitsLt_bf16_f32 := shapeCast_self _ _
theorem pe44 (v : Vec F S1x1x512x256 .f32) : k0_pay44 v = truncf .bf16 (shapeCast S512x256 v shapeCasts_S1x1x512x256_S512x256) bitsLt_bf16_f32 := shapeCast_self _ _
theorem pe45 (v : Vec F S1x1x512x256 .f32) : k0_pay45 v = truncf .bf16 (shapeCast S512x256 v shapeCasts_S1x1x512x256_S512x256) bitsLt_bf16_f32 := shapeCast_self _ _
theorem pe46 (v : Vec F S1x1x512x256 .f32) : k0_pay46 v = truncf .bf16 (shapeCast S512x256 v shapeCasts_S1x1x512x256_S512x256) bitsLt_bf16_f32 := shapeCast_self _ _
theorem pe53 (v : Vec F S1x1x512x256 .f32) : k0_pay53 (k0_pay52 v) = truncf .bf16 (shapeCast S512x256 v shapeCasts_S1x1x512x256_S512x256) bitsLt_bf16_f32 := shapeCast_self _ _
theorem pe54 (v : Vec F S1x1x512x256 .f32) : k0_pay54 v = truncf .bf16 (shapeCast S512x256 v shapeCasts_S1x1x512x256_S512x256) bitsLt_bf16_f32 := shapeCast_self _ _
theorem pe55 (v : Vec F S1x1x512x256 .f32) : k0_pay55 v = truncf .bf16 (shapeCast S512x256 v shapeCasts_S1x1x512x256_S512x256) bitsLt_bf16_f32 := shapeCast_self _ _
theorem pe56 (v : Vec F S1x1x512x256 .f32) : k0_pay56 v = truncf .bf16 (shapeCast S512x256 v shapeCasts_S1x1x512x256_S512x256) bitsLt_bf16_f32 := shapeCast_self _ _
end Pay

section Whole
theorem ld2 {arg2 : Memref sig .tc .vmem S1024x4096 .bf16} (h : arg2.IsWhole) (x : Vec F S1024x4096 .bf16) (inb) :
    View.readAt (Elt F) arg2.view (Rect.unit (s := S1024x4096) ![0, 0] S1024x4096.size inb).toLoadRect (h.unread x) = x :=
  (View.readAt_full _ _ _).trans (h.read_unread x)
theorem ld4 {arg4 : Memref sig .tc .vmem S1x3x256 .f32} (h : arg4.IsWhole) (x : Vec F S1x3x256 .f32) (inb) :
    View.readAt (Elt F) arg4.view (Rect.unit (s := S1x3x256) ![0, 0, 0] S1x3x256.size inb).toLoadRect (h.unread x) = x :=
  (View.readAt_full _ _ _).trans (h.read_unread x)
variable (c : Dev nD) (W : HbBuf (F := F) c wM)

theorem wread0 (g : HbBuf (F := F) c wbf0) : wbf0.view.read (Elt F) g = g := rfl
theorem wread1 (g : HbBuf (F := F) c wbf1) : wbf1.view.read (Elt F) g = g := rfl

/-- Slab `b`'s four pieces, written into buffer 0. -/
theorem writes_castIn0 (b : ℕ) (D : HbBuf (F := F) c wbf0) (o0 o1 o2 o3 : Fin 2 → ℕ) (i0 i1 i2 i3) (p0 p1 p2 p3 : Vec F S512x256 .bf16) (v0 v1 v2 v3 : Vec F S1x1x512x256 .f32)
    (h0 : o0 = ![512 * (b % 8), 0]) (h1 : o1 = ![512 * (b % 8), 256]) (h2 : o2 = ![512 * (b % 8), 512]) (h3 : o3 = ![512 * (b % 8), 768])
    (q0 : p0 = truncf .bf16 (shapeCast S512x256 v0 shapeCasts_S1x1x512x256_S512x256) bitsLt_bf16_f32)
    (e0 : ∀ x hi, truncf .bf16 (shapeCast S512x256 v0 shapeCasts_S1x1x512x256_S512x256) bitsLt_bf16_f32 x = wcols c W (b / 8) ((Rect.unit (s := S4096x1024) ![512 * (b % 8), 256 * (0 : Fin 4).val] S512x256.size hi).emb x))
    (q1 : p1 = truncf .bf16 (shapeCast S512x256 v1 shapeCasts_S1x1x512x256_S512x256) bitsLt_bf16_f32)
    (e1 : ∀ x hi, truncf .bf16 (shapeCast S512x256 v1 shapeCasts_S1x1x512x256_S512x256) bitsLt_bf16_f32 x = wcols c W (b / 8) ((Rect.unit (s := S4096x1024) ![512 * (b % 8), 256 * (1 : Fin 4).val] S512x256.size hi).emb x))
    (q2 : p2 = truncf .bf16 (shapeCast S512x256 v2 shapeCasts_S1x1x512x256_S512x256) bitsLt_bf16_f32)
    (e2 : ∀ x hi, truncf .bf16 (shapeCast S512x256 v2 shapeCasts_S1x1x512x256_S512x256) bitsLt_bf16_f32 x = wcols c W (b / 8) ((Rect.unit (s := S4096x1024) ![512 * (b % 8), 256 * (2 : Fin 4).val] S512x256.size hi).emb x))
    (q3 : p3 = truncf .bf16 (shapeCast S512x256 v3 shapeCasts_S1x1x512x256_S512x256) bitsLt_bf16_f32)
    (e3 : ∀ x hi, truncf .bf16 (shapeCast S512x256 v3 shapeCasts_S1x1x512x256_S512x256) bitsLt_bf16_f32 x = wcols c W (b / 8) ((Rect.unit (s := S4096x1024) ![512 * (b % 8), 256 * (3 : Fin 4).val] S512x256.size hi).emb x)) :
    wbf0.view.writes (Elt F) D [⟨Rect.unit (s := S4096x1024) o3 S512x256.size i3, p3⟩, ⟨Rect.unit (s := S4096x1024) o2 S512x256.size i2, p2⟩, ⟨Rect.unit (s := S4096x1024) o1 S512x256.size i1, p1⟩, ⟨Rect.unit (s := S4096x1024) o0 S512x256.size i0, p0⟩]
      = castIn c W b D := by
  funext y
  have h := read_cast4 wbf0 D (wcols c W (b / 8)) (512 * (b % 8)) (by have := Nat.mod_lt b (by decide : 0 < 8); omega) o0 o1 o2 o3 i0 i1 i2 i3 p0 p1 p2 p3 h0 h1 h2 h3 (fun x hi => (congrFun q0 x).trans (e0 x hi)) (fun x hi => (congrFun q1 x).trans (e1 x hi)) (fun x hi => (congrFun q2 x).trans (e2 x hi)) (fun x hi => (congrFun q3 x).trans (e3 x hi)) [] y
  rw [View.writes_nil] at h
  refine (congrFun (wread0 c _) y).symm.trans (h.trans ?_)
  unfold castIn
  rw [wread0]

/-- Slab `b`'s four pieces, written into buffer 1. -/
theorem writes_castIn1 (b : ℕ) (D : HbBuf (F := F) c wbf1) (o0 o1 o2 o3 : Fin 2 → ℕ) (i0 i1 i2 i3) (p0 p1 p2 p3 : Vec F S512x256 .bf16) (v0 v1 v2 v3 : Vec F S1x1x512x256 .f32)
    (h0 : o0 = ![512 * (b % 8), 0]) (h1 : o1 = ![512 * (b % 8), 256]) (h2 : o2 = ![512 * (b % 8), 512]) (h3 : o3 = ![512 * (b % 8), 768])
    (q0 : p0 = truncf .bf16 (shapeCast S512x256 v0 shapeCasts_S1x1x512x256_S512x256) bitsLt_bf16_f32)
    (e0 : ∀ x hi, truncf .bf16 (shapeCast S512x256 v0 shapeCasts_S1x1x512x256_S512x256) bitsLt_bf16_f32 x = wcols c W (b / 8) ((Rect.unit (s := S4096x1024) ![512 * (b % 8), 256 * (0 : Fin 4).val] S512x256.size hi).emb x))
    (q1 : p1 = truncf .bf16 (shapeCast S512x256 v1 shapeCasts_S1x1x512x256_S512x256) bitsLt_bf16_f32)
    (e1 : ∀ x hi, truncf .bf16 (shapeCast S512x256 v1 shapeCasts_S1x1x512x256_S512x256) bitsLt_bf16_f32 x = wcols c W (b / 8) ((Rect.unit (s := S4096x1024) ![512 * (b % 8), 256 * (1 : Fin 4).val] S512x256.size hi).emb x))
    (q2 : p2 = truncf .bf16 (shapeCast S512x256 v2 shapeCasts_S1x1x512x256_S512x256) bitsLt_bf16_f32)
    (e2 : ∀ x hi, truncf .bf16 (shapeCast S512x256 v2 shapeCasts_S1x1x512x256_S512x256) bitsLt_bf16_f32 x = wcols c W (b / 8) ((Rect.unit (s := S4096x1024) ![512 * (b % 8), 256 * (2 : Fin 4).val] S512x256.size hi).emb x))
    (q3 : p3 = truncf .bf16 (shapeCast S512x256 v3 shapeCasts_S1x1x512x256_S512x256) bitsLt_bf16_f32)
    (e3 : ∀ x hi, truncf .bf16 (shapeCast S512x256 v3 shapeCasts_S1x1x512x256_S512x256) bitsLt_bf16_f32 x = wcols c W (b / 8) ((Rect.unit (s := S4096x1024) ![512 * (b % 8), 256 * (3 : Fin 4).val] S512x256.size hi).emb x)) :
    wbf1.view.writes (Elt F) D [⟨Rect.unit (s := S4096x1024) o3 S512x256.size i3, p3⟩, ⟨Rect.unit (s := S4096x1024) o2 S512x256.size i2, p2⟩, ⟨Rect.unit (s := S4096x1024) o1 S512x256.size i1, p1⟩, ⟨Rect.unit (s := S4096x1024) o0 S512x256.size i0, p0⟩]
      = castIn c W b D := by
  funext y
  have h := read_cast4 wbf1 D (wcols c W (b / 8)) (512 * (b % 8)) (by have := Nat.mod_lt b (by decide : 0 < 8); omega) o0 o1 o2 o3 i0 i1 i2 i3 p0 p1 p2 p3 h0 h1 h2 h3 (fun x hi => (congrFun q0 x).trans (e0 x hi)) (fun x hi => (congrFun q1 x).trans (e1 x hi)) (fun x hi => (congrFun q2 x).trans (e2 x hi)) (fun x hi => (congrFun q3 x).trans (e3 x hi)) [] y
  rw [View.writes_nil] at h
  refine (congrFun (wread1 c _) y).symm.trans (h.trans ?_)
  unfold castIn
  rw [wread1]

theorem outV_of {x' x : Vec F S1024x4096 .bf16} {C' C : Vec F S4096x1024 .bf16} {cw' cw : Vec F S1x3x256 .f32} {H' H : Vec F S8x256 .f32}
    (hx : x' = x) (hC : C' = C) (hw : cw' = cw) (hH : H' = H) :
    k0_pay4 (k0_pay47 x' C') (k0_pay49 x' C') (k0_pay50 x' C') (k0_pay51 x' C') cw' H' = outV x C cw H := by subst hx hC hw hH; rfl
theorem histV_of {x' x : Vec F S1024x4096 .bf16} {C' C : Vec F S4096x1024 .bf16} (hx : x' = x) (hC : C' = C) :
    k0_pay3 (k0_pay49 x' C') (k0_pay51 x' C') = histV x C := by subst hx hC; rfl
theorem outV_of' {x' x : Vec F S1024x4096 .bf16} {C' C : Vec F S4096x1024 .bf16} {cw' cw : Vec F S1x3x256 .f32} {H' H : Vec F S8x256 .f32}
    (hx : x' = x) (hC : C' = C) (hw : cw' = cw) (hH : H' = H) :
    k0_pay7 (k0_pay57 x' C') (k0_pay59 x' C') (k0_pay60 x' C') (k0_pay61 x' C') cw' H' = outV x C cw H := by subst hx hC hw hH; rfl
theorem histV_of' {x' x : Vec F S1024x4096 .bf16} {C' C : Vec F S4096x1024 .bf16} (hx : x' = x) (hC : C' = C) :
    k0_pay6 (k0_pay59 x' C') (k0_pay61 x' C') = histV x C := by subst hx hC; rfl

theorem hist_writes (f : HbBuf (F := F) c hist) (inb) (w : Vec F S8x256 .f32) (L) :
    hist.view.writes (Elt F) f (⟨Rect.unit (s := S8x256) ![0, 0] S8x256.size inb, w⟩ :: L) = w := View.read_writes_full hist.view f inb w L

theorem hbPt_congr {sp : Space} {S : Shape} {e : EltTy} (M : Memref sig .tc sp S e) {f g : HbBuf (F := F) c M} (h : f = g) :
    hbPt (F := F) c M f ⊢ hbPt (F := F) c M g := by subst h; exact .rfl

theorem free_mk (s : Fin 2) (n : Fin 4) (b : ℕ) (f : HbBuf (F := F) c (rpart s n)) :
    iprop(cellP (F := F) c s n ∗ partP c s n f ∗ srcP c W s n b ∗ restP c W s n b) ⊢ freeP c W s n := by
  unfold freeP
  iintro ⟨Hc, Hp, Hs, Hr⟩
  isplitl [Hc]; · iexact Hc
  isplitl [Hp]; · iexists f; iexact Hp
  iapply (src_split c W s n b).2
  isplitl [Hs]; · iexact Hs
  iexact Hr

theorem infl_mk (s : Fin 2) (n : Fin 4) (b : ℕ) (f : HbBuf (F := F) c (rpart s n)) :
    iprop(flightP c W s n b f ∗ restP c W s n b) ⊢ inflP c W s n b := by
  unfold inflP
  iintro ⟨Hf, Hr⟩
  iexists f
  isplitl [Hf]; · iexact Hf
  iexact Hr
end Whole

end Cert.KernelIdeal.Own

end
-- ==== Proof.RunEN.lean ====
module

public import proofs.«01_k».proof.Proof.Spec

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runEN (c : Dev nD) (t : Fin cfg0.N) (arg2 : Memref sig .tc .vmem S1024x4096 .bf16) (harg2 : arg2.IsWhole) (arg4 : Memref sig .tc .vmem S1x3x256 .f32) (harg4 : arg4.IsWhole) (arg5 : Memref sig .tc .vmem S1024x256 .bf16) (harg5 : arg5.IsWhole)
    (hc1 : ¬k0_cond1 (grid0.coords t) = 1#1) (hc2 : k0_cond2 (grid0.coords t) = 1#1) (hc4 : ¬k0_cond4 (grid0.coords t) = 1#1) (hc6 : ¬k0_cond6 (grid0.coords t) = 1#1) (hcZ : ¬condZ (grid0.coords t))
    (x : Vec F S1024x4096 .bf16) (cw : Vec F S1x3x256 .f32) (W : HbBuf (F := F) c wM) (C : HbBuf (F := F) c wbf0) (D : HbBuf (F := F) c wbf1) (H : HbBuf (F := F) c hist) (Q : sProp 𝕄)
    (hQ : iprop(owns (c : Thread nD τ) arg2 fullShare x ∗ owns (c : Thread nD τ) arg4 fullShare cw ∗ owns (c : Thread nD τ) arg5 fullShare (outV x C cw H)
                ∗ hbPt c wbf0 C ∗ hbPt c wbf1 (castIn c W (t.val + 8) D) ∗ hbPt c hist (histV x C)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare cw ∗ (∃ d, owns (c : Thread nD τ) arg5 fullShare d)
            ∗ hbPt c wbf0 C ∗ hbPt c wbf1 D ∗ hbPt c hist H ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_shortconv (grid0.coords t) arg2 harg2 (Memref.whole main_arg1) (Memref.isWhole_whole _) arg4 harg4 arg5 harg5 wbf0 (Memref.isWhole_whole _) wbf1 (Memref.isWhole_whole _) stg (Memref.isWhole_whole _) cc0_scratch3 hist (Memref.isWhole_whole _)) K := by
    intro Ws K
    haveI : Fact (¬k0_cond1 (grid0.coords t) = 1#1) := ⟨hc1⟩
    haveI : Fact (k0_cond2 (grid0.coords t) = 1#1) := ⟨hc2⟩
    haveI : Fact (¬k0_cond4 (grid0.coords t) = 1#1) := ⟨hc4⟩
    haveI : Fact (¬k0_cond6 (grid0.coords t) = 1#1) := ⟨hc6⟩
    haveI : Fact (¬condZ (grid0.coords t)) := ⟨hcZ⟩
    simp only [cc0_shortconv_eq_skeleton]; unfold cc0_shortconv_skel
    simp -proj only [k0_part33_eq_skeleton, k0_part34_eq_skeleton, k0_part35_eq_skeleton, k0_part36_eq_skeleton]
    unfold owns infl inflP free freeP
    iintro ⟨⟨%f2, %hf2, H2⟩, ⟨%f4, %hf4, H4⟩, ⟨%d5, %f5, -, H5⟩, HC, HD, HH, ⟨⟨%g0, Hf0, Hr0⟩, ⟨%g1, Hf1, Hr1⟩, ⟨%g2, Hf2, Hr2⟩, ⟨%g3, Hf3, Hr3⟩⟩, ⟨⟨Hc0, ⟨%e0, Hs0⟩, Hw0⟩, ⟨Hc1, ⟨%e1, Hs1⟩, Hw1⟩, ⟨Hc2, ⟨%e2, Hs2⟩, Hw2⟩, ⟨Hc3, ⟨%e3, Hs3⟩, Hw3⟩⟩, HW, Hk⟩
    ihave Hx := (src_split c W (Ring.sl 2 (t.val + 1)) 0 (t.val + 9)).1 $$ Hw0
    icases Hx with ⟨Hh0, Hk0⟩
    ihave Hx := (src_split c W (Ring.sl 2 (t.val + 1)) 1 (t.val + 9)).1 $$ Hw1
    icases Hx with ⟨Hh1, Hk1⟩
    ihave Hx := (src_split c W (Ring.sl 2 (t.val + 1)) 2 (t.val + 9)).1 $$ Hw2
    icases Hx with ⟨Hh2, Hk2⟩
    ihave Hx := (src_split c W (Ring.sl 2 (t.val + 1)) 3 (t.val + 9)).1 $$ Hw3
    icases Hx with ⟨Hh3, Hk3⟩
    obtain rfl := harg2.eq_unread hf2
    obtain rfl := harg4.eq_unread hf4
    sl_exec (disch := first | sl_exact hc1 | sl_exact hc2 | sl_exact hc4 | sl_exact hc6 | sl_exact hcZ)
    sl_open_run
    ihave HD := (hbPt_congr c wbf1 (writes_castIn1 c W (t.val + 8) _ _ _ _ _ _ _ _ _ _ _ _ _ _ _ _ _
      ((coff21 t).trans (by rw [Nat.add_mod_right]))
      ((coff23 t).trans (by rw [Nat.add_mod_right]))
      ((coff25 t).trans (by rw [Nat.add_mod_right]))
      ((coff27 t).trans (by rw [Nat.add_mod_right]))
      (pe43 _) (cast_piece c W (Ring.sl 2 t.val) 0 (t.val + 8) _ [] _ _ (coff20 t) _)
      (pe44 _) (cast_piece c W (Ring.sl 2 t.val) 1 (t.val + 8) _ [] _ _ (coff22 t) _)
      (pe45 _) (cast_piece c W (Ring.sl 2 t.val) 2 (t.val + 8) _ [] _ _ (coff24 t) _)
      (pe46 _) (cast_piece c W (Ring.sl 2 t.val) 3 (t.val + 8) _ [] _ _ (coff26 t) _))) $$ HD
    sl_step
    iapply Hk
    iapply hQ
    isplitl [H2]
    · unfold owns; iexists _; isplitr
      · ipureintro; exact harg2.read_unread x
      · iexact H2
    isplitl [H4]
    · unfold owns; iexists _; isplitr
      · ipureintro; exact harg4.read_unread cw
      · iexact H4
    isplitl [H5]
    · unfold owns; iexists _; isplitr
      swap; · iexact H5
      ipureintro
      refine (View.read_writes_full _ _ _ _ _).trans (outV_of ?_ ?_ ?_ ?_)
      · exact ld2 harg2 x _
      · exact View.readAt_full _ _ _
      · exact ld4 harg4 cw _
      · exact View.readAt_full _ _ _
    isplitl [HC]; · iexact HC
    isplitl [HD]; · iexact HD
    isplitl [HH]
    · iapply (hbPt_congr c hist ((hist_writes c _ _ _ _).trans (histV_of ?_ ?_))) $$ HH
      · exact ld2 harg2 x _
      · exact View.readAt_full _ _ _
    isplitl [Hc0 Hc1 Hc2 Hc3 Hk0 Hk1 Hk2 Hk3]
    · unfold infl
      isplitl [Hc0 Hk0]
      · iapply (infl_mk c W (Ring.sl 2 (t.val + 1)) 0 _ _); isplitl [Hc0]; · iexact Hc0
        iexact Hk0
      isplitl [Hc1 Hk1]
      · iapply (infl_mk c W (Ring.sl 2 (t.val + 1)) 1 _ _); isplitl [Hc1]; · iexact Hc1
        iexact Hk1
      isplitl [Hc2 Hk2]
      · iapply (infl_mk c W (Ring.sl 2 (t.val + 1)) 2 _ _); isplitl [Hc2]; · iexact Hc2
        iexact Hk2
      iapply (infl_mk c W (Ring.sl 2 (t.val + 1)) 3 _ _); isplitl [Hc3]; · iexact Hc3
      iexact Hk3
    isplitl [Hf0 Hf1 Hf2 Hf3 Hf0_dst Hf1_dst Hf2_dst Hf3_dst Hf0_src Hf1_src Hf2_src Hf3_src Hr0 Hr1 Hr2 Hr3]
    · unfold free
      isplitl [Hf0 Hf0_dst Hf0_src Hr0]
      · iapply (free_mk c W (Ring.sl 2 t.val) 0 _ _)
        isplitl [Hf0]; · iexact Hf0
        isplitl [Hf0_dst]; · iexact Hf0_dst
        isplitl [Hf0_src]; · iexact Hf0_src
        iexact Hr0
      isplitl [Hf1 Hf1_dst Hf1_src Hr1]
      · iapply (free_mk c W (Ring.sl 2 t.val) 1 _ _)
        isplitl [Hf1]; · iexact Hf1
        isplitl [Hf1_dst]; · iexact Hf1_dst
        isplitl [Hf1_src]; · iexact Hf1_src
        iexact Hr1
      isplitl [Hf2 Hf2_dst Hf2_src Hr2]
      · iapply (free_mk c W (Ring.sl 2 t.val) 2 _ _)
        isplitl [Hf2]; · iexact Hf2
        isplitl [Hf2_dst]; · iexact Hf2_dst
        isplitl [Hf2_src]; · iexact Hf2_src
        iexact Hr2
      iapply (free_mk c W (Ring.sl 2 t.val) 3 _ _)
      isplitl [Hf3]; · iexact Hf3
      isplitl [Hf3_dst]; · iexact Hf3_dst
      isplitl [Hf3_src]; · iexact Hf3_src
      iexact Hr3
    iexists _; iexact HW

end Cert.KernelIdeal.Own

end
-- ==== Proof.RunEZ.lean ====
module

public import proofs.«01_k».proof.Proof.RunEN

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runEZ (c : Dev nD) (t : Fin cfg0.N) (arg2 : Memref sig .tc .vmem S1024x4096 .bf16) (harg2 : arg2.IsWhole) (arg4 : Memref sig .tc .vmem S1x3x256 .f32) (harg4 : arg4.IsWhole) (arg5 : Memref sig .tc .vmem S1024x256 .bf16) (harg5 : arg5.IsWhole)
    (hc1 : ¬k0_cond1 (grid0.coords t) = 1#1) (hc2 : k0_cond2 (grid0.coords t) = 1#1) (hc4 : ¬k0_cond4 (grid0.coords t) = 1#1) (hc6 : ¬k0_cond6 (grid0.coords t) = 1#1) (hcZ : condZ (grid0.coords t))
    (x : Vec F S1024x4096 .bf16) (cw : Vec F S1x3x256 .f32) (W : HbBuf (F := F) c wM) (C : HbBuf (F := F) c wbf0) (D : HbBuf (F := F) c wbf1) (H : HbBuf (F := F) c hist) (Q : sProp 𝕄)
    (hQ : iprop(owns (c : Thread nD τ) arg2 fullShare x ∗ owns (c : Thread nD τ) arg4 fullShare cw ∗ owns (c : Thread nD τ) arg5 fullShare (outV x C cw k0_pay48)
                ∗ hbPt c wbf0 C ∗ hbPt c wbf1 (castIn c W (t.val + 8) D) ∗ hbPt c hist (histV x C)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare cw ∗ (∃ d, owns (c : Thread nD τ) arg5 fullShare d)
            ∗ hbPt c wbf0 C ∗ hbPt c wbf1 D ∗ hbPt c hist H ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_shortconv (grid0.coords t) arg2 harg2 (Memref.whole main_arg1) (Memref.isWhole_whole _) arg4 harg4 arg5 harg5 wbf0 (Memref.isWhole_whole _) wbf1 (Memref.isWhole_whole _) stg (Memref.isWhole_whole _) cc0_scratch3 hist (Memref.isWhole_whole _)) K := by
    intro Ws K
    haveI : Fact (¬k0_cond1 (grid0.coords t) = 1#1) := ⟨hc1⟩
    haveI : Fact (k0_cond2 (grid0.coords t) = 1#1) := ⟨hc2⟩
    haveI : Fact (¬k0_cond4 (grid0.coords t) = 1#1) := ⟨hc4⟩
    haveI : Fact (¬k0_cond6 (grid0.coords t) = 1#1) := ⟨hc6⟩
    haveI : Fact (condZ (grid0.coords t)) := ⟨hcZ⟩
    simp only [cc0_shortconv_eq_skeleton]; unfold cc0_shortconv_skel
    simp -proj only [k0_part33_eq_skeleton, k0_part34_eq_skeleton, k0_part35_eq_skeleton, k0_part36_eq_skeleton]
    unfold owns infl inflP free freeP
    iintro ⟨⟨%f2, %hf2, H2⟩, ⟨%f4, %hf4, H4⟩, ⟨%d5, %f5, -, H5⟩, HC, HD, HH, ⟨⟨%g0, Hf0, Hr0⟩, ⟨%g1, Hf1, Hr1⟩, ⟨%g2, Hf2, Hr2⟩, ⟨%g3, Hf3, Hr3⟩⟩, ⟨⟨Hc0, ⟨%e0, Hs0⟩, Hw0⟩, ⟨Hc1, ⟨%e1, Hs1⟩, Hw1⟩, ⟨Hc2, ⟨%e2, Hs2⟩, Hw2⟩, ⟨Hc3, ⟨%e3, Hs3⟩, Hw3⟩⟩, HW, Hk⟩
    ihave Hx := (src_split c W (Ring.sl 2 (t.val + 1)) 0 (t.val + 9)).1 $$ Hw0
    icases Hx with ⟨Hh0, Hk0⟩
    ihave Hx := (src_split c W (Ring.sl 2 (t.val + 1)) 1 (t.val + 9)).1 $$ Hw1
    icases Hx with ⟨Hh1, Hk1⟩
    ihave Hx := (src_split c W (Ring.sl 2 (t.val + 1)) 2 (t.val + 9)).1 $$ Hw2
    icases Hx with ⟨Hh2, Hk2⟩
    ihave Hx := (src_split c W (Ring.sl 2 (t.val + 1)) 3 (t.val + 9)).1 $$ Hw3
    icases Hx with ⟨Hh3, Hk3⟩
    obtain rfl := harg2.eq_unread hf2
    obtain rfl := harg4.eq_unread hf4
    sl_exec (disch := first | sl_exact hc1 | sl_exact hc2 | sl_exact hc4 | sl_exact hc6 | sl_exact hcZ)
    sl_open_run
    ihave HD := (hbPt_congr c wbf1 (writes_castIn1 c W (t.val + 8) _ _ _ _ _ _ _ _ _ _ _ _ _ _ _ _ _
      ((coff21 t).trans (by rw [Nat.add_mod_right]))
      ((coff23 t).trans (by rw [Nat.add_mod_right]))
      ((coff25 t).trans (by rw [Nat.add_mod_right]))
      ((coff27 t).trans (by rw [Nat.add_mod_right]))
      (pe43 _) (cast_piece c W (Ring.sl 2 t.val) 0 (t.val + 8) _ [] _ _ (coff20 t) _)
      (pe44 _) (cast_piece c W (Ring.sl 2 t.val) 1 (t.val + 8) _ [] _ _ (coff22 t) _)
      (pe45 _) (cast_piece c W (Ring.sl 2 t.val) 2 (t.val + 8) _ [] _ _ (coff24 t) _)
      (pe46 _) (cast_piece c W (Ring.sl 2 t.val) 3 (t.val + 8) _ [] _ _ (coff26 t) _))) $$ HD
    sl_step
    iapply Hk
    iapply hQ
    isplitl [H2]
    · unfold owns; iexists _; isplitr
      · ipureintro; exact harg2.read_unread x
      · iexact H2
    isplitl [H4]
    · unfold owns; iexists _; isplitr
      · ipureintro; exact harg4.read_unread cw
      · iexact H4
    isplitl [H5]
    · unfold owns; iexists _; isplitr
      swap; · iexact H5
      ipureintro
      refine (View.read_writes_full _ _ _ _ _).trans (outV_of ?_ ?_ ?_ ?_)
      · exact ld2 harg2 x _
      · exact View.readAt_full _ _ _
      · exact ld4 harg4 cw _
      · exact View.readAt_writes_full _ _ _ _ _ _
    isplitl [HC]; · iexact HC
    isplitl [HD]; · iexact HD
    isplitl [HH]
    · iapply (hbPt_congr c hist ((hist_writes c _ _ _ _).trans (histV_of ?_ ?_))) $$ HH
      · exact ld2 harg2 x _
      · exact View.readAt_full _ _ _
    isplitl [Hc0 Hc1 Hc2 Hc3 Hk0 Hk1 Hk2 Hk3]
    · unfold infl
      isplitl [Hc0 Hk0]
      · iapply (infl_mk c W (Ring.sl 2 (t.val + 1)) 0 _ _); isplitl [Hc0]; · iexact Hc0
        iexact Hk0
      isplitl [Hc1 Hk1]
      · iapply (infl_mk c W (Ring.sl 2 (t.val + 1)) 1 _ _); isplitl [Hc1]; · iexact Hc1
        iexact Hk1
      isplitl [Hc2 Hk2]
      · iapply (infl_mk c W (Ring.sl 2 (t.val + 1)) 2 _ _); isplitl [Hc2]; · iexact Hc2
        iexact Hk2
      iapply (infl_mk c W (Ring.sl 2 (t.val + 1)) 3 _ _); isplitl [Hc3]; · iexact Hc3
      iexact Hk3
    isplitl [Hf0 Hf1 Hf2 Hf3 Hf0_dst Hf1_dst Hf2_dst Hf3_dst Hf0_src Hf1_src Hf2_src Hf3_src Hr0 Hr1 Hr2 Hr3]
    · unfold free
      isplitl [Hf0 Hf0_dst Hf0_src Hr0]
      · iapply (free_mk c W (Ring.sl 2 t.val) 0 _ _)
        isplitl [Hf0]; · iexact Hf0
        isplitl [Hf0_dst]; · iexact Hf0_dst
        isplitl [Hf0_src]; · iexact Hf0_src
        iexact Hr0
      isplitl [Hf1 Hf1_dst Hf1_src Hr1]
      · iapply (free_mk c W (Ring.sl 2 t.val) 1 _ _)
        isplitl [Hf1]; · iexact Hf1
        isplitl [Hf1_dst]; · iexact Hf1_dst
        isplitl [Hf1_src]; · iexact Hf1_src
        iexact Hr1
      isplitl [Hf2 Hf2_dst Hf2_src Hr2]
      · iapply (free_mk c W (Ring.sl 2 t.val) 2 _ _)
        isplitl [Hf2]; · iexact Hf2
        isplitl [Hf2_dst]; · iexact Hf2_dst
        isplitl [Hf2_src]; · iexact Hf2_src
        iexact Hr2
      iapply (free_mk c W (Ring.sl 2 t.val) 3 _ _)
      isplitl [Hf3]; · iexact Hf3
      isplitl [Hf3_dst]; · iexact Hf3_dst
      isplitl [Hf3_src]; · iexact Hf3_src
      iexact Hr3
    iexists _; iexact HW

end Cert.KernelIdeal.Own

end
-- ==== Proof.RunON.lean ====
module

public import proofs.«01_k».proof.Proof.RunEZ

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runON (c : Dev nD) (t : Fin cfg0.N) (arg2 : Memref sig .tc .vmem S1024x4096 .bf16) (harg2 : arg2.IsWhole) (arg4 : Memref sig .tc .vmem S1x3x256 .f32) (harg4 : arg4.IsWhole) (arg5 : Memref sig .tc .vmem S1024x256 .bf16) (harg5 : arg5.IsWhole)
    (hc1 : ¬k0_cond1 (grid0.coords t) = 1#1) (hc2 : ¬k0_cond2 (grid0.coords t) = 1#1) (hc4 : k0_cond4 (grid0.coords t) = 1#1) (hc6 : ¬k0_cond6 (grid0.coords t) = 1#1) (hcZ : ¬condZ (grid0.coords t))
    (x : Vec F S1024x4096 .bf16) (cw : Vec F S1x3x256 .f32) (W : HbBuf (F := F) c wM) (C : HbBuf (F := F) c wbf1) (D : HbBuf (F := F) c wbf0) (H : HbBuf (F := F) c hist) (Q : sProp 𝕄)
    (hQ : iprop(owns (c : Thread nD τ) arg2 fullShare x ∗ owns (c : Thread nD τ) arg4 fullShare cw ∗ owns (c : Thread nD τ) arg5 fullShare (outV x C cw H)
                ∗ hbPt c wbf1 C ∗ hbPt c wbf0 (castIn c W (t.val + 8) D) ∗ hbPt c hist (histV x C)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare cw ∗ (∃ d, owns (c : Thread nD τ) arg5 fullShare d)
            ∗ hbPt c wbf1 C ∗ hbPt c wbf0 D ∗ hbPt c hist H ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_shortconv (grid0.coords t) arg2 harg2 (Memref.whole main_arg1) (Memref.isWhole_whole _) arg4 harg4 arg5 harg5 wbf0 (Memref.isWhole_whole _) wbf1 (Memref.isWhole_whole _) stg (Memref.isWhole_whole _) cc0_scratch3 hist (Memref.isWhole_whole _)) K := by
    intro Ws K
    haveI : Fact (¬k0_cond1 (grid0.coords t) = 1#1) := ⟨hc1⟩
    haveI : Fact (¬k0_cond2 (grid0.coords t) = 1#1) := ⟨hc2⟩
    haveI : Fact (k0_cond4 (grid0.coords t) = 1#1) := ⟨hc4⟩
    haveI : Fact (¬k0_cond6 (grid0.coords t) = 1#1) := ⟨hc6⟩
    haveI : Fact (¬condZ (grid0.coords t)) := ⟨hcZ⟩
    simp only [cc0_shortconv_eq_skeleton]; unfold cc0_shortconv_skel
    simp -proj only [k0_part37_eq_skeleton, k0_part38_eq_skeleton, k0_part39_eq_skeleton, k0_part40_eq_skeleton]
    unfold owns infl inflP free freeP
    iintro ⟨⟨%f2, %hf2, H2⟩, ⟨%f4, %hf4, H4⟩, ⟨%d5, %f5, -, H5⟩, HC, HD, HH, ⟨⟨%g0, Hf0, Hr0⟩, ⟨%g1, Hf1, Hr1⟩, ⟨%g2, Hf2, Hr2⟩, ⟨%g3, Hf3, Hr3⟩⟩, ⟨⟨Hc0, ⟨%e0, Hs0⟩, Hw0⟩, ⟨Hc1, ⟨%e1, Hs1⟩, Hw1⟩, ⟨Hc2, ⟨%e2, Hs2⟩, Hw2⟩, ⟨Hc3, ⟨%e3, Hs3⟩, Hw3⟩⟩, HW, Hk⟩
    ihave Hx := (src_split c W (Ring.sl 2 (t.val + 1)) 0 (t.val + 9)).1 $$ Hw0
    icases Hx with ⟨Hh0, Hk0⟩
    ihave Hx := (src_split c W (Ring.sl 2 (t.val + 1)) 1 (t.val + 9)).1 $$ Hw1
    icases Hx with ⟨Hh1, Hk1⟩
    ihave Hx := (src_split c W (Ring.sl 2 (t.val + 1)) 2 (t.val + 9)).1 $$ Hw2
    icases Hx with ⟨Hh2, Hk2⟩
    ihave Hx := (src_split c W (Ring.sl 2 (t.val + 1)) 3 (t.val + 9)).1 $$ Hw3
    icases Hx with ⟨Hh3, Hk3⟩
    obtain rfl := harg2.eq_unread hf2
    obtain rfl := harg4.eq_unread hf4
    sl_exec (disch := first | sl_exact hc1 | sl_exact hc2 | sl_exact hc4 | sl_exact hc6 | sl_exact hcZ)
    sl_open_run
    ihave HD := (hbPt_congr c wbf0 (writes_castIn0 c W (t.val + 8) _ _ _ _ _ _ _ _ _ _ _ _ _ _ _ _ _
      ((coff47 t).trans (by rw [Nat.add_mod_right]))
      ((coff49 t).trans (by rw [Nat.add_mod_right]))
      ((coff51 t).trans (by rw [Nat.add_mod_right]))
      ((coff53 t).trans (by rw [Nat.add_mod_right]))
      (pe53 _) (cast_piece c W (Ring.sl 2 t.val) 0 (t.val + 8) _ [] _ _ (coff46 t) _)
      (pe54 _) (cast_piece c W (Ring.sl 2 t.val) 1 (t.val + 8) _ [] _ _ (coff48 t) _)
      (pe55 _) (cast_piece c W (Ring.sl 2 t.val) 2 (t.val + 8) _ [] _ _ (coff50 t) _)
      (pe56 _) (cast_piece c W (Ring.sl 2 t.val) 3 (t.val + 8) _ [] _ _ (coff52 t) _))) $$ HD
    sl_step
    iapply Hk
    iapply hQ
    isplitl [H2]
    · unfold owns; iexists _; isplitr
      · ipureintro; exact harg2.read_unread x
      · iexact H2
    isplitl [H4]
    · unfold owns; iexists _; isplitr
      · ipureintro; exact harg4.read_unread cw
      · iexact H4
    isplitl [H5]
    · unfold owns; iexists _; isplitr
      swap; · iexact H5
      ipureintro
      refine (View.read_writes_full _ _ _ _ _).trans (outV_of' ?_ ?_ ?_ ?_)
      · exact ld2 harg2 x _
      · exact View.readAt_full _ _ _
      · exact ld4 harg4 cw _
      · exact View.readAt_full _ _ _
    isplitl [HC]; · iexact HC
    isplitl [HD]; · iexact HD
    isplitl [HH]
    · iapply (hbPt_congr c hist ((hist_writes c _ _ _ _).trans (histV_of' ?_ ?_))) $$ HH
      · exact ld2 harg2 x _
      · exact View.readAt_full _ _ _
    isplitl [Hc0 Hc1 Hc2 Hc3 Hk0 Hk1 Hk2 Hk3]
    · unfold infl
      isplitl [Hc0 Hk0]
      · iapply (infl_mk c W (Ring.sl 2 (t.val + 1)) 0 _ _); isplitl [Hc0]; · iexact Hc0
        iexact Hk0
      isplitl [Hc1 Hk1]
      · iapply (infl_mk c W (Ring.sl 2 (t.val + 1)) 1 _ _); isplitl [Hc1]; · iexact Hc1
        iexact Hk1
      isplitl [Hc2 Hk2]
      · iapply (infl_mk c W (Ring.sl 2 (t.val + 1)) 2 _ _); isplitl [Hc2]; · iexact Hc2
        iexact Hk2
      iapply (infl_mk c W (Ring.sl 2 (t.val + 1)) 3 _ _); isplitl [Hc3]; · iexact Hc3
      iexact Hk3
    isplitl [Hf0 Hf1 Hf2 Hf3 Hf0_dst Hf1_dst Hf2_dst Hf3_dst Hf0_src Hf1_src Hf2_src Hf3_src Hr0 Hr1 Hr2 Hr3]
    · unfold free
      isplitl [Hf0 Hf0_dst Hf0_src Hr0]
      · iapply (free_mk c W (Ring.sl 2 t.val) 0 _ _)
        isplitl [Hf0]; · iexact Hf0
        isplitl [Hf0_dst]; · iexact Hf0_dst
        isplitl [Hf0_src]; · iexact Hf0_src
        iexact Hr0
      isplitl [Hf1 Hf1_dst Hf1_src Hr1]
      · iapply (free_mk c W (Ring.sl 2 t.val) 1 _ _)
        isplitl [Hf1]; · iexact Hf1
        isplitl [Hf1_dst]; · iexact Hf1_dst
        isplitl [Hf1_src]; · iexact Hf1_src
        iexact Hr1
      isplitl [Hf2 Hf2_dst Hf2_src Hr2]
      · iapply (free_mk c W (Ring.sl 2 t.val) 2 _ _)
        isplitl [Hf2]; · iexact Hf2
        isplitl [Hf2_dst]; · iexact Hf2_dst
        isplitl [Hf2_src]; · iexact Hf2_src
        iexact Hr2
      iapply (free_mk c W (Ring.sl 2 t.val) 3 _ _)
      isplitl [Hf3]; · iexact Hf3
      isplitl [Hf3_dst]; · iexact Hf3_dst
      isplitl [Hf3_src]; · iexact Hf3_src
      iexact Hr3
    iexists _; iexact HW

end Cert.KernelIdeal.Own

end
-- ==== Proof.RunOZ.lean ====
module

public import proofs.«01_k».proof.Proof.RunON

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runOZ (c : Dev nD) (t : Fin cfg0.N) (arg2 : Memref sig .tc .vmem S1024x4096 .bf16) (harg2 : arg2.IsWhole) (arg4 : Memref sig .tc .vmem S1x3x256 .f32) (harg4 : arg4.IsWhole) (arg5 : Memref sig .tc .vmem S1024x256 .bf16) (harg5 : arg5.IsWhole)
    (hc1 : ¬k0_cond1 (grid0.coords t) = 1#1) (hc2 : ¬k0_cond2 (grid0.coords t) = 1#1) (hc4 : k0_cond4 (grid0.coords t) = 1#1) (hc6 : ¬k0_cond6 (grid0.coords t) = 1#1) (hcZ : condZ (grid0.coords t))
    (x : Vec F S1024x4096 .bf16) (cw : Vec F S1x3x256 .f32) (W : HbBuf (F := F) c wM) (C : HbBuf (F := F) c wbf1) (D : HbBuf (F := F) c wbf0) (H : HbBuf (F := F) c hist) (Q : sProp 𝕄)
    (hQ : iprop(owns (c : Thread nD τ) arg2 fullShare x ∗ owns (c : Thread nD τ) arg4 fullShare cw ∗ owns (c : Thread nD τ) arg5 fullShare (outV x C cw k0_pay48)
                ∗ hbPt c wbf1 C ∗ hbPt c wbf0 (castIn c W (t.val + 8) D) ∗ hbPt c hist (histV x C)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare cw ∗ (∃ d, owns (c : Thread nD τ) arg5 fullShare d)
            ∗ hbPt c wbf1 C ∗ hbPt c wbf0 D ∗ hbPt c hist H ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_shortconv (grid0.coords t) arg2 harg2 (Memref.whole main_arg1) (Memref.isWhole_whole _) arg4 harg4 arg5 harg5 wbf0 (Memref.isWhole_whole _) wbf1 (Memref.isWhole_whole _) stg (Memref.isWhole_whole _) cc0_scratch3 hist (Memref.isWhole_whole _)) K := by
    intro Ws K
    haveI : Fact (¬k0_cond1 (grid0.coords t) = 1#1) := ⟨hc1⟩
    haveI : Fact (¬k0_cond2 (grid0.coords t) = 1#1) := ⟨hc2⟩
    haveI : Fact (k0_cond4 (grid0.coords t) = 1#1) := ⟨hc4⟩
    haveI : Fact (¬k0_cond6 (grid0.coords t) = 1#1) := ⟨hc6⟩
    haveI : Fact (condZ (grid0.coords t)) := ⟨hcZ⟩
    simp only [cc0_shortconv_eq_skeleton]; unfold cc0_shortconv_skel
    simp -proj only [k0_part37_eq_skeleton, k0_part38_eq_skeleton, k0_part39_eq_skeleton, k0_part40_eq_skeleton]
    unfold owns infl inflP free freeP
    iintro ⟨⟨%f2, %hf2, H2⟩, ⟨%f4, %hf4, H4⟩, ⟨%d5, %f5, -, H5⟩, HC, HD, HH, ⟨⟨%g0, Hf0, Hr0⟩, ⟨%g1, Hf1, Hr1⟩, ⟨%g2, Hf2, Hr2⟩, ⟨%g3, Hf3, Hr3⟩⟩, ⟨⟨Hc0, ⟨%e0, Hs0⟩, Hw0⟩, ⟨Hc1, ⟨%e1, Hs1⟩, Hw1⟩, ⟨Hc2, ⟨%e2, Hs2⟩, Hw2⟩, ⟨Hc3, ⟨%e3, Hs3⟩, Hw3⟩⟩, HW, Hk⟩
    ihave Hx := (src_split c W (Ring.sl 2 (t.val + 1)) 0 (t.val + 9)).1 $$ Hw0
    icases Hx with ⟨Hh0, Hk0⟩
    ihave Hx := (src_split c W (Ring.sl 2 (t.val + 1)) 1 (t.val + 9)).1 $$ Hw1
    icases Hx with ⟨Hh1, Hk1⟩
    ihave Hx := (src_split c W (Ring.sl 2 (t.val + 1)) 2 (t.val + 9)).1 $$ Hw2
    icases Hx with ⟨Hh2, Hk2⟩
    ihave Hx := (src_split c W (Ring.sl 2 (t.val + 1)) 3 (t.val + 9)).1 $$ Hw3
    icases Hx with ⟨Hh3, Hk3⟩
    obtain rfl := harg2.eq_unread hf2
    obtain rfl := harg4.eq_unread hf4
    sl_exec (disch := first | sl_exact hc1 | sl_exact hc2 | sl_exact hc4 | sl_exact hc6 | sl_exact hcZ)
    sl_open_run
    ihave HD := (hbPt_congr c wbf0 (writes_castIn0 c W (t.val + 8) _ _ _ _ _ _ _ _ _ _ _ _ _ _ _ _ _
      ((coff47 t).trans (by rw [Nat.add_mod_right]))
      ((coff49 t).trans (by rw [Nat.add_mod_right]))
      ((coff51 t).trans (by rw [Nat.add_mod_right]))
      ((coff53 t).trans (by rw [Nat.add_mod_right]))
      (pe53 _) (cast_piece c W (Ring.sl 2 t.val) 0 (t.val + 8) _ [] _ _ (coff46 t) _)
      (pe54 _) (cast_piece c W (Ring.sl 2 t.val) 1 (t.val + 8) _ [] _ _ (coff48 t) _)
      (pe55 _) (cast_piece c W (Ring.sl 2 t.val) 2 (t.val + 8) _ [] _ _ (coff50 t) _)
      (pe56 _) (cast_piece c W (Ring.sl 2 t.val) 3 (t.val + 8) _ [] _ _ (coff52 t) _))) $$ HD
    sl_step
    iapply Hk
    iapply hQ
    isplitl [H2]
    · unfold owns; iexists _; isplitr
      · ipureintro; exact harg2.read_unread x
      · iexact H2
    isplitl [H4]
    · unfold owns; iexists _; isplitr
      · ipureintro; exact harg4.read_unread cw
      · iexact H4
    isplitl [H5]
    · unfold owns; iexists _; isplitr
      swap; · iexact H5
      ipureintro
      refine (View.read_writes_full _ _ _ _ _).trans (outV_of' ?_ ?_ ?_ ?_)
      · exact ld2 harg2 x _
      · exact View.readAt_full _ _ _
      · exact ld4 harg4 cw _
      · exact View.readAt_writes_full _ _ _ _ _ _
    isplitl [HC]; · iexact HC
    isplitl [HD]; · iexact HD
    isplitl [HH]
    · iapply (hbPt_congr c hist ((hist_writes c _ _ _ _).trans (histV_of' ?_ ?_))) $$ HH
      · exact ld2 harg2 x _
      · exact View.readAt_full _ _ _
    isplitl [Hc0 Hc1 Hc2 Hc3 Hk0 Hk1 Hk2 Hk3]
    · unfold infl
      isplitl [Hc0 Hk0]
      · iapply (infl_mk c W (Ring.sl 2 (t.val + 1)) 0 _ _); isplitl [Hc0]; · iexact Hc0
        iexact Hk0
      isplitl [Hc1 Hk1]
      · iapply (infl_mk c W (Ring.sl 2 (t.val + 1)) 1 _ _); isplitl [Hc1]; · iexact Hc1
        iexact Hk1
      isplitl [Hc2 Hk2]
      · iapply (infl_mk c W (Ring.sl 2 (t.val + 1)) 2 _ _); isplitl [Hc2]; · iexact Hc2
        iexact Hk2
      iapply (infl_mk c W (Ring.sl 2 (t.val + 1)) 3 _ _); isplitl [Hc3]; · iexact Hc3
      iexact Hk3
    isplitl [Hf0 Hf1 Hf2 Hf3 Hf0_dst Hf1_dst Hf2_dst Hf3_dst Hf0_src Hf1_src Hf2_src Hf3_src Hr0 Hr1 Hr2 Hr3]
    · unfold free
      isplitl [Hf0 Hf0_dst Hf0_src Hr0]
      · iapply (free_mk c W (Ring.sl 2 t.val) 0 _ _)
        isplitl [Hf0]; · iexact Hf0
        isplitl [Hf0_dst]; · iexact Hf0_dst
        isplitl [Hf0_src]; · iexact Hf0_src
        iexact Hr0
      isplitl [Hf1 Hf1_dst Hf1_src Hr1]
      · iapply (free_mk c W (Ring.sl 2 t.val) 1 _ _)
        isplitl [Hf1]; · iexact Hf1
        isplitl [Hf1_dst]; · iexact Hf1_dst
        isplitl [Hf1_src]; · iexact Hf1_src
        iexact Hr1
      isplitl [Hf2 Hf2_dst Hf2_src Hr2]
      · iapply (free_mk c W (Ring.sl 2 t.val) 2 _ _)
        isplitl [Hf2]; · iexact Hf2
        isplitl [Hf2_dst]; · iexact Hf2_dst
        isplitl [Hf2_src]; · iexact Hf2_src
        iexact Hr2
      iapply (free_mk c W (Ring.sl 2 t.val) 3 _ _)
      isplitl [Hf3]; · iexact Hf3
      isplitl [Hf3_dst]; · iexact Hf3_dst
      isplitl [Hf3_src]; · iexact Hf3_src
      iexact Hr3
    iexists _; iexact HW

end Cert.KernelIdeal.Own

end
-- ==== Proof.RunOL.lean ====
module

public import proofs.«01_k».proof.Proof.RunOZ

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runOL (c : Dev nD) (t : Fin cfg0.N) (arg2 : Memref sig .tc .vmem S1024x4096 .bf16) (harg2 : arg2.IsWhole) (arg4 : Memref sig .tc .vmem S1x3x256 .f32) (harg4 : arg4.IsWhole) (arg5 : Memref sig .tc .vmem S1024x256 .bf16) (harg5 : arg5.IsWhole)
    (hc1 : ¬k0_cond1 (grid0.coords t) = 1#1) (hc2 : ¬k0_cond2 (grid0.coords t) = 1#1) (hc4 : k0_cond4 (grid0.coords t) = 1#1) (hc6 : k0_cond6 (grid0.coords t) = 1#1) (hcZ : ¬condZ (grid0.coords t))
    (x : Vec F S1024x4096 .bf16) (cw : Vec F S1x3x256 .f32) (W : HbBuf (F := F) c wM) (C : HbBuf (F := F) c wbf1) (D : HbBuf (F := F) c wbf0) (H : HbBuf (F := F) c hist) (Q : sProp 𝕄)
    (hQ : iprop(owns (c : Thread nD τ) arg2 fullShare x ∗ owns (c : Thread nD τ) arg4 fullShare cw ∗ owns (c : Thread nD τ) arg5 fullShare (outV x C cw H)
                ∗ hbPt c wbf1 C ∗ hbPt c wbf0 (castIn c W (t.val + 8) D) ∗ hbPt c hist (histV x C)
                ∗ free c W (Ring.sl 2 (t.val + 1)) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare cw ∗ (∃ d, owns (c : Thread nD τ) arg5 fullShare d)
            ∗ hbPt c wbf1 C ∗ hbPt c wbf0 D ∗ hbPt c hist H ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_shortconv (grid0.coords t) arg2 harg2 (Memref.whole main_arg1) (Memref.isWhole_whole _) arg4 harg4 arg5 harg5 wbf0 (Memref.isWhole_whole _) wbf1 (Memref.isWhole_whole _) stg (Memref.isWhole_whole _) cc0_scratch3 hist (Memref.isWhole_whole _)) K := by
    intro Ws K
    haveI : Fact (¬k0_cond1 (grid0.coords t) = 1#1) := ⟨hc1⟩
    haveI : Fact (¬k0_cond2 (grid0.coords t) = 1#1) := ⟨hc2⟩
    haveI : Fact (k0_cond4 (grid0.coords t) = 1#1) := ⟨hc4⟩
    haveI : Fact (k0_cond6 (grid0.coords t) = 1#1) := ⟨hc6⟩
    haveI : Fact (¬condZ (grid0.coords t)) := ⟨hcZ⟩
    simp only [cc0_shortconv_eq_skeleton]; unfold cc0_shortconv_skel
    simp -proj only [k0_part37_eq_skeleton, k0_part38_eq_skeleton, k0_part39_eq_skeleton, k0_part40_eq_skeleton, k0_part41_eq_skeleton]
    unfold owns infl inflP free freeP
    iintro ⟨⟨%f2, %hf2, H2⟩, ⟨%f4, %hf4, H4⟩, ⟨%d5, %f5, -, H5⟩, HC, HD, HH, ⟨⟨%g0, Hf0, Hr0⟩, ⟨%g1, Hf1, Hr1⟩, ⟨%g2, Hf2, Hr2⟩, ⟨%g3, Hf3, Hr3⟩⟩, ⟨⟨Hc0, ⟨%e0, Hs0⟩, Hw0⟩, ⟨Hc1, ⟨%e1, Hs1⟩, Hw1⟩, ⟨Hc2, ⟨%e2, Hs2⟩, Hw2⟩, ⟨Hc3, ⟨%e3, Hs3⟩, Hw3⟩⟩, HW, Hk⟩
    ihave Hx := (src_split c W (Ring.sl 2 (t.val + 1)) 0 (t.val + 9)).1 $$ Hw0
    icases Hx with ⟨Hh0, Hk0⟩
    ihave Hx := (src_split c W (Ring.sl 2 (t.val + 1)) 1 (t.val + 9)).1 $$ Hw1
    icases Hx with ⟨Hh1, Hk1⟩
    ihave Hx := (src_split c W (Ring.sl 2 (t.val + 1)) 2 (t.val + 9)).1 $$ Hw2
    icases Hx with ⟨Hh2, Hk2⟩
    ihave Hx := (src_split c W (Ring.sl 2 (t.val + 1)) 3 (t.val + 9)).1 $$ Hw3
    icases Hx with ⟨Hh3, Hk3⟩
    obtain rfl := harg2.eq_unread hf2
    obtain rfl := harg4.eq_unread hf4
    set_option sl_exec.stopBefore "k0_part41" in sl_exec (disch := first | sl_exact hc1 | sl_exact hc2 | sl_exact hc4 | sl_exact hc6 | sl_exact hcZ)
    ihave Hx := (infl_mk c W (Ring.sl 2 (t.val + 1)) 0 (t.val + 9) _) $$ [Hc0 Hk0]
    · isplitl [Hc0]; · iexact Hc0
      iexact Hk0
    unfold inflP
    icases Hx with ⟨%u0, Hc0, Hk0⟩
    ihave Hx := (infl_mk c W (Ring.sl 2 (t.val + 1)) 1 (t.val + 9) _) $$ [Hc1 Hk1]
    · isplitl [Hc1]; · iexact Hc1
      iexact Hk1
    unfold inflP
    icases Hx with ⟨%u1, Hc1, Hk1⟩
    ihave Hx := (infl_mk c W (Ring.sl 2 (t.val + 1)) 2 (t.val + 9) _) $$ [Hc2 Hk2]
    · isplitl [Hc2]; · iexact Hc2
      iexact Hk2
    unfold inflP
    icases Hx with ⟨%u2, Hc2, Hk2⟩
    ihave Hx := (infl_mk c W (Ring.sl 2 (t.val + 1)) 3 (t.val + 9) _) $$ [Hc3 Hk3]
    · isplitl [Hc3]; · iexact Hc3
      iexact Hk3
    unfold inflP
    icases Hx with ⟨%u3, Hc3, Hk3⟩
    sl_exec (disch := first | sl_exact hc1 | sl_exact hc2 | sl_exact hc4 | sl_exact hc6 | sl_exact hcZ)
    sl_open_run
    ihave HD := (hbPt_congr c wbf0 (writes_castIn0 c W (t.val + 8) _ _ _ _ _ _ _ _ _ _ _ _ _ _ _ _ _
      ((coff47 t).trans (by rw [Nat.add_mod_right]))
      ((coff49 t).trans (by rw [Nat.add_mod_right]))
      ((coff51 t).trans (by rw [Nat.add_mod_right]))
      ((coff53 t).trans (by rw [Nat.add_mod_right]))
      (pe53 _) (cast_piece c W (Ring.sl 2 t.val) 0 (t.val + 8) _ [] _ _ (coff46 t) _)
      (pe54 _) (cast_piece c W (Ring.sl 2 t.val) 1 (t.val + 8) _ [] _ _ (coff48 t) _)
      (pe55 _) (cast_piece c W (Ring.sl 2 t.val) 2 (t.val + 8) _ [] _ _ (coff50 t) _)
      (pe56 _) (cast_piece c W (Ring.sl 2 t.val) 3 (t.val + 8) _ [] _ _ (coff52 t) _))) $$ HD
    sl_step
    iapply Hk
    iapply hQ
    isplitl [H2]
    · unfold owns; iexists _; isplitr
      · ipureintro; exact harg2.read_unread x
      · iexact H2
    isplitl [H4]
    · unfold owns; iexists _; isplitr
      · ipureintro; exact harg4.read_unread cw
      · iexact H4
    isplitl [H5]
    · unfold owns; iexists _; isplitr
      swap; · iexact H5
      ipureintro
      refine (View.read_writes_full _ _ _ _ _).trans (outV_of' ?_ ?_ ?_ ?_)
      · exact ld2 harg2 x _
      · exact View.readAt_full _ _ _
      · exact ld4 harg4 cw _
      · exact View.readAt_full _ _ _
    isplitl [HC]; · iexact HC
    isplitl [HD]; · iexact HD
    isplitl [HH]
    · iapply (hbPt_congr c hist ((hist_writes c _ _ _ _).trans (histV_of' ?_ ?_))) $$ HH
      · exact ld2 harg2 x _
      · exact View.readAt_full _ _ _
    isplitl [Hc0 Hc1 Hc2 Hc3 Hc0_dst Hc1_dst Hc2_dst Hc3_dst Hc0_src Hc1_src Hc2_src Hc3_src Hk0 Hk1 Hk2 Hk3]
    · unfold free
      isplitl [Hc0 Hc0_dst Hc0_src Hk0]
      · iapply (free_mk c W (Ring.sl 2 (t.val + 1)) 0 _ _)
        isplitl [Hc0]; · iexact Hc0
        isplitl [Hc0_dst]; · iexact Hc0_dst
        isplitl [Hc0_src]; · iexact Hc0_src
        iexact Hk0
      isplitl [Hc1 Hc1_dst Hc1_src Hk1]
      · iapply (free_mk c W (Ring.sl 2 (t.val + 1)) 1 _ _)
        isplitl [Hc1]; · iexact Hc1
        isplitl [Hc1_dst]; · iexact Hc1_dst
        isplitl [Hc1_src]; · iexact Hc1_src
        iexact Hk1
      isplitl [Hc2 Hc2_dst Hc2_src Hk2]
      · iapply (free_mk c W (Ring.sl 2 (t.val + 1)) 2 _ _)
        isplitl [Hc2]; · iexact Hc2
        isplitl [Hc2_dst]; · iexact Hc2_dst
        isplitl [Hc2_src]; · iexact Hc2_src
        iexact Hk2
      iapply (free_mk c W (Ring.sl 2 (t.val + 1)) 3 _ _)
      isplitl [Hc3]; · iexact Hc3
      isplitl [Hc3_dst]; · iexact Hc3_dst
      isplitl [Hc3_src]; · iexact Hc3_src
      iexact Hk3
    isplitl [Hf0 Hf1 Hf2 Hf3 Hf0_dst Hf1_dst Hf2_dst Hf3_dst Hf0_src Hf1_src Hf2_src Hf3_src Hr0 Hr1 Hr2 Hr3]
    · unfold free
      isplitl [Hf0 Hf0_dst Hf0_src Hr0]
      · iapply (free_mk c W (Ring.sl 2 t.val) 0 _ _)
        isplitl [Hf0]; · iexact Hf0
        isplitl [Hf0_dst]; · iexact Hf0_dst
        isplitl [Hf0_src]; · iexact Hf0_src
        iexact Hr0
      isplitl [Hf1 Hf1_dst Hf1_src Hr1]
      · iapply (free_mk c W (Ring.sl 2 t.val) 1 _ _)
        isplitl [Hf1]; · iexact Hf1
        isplitl [Hf1_dst]; · iexact Hf1_dst
        isplitl [Hf1_src]; · iexact Hf1_src
        iexact Hr1
      isplitl [Hf2 Hf2_dst Hf2_src Hr2]
      · iapply (free_mk c W (Ring.sl 2 t.val) 2 _ _)
        isplitl [Hf2]; · iexact Hf2
        isplitl [Hf2_dst]; · iexact Hf2_dst
        isplitl [Hf2_src]; · iexact Hf2_src
        iexact Hr2
      iapply (free_mk c W (Ring.sl 2 t.val) 3 _ _)
      isplitl [Hf3]; · iexact Hf3
      isplitl [Hf3_dst]; · iexact Hf3_dst
      isplitl [Hf3_src]; · iexact Hf3_src
      iexact Hr3
    iexists _; iexact HW

end Cert.KernelIdeal.Own

end
-- ==== Proof.RingFirst.lean ====
module

public import proofs.«01_k».proof.Proof.Ring

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first point's operands, at literal offsets -/

section Canon
omit [FloatOps F]
@[sl_canon] theorem canonS00 :
    (stg.slice (Rect.unit (s := S2x4x512x256) ![0, 0, 0, 0] S1x1x512x256.size inb_S2x4x512x256_S1x1x512x256_0_0_0_0) (fun _ => rfl)).squeeze S512x256 squeezes_S1x1x512x256_S512x256 = rpart 0 0 := rfl
@[sl_canon] theorem canonC00 :
    (cc0_scratch3.slice (Rect.unit (s := S2x4) ![0, 0] S1x1.size inb_S2x4_S1x1_0_0)).squeeze S_ squeezes_S1x1_S_ = cellA 0 0 := rfl
@[sl_canon] theorem canonS01 :
    (stg.slice (Rect.unit (s := S2x4x512x256) ![0, 1, 0, 0] S1x1x512x256.size inb_S2x4x512x256_S1x1x512x256_0_1_0_0) (fun _ => rfl)).squeeze S512x256 squeezes_S1x1x512x256_S512x256 = rpart 0 1 := rfl
@[sl_canon] theorem canonC01 :
    (cc0_scratch3.slice (Rect.unit (s := S2x4) ![0, 1] S1x1.size inb_S2x4_S1x1_0_1)).squeeze S_ squeezes_S1x1_S_ = cellA 0 1 := rfl
@[sl_canon] theorem canonS02 :
    (stg.slice (Rect.unit (s := S2x4x512x256) ![0, 2, 0, 0] S1x1x512x256.size inb_S2x4x512x256_S1x1x512x256_0_2_0_0) (fun _ => rfl)).squeeze S512x256 squeezes_S1x1x512x256_S512x256 = rpart 0 2 := rfl
@[sl_canon] theorem canonC02 :
    (cc0_scratch3.slice (Rect.unit (s := S2x4) ![0, 2] S1x1.size inb_S2x4_S1x1_0_2)).squeeze S_ squeezes_S1x1_S_ = cellA 0 2 := rfl
@[sl_canon] theorem canonS03 :
    (stg.slice (Rect.unit (s := S2x4x512x256) ![0, 3, 0, 0] S1x1x512x256.size inb_S2x4x512x256_S1x1x512x256_0_3_0_0) (fun _ => rfl)).squeeze S512x256 squeezes_S1x1x512x256_S512x256 = rpart 0 3 := rfl
@[sl_canon] theorem canonC03 :
    (cc0_scratch3.slice (Rect.unit (s := S2x4) ![0, 3] S1x1.size inb_S2x4_S1x1_0_3)).squeeze S_ squeezes_S1x1_S_ = cellA 0 3 := rfl
@[sl_canon] theorem canonS10 :
    (stg.slice (Rect.unit (s := S2x4x512x256) ![1, 0, 0, 0] S1x1x512x256.size inb_S2x4x512x256_S1x1x512x256_1_0_0_0) (fun _ => rfl)).squeeze S512x256 squeezes_S1x1x512x256_S512x256 = rpart 1 0 := rfl
@[sl_canon] theorem canonC10 :
    (cc0_scratch3.slice (Rect.unit (s := S2x4) ![1, 0] S1x1.size inb_S2x4_S1x1_1_0)).squeeze S_ squeezes_S1x1_S_ = cellA 1 0 := rfl
@[sl_canon] theorem canonS11 :
    (stg.slice (Rect.unit (s := S2x4x512x256) ![1, 1, 0, 0] S1x1x512x256.size inb_S2x4x512x256_S1x1x512x256_1_1_0_0) (fun _ => rfl)).squeeze S512x256 squeezes_S1x1x512x256_S512x256 = rpart 1 1 := rfl
@[sl_canon] theorem canonC11 :
    (cc0_scratch3.slice (Rect.unit (s := S2x4) ![1, 1] S1x1.size inb_S2x4_S1x1_1_1)).squeeze S_ squeezes_S1x1_S_ = cellA 1 1 := rfl
@[sl_canon] theorem canonS12 :
    (stg.slice (Rect.unit (s := S2x4x512x256) ![1, 2, 0, 0] S1x1x512x256.size inb_S2x4x512x256_S1x1x512x256_1_2_0_0) (fun _ => rfl)).squeeze S512x256 squeezes_S1x1x512x256_S512x256 = rpart 1 2 := rfl
@[sl_canon] theorem canonC12 :
    (cc0_scratch3.slice (Rect.unit (s := S2x4) ![1, 2] S1x1.size inb_S2x4_S1x1_1_2)).squeeze S_ squeezes_S1x1_S_ = cellA 1 2 := rfl
@[sl_canon] theorem canonS13 :
    (stg.slice (Rect.unit (s := S2x4x512x256) ![1, 3, 0, 0] S1x1x512x256.size inb_S2x4x512x256_S1x1x512x256_1_3_0_0) (fun _ => rfl)).squeeze S512x256 squeezes_S1x1x512x256_S512x256 = rpart 1 3 := rfl
@[sl_canon] theorem canonC13 :
    (cc0_scratch3.slice (Rect.unit (s := S2x4) ![1, 3] S1x1.size inb_S2x4_S1x1_1_3)).squeeze S_ squeezes_S1x1_S_ = cellA 1 3 := rfl
theorem coffB00 : k0_off1 0#32 0#32 0#32 = ![0, 512 * (0 % 8), 256 * (0 / 8 % 16) + 4096 * 0] := by decide +kernel
@[sl_canon] theorem canonB00 (t : Fin grid0.N) (h : k0_cond1 (grid0.coords t) = 1#1) :
    (wM.slice (Rect.unit (s := S1x4096x16384) (k0_off1 0#32 0#32 0#32) S1x512x256.size (k0_off1_inb (grid0.coords t) h 0)) (fun _ => rfl)).squeeze S512x256 squeezes_S1x512x256_S512x256 = srcB 0 0 :=
  slab_at coffB00 _ _
theorem coffB01 : k0_off1 0#32 16#32 0#32 = ![0, 512 * (0 % 8), 256 * (0 / 8 % 16) + 4096 * 1] := by decide +kernel
@[sl_canon] theorem canonB01 (t : Fin grid0.N) (h : k0_cond1 (grid0.coords t) = 1#1) :
    (wM.slice (Rect.unit (s := S1x4096x16384) (k0_off1 0#32 16#32 0#32) S1x512x256.size (k0_off1_inb (grid0.coords t) h 1)) (fun _ => rfl)).squeeze S512x256 squeezes_S1x512x256_S512x256 = srcB 0 1 :=
  slab_at coffB01 _ _
theorem coffB02 : k0_off1 0#32 32#32 0#32 = ![0, 512 * (0 % 8), 256 * (0 / 8 % 16) + 4096 * 2] := by decide +kernel
@[sl_canon] theorem canonB02 (t : Fin grid0.N) (h : k0_cond1 (grid0.coords t) = 1#1) :
    (wM.slice (Rect.unit (s := S1x4096x16384) (k0_off1 0#32 32#32 0#32) S1x512x256.size (k0_off1_inb (grid0.coords t) h 2)) (fun _ => rfl)).squeeze S512x256 squeezes_S1x512x256_S512x256 = srcB 0 2 :=
  slab_at coffB02 _ _
theorem coffB03 : k0_off1 0#32 48#32 0#32 = ![0, 512 * (0 % 8), 256 * (0 / 8 % 16) + 4096 * 3] := by decide +kernel
@[sl_canon] theorem canonB03 (t : Fin grid0.N) (h : k0_cond1 (grid0.coords t) = 1#1) :
    (wM.slice (Rect.unit (s := S1x4096x16384) (k0_off1 0#32 48#32 0#32) S1x512x256.size (k0_off1_inb (grid0.coords t) h 3)) (fun _ => rfl)).squeeze S512x256 squeezes_S1x512x256_S512x256 = srcB 0 3 :=
  slab_at coffB03 _ _
theorem coffB10 : k0_off1 1#32 0#32 1#32 = ![0, 512 * (1 % 8), 256 * (1 / 8 % 16) + 4096 * 0] := by decide +kernel
@[sl_canon] theorem canonB10 (t : Fin grid0.N) (h : k0_cond1 (grid0.coords t) = 1#1) :
    (wM.slice (Rect.unit (s := S1x4096x16384) (k0_off1 1#32 0#32 1#32) S1x512x256.size (k0_off1_inb (grid0.coords t) h 4)) (fun _ => rfl)).squeeze S512x256 squeezes_S1x512x256_S512x256 = srcB 1 0 :=
  slab_at coffB10 _ _
theorem coffB11 : k0_off1 1#32 16#32 1#32 = ![0, 512 * (1 % 8), 256 * (1 / 8 % 16) + 4096 * 1] := by decide +kernel
@[sl_canon] theorem canonB11 (t : Fin grid0.N) (h : k0_cond1 (grid0.coords t) = 1#1) :
    (wM.slice (Rect.unit (s := S1x4096x16384) (k0_off1 1#32 16#32 1#32) S1x512x256.size (k0_off1_inb (grid0.coords t) h 5)) (fun _ => rfl)).squeeze S512x256 squeezes_S1x512x256_S512x256 = srcB 1 1 :=
  slab_at coffB11 _ _
theorem coffB12 : k0_off1 1#32 32#32 1#32 = ![0, 512 * (1 % 8), 256 * (1 / 8 % 16) + 4096 * 2] := by decide +kernel
@[sl_canon] theorem canonB12 (t : Fin grid0.N) (h : k0_cond1 (grid0.coords t) = 1#1) :
    (wM.slice (Rect.unit (s := S1x4096x16384) (k0_off1 1#32 32#32 1#32) S1x512x256.size (k0_off1_inb (grid0.coords t) h 6)) (fun _ => rfl)).squeeze S512x256 squeezes_S1x512x256_S512x256 = srcB 1 2 :=
  slab_at coffB12 _ _
theorem coffB13 : k0_off1 1#32 48#32 1#32 = ![0, 512 * (1 % 8), 256 * (1 / 8 % 16) + 4096 * 3] := by decide +kernel
@[sl_canon] theorem canonB13 (t : Fin grid0.N) (h : k0_cond1 (grid0.coords t) = 1#1) :
    (wM.slice (Rect.unit (s := S1x4096x16384) (k0_off1 1#32 48#32 1#32) S1x512x256.size (k0_off1_inb (grid0.coords t) h 7)) (fun _ => rfl)).squeeze S512x256 squeezes_S1x512x256_S512x256 = srcB 1 3 :=
  slab_at coffB13 _ _
theorem coffB20 : k0_off1 2#32 0#32 2#32 = ![0, 512 * (2 % 8), 256 * (2 / 8 % 16) + 4096 * 0] := by decide +kernel
@[sl_canon] theorem canonB20 (t : Fin grid0.N) (h : k0_cond1 (grid0.coords t) = 1#1) :
    (wM.slice (Rect.unit (s := S1x4096x16384) (k0_off1 2#32 0#32 2#32) S1x512x256.size (k0_off1_inb (grid0.coords t) h 8)) (fun _ => rfl)).squeeze S512x256 squeezes_S1x512x256_S512x256 = srcB 2 0 :=
  slab_at coffB20 _ _
theorem coffB21 : k0_off1 2#32 16#32 2#32 = ![0, 512 * (2 % 8), 256 * (2 / 8 % 16) + 4096 * 1] := by decide +kernel
@[sl_canon] theorem canonB21 (t : Fin grid0.N) (h : k0_cond1 (grid0.coords t) = 1#1) :
    (wM.slice (Rect.unit (s := S1x4096x16384) (k0_off1 2#32 16#32 2#32) S1x512x256.size (k0_off1_inb (grid0.coords t) h 9)) (fun _ => rfl)).squeeze S512x256 squeezes_S1x512x256_S512x256 = srcB 2 1 :=
  slab_at coffB21 _ _
theorem coffB22 : k0_off1 2#32 32#32 2#32 = ![0, 512 * (2 % 8), 256 * (2 / 8 % 16) + 4096 * 2] := by decide +kernel
@[sl_canon] theorem canonB22 (t : Fin grid0.N) (h : k0_cond1 (grid0.coords t) = 1#1) :
    (wM.slice (Rect.unit (s := S1x4096x16384) (k0_off1 2#32 32#32 2#32) S1x512x256.size (k0_off1_inb (grid0.coords t) h 10)) (fun _ => rfl)).squeeze S512x256 squeezes_S1x512x256_S512x256 = srcB 2 2 :=
  slab_at coffB22 _ _
theorem coffB23 : k0_off1 2#32 48#32 2#32 = ![0, 512 * (2 % 8), 256 * (2 / 8 % 16) + 4096 * 3] := by decide +kernel
@[sl_canon] theorem canonB23 (t : Fin grid0.N) (h : k0_cond1 (grid0.coords t) = 1#1) :
    (wM.slice (Rect.unit (s := S1x4096x16384) (k0_off1 2#32 48#32 2#32) S1x512x256.size (k0_off1_inb (grid0.coords t) h 11)) (fun _ => rfl)).squeeze S512x256 squeezes_S1x512x256_S512x256 = srcB 2 3 :=
  slab_at coffB23 _ _
theorem coffB30 : k0_off1 3#32 0#32 3#32 = ![0, 512 * (3 % 8), 256 * (3 / 8 % 16) + 4096 * 0] := by decide +kernel
@[sl_canon] theorem canonB30 (t : Fin grid0.N) (h : k0_cond1 (grid0.coords t) = 1#1) :
    (wM.slice (Rect.unit (s := S1x4096x16384) (k0_off1 3#32 0#32 3#32) S1x512x256.size (k0_off1_inb (grid0.coords t) h 12)) (fun _ => rfl)).squeeze S512x256 squeezes_S1x512x256_S512x256 = srcB 3 0 :=
  slab_at coffB30 _ _
theorem coffB31 : k0_off1 3#32 16#32 3#32 = ![0, 512 * (3 % 8), 256 * (3 / 8 % 16) + 4096 * 1] := by decide +kernel
@[sl_canon] theorem canonB31 (t : Fin grid0.N) (h : k0_cond1 (grid0.coords t) = 1#1) :
    (wM.slice (Rect.unit (s := S1x4096x16384) (k0_off1 3#32 16#32 3#32) S1x512x256.size (k0_off1_inb (grid0.coords t) h 13)) (fun _ => rfl)).squeeze S512x256 squeezes_S1x512x256_S512x256 = srcB 3 1 :=
  slab_at coffB31 _ _
theorem coffB32 : k0_off1 3#32 32#32 3#32 = ![0, 512 * (3 % 8), 256 * (3 / 8 % 16) + 4096 * 2] := by decide +kernel
@[sl_canon] theorem canonB32 (t : Fin grid0.N) (h : k0_cond1 (grid0.coords t) = 1#1) :
    (wM.slice (Rect.unit (s := S1x4096x16384) (k0_off1 3#32 32#32 3#32) S1x512x256.size (k0_off1_inb (grid0.coords t) h 14)) (fun _ => rfl)).squeeze S512x256 squeezes_S1x512x256_S512x256 = srcB 3 2 :=
  slab_at coffB32 _ _
theorem coffB33 : k0_off1 3#32 48#32 3#32 = ![0, 512 * (3 % 8), 256 * (3 / 8 % 16) + 4096 * 3] := by decide +kernel
@[sl_canon] theorem canonB33 (t : Fin grid0.N) (h : k0_cond1 (grid0.coords t) = 1#1) :
    (wM.slice (Rect.unit (s := S1x4096x16384) (k0_off1 3#32 48#32 3#32) S1x512x256.size (k0_off1_inb (grid0.coords t) h 15)) (fun _ => rfl)).squeeze S512x256 squeezes_S1x512x256_S512x256 = srcB 3 3 :=
  slab_at coffB33 _ _
theorem coffB40 : k0_off1 4#32 0#32 4#32 = ![0, 512 * (4 % 8), 256 * (4 / 8 % 16) + 4096 * 0] := by decide +kernel
@[sl_canon] theorem canonB40 (t : Fin grid0.N) (h : k0_cond1 (grid0.coords t) = 1#1) :
    (wM.slice (Rect.unit (s := S1x4096x16384) (k0_off1 4#32 0#32 4#32) S1x512x256.size (k0_off1_inb (grid0.coords t) h 16)) (fun _ => rfl)).squeeze S512x256 squeezes_S1x512x256_S512x256 = srcB 4 0 :=
  slab_at coffB40 _ _
theorem coffB41 : k0_off1 4#32 16#32 4#32 = ![0, 512 * (4 % 8), 256 * (4 / 8 % 16) + 4096 * 1] := by decide +kernel
@[sl_canon] theorem canonB41 (t : Fin grid0.N) (h : k0_cond1 (grid0.coords t) = 1#1) :
    (wM.slice (Rect.unit (s := S1x4096x16384) (k0_off1 4#32 16#32 4#32) S1x512x256.size (k0_off1_inb (grid0.coords t) h 17)) (fun _ => rfl)).squeeze S512x256 squeezes_S1x512x256_S512x256 = srcB 4 1 :=
  slab_at coffB41 _ _
theorem coffB42 : k0_off1 4#32 32#32 4#32 = ![0, 512 * (4 % 8), 256 * (4 / 8 % 16) + 4096 * 2] := by decide +kernel
@[sl_canon] theorem canonB42 (t : Fin grid0.N) (h : k0_cond1 (grid0.coords t) = 1#1) :
    (wM.slice (Rect.unit (s := S1x4096x16384) (k0_off1 4#32 32#32 4#32) S1x512x256.size (k0_off1_inb (grid0.coords t) h 18)) (fun _ => rfl)).squeeze S512x256 squeezes_S1x512x256_S512x256 = srcB 4 2 :=
  slab_at coffB42 _ _
theorem coffB43 : k0_off1 4#32 48#32 4#32 = ![0, 512 * (4 % 8), 256 * (4 / 8 % 16) + 4096 * 3] := by decide +kernel
@[sl_canon] theorem canonB43 (t : Fin grid0.N) (h : k0_cond1 (grid0.coords t) = 1#1) :
    (wM.slice (Rect.unit (s := S1x4096x16384) (k0_off1 4#32 48#32 4#32) S1x512x256.size (k0_off1_inb (grid0.coords t) h 19)) (fun _ => rfl)).squeeze S512x256 squeezes_S1x512x256_S512x256 = srcB 4 3 :=
  slab_at coffB43 _ _
theorem coffB50 : k0_off1 5#32 0#32 5#32 = ![0, 512 * (5 % 8), 256 * (5 / 8 % 16) + 4096 * 0] := by decide +kernel
@[sl_canon] theorem canonB50 (t : Fin grid0.N) (h : k0_cond1 (grid0.coords t) = 1#1) :
    (wM.slice (Rect.unit (s := S1x4096x16384) (k0_off1 5#32 0#32 5#32) S1x512x256.size (k0_off1_inb (grid0.coords t) h 20)) (fun _ => rfl)).squeeze S512x256 squeezes_S1x512x256_S512x256 = srcB 5 0 :=
  slab_at coffB50 _ _
theorem coffB51 : k0_off1 5#32 16#32 5#32 = ![0, 512 * (5 % 8), 256 * (5 / 8 % 16) + 4096 * 1] := by decide +kernel
@[sl_canon] theorem canonB51 (t : Fin grid0.N) (h : k0_cond1 (grid0.coords t) = 1#1) :
    (wM.slice (Rect.unit (s := S1x4096x16384) (k0_off1 5#32 16#32 5#32) S1x512x256.size (k0_off1_inb (grid0.coords t) h 21)) (fun _ => rfl)).squeeze S512x256 squeezes_S1x512x256_S512x256 = srcB 5 1 :=
  slab_at coffB51 _ _
theorem coffB52 : k0_off1 5#32 32#32 5#32 = ![0, 512 * (5 % 8), 256 * (5 / 8 % 16) + 4096 * 2] := by decide +kernel
@[sl_canon] theorem canonB52 (t : Fin grid0.N) (h : k0_cond1 (grid0.coords t) = 1#1) :
    (wM.slice (Rect.unit (s := S1x4096x16384) (k0_off1 5#32 32#32 5#32) S1x512x256.size (k0_off1_inb (grid0.coords t) h 22)) (fun _ => rfl)).squeeze S512x256 squeezes_S1x512x256_S512x256 = srcB 5 2 :=
  slab_at coffB52 _ _
theorem coffB53 : k0_off1 5#32 48#32 5#32 = ![0, 512 * (5 % 8), 256 * (5 / 8 % 16) + 4096 * 3] := by decide +kernel
@[sl_canon] theorem canonB53 (t : Fin grid0.N) (h : k0_cond1 (grid0.coords t) = 1#1) :
    (wM.slice (Rect.unit (s := S1x4096x16384) (k0_off1 5#32 48#32 5#32) S1x512x256.size (k0_off1_inb (grid0.coords t) h 23)) (fun _ => rfl)).squeeze S512x256 squeezes_S1x512x256_S512x256 = srcB 5 3 :=
  slab_at coffB53 _ _
theorem coffB60 : k0_off1 6#32 0#32 6#32 = ![0, 512 * (6 % 8), 256 * (6 / 8 % 16) + 4096 * 0] := by decide +kernel
@[sl_canon] theorem canonB60 (t : Fin grid0.N) (h : k0_cond1 (grid0.coords t) = 1#1) :
    (wM.slice (Rect.unit (s := S1x4096x16384) (k0_off1 6#32 0#32 6#32) S1x512x256.size (k0_off1_inb (grid0.coords t) h 24)) (fun _ => rfl)).squeeze S512x256 squeezes_S1x512x256_S512x256 = srcB 6 0 :=
  slab_at coffB60 _ _
theorem coffB61 : k0_off1 6#32 16#32 6#32 = ![0, 512 * (6 % 8), 256 * (6 / 8 % 16) + 4096 * 1] := by decide +kernel
@[sl_canon] theorem canonB61 (t : Fin grid0.N) (h : k0_cond1 (grid0.coords t) = 1#1) :
    (wM.slice (Rect.unit (s := S1x4096x16384) (k0_off1 6#32 16#32 6#32) S1x512x256.size (k0_off1_inb (grid0.coords t) h 25)) (fun _ => rfl)).squeeze S512x256 squeezes_S1x512x256_S512x256 = srcB 6 1 :=
  slab_at coffB61 _ _
theorem coffB62 : k0_off1 6#32 32#32 6#32 = ![0, 512 * (6 % 8), 256 * (6 / 8 % 16) + 4096 * 2] := by decide +kernel
@[sl_canon] theorem canonB62 (t : Fin grid0.N) (h : k0_cond1 (grid0.coords t) = 1#1) :
    (wM.slice (Rect.unit (s := S1x4096x16384) (k0_off1 6#32 32#32 6#32) S1x512x256.size (k0_off1_inb (grid0.coords t) h 26)) (fun _ => rfl)).squeeze S512x256 squeezes_S1x512x256_S512x256 = srcB 6 2 :=
  slab_at coffB62 _ _
theorem coffB63 : k0_off1 6#32 48#32 6#32 = ![0, 512 * (6 % 8), 256 * (6 / 8 % 16) + 4096 * 3] := by decide +kernel
@[sl_canon] theorem canonB63 (t : Fin grid0.N) (h : k0_cond1 (grid0.coords t) = 1#1) :
    (wM.slice (Rect.unit (s := S1x4096x16384) (k0_off1 6#32 48#32 6#32) S1x512x256.size (k0_off1_inb (grid0.coords t) h 27)) (fun _ => rfl)).squeeze S512x256 squeezes_S1x512x256_S512x256 = srcB 6 3 :=
  slab_at coffB63 _ _
theorem coffB70 : k0_off1 7#32 0#32 7#32 = ![0, 512 * (7 % 8), 256 * (7 / 8 % 16) + 4096 * 0] := by decide +kernel
@[sl_canon] theorem canonB70 (t : Fin grid0.N) (h : k0_cond1 (grid0.coords t) = 1#1) :
    (wM.slice (Rect.unit (s := S1x4096x16384) (k0_off1 7#32 0#32 7#32) S1x512x256.size (k0_off1_inb (grid0.coords t) h 28)) (fun _ => rfl)).squeeze S512x256 squeezes_S1x512x256_S512x256 = srcB 7 0 :=
  slab_at coffB70 _ _
theorem coffB71 : k0_off1 7#32 16#32 7#32 = ![0, 512 * (7 % 8), 256 * (7 / 8 % 16) + 4096 * 1] := by decide +kernel
@[sl_canon] theorem canonB71 (t : Fin grid0.N) (h : k0_cond1 (grid0.coords t) = 1#1) :
    (wM.slice (Rect.unit (s := S1x4096x16384) (k0_off1 7#32 16#32 7#32) S1x512x256.size (k0_off1_inb (grid0.coords t) h 29)) (fun _ => rfl)).squeeze S512x256 squeezes_S1x512x256_S512x256 = srcB 7 1 :=
  slab_at coffB71 _ _
theorem coffB72 : k0_off1 7#32 32#32 7#32 = ![0, 512 * (7 % 8), 256 * (7 / 8 % 16) + 4096 * 2] := by decide +kernel
@[sl_canon] theorem canonB72 (t : Fin grid0.N) (h : k0_cond1 (grid0.coords t) = 1#1) :
    (wM.slice (Rect.unit (s := S1x4096x16384) (k0_off1 7#32 32#32 7#32) S1x512x256.size (k0_off1_inb (grid0.coords t) h 30)) (fun _ => rfl)).squeeze S512x256 squeezes_S1x512x256_S512x256 = srcB 7 2 :=
  slab_at coffB72 _ _
theorem coffB73 : k0_off1 7#32 48#32 7#32 = ![0, 512 * (7 % 8), 256 * (7 / 8 % 16) + 4096 * 3] := by decide +kernel
@[sl_canon] theorem canonB73 (t : Fin grid0.N) (h : k0_cond1 (grid0.coords t) = 1#1) :
    (wM.slice (Rect.unit (s := S1x4096x16384) (k0_off1 7#32 48#32 7#32) S1x512x256.size (k0_off1_inb (grid0.coords t) h 31)) (fun _ => rfl)).squeeze S512x256 squeezes_S1x512x256_S512x256 = srcB 7 3 :=
  slab_at coffB73 _ _
theorem coffB80 : k0_off1 8#32 0#32 8#32 = ![0, 512 * (8 % 8), 256 * (8 / 8 % 16) + 4096 * 0] := by decide +kernel
@[sl_canon] theorem canonB80 (t : Fin grid0.N) (h : k0_cond1 (grid0.coords t) = 1#1) :
    (wM.slice (Rect.unit (s := S1x4096x16384) (k0_off1 8#32 0#32 8#32) S1x512x256.size (k0_off1_inb (grid0.coords t) h 32)) (fun _ => rfl)).squeeze S512x256 squeezes_S1x512x256_S512x256 = srcB 8 0 :=
  slab_at coffB80 _ _
theorem coffB81 : k0_off1 8#32 16#32 8#32 = ![0, 512 * (8 % 8), 256 * (8 / 8 % 16) + 4096 * 1] := by decide +kernel
@[sl_canon] theorem canonB81 (t : Fin grid0.N) (h : k0_cond1 (grid0.coords t) = 1#1) :
    (wM.slice (Rect.unit (s := S1x4096x16384) (k0_off1 8#32 16#32 8#32) S1x512x256.size (k0_off1_inb (grid0.coords t) h 33)) (fun _ => rfl)).squeeze S512x256 squeezes_S1x512x256_S512x256 = srcB 8 1 :=
  slab_at coffB81 _ _
theorem coffB82 : k0_off1 8#32 32#32 8#32 = ![0, 512 * (8 % 8), 256 * (8 / 8 % 16) + 4096 * 2] := by decide +kernel
@[sl_canon] theorem canonB82 (t : Fin grid0.N) (h : k0_cond1 (grid0.coords t) = 1#1) :
    (wM.slice (Rect.unit (s := S1x4096x16384) (k0_off1 8#32 32#32 8#32) S1x512x256.size (k0_off1_inb (grid0.coords t) h 34)) (fun _ => rfl)).squeeze S512x256 squeezes_S1x512x256_S512x256 = srcB 8 2 :=
  slab_at coffB82 _ _
theorem coffB83 : k0_off1 8#32 48#32 8#32 = ![0, 512 * (8 % 8), 256 * (8 / 8 % 16) + 4096 * 3] := by decide +kernel
@[sl_canon] theorem canonB83 (t : Fin grid0.N) (h : k0_cond1 (grid0.coords t) = 1#1) :
    (wM.slice (Rect.unit (s := S1x4096x16384) (k0_off1 8#32 48#32 8#32) S1x512x256.size (k0_off1_inb (grid0.coords t) h 35)) (fun _ => rfl)).squeeze S512x256 squeezes_S1x512x256_S512x256 = srcB 8 3 :=
  slab_at coffB83 _ _
end Canon

/-- A copy lent for one slab, once back, is lent for another. -/
theorem src_swap (c : Dev nD) (W : HbBuf (F := F) c wM) (s : Fin 2) (n : Fin 4) (b b' : ℕ) :
    iprop(srcP c W s n b ∗ restP c W s n b) ⊢ iprop(srcP c W s n b' ∗ restP c W s n b') :=
  (src_split c W s n b).2.trans (src_split c W s n b').1

end Cert.KernelIdeal.Own

end
-- ==== Proof.RunEF.lean ====
module

public import proofs.«01_k».proof.Proof.RunOL
public import proofs.«01_k».proof.Proof.RingFirst

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Pro
variable (c : Dev nD) (W : HbBuf (F := F) c wM)
set_option maxHeartbeats 1000000 in
/-- The first eight slabs fill a buffer with the first column block. -/
theorem writes_pro (C : HbBuf (F := F) c wbf0) (i00 i01 i02 i03 i10 i11 i12 i13 i20 i21 i22 i23 i30 i31 i32 i33 i40 i41 i42 i43 i50 i51 i52 i53 i60 i61 i62 i63 i70 i71 i72 i73) (p00 p01 p02 p03 p10 p11 p12 p13 p20 p21 p22 p23 p30 p31 p32 p33 p40 p41 p42 p43 p50 p51 p52 p53 p60 p61 p62 p63 p70 p71 p72 p73 : Vec F S512x256 .bf16) (v00 v01 v02 v03 v10 v11 v12 v13 v20 v21 v22 v23 v30 v31 v32 v33 v40 v41 v42 v43 v50 v51 v52 v53 v60 v61 v62 v63 v70 v71 v72 v73 : Vec F S1x1x512x256 .f32)
    (q00 : p00 = truncf .bf16 (shapeCast S512x256 v00 shapeCasts_S1x1x512x256_S512x256) bitsLt_bf16_f32)
    (e00 : ∀ x hi, truncf .bf16 (shapeCast S512x256 v00 shapeCasts_S1x1x512x256_S512x256) bitsLt_bf16_f32 x = wcols c W (0 / 8) ((Rect.unit (s := S4096x1024) ![512 * (0 % 8), 256 * (0 : Fin 4).val] S512x256.size hi).emb x))
    (q01 : p01 = truncf .bf16 (shapeCast S512x256 v01 shapeCasts_S1x1x512x256_S512x256) bitsLt_bf16_f32)
    (e01 : ∀ x hi, truncf .bf16 (shapeCast S512x256 v01 shapeCasts_S1x1x512x256_S512x256) bitsLt_bf16_f32 x = wcols c W (0 / 8) ((Rect.unit (s := S4096x1024) ![512 * (0 % 8), 256 * (1 : Fin 4).val] S512x256.size hi).emb x))
    (q02 : p02 = truncf .bf16 (shapeCast S512x256 v02 shapeCasts_S1x1x512x256_S512x256) bitsLt_bf16_f32)
    (e02 : ∀ x hi, truncf .bf16 (shapeCast S512x256 v02 shapeCasts_S1x1x512x256_S512x256) bitsLt_bf16_f32 x = wcols c W (0 / 8) ((Rect.unit (s := S4096x1024) ![512 * (0 % 8), 256 * (2 : Fin 4).val] S512x256.size hi).emb x))
    (q03 : p03 = truncf .bf16 (shapeCast S512x256 v03 shapeCasts_S1x1x512x256_S512x256) bitsLt_bf16_f32)
    (e03 : ∀ x hi, truncf .bf16 (shapeCast S512x256 v03 shapeCasts_S1x1x512x256_S512x256) bitsLt_bf16_f32 x = wcols c W (0 / 8) ((Rect.unit (s := S4096x1024) ![512 * (0 % 8), 256 * (3 : Fin 4).val] S512x256.size hi).emb x))
    (q10 : p10 = truncf .bf16 (shapeCast S512x256 v10 shapeCasts_S1x1x512x256_S512x256) bitsLt_bf16_f32)
    (e10 : ∀ x hi, truncf .bf16 (shapeCast S512x256 v10 shapeCasts_S1x1x512x256_S512x256) bitsLt_bf16_f32 x = wcols c W (1 / 8) ((Rect.unit (s := S4096x1024) ![512 * (1 % 8), 256 * (0 : Fin 4).val] S512x256.size hi).emb x))
    (q11 : p11 = truncf .bf16 (shapeCast S512x256 v11 shapeCasts_S1x1x512x256_S512x256) bitsLt_bf16_f32)
    (e11 : ∀ x hi, truncf .bf16 (shapeCast S512x256 v11 shapeCasts_S1x1x512x256_S512x256) bitsLt_bf16_f32 x = wcols c W (1 / 8) ((Rect.unit (s := S4096x1024) ![512 * (1 % 8), 256 * (1 : Fin 4).val] S512x256.size hi).emb x))
    (q12 : p12 = truncf .bf16 (shapeCast S512x256 v12 shapeCasts_S1x1x512x256_S512x256) bitsLt_bf16_f32)
    (e12 : ∀ x hi, truncf .bf16 (shapeCast S512x256 v12 shapeCasts_S1x1x512x256_S512x256) bitsLt_bf16_f32 x = wcols c W (1 / 8) ((Rect.unit (s := S4096x1024) ![512 * (1 % 8), 256 * (2 : Fin 4).val] S512x256.size hi).emb x))
    (q13 : p13 = truncf .bf16 (shapeCast S512x256 v13 shapeCasts_S1x1x512x256_S512x256) bitsLt_bf16_f32)
    (e13 : ∀ x hi, truncf .bf16 (shapeCast S512x256 v13 shapeCasts_S1x1x512x256_S512x256) bitsLt_bf16_f32 x = wcols c W (1 / 8) ((Rect.unit (s := S4096x1024) ![512 * (1 % 8), 256 * (3 : Fin 4).val] S512x256.size hi).emb x))
    (q20 : p20 = truncf .bf16 (shapeCast S512x256 v20 shapeCasts_S1x1x512x256_S512x256) bitsLt_bf16_f32)
    (e20 : ∀ x hi, truncf .bf16 (shapeCast S512x256 v20 shapeCasts_S1x1x512x256_S512x256) bitsLt_bf16_f32 x = wcols c W (2 / 8) ((Rect.unit (s := S4096x1024) ![512 * (2 % 8), 256 * (0 : Fin 4).val] S512x256.size hi).emb x))
    (q21 : p21 = truncf .bf16 (shapeCast S512x256 v21 shapeCasts_S1x1x512x256_S512x256) bitsLt_bf16_f32)
    (e21 : ∀ x hi, truncf .bf16 (shapeCast S512x256 v21 shapeCasts_S1x1x512x256_S512x256) bitsLt_bf16_f32 x = wcols c W (2 / 8) ((Rect.unit (s := S4096x1024) ![512 * (2 % 8), 256 * (1 : Fin 4).val] S512x256.size hi).emb x))
    (q22 : p22 = truncf .bf16 (shapeCast S512x256 v22 shapeCasts_S1x1x512x256_S512x256) bitsLt_bf16_f32)
    (e22 : ∀ x hi, truncf .bf16 (shapeCast S512x256 v22 shapeCasts_S1x1x512x256_S512x256) bitsLt_bf16_f32 x = wcols c W (2 / 8) ((Rect.unit (s := S4096x1024) ![512 * (2 % 8), 256 * (2 : Fin 4).val] S512x256.size hi).emb x))
    (q23 : p23 = truncf .bf16 (shapeCast S512x256 v23 shapeCasts_S1x1x512x256_S512x256) bitsLt_bf16_f32)
    (e23 : ∀ x hi, truncf .bf16 (shapeCast S512x256 v23 shapeCasts_S1x1x512x256_S512x256) bitsLt_bf16_f32 x = wcols c W (2 / 8) ((Rect.unit (s := S4096x1024) ![512 * (2 % 8), 256 * (3 : Fin 4).val] S512x256.size hi).emb x))
    (q30 : p30 = truncf .bf16 (shapeCast S512x256 v30 shapeCasts_S1x1x512x256_S512x256) bitsLt_bf16_f32)
    (e30 : ∀ x hi, truncf .bf16 (shapeCast S512x256 v30 shapeCasts_S1x1x512x256_S512x256) bitsLt_bf16_f32 x = wcols c W (3 / 8) ((Rect.unit (s := S4096x1024) ![512 * (3 % 8), 256 * (0 : Fin 4).val] S512x256.size hi).emb x))
    (q31 : p31 = truncf .bf16 (shapeCast S512x256 v31 shapeCasts_S1x1x512x256_S512x256) bitsLt_bf16_f32)
    (e31 : ∀ x hi, truncf .bf16 (shapeCast S512x256 v31 shapeCasts_S1x1x512x256_S512x256) bitsLt_bf16_f32 x = wcols c W (3 / 8) ((Rect.unit (s := S4096x1024) ![512 * (3 % 8), 256 * (1 : Fin 4).val] S512x256.size hi).emb x))
    (q32 : p32 = truncf .bf16 (shapeCast S512x256 v32 shapeCasts_S1x1x512x256_S512x256) bitsLt_bf16_f32)
    (e32 : ∀ x hi, truncf .bf16 (shapeCast S512x256 v32 shapeCasts_S1x1x512x256_S512x256) bitsLt_bf16_f32 x = wcols c W (3 / 8) ((Rect.unit (s := S4096x1024) ![512 * (3 % 8), 256 * (2 : Fin 4).val] S512x256.size hi).emb x))
    (q33 : p33 = truncf .bf16 (shapeCast S512x256 v33 shapeCasts_S1x1x512x256_S512x256) bitsLt_bf16_f32)
    (e33 : ∀ x hi, truncf .bf16 (shapeCast S512x256 v33 shapeCasts_S1x1x512x256_S512x256) bitsLt_bf16_f32 x = wcols c W (3 / 8) ((Rect.unit (s := S4096x1024) ![512 * (3 % 8), 256 * (3 : Fin 4).val] S512x256.size hi).emb x))
    (q40 : p40 = truncf .bf16 (shapeCast S512x256 v40 shapeCasts_S1x1x512x256_S512x256) bitsLt_bf16_f32)
    (e40 : ∀ x hi, truncf .bf16 (shapeCast S512x256 v40 shapeCasts_S1x1x512x256_S512x256) bitsLt_bf16_f32 x = wcols c W (4 / 8) ((Rect.unit (s := S4096x1024) ![512 * (4 % 8), 256 * (0 : Fin 4).val] S512x256.size hi).emb x))
    (q41 : p41 = truncf .bf16 (shapeCast S512x256 v41 shapeCasts_S1x1x512x256_S512x256) bitsLt_bf16_f32)
    (e41 : ∀ x hi, truncf .bf16 (shapeCast S512x256 v41 shapeCasts_S1x1x512x256_S512x256) bitsLt_bf16_f32 x = wcols c W (4 / 8) ((Rect.unit (s := S4096x1024) ![512 * (4 % 8), 256 * (1 : Fin 4).val] S512x256.size hi).emb x))
    (q42 : p42 = truncf .bf16 (shapeCast S512x256 v42 shapeCasts_S1x1x512x256_S512x256) bitsLt_bf16_f32)
    (e42 : ∀ x hi, truncf .bf16 (shapeCast S512x256 v42 shapeCasts_S1x1x512x256_S512x256) bitsLt_bf16_f32 x = wcols c W (4 / 8) ((Rect.unit (s := S4096x1024) ![512 * (4 % 8), 256 * (2 : Fin 4).val] S512x256.size hi).emb x))
    (q43 : p43 = truncf .bf16 (shapeCast S512x256 v43 shapeCasts_S1x1x512x256_S512x256) bitsLt_bf16_f32)
    (e43 : ∀ x hi, truncf .bf16 (shapeCast S512x256 v43 shapeCasts_S1x1x512x256_S512x256) bitsLt_bf16_f32 x = wcols c W (4 / 8) ((Rect.unit (s := S4096x1024) ![512 * (4 % 8), 256 * (3 : Fin 4).val] S512x256.size hi).emb x))
    (q50 : p50 = truncf .bf16 (shapeCast S512x256 v50 shapeCasts_S1x1x512x256_S512x256) bitsLt_bf16_f32)
    (e50 : ∀ x hi, truncf .bf16 (shapeCast S512x256 v50 shapeCasts_S1x1x512x256_S512x256) bitsLt_bf16_f32 x = wcols c W (5 / 8) ((Rect.unit (s := S4096x1024) ![512 * (5 % 8), 256 * (0 : Fin 4).val] S512x256.size hi).emb x))
    (q51 : p51 = truncf .bf16 (shapeCast S512x256 v51 shapeCasts_S1x1x512x256_S512x256) bitsLt_bf16_f32)
    (e51 : ∀ x hi, truncf .bf16 (shapeCast S512x256 v51 shapeCasts_S1x1x512x256_S512x256) bitsLt_bf16_f32 x = wcols c W (5 / 8) ((Rect.unit (s := S4096x1024) ![512 * (5 % 8), 256 * (1 : Fin 4).val] S512x256.size hi).emb x))
    (q52 : p52 = truncf .bf16 (shapeCast S512x256 v52 shapeCasts_S1x1x512x256_S512x256) bitsLt_bf16_f32)
    (e52 : ∀ x hi, truncf .bf16 (shapeCast S512x256 v52 shapeCasts_S1x1x512x256_S512x256) bitsLt_bf16_f32 x = wcols c W (5 / 8) ((Rect.unit (s := S4096x1024) ![512 * (5 % 8), 256 * (2 : Fin 4).val] S512x256.size hi).emb x))
    (q53 : p53 = truncf .bf16 (shapeCast S512x256 v53 shapeCasts_S1x1x512x256_S512x256) bitsLt_bf16_f32)
    (e53 : ∀ x hi, truncf .bf16 (shapeCast S512x256 v53 shapeCasts_S1x1x512x256_S512x256) bitsLt_bf16_f32 x = wcols c W (5 / 8) ((Rect.unit (s := S4096x1024) ![512 * (5 % 8), 256 * (3 : Fin 4).val] S512x256.size hi).emb x))
    (q60 : p60 = truncf .bf16 (shapeCast S512x256 v60 shapeCasts_S1x1x512x256_S512x256) bitsLt_bf16_f32)
    (e60 : ∀ x hi, truncf .bf16 (shapeCast S512x256 v60 shapeCasts_S1x1x512x256_S512x256) bitsLt_bf16_f32 x = wcols c W (6 / 8) ((Rect.unit (s := S4096x1024) ![512 * (6 % 8), 256 * (0 : Fin 4).val] S512x256.size hi).emb x))
    (q61 : p61 = truncf .bf16 (shapeCast S512x256 v61 shapeCasts_S1x1x512x256_S512x256) bitsLt_bf16_f32)
    (e61 : ∀ x hi, truncf .bf16 (shapeCast S512x256 v61 shapeCasts_S1x1x512x256_S512x256) bitsLt_bf16_f32 x = wcols c W (6 / 8) ((Rect.unit (s := S4096x1024) ![512 * (6 % 8), 256 * (1 : Fin 4).val] S512x256.size hi).emb x))
    (q62 : p62 = truncf .bf16 (shapeCast S512x256 v62 shapeCasts_S1x1x512x256_S512x256) bitsLt_bf16_f32)
    (e62 : ∀ x hi, truncf .bf16 (shapeCast S512x256 v62 shapeCasts_S1x1x512x256_S512x256) bitsLt_bf16_f32 x = wcols c W (6 / 8) ((Rect.unit (s := S4096x1024) ![512 * (6 % 8), 256 * (2 : Fin 4).val] S512x256.size hi).emb x))
    (q63 : p63 = truncf .bf16 (shapeCast S512x256 v63 shapeCasts_S1x1x512x256_S512x256) bitsLt_bf16_f32)
    (e63 : ∀ x hi, truncf .bf16 (shapeCast S512x256 v63 shapeCasts_S1x1x512x256_S512x256) bitsLt_bf16_f32 x = wcols c W (6 / 8) ((Rect.unit (s := S4096x1024) ![512 * (6 % 8), 256 * (3 : Fin 4).val] S512x256.size hi).emb x))
    (q70 : p70 = truncf .bf16 (shapeCast S512x256 v70 shapeCasts_S1x1x512x256_S512x256) bitsLt_bf16_f32)
    (e70 : ∀ x hi, truncf .bf16 (shapeCast S512x256 v70 shapeCasts_S1x1x512x256_S512x256) bitsLt_bf16_f32 x = wcols c W (7 / 8) ((Rect.unit (s := S4096x1024) ![512 * (7 % 8), 256 * (0 : Fin 4).val] S512x256.size hi).emb x))
    (q71 : p71 = truncf .bf16 (shapeCast S512x256 v71 shapeCasts_S1x1x512x256_S512x256) bitsLt_bf16_f32)
    (e71 : ∀ x hi, truncf .bf16 (shapeCast S512x256 v71 shapeCasts_S1x1x512x256_S512x256) bitsLt_bf16_f32 x = wcols c W (7 / 8) ((Rect.unit (s := S4096x1024) ![512 * (7 % 8), 256 * (1 : Fin 4).val] S512x256.size hi).emb x))
    (q72 : p72 = truncf .bf16 (shapeCast S512x256 v72 shapeCasts_S1x1x512x256_S512x256) bitsLt_bf16_f32)
    (e72 : ∀ x hi, truncf .bf16 (shapeCast S512x256 v72 shapeCasts_S1x1x512x256_S512x256) bitsLt_bf16_f32 x = wcols c W (7 / 8) ((Rect.unit (s := S4096x1024) ![512 * (7 % 8), 256 * (2 : Fin 4).val] S512x256.size hi).emb x))
    (q73 : p73 = truncf .bf16 (shapeCast S512x256 v73 shapeCasts_S1x1x512x256_S512x256) bitsLt_bf16_f32)
    (e73 : ∀ x hi, truncf .bf16 (shapeCast S512x256 v73 shapeCasts_S1x1x512x256_S512x256) bitsLt_bf16_f32 x = wcols c W (7 / 8) ((Rect.unit (s := S4096x1024) ![512 * (7 % 8), 256 * (3 : Fin 4).val] S512x256.size hi).emb x))
    : wbf0.view.writes (Elt F) C [⟨Rect.unit (s := S4096x1024) ![3584, 768] S512x256.size i73, p73⟩, ⟨Rect.unit (s := S4096x1024) ![3584, 512] S512x256.size i72, p72⟩, ⟨Rect.unit (s := S4096x1024) ![3584, 256] S512x256.size i71, p71⟩, ⟨Rect.unit (s := S4096x1024) ![3584, 0] S512x256.size i70, p70⟩, ⟨Rect.unit (s := S4096x1024) ![3072, 768] S512x256.size i63, p63⟩, ⟨Rect.unit (s := S4096x1024) ![3072, 512] S512x256.size i62, p62⟩, ⟨Rect.unit (s := S4096x1024) ![3072, 256] S512x256.size i61, p61⟩, ⟨Rect.unit (s := S4096x1024) ![3072, 0] S512x256.size i60, p60⟩, ⟨Rect.unit (s := S4096x1024) ![2560, 768] S512x256.size i53, p53⟩, ⟨Rect.unit (s := S4096x1024) ![2560, 512] S512x256.size i52, p52⟩, ⟨Rect.unit (s := S4096x1024) ![2560, 256] S512x256.size i51, p51⟩, ⟨Rect.unit (s := S4096x1024) ![2560, 0] S512x256.size i50, p50⟩, ⟨Rect.unit (s := S4096x1024) ![2048, 768] S512x256.size i43, p43⟩, ⟨Rect.unit (s := S4096x1024) ![2048, 512] S512x256.size i42, p42⟩, ⟨Rect.unit (s := S4096x1024) ![2048, 256] S512x256.size i41, p41⟩, ⟨Rect.unit (s := S4096x1024) ![2048, 0] S512x256.size i40, p40⟩, ⟨Rect.unit (s := S4096x1024) ![1536, 768] S512x256.size i33, p33⟩, ⟨Rect.unit (s := S4096x1024) ![1536, 512] S512x256.size i32, p32⟩, ⟨Rect.unit (s := S4096x1024) ![1536, 256] S512x256.size i31, p31⟩, ⟨Rect.unit (s := S4096x1024) ![1536, 0] S512x256.size i30, p30⟩, ⟨Rect.unit (s := S4096x1024) ![1024, 768] S512x256.size i23, p23⟩, ⟨Rect.unit (s := S4096x1024) ![1024, 512] S512x256.size i22, p22⟩, ⟨Rect.unit (s := S4096x1024) ![1024, 256] S512x256.size i21, p21⟩, ⟨Rect.unit (s := S4096x1024) ![1024, 0] S512x256.size i20, p20⟩, ⟨Rect.unit (s := S4096x1024) ![512, 768] S512x256.size i13, p13⟩, ⟨Rect.unit (s := S4096x1024) ![512, 512] S512x256.size i12, p12⟩, ⟨Rect.unit (s := S4096x1024) ![512, 256] S512x256.size i11, p11⟩, ⟨Rect.unit (s := S4096x1024) ![512, 0] S512x256.size i10, p10⟩, ⟨Rect.unit (s := S4096x1024) ![0, 768] S512x256.size i03, p03⟩, ⟨Rect.unit (s := S4096x1024) ![0, 512] S512x256.size i02, p02⟩, ⟨Rect.unit (s := S4096x1024) ![0, 256] S512x256.size i01, p01⟩, ⟨Rect.unit (s := S4096x1024) ![0, 0] S512x256.size i00, p00⟩]
      = wcols c W 0 := by
  funext y
  have hy : (y 0).val < 4096 := (y 0).isLt
  refine (congrFun (wread0 c _) y).symm.trans ?_
  refine (read_cast4 wbf0 C (wcols c W 0) 3584 (by omega) _ _ _ _ _ _ _ _ _ _ _ _ rfl rfl rfl rfl (fun x hi => (congrFun q70 x).trans (e70 x hi)) (fun x hi => (congrFun q71 x).trans (e71 x hi)) (fun x hi => (congrFun q72 x).trans (e72 x hi)) (fun x hi => (congrFun q73 x).trans (e73 x hi)) _ y).trans ?_
  by_cases h7 : 3584 ≤ (y 0).val ∧ (y 0).val < 3584 + 512
  · exact if_pos h7
  refine (if_neg h7).trans ?_
  refine (read_cast4 wbf0 C (wcols c W 0) 3072 (by omega) _ _ _ _ _ _ _ _ _ _ _ _ rfl rfl rfl rfl (fun x hi => (congrFun q60 x).trans (e60 x hi)) (fun x hi => (congrFun q61 x).trans (e61 x hi)) (fun x hi => (congrFun q62 x).trans (e62 x hi)) (fun x hi => (congrFun q63 x).trans (e63 x hi)) _ y).trans ?_
  by_cases h6 : 3072 ≤ (y 0).val ∧ (y 0).val < 3072 + 512
  · exact if_pos h6
  refine (if_neg h6).trans ?_
  refine (read_cast4 wbf0 C (wcols c W 0) 2560 (by omega) _ _ _ _ _ _ _ _ _ _ _ _ rfl rfl rfl rfl (fun x hi => (congrFun q50 x).trans (e50 x hi)) (fun x hi => (congrFun q51 x).trans (e51 x hi)) (fun x hi => (congrFun q52 x).trans (e52 x hi)) (fun x hi => (congrFun q53 x).trans (e53 x hi)) _ y).trans ?_
  by_cases h5 : 2560 ≤ (y 0).val ∧ (y 0).val < 2560 + 512
  · exact if_pos h5
  refine (if_neg h5).trans ?_
  refine (read_cast4 wbf0 C (wcols c W 0) 2048 (by omega) _ _ _ _ _ _ _ _ _ _ _ _ rfl rfl rfl rfl (fun x hi => (congrFun q40 x).trans (e40 x hi)) (fun x hi => (congrFun q41 x).trans (e41 x hi)) (fun x hi => (congrFun q42 x).trans (e42 x hi)) (fun x hi => (congrFun q43 x).trans (e43 x hi)) _ y).trans ?_
  by_cases h4 : 2048 ≤ (y 0).val ∧ (y 0).val < 2048 + 512
  · exact if_pos h4
  refine (if_neg h4).trans ?_
  refine (read_cast4 wbf0 C (wcols c W 0) 1536 (by omega) _ _ _ _ _ _ _ _ _ _ _ _ rfl rfl rfl rfl (fun x hi => (congrFun q30 x).trans (e30 x hi)) (fun x hi => (congrFun q31 x).trans (e31 x hi)) (fun x hi => (congrFun q32 x).trans (e32 x hi)) (fun x hi => (congrFun q33 x).trans (e33 x hi)) _ y).trans ?_
  by_cases h3 : 1536 ≤ (y 0).val ∧ (y 0).val < 1536 + 512
  · exact if_pos h3
  refine (if_neg h3).trans ?_
  refine (read_cast4 wbf0 C (wcols c W 0) 1024 (by omega) _ _ _ _ _ _ _ _ _ _ _ _ rfl rfl rfl rfl (fun x hi => (congrFun q20 x).trans (e20 x hi)) (fun x hi => (congrFun q21 x).trans (e21 x hi)) (fun x hi => (congrFun q22 x).trans (e22 x hi)) (fun x hi => (congrFun q23 x).trans (e23 x hi)) _ y).trans ?_
  by_cases h2 : 1024 ≤ (y 0).val ∧ (y 0).val < 1024 + 512
  · exact if_pos h2
  refine (if_neg h2).trans ?_
  refine (read_cast4 wbf0 C (wcols c W 0) 512 (by omega) _ _ _ _ _ _ _ _ _ _ _ _ rfl rfl rfl rfl (fun x hi => (congrFun q10 x).trans (e10 x hi)) (fun x hi => (congrFun q11 x).trans (e11 x hi)) (fun x hi => (congrFun q12 x).trans (e12 x hi)) (fun x hi => (congrFun q13 x).trans (e13 x hi)) _ y).trans ?_
  by_cases h1 : 512 ≤ (y 0).val ∧ (y 0).val < 512 + 512
  · exact if_pos h1
  refine (if_neg h1).trans ?_
  refine (read_cast4 wbf0 C (wcols c W 0) 0 (by omega) _ _ _ _ _ _ _ _ _ _ _ _ rfl rfl rfl rfl (fun x hi => (congrFun q00 x).trans (e00 x hi)) (fun x hi => (congrFun q01 x).trans (e01 x hi)) (fun x hi => (congrFun q02 x).trans (e02 x hi)) (fun x hi => (congrFun q03 x).trans (e03 x hi)) _ y).trans ?_
  by_cases h0 : 0 ≤ (y 0).val ∧ (y 0).val < 0 + 512
  · exact if_pos h0
  refine (if_neg h0).trans ?_
  omega

theorem infl_mk' (s : Fin 2) (n : Fin 4) (b : ℕ) (f : HbBuf (F := F) c (rpart s n)) (L) :
    iprop(Transfers.Flight countersEmb (c : Thread nD τ) (cellR s n) default ((rpart s n).view.amount (cellR s n))
      iprop(partP c s n ((rpart s n).view.writes (Elt F) f (⟨Rect.whole S512x256, ReadAs.same.apply ((srcB b n).view.read (Elt F) W)⟩ :: L)) ∗ srcP c W s n b) ∗ restP c W s n b) ⊢ inflP c W s n b :=
  infl_mk c W s n b ((rpart s n).view.writes (Elt F) f L)

theorem infl_first {t : Fin cfg0.N} (ht : t.val = 0) : infl c W 0 8 ⊢ infl c W (Ring.sl 2 t.val) (t.val + 8) := by rw [ht]; exact .rfl
theorem free_first {t : Fin cfg0.N} (ht : t.val = 0) : free c W 1 ⊢ free c W (Ring.sl 2 (t.val + 1)) := by rw [ht]; exact .rfl
end Pro

set_option maxHeartbeats 4000000 in
theorem runEF (c : Dev nD) (t : Fin cfg0.N) (arg2 : Memref sig .tc .vmem S1024x4096 .bf16) (harg2 : arg2.IsWhole) (arg4 : Memref sig .tc .vmem S1x3x256 .f32) (harg4 : arg4.IsWhole) (arg5 : Memref sig .tc .vmem S1024x256 .bf16) (harg5 : arg5.IsWhole)
    (hc1 : k0_cond1 (grid0.coords t) = 1#1) (hc2 : k0_cond2 (grid0.coords t) = 1#1) (hc4 : ¬k0_cond4 (grid0.coords t) = 1#1) (hc6 : ¬k0_cond6 (grid0.coords t) = 1#1) (hcZ : condZ (grid0.coords t))
    (x : Vec F S1024x4096 .bf16) (cw : Vec F S1x3x256 .f32) (W : HbBuf (F := F) c wM) (C : HbBuf (F := F) c wbf0) (D : HbBuf (F := F) c wbf1) (H : HbBuf (F := F) c hist) (Q : sProp 𝕄)
    (hQ : iprop(owns (c : Thread nD τ) arg2 fullShare x ∗ owns (c : Thread nD τ) arg4 fullShare cw ∗ owns (c : Thread nD τ) arg5 fullShare (outV x (wcols c W 0) cw k0_pay48)
                ∗ hbPt c wbf0 (wcols c W 0) ∗ hbPt c wbf1 (castIn c W (t.val + 8) D) ∗ hbPt c hist (histV x (wcols c W 0))
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare cw ∗ (∃ d, owns (c : Thread nD τ) arg5 fullShare d)
            ∗ hbPt c wbf0 C ∗ hbPt c wbf1 D ∗ hbPt c hist H ∗ free c W 0 ∗ free c W 1 ∗ owes (c : Thread nD τ) 0 Ws
            ∗ (Q -∗ K ⟨⟩))
          ⊢ wp frame (wpE (defs₀ (F := F)) Variants.none c none) Set.univ (cc0_shortconv (grid0.coords t) arg2 harg2 (Memref.whole main_arg1) (Memref.isWhole_whole _) arg4 harg4 arg5 harg5 wbf0 (Memref.isWhole_whole _) wbf1 (Memref.isWhole_whole _) stg (Memref.isWhole_whole _) cc0_scratch3 hist (Memref.isWhole_whole _)) K := by
    intro Ws K
    haveI : Fact (k0_cond1 (grid0.coords t) = 1#1) := ⟨hc1⟩
    haveI : Fact (k0_cond2 (grid0.coords t) = 1#1) := ⟨hc2⟩
    haveI : Fact (¬k0_cond4 (grid0.coords t) = 1#1) := ⟨hc4⟩
    haveI : Fact (¬k0_cond6 (grid0.coords t) = 1#1) := ⟨hc6⟩
    haveI : Fact (condZ (grid0.coords t)) := ⟨hcZ⟩
    have ht : t.val = 0 := (hcond1 t).mp hc1
    simp only [cc0_shortconv_eq_skeleton]; unfold cc0_shortconv_skel
    simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns free freeP
    iintro ⟨⟨%f2, %hf2, H2⟩, ⟨%f4, %hf4, H4⟩, ⟨%d5, %f5, -, H5⟩, HC, HD, HH, ⟨⟨Hc00, ⟨%e00, Hs00⟩, Hw00⟩, ⟨Hc01, ⟨%e01, Hs01⟩, Hw01⟩, ⟨Hc02, ⟨%e02, Hs02⟩, Hw02⟩, ⟨Hc03, ⟨%e03, Hs03⟩, Hw03⟩⟩, ⟨⟨Hc10, ⟨%e10, Hs10⟩, Hw10⟩, ⟨Hc11, ⟨%e11, Hs11⟩, Hw11⟩, ⟨Hc12, ⟨%e12, Hs12⟩, Hw12⟩, ⟨Hc13, ⟨%e13, Hs13⟩, Hw13⟩⟩, HW, Hk⟩
    ihave Hx := (src_split c W 0 0 0).1 $$ Hw00
    icases Hx with ⟨Hh00, Hk00⟩
    ihave Hx := (src_split c W 0 1 0).1 $$ Hw01
    icases Hx with ⟨Hh01, Hk01⟩
    ihave Hx := (src_split c W 0 2 0).1 $$ Hw02
    icases Hx with ⟨Hh02, Hk02⟩
    ihave Hx := (src_split c W 0 3 0).1 $$ Hw03
    icases Hx with ⟨Hh03, Hk03⟩
    ihave Hx := (src_split c W 1 0 1).1 $$ Hw10
    icases Hx with ⟨Hh10, Hk10⟩
    ihave Hx := (src_split c W 1 1 1).1 $$ Hw11
    icases Hx with ⟨Hh11, Hk11⟩
    ihave Hx := (src_split c W 1 2 1).1 $$ Hw12
    icases Hx with ⟨Hh12, Hk12⟩
    ihave Hx := (src_split c W 1 3 1).1 $$ Hw13
    icases Hx with ⟨Hh13, Hk13⟩
    obtain rfl := harg2.eq_unread hf2
    obtain rfl := harg4.eq_unread hf4
    sl_exec (disch := first | sl_exact hc1 | sl_exact hc2 | sl_exact hc4 | sl_exact hc6 | sl_exact hcZ)
    ihave Hx := (src_swap c W 0 0 0 2) $$ [Hh00 Hk00]
    · isplitl [Hh00]; · iexact Hh00
      iexact Hk00
    icases Hx with ⟨Hh00, Hk00⟩
    ihave Hx := (src_swap c W 0 1 0 2) $$ [Hh01 Hk01]
    · isplitl [Hh01]; · iexact Hh01
      iexact Hk01
    icases Hx with ⟨Hh01, Hk01⟩
    ihave Hx := (src_swap c W 0 2 0 2) $$ [Hh02 Hk02]
    · isplitl [Hh02]; · iexact Hh02
      iexact Hk02
    icases Hx with ⟨Hh02, Hk02⟩
    ihave Hx := (src_swap c W 0 3 0 2) $$ [Hh03 Hk03]
    · isplitl [Hh03]; · iexact Hh03
      iexact Hk03
    icases Hx with ⟨Hh03, Hk03⟩
    sl_exec (disch := first | sl_exact hc1 | sl_exact hc2 | sl_exact hc4 | sl_exact hc6 | sl_exact hcZ)
    ihave Hx := (src_swap c W 1 0 1 3) $$ [Hh10 Hk10]
    · isplitl [Hh10]; · iexact Hh10
      iexact Hk10
    icases Hx with ⟨Hh10, Hk10⟩
    ihave Hx := (src_swap c W 1 1 1 3) $$ [Hh11 Hk11]
    · isplitl [Hh11]; · iexact Hh11
      iexact Hk11
    icases Hx with ⟨Hh11, Hk11⟩
    ihave Hx := (src_swap c W 1 2 1 3) $$ [Hh12 Hk12]
    · isplitl [Hh12]; · iexact Hh12
      iexact Hk12
    icases Hx with ⟨Hh12, Hk12⟩
    ihave Hx := (src_swap c W 1 3 1 3) $$ [Hh13 Hk13]
    · isplitl [Hh13]; · iexact Hh13
      iexact Hk13
    icases Hx with ⟨Hh13, Hk13⟩
    sl_exec (disch := first | sl_exact hc1 | sl_exact hc2 | sl_exact hc4 | sl_exact hc6 | sl_exact hcZ)
    ihave Hx := (src_swap c W 0 0 2 4) $$ [Hh00 Hk00]
    · isplitl [Hh00]; · iexact Hh00
      iexact Hk00
    icases Hx with ⟨Hh00, Hk00⟩
    ihave Hx := (src_swap c W 0 1 2 4) $$ [Hh01 Hk01]
    · isplitl [Hh01]; · iexact Hh01
      iexact Hk01
    icases Hx with ⟨Hh01, Hk01⟩
    ihave Hx := (src_swap c W 0 2 2 4) $$ [Hh02 Hk02]
    · isplitl [Hh02]; · iexact Hh02
      iexact Hk02
    icases Hx with ⟨Hh02, Hk02⟩
    ihave Hx := (src_swap c W 0 3 2 4) $$ [Hh03 Hk03]
    · isplitl [Hh03]; · iexact Hh03
      iexact Hk03
    icases Hx with ⟨Hh03, Hk03⟩
    sl_exec (disch := first | sl_exact hc1 | sl_exact hc2 | sl_exact hc4 | sl_exact hc6 | sl_exact hcZ)
    ihave Hx := (src_swap c W 1 0 3 5) $$ [Hh10 Hk10]
    · isplitl [Hh10]; · iexact Hh10
      iexact Hk10
    icases Hx with ⟨Hh10, Hk10⟩
    ihave Hx := (src_swap c W 1 1 3 5) $$ [Hh11 Hk11]
    · isplitl [Hh11]; · iexact Hh11
      iexact Hk11
    icases Hx with ⟨Hh11, Hk11⟩
    ihave Hx := (src_swap c W 1 2 3 5) $$ [Hh12 Hk12]
    · isplitl [Hh12]; · iexact Hh12
      iexact Hk12
    icases Hx with ⟨Hh12, Hk12⟩
    ihave Hx := (src_swap c W 1 3 3 5) $$ [Hh13 Hk13]
    · isplitl [Hh13]; · iexact Hh13
      iexact Hk13
    icases Hx with ⟨Hh13, Hk13⟩
    sl_exec (disch := first | sl_exact hc1 | sl_exact hc2 | sl_exact hc4 | sl_exact hc6 | sl_exact hcZ)
    ihave Hx := (src_swap c W 0 0 4 6) $$ [Hh00 Hk00]
    · isplitl [Hh00]; · iexact Hh00
      iexact Hk00
    icases Hx with ⟨Hh00, Hk00⟩
    ihave Hx := (src_swap c W 0 1 4 6) $$ [Hh01 Hk01]
    · isplitl [Hh01]; · iexact Hh01
      iexact Hk01
    icases Hx with ⟨Hh01, Hk01⟩
    ihave Hx := (src_swap c W 0 2 4 6) $$ [Hh02 Hk02]
    · isplitl [Hh02]; · iexact Hh02
      iexact Hk02
    icases Hx with ⟨Hh02, Hk02⟩
    ihave Hx := (src_swap c W 0 3 4 6) $$ [Hh03 Hk03]
    · isplitl [Hh03]; · iexact Hh03
      iexact Hk03
    icases Hx with ⟨Hh03, Hk03⟩
    sl_exec (disch := first | sl_exact hc1 | sl_exact hc2 | sl_exact hc4 | sl_exact hc6 | sl_exact hcZ)
    ihave Hx := (src_swap c W 1 0 5 7) $$ [Hh10 Hk10]
    · isplitl [Hh10]; · iexact Hh10
      iexact Hk10
    icases Hx with ⟨Hh10, Hk10⟩
    ihave Hx := (src_swap c W 1 1 5 7) $$ [Hh11 Hk11]
    · isplitl [Hh11]; · iexact Hh11
      iexact Hk11
    icases Hx with ⟨Hh11, Hk11⟩
    ihave Hx := (src_swap c W 1 2 5 7) $$ [Hh12 Hk12]
    · isplitl [Hh12]; · iexact Hh12
      iexact Hk12
    icases Hx with ⟨Hh12, Hk12⟩
    ihave Hx := (src_swap c W 1 3 5 7) $$ [Hh13 Hk13]
    · isplitl [Hh13]; · iexact Hh13
      iexact Hk13
    icases Hx with ⟨Hh13, Hk13⟩
    sl_exec (disch := first | sl_exact hc1 | sl_exact hc2 | sl_exact hc4 | sl_exact hc6 | sl_exact hcZ)
    ihave Hx := (src_swap c W 0 0 6 8) $$ [Hh00 Hk00]
    · isplitl [Hh00]; · iexact Hh00
      iexact Hk00
    icases Hx with ⟨Hh00, Hk00⟩
    ihave Hx := (src_swap c W 0 1 6 8) $$ [Hh01 Hk01]
    · isplitl [Hh01]; · iexact Hh01
      iexact Hk01
    icases Hx with ⟨Hh01, Hk01⟩
    ihave Hx := (src_swap c W 0 2 6 8) $$ [Hh02 Hk02]
    · isplitl [Hh02]; · iexact Hh02
      iexact Hk02
    icases Hx with ⟨Hh02, Hk02⟩
    ihave Hx := (src_swap c W 0 3 6 8) $$ [Hh03 Hk03]
    · isplitl [Hh03]; · iexact Hh03
      iexact Hk03
    icases Hx with ⟨Hh03, Hk03⟩
    set_option sl_exec.stopBefore "k0_part33" in sl_exec (disch := first | sl_exact hc1 | sl_exact hc2 | sl_exact hc4 | sl_exact hc6 | sl_exact hcZ)
    sl_open_run
    ihave HC := (hbPt_congr c wbf0 (writes_pro c W _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      (pe8 _) (cast_piece c W 0 0 0 _ _ ![0, 0, 0, 0] _ rfl _)
      (pe9 _) (cast_piece c W 0 1 0 _ _ ![0, 1, 0, 0] _ rfl _)
      (pe11 _) (cast_piece c W 0 2 0 _ _ ![0, 2, 0, 0] _ rfl _)
      (pe12 _) (cast_piece c W 0 3 0 _ _ ![0, 3, 0, 0] _ rfl _)
      (pe13 _) (cast_piece c W 1 0 1 _ _ ![1, 0, 0, 0] _ rfl _)
      (pe14 _) (cast_piece c W 1 1 1 _ _ ![1, 1, 0, 0] _ rfl _)
      (pe15 _) (cast_piece c W 1 2 1 _ _ ![1, 2, 0, 0] _ rfl _)
      (pe16 _) (cast_piece c W 1 3 1 _ _ ![1, 3, 0, 0] _ rfl _)
      (pe17 _) (cast_piece c W 0 0 2 _ _ ![0, 0, 0, 0] _ rfl _)
      (pe18 _) (cast_piece c W 0 1 2 _ _ ![0, 1, 0, 0] _ rfl _)
      (pe19 _) (cast_piece c W 0 2 2 _ _ ![0, 2, 0, 0] _ rfl _)
      (pe20 _) (cast_piece c W 0 3 2 _ _ ![0, 3, 0, 0] _ rfl _)
      (pe21 _) (cast_piece c W 1 0 3 _ _ ![1, 0, 0, 0] _ rfl _)
      (pe22 _) (cast_piece c W 1 1 3 _ _ ![1, 1, 0, 0] _ rfl _)
      (pe23 _) (cast_piece c W 1 2 3 _ _ ![1, 2, 0, 0] _ rfl _)
      (pe24 _) (cast_piece c W 1 3 3 _ _ ![1, 3, 0, 0] _ rfl _)
      (pe25 _) (cast_piece c W 0 0 4 _ _ ![0, 0, 0, 0] _ rfl _)
      (pe26 _) (cast_piece c W 0 1 4 _ _ ![0, 1, 0, 0] _ rfl _)
      (pe27 _) (cast_piece c W 0 2 4 _ _ ![0, 2, 0, 0] _ rfl _)
      (pe28 _) (cast_piece c W 0 3 4 _ _ ![0, 3, 0, 0] _ rfl _)
      (pe29 _) (cast_piece c W 1 0 5 _ _ ![1, 0, 0, 0] _ rfl _)
      (pe31 _) (cast_piece c W 1 1 5 _ _ ![1, 1, 0, 0] _ rfl _)
      (pe32 _) (cast_piece c W 1 2 5 _ _ ![1, 2, 0, 0] _ rfl _)
      (pe33 _) (cast_piece c W 1 3 5 _ _ ![1, 3, 0, 0] _ rfl _)
      (pe34 _) (cast_piece c W 0 0 6 _ _ ![0, 0, 0, 0] _ rfl _)
      (pe35 _) (cast_piece c W 0 1 6 _ _ ![0, 1, 0, 0] _ rfl _)
      (pe37 _) (cast_piece c W 0 2 6 _ _ ![0, 2, 0, 0] _ rfl _)
      (pe38 _) (cast_piece c W 0 3 6 _ _ ![0, 3, 0, 0] _ rfl _)
      (pe39 _) (cast_piece c W 1 0 7 _ _ ![1, 0, 0, 0] _ rfl _)
      (pe40 _) (cast_piece c W 1 1 7 _ _ ![1, 1, 0, 0] _ rfl _)
      (pe41 _) (cast_piece c W 1 2 7 _ _ ![1, 2, 0, 0] _ rfl _)
      (pe1 _) (cast_piece c W 1 3 7 _ _ ![1, 3, 0, 0] _ rfl _))) $$ HC
    ihave Hi : infl c W 0 8 $$ [Hc00 Hk00 Hc01 Hk01 Hc02 Hk02 Hc03 Hk03]
    · unfold infl
      isplitl [Hc00 Hk00]
      · iapply (infl_mk' c W 0 0 8 _ _); isplitl [Hc00]; · iexact Hc00
        iexact Hk00
      isplitl [Hc01 Hk01]
      · iapply (infl_mk' c W 0 1 8 _ _); isplitl [Hc01]; · iexact Hc01
        iexact Hk01
      isplitl [Hc02 Hk02]
      · iapply (infl_mk' c W 0 2 8 _ _); isplitl [Hc02]; · iexact Hc02
        iexact Hk02
      iapply (infl_mk' c W 0 3 8 _ _); isplitl [Hc03]; · iexact Hc03
      iexact Hk03
    ihave Hj : free c W 1 $$ [Hc10 Hs10 Hh10 Hk10 Hc11 Hs11 Hh11 Hk11 Hc12 Hs12 Hh12 Hk12 Hc13 Hs13 Hh13 Hk13]
    · unfold free
      isplitl [Hc10 Hs10 Hh10 Hk10]
      · iapply (free_mk c W 1 0 7 _)
        isplitl [Hc10]; · iexact Hc10
        isplitl [Hs10]; · iexact Hs10
        isplitl [Hh10]; · iexact Hh10
        iexact Hk10
      isplitl [Hc11 Hs11 Hh11 Hk11]
      · iapply (free_mk c W 1 1 7 _)
        isplitl [Hc11]; · iexact Hc11
        isplitl [Hs11]; · iexact Hs11
        isplitl [Hh11]; · iexact Hh11
        iexact Hk11
      isplitl [Hc12 Hs12 Hh12 Hk12]
      · iapply (free_mk c W 1 2 7 _)
        isplitl [Hc12]; · iexact Hc12
        isplitl [Hs12]; · iexact Hs12
        isplitl [Hh12]; · iexact Hh12
        iexact Hk12
      iapply (free_mk c W 1 3 7 _)
      isplitl [Hc13]; · iexact Hc13
      isplitl [Hs13]; · iexact Hs13
      isplitl [Hh13]; · iexact Hh13
      iexact Hk13
    ihave Hi := (infl_first c W ht) $$ Hi
    ihave Hj := (free_first c W ht) $$ Hj
    unfold infl inflP free freeP
    icases Hi with ⟨⟨%g0, Hf0, Hr0⟩, ⟨%g1, Hf1, Hr1⟩, ⟨%g2, Hf2, Hr2⟩, ⟨%g3, Hf3, Hr3⟩⟩
    icases Hj with ⟨⟨Hc0, ⟨%e0, Hs0⟩, Hw0⟩, ⟨Hc1, ⟨%e1, Hs1⟩, Hw1⟩, ⟨Hc2, ⟨%e2, Hs2⟩, Hw2⟩, ⟨Hc3, ⟨%e3, Hs3⟩, Hw3⟩⟩
    ihave Hx := (src_split c W (Ring.sl 2 (t.val + 1)) 0 (t.val + 9)).1 $$ Hw0
    icases Hx with ⟨Hh0, Hk0⟩
    ihave Hx := (src_split c W (Ring.sl 2 (t.val + 1)) 1 (t.val + 9)).1 $$ Hw1
    icases Hx with ⟨Hh1, Hk1⟩
    ihave Hx := (src_split c W (Ring.sl 2 (t.val + 1)) 2 (t.val + 9)).1 $$ Hw2
    icases Hx with ⟨Hh2, Hk2⟩
    ihave Hx := (src_split c W (Ring.sl 2 (t.val + 1)) 3 (t.val + 9)).1 $$ Hw3
    icases Hx with ⟨Hh3, Hk3⟩
    sl_exec (disch := first | sl_exact hc1 | sl_exact hc2 | sl_exact hc4 | sl_exact hc6 | sl_exact hcZ)
    sl_open_run
    ihave HD := (hbPt_congr c wbf1 (writes_castIn1 c W (t.val + 8) _ _ _ _ _ _ _ _ _ _ _ _ _ _ _ _ _
      ((coff21 t).trans (by rw [Nat.add_mod_right]))
      ((coff23 t).trans (by rw [Nat.add_mod_right]))
      ((coff25 t).trans (by rw [Nat.add_mod_right]))
      ((coff27 t).trans (by rw [Nat.add_mod_right]))
      (pe43 _) (cast_piece c W (Ring.sl 2 t.val) 0 (t.val + 8) _ [] _ _ (coff20 t) _)
      (pe44 _) (cast_piece c W (Ring.sl 2 t.val) 1 (t.val + 8) _ [] _ _ (coff22 t) _)
      (pe45 _) (cast_piece c W (Ring.sl 2 t.val) 2 (t.val + 8) _ [] _ _ (coff24 t) _)
      (pe46 _) (cast_piece c W (Ring.sl 2 t.val) 3 (t.val + 8) _ [] _ _ (coff26 t) _))) $$ HD
    sl_step
    iapply Hk
    iapply hQ
    isplitl [H2]
    · unfold owns; iexists _; isplitr
      · ipureintro; exact harg2.read_unread x
      · iexact H2
    isplitl [H4]
    · unfold owns; iexists _; isplitr
      · ipureintro; exact harg4.read_unread cw
      · iexact H4
    isplitl [H5]
    · unfold owns; iexists _; isplitr
      swap; · iexact H5
      ipureintro
      refine (View.read_writes_full _ _ _ _ _).trans (outV_of ?_ ?_ ?_ ?_)
      · exact ld2 harg2 x _
      · exact View.readAt_full _ _ _
      · exact ld4 harg4 cw _
      · exact View.readAt_writes_full _ _ _ _ _ _
    isplitl [HC]; · iexact HC
    isplitl [HD]; · iexact HD
    isplitl [HH]
    · iapply (hbPt_congr c hist ((hist_writes c _ _ _ _).trans (histV_of ?_ ?_))) $$ HH
      · exact ld2 harg2 x _
      · exact View.readAt_full _ _ _
    isplitl [Hc0 Hc1 Hc2 Hc3 Hk0 Hk1 Hk2 Hk3]
    · unfold infl
      isplitl [Hc0 Hk0]
      · iapply (infl_mk c W (Ring.sl 2 (t.val + 1)) 0 _ _); isplitl [Hc0]; · iexact Hc0
        iexact Hk0
      isplitl [Hc1 Hk1]
      · iapply (infl_mk c W (Ring.sl 2 (t.val + 1)) 1 _ _); isplitl [Hc1]; · iexact Hc1
        iexact Hk1
      isplitl [Hc2 Hk2]
      · iapply (infl_mk c W (Ring.sl 2 (t.val + 1)) 2 _ _); isplitl [Hc2]; · iexact Hc2
        iexact Hk2
      iapply (infl_mk c W (Ring.sl 2 (t.val + 1)) 3 _ _); isplitl [Hc3]; · iexact Hc3
      iexact Hk3
    isplitl [Hf0 Hf1 Hf2 Hf3 Hf0_dst Hf1_dst Hf2_dst Hf3_dst Hf0_src Hf1_src Hf2_src Hf3_src Hr0 Hr1 Hr2 Hr3]
    · unfold free
      isplitl [Hf0 Hf0_dst Hf0_src Hr0]
      · iapply (free_mk c W (Ring.sl 2 t.val) 0 _ _)
        isplitl [Hf0]; · iexact Hf0
        isplitl [Hf0_dst]; · iexact Hf0_dst
        isplitl [Hf0_src]; · iexact Hf0_src
        iexact Hr0
      isplitl [Hf1 Hf1_dst Hf1_src Hr1]
      · iapply (free_mk c W (Ring.sl 2 t.val) 1 _ _)
        isplitl [Hf1]; · iexact Hf1
        isplitl [Hf1_dst]; · iexact Hf1_dst
        isplitl [Hf1_src]; · iexact Hf1_src
        iexact Hr1
      isplitl [Hf2 Hf2_dst Hf2_src Hr2]
      · iapply (free_mk c W (Ring.sl 2 t.val) 2 _ _)
        isplitl [Hf2]; · iexact Hf2
        isplitl [Hf2_dst]; · iexact Hf2_dst
        isplitl [Hf2_src]; · iexact Hf2_src
        iexact Hr2
      iapply (free_mk c W (Ring.sl 2 t.val) 3 _ _)
      isplitl [Hf3]; · iexact Hf3
      isplitl [Hf3_dst]; · iexact Hf3_dst
      isplitl [Hf3_src]; · iexact Hf3_src
      iexact Hr3
    iexists _; iexact HW

end Cert.KernelIdeal.Own

end
-- ==== Proof.Frame.lean ====
module

public import proofs.«01_k».proof.Proof.RunEF
public import proofs.«01_k».proof.Proof.Gen.KernelIdeal.Frame
public import Idealize.ShloMosaic.Lib.Ring.AtN
public import Idealize.ShloMosaic.Lib.Claim

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The stage buffer is its eight parts; the weights' copies -/

def ps (k : Fin 8) : Fin 2 := ⟨k.val / 4, by omega⟩
def pn (k : Fin 8) : Fin 4 := ⟨k.val % 4, by omega⟩
abbrev partSet (k : Fin 8) : Finset S2x4x512x256.Idx := (Rect.unit (s := S2x4x512x256) ![(ps k).val, (pn k).val, 0, 0] S1x1x512x256.size (inb_part (ps k) (pn k))).set
theorem partSet_eq (k : Fin 8) : (rpart (ps k) (pn k)).view.set = partSet k := by
  simp only [rpart, Memref.view_squeeze, View.set_reshape]; exact View.set_slice_whole _ _
theorem parts_disjoint (k k' : Fin 8) (h : k ≠ k') : Disjoint (partSet k) (partSet k') := by
  rw [Finset.disjoint_left]
  intro i hi hi'
  have h0 := (Rect.mem_set_unit.mp hi) 0
  have h1 := (Rect.mem_set_unit.mp hi) 1
  have h0' := (Rect.mem_set_unit.mp hi') 0
  have h1' := (Rect.mem_set_unit.mp hi') 1
  have e0 : (S1x1x512x256.size 0) = 1 := rfl
  have e1 : (S1x1x512x256.size 1) = 1 := rfl
  simp only [Matrix.cons_val_zero, Matrix.cons_val_one, ps, pn] at h0 h1 h0' h1'
  exact h (Fin.ext (by omega))
theorem parts_cover : Finset.univ.biUnion partSet = Finset.univ := by
  ext i
  simp only [Finset.mem_biUnion, Finset.mem_univ, true_and, iff_true]
  have b0 : (i 0).val < 2 := (i 0).isLt
  have b1 : (i 1).val < 4 := (i 1).isLt
  have b2 : (i 2).val < 512 := (i 2).isLt
  have b3 : (i 3).val < 256 := (i 3).isLt
  refine ⟨⟨(i 0).val * 4 + (i 1).val, by omega⟩, Rect.mem_set_unit.mpr fun a => ?_⟩
  fin_cases a
  · show ((i 0).val * 4 + (i 1).val) / 4 ≤ (i 0).val ∧ (i 0).val < ((i 0).val * 4 + (i 1).val) / 4 + 1; omega
  · show ((i 0).val * 4 + (i 1).val) % 4 ≤ (i 1).val ∧ (i 1).val < ((i 0).val * 4 + (i 1).val) % 4 + 1; omega
  · show 0 ≤ (i 2).val ∧ (i 2).val < 0 + 512; omega
  · show 0 ≤ (i 3).val ∧ (i 3).val < 0 + 256; omega

section InOut
variable (c : Dev nD) (W : HbBuf (F := F) c wM)
theorem partP_eq (k : Fin 8) (f : Buf (Elt F) ((c : Thread nD τ).loc cc0_scratch2)) :
    partP (F := F) c (ps k) (pn k) f = (((c : Thread nD τ).loc cc0_scratch2) ↦[partSet k]{fullShare} f : sProp 𝕄) := by
  unfold partP; rw [partSet_eq]; rfl
/-- The eight parts, each at some contents. -/
def parts : sProp 𝕄 :=
  iprop((∃ f, partP (F := F) c 0 0 f) ∗ (∃ f, partP (F := F) c 0 1 f) ∗ (∃ f, partP (F := F) c 0 2 f) ∗ (∃ f, partP (F := F) c 0 3 f)
    ∗ (∃ f, partP (F := F) c 1 0 f) ∗ (∃ f, partP (F := F) c 1 1 f) ∗ (∃ f, partP (F := F) c 1 2 f) ∗ (∃ f, partP (F := F) c 1 3 f))
set_option maxHeartbeats 1000000 in
theorem parts_in : iprop(∃ f, hbPt (F := F) c stg f) ⊢ parts (F := F) c :=
  Ring.slots_split_n (U := Pipeline.UD sig nD τ) (ℓ := (c : Thread nD τ).loc cc0_scratch2) (q := fullShare) partSet parts_disjoint parts_cover
    [0, 1, 2, 3, 4, 5, 6, 7] (by decide) (by decide) (fun k f => partP (F := F) c (ps k) (pn k) f) (fun k f => partP_eq c k f)
set_option maxHeartbeats 1000000 in
theorem parts_out : parts (F := F) c ⊢ iprop(∃ f, hbPt (F := F) c stg f) :=
  Ring.slots_join_n (U := Pipeline.UD sig nD τ) (ℓ := (c : Thread nD τ).loc cc0_scratch2) (q := fullShare) partSet parts_disjoint parts_cover
    [0, 1, 2, 3, 4, 5, 6, 7] (by decide) (by decide) (fun k f => partP (F := F) c (ps k) (pn k) f) (fun k f => partP_eq c k f)

theorem share2 (q : PosShare TreeShare) : (((c : Thread nD τ).loc main_arg1) ↦[Finset.univ]{q} W : sProp 𝕄)
    ⊣⊢ iprop((((c : Thread nD τ).loc main_arg1) ↦[Finset.univ]{q.left} W) ∗ (((c : Thread nD τ).loc main_arg1) ↦[Finset.univ]{q.right} W)) :=
  pointsTo_share (PosShare.mem_left_op_right q)
theorem whole4 (s : Fin 2) : (((c : Thread nD τ).loc main_arg1) ↦[Finset.univ]{qh s} W : sProp 𝕄)
    ⊣⊢ iprop(wholeP (F := F) c W s 0 ∗ wholeP c W s 1 ∗ wholeP c W s 2 ∗ wholeP c W s 3) := by
  have e0 : qs s 0 = (qh s).left.left := rfl
  have e1 : qs s 1 = (qh s).left.right := rfl
  have e2 : qs s 2 = (qh s).right.left := rfl
  have e3 : qs s 3 = (qh s).right.right := rfl
  unfold wholeP; rw [e0, e1, e2, e3]
  constructor
  · iintro H
    ihave H := (share2 c W (qh s)).1 $$ H
    icases H with ⟨Ha, Hb⟩
    ihave Ha := (share2 c W (qh s).left).1 $$ Ha
    ihave Hb := (share2 c W (qh s).right).1 $$ Hb
    icases Ha with ⟨H0, H1⟩
    icases Hb with ⟨H2, H3⟩
    isplitl [H0]; · iexact H0
    isplitl [H1]; · iexact H1
    isplitl [H2]; · iexact H2
    iexact H3
  · iintro ⟨H0, H1, H2, H3⟩
    iapply (share2 c W (qh s)).2
    isplitl [H0 H1]
    · iapply (share2 c W (qh s).left).2
      isplitl [H0]; · iexact H0
      iexact H1
    iapply (share2 c W (qh s).right).2
    isplitl [H2]; · iexact H2
    iexact H3
theorem whole8 : (hbPt c wM W : sProp 𝕄) ⊣⊢ iprop((((c : Thread nD τ).loc main_arg1) ↦[Finset.univ]{qh 0} W) ∗ (((c : Thread nD τ).loc main_arg1) ↦[Finset.univ]{qh 1} W)) :=
  share2 c W fullShare

/-- The cells at zero. -/
def cells : sProp 𝕄 := iprop(cellP (F := F) c 0 0 ∗ cellP c 0 1 ∗ cellP c 0 2 ∗ cellP c 0 3 ∗ cellP c 1 0 ∗ cellP c 1 1 ∗ cellP c 1 2 ∗ cellP c 1 3)

theorem ring_in : iprop((∃ f, hbPt (F := F) c stg f) ∗ cells c ∗ hbPt c wM W) ⊢ iprop(free c W 0 ∗ free c W 1) := by
  unfold cells
  iintro ⟨HS, ⟨C0, C1, C2, C3, D0, D1, D2, D3⟩, HW⟩
  ihave HS := (parts_in (F := F) c) $$ HS
  unfold parts
  icases HS with ⟨P0, P1, P2, P3, Q0, Q1, Q2, Q3⟩
  ihave HW := (whole8 c W).1 $$ HW
  icases HW with ⟨HA, HB⟩
  ihave HA := (whole4 c W 0).1 $$ HA
  ihave HB := (whole4 c W 1).1 $$ HB
  icases HA with ⟨A0, A1, A2, A3⟩
  icases HB with ⟨B0, B1, B2, B3⟩
  unfold free freeP
  isplitl [C0 C1 C2 C3 P0 P1 P2 P3 A0 A1 A2 A3]
  · isplitl [C0 P0 A0]
    · isplitl [C0]; · iexact C0
      isplitl [P0]; · iexact P0
      iexact A0
    isplitl [C1 P1 A1]
    · isplitl [C1]; · iexact C1
      isplitl [P1]; · iexact P1
      iexact A1
    isplitl [C2 P2 A2]
    · isplitl [C2]; · iexact C2
      isplitl [P2]; · iexact P2
      iexact A2
    isplitl [C3]; · iexact C3
    isplitl [P3]; · iexact P3
    iexact A3
  isplitl [D0 Q0 B0]
  · isplitl [D0]; · iexact D0
    isplitl [Q0]; · iexact Q0
    iexact B0
  isplitl [D1 Q1 B1]
  · isplitl [D1]; · iexact D1
    isplitl [Q1]; · iexact Q1
    iexact B1
  isplitl [D2 Q2 B2]
  · isplitl [D2]; · iexact D2
    isplitl [Q2]; · iexact Q2
    iexact B2
  isplitl [D3]; · iexact D3
  isplitl [Q3]; · iexact Q3
  iexact B3

theorem ring_out : iprop(free c W 0 ∗ free c W 1) ⊢ iprop((∃ f, hbPt (F := F) c stg f) ∗ cells c ∗ hbPt c wM W) := by
  unfold free freeP
  iintro ⟨⟨⟨C0, P0, A0⟩, ⟨C1, P1, A1⟩, ⟨C2, P2, A2⟩, ⟨C3, P3, A3⟩⟩, ⟨⟨D0, Q0, B0⟩, ⟨D1, Q1, B1⟩, ⟨D2, Q2, B2⟩, ⟨D3, Q3, B3⟩⟩⟩
  isplitl [P0 P1 P2 P3 Q0 Q1 Q2 Q3]
  · iapply (parts_out (F := F) c)
    unfold parts
    isplitl [P0]; · iexact P0
    isplitl [P1]; · iexact P1
    isplitl [P2]; · iexact P2
    isplitl [P3]; · iexact P3
    isplitl [Q0]; · iexact Q0
    isplitl [Q1]; · iexact Q1
    isplitl [Q2]; · iexact Q2
    iexact Q3
  isplitl [C0 C1 C2 C3 D0 D1 D2 D3]
  · unfold cells
    isplitl [C0]; · iexact C0
    isplitl [C1]; · iexact C1
    isplitl [C2]; · iexact C2
    isplitl [C3]; · iexact C3
    isplitl [D0]; · iexact D0
    isplitl [D1]; · iexact D1
    isplitl [D2]; · iexact D2
    iexact D3
  iapply (whole8 c W).2
  isplitl [A0 A1 A2 A3]
  · iapply (whole4 c W 0).2
    isplitl [A0]; · iexact A0
    isplitl [A1]; · iexact A1
    isplitl [A2]; · iexact A2
    iexact A3
  iapply (whole4 c W 1).2
  isplitl [B0]; · iexact B0
  isplitl [B1]; · iexact B1
  isplitl [B2]; · iexact B2
  iexact B3
end InOut

/-! ## The launch's own semaphores and the array left where it is -/

abbrev osem : Fin 8 → SemLoc sig := fun j => (![SemLoc.dma 6, SemLoc.dma 7, SemLoc.dma 8, SemLoc.dma 9, SemLoc.dma 10, SemLoc.dma 11, SemLoc.dma 12, SemLoc.dma 13] : Fin 8 → SemLoc sig) j
theorem ownSemFacts : Pipeline.OwnSemFacts spec0 osem := by decide
theorem osem_cell : ∀ k : Fin 8, cellR (ps k) (pn k) = osem k := by decide
theorem ownSems0_eq (c : Dev nD) :
    (Pipeline.ownSems0 (Ix := Unit) (Name := ℕ) (U := Pipeline.UD sig nD τ) (Lvl := ℕ) (Val := Elt F) (τ := τ) osem c : sProp 𝕄) = cells (F := F) c := by
  have e : ∀ k : Fin 8, (semVal ((c : Thread nD τ), osem k) 0 : sProp 𝕄) = cellP (F := F) c (ps k) (pn k) := fun k => by rw [← osem_cell k]
  rw [Pipeline.ownSems0_eq_of_list c osem [0, 1, 2, 3, 4, 5, 6, 7] (by decide) (by decide)]
  unfold cells
  refine Eq.trans (show _ = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0) from rfl) ?_
  rw [e 0, e 1, e 2, e 3, e 4, e 5, e 6, e 7]; rfl
def H0 : Finset (Ref sig .tc) := {main_arg1}
theorem H0_sub : H0 ⊆ Pipeline.restRefs sig spec0 := by decide

variable (m : (ℓ : Loc nD τ sig) → Buf (Elt F) ℓ) (ρ : Dev nD → PrngReg)

theorem hbmPts0_eq (c : Dev nD) :
    (bigSep H0 (fun b => ((c : Thread nD τ).loc b) ↦{fullShare} V m c b) : sProp 𝕄) = iprop(hbPt c wM (V m c main_arg1)) := by
  rw [BI.bigSep_eq_bigSepL_of_eq [main_arg1] (by decide) (by decide)]; rfl

theorem PhiD0_eq (c : Dev nD) :
    (Pipeline.ΦD osem spec0 H0 (V m) c : sProp 𝕄)
      = iprop(iprop((∃ f, hbPt (F := F) c wbf0 f) ∗ (∃ f, hbPt (F := F) c wbf1 f) ∗ (∃ f, hbPt (F := F) c stg f) ∗ (∃ f, hbPt (F := F) c hist f)) ∗ (∃ r, prngReg c r) ∗ cells (F := F) c ∗ iprop(hbPt c wM (V m c main_arg1))) := by
  rw [Pipeline.ΦD_eq, scopedRest0_eq, ownSems0_eq, hbmPts0_eq]; try rfl

/-! ## What the buffers hold before each point -/

/-- The rows carried out of point `n`. -/
def histAt (c : Dev nD) (n : ℕ) : Vec F S8x256 .f32 :=
  if h : n < cfg0.N then histV (iblk m c 0 ⟨n, h⟩) (wcols c (V m c main_arg1) (n / 8)) else k0_pay48

/-- The other buffer holds the first `k mod 8` blocks of rows of the next column block. -/
def Has (c : Dev nD) (k : ℕ) (D : Vec F S4096x1024 .bf16) : Prop :=
  ∀ y, (y 0).val < 512 * (k % 8) → D y = wcols c (V m c main_arg1) (k / 8 + 1) y

/-- The two column buffers, by the parity of the column block. -/
def duo (c : Dev nD) (n : ℕ) (A B : Vec F S4096x1024 .bf16) : sProp 𝕄 :=
  if n % 16 < 8 then iprop(hbPt (F := F) c wbf0 A ∗ hbPt (F := F) c wbf1 B) else iprop(hbPt (F := F) c wbf1 A ∗ hbPt (F := F) c wbf0 B)

theorem duo_swap (c : Dev nD) (n : ℕ) (A B : Vec F S4096x1024 .bf16) (h : n % 8 = 7) : duo (F := F) c n A B ⊢ duo (F := F) c (n + 1) B A := by
  unfold duo
  by_cases hp : n % 16 < 8
  · rw [if_pos hp, if_neg (show ¬(n + 1) % 16 < 8 by omega)]
    iintro ⟨Ha, Hb⟩
    isplitl [Hb]; · iexact Hb
    iexact Ha
  · rw [if_neg hp, if_pos (show (n + 1) % 16 < 8 by omega)]
    iintro ⟨Ha, Hb⟩
    isplitl [Hb]; · iexact Hb
    iexact Ha
theorem duo_keep (c : Dev nD) (n : ℕ) (A B : Vec F S4096x1024 .bf16) (h : ¬n % 8 = 7) : duo (F := F) c n A B ⊢ duo (F := F) c (n + 1) A B := by
  unfold duo
  by_cases hp : n % 16 < 8
  · rw [if_pos hp, if_pos (show (n + 1) % 16 < 8 by omega)]
  · rw [if_neg hp, if_neg (show ¬(n + 1) % 16 < 8 by omega)]

/-- The staging slots before point `k`. -/
def slots (c : Dev nD) (k : ℕ) : sProp 𝕄 :=
  if k = 128 then iprop(free c (V m c main_arg1) (Ring.sl 2 k) ∗ free c (V m c main_arg1) (Ring.sl 2 (k + 1)))
  else iprop(infl c (V m c main_arg1) (Ring.sl 2 k) (k + 8) ∗ free c (V m c main_arg1) (Ring.sl 2 (k + 1)))

/-- What the kernel holds before point `k`. -/
def Phi (c : Dev nD) (k : ℕ) : sProp 𝕄 :=
  if k = 0 then iprop((∃ f, hbPt (F := F) c wbf0 f) ∗ (∃ f, hbPt (F := F) c wbf1 f) ∗ (∃ f, hbPt (F := F) c hist f) ∗ free c (V m c main_arg1) 0 ∗ free c (V m c main_arg1) 1 ∗ (∃ r, prngReg c r))
  else iprop(∃ D, ⌜Has m c k D⌝ ∗ duo c k (wcols c (V m c main_arg1) (k / 8)) D ∗ hbPt (F := F) c hist (histAt m c (k - 1)) ∗ slots m c k ∗ (∃ r, prngReg c r))

theorem castIn_has (c : Dev nD) (t : ℕ) (D : Vec F S4096x1024 .bf16) (h : Has m c t D) (y) (hy : (y 0).val < 512 * (t % 8 + 1)) :
    castIn c (V m c main_arg1) (t + 8) D y = wcols c (V m c main_arg1) (t / 8 + 1) y := by
  unfold castIn
  have e1 : (t + 8) % 8 = t % 8 := by omega
  have e2 : (t + 8) / 8 = t / 8 + 1 := by omega
  rw [e1, e2]
  split
  · rfl
  · exact h y (by omega)

/-- After a point the invariant holds before the next. -/
theorem step (c : Dev nD) (t : Fin cfg0.N) (D : Vec F S4096x1024 .bf16) (h : Has m c t.val D) :
    iprop(duo (F := F) c t.val (wcols c (V m c main_arg1) (t.val / 8)) (castIn c (V m c main_arg1) (t.val + 8) D)
      ∗ hbPt (F := F) c hist (histV (iblk m c 0 t) (wcols c (V m c main_arg1) (t.val / 8))) ∗ slots m c (t.val + 1) ∗ (∃ r, prngReg c r)) ⊢ Phi m c (t.val + 1) := by
  have hH : histAt m c t.val = histV (iblk m c 0 t) (wcols c (V m c main_arg1) (t.val / 8)) := dif_pos t.isLt
  unfold Phi
  rw [if_neg (Nat.succ_ne_zero _), Nat.add_sub_cancel, hH]
  by_cases h7 : t.val % 8 = 7
  · have e : castIn c (V m c main_arg1) (t.val + 8) D = wcols c (V m c main_arg1) ((t.val + 1) / 8) := by
      funext y
      have hy : (y 0).val < 4096 := (y 0).isLt
      rw [castIn_has m c t.val D h y (by omega), show (t.val + 1) / 8 = t.val / 8 + 1 by omega]
    rw [e]
    iintro ⟨HD, HH, HS, Hg⟩
    iexists (wcols c (V m c main_arg1) (t.val / 8))
    isplitr
    · ipureintro; intro y hy; omega
    isplitl [HD]
    · iapply (duo_swap (F := F) c t.val _ _ h7); iexact HD
    isplitl [HH]; · iexact HH
    isplitl [HS]; · iexact HS
    iexact Hg
  · have e : (t.val + 1) / 8 = t.val / 8 := by omega
    rw [e]
    iintro ⟨HD, HH, HS, Hg⟩
    iexists (castIn c (V m c main_arg1) (t.val + 8) D)
    isplitr
    · ipureintro; intro y hy
      rw [e]; exact castIn_has m c t.val D h y (by omega)
    isplitl [HD]
    · iapply (duo_keep (F := F) c t.val _ _ h7); iexact HD
    isplitl [HH]; · iexact HH
    isplitl [HS]; · iexact HS
    iexact Hg

/-! ## The pipeline's proof data -/

/-- The rows carried into point `t`. -/
def histIn (c : Dev nD) (t : ℕ) : Vec F S8x256 .f32 := if t % 4 = 0 then k0_pay48 else histAt m c (t - 1)
/-- The output block of point `t`. -/
def outAt (c : Dev nD) (t : Fin cfg0.N) : Vec F S1024x256 .bf16 :=
  outV (iblk m c 0 t) (wcols c (V m c main_arg1) (t.val / 8)) (iblk m c 1 t) (histIn m c t.val)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.val_castSucc]
theorem Phi_succ (c : Dev nD) (t : Fin cfg0.N) : (dats m 0 c).Φ t.succ = Phi m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

abbrev ms0 (t : Fin cfg0.N) : Memref sig .tc .vmem S1024x4096 .bf16 := win0_0.stage (cfg0.slots t 0)
abbrev ms1 (t : Fin cfg0.N) : Memref sig .tc .vmem S1x3x256 .f32 := win0_1.stage (cfg0.slots t 1)
abbrev ms2 (t : Fin cfg0.N) : Memref sig .tc .vmem S1024x256 .bf16 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- What a run hands back, less the buffers' names: enough for the point's post. -/
def left (c : Dev nD) (t : Fin cfg0.N) (D : Vec F S4096x1024 .bf16) : sProp 𝕄 :=
  iprop(owns (c : Thread nD τ) (ms0 t) fullShare (iblk m c 0 t) ∗ owns (c : Thread nD τ) (ms1 t) fullShare (iblk m c 1 t) ∗ owns (c : Thread nD τ) (ms2 t) fullShare (outAt m c t)
    ∗ duo (F := F) c t.val (wcols c (V m c main_arg1) (t.val / 8)) (castIn c (V m c main_arg1) (t.val + 8) D)
    ∗ hbPt (F := F) c hist (histV (iblk m c 0 t) (wcols c (V m c main_arg1) (t.val / 8))) ∗ slots m c (t.val + 1) ∗ ∃ Ws', owes (c : Thread nD τ) 0 Ws')

theorem left_post (c : Dev nD) (t : Fin cfg0.N) (D : Vec F S4096x1024 .bf16) (h : Has m c t.val D) :
    iprop(left m c t D ∗ ∃ r, prngReg c r) ⊢ bodyPost m c t := by
  unfold left bodyPost
  rw [Phi_succ m c t, after0, after1, after2]
  unfold Dat.owesAt Pipeline.owesWithin
  rw [show (dats m 0 c).owed t.succ = 0 from rfl]
  iintro ⟨⟨H0, H1, H2, HD, HH, HS, ⟨%Ws, HW⟩⟩, Hg⟩
  isplitl [HD HH HS Hg]
  · iapply (step m c t D h)
    isplitl [HD]; · iexact HD
    isplitl [HH]; · iexact HH
    isplitl [HS]; · iexact HS
    iexact Hg
  isplitl [HW]
  · iexists Ws; isplitr; · ipureintro; exact fun _ _ => Or.inl trivial
    iexact HW
  isplitl [H0]; · iexact H0
  isplitl [H1]; · iexact H1
  iexact H2

theorem leftEN (c : Dev nD) (t : Fin cfg0.N) (hp : t.val % 16 < 8) (hl : ¬t.val = 127) (hz : ¬t.val % 4 = 0) (D : Vec F S4096x1024 .bf16) :
    iprop(owns (c : Thread nD τ) (ms0 t) fullShare (iblk m c 0 t) ∗ owns (c : Thread nD τ) (ms1 t) fullShare (iblk m c 1 t)
        ∗ owns (c : Thread nD τ) (ms2 t) fullShare (outV (iblk m c 0 t) (wcols c (V m c main_arg1) (t.val / 8)) (iblk m c 1 t) (histAt m c (t.val - 1)))
        ∗ hbPt (F := F) c wbf0 (wcols c (V m c main_arg1) (t.val / 8)) ∗ hbPt (F := F) c wbf1 (castIn c (V m c main_arg1) (t.val + 8) D)
        ∗ hbPt (F := F) c hist (histV (iblk m c 0 t) (wcols c (V m c main_arg1) (t.val / 8)))
        ∗ infl c (V m c main_arg1) (Ring.sl 2 (t.val + 1)) (t.val + 9) ∗ free c (V m c main_arg1) (Ring.sl 2 t.val) ∗ ∃ Ws', owes (c : Thread nD τ) 0 Ws') ⊢ left m c t D := by
  unfold left outAt histIn duo slots
  rw [if_neg hz, if_pos hp, if_neg (show ¬t.val + 1 = 128 by omega)]
  rw [show t.val + 1 + 1 = t.val + 2 from rfl, Ring.sl_add 2 t.val]
  try rw [show t.val + 1 + 8 = t.val + 9 from rfl]
  iintro ⟨H0, H1, H2, Ha, Hb, HH, Hf, Hr, HW⟩
  isplitl [H0]; · iexact H0
  isplitl [H1]; · iexact H1
  isplitl [H2]; · iexact H2
  isplitl [Ha Hb]
  · isplitl [Ha]; · iexact Ha
    iexact Hb
  isplitl [HH]; · iexact HH
  isplitl [Hf Hr]
  · isplitl [Hf]; · iexact Hf
    iexact Hr
  iexact HW

theorem leftEZ (c : Dev nD) (t : Fin cfg0.N) (hp : t.val % 16 < 8) (hl : ¬t.val = 127) (hz : t.val % 4 = 0) (D : Vec F S4096x1024 .bf16) :
    iprop(owns (c : Thread nD τ) (ms0 t) fullShare (iblk m c 0 t) ∗ owns (c : Thread nD τ) (ms1 t) fullShare (iblk m c 1 t)
        ∗ owns (c : Thread nD τ) (ms2 t) fullShare (outV (iblk m c 0 t) (wcols c (V m c main_arg1) (t.val / 8)) (iblk m c 1 t) k0_pay48)
        ∗ hbPt (F := F) c wbf0 (wcols c (V m c main_arg1) (t.val / 8)) ∗ hbPt (F := F) c wbf1 (castIn c (V m c main_arg1) (t.val + 8) D)
        ∗ hbPt (F := F) c hist (histV (iblk m c 0 t) (wcols c (V m c main_arg1) (t.val / 8)))
        ∗ infl c (V m c main_arg1) (Ring.sl 2 (t.val + 1)) (t.val + 9) ∗ free c (V m c main_arg1) (Ring.sl 2 t.val) ∗ ∃ Ws', owes (c : Thread nD τ) 0 Ws') ⊢ left m c t D := by
  unfold left outAt histIn duo slots
  rw [if_pos hz, if_pos hp, if_neg (show ¬t.val + 1 = 128 by omega)]
  rw [show t.val + 1 + 1 = t.val + 2 from rfl, Ring.sl_add 2 t.val]
  try rw [show t.val + 1 + 8 = t.val + 9 from rfl]
  iintro ⟨H0, H1, H2, Ha, Hb, HH, Hf, Hr, HW⟩
  isplitl [H0]; · iexact H0
  isplitl [H1]; · iexact H1
  isplitl [H2]; · iexact H2
  isplitl [Ha Hb]
  · isplitl [Ha]; · iexact Ha
    iexact Hb
  isplitl [HH]; · iexact HH
  isplitl [Hf Hr]
  · isplitl [Hf]; · iexact Hf
    iexact Hr
  iexact HW

theorem leftON (c : Dev nD) (t : Fin cfg0.N) (hp : ¬t.val % 16 < 8) (hl : ¬t.val = 127) (hz : ¬t.val % 4 = 0) (D : Vec F S4096x1024 .bf16) :
    iprop(owns (c : Thread nD τ) (ms0 t) fullShare (iblk m c 0 t) ∗ owns (c : Thread nD τ) (ms1 t) fullShare (iblk m c 1 t)
        ∗ owns (c : Thread nD τ) (ms2 t) fullShare (outV (iblk m c 0 t) (wcols c (V m c main_arg1) (t.val / 8)) (iblk m c 1 t) (histAt m c (t.val - 1)))
        ∗ hbPt (F := F) c wbf1 (wcols c (V m c main_arg1) (t.val / 8)) ∗ hbPt (F := F) c wbf0 (castIn c (V m c main_arg1) (t.val + 8) D)
        ∗ hbPt (F := F) c hist (histV (iblk m c 0 t) (wcols c (V m c main_arg1) (t.val / 8)))
        ∗ infl c (V m c main_arg1) (Ring.sl 2 (t.val + 1)) (t.val + 9) ∗ free c (V m c main_arg1) (Ring.sl 2 t.val) ∗ ∃ Ws', owes (c : Thread nD τ) 0 Ws') ⊢ left m c t D := by
  unfold left outAt histIn duo slots
  rw [if_neg hz, if_neg hp, if_neg (show ¬t.val + 1 = 128 by omega)]
  rw [show t.val + 1 + 1 = t.val + 2 from rfl, Ring.sl_add 2 t.val]
  try rw [show t.val + 1 + 8 = t.val + 9 from rfl]
  iintro ⟨H0, H1, H2, Ha, Hb, HH, Hf, Hr, HW⟩
  isplitl [H0]; · iexact H0
  isplitl [H1]; · iexact H1
  isplitl [H2]; · iexact H2
  isplitl [Ha Hb]
  · isplitl [Ha]; · iexact Ha
    iexact Hb
  isplitl [HH]; · iexact HH
  isplitl [Hf Hr]
  · isplitl [Hf]; · iexact Hf
    iexact Hr
  iexact HW

theorem leftOZ (c : Dev nD) (t : Fin cfg0.N) (hp : ¬t.val % 16 < 8) (hl : ¬t.val = 127) (hz : t.val % 4 = 0) (D : Vec F S4096x1024 .bf16) :
    iprop(owns (c : Thread nD τ) (ms0 t) fullShare (iblk m c 0 t) ∗ owns (c : Thread nD τ) (ms1 t) fullShare (iblk m c 1 t)
        ∗ owns (c : Thread nD τ) (ms2 t) fullShare (outV (iblk m c 0 t) (wcols c (V m c main_arg1) (t.val / 8)) (iblk m c 1 t) k0_pay48)
        ∗ hbPt (F := F) c wbf1 (wcols c (V m c main_arg1) (t.val / 8)) ∗ hbPt (F := F) c wbf0 (castIn c (V m c main_arg1) (t.val + 8) D)
        ∗ hbPt (F := F) c hist (histV (iblk m c 0 t) (wcols c (V m c main_arg1) (t.val / 8)))
        ∗ infl c (V m c main_arg1) (Ring.sl 2 (t.val + 1)) (t.val + 9) ∗ free c (V m c main_arg1) (Ring.sl 2 t.val) ∗ ∃ Ws', owes (c : Thread nD τ) 0 Ws') ⊢ left m c t D := by
  unfold left outAt histIn duo slots
  rw [if_pos hz, if_neg hp, if_neg (show ¬t.val + 1 = 128 by omega)]
  rw [show t.val + 1 + 1 = t.val + 2 from rfl, Ring.sl_add 2 t.val]
  try rw [show t.val + 1 + 8 = t.val + 9 from rfl]
  iintro ⟨H0, H1, H2, Ha, Hb, HH, Hf, Hr, HW⟩
  isplitl [H0]; · iexact H0
  isplitl [H1]; · iexact H1
  isplitl [H2]; · iexact H2
  isplitl [Ha Hb]
  · isplitl [Ha]; · iexact Ha
    iexact Hb
  isplitl [HH]; · iexact HH
  isplitl [Hf Hr]
  · isplitl [Hf]; · iexact Hf
    iexact Hr
  iexact HW

theorem leftOL (c : Dev nD) (t : Fin cfg0.N) (hp : ¬t.val % 16 < 8) (hl : t.val = 127) (hz : ¬t.val % 4 = 0) (D : Vec F S4096x1024 .bf16) :
    iprop(owns (c : Thread nD τ) (ms0 t) fullShare (iblk m c 0 t) ∗ owns (c : Thread nD τ) (ms1 t) fullShare (iblk m c 1 t)
        ∗ owns (c : Thread nD τ) (ms2 t) fullShare (outV (iblk m c 0 t) (wcols c (V m c main_arg1) (t.val / 8)) (iblk m c 1 t) (histAt m c (t.val - 1)))
        ∗ hbPt (F := F) c wbf1 (wcols c (V m c main_arg1) (t.val / 8)) ∗ hbPt (F := F) c wbf0 (castIn c (V m c main_arg1) (t.val + 8) D)
        ∗ hbPt (F := F) c hist (histV (iblk m c 0 t) (wcols c (V m c main_arg1) (t.val / 8)))
        ∗ free c (V m c main_arg1) (Ring.sl 2 (t.val + 1)) ∗ free c (V m c main_arg1) (Ring.sl 2 t.val) ∗ ∃ Ws', owes (c : Thread nD τ) 0 Ws') ⊢ left m c t D := by
  unfold left outAt histIn duo slots
  rw [if_neg hz, if_neg hp, if_pos (show t.val + 1 = 128 by omega)]
  rw [show t.val + 1 + 1 = t.val + 2 from rfl, Ring.sl_add 2 t.val]
  try rw [show t.val + 1 + 8 = t.val + 9 from rfl]
  iintro ⟨H0, H1, H2, Ha, Hb, HH, Hf, Hr, HW⟩
  isplitl [H0]; · iexact H0
  isplitl [H1]; · iexact H1
  isplitl [H2]; · iexact H2
  isplitl [Ha Hb]
  · isplitl [Ha]; · iexact Ha
    iexact Hb
  isplitl [HH]; · iexact HH
  isplitl [Hf Hr]
  · isplitl [Hf]; · iexact Hf
    iexact Hr
  iexact HW

theorem sound_pre (c : Dev nD) (t : Fin cfg0.N) : bodyPre m c t ⊢ iprop(Phi m c t.val ∗ (∃ Ws : Waits sig Unit, ⌜True⌝ ∗ owes (c : Thread nD τ) 0 Ws)
    ∗ (∃ d : Unit, owns (c : Thread nD τ) (ms0 t) fullShare (iblk m c 0 t)) ∗ (∃ d : Unit, owns (c : Thread nD τ) (ms1 t) fullShare (iblk m c 1 t))
    ∗ (∃ d, owns (c : Thread nD τ) (ms2 t) fullShare d)) := by
  unfold bodyPre
  simp only [before0, before1]
  rw [Phi_castSucc m c t]
  unfold Dat.owesAt Pipeline.owesWithin
  rw [show (dats m 0 c).owed t.castSucc = 0 from rfl]
  iintro ⟨HP, ⟨%Ws, -, HW⟩, ⟨%d0, H0⟩, ⟨%d1, H1⟩, ⟨%d2, H2⟩⟩
  isplitl [HP]; · iexact HP
  isplitl [HW]
  · iexists Ws; isplitr; · ipureintro; trivial
    iexact HW
  isplitl [H0]; · iexists (); iexact H0
  isplitl [H1]; · iexists (); iexact H1
  iexists _; iexact H2

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  refine (sound_pre m c t).trans ?_
  have hN : t.val < 128 := lt_of_lt_of_eq t.isLt (show cfg0.N = 128 from N_0)
  unfold bodyAt0 Phi
  by_cases h0 : t.val = 0
  · rw [if_pos h0]
    have e8 : t.val / 8 = 0 := by omega
    have L := leftEZ m c t (by omega) (by omega) (by omega)
    rw [e8] at L
    have hD : ∀ D, Has m c t.val D := fun D y hy => by rw [h0] at hy; exact absurd hy (Nat.not_lt_zero _)
    iintro ⟨⟨⟨%C, HC⟩, ⟨%D, HD⟩, ⟨%H, HH⟩, HI, HF, Hg⟩, ⟨%Ws, -, HW⟩, ⟨%d0, H0⟩, ⟨%d1, H1⟩, ⟨%d2, H2⟩⟩
    iapply (runEF c t _ _ _ _ _ _ ((hcond1 t).mpr h0) ((hcond2 t).mpr (by omega)) (fun h => absurd ((hcond4 t).mp h) (by omega)) (fun h => absurd ((hcond6 t).mp h) (by omega)) ((hcondZ t).mpr (by omega)) (iblk m c 0 t) (iblk m c 1 t) (V m c main_arg1) C D H (left m c t D) (L D) Ws _)
    isplitl [H0]; · iexact H0
    isplitl [H1]; · iexact H1
    isplitl [H2]; · iexists _; iexact H2
    isplitl [HC]; · iexact HC
    isplitl [HD]; · iexact HD
    isplitl [HH]; · iexact HH
    isplitl [HI]; · iexact HI
    isplitl [HF]; · iexact HF
    isplitl [HW]; · iexact HW
    iintro HL
    iapply (left_post m c t D (hD D))
    isplitl [HL]; · iexact HL
    iexact Hg
  rw [if_neg h0]
  unfold slots
  rw [if_neg (show ¬t.val = 128 by omega)]
  by_cases hp : t.val % 16 < 8
  · have hl : ¬t.val = 127 := by omega
    by_cases hz : t.val % 4 = 0
    · simp only [duo, if_pos hp]
      iintro ⟨⟨%D, %hD, ⟨HC, HD⟩, HH, ⟨HI, HF⟩, Hg⟩, ⟨%Ws, -, HW⟩, ⟨%d0, H0⟩, ⟨%d1, H1⟩, ⟨%d2, H2⟩⟩
      iapply (runEZ c t _ _ _ _ _ _ (fun h => h0 ((hcond1 t).mp h)) ((hcond2 t).mpr hp) (fun h => absurd ((hcond4 t).mp h) (by omega)) (fun h => hl ((hcond6 t).mp h)) ((hcondZ t).mpr hz) (iblk m c 0 t) (iblk m c 1 t) (V m c main_arg1) (wcols c (V m c main_arg1) (t.val / 8)) D (histAt m c (t.val - 1)) (left m c t D) (leftEZ m c t hp hl hz D) Ws _)
      isplitl [H0]; · iexact H0
      isplitl [H1]; · iexact H1
      isplitl [H2]; · iexists _; iexact H2
      isplitl [HC]; · iexact HC
      isplitl [HD]; · iexact HD
      isplitl [HH]; · iexact HH
      isplitl [HI]; · iexact HI
      isplitl [HF]; · iexact HF
      isplitl [HW]; · iexact HW
      iintro HL
      iapply (left_post m c t D hD)
      isplitl [HL]; · iexact HL
      iexact Hg
    · simp only [duo, if_pos hp]
      iintro ⟨⟨%D, %hD, ⟨HC, HD⟩, HH, ⟨HI, HF⟩, Hg⟩, ⟨%Ws, -, HW⟩, ⟨%d0, H0⟩, ⟨%d1, H1⟩, ⟨%d2, H2⟩⟩
      iapply (runEN c t _ _ _ _ _ _ (fun h => h0 ((hcond1 t).mp h)) ((hcond2 t).mpr hp) (fun h => absurd ((hcond4 t).mp h) (by omega)) (fun h => hl ((hcond6 t).mp h)) (fun h => hz ((hcondZ t).mp h)) (iblk m c 0 t) (iblk m c 1 t) (V m c main_arg1) (wcols c (V m c main_arg1) (t.val / 8)) D (histAt m c (t.val - 1)) (left m c t D) (leftEN m c t hp hl hz D) Ws _)
      isplitl [H0]; · iexact H0
      isplitl [H1]; · iexact H1
      isplitl [H2]; · iexists _; iexact H2
      isplitl [HC]; · iexact HC
      isplitl [HD]; · iexact HD
      isplitl [HH]; · iexact HH
      isplitl [HI]; · iexact HI
      isplitl [HF]; · iexact HF
      isplitl [HW]; · iexact HW
      iintro HL
      iapply (left_post m c t D hD)
      isplitl [HL]; · iexact HL
      iexact Hg
  · by_cases hl : t.val = 127
    · have hz : ¬t.val % 4 = 0 := by omega
      simp only [duo, if_neg hp]
      iintro ⟨⟨%D, %hD, ⟨HC, HD⟩, HH, ⟨HI, HF⟩, Hg⟩, ⟨%Ws, -, HW⟩, ⟨%d0, H0⟩, ⟨%d1, H1⟩, ⟨%d2, H2⟩⟩
      iapply (runOL c t _ _ _ _ _ _ (fun h => h0 ((hcond1 t).mp h)) (fun h => hp ((hcond2 t).mp h)) ((hcond4 t).mpr (by omega)) ((hcond6 t).mpr hl) (fun h => hz ((hcondZ t).mp h)) (iblk m c 0 t) (iblk m c 1 t) (V m c main_arg1) (wcols c (V m c main_arg1) (t.val / 8)) D (histAt m c (t.val - 1)) (left m c t D) (leftOL m c t hp hl hz D) Ws _)
      isplitl [H0]; · iexact H0
      isplitl [H1]; · iexact H1
      isplitl [H2]; · iexists _; iexact H2
      isplitl [HC]; · iexact HC
      isplitl [HD]; · iexact HD
      isplitl [HH]; · iexact HH
      isplitl [HI]; · iexact HI
      isplitl [HF]; · iexact HF
      isplitl [HW]; · iexact HW
      iintro HL
      iapply (left_post m c t D hD)
      isplitl [HL]; · iexact HL
      iexact Hg
    · by_cases hz : t.val % 4 = 0
      · simp only [duo, if_neg hp]
        iintro ⟨⟨%D, %hD, ⟨HC, HD⟩, HH, ⟨HI, HF⟩, Hg⟩, ⟨%Ws, -, HW⟩, ⟨%d0, H0⟩, ⟨%d1, H1⟩, ⟨%d2, H2⟩⟩
        iapply (runOZ c t _ _ _ _ _ _ (fun h => h0 ((hcond1 t).mp h)) (fun h => hp ((hcond2 t).mp h)) ((hcond4 t).mpr (by omega)) (fun h => hl ((hcond6 t).mp h)) ((hcondZ t).mpr hz) (iblk m c 0 t) (iblk m c 1 t) (V m c main_arg1) (wcols c (V m c main_arg1) (t.val / 8)) D (histAt m c (t.val - 1)) (left m c t D) (leftOZ m c t hp hl hz D) Ws _)
        isplitl [H0]; · iexact H0
        isplitl [H1]; · iexact H1
        isplitl [H2]; · iexists _; iexact H2
        isplitl [HC]; · iexact HC
        isplitl [HD]; · iexact HD
        isplitl [HH]; · iexact HH
        isplitl [HI]; · iexact HI
        isplitl [HF]; · iexact HF
        isplitl [HW]; · iexact HW
        iintro HL
        iapply (left_post m c t D hD)
        isplitl [HL]; · iexact HL
        iexact Hg
      · simp only [duo, if_neg hp]
        iintro ⟨⟨%D, %hD, ⟨HC, HD⟩, HH, ⟨HI, HF⟩, Hg⟩, ⟨%Ws, -, HW⟩, ⟨%d0, H0⟩, ⟨%d1, H1⟩, ⟨%d2, H2⟩⟩
        iapply (runON c t _ _ _ _ _ _ (fun h => h0 ((hcond1 t).mp h)) (fun h => hp ((hcond2 t).mp h)) ((hcond4 t).mpr (by omega)) (fun h => hl ((hcond6 t).mp h)) (fun h => hz ((hcondZ t).mp h)) (iblk m c 0 t) (iblk m c 1 t) (V m c main_arg1) (wcols c (V m c main_arg1) (t.val / 8)) D (histAt m c (t.val - 1)) (left m c t D) (leftON m c t hp hl hz D) Ws _)
        isplitl [H0]; · iexact H0
        isplitl [H1]; · iexact H1
        isplitl [H2]; · iexists _; iexact H2
        isplitl [HC]; · iexact HC
        isplitl [HD]; · iexact HD
        isplitl [HH]; · iexact HH
        isplitl [HI]; · iexact HI
        isplitl [HF]; · iexact HF
        isplitl [HW]; · iexact HW
        iintro HL
        iapply (left_post m c t D hD)
        isplitl [HL]; · iexact HL
        iexact Hg

theorem defs₀_row (t : Fin cfg0.N) :
    defs₀ (F := F) .tc cfg0.body (cfg0.bodyArgs t (cfg0.slots t)) = bodyAt0 t := by
  unfold defs₀; rw [Defs.onTc_tc]

/-- The output is written at every point. -/
theorem idle2 : ∀ t : Fin cfg0.N, cfg0.idle 2 (cfg0.grid.coords t) = false :=
  (by decide +kernel : ∀ t : Fin grid0.N, cfg0.idle 2 (grid0.coords t) = false)

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i1 : cfg0.idle 1 (cfg0.grid.coords t) = false := rfl
  have i2 := idle2 t
  refine triple_restated (sound_body m c t) rfl .rfl fun _ => ?_
  rw [i0, i2]
  exact .rfl

theorem hin (c : Dev nD) : Pipeline.ΦD osem spec0 H0 (V m) c ⊢ (dats m 0 c).Φ 0 := by
  rw [PhiD0_eq, show (dats m 0 c).Φ 0 = Phi m c 0 from rfl]
  unfold Phi
  rw [if_pos rfl]
  iintro ⟨⟨HA, HB, HS, HH⟩, Hg, HC, HW⟩
  ihave HR := (ring_in (F := F) c (V m c main_arg1)) $$ [HS HC HW]
  · isplitl [HS]; · iexact HS
    isplitl [HC]; · iexact HC
    iexact HW
  icases HR with ⟨HF0, HF1⟩
  isplitl [HA]; · iexact HA
  isplitl [HB]; · iexact HB
  isplitl [HH]; · iexact HH
  isplitl [HF0]; · iexact HF0
  isplitl [HF1]; · iexact HF1
  iexact Hg

theorem hout (c : Dev nD) : (dats m 0 c).Φ (Fin.last cfg0.N) ⊢ Pipeline.ΦD osem spec0 H0 (V m) c := by
  rw [PhiD0_eq, show (dats m 0 c).Φ (Fin.last cfg0.N) = Phi m c grid0.N from rfl, show grid0.N = 128 by rw [N_0]]
  unfold Phi slots
  rw [if_neg (by decide), if_pos rfl]
  simp only [duo, if_pos (show 128 % 16 < 8 by decide)]
  rw [show Ring.sl 2 128 = 0 by decide, show Ring.sl 2 (128 + 1) = 1 by decide]
  iintro ⟨%D, -, ⟨HA, HB⟩, HH, HF, Hg⟩
  ihave HR := (ring_out (F := F) c (V m c main_arg1)) $$ HF
  icases HR with ⟨HS, HC, HW⟩
  isplitl [HA HB HS HH]
  · isplitl [HA]; · iexists _; iexact HA
    isplitl [HB]; · iexists _; iexact HB
    isplitl [HS]; · iexact HS
    iexists _; iexact HH
  isplitl [Hg]; · iexact Hg
  isplitl [HC]; · iexact HC
  iexact HW

/-! ## The run and the frame -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame_of (h : θ_run defs (onTc (τ := τ) (main (F := F))) (s₀ m ρ) (fun r => (Pipeline.FramePost cfgs (dats m) 0 (V m)) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c)))⟩, h.2⟩) h

/-- The arguments end unchanged and every semaphore ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := frame_of m ρ (run_all m ρ)

end Cert.KernelIdeal.Own

end
-- ==== Proof.Pay.lean ====
module

public import proofs.«01_k».proof.Proof.Spec
public import Idealize.ShloMosaic.Lib.Pointwise

@[expose] public section

set_option maxRecDepth 16384

noncomputable section

namespace Cert.KernelIdeal.Own

open Cert.KernelIdeal.Gen
open Idealize.ShloMosaic

/-- The block product at an index. -/
theorem pay47_apply (x : Vec Ideal S1024x4096 .bf16) (C : Vec Ideal S4096x1024 .bf16) (r : Fin 1024) (q : Fin 1024) :
    k0_pay47 (F := Ideal) x C (ix2 r q) = ∑ k : Fin 4096, x (ix2 r k) * C (ix2 k q) := by
  pointwise [k0_pay47]

end Cert.KernelIdeal.Own

end
-- ==== Proof.Layer.lean ====
module

public import Idealize.ShloMosaic.Lib.Pointwise

@[expose] public section

noncomputable section

namespace Cert.Layer

open Idealize.ShloMosaic

/-! ## The layer's mathematics, element by element -/

variable (A : Fin 8192 → Fin 4096 → EReal) (W : Fin 4096 → Fin 16384 → EReal) (w : Fin 3 → Fin 4096 → EReal)

/-- Row `r`, column `n` of the input projection; zero outside the array. -/
def pr (r n : ℕ) : EReal := if h : r < 8192 ∧ n < 16384 then ∑ k : Fin 4096, A ⟨r, h.1⟩ k * W k ⟨n, h.2⟩ else 0

theorem pr_of (r : Fin 8192) (n : Fin 16384) : (∑ k : Fin 4096, A r k * W k n) = pr A W r.val n.val := by
  unfold pr
  rw [dif_pos ⟨r.isLt, n.isLt⟩]

/-- The gated input of row `r`, channel `q`. -/
def gate (r q : ℕ) : EReal := pr A W r (8192 + q) * pr A W r q

/-- What tap `j` reads at row `r`: row `r + j - 2` of the same sequence, zero before its start. -/
def tap (r q j : ℕ) : EReal := if r % 4096 + j < 2 then 0 else gate A W (r + j - 2) q

/-- The layer's output at row `r`, channel `q`. -/
def out (r : ℕ) (q : Fin 4096) : EReal :=
  pr A W r (4096 + q.val) * (w 2 q * tap A W r q.val 2 + (w 1 q * tap A W r q.val 1 + w 0 q * tap A W r q.val 0))
    * (pr A W r (12288 + q.val) * Ideal.logistic (pr A W r (12288 + q.val)))

theorem tap_two (r q : ℕ) : tap A W r q 2 = gate A W r q := by
  unfold tap
  rw [if_neg (by omega)]
  rfl

end Cert.Layer

end
-- ==== Proof.Blocks.lean ====
module

public import proofs.«01_k».proof.Proof.Frame
public import proofs.«01_k».proof.Proof.Pay
public import proofs.«01_k».proof.Proof.Layer

@[expose] public section

set_option maxRecDepth 16384

noncomputable section

namespace Cert.KernelIdeal.Own

open Cert.KernelIdeal.Gen
open Idealize.ShloMosaic Idealize.ShloMosaic.TcCoe
open Idealize.SL.Sem
open Idealize.ShloMosaic.Pipeline (Dat Cfg Window cellOf)

variable {F : FTy → Type} [FloatOps F] (m : (ℓ : Loc nD τ sig) → Buf (Elt F) ℓ)

/-! ## Which part of its array a window's block is -/

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

theorem lt128 (t : Fin cfg0.N) : t.val < 128 := t.isLt

theorem iblk0_apply (c : Dev nD) (t : Fin cfg0.N) (a : Fin 1024) (k : Fin 4096) :
    (iblk m c 0 t : Vec F S1024x4096 .bf16) (ix2 a k)
      = (V m c main_arg0 : Vec F S8192x4096 .bf16) (ix2 ⟨1024 * (t.val % 8) + a.val, by omega⟩ k) := by
  refine congrArg (V m c main_arg0) ?_
  funext x
  apply Fin.ext
  fin_cases x
  · show win0_0.index t 0 * 1024 + 1 * a.val = 1024 * (t.val % 8) + a.val
    rw [(index0 t).1]; omega
  · show win0_0.index t 1 * 4096 + 1 * k.val = k.val
    rw [(index0 t).2]; omega

theorem iblk1_apply (c : Dev nD) (t : Fin cfg0.N) (j : Fin 3) (b : Fin 256) :
    (iblk m c 1 t : Vec F S1x3x256 .f32) (ix3 0 j b)
      = (V m c main_arg2 : Vec F S1x3x4096 .f32) (ix3 0 j ⟨256 * (t.val / 8) + b.val, by have := lt128 t; omega⟩) := by
  refine congrArg (V m c main_arg2) ?_
  funext x
  apply Fin.ext
  fin_cases x
  · show win0_1.index t 0 * 1 + 1 * 0 = 0
    rw [(index1 t).1]
  · show win0_1.index t 1 * 3 + 1 * j.val = j.val
    rw [(index1 t).2.1]; omega
  · show win0_1.index t 2 * 256 + 1 * b.val = 256 * (t.val / 8) + b.val
    rw [(index1 t).2.2]; omega

theorem wcols_apply (c : Dev nD) (W : HbBuf (F := F) c wM) (jj : ℕ) (k : Fin 4096) (n : Fin 1024) :
    wcols c W jj (ix2 k n) = FloatOps.truncf .bf16 bitsLt_bf16_f32
      ((W : Vec F S1x4096x16384 .f32) (ix3 0 k ⟨256 * (jj % 16) + 4096 * (n.val / 256) + n.val % 256, by omega⟩)) := by
  refine congrArg (fun x => FloatOps.truncf .bf16 bitsLt_bf16_f32 (W x)) ?_
  funext x
  apply Fin.ext
  fin_cases x <;> rfl

/-! ## The output array, block by block -/

theorem index2_inj (t t' : Fin cfg0.N) (h : win0_2.index t = win0_2.index t') : t = t' := by
  have h0 := congrFun h 0
  have h1 := congrFun h 1
  rw [(index2 t).1, (index2 t').1] at h0
  rw [(index2 t).2, (index2 t').2] at h1
  apply Fin.ext; omega

theorem disjoint2 (t t' : Fin cfg0.N) (_ : (cfg0.win 2).flush t = true) (_ : (cfg0.win 2).flush t' = true) (hne : t ≠ t') :
    Disjoint ((cfg0.win 2).blk t).view.set ((cfg0.win 2).blk t').view.set :=
  (cfg0.win 2).disjoint_blk fun h => hne (index2_inj t t' h)

theorem flush2 : ∀ t : Fin cfg0.N, (cfg0.win 2).flush t = true :=
  (by decide +kernel : ∀ t : Fin grid0.N, win0_2.flush t = true)

theorem block2 (c : Dev nD) (t : Fin cfg0.N) (a : Fin 1024) (b : Fin 256) :
    ((dats m 0 c).arrAt 2 cfg0.N : Vec F S8192x4096 .bf16) (ix2 ⟨1024 * (t.val % 8) + a.val, by omega⟩ ⟨256 * (t.val / 8) + b.val, by have := lt128 t; omega⟩)
      = outAt m c t (ix2 a b) := by
  have h := congrFun ((dats m 0 c).read_blk_arrAt_eq_flushed 2 disjoint2 cfg0.N t t.isLt (flush2 t)) (ix2 a b)
  have e : (dats m 0 c).flushed 2 t = (cfg0.win 2).cut (grid0.coords t) (outAt m c t) := by
    show (cfg0.win 2).cut (grid0.coords t) ((dats m 0 c).after 2 t) = _
    rw [after2]
  rw [e] at h
  refine Eq.trans ?_ h
  refine congrArg ((dats m 0 c).arrAt 2 cfg0.N) ?_
  funext x
  apply Fin.ext
  fin_cases x
  · show 1024 * (t.val % 8) + a.val = win0_2.index t 0 * 1024 + 1 * a.val
    rw [(index2 t).1]; omega
  · show 256 * (t.val / 8) + b.val = win0_2.index t 1 * 256 + 1 * b.val
    rw [(index2 t).2]; omega

end Cert.KernelIdeal.Own

end
-- ==== Proof.KerVal.lean ====
module

public import proofs.«01_k».proof.Proof.Blocks

@[expose] public section

set_option maxRecDepth 16384

noncomputable section

namespace Cert.KernelIdeal.Own

open Cert.KernelIdeal.Gen
open Idealize.ShloMosaic Idealize.ShloMosaic.TcCoe
open Idealize.SL.Sem

/-! ## The kernel's arithmetic at an index -/

section Ops
variable (x : Vec Ideal S1024x4096 .bf16) (C : Vec Ideal S4096x1024 .bf16) (cw : Vec Ideal S1x3x256 .f32) (H : Vec Ideal S8x256 .f32)

/-- The gated input of a block's row. -/
def gblk (r : Fin 1024) (q : Fin 256) : EReal :=
  k0_pay47 (F := Ideal) x C (ix2 r ⟨512 + q.val, by omega⟩) * k0_pay47 (F := Ideal) x C (ix2 r ⟨q.val, by omega⟩)

/-- Row `i` of the history rows followed by the block's gated rows. -/
def ext (i : ℕ) (q : Fin 256) : EReal :=
  if h : i < 8 then H (ix2 ⟨i, h⟩ q) else if h' : i - 8 < 1024 then gblk x C ⟨i - 8, h'⟩ q else 0

theorem pay4_apply (P : FVec Ideal S1024x1024 .f32) (a b d : FVec Ideal S1024x256 .f32) (r : Fin 1024) (q : Fin 256) :
    k0_pay4 (F := Ideal) P a b d cw H (ix2 r q)
      = b (ix2 r q)
        * (cw (ix3 0 2 q) * (d (ix2 r q) * a (ix2 r q))
          + (cw (ix3 0 1 q) * (if h : r.val + 7 < 8 then H (ix2 ⟨r.val + 7, h⟩ q) else d (ix2 ⟨r.val + 7 - 8, by omega⟩ q) * a (ix2 ⟨r.val + 7 - 8, by omega⟩ q))
            + cw (ix3 0 0 q) * (if h : r.val + 6 < 8 then H (ix2 ⟨r.val + 6, h⟩ q) else d (ix2 ⟨r.val + 6 - 8, by omega⟩ q) * a (ix2 ⟨r.val + 6 - 8, by omega⟩ q))))
        * (P (ix2 r ⟨768 + q.val, by omega⟩) * Ideal.logistic (P (ix2 r ⟨768 + q.val, by omega⟩))) := by
  pointwise [k0_pay4, k0_pay2]
  have h1 : (8 + r.val + 1032 - 1) % 1032 = r.val + 7 := by omega
  have h2 : (r.val + 7 + 1032 - 1) % 1032 = r.val + 6 := by omega
  simp only [h1, h2]

theorem pay49_apply (r : Fin 1024) (q : Fin 256) : k0_pay49 (F := Ideal) x C (ix2 r q) = k0_pay47 (F := Ideal) x C (ix2 r ⟨q.val, by omega⟩) := by
  pointwise [k0_pay49]
theorem pay50_apply (r : Fin 1024) (q : Fin 256) : k0_pay50 (F := Ideal) x C (ix2 r q) = k0_pay47 (F := Ideal) x C (ix2 r ⟨256 + q.val, by omega⟩) := by
  pointwise [k0_pay50]
theorem pay51_apply (r : Fin 1024) (q : Fin 256) : k0_pay51 (F := Ideal) x C (ix2 r q) = k0_pay47 (F := Ideal) x C (ix2 r ⟨512 + q.val, by omega⟩) := by
  pointwise [k0_pay51]

theorem outV_apply (r : Fin 1024) (q : Fin 256) :
    outV (F := Ideal) x C cw H (ix2 r q)
      = k0_pay47 (F := Ideal) x C (ix2 r ⟨256 + q.val, by omega⟩)
        * (cw (ix3 0 2 q) * ext x C H (r.val + 8) q + (cw (ix3 0 1 q) * ext x C H (r.val + 7) q + cw (ix3 0 0 q) * ext x C H (r.val + 6) q))
        * (k0_pay47 (F := Ideal) x C (ix2 r ⟨768 + q.val, by omega⟩) * Ideal.logistic (k0_pay47 (F := Ideal) x C (ix2 r ⟨768 + q.val, by omega⟩))) := by
  have e2 : ext x C H (r.val + 8) q = gblk x C r q := by
    unfold ext
    rw [dif_neg (by omega), dif_pos (by omega)]
    rfl
  have e1 : ext x C H (r.val + 7) q = if h : r.val + 7 < 8 then H (ix2 ⟨r.val + 7, h⟩ q) else gblk x C ⟨r.val + 7 - 8, by omega⟩ q := by
    unfold ext
    rw [dif_pos (show r.val + 7 - 8 < 1024 by omega)]
  have e0 : ext x C H (r.val + 6) q = if h : r.val + 6 < 8 then H (ix2 ⟨r.val + 6, h⟩ q) else gblk x C ⟨r.val + 6 - 8, by omega⟩ q := by
    unfold ext
    rw [dif_pos (show r.val + 6 - 8 < 1024 by omega)]
  rw [e2, e1, e0]
  unfold gblk outV
  simp only [pay4_apply, pay49_apply, pay50_apply, pay51_apply]

theorem histV_apply (s : Fin 8) (q : Fin 256) : histV (F := Ideal) x C (ix2 s q) = gblk x C ⟨1016 + s.val, by omega⟩ q := by
  unfold histV
  have e (a d : FVec Ideal S1024x256 .f32) : k0_pay3 (F := Ideal) a d (ix2 s q) = d (ix2 ⟨1016 + s.val, by omega⟩ q) * a (ix2 ⟨1016 + s.val, by omega⟩ q) := by
    pointwise [k0_pay3, k0_pay2]
  rw [e, pay49_apply, pay51_apply]
  rfl

theorem zeros_apply (s : Fin 8) (q : Fin 256) : k0_pay48 (F := Ideal) (ix2 s q) = (0 : EReal) := by
  pointwise [k0_pay48]

end Ops

/-! ## … and of the launch contents -/

variable (m : (ℓ : Loc nD τ sig) → Buf (Elt Ideal) ℓ) (c : Dev nD)

/-- The activations as launched. -/
def arrA (r : Fin 8192) (k : Fin 4096) : EReal := (V m c main_arg0 : Vec Ideal S8192x4096 .bf16) (ix2 r k)
/-- The weights as launched. -/
def arrW (k : Fin 4096) (n : Fin 16384) : EReal := (V m c main_arg1 : Vec Ideal S1x4096x16384 .f32) (ix3 0 k n)
/-- The taps as launched. -/
def arrC (j : Fin 3) (q : Fin 4096) : EReal := (V m c main_arg2 : Vec Ideal S1x3x4096 .f32) (ix3 0 j q)

theorem prod_apply (t : Fin cfg0.N) (r : Fin 1024) (n : Fin 1024) :
    k0_pay47 (F := Ideal) (iblk m c 0 t) (wcols c (V m c main_arg1) (t.val / 8)) (ix2 r n)
      = Layer.pr (arrA m c) (arrW m c) (1024 * (t.val % 8) + r.val) (256 * (t.val / 8) + 4096 * (n.val / 256) + n.val % 256) := by
  have ht := lt128 t
  rw [pay47_apply]
  have hm : t.val / 8 % 16 = t.val / 8 := by omega
  refine Eq.trans (Finset.sum_congr rfl fun k _ => ?_)
    (Layer.pr_of (arrA m c) (arrW m c) ⟨1024 * (t.val % 8) + r.val, by omega⟩ ⟨256 * (t.val / 8 % 16) + 4096 * (n.val / 256) + n.val % 256, by omega⟩ |>.trans (by simp only [hm]))
  rw [iblk0_apply, wcols_apply]
  rfl

theorem gblk_apply (t : Fin cfg0.N) (r : Fin 1024) (q : Fin 256) :
    gblk (iblk m c 0 t) (wcols c (V m c main_arg1) (t.val / 8)) r q
      = Layer.gate (arrA m c) (arrW m c) (1024 * (t.val % 8) + r.val) (256 * (t.val / 8) + q.val) := by
  unfold gblk Layer.gate
  rw [prod_apply, prod_apply]
  have h1 : 256 * (t.val / 8) + 4096 * ((512 + q.val) / 256) + (512 + q.val) % 256 = 8192 + (256 * (t.val / 8) + q.val) := by omega
  have h2 : 256 * (t.val / 8) + 4096 * (q.val / 256) + q.val % 256 = 256 * (t.val / 8) + q.val := by omega
  simp only [h1, h2]

theorem ext_apply (t : Fin cfg0.N) (r : Fin 1024) (q : Fin 256) (j : ℕ) (hj : j < 3) :
    ext (iblk m c 0 t) (wcols c (V m c main_arg1) (t.val / 8)) (histIn m c t.val) (r.val + (6 + j)) q
      = Layer.tap (arrA m c) (arrW m c) (1024 * (t.val % 8) + r.val) (256 * (t.val / 8) + q.val) j := by
  have ht := lt128 t
  unfold ext Layer.tap
  by_cases h8 : r.val + (6 + j) < 8
  · rw [dif_pos h8]
    unfold histIn
    by_cases h4 : t.val % 4 = 0
    · rw [if_pos h4, if_pos (by omega)]
      exact zeros_apply ..
    · rw [if_neg h4, if_neg (by omega)]
      unfold histAt
      rw [dif_pos (show t.val - 1 < cfg0.N from by have : cfg0.N = 128 := rfl; omega), histV_apply]
      refine (gblk_apply m c ⟨t.val - 1, _⟩ _ q).trans ?_
      have e1 : 1024 * ((t.val - 1) % 8) + (1016 + (r.val + (6 + j))) = 1024 * (t.val % 8) + r.val + j - 2 := by omega
      have e2 : (t.val - 1) / 8 = t.val / 8 := by omega
      simp only [e1, e2]
  · rw [dif_neg h8, dif_pos (show r.val + (6 + j) - 8 < 1024 by omega), if_neg (by omega), gblk_apply]
    have e1 : 1024 * (t.val % 8) + (r.val + (6 + j) - 8) = 1024 * (t.val % 8) + r.val + j - 2 := by omega
    simp only [e1]

theorem outAt_apply (t : Fin cfg0.N) (r : Fin 1024) (q : Fin 256) :
    outAt m c t (ix2 r q) = Layer.out (arrA m c) (arrW m c) (arrC m c) (1024 * (t.val % 8) + r.val) ⟨256 * (t.val / 8) + q.val, by have := lt128 t; omega⟩ := by
  unfold outAt
  rw [outV_apply, iblk1_apply, iblk1_apply, iblk1_apply, prod_apply, prod_apply]
  have p0 := ext_apply m c t r q 0 (by omega)
  have p1 := ext_apply m c t r q 1 (by omega)
  have p2 := ext_apply m c t r q 2 (by omega)
  rw [show r.val + (6 + 0) = r.val + 6 from rfl] at p0
  rw [show r.val + (6 + 1) = r.val + 7 from rfl] at p1
  rw [show r.val + (6 + 2) = r.val + 8 from rfl] at p2
  rw [p0, p1, p2]
  have h1 : 256 * (t.val / 8) + 4096 * ((256 + q.val) / 256) + (256 + q.val) % 256 = 4096 + (256 * (t.val / 8) + q.val) := by omega
  have h2 : 256 * (t.val / 8) + 4096 * ((768 + q.val) / 256) + (768 + q.val) % 256 = 12288 + (256 * (t.val / 8) + q.val) := by omega
  simp only [h1, h2]
  rfl

/-- The output array after the run, at an index. -/
theorem out_apply (r : Fin 8192) (q : Fin 4096) :
    ((dats m 0 c).arrAt 2 cfg0.N : Vec Ideal S8192x4096 .bf16) (ix2 r q) = Layer.out (arrA m c) (arrW m c) (arrC m c) r.val q := by
  have hN : cfg0.N = 128 := rfl
  have ht : q.val / 256 * 8 + r.val / 1024 < cfg0.N := by omega
  have h := (block2 m c ⟨q.val / 256 * 8 + r.val / 1024, ht⟩ ⟨r.val % 1024, by omega⟩ ⟨q.val % 256, by omega⟩).trans (outAt_apply m c _ _ _)
  have e1 : 1024 * ((q.val / 256 * 8 + r.val / 1024) % 8) + r.val % 1024 = r.val := by omega
  have e2 : 256 * ((q.val / 256 * 8 + r.val / 1024) / 8) + q.val % 256 = q.val := by omega
  simp only [e1, e2] at h
  exact h

/-- The run, its output array named. -/
theorem run_out (ρ : Dev nD → PrngReg) : θ_run defs (onTc (τ := τ) (main (F := Ideal))) ⟨m, fun _ => 0, ρ⟩ fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 2,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c)))⟩) (run_all m ρ)

end Cert.KernelIdeal.Own

end
-- ==== Proof.RefVal.lean ====
module

public import proofs.«01_k».proof.Proof.Gen.ReferenceIdeal.Run
public import proofs.«01_k».proof.Proof.Layer

@[expose] public section

set_option maxRecDepth 16384

noncomputable section

namespace Cert.ReferenceIdeal.Own

open Cert.ReferenceIdeal Cert.ReferenceIdeal.Value Cert.ReferenceIdeal.Gen
open Idealize.ShloMosaic Idealize.ShloMosaic.TcCoe

/-- The input projection. -/
def proj (A : FVec Ideal S8192x4096 .bf16) (W : FVec Ideal S1x4096x16384 .f32) : FVec Ideal S2x4096x16384 .f32 :=
  Host.dotGeneral dot_S2x4096x4096_S4096x16384_S2x4096x16384_2_0_01_1_n_n none (shapeCast _ (extf .f32 A bitsLt_bf16_f32) shapeCasts_S8192x4096_S2x4096x4096) (shapeCast _ W shapeCasts_S1x4096x16384_S4096x16384)

/-- The gated rows, two rows of zeros before them. -/
def padded (P : FVec Ideal S2x4096x16384 .f32) : FVec Ideal S2x4098x4096 .f32 :=
  pad S2x4098x4096 ![0, 2, 0] ![0, 0, 0] ![0, 0, 0] (mulf (extractStridedSlice S2x4096x4096 ![0, 0, 8192] P slices_S2x4096x16384_S2x4096x4096_0_0_8192) (extractStridedSlice S2x4096x4096 ![0, 0, 0] P slices_S2x4096x16384_S2x4096x4096_0_0_0)) (sitofp .f32 (constantI S_ 32 0#32)) pads_S2x4096x4096_S2x4098x4096_000_200_000 h_S_

/-- The layer of its projection. -/
def layer (P : FVec Ideal S2x4096x16384 .f32) (cw : FVec Ideal S1x3x4096 .f32) : FVec Ideal S8192x4096 .bf16 :=
  shapeCast S8192x4096 (truncf .bf16 (mulf (mulf (extractStridedSlice S2x4096x4096 ![0, 0, 4096] P slices_S2x4096x16384_S2x4096x4096_0_0_4096) (addf (addf (addf (broadcastInDim S2x4096x4096 ![] bcast_S_S2x4096x4096 (constant S_ .f32 0x00000000#32)) (mulf (extractStridedSlice S2x4096x4096 ![0, 0, 0] (padded P) slices_S2x4098x4096_S2x4096x4096_0_0_0) (broadcastInDim S2x4096x4096 ![0, 1, 2] bcast_S1x1x4096_S2x4096x4096_0_1_2 (broadcastInDim S1x1x4096 ![2] bcast_S4096_S1x1x4096_2 (shapeCast _ (extractStridedSlice S1x4096 ![0, 0] (shapeCast _ cw shapeCasts_S1x3x4096_S3x4096) slices_S3x4096_S1x4096_0_0) shapeCasts_S1x4096_S4096))))) (mulf (extractStridedSlice S2x4096x4096 ![0, 1, 0] (padded P) slices_S2x4098x4096_S2x4096x4096_0_1_0) (broadcastInDim S2x4096x4096 ![0, 1, 2] bcast_S1x1x4096_S2x4096x4096_0_1_2 (broadcastInDim S1x1x4096 ![2] bcast_S4096_S1x1x4096_2 (shapeCast _ (extractStridedSlice S1x4096 ![1, 0] (shapeCast _ cw shapeCasts_S1x3x4096_S3x4096) slices_S3x4096_S1x4096_1_0) shapeCasts_S1x4096_S4096))))) (mulf (extractStridedSlice S2x4096x4096 ![0, 2, 0] (padded P) slices_S2x4098x4096_S2x4096x4096_0_2_0) (broadcastInDim S2x4096x4096 ![0, 1, 2] bcast_S1x1x4096_S2x4096x4096_0_1_2 (broadcastInDim S1x1x4096 ![2] bcast_S4096_S1x1x4096_2 (shapeCast _ (extractStridedSlice S1x4096 ![2, 0] (shapeCast _ cw shapeCasts_S1x3x4096_S3x4096) slices_S3x4096_S1x4096_2_0) shapeCasts_S1x4096_S4096)))))) (mulf (extractStridedSlice S2x4096x4096 ![0, 0, 12288] P slices_S2x4096x16384_S2x4096x4096_0_0_12288) (Host.divf (broadcastInDim S2x4096x4096 ![] bcast_S_S2x4096x4096 (constant S_ .f32 0x3F800000#32)) (addf (broadcastInDim S2x4096x4096 ![] bcast_S_S2x4096x4096 (constant S_ .f32 0x3F800000#32)) (Host.exp (Host.negf (extractStridedSlice S2x4096x4096 ![0, 0, 12288] P slices_S2x4096x16384_S2x4096x4096_0_0_12288))))))) bitsLt_bf16_f32) shapeCasts_S2x4096x4096_S8192x4096

theorem proj_apply (A : FVec Ideal S8192x4096 .bf16) (W : FVec Ideal S1x4096x16384 .f32) (b : Fin 2) (t : Fin 4096) (n : Fin 16384) :
    proj A W (ix3 b t n) = ∑ k : Fin 4096, A (ix2 ⟨b.val * 4096 + t.val, by omega⟩ k) * W (ix3 0 k n) := by
  pointwise [proj]

/-- The layer's mathematics of arrays of the reference's shapes. -/
def value (A : FVec Ideal S8192x4096 .bf16) (W : FVec Ideal S1x4096x16384 .f32) (cw : FVec Ideal S1x3x4096 .f32) (r : ℕ) (q : Fin 4096) : EReal :=
  Layer.out (fun r k => A (ix2 r k)) (fun k n => W (ix3 0 k n)) (fun j q => cw (ix3 0 j q)) r q

section
variable (A : FVec Ideal S8192x4096 .bf16) (W : FVec Ideal S1x4096x16384 .f32) (cw : FVec Ideal S1x3x4096 .f32)

theorem proj_eq (b : Fin 2) (t : Fin 4096) (n : Fin 16384) : proj A W (ix3 b t n) = Layer.pr (fun r k => A (ix2 r k)) (fun k n => W (ix3 0 k n)) (b.val * 4096 + t.val) n.val :=
  (proj_apply A W b t n).trans (Layer.pr_of (fun r k => A (ix2 r k)) (fun k n => W (ix3 0 k n)) ⟨b.val * 4096 + t.val, by omega⟩ n)

theorem sitofp_zero' : FloatOps.sitofp (F := Ideal) FTy.f32 (0#32) = (0 : EReal) := by
  show (((0#32 : BitVec 32).toInt : ℝ) : EReal) = 0
  simp

theorem padded_eq (b : Fin 2) (t : Fin 4096) (q : Fin 4096) (j : ℕ) (hj : j < 3) (h : t.val + j < 4098) :
    padded (proj A W) (ix3 b ⟨t.val + j, h⟩ q) = Layer.tap (fun r k => A (ix2 r k)) (fun k n => W (ix3 0 k n)) (b.val * 4096 + t.val) q.val j := by
  have e : padded (proj A W) (ix3 b ⟨t.val + j, h⟩ q) = if h : 2 ≤ t.val + j ∧ t.val + j - 2 < 4096 then
      proj A W (ix3 b ⟨t.val + j - 2, h.2⟩ ⟨8192 + q.val, by omega⟩) * proj A W (ix3 b ⟨t.val + j - 2, h.2⟩ ⟨q.val, by omega⟩)
      else FloatOps.sitofp FTy.f32 (0#32) := by
    pointwise [padded]
  rw [e]
  unfold Layer.tap
  have hm : (b.val * 4096 + t.val) % 4096 = t.val := by omega
  rw [hm]
  by_cases hz : t.val + j < 2
  · rw [dif_neg (by omega), if_pos hz, sitofp_zero']
  · rw [dif_pos (by omega), if_neg hz, proj_eq, proj_eq]
    unfold Layer.gate
    have hr : b.val * 4096 + (t.val + j - 2) = b.val * 4096 + t.val + j - 2 := by omega
    simp only [hr]

theorem layer_apply (r : Fin 8192) (q : Fin 4096) : layer (proj A W) cw (ix2 r q) = value A W cw r.val q := by
  have e : layer (proj A W) cw (ix2 r q) = proj A W (ix3 ⟨r.val / 4096, by omega⟩ ⟨r.val % 4096, by omega⟩ ⟨4096 + q.val, by omega⟩) *
        (padded (proj A W) (ix3 ⟨r.val / 4096, by omega⟩ ⟨r.val % 4096, by omega⟩ q) * cw (ix3 0 0 q) +
            padded (proj A W) (ix3 ⟨r.val / 4096, by omega⟩ ⟨1 + r.val % 4096, by omega⟩ q) * cw (ix3 0 1 q) +
          padded (proj A W) (ix3 ⟨r.val / 4096, by omega⟩ ⟨2 + r.val % 4096, by omega⟩ q) * cw (ix3 0 2 q)) *
      (proj A W (ix3 ⟨r.val / 4096, by omega⟩ ⟨r.val % 4096, by omega⟩ ⟨12288 + q.val, by omega⟩) *
        Ideal.div 1 (1 + Ideal.exp (-proj A W (ix3 ⟨r.val / 4096, by omega⟩ ⟨r.val % 4096, by omega⟩ ⟨12288 + q.val, by omega⟩)))) := by
    pointwise [layer]
  have p0 := padded_eq A W ⟨r.val / 4096, by omega⟩ ⟨r.val % 4096, by omega⟩ q 0 (by omega) (by show r.val % 4096 + 0 < 4098; omega)
  have p1 := padded_eq A W ⟨r.val / 4096, by omega⟩ ⟨r.val % 4096, by omega⟩ q 1 (by omega) (by show r.val % 4096 + 1 < 4098; omega)
  have p2 := padded_eq A W ⟨r.val / 4096, by omega⟩ ⟨r.val % 4096, by omega⟩ q 2 (by omega) (by show r.val % 4096 + 2 < 4098; omega)
  have hr : r.val / 4096 * 4096 + r.val % 4096 = r.val := by omega
  simp only [Nat.add_comm 1 (r.val % 4096), Nat.add_comm 2 (r.val % 4096)] at e
  simp only [Nat.add_zero, hr] at p0 p1 p2
  rw [e, p0, p1, p2, proj_eq, proj_eq]
  simp only [hr]
  unfold value Layer.out Ideal.logistic
  rw [mul_comm (cw (ix3 0 0 q) : EReal), mul_comm (cw (ix3 0 1 q) : EReal), mul_comm (cw (ix3 0 2 q) : EReal), add_comm (Layer.tap _ _ r.val q.val 0 * _), add_comm (Layer.tap _ _ r.val q.val 2 * _)]

end

theorem res_eq (m : (ℓ : Loc nD τ sig) → Buf (Elt Ideal) ℓ) (c : Dev nD) :
    res_main_v37 m c = layer (proj (m ((c.tc : Thread nD τ).loc main_arg0)) (m ((c.tc : Thread nD τ).loc main_arg1))) (m ((c.tc : Thread nD τ).loc main_arg2)) := rfl

end Cert.ReferenceIdeal.Own

end
-- ==== Proof.Quiet.lean ====
module

public import proofs.«01_k».proof.Defs
public import proofs.«01_k».proof.Proof.KerVal
public import proofs.«01_k».proof.Proof.RefVal
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import Idealize.ShloMosaic.Lib.Quiescent

@[expose] public section

set_option maxRecDepth 16384

noncomputable section

namespace Cert.Proof

open Idealize.ShloMosaic Idealize.SL.Sem

/-- The two printed programs run the same body. -/
theorem body_eq : Cert.Kernel.cc0_shortconv (F := Bits) = Cert.KernelIdeal.cc0_shortconv (F := Bits) := rfl

/-- … under the same body table. -/
theorem table_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs Cert.KernelIdeal.pcfgs) table_eq

/-- A run under a body table is one under an equal table. -/
theorem run_of_eq {nD : Nat} {τ : Topo} {sig : RefSig} {Val : EltTy → Type} {Λ : Labels} {d d' : Defs nD τ sig Val Λ} (e : d = d')
    {p : (c : Thread nD τ) → Prog (TpuEff nD τ sig Val Λ c.2) PUnit} {s : MemSt nD τ sig Val} {Q : PUnit × MemSt nD τ sig Val → Prop}
    (h : θ_run d' p s Q) : θ_run d p s Q := e ▸ h

theorem quiet_kernel : Cert.quiescent_Kernel := fun m ρ _ => run_of_eq defs_eq (Cert.KernelIdeal.Own.quiescent (F := Bits) m ρ)
theorem quiet_ideal : Cert.quiescent_KernelIdeal := fun m ρ _ => Cert.KernelIdeal.Own.quiescent (F := Ideal) m ρ
theorem quiet_reference : Cert.quiescent_ReferenceIdeal :=
  fun m ρ _ => (θ_run _ _ _).mono (fun r h => ⟨fun c => ⟨(h c).2.1, (h c).2.2.1, (h c).2.2.2⟩, sem_eq_zero_of_no_sems rfl r.2⟩) (Cert.ReferenceIdeal.Value.run (F := Ideal) m ρ)
/-- The two programs' results agree, element by element. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v37 m' c = ((Cert.KernelIdeal.Own.dats m 0 c).arrAt 2 Cert.KernelIdeal.cfg0.N : Vec Ideal Cert.KernelIdeal.S8192x4096 .bf16) := by
  rw [Cert.ReferenceIdeal.Own.res_eq, h0, h1, h2]
  funext y
  idx_vars y
  exact (Cert.ReferenceIdeal.Own.layer_apply _ _ _ _ _).trans (Cert.KernelIdeal.Own.out_apply m c _ _).symm

theorem algebraic : Cert.algebraic_KernelIdeal_ReferenceIdeal := fun m g m' g' _ he =>
  ⟨fun c => (Cert.KernelIdeal.Own.dats m 0 c).arrAt 2 Cert.KernelIdeal.cfg0.N, Cert.KernelIdeal.Own.run_out m g,
    (θ_run _ _ _).mono (fun r h c => ⟨(h c).1.trans (result_eq m m' c (he c).1 (he c).2.1 (he c).2.2), (h c).2⟩) (Cert.ReferenceIdeal.Value.run (F := Ideal) m' g')⟩

end Cert.Proof

end
-- ==== Proof.Norm.lean ====
module

public import proofs.«01_k».proof.Proof.Gen.Kernel4Ideal.Value
public import proofs.«01_k».proof.Proof.Gen.Reference4Ideal.Run
public import Idealize.ShloMosaic.Lib.Pointwise
public import Idealize.ShloMosaic.Lib.Quiescent

@[expose] public section

set_option maxRecDepth 16384

noncomputable section

namespace Cert.Kernel4Ideal.Own

open Cert.Kernel4Ideal.Gen
open Idealize.ShloMosaic Idealize.ShloMosaic.TcCoe
open Idealize.SL.Sem

/-- One element of a normed row. -/
def normed (x : Fin 4096 → EReal) (w : EReal) (q : Fin 4096) : EReal :=
  x q * Ideal.rsqrt (Ideal.div (∑ k : Fin 4096, x k * x k) (Ideal.ofBits .f32 0x45800000#32) + Ideal.ofBits .f32 0x358637BD#32) * w

theorem pay1_apply (P0 : FVec Ideal S512x4096 .f32) (P1 : FVec Ideal S1x4096 .f32) (a : Fin 512) (q : Fin 4096) :
    k0_pay1 (F := Ideal) P0 P1 (ix2 a q) = normed (fun k => P0 (ix2 a k)) (P1 (ix2 0 q)) q := by
  unfold normed
  pointwise [k0_pay1]

theorem ld0 (x : FVec Ideal S512x4096 .f32) : View.ld (Val := Elt Ideal) (e' := .f32) x r0_0 = x := by
  funext i
  refine congrArg x (funext fun y => Fin.ext ?_)
  match y with
  | ⟨0, _⟩ => show 0 + 1 * (i 0).val = (i 0).val; omega
  | ⟨1, _⟩ => show 0 + 1 * (i 1).val = (i 1).val; omega

theorem ld1 (x : FVec Ideal S1x4096 .f32) : View.ld (Val := Elt Ideal) (e' := .f32) x r0_1 = x := by
  funext i
  refine congrArg x (funext fun y => Fin.ext ?_)
  match y with
  | ⟨0, _⟩ => show 0 + 1 * (i 0).val = (i 0).val; omega
  | ⟨1, _⟩ => show 0 + 1 * (i 1).val = (i 1).val; omega

theorem canon_pay (P0 : FVec Ideal S512x4096 .f32) (P1 : FVec Ideal S1x4096 .f32) (y : S512x4096.Idx) :
    View.canon (Val := Elt Ideal) (e := .f32) [⟨r0_0, k0_pay1 (F := Ideal) P0 P1⟩] y = k0_pay1 (F := Ideal) P0 P1 y := by
  refine View.canon_apply_of_pieces (Val := Elt Ideal) (e := .f32) (k0_pay1 (F := Ideal) P0 P1) _ ?_ y (cover0_2 (F := Ideal) _ y)
  intro pc hpc
  rcases List.mem_cons.mp hpc with rfl | hpc
  · intro x
    refine congrArg (k0_pay1 (F := Ideal) P0 P1) (funext fun y => Fin.ext ?_)
    match y with
    | ⟨0, _⟩ => show (x 0).val = 0 + 1 * (x 0).val; omega
    | ⟨1, _⟩ => show (x 1).val = 0 + 1 * (x 1).val; omega
  nomatch hpc

theorem row_apply (w : FVec Ideal S4096 .f32) (q : Fin 4096) : (shapeCast S1x4096 w shapeCasts_S4096_S1x4096 : FVec Ideal S1x4096 .f32) (ix2 0 q) = w (ix1 q) := by
  pointwise []

variable (m : (ℓ : Loc nD τ sig) → Buf (Elt Ideal) ℓ)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem flush2 : ∀ t : Fin cfg0.N, (cfg0.win 2).flush t = true :=
  (by decide +kernel : ∀ t : Fin grid0.N, win0_2.flush t = true)
theorem lt16 (t : Fin cfg0.N) : t.val < 16 := t.isLt

theorem iblk0_apply (c : Dev nD) (t : Fin cfg0.N) (a : Fin 512) (k : Fin 4096) :
    (iblk m c 0 t : FVec Ideal S512x4096 .f32) (ix2 a k)
      = (V m c main_arg0 : FVec Ideal S8192x4096 .f32) (ix2 ⟨512 * t.val + a.val, by have := lt16 t; omega⟩ k) := by
  refine congrArg (V m c main_arg0) ?_
  funext x
  apply Fin.ext
  fin_cases x
  · show win0_0.index t 0 * 512 + 1 * a.val = 512 * t.val + a.val
    rw [(index0 t).1]; omega
  · show win0_0.index t 1 * 4096 + 1 * k.val = k.val
    rw [(index0 t).2]; omega

theorem iblk1_apply (c : Dev nD) (t : Fin cfg0.N) (k : Fin 4096) :
    (iblk m c 1 t : FVec Ideal S1x4096 .f32) (ix2 0 k) = (V m c main_v0 : FVec Ideal S1x4096 .f32) (ix2 0 k) := by
  refine congrArg (V m c main_v0) ?_
  funext x
  apply Fin.ext
  fin_cases x
  · show win0_1.index t 0 * 1 + 1 * 0 = 0
    rw [(index1 t).1]
  · show win0_1.index t 1 * 4096 + 1 * k.val = k.val
    rw [(index1 t).2]; omega

theorem V_main_v0 (c : Dev nD) : V m c main_v0 = (shapeCast S1x4096 (m ((c : Thread nD τ).loc main_arg1) : FVec Ideal S4096 .f32) shapeCasts_S4096_S1x4096 : FVec Ideal S1x4096 .f32) := by
  unfold V
  after_results <;> rfl

theorem V_main_v0_apply (c : Dev nD) (q : Fin 4096) : (V m c main_v0 : FVec Ideal S1x4096 .f32) (ix2 0 q) = (m ((c : Thread nD τ).loc main_arg1) : FVec Ideal S4096 .f32) (ix1 q) := by
  rw [V_main_v0]
  exact row_apply _ q

theorem block2 (c : Dev nD) (t : Fin cfg0.N) (a : Fin 512) (b : Fin 4096) :
    ((dats m 0 c).arrAt 2 cfg0.N : FVec Ideal S8192x4096 .f32) (ix2 ⟨512 * t.val + a.val, by have := lt16 t; omega⟩ b)
      = k0_pay1 (iblk m c 0 t) (iblk m c 1 t) (ix2 a b) := by
  have h := congrFun (Value.blocks2 m c t (flush2 t)) (ix2 a b)
  refine Eq.trans ?_ (h.trans ?_)
  · refine congrArg ((dats m 0 c).arrAt 2 cfg0.N) ?_
    funext x
    apply Fin.ext
    fin_cases x
    · show 512 * t.val + a.val = win0_2.index t 0 * 512 + 1 * a.val
      rw [(index2 t).1]; omega
    · show b.val = win0_2.index t 1 * 4096 + 1 * b.val
      rw [(index2 t).2]; omega
  · rw [Value.flushed2]
    show out0_2 (F := Ideal) _ _ (ix2 a b) = _
    unfold out0_2
    rw [ld0, ld1]
    exact canon_pay _ _ _

theorem out_apply (c : Dev nD) (r : Fin 8192) (q : Fin 4096) :
    ((dats m 0 c).arrAt 2 cfg0.N : FVec Ideal S8192x4096 .f32) (ix2 r q)
      = normed (fun k => (m ((c : Thread nD τ).loc main_arg0) : FVec Ideal S8192x4096 .f32) (ix2 r k)) ((m ((c : Thread nD τ).loc main_arg1) : FVec Ideal S4096 .f32) (ix1 q)) q := by
  have h := block2 m c ⟨r.val / 512, by show r.val / 512 < 16; omega⟩ ⟨r.val % 512, by omega⟩ q
  rw [pay1_apply, iblk1_apply, V_main_v0_apply] at h
  simp only [iblk0_apply, V_main_arg0] at h
  have hr : (⟨512 * (r.val / 512) + r.val % 512, by omega⟩ : Fin 8192) = r := Fin.ext (by show 512 * (r.val / 512) + r.val % 512 = r.val; omega)
  simp only [hr] at h
  exact h

end Cert.Kernel4Ideal.Own

namespace Cert.Reference4Ideal.Own

open Cert.Reference4Ideal Cert.Reference4Ideal.Gen
open Idealize.ShloMosaic Idealize.ShloMosaic.TcCoe

/-- The norm of arrays of the reference's shapes. -/
def layer (x : FVec Ideal S8192x4096 .f32) (w : FVec Ideal S4096 .f32) : FVec Ideal S8192x4096 .f32 :=
  shapeCast S8192x4096 (mulf (mulf (shapeCast _ x shapeCasts_S8192x4096_S2x4096x4096) (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf (shapeCast _ x shapeCasts_S8192x4096_S2x4096x4096) (shapeCast _ x shapeCasts_S8192x4096_S2x4096x4096)) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 w))) shapeCasts_S2x4096x4096_S8192x4096

theorem layer_apply (x : FVec Ideal S8192x4096 .f32) (w : FVec Ideal S4096 .f32) (r : Fin 8192) (q : Fin 4096) :
    layer x w (ix2 r q) = Cert.Kernel4Ideal.Own.normed (fun k => x (ix2 r k)) (w (ix1 q)) q := by
  unfold Cert.Kernel4Ideal.Own.normed
  pointwise [layer]

end Cert.Reference4Ideal.Own

end
-- ==== Proof.NormClaim.lean ====
module

public import proofs.«01_k».proof.Defs
public import proofs.«01_k».proof.Proof.Norm
public import proofs.«01_k».proof.Proof.Gen.Kernel4.Frame
public import proofs.«01_k».proof.Proof.Gen.Kernel4
public import proofs.«01_k».proof.Proof.Gen.Kernel4Ideal
public import proofs.«01_k».proof.Proof.Gen.Reference4Ideal

@[expose] public section

set_option maxRecDepth 16384

noncomputable section

namespace Cert.Proof

open Idealize.ShloMosaic Idealize.SL.Sem

theorem quiet_kernel4 : Cert.quiescent_Kernel4 := fun m ρ _ => Cert.Kernel4.Gen.frame (F := Bits) m ρ
theorem quiet_ideal4 : Cert.quiescent_Kernel4Ideal := fun m ρ _ => Cert.Kernel4Ideal.Gen.frame (F := Ideal) m ρ
theorem quiet_reference4 : Cert.quiescent_Reference4Ideal :=
  fun m ρ _ => (θ_run _ _ _).mono (fun r h => ⟨fun c => ⟨(h c).2.1, (h c).2.2⟩, sem_eq_zero_of_no_sems rfl r.2⟩) (Cert.Reference4Ideal.Value.run (F := Ideal) m ρ)

theorem norm_eq (x : FVec Ideal Cert.Kernel4Ideal.S8192x4096 .f32) (w : FVec Ideal Cert.Kernel4Ideal.S4096 .f32)
    (m : (ℓ : Loc Cert.Kernel4Ideal.nD Cert.Kernel4Ideal.τ Cert.Kernel4Ideal.sig) → Buf (Elt Ideal) ℓ) (c : Dev Cert.Kernel4Ideal.nD)
    (h0 : x = m ((c.tc : Thread Cert.Kernel4Ideal.nD Cert.Kernel4Ideal.τ).loc Cert.Kernel4Ideal.main_arg0))
    (h1 : w = m ((c.tc : Thread Cert.Kernel4Ideal.nD Cert.Kernel4Ideal.τ).loc Cert.Kernel4Ideal.main_arg1)) :
    Cert.Reference4Ideal.Own.layer x w = ((Cert.Kernel4Ideal.Gen.dats m 0 c).arrAt 2 Cert.Kernel4Ideal.cfg0.N : Vec Ideal Cert.Kernel4Ideal.S8192x4096 .f32) := by
  subst h0 h1
  funext y
  idx_vars y
  exact (Cert.Reference4Ideal.Own.layer_apply _ _ _ _).trans (Cert.Kernel4Ideal.Own.out_apply m c _ _).symm

theorem algebraic4 : Cert.algebraic_Kernel4Ideal_Reference4Ideal := fun m g m' g' _ he =>
  ⟨fun c => (Cert.Kernel4Ideal.Gen.dats m 0 c).arrAt 2 Cert.Kernel4Ideal.cfg0.N, Cert.Kernel4Ideal.Value.run_blocks m g,
    (θ_run _ _ _).mono (fun r h c => ⟨(h c).1.trans (norm_eq _ _ m c (he c).1 (he c).2), (h c).2⟩) (Cert.Reference4Ideal.Value.run (F := Ideal) m' g')⟩

end Cert.Proof

end
-- ==== Proof.Ring2.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Own

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branch conditions over the points -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 16 < 8 :=
  (by decide +kernel : ∀ t : Fin grid0.N, k0_cond2 (grid0.coords t) = 1#1 ↔ t.val % 16 < 8)
theorem hcond3 : ∀ t : Fin cfg0.N, k0_cond3 (grid0.coords t) = 1#1 ↔ 8 ≤ t.val % 16 :=
  (by decide +kernel : ∀ t : Fin grid0.N, k0_cond3 (grid0.coords t) = 1#1 ↔ 8 ≤ t.val % 16)
theorem hcond4 : ∀ t : Fin cfg0.N, k0_cond4 (grid0.coords t) = 1#1 ↔ t.val = 95 :=
  (by decide +kernel : ∀ t : Fin grid0.N, k0_cond4 (grid0.coords t) = 1#1 ↔ t.val = 95)

/-! ## The memrefs -/

abbrev wbf0 : Memref sig .tc .vmem S1024x4096 .bf16 := Memref.whole cc0_scratch0
abbrev wbf1 : Memref sig .tc .vmem S1024x4096 .bf16 := Memref.whole cc0_scratch1
abbrev stg : Memref sig .tc .vmem S2x1x128x4096 .f32 := Memref.whole cc0_scratch2
abbrev wM : Memref sig .tc .hbm S1x12320x4096 .f32 := Memref.whole main_v0
/-- The contents of a memref's buffer on core `c`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The staging ring: two slots -/

theorem inb_part (s : Fin 2) : ∀ a, (![s.val, 0, 0, 0] : Fin 4 → Nat) a + S1x1x128x4096.size a ≤ S2x1x128x4096.size a := by
  have := s.isLt; intro a; fin_cases a <;> simp <;> omega
theorem inb_src (b : ℕ) : ∀ a, (![0, 1024 * (b / 8 % 12) + 128 * (b % 8), 0] : Fin 3 → Nat) a + S1x128x4096.size a ≤ S1x12320x4096.size a := by
  have := Nat.mod_lt b (by decide : 0 < 8); have := Nat.mod_lt (b / 8) (by decide : 0 < 12)
  intro a; fin_cases a <;> simp <;> omega
theorem inb_cell (s : Fin 2) : ∀ a, (![s.val, 0] : Fin 2 → Nat) a + S1x1.size a ≤ S2x1.size a := by
  have := s.isLt; intro a; fin_cases a <;> simp <;> omega
/-- Slot `s`. -/
def rpart (s : Fin 2) : Memref sig .tc .vmem S128x4096 .f32 :=
  (stg.slice (Rect.unit (s := S2x1x128x4096) ![s.val, 0, 0, 0] S1x1x128x4096.size (inb_part s)) (fun _ => rfl)).squeeze S128x4096 squeezes_S1x1x128x4096_S128x4096
/-- Slab `b` of the weights: part `b mod 8` of the block `b / 8`. -/
def srcB (b : ℕ) : Memref sig .tc .hbm S128x4096 .f32 :=
  (wM.slice (Rect.unit (s := S1x12320x4096) ![0, 1024 * (b / 8 % 12) + 128 * (b % 8), 0] S1x128x4096.size (inb_src b)) (fun _ => rfl)).squeeze S128x4096 squeezes_S1x128x4096_S128x4096
/-- The cell of slot `s`. -/
def cellA (s : Fin 2) : DmaSems sig S_ := (cc0_scratch3.slice (Rect.unit (s := S2x1) ![s.val, 0] S1x1.size (inb_cell s))).squeeze S_ squeezes_S1x1_S_
abbrev cellR (s : Fin 2) : SemLoc sig := SemLoc.dma (cellA s).sem

section Ring
variable (c : Dev nD) (W : HbBuf (F := F) c wM)
/-- The weights are lent by share: one copy for each slot. -/
def qs (s : Fin 2) : PosShare TreeShare := if s.val = 0 then fullShare.left else fullShare.right
abbrev partP (s : Fin 2) (f : HbBuf (F := F) c (rpart s)) : sProp 𝕄 := (rpart s).view.loc (c : Thread nD τ) ↦[(rpart s).view.set]{fullShare} f
abbrev cellP (s : Fin 2) : sProp 𝕄 := semVal ((c : Thread nD τ), cellR s) 0
abbrev srcP (s : Fin 2) (b : ℕ) : sProp 𝕄 := (srcB b).view.loc (c : Thread nD τ) ↦[(srcB b).view.set]{qs s} W
/-- What is left of a copy while slab `b` is lent. -/
def restP (s : Fin 2) (b : ℕ) : sProp 𝕄 := ((c : Thread nD τ).loc main_v0) ↦[Finset.univ \ (srcB b).view.set]{qs s} W
/-- A copy whole. -/
def wholeP (s : Fin 2) : sProp 𝕄 := ((c : Thread nD τ).loc main_v0) ↦[Finset.univ]{qs s} W
abbrev landed (s : Fin 2) (b : ℕ) (f : HbBuf (F := F) c (rpart s)) : HbBuf (F := F) c (rpart s) :=
  (rpart s).view.writes (Elt F) f [⟨Rect.whole S128x4096, ReadAs.same.apply ((srcB b).view.read (Elt F) W)⟩]
abbrev flightP (s : Fin 2) (b : ℕ) (f : HbBuf (F := F) c (rpart s)) : sProp 𝕄 :=
  Transfers.Flight countersEmb (c : Thread nD τ) (cellR s) default ((rpart s).view.amount (cellR s))
    iprop(partP c s (landed c W s b f) ∗ srcP c W s b)
/-- Slot `s` in flight with slab `b`; and free. -/
def infl (s : Fin 2) (b : ℕ) : sProp 𝕄 := iprop(∃ f, flightP c W s b f ∗ restP c W s b)
def free (s : Fin 2) : sProp 𝕄 := iprop(cellP c s ∗ (∃ f, partP c s f) ∗ wholeP c W s)
theorem src_split (s : Fin 2) (b : ℕ) : wholeP (F := F) c W s ⊣⊢ iprop(srcP c W s b ∗ restP c W s b) := by
  unfold restP wholeP; exact pointsTo_split_subset (Finset.subset_univ _)
end Ring

/-! ## The body's operands are the ring's slots, slabs and cells -/

section Canon
omit [FloatOps F]
/-- Cells, parts of the stage and slabs of the weights at equal offsets are equal. -/
theorem cell_at {o o' : Fin 2 → Nat} (e : o = o') (h : ∀ a, o a + S1x1.size a ≤ S2x1.size a) (h' : ∀ a, o' a + S1x1.size a ≤ S2x1.size a) :
    (cc0_scratch3.slice (Rect.unit (s := S2x1) o S1x1.size h)).squeeze S_ squeezes_S1x1_S_ = (cc0_scratch3.slice (Rect.unit (s := S2x1) o' S1x1.size h')).squeeze S_ squeezes_S1x1_S_ := by
  subst e; rfl
theorem part_at {o o' : Fin 4 → Nat} (e : o = o') (h : ∀ a, o a + S1x1x128x4096.size a ≤ S2x1x128x4096.size a) (h' : ∀ a, o' a + S1x1x128x4096.size a ≤ S2x1x128x4096.size a) :
    (stg.slice (Rect.unit (s := S2x1x128x4096) o S1x1x128x4096.size h) (fun _ => rfl)).squeeze S128x4096 squeezes_S1x1x128x4096_S128x4096 = (stg.slice (Rect.unit (s := S2x1x128x4096) o' S1x1x128x4096.size h') (fun _ => rfl)).squeeze S128x4096 squeezes_S1x1x128x4096_S128x4096 := by
  subst e; rfl
theorem slab_at {o o' : Fin 3 → Nat} (e : o = o') (h : ∀ a, o a + S1x128x4096.size a ≤ S1x12320x4096.size a) (h' : ∀ a, o' a + S1x128x4096.size a ≤ S1x12320x4096.size a) :
    (wM.slice (Rect.unit (s := S1x12320x4096) o S1x128x4096.size h) (fun _ => rfl)).squeeze S128x4096 squeezes_S1x128x4096_S128x4096 = (wM.slice (Rect.unit (s := S1x12320x4096) o' S1x128x4096.size h') (fun _ => rfl)).squeeze S128x4096 squeezes_S1x128x4096_S128x4096 := by
  subst e; rfl
set_option synthInstance.maxSize 4096 in
theorem coff2 : ∀ t : Fin grid0.N, k0_off2 (grid0.coords t) = ![(Ring.sl 2 t.val).val, 0] := by decide +kernel
@[sl_canon] theorem canon2 (t : Fin grid0.N) (h : k0_cond2 (grid0.coords t) = 1#1) :
    (cc0_scratch3.slice (Rect.unit (s := S2x1) (k0_off2 (grid0.coords t)) S1x1.size (k0_off2_inb (grid0.coords t) h))).squeeze S_ squeezes_S1x1_S_ = cellA (Ring.sl 2 t.val) :=
  cell_at (coff2 t) _ _
set_option synthInstance.maxSize 4096 in
theorem coff3 : ∀ t : Fin grid0.N, k0_off3 (grid0.coords t) = ![(Ring.sl 2 t.val).val, 0, 0, 0] := by decide +kernel
@[sl_canon] theorem canon3 (t : Fin grid0.N) (h : k0_cond2 (grid0.coords t) = 1#1) :
    (stg.slice (Rect.unit (s := S2x1x128x4096) (k0_off3 (grid0.coords t)) S1x1x128x4096.size (k0_off3_inb (grid0.coords t) h)) (fun _ => rfl)).squeeze S128x4096 squeezes_S1x1x128x4096_S128x4096 = rpart (Ring.sl 2 t.val) :=
  part_at (coff3 t) _ _
set_option synthInstance.maxSize 4096 in
theorem coff4 : ∀ t : Fin grid0.N, k0_off4 (grid0.coords t) = ![0, 1024 * ((t.val + 8) / 8 % 12) + 128 * ((t.val + 8) % 8), 0] := by decide +kernel
@[sl_canon] theorem canon4 (t : Fin grid0.N) (h : k0_cond2 (grid0.coords t) = 1#1) :
    (wM.slice (Rect.unit (s := S1x12320x4096) (k0_off4 (grid0.coords t)) S1x128x4096.size (k0_off4_inb (grid0.coords t) h)) (fun _ => rfl)).squeeze S128x4096 squeezes_S1x128x4096_S128x4096 = srcB (t.val + 8) :=
  slab_at (coff4 t) _ _
set_option synthInstance.maxSize 4096 in
theorem coff5 : ∀ t : Fin grid0.N, k0_off5 (grid0.coords t) = ![(Ring.sl 2 (t.val + 1)).val, 0] := by decide +kernel
@[sl_canon] theorem canon5 (t : Fin grid0.N) (h : k0_cond2 (grid0.coords t) = 1#1) :
    (cc0_scratch3.slice (Rect.unit (s := S2x1) (k0_off5 (grid0.coords t)) S1x1.size (k0_off5_inb (grid0.coords t) h))).squeeze S_ squeezes_S1x1_S_ = cellA (Ring.sl 2 (t.val + 1)) :=
  cell_at (coff5 t) _ _
set_option synthInstance.maxSize 4096 in
theorem coff6 : ∀ t : Fin grid0.N, k0_off6 (grid0.coords t) = ![(Ring.sl 2 (t.val + 1)).val, 0, 0, 0] := by decide +kernel
@[sl_canon] theorem canon6 (t : Fin grid0.N) (h : k0_cond2 (grid0.coords t) = 1#1) :
    (stg.slice (Rect.unit (s := S2x1x128x4096) (k0_off6 (grid0.coords t)) S1x1x128x4096.size (k0_off6_inb (grid0.coords t) h)) (fun _ => rfl)).squeeze S128x4096 squeezes_S1x1x128x4096_S128x4096 = rpart (Ring.sl 2 (t.val + 1)) :=
  part_at (coff6 t) _ _
set_option synthInstance.maxSize 4096 in
theorem coff7 : ∀ t : Fin grid0.N, k0_off7 (grid0.coords t) = ![0, 1024 * ((t.val + 9) / 8 % 12) + 128 * ((t.val + 9) % 8), 0] := by decide +kernel
@[sl_canon] theorem canon7 (t : Fin grid0.N) (h : k0_cond2 (grid0.coords t) = 1#1) :
    (wM.slice (Rect.unit (s := S1x12320x4096) (k0_off7 (grid0.coords t)) S1x128x4096.size (k0_off7_inb (grid0.coords t) h)) (fun _ => rfl)).squeeze S128x4096 squeezes_S1x128x4096_S128x4096 = srcB (t.val + 9) :=
  slab_at (coff7 t) _ _
set_option synthInstance.maxSize 4096 in
theorem coff8 : ∀ t : Fin grid0.N, k0_off8 (grid0.coords t) = ![(Ring.sl 2 t.val).val, 0, 0, 0] := by decide +kernel
instance (priority := high) closedOff8 (t : Fin grid0.N) : ClosedOff (k0_off8 (grid0.coords t)) := ⟨![(Ring.sl 2 t.val).val, 0, 0, 0], coff8 t⟩
set_option synthInstance.maxSize 4096 in
theorem coff9 : ∀ t : Fin grid0.N, k0_off9 (grid0.coords t) = ![128 * (t.val % 8), 0] := by decide +kernel
set_option synthInstance.maxSize 4096 in
theorem coff10 : ∀ t : Fin grid0.N, k0_off10 (grid0.coords t) = ![(Ring.sl 2 t.val).val, 0] := by decide +kernel
@[sl_canon] theorem canon10 (t : Fin grid0.N) (h : k0_cond3 (grid0.coords t) = 1#1) :
    (cc0_scratch3.slice (Rect.unit (s := S2x1) (k0_off10 (grid0.coords t)) S1x1.size (k0_off10_inb (grid0.coords t) h))).squeeze S_ squeezes_S1x1_S_ = cellA (Ring.sl 2 t.val) :=
  cell_at (coff10 t) _ _
set_option synthInstance.maxSize 4096 in
theorem coff11 : ∀ t : Fin grid0.N, k0_off11 (grid0.coords t) = ![(Ring.sl 2 t.val).val, 0, 0, 0] := by decide +kernel
@[sl_canon] theorem canon11 (t : Fin grid0.N) (h : k0_cond3 (grid0.coords t) = 1#1) :
    (stg.slice (Rect.unit (s := S2x1x128x4096) (k0_off11 (grid0.coords t)) S1x1x128x4096.size (k0_off11_inb (grid0.coords t) h)) (fun _ => rfl)).squeeze S128x4096 squeezes_S1x1x128x4096_S128x4096 = rpart (Ring.sl 2 t.val) :=
  part_at (coff11 t) _ _
set_option synthInstance.maxSize 4096 in
theorem coff12 : ∀ t : Fin grid0.N, k0_off12 (grid0.coords t) = ![0, 1024 * ((t.val + 8) / 8 % 12) + 128 * ((t.val + 8) % 8), 0] := by decide +kernel
@[sl_canon] theorem canon12 (t : Fin grid0.N) (h : k0_cond3 (grid0.coords t) = 1#1) :
    (wM.slice (Rect.unit (s := S1x12320x4096) (k0_off12 (grid0.coords t)) S1x128x4096.size (k0_off12_inb (grid0.coords t) h)) (fun _ => rfl)).squeeze S128x4096 squeezes_S1x128x4096_S128x4096 = srcB (t.val + 8) :=
  slab_at (coff12 t) _ _
set_option synthInstance.maxSize 4096 in
theorem coff13 : ∀ t : Fin grid0.N, k0_off13 (grid0.coords t) = ![(Ring.sl 2 (t.val + 1)).val, 0] := by decide +kernel
@[sl_canon] theorem canon13 (t : Fin grid0.N) (h : k0_cond3 (grid0.coords t) = 1#1) :
    (cc0_scratch3.slice (Rect.unit (s := S2x1) (k0_off13 (grid0.coords t)) S1x1.size (k0_off13_inb (grid0.coords t) h))).squeeze S_ squeezes_S1x1_S_ = cellA (Ring.sl 2 (t.val + 1)) :=
  cell_at (coff13 t) _ _
set_option synthInstance.maxSize 4096 in
theorem coff14 : ∀ t : Fin grid0.N, k0_off14 (grid0.coords t) = ![(Ring.sl 2 (t.val + 1)).val, 0, 0, 0] := by decide +kernel
@[sl_canon] theorem canon14 (t : Fin grid0.N) (h : k0_cond3 (grid0.coords t) = 1#1) :
    (stg.slice (Rect.unit (s := S2x1x128x4096) (k0_off14 (grid0.coords t)) S1x1x128x4096.size (k0_off14_inb (grid0.coords t) h)) (fun _ => rfl)).squeeze S128x4096 squeezes_S1x1x128x4096_S128x4096 = rpart (Ring.sl 2 (t.val + 1)) :=
  part_at (coff14 t) _ _
set_option synthInstance.maxSize 4096 in
theorem coff15 : ∀ t : Fin grid0.N, k0_off15 (grid0.coords t) = ![0, 1024 * ((t.val + 9) / 8 % 12) + 128 * ((t.val + 9) % 8), 0] := by decide +kernel
@[sl_canon] theorem canon15 (t : Fin grid0.N) (h : k0_cond3 (grid0.coords t) = 1#1) :
    (wM.slice (Rect.unit (s := S1x12320x4096) (k0_off15 (grid0.coords t)) S1x128x4096.size (k0_off15_inb (grid0.coords t) h)) (fun _ => rfl)).squeeze S128x4096 squeezes_S1x128x4096_S128x4096 = srcB (t.val + 9) :=
  slab_at (coff15 t) _ _
set_option synthInstance.maxSize 4096 in
theorem coff16 : ∀ t : Fin grid0.N, k0_off16 (grid0.coords t) = ![(Ring.sl 2 t.val).val, 0, 0, 0] := by decide +kernel
instance (priority := high) closedOff16 (t : Fin grid0.N) : ClosedOff (k0_off16 (grid0.coords t)) := ⟨![(Ring.sl 2 t.val).val, 0, 0, 0], coff16 t⟩
set_option synthInstance.maxSize 4096 in
theorem coff17 : ∀ t : Fin grid0.N, k0_off17 (grid0.coords t) = ![128 * (t.val % 8), 0] := by decide +kernel
set_option synthInstance.maxSize 4096 in
theorem coff18 : ∀ t : Fin grid0.N, k0_off18 (grid0.coords t) = ![(Ring.sl 2 (t.val + 1)).val, 0] := by decide +kernel
@[sl_canon] theorem canon18 (t : Fin grid0.N) (h : k0_cond4 (grid0.coords t) = 1#1) :
    (cc0_scratch3.slice (Rect.unit (s := S2x1) (k0_off18 (grid0.coords t)) S1x1.size (k0_off18_inb (grid0.coords t) h))).squeeze S_ squeezes_S1x1_S_ = cellA (Ring.sl 2 (t.val + 1)) :=
  cell_at (coff18 t) _ _
set_option synthInstance.maxSize 4096 in
theorem coff19 : ∀ t : Fin grid0.N, k0_off19 (grid0.coords t) = ![(Ring.sl 2 (t.val + 1)).val, 0, 0, 0] := by decide +kernel
@[sl_canon] theorem canon19 (t : Fin grid0.N) (h : k0_cond4 (grid0.coords t) = 1#1) :
    (stg.slice (Rect.unit (s := S2x1x128x4096) (k0_off19 (grid0.coords t)) S1x1x128x4096.size (k0_off19_inb (grid0.coords t) h)) (fun _ => rfl)).squeeze S128x4096 squeezes_S1x1x128x4096_S128x4096 = rpart (Ring.sl 2 (t.val + 1)) :=
  part_at (coff19 t) _ _
set_option synthInstance.maxSize 4096 in
theorem coff20 : ∀ t : Fin grid0.N, k0_off20 (grid0.coords t) = ![0, 1024 * ((t.val + 9) / 8 % 12) + 128 * ((t.val + 9) % 8), 0] := by decide +kernel
@[sl_canon] theorem canon20 (t : Fin grid0.N) (h : k0_cond4 (grid0.coords t) = 1#1) :
    (wM.slice (Rect.unit (s := S1x12320x4096) (k0_off20 (grid0.coords t)) S1x128x4096.size (k0_off20_inb (grid0.coords t) h)) (fun _ => rfl)).squeeze S128x4096 squeezes_S1x128x4096_S128x4096 = srcB (t.val + 9) :=
  slab_at (coff20 t) _ _

/-! ## The first point's operands, at literal offsets -/

@[sl_canon] theorem canonS0 :
    (stg.slice (Rect.unit (s := S2x1x128x4096) ![0, 0, 0, 0] S1x1x128x4096.size inb_S2x1x128x4096_S1x1x128x4096_0_0_0_0) (fun _ => rfl)).squeeze S128x4096 squeezes_S1x1x128x4096_S128x4096 = rpart 0 := rfl
@[sl_canon] theorem canonC0 :
    (cc0_scratch3.slice (Rect.unit (s := S2x1) ![0, 0] S1x1.size inb_S2x1_S1x1_0_0)).squeeze S_ squeezes_S1x1_S_ = cellA 0 := rfl
@[sl_canon] theorem canonS1 :
    (stg.slice (Rect.unit (s := S2x1x128x4096) ![1, 0, 0, 0] S1x1x128x4096.size inb_S2x1x128x4096_S1x1x128x4096_1_0_0_0) (fun _ => rfl)).squeeze S128x4096 squeezes_S1x1x128x4096_S128x4096 = rpart 1 := rfl
@[sl_canon] theorem canonC1 :
    (cc0_scratch3.slice (Rect.unit (s := S2x1) ![1, 0] S1x1.size inb_S2x1_S1x1_1_0)).squeeze S_ squeezes_S1x1_S_ = cellA 1 := rfl
theorem coffB0 : k0_off1 0#32 0#32 = ![0, 1024 * (0 / 8 % 12) + 128 * (0 % 8), 0] := by decide +kernel
@[sl_canon] theorem canonB0 (t : Fin grid0.N) (h : k0_cond1 (grid0.coords t) = 1#1) :
    (wM.slice (Rect.unit (s := S1x12320x4096) (k0_off1 0#32 0#32) S1x128x4096.size (k0_off1_inb (grid0.coords t) h 0)) (fun _ => rfl)).squeeze S128x4096 squeezes_S1x128x4096_S128x4096 = srcB 0 :=
  slab_at coffB0 _ _
theorem coffB1 : k0_off1 1#32 1#32 = ![0, 1024 * (1 / 8 % 12) + 128 * (1 % 8), 0] := by decide +kernel
@[sl_canon] theorem canonB1 (t : Fin grid0.N) (h : k0_cond1 (grid0.coords t) = 1#1) :
    (wM.slice (Rect.unit (s := S1x12320x4096) (k0_off1 1#32 1#32) S1x128x4096.size (k0_off1_inb (grid0.coords t) h 1)) (fun _ => rfl)).squeeze S128x4096 squeezes_S1x128x4096_S128x4096 = srcB 1 :=
  slab_at coffB1 _ _
theorem coffB2 : k0_off1 2#32 2#32 = ![0, 1024 * (2 / 8 % 12) + 128 * (2 % 8), 0] := by decide +kernel
@[sl_canon] theorem canonB2 (t : Fin grid0.N) (h : k0_cond1 (grid0.coords t) = 1#1) :
    (wM.slice (Rect.unit (s := S1x12320x4096) (k0_off1 2#32 2#32) S1x128x4096.size (k0_off1_inb (grid0.coords t) h 2)) (fun _ => rfl)).squeeze S128x4096 squeezes_S1x128x4096_S128x4096 = srcB 2 :=
  slab_at coffB2 _ _
theorem coffB3 : k0_off1 3#32 3#32 = ![0, 1024 * (3 / 8 % 12) + 128 * (3 % 8), 0] := by decide +kernel
@[sl_canon] theorem canonB3 (t : Fin grid0.N) (h : k0_cond1 (grid0.coords t) = 1#1) :
    (wM.slice (Rect.unit (s := S1x12320x4096) (k0_off1 3#32 3#32) S1x128x4096.size (k0_off1_inb (grid0.coords t) h 3)) (fun _ => rfl)).squeeze S128x4096 squeezes_S1x128x4096_S128x4096 = srcB 3 :=
  slab_at coffB3 _ _
theorem coffB4 : k0_off1 4#32 4#32 = ![0, 1024 * (4 / 8 % 12) + 128 * (4 % 8), 0] := by decide +kernel
@[sl_canon] theorem canonB4 (t : Fin grid0.N) (h : k0_cond1 (grid0.coords t) = 1#1) :
    (wM.slice (Rect.unit (s := S1x12320x4096) (k0_off1 4#32 4#32) S1x128x4096.size (k0_off1_inb (grid0.coords t) h 4)) (fun _ => rfl)).squeeze S128x4096 squeezes_S1x128x4096_S128x4096 = srcB 4 :=
  slab_at coffB4 _ _
theorem coffB5 : k0_off1 5#32 5#32 = ![0, 1024 * (5 / 8 % 12) + 128 * (5 % 8), 0] := by decide +kernel
@[sl_canon] theorem canonB5 (t : Fin grid0.N) (h : k0_cond1 (grid0.coords t) = 1#1) :
    (wM.slice (Rect.unit (s := S1x12320x4096) (k0_off1 5#32 5#32) S1x128x4096.size (k0_off1_inb (grid0.coords t) h 5)) (fun _ => rfl)).squeeze S128x4096 squeezes_S1x128x4096_S128x4096 = srcB 5 :=
  slab_at coffB5 _ _
theorem coffB6 : k0_off1 6#32 6#32 = ![0, 1024 * (6 / 8 % 12) + 128 * (6 % 8), 0] := by decide +kernel
@[sl_canon] theorem canonB6 (t : Fin grid0.N) (h : k0_cond1 (grid0.coords t) = 1#1) :
    (wM.slice (Rect.unit (s := S1x12320x4096) (k0_off1 6#32 6#32) S1x128x4096.size (k0_off1_inb (grid0.coords t) h 6)) (fun _ => rfl)).squeeze S128x4096 squeezes_S1x128x4096_S128x4096 = srcB 6 :=
  slab_at coffB6 _ _
theorem coffB7 : k0_off1 7#32 7#32 = ![0, 1024 * (7 / 8 % 12) + 128 * (7 % 8), 0] := by decide +kernel
@[sl_canon] theorem canonB7 (t : Fin grid0.N) (h : k0_cond1 (grid0.coords t) = 1#1) :
    (wM.slice (Rect.unit (s := S1x12320x4096) (k0_off1 7#32 7#32) S1x128x4096.size (k0_off1_inb (grid0.coords t) h 7)) (fun _ => rfl)).squeeze S128x4096 squeezes_S1x128x4096_S128x4096 = srcB 7 :=
  slab_at coffB7 _ _
theorem coffB8 : k0_off1 8#32 8#32 = ![0, 1024 * (8 / 8 % 12) + 128 * (8 % 8), 0] := by decide +kernel
@[sl_canon] theorem canonB8 (t : Fin grid0.N) (h : k0_cond1 (grid0.coords t) = 1#1) :
    (wM.slice (Rect.unit (s := S1x12320x4096) (k0_off1 8#32 8#32) S1x128x4096.size (k0_off1_inb (grid0.coords t) h 8)) (fun _ => rfl)).squeeze S128x4096 squeezes_S1x128x4096_S128x4096 = srcB 8 :=
  slab_at coffB8 _ _
end Canon

/-- A copy lent for one slab, once back, is lent for another. -/
theorem src_swap (c : Dev nD) (W : HbBuf (F := F) c wM) (s : Fin 2) (b b' : ℕ) :
    iprop(srcP c W s b ∗ restP c W s b) ⊢ iprop(srcP c W s b' ∗ restP c W s b') :=
  (src_split c W s b).2.trans (src_split c W s b').1

end Cert.Kernel2Ideal.Own

end
-- ==== Proof.Spec2.lean ====
module

public import proofs.«01_k».proof.Proof.Ring2
public import Idealize.ShloMosaic.Lib.ValueLayout
public import Idealize.ShloMosaic.Lib.WritesUnit
public import Idealize.ShloMosaic.Lib.VecWindow
public import Idealize.ShloMosaic.Lib.Pipeline.Value
public import Idealize.ShloMosaic.Lib.Tactic.Stretches

@[expose] public section

set_option maxRecDepth 16384

noncomputable section

namespace Cert.Kernel2Ideal.Own

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## What the buffers hold -/

/-- The index of the weights' element at row `y 0` and column `y 1` of block `jj`. -/
def wIdx (jj : ℕ) (y : S1024x4096.Idx) : S1x12320x4096.Idx :=
  ix3 (⟨0, Nat.one_pos⟩ : Fin 1) ⟨1024 * (jj % 12) + (y 0).val, by
      have h := (y 0).isLt; have : S1024x4096.size 0 = 1024 := rfl; have := Nat.mod_lt jj (by decide : 0 < 12); omega⟩
    ⟨(y 1).val, by
      have h := (y 1).isLt; have : S1024x4096.size 1 = 4096 := rfl; have := Nat.mod_lt jj (by decide : 0 < 12); omega⟩

section Spec
variable (c : Dev nD) (W : HbBuf (F := F) c wM)

/-- Block `jj` of the weights, narrowed. -/
def wcols (jj : ℕ) : Vec F S1024x4096 .bf16 := fun y => FloatOps.truncf .bf16 bitsLt_bf16_f32 (W (wIdx jj y))

/-- The contents after slab `b` is put in: its rows are those of its block. -/
def castIn (b : ℕ) (D : Vec F S1024x4096 .bf16) : Vec F S1024x4096 .bf16 :=
  fun y => if 128 * (b % 8) ≤ (y 0).val ∧ (y 0).val < 128 * (b % 8) + 128 then wcols c W (b / 8) y else D y

/-- The output block of a point. -/
def outV (x : Vec F S1024x4096 .bf16) (C : Vec F S1024x4096 .bf16) : Vec F S1024x1024 .f32 := k0_pay3 x C

theorem src_read (b : ℕ) (x : S128x4096.Idx) (hi) :
    (srcB b).view.read (Elt F) W x
      = W (wIdx (b / 8) ((Rect.unit (s := S1024x4096) ![128 * (b % 8), 0] S128x4096.size hi).emb x)) := by
  show W ((srcB b).view.emb x) = _
  refine congrArg W ?_
  show (Rect.unit (s := S1x12320x4096) ![0, 1024 * (b / 8 % 12) + 128 * (b % 8), 0] S1x128x4096.size (inb_src b)).emb (Shape.reshapeEquiv _ x) = _
  conv_lhs => rw [eq_ix2 x]
  erw [reshapeEquiv_ix2_1ab]
  funext a
  apply Fin.ext
  fin_cases a
  · show 0 + 1 * 0 = 0
    omega
  · show 1024 * (b / 8 % 12) + 128 * (b % 8) + 1 * (x 0).val = 1024 * (b / 8 % 12) + (128 * (b % 8) + 1 * (x 0).val)
    omega
  · show 0 + 1 * (x 1).val = 0 + 1 * (x 1).val
    rfl

/-- A landed slab, read back and narrowed, is its rows of its block. -/
theorem cast_piece (s : Fin 2) (b : ℕ) (f : HbBuf (F := F) c (rpart s)) (L) (off : Fin 4 → ℕ) (inb) (hoff : off = ![s.val, 0, 0, 0]) (hc) (x : S128x4096.Idx) (hi) :
    truncf .bf16 (shapeCast S128x4096 (View.readAt (Elt F) stg.view (Rect.unit (s := S2x1x128x4096) off S1x1x128x4096.size inb).toLoadRect
      ((rpart s).view.writes (Elt F) f (⟨Rect.whole S128x4096, ReadAs.same.apply ((srcB b).view.read (Elt F) W)⟩ :: L))) hc) bitsLt_bf16_f32 x
      = wcols c W (b / 8) ((Rect.unit (s := S1024x4096) ![128 * (b % 8), 0] S128x4096.size hi).emb x) := by
  subst hoff
  show FloatOps.truncf .bf16 bitsLt_bf16_f32 ((rpart s).view.read (Elt F) ((rpart s).view.writes (Elt F) ((rpart s).view.writes (Elt F) f L) [⟨Rect.whole S128x4096, ReadAs.same.apply ((srcB b).view.read (Elt F) W)⟩]) x) = FloatOps.truncf .bf16 bitsLt_bf16_f32 _
  refine congrArg _ ?_
  exact (congrFun (View.read_writes_whole ..) x).trans (src_read c W b x hi)

end Spec

theorem mem_cast (r : ℕ) (inb) (y : S1024x4096.Idx) (h : r ≤ (y 0).val ∧ (y 0).val < r + 128) :
    y ∈ (Rect.unit (s := S1024x4096) ![r, 0] S128x4096.size inb).set :=
  Rect.mem_set_unit.mpr (Fin.forall_fin_two.2 ⟨h, Nat.zero_le _, by have g : (y 1).val < 4096 := (y 1).isLt; show (y 1).val < 0 + 4096; omega⟩)

theorem of_mem_cast (r : ℕ) (inb) (y : S1024x4096.Idx) (h : y ∈ (Rect.unit (s := S1024x4096) ![r, 0] S128x4096.size inb).set) :
    r ≤ (y 0).val ∧ (y 0).val < r + 128 := Rect.mem_set_unit.mp h 0

section Pieces
variable (M : Memref sig .tc .vmem S1024x4096 .bf16) (f : M.view.ty.Contents (Elt F)) (G : Vec F S1024x4096 .bf16)

theorem read_cast1 (r : ℕ) (o : Fin 2 → ℕ) (i) (p : Vec F S128x4096 .bf16) (h0 : o = ![r, 0])
    (e : ∀ x hi, p x = G ((Rect.unit (s := S1024x4096) ![r, 0] S128x4096.size hi).emb x)) (L : List (View.Piece (Elt F) S1024x4096 .bf16)) (y : S1024x4096.Idx) :
    M.view.read (Elt F) (M.view.writes (Elt F) f (⟨Rect.unit (s := S1024x4096) o S128x4096.size i, p⟩ :: L)) y
      = if r ≤ (y 0).val ∧ (y 0).val < r + 128 then G y else M.view.read (Elt F) (M.view.writes (Elt F) f L) y := by
  subst h0
  have key : M.view.writes (Elt F) f (⟨Rect.unit (s := S1024x4096) ![r, 0] S128x4096.size i, p⟩ :: L)
      = M.view.writes (Elt F) (M.view.writes (Elt F) f L) [⟨Rect.unit (s := S1024x4096) ![r, 0] S128x4096.size i, p⟩] := rfl
  rw [key]
  split
  case isTrue h =>
    refine View.read_writes_apply_of_pieces M.view _ G _ ?_ y ?_
    · intro q hq x
      simp only [List.mem_cons, List.not_mem_nil, _root_.or_false] at hq
      subst hq
      exact e x i
    · exact ⟨⟨Rect.unit (s := S1024x4096) ![r, 0] S128x4096.size i, p⟩, by simp, mem_cast r i y h⟩
  case isFalse h =>
    refine View.read_writes_apply_of_forall_not_mem M.view _ y _ ?_
    intro q hq hm
    simp only [List.mem_cons, List.not_mem_nil, _root_.or_false] at hq
    subst hq
    exact h (of_mem_cast r i y hm)
end Pieces

/-! ## The casts' payloads -/

section Pay
theorem pe2 (v : Vec F S1x1x128x4096 .f32) : k0_pay2 v = truncf .bf16 (shapeCast S128x4096 v shapeCasts_S1x1x128x4096_S128x4096) bitsLt_bf16_f32 := shapeCast_self _ _
theorem pe4 (v : Vec F S1x1x128x4096 .f32) : k0_pay4 v = truncf .bf16 (shapeCast S128x4096 v shapeCasts_S1x1x128x4096_S128x4096) bitsLt_bf16_f32 := shapeCast_self _ _
theorem pe6 (v : Vec F S1x1x128x4096 .f32) : k0_pay6 v = truncf .bf16 (shapeCast S128x4096 v shapeCasts_S1x1x128x4096_S128x4096) bitsLt_bf16_f32 := shapeCast_self _ _
theorem pe7 (v : Vec F S1x1x128x4096 .f32) : k0_pay7 v = truncf .bf16 (shapeCast S128x4096 v shapeCasts_S1x1x128x4096_S128x4096) bitsLt_bf16_f32 := shapeCast_self _ _
theorem pe8 (v : Vec F S1x1x128x4096 .f32) : k0_pay8 v = truncf .bf16 (shapeCast S128x4096 v shapeCasts_S1x1x128x4096_S128x4096) bitsLt_bf16_f32 := shapeCast_self _ _
theorem pe9 (v : Vec F S1x1x128x4096 .f32) : k0_pay9 v = truncf .bf16 (shapeCast S128x4096 v shapeCasts_S1x1x128x4096_S128x4096) bitsLt_bf16_f32 := shapeCast_self _ _
theorem pe10 (v : Vec F S1x1x128x4096 .f32) : k0_pay10 v = truncf .bf16 (shapeCast S128x4096 v shapeCasts_S1x1x128x4096_S128x4096) bitsLt_bf16_f32 := shapeCast_self _ _
theorem pe11 (v : Vec F S1x1x128x4096 .f32) : k0_pay11 v = truncf .bf16 (shapeCast S128x4096 v shapeCasts_S1x1x128x4096_S128x4096) bitsLt_bf16_f32 := shapeCast_self _ _
theorem pe12 (v : Vec F S1x1x128x4096 .f32) : k0_pay12 v = truncf .bf16 (shapeCast S128x4096 v shapeCasts_S1x1x128x4096_S128x4096) bitsLt_bf16_f32 := shapeCast_self _ _
theorem pe1 (v : Vec F S1x1x128x4096 .f32) : k0_pay1 (k0_pay13 v) = truncf .bf16 (shapeCast S128x4096 v shapeCasts_S1x1x128x4096_S128x4096) bitsLt_bf16_f32 := shapeCast_self _ _
end Pay

section Whole
theorem ld_arg2 {arg2 : Memref sig .tc .vmem S1024x4096 .bf16} (h : arg2.IsWhole) (x : Vec F S1024x4096 .bf16) (inb) :
    View.readAt (Elt F) arg2.view (Rect.unit (s := S1024x4096) ![0, 0] S1024x4096.size inb).toLoadRect (h.unread x) = x :=
  (View.readAt_full _ _ _).trans (h.read_unread x)
variable (c : Dev nD) (W : HbBuf (F := F) c wM)

theorem wread0 (g : HbBuf (F := F) c wbf0) : wbf0.view.read (Elt F) g = g := rfl
/-- Slab `b`, written into buffer 0. -/
theorem writes_castIn0 (b : ℕ) (D : HbBuf (F := F) c wbf0) (o : Fin 2 → ℕ) (i) (p : Vec F S128x4096 .bf16) (v : Vec F S1x1x128x4096 .f32)
    (h0 : o = ![128 * (b % 8), 0])
    (q : p = truncf .bf16 (shapeCast S128x4096 v shapeCasts_S1x1x128x4096_S128x4096) bitsLt_bf16_f32)
    (e : ∀ x hi, truncf .bf16 (shapeCast S128x4096 v shapeCasts_S1x1x128x4096_S128x4096) bitsLt_bf16_f32 x = wcols c W (b / 8) ((Rect.unit (s := S1024x4096) ![128 * (b % 8), 0] S128x4096.size hi).emb x)) :
    wbf0.view.writes (Elt F) D [⟨Rect.unit (s := S1024x4096) o S128x4096.size i, p⟩] = castIn c W b D := by
  funext y
  have h := read_cast1 wbf0 D (wcols c W (b / 8)) (128 * (b % 8)) o i p h0 (fun x hi => (congrFun q x).trans (e x hi)) [] y
  rw [View.writes_nil] at h
  refine (congrFun (wread0 c _) y).symm.trans (h.trans ?_)
  unfold castIn
  rw [wread0]

theorem wread1 (g : HbBuf (F := F) c wbf1) : wbf1.view.read (Elt F) g = g := rfl
/-- Slab `b`, written into buffer 1. -/
theorem writes_castIn1 (b : ℕ) (D : HbBuf (F := F) c wbf1) (o : Fin 2 → ℕ) (i) (p : Vec F S128x4096 .bf16) (v : Vec F S1x1x128x4096 .f32)
    (h0 : o = ![128 * (b % 8), 0])
    (q : p = truncf .bf16 (shapeCast S128x4096 v shapeCasts_S1x1x128x4096_S128x4096) bitsLt_bf16_f32)
    (e : ∀ x hi, truncf .bf16 (shapeCast S128x4096 v shapeCasts_S1x1x128x4096_S128x4096) bitsLt_bf16_f32 x = wcols c W (b / 8) ((Rect.unit (s := S1024x4096) ![128 * (b % 8), 0] S128x4096.size hi).emb x)) :
    wbf1.view.writes (Elt F) D [⟨Rect.unit (s := S1024x4096) o S128x4096.size i, p⟩] = castIn c W b D := by
  funext y
  have h := read_cast1 wbf1 D (wcols c W (b / 8)) (128 * (b % 8)) o i p h0 (fun x hi => (congrFun q x).trans (e x hi)) [] y
  rw [View.writes_nil] at h
  refine (congrFun (wread1 c _) y).symm.trans (h.trans ?_)
  unfold castIn
  rw [wread1]

theorem outV_of {x' x : Vec F S1024x4096 .bf16} {C' C : Vec F S1024x4096 .bf16} (hx : x' = x) (hC : C' = C) :
    k0_pay3 x' C' = outV x C := by subst hx hC; rfl
theorem outV_of' {x' x : Vec F S1024x4096 .bf16} {C' C : Vec F S1024x4096 .bf16} (hx : x' = x) (hC : C' = C) :
    k0_pay5 x' C' = outV x C := by subst hx hC; rfl

theorem hbPt_congr {sp : Space} {S : Shape} {e : EltTy} (M : Memref sig .tc sp S e) {f g : HbBuf (F := F) c M} (h : f = g) :
    hbPt (F := F) c M f ⊢ hbPt (F := F) c M g := by subst h; exact .rfl

theorem free_mk (s : Fin 2) (b : ℕ) (f : HbBuf (F := F) c (rpart s)) :
    iprop(cellP (F := F) c s ∗ partP c s f ∗ srcP c W s b ∗ restP c W s b) ⊢ free c W s := by
  unfold free
  iintro ⟨Hc, Hp, Hs, Hr⟩
  isplitl [Hc]; · iexact Hc
  isplitl [Hp]; · iexists f; iexact Hp
  iapply (src_split c W s b).2
  isplitl [Hs]; · iexact Hs
  iexact Hr

theorem infl_mk (s : Fin 2) (b : ℕ) (f : HbBuf (F := F) c (rpart s)) :
    iprop(flightP c W s b f ∗ restP c W s b) ⊢ infl c W s b := by
  unfold infl
  iintro ⟨Hf, Hr⟩
  iexists f
  isplitl [Hf]; · iexact Hf
  iexact Hr

theorem infl_mk' (s : Fin 2) (b : ℕ) (f : HbBuf (F := F) c (rpart s)) (L) :
    iprop(Transfers.Flight countersEmb (c : Thread nD τ) (cellR s) default ((rpart s).view.amount (cellR s))
      iprop(partP c s ((rpart s).view.writes (Elt F) f (⟨Rect.whole S128x4096, ReadAs.same.apply ((srcB b).view.read (Elt F) W)⟩ :: L)) ∗ srcP c W s b) ∗ restP c W s b) ⊢ infl c W s b :=
  infl_mk c W s b ((rpart s).view.writes (Elt F) f L)

theorem infl_first {t : Fin cfg0.N} (ht : t.val = 0) : infl c W 0 8 ⊢ infl c W (Ring.sl 2 t.val) (t.val + 8) := by rw [ht]; exact .rfl
theorem free_first {t : Fin cfg0.N} (ht : t.val = 0) : free c W 1 ⊢ free c W (Ring.sl 2 (t.val + 1)) := by rw [ht]; exact .rfl

/-- The first eight slabs fill a buffer with the first block. -/
theorem writes_pro (C : HbBuf (F := F) c wbf0) (i0 i1 i2 i3 i4 i5 i6 i7) (p0 p1 p2 p3 p4 p5 p6 p7 : Vec F S128x4096 .bf16) (v0 v1 v2 v3 v4 v5 v6 v7 : Vec F S1x1x128x4096 .f32)
    (q0 : p0 = truncf .bf16 (shapeCast S128x4096 v0 shapeCasts_S1x1x128x4096_S128x4096) bitsLt_bf16_f32)
    (e0 : ∀ x hi, truncf .bf16 (shapeCast S128x4096 v0 shapeCasts_S1x1x128x4096_S128x4096) bitsLt_bf16_f32 x = wcols c W (0 / 8) ((Rect.unit (s := S1024x4096) ![128 * (0 % 8), 0] S128x4096.size hi).emb x))
    (q1 : p1 = truncf .bf16 (shapeCast S128x4096 v1 shapeCasts_S1x1x128x4096_S128x4096) bitsLt_bf16_f32)
    (e1 : ∀ x hi, truncf .bf16 (shapeCast S128x4096 v1 shapeCasts_S1x1x128x4096_S128x4096) bitsLt_bf16_f32 x = wcols c W (1 / 8) ((Rect.unit (s := S1024x4096) ![128 * (1 % 8), 0] S128x4096.size hi).emb x))
    (q2 : p2 = truncf .bf16 (shapeCast S128x4096 v2 shapeCasts_S1x1x128x4096_S128x4096) bitsLt_bf16_f32)
    (e2 : ∀ x hi, truncf .bf16 (shapeCast S128x4096 v2 shapeCasts_S1x1x128x4096_S128x4096) bitsLt_bf16_f32 x = wcols c W (2 / 8) ((Rect.unit (s := S1024x4096) ![128 * (2 % 8), 0] S128x4096.size hi).emb x))
    (q3 : p3 = truncf .bf16 (shapeCast S128x4096 v3 shapeCasts_S1x1x128x4096_S128x4096) bitsLt_bf16_f32)
    (e3 : ∀ x hi, truncf .bf16 (shapeCast S128x4096 v3 shapeCasts_S1x1x128x4096_S128x4096) bitsLt_bf16_f32 x = wcols c W (3 / 8) ((Rect.unit (s := S1024x4096) ![128 * (3 % 8), 0] S128x4096.size hi).emb x))
    (q4 : p4 = truncf .bf16 (shapeCast S128x4096 v4 shapeCasts_S1x1x128x4096_S128x4096) bitsLt_bf16_f32)
    (e4 : ∀ x hi, truncf .bf16 (shapeCast S128x4096 v4 shapeCasts_S1x1x128x4096_S128x4096) bitsLt_bf16_f32 x = wcols c W (4 / 8) ((Rect.unit (s := S1024x4096) ![128 * (4 % 8), 0] S128x4096.size hi).emb x))
    (q5 : p5 = truncf .bf16 (shapeCast S128x4096 v5 shapeCasts_S1x1x128x4096_S128x4096) bitsLt_bf16_f32)
    (e5 : ∀ x hi, truncf .bf16 (shapeCast S128x4096 v5 shapeCasts_S1x1x128x4096_S128x4096) bitsLt_bf16_f32 x = wcols c W (5 / 8) ((Rect.unit (s := S1024x4096) ![128 * (5 % 8), 0] S128x4096.size hi).emb x))
    (q6 : p6 = truncf .bf16 (shapeCast S128x4096 v6 shapeCasts_S1x1x128x4096_S128x4096) bitsLt_bf16_f32)
    (e6 : ∀ x hi, truncf .bf16 (shapeCast S128x4096 v6 shapeCasts_S1x1x128x4096_S128x4096) bitsLt_bf16_f32 x = wcols c W (6 / 8) ((Rect.unit (s := S1024x4096) ![128 * (6 % 8), 0] S128x4096.size hi).emb x))
    (q7 : p7 = truncf .bf16 (shapeCast S128x4096 v7 shapeCasts_S1x1x128x4096_S128x4096) bitsLt_bf16_f32)
    (e7 : ∀ x hi, truncf .bf16 (shapeCast S128x4096 v7 shapeCasts_S1x1x128x4096_S128x4096) bitsLt_bf16_f32 x = wcols c W (7 / 8) ((Rect.unit (s := S1024x4096) ![128 * (7 % 8), 0] S128x4096.size hi).emb x))
    : wbf0.view.writes (Elt F) C [⟨Rect.unit (s := S1024x4096) ![896, 0] S128x4096.size i7, p7⟩, ⟨Rect.unit (s := S1024x4096) ![768, 0] S128x4096.size i6, p6⟩, ⟨Rect.unit (s := S1024x4096) ![640, 0] S128x4096.size i5, p5⟩, ⟨Rect.unit (s := S1024x4096) ![512, 0] S128x4096.size i4, p4⟩, ⟨Rect.unit (s := S1024x4096) ![384, 0] S128x4096.size i3, p3⟩, ⟨Rect.unit (s := S1024x4096) ![256, 0] S128x4096.size i2, p2⟩, ⟨Rect.unit (s := S1024x4096) ![128, 0] S128x4096.size i1, p1⟩, ⟨Rect.unit (s := S1024x4096) ![0, 0] S128x4096.size i0, p0⟩]
      = wcols c W 0 := by
  funext y
  have hy : (y 0).val < 1024 := (y 0).isLt
  refine (congrFun (wread0 c _) y).symm.trans ?_
  refine (read_cast1 wbf0 C (wcols c W 0) 896 _ _ _ rfl (fun x hi => (congrFun q7 x).trans (e7 x hi)) _ y).trans ?_
  by_cases h7 : 896 ≤ (y 0).val ∧ (y 0).val < 896 + 128
  · exact if_pos h7
  refine (if_neg h7).trans ?_
  refine (read_cast1 wbf0 C (wcols c W 0) 768 _ _ _ rfl (fun x hi => (congrFun q6 x).trans (e6 x hi)) _ y).trans ?_
  by_cases h6 : 768 ≤ (y 0).val ∧ (y 0).val < 768 + 128
  · exact if_pos h6
  refine (if_neg h6).trans ?_
  refine (read_cast1 wbf0 C (wcols c W 0) 640 _ _ _ rfl (fun x hi => (congrFun q5 x).trans (e5 x hi)) _ y).trans ?_
  by_cases h5 : 640 ≤ (y 0).val ∧ (y 0).val < 640 + 128
  · exact if_pos h5
  refine (if_neg h5).trans ?_
  refine (read_cast1 wbf0 C (wcols c W 0) 512 _ _ _ rfl (fun x hi => (congrFun q4 x).trans (e4 x hi)) _ y).trans ?_
  by_cases h4 : 512 ≤ (y 0).val ∧ (y 0).val < 512 + 128
  · exact if_pos h4
  refine (if_neg h4).trans ?_
  refine (read_cast1 wbf0 C (wcols c W 0) 384 _ _ _ rfl (fun x hi => (congrFun q3 x).trans (e3 x hi)) _ y).trans ?_
  by_cases h3 : 384 ≤ (y 0).val ∧ (y 0).val < 384 + 128
  · exact if_pos h3
  refine (if_neg h3).trans ?_
  refine (read_cast1 wbf0 C (wcols c W 0) 256 _ _ _ rfl (fun x hi => (congrFun q2 x).trans (e2 x hi)) _ y).trans ?_
  by_cases h2 : 256 ≤ (y 0).val ∧ (y 0).val < 256 + 128
  · exact if_pos h2
  refine (if_neg h2).trans ?_
  refine (read_cast1 wbf0 C (wcols c W 0) 128 _ _ _ rfl (fun x hi => (congrFun q1 x).trans (e1 x hi)) _ y).trans ?_
  by_cases h1 : 128 ≤ (y 0).val ∧ (y 0).val < 128 + 128
  · exact if_pos h1
  refine (if_neg h1).trans ?_
  refine (read_cast1 wbf0 C (wcols c W 0) 0 _ _ _ rfl (fun x hi => (congrFun q0 x).trans (e0 x hi)) _ y).trans ?_
  by_cases h0 : 0 ≤ (y 0).val ∧ (y 0).val < 0 + 128
  · exact if_pos h0
  refine (if_neg h0).trans ?_
  omega
end Whole

end Cert.Kernel2Ideal.Own

end
-- ==== Proof.RunE2.lean ====
module

public import proofs.«01_k».proof.Proof.Spec2

@[expose] public section

set_option maxRecDepth 16384

noncomputable section

namespace Cert.Kernel2Ideal.Own

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runE (c : Dev nD) (t : Fin cfg0.N) (arg2 : Memref sig .tc .vmem S1024x4096 .bf16) (harg2 : arg2.IsWhole) (arg4 : Memref sig .tc .vmem S1024x1024 .f32) (harg4 : arg4.IsWhole)
    (hc1 : ¬k0_cond1 (grid0.coords t) = 1#1) (hc2 : k0_cond2 (grid0.coords t) = 1#1) (hc3 : ¬k0_cond3 (grid0.coords t) = 1#1) (hc4 : ¬k0_cond4 (grid0.coords t) = 1#1)
    (x : Vec F S1024x4096 .bf16) (W : HbBuf (F := F) c wM) (C : HbBuf (F := F) c wbf0) (D : HbBuf (F := F) c wbf1) (Q : sProp 𝕄)
    (hQ : iprop(owns (c : Thread nD τ) arg2 fullShare x ∗ owns (c : Thread nD τ) arg4 fullShare (outV x C)
                ∗ hbPt c wbf0 C ∗ hbPt c wbf1 (castIn c W (t.val + 8) D)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ (∃ d, owns (c : Thread nD τ) arg4 fullShare d)
            ∗ hbPt c wbf0 C ∗ hbPt c wbf1 D ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_in_proj0 (grid0.coords t) arg2 harg2 (Memref.whole main_v0) (Memref.isWhole_whole _) arg4 harg4 wbf0 (Memref.isWhole_whole _) wbf1 (Memref.isWhole_whole _) stg (Memref.isWhole_whole _) cc0_scratch3) K := by
    intro Ws K
    haveI : Fact (¬k0_cond1 (grid0.coords t) = 1#1) := ⟨hc1⟩
    haveI : Fact (k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    simp only [cc0_in_proj0_eq_skeleton]; unfold cc0_in_proj0_skel
    simp -proj only [k0_part11_eq_skeleton]
    unfold owns infl free
    iintro ⟨⟨%farg2, %hfarg2, Harg2⟩, ⟨%dout, %fout, -, Hout⟩, HC, HD, ⟨%g0, Hf, Hr⟩, ⟨Hc, ⟨%e0, Hs⟩, Hw⟩, HW, Hk⟩
    ihave Hx := (src_split c W (Ring.sl 2 (t.val + 1)) (t.val + 9)).1 $$ Hw
    icases Hx with ⟨Hh, Hq⟩
    obtain rfl := harg2.eq_unread hfarg2
    sl_exec (disch := first | sl_exact hc1 | sl_exact hc2 | sl_exact hc3 | sl_exact hc4)
    sl_open_run
    ihave HD := (hbPt_congr c wbf1 (writes_castIn1 c W (t.val + 8) _ _ _ _ _
      ((coff9 t).trans (by rw [Nat.add_mod_right]))
      (pe2 _) (cast_piece c W (Ring.sl 2 t.val) (t.val + 8) _ [] _ _ (coff8 t) _))) $$ HD
    sl_step
    iapply Hk
    iapply hQ
    isplitl [Harg2]
    · unfold owns; iexists _; isplitr
      · ipureintro; exact harg2.read_unread x
      · iexact Harg2
    isplitl [Hout]
    · unfold owns; iexists _; isplitr
      swap; · iexact Hout
      ipureintro
      refine (View.read_writes_full _ _ _ _ _).trans (outV_of ?_ ?_)
      · exact ld_arg2 harg2 x _
      · exact View.readAt_full _ _ _
    isplitl [HC]; · iexact HC
    isplitl [HD]; · iexact HD
    isplitl [Hc Hq]
    · iapply (infl_mk c W (Ring.sl 2 (t.val + 1)) _ _); isplitl [Hc]; · iexact Hc
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel2Ideal.Own

end
-- ==== Proof.RunO2.lean ====
module

public import proofs.«01_k».proof.Proof.Spec2

@[expose] public section

set_option maxRecDepth 16384

noncomputable section

namespace Cert.Kernel2Ideal.Own

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runO (c : Dev nD) (t : Fin cfg0.N) (arg2 : Memref sig .tc .vmem S1024x4096 .bf16) (harg2 : arg2.IsWhole) (arg4 : Memref sig .tc .vmem S1024x1024 .f32) (harg4 : arg4.IsWhole)
    (hc1 : ¬k0_cond1 (grid0.coords t) = 1#1) (hc2 : ¬k0_cond2 (grid0.coords t) = 1#1) (hc3 : k0_cond3 (grid0.coords t) = 1#1) (hc4 : ¬k0_cond4 (grid0.coords t) = 1#1)
    (x : Vec F S1024x4096 .bf16) (W : HbBuf (F := F) c wM) (C : HbBuf (F := F) c wbf1) (D : HbBuf (F := F) c wbf0) (Q : sProp 𝕄)
    (hQ : iprop(owns (c : Thread nD τ) arg2 fullShare x ∗ owns (c : Thread nD τ) arg4 fullShare (outV x C)
                ∗ hbPt c wbf1 C ∗ hbPt c wbf0 (castIn c W (t.val + 8) D)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ (∃ d, owns (c : Thread nD τ) arg4 fullShare d)
            ∗ hbPt c wbf1 C ∗ hbPt c wbf0 D ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_in_proj0 (grid0.coords t) arg2 harg2 (Memref.whole main_v0) (Memref.isWhole_whole _) arg4 harg4 wbf0 (Memref.isWhole_whole _) wbf1 (Memref.isWhole_whole _) stg (Memref.isWhole_whole _) cc0_scratch3) K := by
    intro Ws K
    haveI : Fact (¬k0_cond1 (grid0.coords t) = 1#1) := ⟨hc1⟩
    haveI : Fact (¬k0_cond2 (grid0.coords t) = 1#1) := ⟨hc2⟩
    haveI : Fact (k0_cond3 (grid0.coords t) = 1#1) := ⟨hc3⟩
    haveI : Fact (¬k0_cond4 (grid0.coords t) = 1#1) := ⟨hc4⟩
    simp only [cc0_in_proj0_eq_skeleton]; unfold cc0_in_proj0_skel
    simp -proj only [k0_part12_eq_skeleton]
    unfold owns infl free
    iintro ⟨⟨%farg2, %hfarg2, Harg2⟩, ⟨%dout, %fout, -, Hout⟩, HC, HD, ⟨%g0, Hf, Hr⟩, ⟨Hc, ⟨%e0, Hs⟩, Hw⟩, HW, Hk⟩
    ihave Hx := (src_split c W (Ring.sl 2 (t.val + 1)) (t.val + 9)).1 $$ Hw
    icases Hx with ⟨Hh, Hq⟩
    obtain rfl := harg2.eq_unread hfarg2
    sl_exec (disch := first | sl_exact hc1 | sl_exact hc2 | sl_exact hc3 | sl_exact hc4)
    sl_open_run
    ihave HD := (hbPt_congr c wbf0 (writes_castIn0 c W (t.val + 8) _ _ _ _ _
      ((coff17 t).trans (by rw [Nat.add_mod_right]))
      (pe4 _) (cast_piece c W (Ring.sl 2 t.val) (t.val + 8) _ [] _ _ (coff16 t) _))) $$ HD
    sl_step
    iapply Hk
    iapply hQ
    isplitl [Harg2]
    · unfold owns; iexists _; isplitr
      · ipureintro; exact harg2.read_unread x
      · iexact Harg2
    isplitl [Hout]
    · unfold owns; iexists _; isplitr
      swap; · iexact Hout
      ipureintro
      refine (View.read_writes_full _ _ _ _ _).trans (outV_of' ?_ ?_)
      · exact ld_arg2 harg2 x _
      · exact View.readAt_full _ _ _
    isplitl [HC]; · iexact HC
    isplitl [HD]; · iexact HD
    isplitl [Hc Hq]
    · iapply (infl_mk c W (Ring.sl 2 (t.val + 1)) _ _); isplitl [Hc]; · iexact Hc
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel2Ideal.Own

end
-- ==== Proof.RunL2.lean ====
module

public import proofs.«01_k».proof.Proof.Spec2

@[expose] public section

set_option maxRecDepth 16384

noncomputable section

namespace Cert.Kernel2Ideal.Own

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runL (c : Dev nD) (t : Fin cfg0.N) (arg2 : Memref sig .tc .vmem S1024x4096 .bf16) (harg2 : arg2.IsWhole) (arg4 : Memref sig .tc .vmem S1024x1024 .f32) (harg4 : arg4.IsWhole)
    (hc1 : ¬k0_cond1 (grid0.coords t) = 1#1) (hc2 : ¬k0_cond2 (grid0.coords t) = 1#1) (hc3 : k0_cond3 (grid0.coords t) = 1#1) (hc4 : k0_cond4 (grid0.coords t) = 1#1)
    (x : Vec F S1024x4096 .bf16) (W : HbBuf (F := F) c wM) (C : HbBuf (F := F) c wbf1) (D : HbBuf (F := F) c wbf0) (Q : sProp 𝕄)
    (hQ : iprop(owns (c : Thread nD τ) arg2 fullShare x ∗ owns (c : Thread nD τ) arg4 fullShare (outV x C)
                ∗ hbPt c wbf1 C ∗ hbPt c wbf0 (castIn c W (t.val + 8) D)
                ∗ free c W (Ring.sl 2 (t.val + 1)) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ (∃ d, owns (c : Thread nD τ) arg4 fullShare d)
            ∗ hbPt c wbf1 C ∗ hbPt c wbf0 D ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_in_proj0 (grid0.coords t) arg2 harg2 (Memref.whole main_v0) (Memref.isWhole_whole _) arg4 harg4 wbf0 (Memref.isWhole_whole _) wbf1 (Memref.isWhole_whole _) stg (Memref.isWhole_whole _) cc0_scratch3) K := by
    intro Ws K
    haveI : Fact (¬k0_cond1 (grid0.coords t) = 1#1) := ⟨hc1⟩
    haveI : Fact (¬k0_cond2 (grid0.coords t) = 1#1) := ⟨hc2⟩
    haveI : Fact (k0_cond3 (grid0.coords t) = 1#1) := ⟨hc3⟩
    haveI : Fact (k0_cond4 (grid0.coords t) = 1#1) := ⟨hc4⟩
    simp only [cc0_in_proj0_eq_skeleton]; unfold cc0_in_proj0_skel
    simp -proj only [k0_part12_eq_skeleton]
    unfold owns infl free
    iintro ⟨⟨%farg2, %hfarg2, Harg2⟩, ⟨%dout, %fout, -, Hout⟩, HC, HD, ⟨%g0, Hf, Hr⟩, ⟨Hc, ⟨%e0, Hs⟩, Hw⟩, HW, Hk⟩
    ihave Hx := (src_split c W (Ring.sl 2 (t.val + 1)) (t.val + 9)).1 $$ Hw
    icases Hx with ⟨Hh, Hq⟩
    obtain rfl := harg2.eq_unread hfarg2
    set_option sl_exec.stopBefore "k0_cond4" in sl_exec (disch := first | sl_exact hc1 | sl_exact hc2 | sl_exact hc3 | sl_exact hc4)
    ihave Hx := (infl_mk c W (Ring.sl 2 (t.val + 1)) (t.val + 9) _) $$ [Hc Hq]
    · isplitl [Hc]; · iexact Hc
      iexact Hq
    unfold infl
    icases Hx with ⟨%u0, Hc, Hq⟩
    sl_exec (disch := first | sl_exact hc1 | sl_exact hc2 | sl_exact hc3 | sl_exact hc4)
    sl_open_run
    ihave HD := (hbPt_congr c wbf0 (writes_castIn0 c W (t.val + 8) _ _ _ _ _
      ((coff17 t).trans (by rw [Nat.add_mod_right]))
      (pe4 _) (cast_piece c W (Ring.sl 2 t.val) (t.val + 8) _ [] _ _ (coff16 t) _))) $$ HD
    sl_step
    iapply Hk
    iapply hQ
    isplitl [Harg2]
    · unfold owns; iexists _; isplitr
      · ipureintro; exact harg2.read_unread x
      · iexact Harg2
    isplitl [Hout]
    · unfold owns; iexists _; isplitr
      swap; · iexact Hout
      ipureintro
      refine (View.read_writes_full _ _ _ _ _).trans (outV_of' ?_ ?_)
      · exact ld_arg2 harg2 x _
      · exact View.readAt_full _ _ _
    isplitl [HC]; · iexact HC
    isplitl [HD]; · iexact HD
    isplitl [Hc Hc_dst Hc_src Hq]
    · iapply (free_mk c W (Ring.sl 2 (t.val + 1)) _ _)
      isplitl [Hc]; · iexact Hc
      isplitl [Hc_dst]; · iexact Hc_dst
      isplitl [Hc_src]; · iexact Hc_src
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel2Ideal.Own

end
-- ==== Proof.RunF2.lean ====
module

public import proofs.«01_k».proof.Proof.Spec2

@[expose] public section

set_option maxRecDepth 16384

noncomputable section

namespace Cert.Kernel2Ideal.Own

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runF (c : Dev nD) (t : Fin cfg0.N) (arg2 : Memref sig .tc .vmem S1024x4096 .bf16) (harg2 : arg2.IsWhole) (arg4 : Memref sig .tc .vmem S1024x1024 .f32) (harg4 : arg4.IsWhole)
    (hc1 : k0_cond1 (grid0.coords t) = 1#1) (hc2 : k0_cond2 (grid0.coords t) = 1#1) (hc3 : ¬k0_cond3 (grid0.coords t) = 1#1) (hc4 : ¬k0_cond4 (grid0.coords t) = 1#1)
    (x : Vec F S1024x4096 .bf16) (W : HbBuf (F := F) c wM) (C : HbBuf (F := F) c wbf0) (D : HbBuf (F := F) c wbf1) (Q : sProp 𝕄)
    (hQ : iprop(owns (c : Thread nD τ) arg2 fullShare x ∗ owns (c : Thread nD τ) arg4 fullShare (outV x (wcols c W 0))
                ∗ hbPt c wbf0 (wcols c W 0) ∗ hbPt c wbf1 (castIn c W (t.val + 8) D)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ (∃ d, owns (c : Thread nD τ) arg4 fullShare d)
            ∗ hbPt c wbf0 C ∗ hbPt c wbf1 D ∗ free c W 0 ∗ free c W 1 ∗ owes (c : Thread nD τ) 0 Ws
            ∗ (Q -∗ K ⟨⟩))
          ⊢ wp frame (wpE (defs₀ (F := F)) Variants.none c none) Set.univ (cc0_in_proj0 (grid0.coords t) arg2 harg2 (Memref.whole main_v0) (Memref.isWhole_whole _) arg4 harg4 wbf0 (Memref.isWhole_whole _) wbf1 (Memref.isWhole_whole _) stg (Memref.isWhole_whole _) cc0_scratch3) K := by
    intro Ws K
    haveI : Fact (k0_cond1 (grid0.coords t) = 1#1) := ⟨hc1⟩
    haveI : Fact (k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    have ht : t.val = 0 := (hcond1 t).mp hc1
    simp only [cc0_in_proj0_eq_skeleton]; unfold cc0_in_proj0_skel
    simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns free
    iintro ⟨⟨%farg2, %hfarg2, Harg2⟩, ⟨%dout, %fout, -, Hout⟩, HC, HD, ⟨Hc0, ⟨%e0, Hs0⟩, Hw0⟩, ⟨Hc1, ⟨%e1, Hs1⟩, Hw1⟩, HW, Hk⟩
    ihave Hx := (src_split c W 0 0).1 $$ Hw0
    icases Hx with ⟨Hh0, Hk0⟩
    ihave Hx := (src_split c W 1 1).1 $$ Hw1
    icases Hx with ⟨Hh1, Hk1⟩
    obtain rfl := harg2.eq_unread hfarg2
    sl_exec (disch := first | sl_exact hc1 | sl_exact hc2 | sl_exact hc3 | sl_exact hc4)
    ihave Hx := (src_swap c W 0 0 2) $$ [Hh0 Hk0]
    · isplitl [Hh0]; · iexact Hh0
      iexact Hk0
    icases Hx with ⟨Hh0, Hk0⟩
    sl_exec (disch := first | sl_exact hc1 | sl_exact hc2 | sl_exact hc3 | sl_exact hc4)
    ihave Hx := (src_swap c W 1 1 3) $$ [Hh1 Hk1]
    · isplitl [Hh1]; · iexact Hh1
      iexact Hk1
    icases Hx with ⟨Hh1, Hk1⟩
    sl_exec (disch := first | sl_exact hc1 | sl_exact hc2 | sl_exact hc3 | sl_exact hc4)
    ihave Hx := (src_swap c W 0 2 4) $$ [Hh0 Hk0]
    · isplitl [Hh0]; · iexact Hh0
      iexact Hk0
    icases Hx with ⟨Hh0, Hk0⟩
    sl_exec (disch := first | sl_exact hc1 | sl_exact hc2 | sl_exact hc3 | sl_exact hc4)
    ihave Hx := (src_swap c W 1 3 5) $$ [Hh1 Hk1]
    · isplitl [Hh1]; · iexact Hh1
      iexact Hk1
    icases Hx with ⟨Hh1, Hk1⟩
    sl_exec (disch := first | sl_exact hc1 | sl_exact hc2 | sl_exact hc3 | sl_exact hc4)
    ihave Hx := (src_swap c W 0 4 6) $$ [Hh0 Hk0]
    · isplitl [Hh0]; · iexact Hh0
      iexact Hk0
    icases Hx with ⟨Hh0, Hk0⟩
    sl_exec (disch := first | sl_exact hc1 | sl_exact hc2 | sl_exact hc3 | sl_exact hc4)
    ihave Hx := (src_swap c W 1 5 7) $$ [Hh1 Hk1]
    · isplitl [Hh1]; · iexact Hh1
      iexact Hk1
    icases Hx with ⟨Hh1, Hk1⟩
    sl_exec (disch := first | sl_exact hc1 | sl_exact hc2 | sl_exact hc3 | sl_exact hc4)
    ihave Hx := (src_swap c W 0 6 8) $$ [Hh0 Hk0]
    · isplitl [Hh0]; · iexact Hh0
      iexact Hk0
    icases Hx with ⟨Hh0, Hk0⟩
    set_option sl_exec.stopBefore "k0_part11" in sl_exec (disch := first | sl_exact hc1 | sl_exact hc2 | sl_exact hc3 | sl_exact hc4)
    sl_open_run
    ihave HC := (hbPt_congr c wbf0 (writes_pro c W _ _ _ _ _ _ _ _ _ _ _ _ _ _ _ _ _ _ _ _ _ _ _ _ _
      (pe6 _) (cast_piece c W 0 0 _ _ ![0, 0, 0, 0] _ rfl _)
      (pe7 _) (cast_piece c W 1 1 _ _ ![1, 0, 0, 0] _ rfl _)
      (pe8 _) (cast_piece c W 0 2 _ _ ![0, 0, 0, 0] _ rfl _)
      (pe9 _) (cast_piece c W 1 3 _ _ ![1, 0, 0, 0] _ rfl _)
      (pe10 _) (cast_piece c W 0 4 _ _ ![0, 0, 0, 0] _ rfl _)
      (pe11 _) (cast_piece c W 1 5 _ _ ![1, 0, 0, 0] _ rfl _)
      (pe12 _) (cast_piece c W 0 6 _ _ ![0, 0, 0, 0] _ rfl _)
      (pe1 _) (cast_piece c W 1 7 _ _ ![1, 0, 0, 0] _ rfl _))) $$ HC
    ihave Hi : infl c W 0 8 $$ [Hc0 Hk0]
    · iapply (infl_mk' c W 0 8 _ _); isplitl [Hc0]; · iexact Hc0
      iexact Hk0
    ihave Hj : free c W 1 $$ [Hc1 Hs1 Hh1 Hk1]
    · iapply (free_mk c W 1 7 _)
      isplitl [Hc1]; · iexact Hc1
      isplitl [Hs1]; · iexact Hs1
      isplitl [Hh1]; · iexact Hh1
      iexact Hk1
    ihave Hi := (infl_first c W ht) $$ Hi
    ihave Hj := (free_first c W ht) $$ Hj
    unfold infl free
    icases Hi with ⟨%g0, Hf, Hr⟩
    icases Hj with ⟨Hc, ⟨%e2, Hs⟩, Hw⟩
    ihave Hx := (src_split c W (Ring.sl 2 (t.val + 1)) (t.val + 9)).1 $$ Hw
    icases Hx with ⟨Hh, Hq⟩
    sl_exec (disch := first | sl_exact hc1 | sl_exact hc2 | sl_exact hc3 | sl_exact hc4)
    sl_open_run
    ihave HD := (hbPt_congr c wbf1 (writes_castIn1 c W (t.val + 8) _ _ _ _ _
      ((coff9 t).trans (by rw [Nat.add_mod_right]))
      (pe2 _) (cast_piece c W (Ring.sl 2 t.val) (t.val + 8) _ [] _ _ (coff8 t) _))) $$ HD
    sl_step
    iapply Hk
    iapply hQ
    isplitl [Harg2]
    · unfold owns; iexists _; isplitr
      · ipureintro; exact harg2.read_unread x
      · iexact Harg2
    isplitl [Hout]
    · unfold owns; iexists _; isplitr
      swap; · iexact Hout
      ipureintro
      refine (View.read_writes_full _ _ _ _ _).trans (outV_of ?_ ?_)
      · exact ld_arg2 harg2 x _
      · exact View.readAt_full _ _ _
    isplitl [HC]; · iexact HC
    isplitl [HD]; · iexact HD
    isplitl [Hc Hq]
    · iapply (infl_mk c W (Ring.sl 2 (t.val + 1)) _ _); isplitl [Hc]; · iexact Hc
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel2Ideal.Own

end
-- ==== Proof.Frame2.lean ====
module

public import proofs.«01_k».proof.Proof.RunE2
public import proofs.«01_k».proof.Proof.RunO2
public import proofs.«01_k».proof.Proof.RunL2
public import proofs.«01_k».proof.Proof.RunF2
public import proofs.«01_k».proof.Proof.Gen.Kernel2Ideal.Frame
public import Idealize.ShloMosaic.Lib.Ring.AtN
public import Idealize.ShloMosaic.Lib.Claim

@[expose] public section

set_option maxRecDepth 16384

noncomputable section

namespace Cert.Kernel2Ideal.Own

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The stage buffer is its two slots; the weights' copies -/

abbrev partSet (k : Fin 2) : Finset S2x1x128x4096.Idx := (Rect.unit (s := S2x1x128x4096) ![k.val, 0, 0, 0] S1x1x128x4096.size (inb_part k)).set
theorem partSet_eq (k : Fin 2) : (rpart k).view.set = partSet k := by
  simp only [rpart, Memref.view_squeeze, View.set_reshape]; exact View.set_slice_whole _ _
theorem parts_disjoint (k k' : Fin 2) (h : k ≠ k') : Disjoint (partSet k) (partSet k') := by
  rw [Finset.disjoint_left]
  intro i hi hi'
  have h0 := (Rect.mem_set_unit.mp hi) 0
  have h0' := (Rect.mem_set_unit.mp hi') 0
  have e0 : (S1x1x128x4096.size 0) = 1 := rfl
  simp only [Matrix.cons_val_zero] at h0 h0'
  exact h (Fin.ext (by omega))
theorem parts_cover : Finset.univ.biUnion partSet = Finset.univ := by
  ext i
  simp only [Finset.mem_biUnion, Finset.mem_univ, true_and, iff_true]
  have b0 : (i 0).val < 2 := (i 0).isLt
  have b1 : (i 1).val < 1 := (i 1).isLt
  have b2 : (i 2).val < 128 := (i 2).isLt
  have b3 : (i 3).val < 4096 := (i 3).isLt
  refine ⟨⟨(i 0).val, by omega⟩, Rect.mem_set_unit.mpr fun a => ?_⟩
  fin_cases a
  · show (i 0).val ≤ (i 0).val ∧ (i 0).val < (i 0).val + 1; omega
  · show 0 ≤ (i 1).val ∧ (i 1).val < 0 + 1; omega
  · show 0 ≤ (i 2).val ∧ (i 2).val < 0 + 128; omega
  · show 0 ≤ (i 3).val ∧ (i 3).val < 0 + 4096; omega

section InOut
variable (c : Dev nD) (W : HbBuf (F := F) c wM)
theorem partP_eq (k : Fin 2) (f : Buf (Elt F) ((c : Thread nD τ).loc cc0_scratch2)) :
    partP (F := F) c k f = (((c : Thread nD τ).loc cc0_scratch2) ↦[partSet k]{fullShare} f : sProp 𝕄) := by
  unfold partP; rw [partSet_eq]; rfl
/-- The two slots, each at some contents. -/
def parts : sProp 𝕄 := iprop((∃ f, partP (F := F) c 0 f) ∗ (∃ f, partP (F := F) c 1 f))
theorem parts_in : iprop(∃ f, hbPt (F := F) c stg f) ⊢ parts (F := F) c :=
  Ring.slots_split_n (U := Pipeline.UD sig nD τ) (ℓ := (c : Thread nD τ).loc cc0_scratch2) (q := fullShare) partSet parts_disjoint parts_cover
    [0, 1] (by decide) (by decide) (fun k f => partP (F := F) c k f) (fun k f => partP_eq c k f)
theorem parts_out : parts (F := F) c ⊢ iprop(∃ f, hbPt (F := F) c stg f) :=
  Ring.slots_join_n (U := Pipeline.UD sig nD τ) (ℓ := (c : Thread nD τ).loc cc0_scratch2) (q := fullShare) partSet parts_disjoint parts_cover
    [0, 1] (by decide) (by decide) (fun k f => partP (F := F) c k f) (fun k f => partP_eq c k f)

theorem whole2 : (hbPt c wM W : sProp 𝕄) ⊣⊢ iprop(wholeP (F := F) c W 0 ∗ wholeP c W 1) :=
  pointsTo_share (PosShare.mem_left_op_right fullShare)

/-- The cells at zero. -/
def cells : sProp 𝕄 := iprop(cellP (F := F) c 0 ∗ cellP c 1)

theorem ring_in : iprop((∃ f, hbPt (F := F) c stg f) ∗ cells c ∗ hbPt c wM W) ⊢ iprop(free c W 0 ∗ free c W 1) := by
  unfold cells
  iintro ⟨HS, ⟨C0, C1⟩, HW⟩
  ihave HS := (parts_in (F := F) c) $$ HS
  unfold parts
  icases HS with ⟨P0, P1⟩
  ihave HW := (whole2 c W).1 $$ HW
  icases HW with ⟨A0, A1⟩
  unfold free
  isplitl [C0 P0 A0]
  · isplitl [C0]; · iexact C0
    isplitl [P0]; · iexact P0
    iexact A0
  isplitl [C1]; · iexact C1
  isplitl [P1]; · iexact P1
  iexact A1

theorem ring_out : iprop(free c W 0 ∗ free c W 1) ⊢ iprop((∃ f, hbPt (F := F) c stg f) ∗ cells c ∗ hbPt c wM W) := by
  unfold free
  iintro ⟨⟨C0, P0, A0⟩, ⟨C1, P1, A1⟩⟩
  isplitl [P0 P1]
  · iapply (parts_out (F := F) c)
    unfold parts
    isplitl [P0]; · iexact P0
    iexact P1
  isplitl [C0 C1]
  · unfold cells
    isplitl [C0]; · iexact C0
    iexact C1
  iapply (whole2 c W).2
  isplitl [A0]; · iexact A0
  iexact A1
end InOut

/-! ## The launch's own semaphores and the array left where it is -/

abbrev osem : Fin 2 → SemLoc sig := fun j => (![SemLoc.dma 4, SemLoc.dma 5] : Fin 2 → SemLoc sig) j
theorem ownSemFacts : Pipeline.OwnSemFacts spec0 osem := by decide
theorem osem_cell : ∀ k : Fin 2, cellR k = osem k := by decide
theorem ownSems0_eq (c : Dev nD) :
    (Pipeline.ownSems0 (Ix := Unit) (Name := ℕ) (U := Pipeline.UD sig nD τ) (Lvl := ℕ) (Val := Elt F) (τ := τ) osem c : sProp 𝕄) = cells (F := F) c := by
  have e : ∀ k : Fin 2, (semVal ((c : Thread nD τ), osem k) 0 : sProp 𝕄) = cellP (F := F) c k := fun k => by rw [← osem_cell k]
  rw [Pipeline.ownSems0_eq_of_list c osem [0, 1] (by decide) (by decide)]
  unfold cells
  refine Eq.trans (show _ = iprop(semVal ((c : Thread nD τ), osem 0) 0 ∗ semVal ((c : Thread nD τ), osem 1) 0) from rfl) ?_
  rw [e 0, e 1]
def H0 : Finset (Ref sig .tc) := {main_v0}
theorem H0_sub : H0 ⊆ Pipeline.restRefs sig spec0 := by decide

variable (m : (ℓ : Loc nD τ sig) → Buf (Elt F) ℓ) (ρ : Dev nD → PrngReg)

theorem hbmPts0_eq (c : Dev nD) :
    (bigSep H0 (fun b => ((c : Thread nD τ).loc b) ↦{fullShare} V m c b) : sProp 𝕄) = iprop(hbPt c wM (V m c main_v0)) := by
  rw [BI.bigSep_eq_bigSepL_of_eq [main_v0] (by decide) (by decide)]; rfl

theorem PhiD0_eq (c : Dev nD) :
    (Pipeline.ΦD osem spec0 H0 (V m) c : sProp 𝕄)
      = iprop(iprop((∃ f, hbPt (F := F) c wbf0 f) ∗ (∃ f, hbPt (F := F) c wbf1 f) ∗ (∃ f, hbPt (F := F) c stg f)) ∗ (∃ r, prngReg c r) ∗ cells (F := F) c ∗ iprop(hbPt c wM (V m c main_v0))) := by
  rw [Pipeline.ΦD_eq, scopedRest0_eq, ownSems0_eq, hbmPts0_eq]; try rfl

/-! ## What the buffers hold before each point -/

/-- The other buffer holds the first `k mod 8` parts of the next block. -/
def Has (c : Dev nD) (k : ℕ) (D : Vec F S1024x4096 .bf16) : Prop :=
  ∀ y, (y 0).val < 128 * (k % 8) → D y = wcols c (V m c main_v0) (k / 8 + 1) y

/-- The two buffers, by the parity of the block. -/
def duo (c : Dev nD) (n : ℕ) (A B : Vec F S1024x4096 .bf16) : sProp 𝕄 :=
  if n % 16 < 8 then iprop(hbPt (F := F) c wbf0 A ∗ hbPt (F := F) c wbf1 B) else iprop(hbPt (F := F) c wbf1 A ∗ hbPt (F := F) c wbf0 B)

theorem duo_swap (c : Dev nD) (n : ℕ) (A B : Vec F S1024x4096 .bf16) (h : n % 8 = 7) : duo (F := F) c n A B ⊢ duo (F := F) c (n + 1) B A := by
  unfold duo
  by_cases hp : n % 16 < 8
  · rw [if_pos hp, if_neg (show ¬(n + 1) % 16 < 8 by omega)]
    iintro ⟨Ha, Hb⟩
    isplitl [Hb]; · iexact Hb
    iexact Ha
  · rw [if_neg hp, if_pos (show (n + 1) % 16 < 8 by omega)]
    iintro ⟨Ha, Hb⟩
    isplitl [Hb]; · iexact Hb
    iexact Ha
theorem duo_keep (c : Dev nD) (n : ℕ) (A B : Vec F S1024x4096 .bf16) (h : ¬n % 8 = 7) : duo (F := F) c n A B ⊢ duo (F := F) c (n + 1) A B := by
  unfold duo
  by_cases hp : n % 16 < 8
  · rw [if_pos hp, if_pos (show (n + 1) % 16 < 8 by omega)]
  · rw [if_neg hp, if_neg (show ¬(n + 1) % 16 < 8 by omega)]

/-- The staging slots before point `k`. -/
def slots (c : Dev nD) (k : ℕ) : sProp 𝕄 :=
  if k = 96 then iprop(free c (V m c main_v0) (Ring.sl 2 k) ∗ free c (V m c main_v0) (Ring.sl 2 (k + 1)))
  else iprop(infl c (V m c main_v0) (Ring.sl 2 k) (k + 8) ∗ free c (V m c main_v0) (Ring.sl 2 (k + 1)))

/-- What the kernel holds before point `k`. -/
def Phi (c : Dev nD) (k : ℕ) : sProp 𝕄 :=
  if k = 0 then iprop((∃ f, hbPt (F := F) c wbf0 f) ∗ (∃ f, hbPt (F := F) c wbf1 f) ∗ free c (V m c main_v0) 0 ∗ free c (V m c main_v0) 1 ∗ (∃ r, prngReg c r))
  else iprop(∃ D, ⌜Has m c k D⌝ ∗ duo c k (wcols c (V m c main_v0) (k / 8)) D ∗ slots m c k ∗ (∃ r, prngReg c r))

theorem castIn_has (c : Dev nD) (t : ℕ) (D : Vec F S1024x4096 .bf16) (h : Has m c t D) (y) (hy : (y 0).val < 128 * (t % 8 + 1)) :
    castIn c (V m c main_v0) (t + 8) D y = wcols c (V m c main_v0) (t / 8 + 1) y := by
  unfold castIn
  have e1 : (t + 8) % 8 = t % 8 := by omega
  have e2 : (t + 8) / 8 = t / 8 + 1 := by omega
  rw [e1, e2]
  split
  · rfl
  · exact h y (by omega)

/-- After a point the invariant holds before the next. -/
theorem step (c : Dev nD) (t : Fin cfg0.N) (D : Vec F S1024x4096 .bf16) (h : Has m c t.val D) :
    iprop(duo (F := F) c t.val (wcols c (V m c main_v0) (t.val / 8)) (castIn c (V m c main_v0) (t.val + 8) D)
      ∗ slots m c (t.val + 1) ∗ (∃ r, prngReg c r)) ⊢ Phi m c (t.val + 1) := by
  unfold Phi
  rw [if_neg (Nat.succ_ne_zero _)]
  by_cases h7 : t.val % 8 = 7
  · have e : castIn c (V m c main_v0) (t.val + 8) D = wcols c (V m c main_v0) ((t.val + 1) / 8) := by
      funext y
      have hy : (y 0).val < 1024 := (y 0).isLt
      rw [castIn_has m c t.val D h y (by omega), show (t.val + 1) / 8 = t.val / 8 + 1 by omega]
    rw [e]
    iintro ⟨HD, HS, Hg⟩
    iexists (wcols c (V m c main_v0) (t.val / 8))
    isplitr
    · ipureintro; intro y hy; omega
    isplitl [HD]
    · iapply (duo_swap (F := F) c t.val _ _ h7); iexact HD
    isplitl [HS]; · iexact HS
    iexact Hg
  · have e : (t.val + 1) / 8 = t.val / 8 := by omega
    rw [e]
    iintro ⟨HD, HS, Hg⟩
    iexists (castIn c (V m c main_v0) (t.val + 8) D)
    isplitr
    · ipureintro; intro y hy
      rw [e]; exact castIn_has m c t.val D h y (by omega)
    isplitl [HD]
    · iapply (duo_keep (F := F) c t.val _ _ h7); iexact HD
    isplitl [HS]; · iexact HS
    iexact Hg

/-! ## The pipeline's proof data -/

/-- The output block of point `t`. -/
def outAt (c : Dev nD) (t : Fin cfg0.N) : Vec F S1024x1024 .f32 :=
  outV (iblk m c 0 t) (wcols c (V m c main_v0) (t.val / 8))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.val_castSucc]
theorem Phi_succ (c : Dev nD) (t : Fin cfg0.N) : (dats m 0 c).Φ t.succ = Phi m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = outAt m c t := by dsimp only [dats]

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0 (c : Dev nD) (t : Fin cfg0.N) (d) : (dats m 0 c).before 0 t d = iblk m c 0 t :=
  before0_of m (dats m 0 c) (A_eq m c 0) (after0 m c) t d
abbrev ms0 (t : Fin cfg0.N) : Memref sig .tc .vmem S1024x4096 .bf16 := win0_0.stage (cfg0.slots t 0)
abbrev ms1 (t : Fin cfg0.N) : Memref sig .tc .vmem S1024x1024 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

/-- What a run hands back, less the buffers' names: enough for the point's post. -/
def left (c : Dev nD) (t : Fin cfg0.N) (D : Vec F S1024x4096 .bf16) : sProp 𝕄 :=
  iprop(owns (c : Thread nD τ) (ms0 t) fullShare (iblk m c 0 t) ∗ owns (c : Thread nD τ) (ms1 t) fullShare (outAt m c t)
    ∗ duo (F := F) c t.val (wcols c (V m c main_v0) (t.val / 8)) (castIn c (V m c main_v0) (t.val + 8) D)
    ∗ slots m c (t.val + 1) ∗ ∃ Ws', owes (c : Thread nD τ) 0 Ws')

theorem left_post (c : Dev nD) (t : Fin cfg0.N) (D : Vec F S1024x4096 .bf16) (h : Has m c t.val D) :
    iprop(left m c t D ∗ ∃ r, prngReg c r) ⊢ bodyPost m c t := by
  unfold left bodyPost
  rw [Phi_succ m c t, after0, after1]
  unfold Dat.owesAt Pipeline.owesWithin
  rw [show (dats m 0 c).owed t.succ = 0 from rfl]
  iintro ⟨⟨H0, Hout, HD, HS, ⟨%Ws, HW⟩⟩, Hg⟩
  isplitl [HD HS Hg]
  · iapply (step m c t D h)
    isplitl [HD]; · iexact HD
    isplitl [HS]; · iexact HS
    iexact Hg
  isplitl [HW]
  · iexists Ws; isplitr; · ipureintro; exact fun _ _ => Or.inl trivial
    iexact HW
  isplitl [H0]; · iexact H0
  iexact Hout

theorem leftE (c : Dev nD) (t : Fin cfg0.N) (hp : t.val % 16 < 8) (hl : ¬t.val = 95) (D : Vec F S1024x4096 .bf16) :
    iprop(owns (c : Thread nD τ) (ms0 t) fullShare (iblk m c 0 t)
        ∗ owns (c : Thread nD τ) (ms1 t) fullShare (outV (iblk m c 0 t) (wcols c (V m c main_v0) (t.val / 8)))
        ∗ hbPt (F := F) c wbf0 (wcols c (V m c main_v0) (t.val / 8)) ∗ hbPt (F := F) c wbf1 (castIn c (V m c main_v0) (t.val + 8) D)
        ∗ infl c (V m c main_v0) (Ring.sl 2 (t.val + 1)) (t.val + 9) ∗ free c (V m c main_v0) (Ring.sl 2 t.val) ∗ ∃ Ws', owes (c : Thread nD τ) 0 Ws') ⊢ left m c t D := by
  unfold left outAt duo slots
  rw [if_pos hp, if_neg (show ¬t.val + 1 = 96 by omega)]
  rw [show t.val + 1 + 1 = t.val + 2 from rfl, Ring.sl_add 2 t.val]
  try rw [show t.val + 1 + 8 = t.val + 9 from rfl]
  iintro ⟨H0, Hout, Ha, Hb, Hf, Hr, HW⟩
  isplitl [H0]; · iexact H0
  isplitl [Hout]; · iexact Hout
  isplitl [Ha Hb]
  · isplitl [Ha]; · iexact Ha
    iexact Hb
  isplitl [Hf Hr]
  · isplitl [Hf]; · iexact Hf
    iexact Hr
  iexact HW

theorem leftO (c : Dev nD) (t : Fin cfg0.N) (hp : ¬t.val % 16 < 8) (hl : ¬t.val = 95) (D : Vec F S1024x4096 .bf16) :
    iprop(owns (c : Thread nD τ) (ms0 t) fullShare (iblk m c 0 t)
        ∗ owns (c : Thread nD τ) (ms1 t) fullShare (outV (iblk m c 0 t) (wcols c (V m c main_v0) (t.val / 8)))
        ∗ hbPt (F := F) c wbf1 (wcols c (V m c main_v0) (t.val / 8)) ∗ hbPt (F := F) c wbf0 (castIn c (V m c main_v0) (t.val + 8) D)
        ∗ infl c (V m c main_v0) (Ring.sl 2 (t.val + 1)) (t.val + 9) ∗ free c (V m c main_v0) (Ring.sl 2 t.val) ∗ ∃ Ws', owes (c : Thread nD τ) 0 Ws') ⊢ left m c t D := by
  unfold left outAt duo slots
  rw [if_neg hp, if_neg (show ¬t.val + 1 = 96 by omega)]
  rw [show t.val + 1 + 1 = t.val + 2 from rfl, Ring.sl_add 2 t.val]
  try rw [show t.val + 1 + 8 = t.val + 9 from rfl]
  iintro ⟨H0, Hout, Ha, Hb, Hf, Hr, HW⟩
  isplitl [H0]; · iexact H0
  isplitl [Hout]; · iexact Hout
  isplitl [Ha Hb]
  · isplitl [Ha]; · iexact Ha
    iexact Hb
  isplitl [Hf Hr]
  · isplitl [Hf]; · iexact Hf
    iexact Hr
  iexact HW

theorem leftL (c : Dev nD) (t : Fin cfg0.N) (hp : ¬t.val % 16 < 8) (hl : t.val = 95) (D : Vec F S1024x4096 .bf16) :
    iprop(owns (c : Thread nD τ) (ms0 t) fullShare (iblk m c 0 t)
        ∗ owns (c : Thread nD τ) (ms1 t) fullShare (outV (iblk m c 0 t) (wcols c (V m c main_v0) (t.val / 8)))
        ∗ hbPt (F := F) c wbf1 (wcols c (V m c main_v0) (t.val / 8)) ∗ hbPt (F := F) c wbf0 (castIn c (V m c main_v0) (t.val + 8) D)
        ∗ free c (V m c main_v0) (Ring.sl 2 (t.val + 1)) ∗ free c (V m c main_v0) (Ring.sl 2 t.val) ∗ ∃ Ws', owes (c : Thread nD τ) 0 Ws') ⊢ left m c t D := by
  unfold left outAt duo slots
  rw [if_neg hp, if_pos (show t.val + 1 = 96 by omega)]
  rw [show t.val + 1 + 1 = t.val + 2 from rfl, Ring.sl_add 2 t.val]
  try rw [show t.val + 1 + 8 = t.val + 9 from rfl]
  iintro ⟨H0, Hout, Ha, Hb, Hf, Hr, HW⟩
  isplitl [H0]; · iexact H0
  isplitl [Hout]; · iexact Hout
  isplitl [Ha Hb]
  · isplitl [Ha]; · iexact Ha
    iexact Hb
  isplitl [Hf Hr]
  · isplitl [Hf]; · iexact Hf
    iexact Hr
  iexact HW

theorem sound_pre (c : Dev nD) (t : Fin cfg0.N) : bodyPre m c t ⊢ iprop(Phi m c t.val ∗ (∃ Ws : Waits sig Unit, ⌜True⌝ ∗ owes (c : Thread nD τ) 0 Ws)
    ∗ (∃ d : Unit, owns (c : Thread nD τ) (ms0 t) fullShare (iblk m c 0 t))
    ∗ (∃ d, owns (c : Thread nD τ) (ms1 t) fullShare d)) := by
  unfold bodyPre
  simp only [before0]
  rw [Phi_castSucc m c t]
  unfold Dat.owesAt Pipeline.owesWithin
  rw [show (dats m 0 c).owed t.castSucc = 0 from rfl]
  iintro ⟨HP, ⟨%Ws, -, HW⟩, ⟨%d0, H0⟩, ⟨%d1, Hout⟩⟩
  isplitl [HP]; · iexact HP
  isplitl [HW]
  · iexists Ws; isplitr; · ipureintro; trivial
    iexact HW
  isplitl [H0]; · iexists (); iexact H0
  iexists _; iexact Hout

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  refine (sound_pre m c t).trans ?_
  have hN : t.val < 96 := lt_of_lt_of_eq t.isLt (show cfg0.N = 96 from N_0)
  unfold bodyAt0 Phi
  by_cases h0 : t.val = 0
  · rw [if_pos h0]
    have e8 : t.val / 8 = 0 := by omega
    have L := leftE m c t (by omega) (by omega)
    rw [e8] at L
    have hD : ∀ D, Has m c t.val D := fun D y hy => by rw [h0] at hy; exact absurd hy (Nat.not_lt_zero _)
    iintro ⟨⟨⟨%C, HC⟩, ⟨%D, HD⟩, HI, HF, Hg⟩, ⟨%Ws, -, HW⟩, ⟨%d0, H0⟩, ⟨%d1, Hout⟩⟩
    iapply (runF c t _ _ _ _ ((hcond1 t).mpr h0) ((hcond2 t).mpr (by omega)) (fun h => absurd ((hcond3 t).mp h) (by omega)) (fun h => absurd ((hcond4 t).mp h) (by omega)) (iblk m c 0 t) (V m c main_v0) C D (left m c t D) (L D) Ws _)
    isplitl [H0]; · iexact H0
    isplitl [Hout]; · iexists _; iexact Hout
    isplitl [HC]; · iexact HC
    isplitl [HD]; · iexact HD
    isplitl [HI]; · iexact HI
    isplitl [HF]; · iexact HF
    isplitl [HW]; · iexact HW
    iintro HL
    iapply (left_post m c t D (hD D))
    isplitl [HL]; · iexact HL
    iexact Hg
  rw [if_neg h0]
  unfold slots
  rw [if_neg (show ¬t.val = 96 by omega)]
  by_cases hp : t.val % 16 < 8
  · have hl : ¬t.val = 95 := by omega
    simp only [duo, if_pos hp]
    iintro ⟨⟨%D, %hD, ⟨HC, HD⟩, ⟨HI, HF⟩, Hg⟩, ⟨%Ws, -, HW⟩, ⟨%d0, H0⟩, ⟨%d1, Hout⟩⟩
    iapply (runE c t _ _ _ _ (fun h => h0 ((hcond1 t).mp h)) ((hcond2 t).mpr hp) (fun h => absurd ((hcond3 t).mp h) (by omega)) (fun h => hl ((hcond4 t).mp h)) (iblk m c 0 t) (V m c main_v0) (wcols c (V m c main_v0) (t.val / 8)) D (left m c t D) (leftE m c t hp hl D) Ws _)
    isplitl [H0]; · iexact H0
    isplitl [Hout]; · iexists _; iexact Hout
    isplitl [HC]; · iexact HC
    isplitl [HD]; · iexact HD
    isplitl [HI]; · iexact HI
    isplitl [HF]; · iexact HF
    isplitl [HW]; · iexact HW
    iintro HL
    iapply (left_post m c t D hD)
    isplitl [HL]; · iexact HL
    iexact Hg
  · by_cases hl : t.val = 95
    · simp only [duo, if_neg hp]
      iintro ⟨⟨%D, %hD, ⟨HC, HD⟩, ⟨HI, HF⟩, Hg⟩, ⟨%Ws, -, HW⟩, ⟨%d0, H0⟩, ⟨%d1, Hout⟩⟩
      iapply (runL c t _ _ _ _ (fun h => h0 ((hcond1 t).mp h)) (fun h => hp ((hcond2 t).mp h)) ((hcond3 t).mpr (by omega)) ((hcond4 t).mpr hl) (iblk m c 0 t) (V m c main_v0) (wcols c (V m c main_v0) (t.val / 8)) D (left m c t D) (leftL m c t hp hl D) Ws _)
      isplitl [H0]; · iexact H0
      isplitl [Hout]; · iexists _; iexact Hout
      isplitl [HC]; · iexact HC
      isplitl [HD]; · iexact HD
      isplitl [HI]; · iexact HI
      isplitl [HF]; · iexact HF
      isplitl [HW]; · iexact HW
      iintro HL
      iapply (left_post m c t D hD)
      isplitl [HL]; · iexact HL
      iexact Hg
    · simp only [duo, if_neg hp]
      iintro ⟨⟨%D, %hD, ⟨HC, HD⟩, ⟨HI, HF⟩, Hg⟩, ⟨%Ws, -, HW⟩, ⟨%d0, H0⟩, ⟨%d1, Hout⟩⟩
      iapply (runO c t _ _ _ _ (fun h => h0 ((hcond1 t).mp h)) (fun h => hp ((hcond2 t).mp h)) ((hcond3 t).mpr (by omega)) (fun h => hl ((hcond4 t).mp h)) (iblk m c 0 t) (V m c main_v0) (wcols c (V m c main_v0) (t.val / 8)) D (left m c t D) (leftO m c t hp hl D) Ws _)
      isplitl [H0]; · iexact H0
      isplitl [Hout]; · iexists _; iexact Hout
      isplitl [HC]; · iexact HC
      isplitl [HD]; · iexact HD
      isplitl [HI]; · iexact HI
      isplitl [HF]; · iexact HF
      isplitl [HW]; · iexact HW
      iintro HL
      iapply (left_post m c t D hD)
      isplitl [HL]; · iexact HL
      iexact Hg

theorem defs₀_row (t : Fin cfg0.N) :
    defs₀ (F := F) .tc cfg0.body (cfg0.bodyArgs t (cfg0.slots t)) = bodyAt0 t := by
  unfold defs₀; rw [Defs.onTc_tc]

/-- The output is written at every point. -/
theorem idle1 : ∀ t : Fin cfg0.N, cfg0.idle 1 (cfg0.grid.coords t) = false :=
  (by decide +kernel : ∀ t : Fin grid0.N, cfg0.idle 1 (grid0.coords t) = false)

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i1 := idle1 t
  refine triple_restated (sound_body m c t) rfl .rfl fun _ => ?_
  rw [i0, i1]
  exact .rfl

theorem hin (c : Dev nD) : Pipeline.ΦD osem spec0 H0 (V m) c ⊢ (dats m 0 c).Φ 0 := by
  rw [PhiD0_eq, show (dats m 0 c).Φ 0 = Phi m c 0 from rfl]
  unfold Phi
  rw [if_pos rfl]
  iintro ⟨⟨HA, HB, HS⟩, Hg, HC, HW⟩
  ihave HR := (ring_in (F := F) c (V m c main_v0)) $$ [HS HC HW]
  · isplitl [HS]; · iexact HS
    isplitl [HC]; · iexact HC
    iexact HW
  icases HR with ⟨HF0, HF1⟩
  isplitl [HA]; · iexact HA
  isplitl [HB]; · iexact HB
  isplitl [HF0]; · iexact HF0
  isplitl [HF1]; · iexact HF1
  iexact Hg

theorem hout (c : Dev nD) : (dats m 0 c).Φ (Fin.last cfg0.N) ⊢ Pipeline.ΦD osem spec0 H0 (V m) c := by
  rw [PhiD0_eq, show (dats m 0 c).Φ (Fin.last cfg0.N) = Phi m c grid0.N from rfl, show grid0.N = 96 by rw [N_0]]
  unfold Phi slots
  rw [if_neg (by decide), if_pos rfl]
  simp only [duo, if_pos (show 96 % 16 < 8 by decide)]
  rw [show Ring.sl 2 96 = 0 by decide, show Ring.sl 2 (96 + 1) = 1 by decide]
  iintro ⟨%D, -, ⟨HA, HB⟩, HF, Hg⟩
  ihave HR := (ring_out (F := F) c (V m c main_v0)) $$ HF
  icases HR with ⟨HS, HC, HW⟩
  isplitl [HA HB HS]
  · isplitl [HA]; · iexists _; iexact HA
    isplitl [HB]; · iexists _; iexact HB
    iexact HS
  isplitl [Hg]; · iexact Hg
  isplitl [HC]; · iexact HC
  iexact HW

/-! ## The run and the frame -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every semaphore ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_all m ρ)

/-- The run, its output array named. -/
theorem run_out : θ_run defs (onTc (τ := τ) (main (F := F))) ⟨m, fun _ => 0, ρ⟩ (fun r => ∀ c : Dev nD,
      r.2.mem ((c.tc : Thread nD τ).loc main_v1) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 1, ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩) (run_all m ρ)

end Cert.Kernel2Ideal.Own

end
-- ==== Proof.KerVal2.lean ====
module

public import proofs.«01_k».proof.Proof.Frame2
public import Idealize.ShloMosaic.Lib.Pointwise

@[expose] public section

set_option maxRecDepth 16384

noncomputable section

namespace Cert.Kernel2Ideal.Own

open Cert.Kernel2Ideal.Gen
open Idealize.ShloMosaic Idealize.ShloMosaic.TcCoe Idealize.SL Idealize.SL.Sem
open Idealize.ShloMosaic.Pipeline (Dat Cfg Window)

/-! ## The kernel's arithmetic at an index -/

theorem outV_apply (x : FVec Ideal S1024x4096 .bf16) (C : FVec Ideal S1024x4096 .bf16) (r q : Fin 1024) :
    outV (F := Ideal) x C (ix2 r q) = ∑ k : Fin 4096, x (ix2 r k) * C (ix2 q k) := by
  pointwise [outV, k0_pay3]

/-! ## Which part of its array a window's block is -/

variable (m : (ℓ : Loc nD τ sig) → Buf (Elt Ideal) ℓ) (c : Dev nD)

theorem ltN (t : Fin cfg0.N) : t.val < 96 := t.isLt

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

theorem iblk0_apply (t : Fin cfg0.N) (a : Fin 1024) (k : Fin 4096) :
    (iblk m c 0 t : FVec Ideal S1024x4096 .bf16) (ix2 a k)
      = (V m c main_arg0 : FVec Ideal S8192x4096 .bf16) (ix2 ⟨1024 * (t.val % 8) + a.val, by omega⟩ k) := by
  refine congrArg (V m c main_arg0) ?_
  funext x
  apply Fin.ext
  fin_cases x
  · show win0_0.index t 0 * 1024 + 1 * a.val = 1024 * (t.val % 8) + a.val
    rw [(index0 t).1]; omega
  · show win0_0.index t 1 * 4096 + 1 * k.val = k.val
    rw [(index0 t).2]; omega

theorem wcols_apply (W : HbBuf (F := Ideal) c wM) (jj : ℕ) (hj : jj < 12) (q : Fin 1024) (k : Fin 4096) :
    wcols c W jj (ix2 q k) = (W : FVec Ideal S1x12320x4096 .f32) (ix3 0 ⟨1024 * jj + q.val, by omega⟩ k) := by
  show W (wIdx jj (ix2 q k)) = _
  refine congrArg W ?_
  funext x
  apply Fin.ext
  fin_cases x
  · rfl
  · show 1024 * (jj % 12) + q.val = 1024 * jj + q.val
    rw [Nat.mod_eq_of_lt hj]
  · rfl

/-- The weights turned. -/
def turned (W : FVec Ideal S1x4096x12320 .f32) : FVec Ideal S1x12320x4096 .f32 := transpose S1x12320x4096 [0, 2, 1] W transposes_S1x4096x12320_S1x12320x4096_0_2_1
theorem turned_apply (W : FVec Ideal S1x4096x12320 .f32) (n : Fin 12320) (k : Fin 4096) : turned W (ix3 0 n k) = W (ix3 0 k n) := by
  pointwise [turned]
theorem V_main_v0 : V m c main_v0 = turned (m ((c : Thread nD τ).loc main_arg1)) := by
  unfold V
  after_results <;> rfl

/-! ## The output array, block by block -/

theorem index1_inj (t t' : Fin cfg0.N) (h : win0_1.index t = win0_1.index t') : t = t' := by
  have h0 := congrFun h 0
  have h1 := congrFun h 1
  rw [(index1 t).1, (index1 t').1] at h0
  rw [(index1 t).2, (index1 t').2] at h1
  apply Fin.ext; omega

theorem disjoint1 (t t' : Fin cfg0.N) (_ : (cfg0.win 1).flush t = true) (_ : (cfg0.win 1).flush t' = true) (hne : t ≠ t') :
    Disjoint ((cfg0.win 1).blk t).view.set ((cfg0.win 1).blk t').view.set :=
  (cfg0.win 1).disjoint_blk fun h => hne (index1_inj t t' h)

theorem flush1 : ∀ t : Fin cfg0.N, (cfg0.win 1).flush t = true :=
  (by decide +kernel : ∀ t : Fin grid0.N, win0_1.flush t = true)

theorem block1 (t : Fin cfg0.N) (a b : Fin 1024) :
    ((dats m 0 c).arrAt 1 cfg0.N : FVec Ideal S8192x12288 .f32) (ix2 ⟨1024 * (t.val % 8) + a.val, by omega⟩ ⟨1024 * (t.val / 8) + b.val, by have := ltN t; omega⟩)
      = outAt m c t (ix2 a b) := by
  have h := congrFun ((dats m 0 c).read_blk_arrAt_eq_flushed 1 disjoint1 cfg0.N t t.isLt (flush1 t)) (ix2 a b)
  have e : (dats m 0 c).flushed 1 t = (cfg0.win 1).cut (grid0.coords t) (outAt m c t) := by
    show (cfg0.win 1).cut (grid0.coords t) ((dats m 0 c).after 1 t) = _
    rw [after1]
  rw [e] at h
  refine Eq.trans ?_ h
  refine congrArg ((dats m 0 c).arrAt 1 cfg0.N) ?_
  funext x
  apply Fin.ext
  fin_cases x
  · show 1024 * (t.val % 8) + a.val = win0_1.index t 0 * 1024 + 1 * a.val
    rw [(index1 t).1]; omega
  · show 1024 * (t.val / 8) + b.val = win0_1.index t 1 * 1024 + 1 * b.val
    rw [(index1 t).2]; omega

/-- The product at row `r`, column `n`. -/
def value (A : FVec Ideal S8192x4096 .bf16) (W : FVec Ideal S1x4096x12320 .f32) (r : Fin 8192) (n : Fin 12288) : EReal :=
  ∑ k : Fin 4096, A (ix2 r k) * W (ix3 0 k ⟨n.val, by omega⟩)
abbrev valueM (r : Fin 8192) (n : Fin 12288) : EReal := value (m ((c : Thread nD τ).loc main_arg0)) (m ((c : Thread nD τ).loc main_arg1)) r n

theorem outAt_apply (t : Fin cfg0.N) (r q : Fin 1024) :
    outAt m c t (ix2 r q) = valueM m c ⟨1024 * (t.val % 8) + r.val, by omega⟩ ⟨1024 * (t.val / 8) + q.val, by have := ltN t; omega⟩ := by
  have ht := ltN t
  unfold outAt
  rw [outV_apply]
  refine Finset.sum_congr rfl fun k _ => ?_
  rw [iblk0_apply, wcols_apply c _ _ (by omega), V_main_v0, turned_apply, V_main_arg0]

/-- The output array after the run, at an index. -/
theorem out_apply (r : Fin 8192) (q : Fin 12288) :
    ((dats m 0 c).arrAt 1 cfg0.N : FVec Ideal S8192x12288 .f32) (ix2 r q) = valueM m c r q := by
  have hN : cfg0.N = 96 := rfl
  have ht : q.val / 1024 * 8 + r.val / 1024 < cfg0.N := by omega
  have h := (block1 m c ⟨q.val / 1024 * 8 + r.val / 1024, ht⟩ ⟨r.val % 1024, by omega⟩ ⟨q.val % 1024, by omega⟩).trans (outAt_apply m c _ _ _)
  have e1 : 1024 * ((q.val / 1024 * 8 + r.val / 1024) % 8) + r.val % 1024 = r.val := by omega
  have e2 : 1024 * ((q.val / 1024 * 8 + r.val / 1024) / 8) + q.val % 1024 = q.val := by omega
  simp only [e1, e2] at h
  exact h

end Cert.Kernel2Ideal.Own

end
-- ==== Proof.RefVal2.lean ====
module

public import proofs.«01_k».proof.Proof.Gen.Reference2Ideal.Run
public import Idealize.ShloMosaic.Lib.Pointwise

@[expose] public section

set_option maxRecDepth 16384

noncomputable section

namespace Cert.Reference2Ideal.Own

open Cert.Reference2Ideal Cert.Reference2Ideal.Value Cert.Reference2Ideal.Gen
open Idealize.ShloMosaic Idealize.ShloMosaic.TcCoe Idealize.SL Idealize.SL.Sem
open Idealize.ShloMosaic.Pipeline (Dat Cfg Window)

/-- The product, sequence by sequence. -/
def proj (A : FVec Ideal S8192x4096 .bf16) (W : FVec Ideal S1x4096x12320 .f32) : FVec Ideal S2x4096x12320 .f32 :=
  Host.dotGeneral dot_S2x4096x4096_S4096x12320_S2x4096x12320_2_0_01_1_n_n none (shapeCast _ (extf .f32 A bitsLt_bf16_f32) shapeCasts_S8192x4096_S2x4096x4096) (shapeCast _ W shapeCasts_S1x4096x12320_S4096x12320)

/-- Its columns the layer keeps, the sequences one after the other. -/
def kept (Y : FVec Ideal S2x4096x12320 .f32) : FVec Ideal S8192x12288 .f32 :=
  shapeCast _ (extractStridedSlice S2x4096x12288 ![0, 0, 0] Y slices_S2x4096x12320_S2x4096x12288_0_0_0) shapeCasts_S2x4096x12288_S8192x12288

/-- The reference's result, of its arguments. -/
def layer (A : FVec Ideal S8192x4096 .bf16) (W : FVec Ideal S1x4096x12320 .f32) : FVec Ideal S8192x12288 .f32 := kept (proj A W)

theorem proj_apply (A : FVec Ideal S8192x4096 .bf16) (W : FVec Ideal S1x4096x12320 .f32) (b : Fin 2) (t : Fin 4096) (n : Fin 12320) :
    proj A W (ix3 b t n) = ∑ k : Fin 4096, A (ix2 ⟨b.val * 4096 + t.val, by omega⟩ k) * W (ix3 0 k n) := by
  pointwise [proj]

theorem kept_apply (Y : FVec Ideal S2x4096x12320 .f32) (r : Fin 8192) (n : Fin 12288) :
    kept Y (ix2 r n) = Y (ix3 ⟨r.val / 4096, by omega⟩ ⟨r.val % 4096, by omega⟩ ⟨n.val, by omega⟩) := by
  pointwise [kept]

theorem layer_apply (A : FVec Ideal S8192x4096 .bf16) (W : FVec Ideal S1x4096x12320 .f32) (r : Fin 8192) (n : Fin 12288) :
    layer A W (ix2 r n) = ∑ k : Fin 4096, A (ix2 r k) * W (ix3 0 k ⟨n.val, by omega⟩) := by
  have hr : r.val / 4096 * 4096 + r.val % 4096 = r.val := by omega
  refine (kept_apply _ _ _).trans ((proj_apply _ _ _ _ _).trans ?_)
  simp only [hr]

end Cert.Reference2Ideal.Own

end
-- ==== Proof.InClaim.lean ====
module

public import proofs.«01_k».proof.Defs
public import proofs.«01_k».proof.Proof.KerVal2
public import proofs.«01_k».proof.Proof.RefVal2
public import proofs.«01_k».proof.Proof.Quiet
public import proofs.«01_k».proof.Proof.Gen.Reference2Ideal.Run
public import proofs.«01_k».proof.Proof.Gen.Kernel2
public import proofs.«01_k».proof.Proof.Gen.Kernel2.Frame
public import proofs.«01_k».proof.Proof.Gen.Kernel2Ideal
public import proofs.«01_k».proof.Proof.Gen.Reference2Ideal

@[expose] public section

set_option maxRecDepth 16384

noncomputable section

namespace Cert.Proof

open Idealize.ShloMosaic Idealize.SL.Sem

/-- The two printed programs run the same body under the same body table. -/
theorem table_eq2 : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

theorem defs_eq2 : Cert.Kernel2.defs (F := Bits) = Cert.Kernel2Ideal.defs (F := Bits) :=
  congrArg (Pipeline.defs Cert.Kernel2Ideal.pcfgs) table_eq2

theorem quiet_kernel2 : Cert.quiescent_Kernel2 := fun m ρ _ => run_of_eq defs_eq2 (Cert.Kernel2Ideal.Own.quiescent (F := Bits) m ρ)
theorem quiet_ideal2 : Cert.quiescent_Kernel2Ideal := fun m ρ _ => Cert.Kernel2Ideal.Own.quiescent (F := Ideal) m ρ
theorem quiet_reference2 : Cert.quiescent_Reference2Ideal :=
  fun m ρ _ => (θ_run _ _ _).mono (fun r h => ⟨fun c => ⟨(h c).2.1, (h c).2.2⟩, sem_eq_zero_of_no_sems rfl r.2⟩) (Cert.Reference2Ideal.Value.run (F := Ideal) m ρ)

/-- The two programs' results agree, element by element. -/
theorem result_eq2 (x0 : FVec Ideal Cert.Kernel2Ideal.S8192x4096 .bf16) (x1 : FVec Ideal Cert.Kernel2Ideal.S1x4096x12320 .f32)
    (m : (ℓ : Loc Cert.Kernel2Ideal.nD Cert.Kernel2Ideal.τ Cert.Kernel2Ideal.sig) → Buf (Elt Ideal) ℓ) (c : Dev Cert.Kernel2Ideal.nD)
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1)) :
    Cert.Reference2Ideal.Own.layer x0 x1 = ((Cert.Kernel2Ideal.Own.dats m 0 c).arrAt 1 Cert.Kernel2Ideal.cfg0.N : Vec Ideal Cert.Kernel2Ideal.S8192x12288 .f32) := by
  subst h0 h1
  funext y
  idx_vars y
  exact (Cert.Reference2Ideal.Own.layer_apply _ _ _ _).trans (Cert.Kernel2Ideal.Own.out_apply m c _ _).symm

theorem algebraic2 : Cert.algebraic_Kernel2Ideal_Reference2Ideal := fun m g m' g' _ he =>
  ⟨fun c => (Cert.Kernel2Ideal.Own.dats m 0 c).arrAt 1 Cert.Kernel2Ideal.cfg0.N, Cert.Kernel2Ideal.Own.run_out m g,
    (θ_run _ _ _).mono (fun r h c => ⟨(h c).1.trans (result_eq2 _ _ m c (he c).1 (he c).2), (h c).2⟩) (Cert.Reference2Ideal.Value.run (F := Ideal) m' g')⟩

end Cert.Proof

end
-- ==== Proof.Ring3.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Own

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branch conditions over the points -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 16 < 8 :=
  (by decide +kernel : ∀ t : Fin grid0.N, k0_cond2 (grid0.coords t) = 1#1 ↔ t.val % 16 < 8)
theorem hcond3 : ∀ t : Fin cfg0.N, k0_cond3 (grid0.coords t) = 1#1 ↔ 8 ≤ t.val % 16 :=
  (by decide +kernel : ∀ t : Fin grid0.N, k0_cond3 (grid0.coords t) = 1#1 ↔ 8 ≤ t.val % 16)
theorem hcond4 : ∀ t : Fin cfg0.N, k0_cond4 (grid0.coords t) = 1#1 ↔ t.val = 31 :=
  (by decide +kernel : ∀ t : Fin grid0.N, k0_cond4 (grid0.coords t) = 1#1 ↔ t.val = 31)

/-! ## The memrefs -/

abbrev wbf0 : Memref sig .tc .vmem S4096x1024 .bf16 := Memref.whole cc0_scratch0
abbrev wbf1 : Memref sig .tc .vmem S4096x1024 .bf16 := Memref.whole cc0_scratch1
abbrev stg : Memref sig .tc .vmem S2x1x512x1024 .f32 := Memref.whole cc0_scratch2
abbrev wM : Memref sig .tc .hbm S1x4096x4096 .f32 := Memref.whole main_arg1
/-- The contents of a memref's buffer on core `c`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The staging ring: two slots -/

theorem inb_part (s : Fin 2) : ∀ a, (![s.val, 0, 0, 0] : Fin 4 → Nat) a + S1x1x512x1024.size a ≤ S2x1x512x1024.size a := by
  have := s.isLt; intro a; fin_cases a <;> simp <;> omega
theorem inb_src (b : ℕ) : ∀ a, (![0, 512 * (b % 8), 1024 * (b / 8 % 4)] : Fin 3 → Nat) a + S1x512x1024.size a ≤ S1x4096x4096.size a := by
  have := Nat.mod_lt b (by decide : 0 < 8); have := Nat.mod_lt (b / 8) (by decide : 0 < 4)
  intro a; fin_cases a <;> simp <;> omega
theorem inb_cell (s : Fin 2) : ∀ a, (![s.val, 0] : Fin 2 → Nat) a + S1x1.size a ≤ S2x1.size a := by
  have := s.isLt; intro a; fin_cases a <;> simp <;> omega
/-- Slot `s`. -/
def rpart (s : Fin 2) : Memref sig .tc .vmem S512x1024 .f32 :=
  (stg.slice (Rect.unit (s := S2x1x512x1024) ![s.val, 0, 0, 0] S1x1x512x1024.size (inb_part s)) (fun _ => rfl)).squeeze S512x1024 squeezes_S1x1x512x1024_S512x1024
/-- Slab `b` of the weights: part `b mod 8` of the block `b / 8`. -/
def srcB (b : ℕ) : Memref sig .tc .hbm S512x1024 .f32 :=
  (wM.slice (Rect.unit (s := S1x4096x4096) ![0, 512 * (b % 8), 1024 * (b / 8 % 4)] S1x512x1024.size (inb_src b)) (fun _ => rfl)).squeeze S512x1024 squeezes_S1x512x1024_S512x1024
/-- The cell of slot `s`. -/
def cellA (s : Fin 2) : DmaSems sig S_ := (cc0_scratch3.slice (Rect.unit (s := S2x1) ![s.val, 0] S1x1.size (inb_cell s))).squeeze S_ squeezes_S1x1_S_
abbrev cellR (s : Fin 2) : SemLoc sig := SemLoc.dma (cellA s).sem

section Ring
variable (c : Dev nD) (W : HbBuf (F := F) c wM)
/-- The weights are lent by share: one copy for each slot. -/
def qs (s : Fin 2) : PosShare TreeShare := if s.val = 0 then fullShare.left else fullShare.right
abbrev partP (s : Fin 2) (f : HbBuf (F := F) c (rpart s)) : sProp 𝕄 := (rpart s).view.loc (c : Thread nD τ) ↦[(rpart s).view.set]{fullShare} f
abbrev cellP (s : Fin 2) : sProp 𝕄 := semVal ((c : Thread nD τ), cellR s) 0
abbrev srcP (s : Fin 2) (b : ℕ) : sProp 𝕄 := (srcB b).view.loc (c : Thread nD τ) ↦[(srcB b).view.set]{qs s} W
/-- What is left of a copy while slab `b` is lent. -/
def restP (s : Fin 2) (b : ℕ) : sProp 𝕄 := ((c : Thread nD τ).loc main_arg1) ↦[Finset.univ \ (srcB b).view.set]{qs s} W
/-- A copy whole. -/
def wholeP (s : Fin 2) : sProp 𝕄 := ((c : Thread nD τ).loc main_arg1) ↦[Finset.univ]{qs s} W
abbrev landed (s : Fin 2) (b : ℕ) (f : HbBuf (F := F) c (rpart s)) : HbBuf (F := F) c (rpart s) :=
  (rpart s).view.writes (Elt F) f [⟨Rect.whole S512x1024, ReadAs.same.apply ((srcB b).view.read (Elt F) W)⟩]
abbrev flightP (s : Fin 2) (b : ℕ) (f : HbBuf (F := F) c (rpart s)) : sProp 𝕄 :=
  Transfers.Flight countersEmb (c : Thread nD τ) (cellR s) default ((rpart s).view.amount (cellR s))
    iprop(partP c s (landed c W s b f) ∗ srcP c W s b)
/-- Slot `s` in flight with slab `b`; and free. -/
def infl (s : Fin 2) (b : ℕ) : sProp 𝕄 := iprop(∃ f, flightP c W s b f ∗ restP c W s b)
def free (s : Fin 2) : sProp 𝕄 := iprop(cellP c s ∗ (∃ f, partP c s f) ∗ wholeP c W s)
theorem src_split (s : Fin 2) (b : ℕ) : wholeP (F := F) c W s ⊣⊢ iprop(srcP c W s b ∗ restP c W s b) := by
  unfold restP wholeP; exact pointsTo_split_subset (Finset.subset_univ _)
end Ring

/-! ## The body's operands are the ring's slots, slabs and cells -/

section Canon
omit [FloatOps F]
/-- Cells, parts of the stage and slabs of the weights at equal offsets are equal. -/
theorem cell_at {o o' : Fin 2 → Nat} (e : o = o') (h : ∀ a, o a + S1x1.size a ≤ S2x1.size a) (h' : ∀ a, o' a + S1x1.size a ≤ S2x1.size a) :
    (cc0_scratch3.slice (Rect.unit (s := S2x1) o S1x1.size h)).squeeze S_ squeezes_S1x1_S_ = (cc0_scratch3.slice (Rect.unit (s := S2x1) o' S1x1.size h')).squeeze S_ squeezes_S1x1_S_ := by
  subst e; rfl
theorem part_at {o o' : Fin 4 → Nat} (e : o = o') (h : ∀ a, o a + S1x1x512x1024.size a ≤ S2x1x512x1024.size a) (h' : ∀ a, o' a + S1x1x512x1024.size a ≤ S2x1x512x1024.size a) :
    (stg.slice (Rect.unit (s := S2x1x512x1024) o S1x1x512x1024.size h) (fun _ => rfl)).squeeze S512x1024 squeezes_S1x1x512x1024_S512x1024 = (stg.slice (Rect.unit (s := S2x1x512x1024) o' S1x1x512x1024.size h') (fun _ => rfl)).squeeze S512x1024 squeezes_S1x1x512x1024_S512x1024 := by
  subst e; rfl
theorem slab_at {o o' : Fin 3 → Nat} (e : o = o') (h : ∀ a, o a + S1x512x1024.size a ≤ S1x4096x4096.size a) (h' : ∀ a, o' a + S1x512x1024.size a ≤ S1x4096x4096.size a) :
    (wM.slice (Rect.unit (s := S1x4096x4096) o S1x512x1024.size h) (fun _ => rfl)).squeeze S512x1024 squeezes_S1x512x1024_S512x1024 = (wM.slice (Rect.unit (s := S1x4096x4096) o' S1x512x1024.size h') (fun _ => rfl)).squeeze S512x1024 squeezes_S1x512x1024_S512x1024 := by
  subst e; rfl
set_option synthInstance.maxSize 4096 in
theorem coff2 : ∀ t : Fin grid0.N, k0_off2 (grid0.coords t) = ![(Ring.sl 2 t.val).val, 0] := by decide +kernel
@[sl_canon] theorem canon2 (t : Fin grid0.N) (h : k0_cond2 (grid0.coords t) = 1#1) :
    (cc0_scratch3.slice (Rect.unit (s := S2x1) (k0_off2 (grid0.coords t)) S1x1.size (k0_off2_inb (grid0.coords t) h))).squeeze S_ squeezes_S1x1_S_ = cellA (Ring.sl 2 t.val) :=
  cell_at (coff2 t) _ _
set_option synthInstance.maxSize 4096 in
theorem coff3 : ∀ t : Fin grid0.N, k0_off3 (grid0.coords t) = ![(Ring.sl 2 t.val).val, 0, 0, 0] := by decide +kernel
@[sl_canon] theorem canon3 (t : Fin grid0.N) (h : k0_cond2 (grid0.coords t) = 1#1) :
    (stg.slice (Rect.unit (s := S2x1x512x1024) (k0_off3 (grid0.coords t)) S1x1x512x1024.size (k0_off3_inb (grid0.coords t) h)) (fun _ => rfl)).squeeze S512x1024 squeezes_S1x1x512x1024_S512x1024 = rpart (Ring.sl 2 t.val) :=
  part_at (coff3 t) _ _
set_option synthInstance.maxSize 4096 in
theorem coff4 : ∀ t : Fin grid0.N, k0_off4 (grid0.coords t) = ![0, 512 * ((t.val + 8) % 8), 1024 * ((t.val + 8) / 8 % 4)] := by decide +kernel
@[sl_canon] theorem canon4 (t : Fin grid0.N) (h : k0_cond2 (grid0.coords t) = 1#1) :
    (wM.slice (Rect.unit (s := S1x4096x4096) (k0_off4 (grid0.coords t)) S1x512x1024.size (k0_off4_inb (grid0.coords t) h)) (fun _ => rfl)).squeeze S512x1024 squeezes_S1x512x1024_S512x1024 = srcB (t.val + 8) :=
  slab_at (coff4 t) _ _
set_option synthInstance.maxSize 4096 in
theorem coff5 : ∀ t : Fin grid0.N, k0_off5 (grid0.coords t) = ![(Ring.sl 2 (t.val + 1)).val, 0] := by decide +kernel
@[sl_canon] theorem canon5 (t : Fin grid0.N) (h : k0_cond2 (grid0.coords t) = 1#1) :
    (cc0_scratch3.slice (Rect.unit (s := S2x1) (k0_off5 (grid0.coords t)) S1x1.size (k0_off5_inb (grid0.coords t) h))).squeeze S_ squeezes_S1x1_S_ = cellA (Ring.sl 2 (t.val + 1)) :=
  cell_at (coff5 t) _ _
set_option synthInstance.maxSize 4096 in
theorem coff6 : ∀ t : Fin grid0.N, k0_off6 (grid0.coords t) = ![(Ring.sl 2 (t.val + 1)).val, 0, 0, 0] := by decide +kernel
@[sl_canon] theorem canon6 (t : Fin grid0.N) (h : k0_cond2 (grid0.coords t) = 1#1) :
    (stg.slice (Rect.unit (s := S2x1x512x1024) (k0_off6 (grid0.coords t)) S1x1x512x1024.size (k0_off6_inb (grid0.coords t) h)) (fun _ => rfl)).squeeze S512x1024 squeezes_S1x1x512x1024_S512x1024 = rpart (Ring.sl 2 (t.val + 1)) :=
  part_at (coff6 t) _ _
set_option synthInstance.maxSize 4096 in
theorem coff7 : ∀ t : Fin grid0.N, k0_off7 (grid0.coords t) = ![0, 512 * ((t.val + 9) % 8), 1024 * ((t.val + 9) / 8 % 4)] := by decide +kernel
@[sl_canon] theorem canon7 (t : Fin grid0.N) (h : k0_cond2 (grid0.coords t) = 1#1) :
    (wM.slice (Rect.unit (s := S1x4096x4096) (k0_off7 (grid0.coords t)) S1x512x1024.size (k0_off7_inb (grid0.coords t) h)) (fun _ => rfl)).squeeze S512x1024 squeezes_S1x512x1024_S512x1024 = srcB (t.val + 9) :=
  slab_at (coff7 t) _ _
set_option synthInstance.maxSize 4096 in
theorem coff8 : ∀ t : Fin grid0.N, k0_off8 (grid0.coords t) = ![(Ring.sl 2 t.val).val, 0, 0, 0] := by decide +kernel
instance (priority := high) closedOff8 (t : Fin grid0.N) : ClosedOff (k0_off8 (grid0.coords t)) := ⟨![(Ring.sl 2 t.val).val, 0, 0, 0], coff8 t⟩
set_option synthInstance.maxSize 4096 in
theorem coff9 : ∀ t : Fin grid0.N, k0_off9 (grid0.coords t) = ![512 * (t.val % 8), 0] := by decide +kernel
set_option synthInstance.maxSize 4096 in
theorem coff10 : ∀ t : Fin grid0.N, k0_off10 (grid0.coords t) = ![(Ring.sl 2 t.val).val, 0] := by decide +kernel
@[sl_canon] theorem canon10 (t : Fin grid0.N) (h : k0_cond3 (grid0.coords t) = 1#1) :
    (cc0_scratch3.slice (Rect.unit (s := S2x1) (k0_off10 (grid0.coords t)) S1x1.size (k0_off10_inb (grid0.coords t) h))).squeeze S_ squeezes_S1x1_S_ = cellA (Ring.sl 2 t.val) :=
  cell_at (coff10 t) _ _
set_option synthInstance.maxSize 4096 in
theorem coff11 : ∀ t : Fin grid0.N, k0_off11 (grid0.coords t) = ![(Ring.sl 2 t.val).val, 0, 0, 0] := by decide +kernel
@[sl_canon] theorem canon11 (t : Fin grid0.N) (h : k0_cond3 (grid0.coords t) = 1#1) :
    (stg.slice (Rect.unit (s := S2x1x512x1024) (k0_off11 (grid0.coords t)) S1x1x512x1024.size (k0_off11_inb (grid0.coords t) h)) (fun _ => rfl)).squeeze S512x1024 squeezes_S1x1x512x1024_S512x1024 = rpart (Ring.sl 2 t.val) :=
  part_at (coff11 t) _ _
set_option synthInstance.maxSize 4096 in
theorem coff12 : ∀ t : Fin grid0.N, k0_off12 (grid0.coords t) = ![0, 512 * ((t.val + 8) % 8), 1024 * ((t.val + 8) / 8 % 4)] := by decide +kernel
@[sl_canon] theorem canon12 (t : Fin grid0.N) (h : k0_cond3 (grid0.coords t) = 1#1) :
    (wM.slice (Rect.unit (s := S1x4096x4096) (k0_off12 (grid0.coords t)) S1x512x1024.size (k0_off12_inb (grid0.coords t) h)) (fun _ => rfl)).squeeze S512x1024 squeezes_S1x512x1024_S512x1024 = srcB (t.val + 8) :=
  slab_at (coff12 t) _ _
set_option synthInstance.maxSize 4096 in
theorem coff13 : ∀ t : Fin grid0.N, k0_off13 (grid0.coords t) = ![(Ring.sl 2 (t.val + 1)).val, 0] := by decide +kernel
@[sl_canon] theorem canon13 (t : Fin grid0.N) (h : k0_cond3 (grid0.coords t) = 1#1) :
    (cc0_scratch3.slice (Rect.unit (s := S2x1) (k0_off13 (grid0.coords t)) S1x1.size (k0_off13_inb (grid0.coords t) h))).squeeze S_ squeezes_S1x1_S_ = cellA (Ring.sl 2 (t.val + 1)) :=
  cell_at (coff13 t) _ _
set_option synthInstance.maxSize 4096 in
theorem coff14 : ∀ t : Fin grid0.N, k0_off14 (grid0.coords t) = ![(Ring.sl 2 (t.val + 1)).val, 0, 0, 0] := by decide +kernel
@[sl_canon] theorem canon14 (t : Fin grid0.N) (h : k0_cond3 (grid0.coords t) = 1#1) :
    (stg.slice (Rect.unit (s := S2x1x512x1024) (k0_off14 (grid0.coords t)) S1x1x512x1024.size (k0_off14_inb (grid0.coords t) h)) (fun _ => rfl)).squeeze S512x1024 squeezes_S1x1x512x1024_S512x1024 = rpart (Ring.sl 2 (t.val + 1)) :=
  part_at (coff14 t) _ _
set_option synthInstance.maxSize 4096 in
theorem coff15 : ∀ t : Fin grid0.N, k0_off15 (grid0.coords t) = ![0, 512 * ((t.val + 9) % 8), 1024 * ((t.val + 9) / 8 % 4)] := by decide +kernel
@[sl_canon] theorem canon15 (t : Fin grid0.N) (h : k0_cond3 (grid0.coords t) = 1#1) :
    (wM.slice (Rect.unit (s := S1x4096x4096) (k0_off15 (grid0.coords t)) S1x512x1024.size (k0_off15_inb (grid0.coords t) h)) (fun _ => rfl)).squeeze S512x1024 squeezes_S1x512x1024_S512x1024 = srcB (t.val + 9) :=
  slab_at (coff15 t) _ _
set_option synthInstance.maxSize 4096 in
theorem coff16 : ∀ t : Fin grid0.N, k0_off16 (grid0.coords t) = ![(Ring.sl 2 t.val).val, 0, 0, 0] := by decide +kernel
instance (priority := high) closedOff16 (t : Fin grid0.N) : ClosedOff (k0_off16 (grid0.coords t)) := ⟨![(Ring.sl 2 t.val).val, 0, 0, 0], coff16 t⟩
set_option synthInstance.maxSize 4096 in
theorem coff17 : ∀ t : Fin grid0.N, k0_off17 (grid0.coords t) = ![512 * (t.val % 8), 0] := by decide +kernel
set_option synthInstance.maxSize 4096 in
theorem coff18 : ∀ t : Fin grid0.N, k0_off18 (grid0.coords t) = ![(Ring.sl 2 (t.val + 1)).val, 0] := by decide +kernel
@[sl_canon] theorem canon18 (t : Fin grid0.N) (h : k0_cond4 (grid0.coords t) = 1#1) :
    (cc0_scratch3.slice (Rect.unit (s := S2x1) (k0_off18 (grid0.coords t)) S1x1.size (k0_off18_inb (grid0.coords t) h))).squeeze S_ squeezes_S1x1_S_ = cellA (Ring.sl 2 (t.val + 1)) :=
  cell_at (coff18 t) _ _
set_option synthInstance.maxSize 4096 in
theorem coff19 : ∀ t : Fin grid0.N, k0_off19 (grid0.coords t) = ![(Ring.sl 2 (t.val + 1)).val, 0, 0, 0] := by decide +kernel
@[sl_canon] theorem canon19 (t : Fin grid0.N) (h : k0_cond4 (grid0.coords t) = 1#1) :
    (stg.slice (Rect.unit (s := S2x1x512x1024) (k0_off19 (grid0.coords t)) S1x1x512x1024.size (k0_off19_inb (grid0.coords t) h)) (fun _ => rfl)).squeeze S512x1024 squeezes_S1x1x512x1024_S512x1024 = rpart (Ring.sl 2 (t.val + 1)) :=
  part_at (coff19 t) _ _
set_option synthInstance.maxSize 4096 in
theorem coff20 : ∀ t : Fin grid0.N, k0_off20 (grid0.coords t) = ![0, 512 * ((t.val + 9) % 8), 1024 * ((t.val + 9) / 8 % 4)] := by decide +kernel
@[sl_canon] theorem canon20 (t : Fin grid0.N) (h : k0_cond4 (grid0.coords t) = 1#1) :
    (wM.slice (Rect.unit (s := S1x4096x4096) (k0_off20 (grid0.coords t)) S1x512x1024.size (k0_off20_inb (grid0.coords t) h)) (fun _ => rfl)).squeeze S512x1024 squeezes_S1x512x1024_S512x1024 = srcB (t.val + 9) :=
  slab_at (coff20 t) _ _

/-! ## The first point's operands, at literal offsets -/

@[sl_canon] theorem canonS0 :
    (stg.slice (Rect.unit (s := S2x1x512x1024) ![0, 0, 0, 0] S1x1x512x1024.size inb_S2x1x512x1024_S1x1x512x1024_0_0_0_0) (fun _ => rfl)).squeeze S512x1024 squeezes_S1x1x512x1024_S512x1024 = rpart 0 := rfl
@[sl_canon] theorem canonC0 :
    (cc0_scratch3.slice (Rect.unit (s := S2x1) ![0, 0] S1x1.size inb_S2x1_S1x1_0_0)).squeeze S_ squeezes_S1x1_S_ = cellA 0 := rfl
@[sl_canon] theorem canonS1 :
    (stg.slice (Rect.unit (s := S2x1x512x1024) ![1, 0, 0, 0] S1x1x512x1024.size inb_S2x1x512x1024_S1x1x512x1024_1_0_0_0) (fun _ => rfl)).squeeze S512x1024 squeezes_S1x1x512x1024_S512x1024 = rpart 1 := rfl
@[sl_canon] theorem canonC1 :
    (cc0_scratch3.slice (Rect.unit (s := S2x1) ![1, 0] S1x1.size inb_S2x1_S1x1_1_0)).squeeze S_ squeezes_S1x1_S_ = cellA 1 := rfl
theorem coffB0 : k0_off1 0#32 0#32 = ![0, 512 * (0 % 8), 1024 * (0 / 8 % 4)] := by decide +kernel
@[sl_canon] theorem canonB0 (t : Fin grid0.N) (h : k0_cond1 (grid0.coords t) = 1#1) :
    (wM.slice (Rect.unit (s := S1x4096x4096) (k0_off1 0#32 0#32) S1x512x1024.size (k0_off1_inb (grid0.coords t) h 0)) (fun _ => rfl)).squeeze S512x1024 squeezes_S1x512x1024_S512x1024 = srcB 0 :=
  slab_at coffB0 _ _
theorem coffB1 : k0_off1 1#32 1#32 = ![0, 512 * (1 % 8), 1024 * (1 / 8 % 4)] := by decide +kernel
@[sl_canon] theorem canonB1 (t : Fin grid0.N) (h : k0_cond1 (grid0.coords t) = 1#1) :
    (wM.slice (Rect.unit (s := S1x4096x4096) (k0_off1 1#32 1#32) S1x512x1024.size (k0_off1_inb (grid0.coords t) h 1)) (fun _ => rfl)).squeeze S512x1024 squeezes_S1x512x1024_S512x1024 = srcB 1 :=
  slab_at coffB1 _ _
theorem coffB2 : k0_off1 2#32 2#32 = ![0, 512 * (2 % 8), 1024 * (2 / 8 % 4)] := by decide +kernel
@[sl_canon] theorem canonB2 (t : Fin grid0.N) (h : k0_cond1 (grid0.coords t) = 1#1) :
    (wM.slice (Rect.unit (s := S1x4096x4096) (k0_off1 2#32 2#32) S1x512x1024.size (k0_off1_inb (grid0.coords t) h 2)) (fun _ => rfl)).squeeze S512x1024 squeezes_S1x512x1024_S512x1024 = srcB 2 :=
  slab_at coffB2 _ _
theorem coffB3 : k0_off1 3#32 3#32 = ![0, 512 * (3 % 8), 1024 * (3 / 8 % 4)] := by decide +kernel
@[sl_canon] theorem canonB3 (t : Fin grid0.N) (h : k0_cond1 (grid0.coords t) = 1#1) :
    (wM.slice (Rect.unit (s := S1x4096x4096) (k0_off1 3#32 3#32) S1x512x1024.size (k0_off1_inb (grid0.coords t) h 3)) (fun _ => rfl)).squeeze S512x1024 squeezes_S1x512x1024_S512x1024 = srcB 3 :=
  slab_at coffB3 _ _
theorem coffB4 : k0_off1 4#32 4#32 = ![0, 512 * (4 % 8), 1024 * (4 / 8 % 4)] := by decide +kernel
@[sl_canon] theorem canonB4 (t : Fin grid0.N) (h : k0_cond1 (grid0.coords t) = 1#1) :
    (wM.slice (Rect.unit (s := S1x4096x4096) (k0_off1 4#32 4#32) S1x512x1024.size (k0_off1_inb (grid0.coords t) h 4)) (fun _ => rfl)).squeeze S512x1024 squeezes_S1x512x1024_S512x1024 = srcB 4 :=
  slab_at coffB4 _ _
theorem coffB5 : k0_off1 5#32 5#32 = ![0, 512 * (5 % 8), 1024 * (5 / 8 % 4)] := by decide +kernel
@[sl_canon] theorem canonB5 (t : Fin grid0.N) (h : k0_cond1 (grid0.coords t) = 1#1) :
    (wM.slice (Rect.unit (s := S1x4096x4096) (k0_off1 5#32 5#32) S1x512x1024.size (k0_off1_inb (grid0.coords t) h 5)) (fun _ => rfl)).squeeze S512x1024 squeezes_S1x512x1024_S512x1024 = srcB 5 :=
  slab_at coffB5 _ _
theorem coffB6 : k0_off1 6#32 6#32 = ![0, 512 * (6 % 8), 1024 * (6 / 8 % 4)] := by decide +kernel
@[sl_canon] theorem canonB6 (t : Fin grid0.N) (h : k0_cond1 (grid0.coords t) = 1#1) :
    (wM.slice (Rect.unit (s := S1x4096x4096) (k0_off1 6#32 6#32) S1x512x1024.size (k0_off1_inb (grid0.coords t) h 6)) (fun _ => rfl)).squeeze S512x1024 squeezes_S1x512x1024_S512x1024 = srcB 6 :=
  slab_at coffB6 _ _
theorem coffB7 : k0_off1 7#32 7#32 = ![0, 512 * (7 % 8), 1024 * (7 / 8 % 4)] := by decide +kernel
@[sl_canon] theorem canonB7 (t : Fin grid0.N) (h : k0_cond1 (grid0.coords t) = 1#1) :
    (wM.slice (Rect.unit (s := S1x4096x4096) (k0_off1 7#32 7#32) S1x512x1024.size (k0_off1_inb (grid0.coords t) h 7)) (fun _ => rfl)).squeeze S512x1024 squeezes_S1x512x1024_S512x1024 = srcB 7 :=
  slab_at coffB7 _ _
theorem coffB8 : k0_off1 8#32 8#32 = ![0, 512 * (8 % 8), 1024 * (8 / 8 % 4)] := by decide +kernel
@[sl_canon] theorem canonB8 (t : Fin grid0.N) (h : k0_cond1 (grid0.coords t) = 1#1) :
    (wM.slice (Rect.unit (s := S1x4096x4096) (k0_off1 8#32 8#32) S1x512x1024.size (k0_off1_inb (grid0.coords t) h 8)) (fun _ => rfl)).squeeze S512x1024 squeezes_S1x512x1024_S512x1024 = srcB 8 :=
  slab_at coffB8 _ _
end Canon

/-- A copy lent for one slab, once back, is lent for another. -/
theorem src_swap (c : Dev nD) (W : HbBuf (F := F) c wM) (s : Fin 2) (b b' : ℕ) :
    iprop(srcP c W s b ∗ restP c W s b) ⊢ iprop(srcP c W s b' ∗ restP c W s b') :=
  (src_split c W s b).2.trans (src_split c W s b').1

end Cert.Kernel3Ideal.Own

end
-- ==== Proof.Spec3.lean ====
module

public import proofs.«01_k».proof.Proof.Ring3
public import Idealize.ShloMosaic.Lib.ValueLayout
public import Idealize.ShloMosaic.Lib.WritesUnit
public import Idealize.ShloMosaic.Lib.VecWindow
public import Idealize.ShloMosaic.Lib.Pipeline.Value
public import Idealize.ShloMosaic.Lib.Tactic.Stretches

@[expose] public section

set_option maxRecDepth 16384

noncomputable section

namespace Cert.Kernel3Ideal.Own

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## What the buffers hold -/

/-- The index of the weights' element at row `y 0` and column `y 1` of block `jj`. -/
def wIdx (jj : ℕ) (y : S4096x1024.Idx) : S1x4096x4096.Idx :=
  ix3 (⟨0, Nat.one_pos⟩ : Fin 1) ⟨(y 0).val, by
      have h := (y 0).isLt; have : S4096x1024.size 0 = 4096 := rfl; have := Nat.mod_lt jj (by decide : 0 < 4); omega⟩
    ⟨1024 * (jj % 4) + (y 1).val, by
      have h := (y 1).isLt; have : S4096x1024.size 1 = 1024 := rfl; have := Nat.mod_lt jj (by decide : 0 < 4); omega⟩

section Spec
variable (c : Dev nD) (W : HbBuf (F := F) c wM)

/-- Block `jj` of the weights, narrowed. -/
def wcols (jj : ℕ) : Vec F S4096x1024 .bf16 := fun y => FloatOps.truncf .bf16 bitsLt_bf16_f32 (W (wIdx jj y))

/-- The contents after slab `b` is put in: its rows are those of its block. -/
def castIn (b : ℕ) (D : Vec F S4096x1024 .bf16) : Vec F S4096x1024 .bf16 :=
  fun y => if 512 * (b % 8) ≤ (y 0).val ∧ (y 0).val < 512 * (b % 8) + 512 then wcols c W (b / 8) y else D y

/-- The output block of a point. -/
def outV (x : Vec F S1024x4096 .bf16) (C : Vec F S4096x1024 .bf16) (r : Vec F S1024x1024 .f32) : Vec F S1024x1024 .f32 := k0_pay3 x C r

theorem src_read (b : ℕ) (x : S512x1024.Idx) (hi) :
    (srcB b).view.read (Elt F) W x
      = W (wIdx (b / 8) ((Rect.unit (s := S4096x1024) ![512 * (b % 8), 0] S512x1024.size hi).emb x)) := by
  show W ((srcB b).view.emb x) = _
  refine congrArg W ?_
  show (Rect.unit (s := S1x4096x4096) ![0, 512 * (b % 8), 1024 * (b / 8 % 4)] S1x512x1024.size (inb_src b)).emb (Shape.reshapeEquiv _ x) = _
  conv_lhs => rw [eq_ix2 x]
  erw [reshapeEquiv_ix2_1ab]
  funext a
  apply Fin.ext
  fin_cases a
  · show 0 + 1 * 0 = 0
    omega
  · show 512 * (b % 8) + 1 * (x 0).val = 512 * (b % 8) + 1 * (x 0).val
    rfl
  · show 1024 * (b / 8 % 4) + 1 * (x 1).val = 1024 * (b / 8 % 4) + (0 + 1 * (x 1).val)
    omega

/-- A landed slab, read back and narrowed, is its rows of its block. -/
theorem cast_piece (s : Fin 2) (b : ℕ) (f : HbBuf (F := F) c (rpart s)) (L) (off : Fin 4 → ℕ) (inb) (hoff : off = ![s.val, 0, 0, 0]) (hc) (x : S512x1024.Idx) (hi) :
    truncf .bf16 (shapeCast S512x1024 (View.readAt (Elt F) stg.view (Rect.unit (s := S2x1x512x1024) off S1x1x512x1024.size inb).toLoadRect
      ((rpart s).view.writes (Elt F) f (⟨Rect.whole S512x1024, ReadAs.same.apply ((srcB b).view.read (Elt F) W)⟩ :: L))) hc) bitsLt_bf16_f32 x
      = wcols c W (b / 8) ((Rect.unit (s := S4096x1024) ![512 * (b % 8), 0] S512x1024.size hi).emb x) := by
  subst hoff
  show FloatOps.truncf .bf16 bitsLt_bf16_f32 ((rpart s).view.read (Elt F) ((rpart s).view.writes (Elt F) ((rpart s).view.writes (Elt F) f L) [⟨Rect.whole S512x1024, ReadAs.same.apply ((srcB b).view.read (Elt F) W)⟩]) x) = FloatOps.truncf .bf16 bitsLt_bf16_f32 _
  refine congrArg _ ?_
  exact (congrFun (View.read_writes_whole ..) x).trans (src_read c W b x hi)

end Spec

theorem mem_cast (r : ℕ) (inb) (y : S4096x1024.Idx) (h : r ≤ (y 0).val ∧ (y 0).val < r + 512) :
    y ∈ (Rect.unit (s := S4096x1024) ![r, 0] S512x1024.size inb).set :=
  Rect.mem_set_unit.mpr (Fin.forall_fin_two.2 ⟨h, Nat.zero_le _, by have g : (y 1).val < 1024 := (y 1).isLt; show (y 1).val < 0 + 1024; omega⟩)

theorem of_mem_cast (r : ℕ) (inb) (y : S4096x1024.Idx) (h : y ∈ (Rect.unit (s := S4096x1024) ![r, 0] S512x1024.size inb).set) :
    r ≤ (y 0).val ∧ (y 0).val < r + 512 := Rect.mem_set_unit.mp h 0

section Pieces
variable (M : Memref sig .tc .vmem S4096x1024 .bf16) (f : M.view.ty.Contents (Elt F)) (G : Vec F S4096x1024 .bf16)

theorem read_cast1 (r : ℕ) (o : Fin 2 → ℕ) (i) (p : Vec F S512x1024 .bf16) (h0 : o = ![r, 0])
    (e : ∀ x hi, p x = G ((Rect.unit (s := S4096x1024) ![r, 0] S512x1024.size hi).emb x)) (L : List (View.Piece (Elt F) S4096x1024 .bf16)) (y : S4096x1024.Idx) :
    M.view.read (Elt F) (M.view.writes (Elt F) f (⟨Rect.unit (s := S4096x1024) o S512x1024.size i, p⟩ :: L)) y
      = if r ≤ (y 0).val ∧ (y 0).val < r + 512 then G y else M.view.read (Elt F) (M.view.writes (Elt F) f L) y := by
  subst h0
  have key : M.view.writes (Elt F) f (⟨Rect.unit (s := S4096x1024) ![r, 0] S512x1024.size i, p⟩ :: L)
      = M.view.writes (Elt F) (M.view.writes (Elt F) f L) [⟨Rect.unit (s := S4096x1024) ![r, 0] S512x1024.size i, p⟩] := rfl
  rw [key]
  split
  case isTrue h =>
    refine View.read_writes_apply_of_pieces M.view _ G _ ?_ y ?_
    · intro q hq x
      simp only [List.mem_cons, List.not_mem_nil, _root_.or_false] at hq
      subst hq
      exact e x i
    · exact ⟨⟨Rect.unit (s := S4096x1024) ![r, 0] S512x1024.size i, p⟩, by simp, mem_cast r i y h⟩
  case isFalse h =>
    refine View.read_writes_apply_of_forall_not_mem M.view _ y _ ?_
    intro q hq hm
    simp only [List.mem_cons, List.not_mem_nil, _root_.or_false] at hq
    subst hq
    exact h (of_mem_cast r i y hm)
end Pieces

/-! ## The casts' payloads -/

section Pay
theorem pe2 (v : Vec F S1x1x512x1024 .f32) : k0_pay2 v = truncf .bf16 (shapeCast S512x1024 v shapeCasts_S1x1x512x1024_S512x1024) bitsLt_bf16_f32 := shapeCast_self _ _
theorem pe4 (v : Vec F S1x1x512x1024 .f32) : k0_pay4 v = truncf .bf16 (shapeCast S512x1024 v shapeCasts_S1x1x512x1024_S512x1024) bitsLt_bf16_f32 := shapeCast_self _ _
theorem pe6 (v : Vec F S1x1x512x1024 .f32) : k0_pay6 v = truncf .bf16 (shapeCast S512x1024 v shapeCasts_S1x1x512x1024_S512x1024) bitsLt_bf16_f32 := shapeCast_self _ _
theorem pe7 (v : Vec F S1x1x512x1024 .f32) : k0_pay7 v = truncf .bf16 (shapeCast S512x1024 v shapeCasts_S1x1x512x1024_S512x1024) bitsLt_bf16_f32 := shapeCast_self _ _
theorem pe8 (v : Vec F S1x1x512x1024 .f32) : k0_pay8 v = truncf .bf16 (shapeCast S512x1024 v shapeCasts_S1x1x512x1024_S512x1024) bitsLt_bf16_f32 := shapeCast_self _ _
theorem pe9 (v : Vec F S1x1x512x1024 .f32) : k0_pay9 v = truncf .bf16 (shapeCast S512x1024 v shapeCasts_S1x1x512x1024_S512x1024) bitsLt_bf16_f32 := shapeCast_self _ _
theorem pe10 (v : Vec F S1x1x512x1024 .f32) : k0_pay10 v = truncf .bf16 (shapeCast S512x1024 v shapeCasts_S1x1x512x1024_S512x1024) bitsLt_bf16_f32 := shapeCast_self _ _
theorem pe11 (v : Vec F S1x1x512x1024 .f32) : k0_pay11 v = truncf .bf16 (shapeCast S512x1024 v shapeCasts_S1x1x512x1024_S512x1024) bitsLt_bf16_f32 := shapeCast_self _ _
theorem pe12 (v : Vec F S1x1x512x1024 .f32) : k0_pay12 v = truncf .bf16 (shapeCast S512x1024 v shapeCasts_S1x1x512x1024_S512x1024) bitsLt_bf16_f32 := shapeCast_self _ _
theorem pe1 (v : Vec F S1x1x512x1024 .f32) : k0_pay1 (k0_pay13 v) = truncf .bf16 (shapeCast S512x1024 v shapeCasts_S1x1x512x1024_S512x1024) bitsLt_bf16_f32 := shapeCast_self _ _
end Pay

section Whole
theorem ld_arg2 {arg2 : Memref sig .tc .vmem S1024x4096 .bf16} (h : arg2.IsWhole) (x : Vec F S1024x4096 .bf16) (inb) :
    View.readAt (Elt F) arg2.view (Rect.unit (s := S1024x4096) ![0, 0] S1024x4096.size inb).toLoadRect (h.unread x) = x :=
  (View.readAt_full _ _ _).trans (h.read_unread x)
theorem ld_arg4 {arg4 : Memref sig .tc .vmem S1024x1024 .f32} (h : arg4.IsWhole) (x : Vec F S1024x1024 .f32) (inb) :
    View.readAt (Elt F) arg4.view (Rect.unit (s := S1024x1024) ![0, 0] S1024x1024.size inb).toLoadRect (h.unread x) = x :=
  (View.readAt_full _ _ _).trans (h.read_unread x)
variable (c : Dev nD) (W : HbBuf (F := F) c wM)

theorem wread0 (g : HbBuf (F := F) c wbf0) : wbf0.view.read (Elt F) g = g := rfl
/-- Slab `b`, written into buffer 0. -/
theorem writes_castIn0 (b : ℕ) (D : HbBuf (F := F) c wbf0) (o : Fin 2 → ℕ) (i) (p : Vec F S512x1024 .bf16) (v : Vec F S1x1x512x1024 .f32)
    (h0 : o = ![512 * (b % 8), 0])
    (q : p = truncf .bf16 (shapeCast S512x1024 v shapeCasts_S1x1x512x1024_S512x1024) bitsLt_bf16_f32)
    (e : ∀ x hi, truncf .bf16 (shapeCast S512x1024 v shapeCasts_S1x1x512x1024_S512x1024) bitsLt_bf16_f32 x = wcols c W (b / 8) ((Rect.unit (s := S4096x1024) ![512 * (b % 8), 0] S512x1024.size hi).emb x)) :
    wbf0.view.writes (Elt F) D [⟨Rect.unit (s := S4096x1024) o S512x1024.size i, p⟩] = castIn c W b D := by
  funext y
  have h := read_cast1 wbf0 D (wcols c W (b / 8)) (512 * (b % 8)) o i p h0 (fun x hi => (congrFun q x).trans (e x hi)) [] y
  rw [View.writes_nil] at h
  refine (congrFun (wread0 c _) y).symm.trans (h.trans ?_)
  unfold castIn
  rw [wread0]

theorem wread1 (g : HbBuf (F := F) c wbf1) : wbf1.view.read (Elt F) g = g := rfl
/-- Slab `b`, written into buffer 1. -/
theorem writes_castIn1 (b : ℕ) (D : HbBuf (F := F) c wbf1) (o : Fin 2 → ℕ) (i) (p : Vec F S512x1024 .bf16) (v : Vec F S1x1x512x1024 .f32)
    (h0 : o = ![512 * (b % 8), 0])
    (q : p = truncf .bf16 (shapeCast S512x1024 v shapeCasts_S1x1x512x1024_S512x1024) bitsLt_bf16_f32)
    (e : ∀ x hi, truncf .bf16 (shapeCast S512x1024 v shapeCasts_S1x1x512x1024_S512x1024) bitsLt_bf16_f32 x = wcols c W (b / 8) ((Rect.unit (s := S4096x1024) ![512 * (b % 8), 0] S512x1024.size hi).emb x)) :
    wbf1.view.writes (Elt F) D [⟨Rect.unit (s := S4096x1024) o S512x1024.size i, p⟩] = castIn c W b D := by
  funext y
  have h := read_cast1 wbf1 D (wcols c W (b / 8)) (512 * (b % 8)) o i p h0 (fun x hi => (congrFun q x).trans (e x hi)) [] y
  rw [View.writes_nil] at h
  refine (congrFun (wread1 c _) y).symm.trans (h.trans ?_)
  unfold castIn
  rw [wread1]

theorem outV_of {x' x : Vec F S1024x4096 .bf16} {r' r : Vec F S1024x1024 .f32} {C' C : Vec F S4096x1024 .bf16} (hx : x' = x) (hC : C' = C) (hr : r' = r) :
    k0_pay3 x' C' r' = outV x C r := by subst hx hC hr; rfl
theorem outV_of' {x' x : Vec F S1024x4096 .bf16} {r' r : Vec F S1024x1024 .f32} {C' C : Vec F S4096x1024 .bf16} (hx : x' = x) (hC : C' = C) (hr : r' = r) :
    k0_pay5 x' C' r' = outV x C r := by subst hx hC hr; rfl

theorem hbPt_congr {sp : Space} {S : Shape} {e : EltTy} (M : Memref sig .tc sp S e) {f g : HbBuf (F := F) c M} (h : f = g) :
    hbPt (F := F) c M f ⊢ hbPt (F := F) c M g := by subst h; exact .rfl

theorem free_mk (s : Fin 2) (b : ℕ) (f : HbBuf (F := F) c (rpart s)) :
    iprop(cellP (F := F) c s ∗ partP c s f ∗ srcP c W s b ∗ restP c W s b) ⊢ free c W s := by
  unfold free
  iintro ⟨Hc, Hp, Hs, Hr⟩
  isplitl [Hc]; · iexact Hc
  isplitl [Hp]; · iexists f; iexact Hp
  iapply (src_split c W s b).2
  isplitl [Hs]; · iexact Hs
  iexact Hr

theorem infl_mk (s : Fin 2) (b : ℕ) (f : HbBuf (F := F) c (rpart s)) :
    iprop(flightP c W s b f ∗ restP c W s b) ⊢ infl c W s b := by
  unfold infl
  iintro ⟨Hf, Hr⟩
  iexists f
  isplitl [Hf]; · iexact Hf
  iexact Hr

theorem infl_mk' (s : Fin 2) (b : ℕ) (f : HbBuf (F := F) c (rpart s)) (L) :
    iprop(Transfers.Flight countersEmb (c : Thread nD τ) (cellR s) default ((rpart s).view.amount (cellR s))
      iprop(partP c s ((rpart s).view.writes (Elt F) f (⟨Rect.whole S512x1024, ReadAs.same.apply ((srcB b).view.read (Elt F) W)⟩ :: L)) ∗ srcP c W s b) ∗ restP c W s b) ⊢ infl c W s b :=
  infl_mk c W s b ((rpart s).view.writes (Elt F) f L)

theorem infl_first {t : Fin cfg0.N} (ht : t.val = 0) : infl c W 0 8 ⊢ infl c W (Ring.sl 2 t.val) (t.val + 8) := by rw [ht]; exact .rfl
theorem free_first {t : Fin cfg0.N} (ht : t.val = 0) : free c W 1 ⊢ free c W (Ring.sl 2 (t.val + 1)) := by rw [ht]; exact .rfl

/-- The first eight slabs fill a buffer with the first block. -/
theorem writes_pro (C : HbBuf (F := F) c wbf0) (i0 i1 i2 i3 i4 i5 i6 i7) (p0 p1 p2 p3 p4 p5 p6 p7 : Vec F S512x1024 .bf16) (v0 v1 v2 v3 v4 v5 v6 v7 : Vec F S1x1x512x1024 .f32)
    (q0 : p0 = truncf .bf16 (shapeCast S512x1024 v0 shapeCasts_S1x1x512x1024_S512x1024) bitsLt_bf16_f32)
    (e0 : ∀ x hi, truncf .bf16 (shapeCast S512x1024 v0 shapeCasts_S1x1x512x1024_S512x1024) bitsLt_bf16_f32 x = wcols c W (0 / 8) ((Rect.unit (s := S4096x1024) ![512 * (0 % 8), 0] S512x1024.size hi).emb x))
    (q1 : p1 = truncf .bf16 (shapeCast S512x1024 v1 shapeCasts_S1x1x512x1024_S512x1024) bitsLt_bf16_f32)
    (e1 : ∀ x hi, truncf .bf16 (shapeCast S512x1024 v1 shapeCasts_S1x1x512x1024_S512x1024) bitsLt_bf16_f32 x = wcols c W (1 / 8) ((Rect.unit (s := S4096x1024) ![512 * (1 % 8), 0] S512x1024.size hi).emb x))
    (q2 : p2 = truncf .bf16 (shapeCast S512x1024 v2 shapeCasts_S1x1x512x1024_S512x1024) bitsLt_bf16_f32)
    (e2 : ∀ x hi, truncf .bf16 (shapeCast S512x1024 v2 shapeCasts_S1x1x512x1024_S512x1024) bitsLt_bf16_f32 x = wcols c W (2 / 8) ((Rect.unit (s := S4096x1024) ![512 * (2 % 8), 0] S512x1024.size hi).emb x))
    (q3 : p3 = truncf .bf16 (shapeCast S512x1024 v3 shapeCasts_S1x1x512x1024_S512x1024) bitsLt_bf16_f32)
    (e3 : ∀ x hi, truncf .bf16 (shapeCast S512x1024 v3 shapeCasts_S1x1x512x1024_S512x1024) bitsLt_bf16_f32 x = wcols c W (3 / 8) ((Rect.unit (s := S4096x1024) ![512 * (3 % 8), 0] S512x1024.size hi).emb x))
    (q4 : p4 = truncf .bf16 (shapeCast S512x1024 v4 shapeCasts_S1x1x512x1024_S512x1024) bitsLt_bf16_f32)
    (e4 : ∀ x hi, truncf .bf16 (shapeCast S512x1024 v4 shapeCasts_S1x1x512x1024_S512x1024) bitsLt_bf16_f32 x = wcols c W (4 / 8) ((Rect.unit (s := S4096x1024) ![512 * (4 % 8), 0] S512x1024.size hi).emb x))
    (q5 : p5 = truncf .bf16 (shapeCast S512x1024 v5 shapeCasts_S1x1x512x1024_S512x1024) bitsLt_bf16_f32)
    (e5 : ∀ x hi, truncf .bf16 (shapeCast S512x1024 v5 shapeCasts_S1x1x512x1024_S512x1024) bitsLt_bf16_f32 x = wcols c W (5 / 8) ((Rect.unit (s := S4096x1024) ![512 * (5 % 8), 0] S512x1024.size hi).emb x))
    (q6 : p6 = truncf .bf16 (shapeCast S512x1024 v6 shapeCasts_S1x1x512x1024_S512x1024) bitsLt_bf16_f32)
    (e6 : ∀ x hi, truncf .bf16 (shapeCast S512x1024 v6 shapeCasts_S1x1x512x1024_S512x1024) bitsLt_bf16_f32 x = wcols c W (6 / 8) ((Rect.unit (s := S4096x1024) ![512 * (6 % 8), 0] S512x1024.size hi).emb x))
    (q7 : p7 = truncf .bf16 (shapeCast S512x1024 v7 shapeCasts_S1x1x512x1024_S512x1024) bitsLt_bf16_f32)
    (e7 : ∀ x hi, truncf .bf16 (shapeCast S512x1024 v7 shapeCasts_S1x1x512x1024_S512x1024) bitsLt_bf16_f32 x = wcols c W (7 / 8) ((Rect.unit (s := S4096x1024) ![512 * (7 % 8), 0] S512x1024.size hi).emb x))
    : wbf0.view.writes (Elt F) C [⟨Rect.unit (s := S4096x1024) ![3584, 0] S512x1024.size i7, p7⟩, ⟨Rect.unit (s := S4096x1024) ![3072, 0] S512x1024.size i6, p6⟩, ⟨Rect.unit (s := S4096x1024) ![2560, 0] S512x1024.size i5, p5⟩, ⟨Rect.unit (s := S4096x1024) ![2048, 0] S512x1024.size i4, p4⟩, ⟨Rect.unit (s := S4096x1024) ![1536, 0] S512x1024.size i3, p3⟩, ⟨Rect.unit (s := S4096x1024) ![1024, 0] S512x1024.size i2, p2⟩, ⟨Rect.unit (s := S4096x1024) ![512, 0] S512x1024.size i1, p1⟩, ⟨Rect.unit (s := S4096x1024) ![0, 0] S512x1024.size i0, p0⟩]
      = wcols c W 0 := by
  funext y
  have hy : (y 0).val < 4096 := (y 0).isLt
  refine (congrFun (wread0 c _) y).symm.trans ?_
  refine (read_cast1 wbf0 C (wcols c W 0) 3584 _ _ _ rfl (fun x hi => (congrFun q7 x).trans (e7 x hi)) _ y).trans ?_
  by_cases h7 : 3584 ≤ (y 0).val ∧ (y 0).val < 3584 + 512
  · exact if_pos h7
  refine (if_neg h7).trans ?_
  refine (read_cast1 wbf0 C (wcols c W 0) 3072 _ _ _ rfl (fun x hi => (congrFun q6 x).trans (e6 x hi)) _ y).trans ?_
  by_cases h6 : 3072 ≤ (y 0).val ∧ (y 0).val < 3072 + 512
  · exact if_pos h6
  refine (if_neg h6).trans ?_
  refine (read_cast1 wbf0 C (wcols c W 0) 2560 _ _ _ rfl (fun x hi => (congrFun q5 x).trans (e5 x hi)) _ y).trans ?_
  by_cases h5 : 2560 ≤ (y 0).val ∧ (y 0).val < 2560 + 512
  · exact if_pos h5
  refine (if_neg h5).trans ?_
  refine (read_cast1 wbf0 C (wcols c W 0) 2048 _ _ _ rfl (fun x hi => (congrFun q4 x).trans (e4 x hi)) _ y).trans ?_
  by_cases h4 : 2048 ≤ (y 0).val ∧ (y 0).val < 2048 + 512
  · exact if_pos h4
  refine (if_neg h4).trans ?_
  refine (read_cast1 wbf0 C (wcols c W 0) 1536 _ _ _ rfl (fun x hi => (congrFun q3 x).trans (e3 x hi)) _ y).trans ?_
  by_cases h3 : 1536 ≤ (y 0).val ∧ (y 0).val < 1536 + 512
  · exact if_pos h3
  refine (if_neg h3).trans ?_
  refine (read_cast1 wbf0 C (wcols c W 0) 1024 _ _ _ rfl (fun x hi => (congrFun q2 x).trans (e2 x hi)) _ y).trans ?_
  by_cases h2 : 1024 ≤ (y 0).val ∧ (y 0).val < 1024 + 512
  · exact if_pos h2
  refine (if_neg h2).trans ?_
  refine (read_cast1 wbf0 C (wcols c W 0) 512 _ _ _ rfl (fun x hi => (congrFun q1 x).trans (e1 x hi)) _ y).trans ?_
  by_cases h1 : 512 ≤ (y 0).val ∧ (y 0).val < 512 + 512
  · exact if_pos h1
  refine (if_neg h1).trans ?_
  refine (read_cast1 wbf0 C (wcols c W 0) 0 _ _ _ rfl (fun x hi => (congrFun q0 x).trans (e0 x hi)) _ y).trans ?_
  by_cases h0 : 0 ≤ (y 0).val ∧ (y 0).val < 0 + 512
  · exact if_pos h0
  refine (if_neg h0).trans ?_
  omega
end Whole

end Cert.Kernel3Ideal.Own

end
-- ==== Proof.RunE3.lean ====
module

public import proofs.«01_k».proof.Proof.Spec3

@[expose] public section

set_option maxRecDepth 16384

noncomputable section

namespace Cert.Kernel3Ideal.Own

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runE (c : Dev nD) (t : Fin cfg0.N) (arg2 : Memref sig .tc .vmem S1024x4096 .bf16) (harg2 : arg2.IsWhole) (arg4 : Memref sig .tc .vmem S1024x1024 .f32) (harg4 : arg4.IsWhole) (arg5 : Memref sig .tc .vmem S1024x1024 .f32) (harg5 : arg5.IsWhole)
    (hc1 : ¬k0_cond1 (grid0.coords t) = 1#1) (hc2 : k0_cond2 (grid0.coords t) = 1#1) (hc3 : ¬k0_cond3 (grid0.coords t) = 1#1) (hc4 : ¬k0_cond4 (grid0.coords t) = 1#1)
    (x : Vec F S1024x4096 .bf16) (r : Vec F S1024x1024 .f32) (W : HbBuf (F := F) c wM) (C : HbBuf (F := F) c wbf0) (D : HbBuf (F := F) c wbf1) (Q : sProp 𝕄)
    (hQ : iprop(owns (c : Thread nD τ) arg2 fullShare x ∗ owns (c : Thread nD τ) arg4 fullShare r ∗ owns (c : Thread nD τ) arg5 fullShare (outV x C r)
                ∗ hbPt c wbf0 C ∗ hbPt c wbf1 (castIn c W (t.val + 8) D)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare r ∗ (∃ d, owns (c : Thread nD τ) arg5 fullShare d)
            ∗ hbPt c wbf0 C ∗ hbPt c wbf1 D ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_out_proj1 (grid0.coords t) arg2 harg2 (Memref.whole main_arg1) (Memref.isWhole_whole _) arg4 harg4 arg5 harg5 wbf0 (Memref.isWhole_whole _) wbf1 (Memref.isWhole_whole _) stg (Memref.isWhole_whole _) cc0_scratch3) K := by
    intro Ws K
    haveI : Fact (¬k0_cond1 (grid0.coords t) = 1#1) := ⟨hc1⟩
    haveI : Fact (k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    simp only [cc0_out_proj1_eq_skeleton]; unfold cc0_out_proj1_skel
    simp -proj only [k0_part11_eq_skeleton]
    unfold owns infl free
    iintro ⟨⟨%farg2, %hfarg2, Harg2⟩, ⟨%farg4, %hfarg4, Harg4⟩, ⟨%dout, %fout, -, Hout⟩, HC, HD, ⟨%g0, Hf, Hr⟩, ⟨Hc, ⟨%e0, Hs⟩, Hw⟩, HW, Hk⟩
    ihave Hx := (src_split c W (Ring.sl 2 (t.val + 1)) (t.val + 9)).1 $$ Hw
    icases Hx with ⟨Hh, Hq⟩
    obtain rfl := harg2.eq_unread hfarg2
    obtain rfl := harg4.eq_unread hfarg4
    sl_exec (disch := first | sl_exact hc1 | sl_exact hc2 | sl_exact hc3 | sl_exact hc4)
    sl_open_run
    ihave HD := (hbPt_congr c wbf1 (writes_castIn1 c W (t.val + 8) _ _ _ _ _
      ((coff9 t).trans (by rw [Nat.add_mod_right]))
      (pe2 _) (cast_piece c W (Ring.sl 2 t.val) (t.val + 8) _ [] _ _ (coff8 t) _))) $$ HD
    sl_step
    iapply Hk
    iapply hQ
    isplitl [Harg2]
    · unfold owns; iexists _; isplitr
      · ipureintro; exact harg2.read_unread x
      · iexact Harg2
    isplitl [Harg4]
    · unfold owns; iexists _; isplitr
      · ipureintro; exact harg4.read_unread r
      · iexact Harg4
    isplitl [Hout]
    · unfold owns; iexists _; isplitr
      swap; · iexact Hout
      ipureintro
      refine (View.read_writes_full _ _ _ _ _).trans (outV_of ?_ ?_ ?_)
      · exact ld_arg2 harg2 x _
      · exact View.readAt_full _ _ _
      · exact ld_arg4 harg4 r _
    isplitl [HC]; · iexact HC
    isplitl [HD]; · iexact HD
    isplitl [Hc Hq]
    · iapply (infl_mk c W (Ring.sl 2 (t.val + 1)) _ _); isplitl [Hc]; · iexact Hc
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel3Ideal.Own

end
-- ==== Proof.RunO3.lean ====
module

public import proofs.«01_k».proof.Proof.Spec3

@[expose] public section

set_option maxRecDepth 16384

noncomputable section

namespace Cert.Kernel3Ideal.Own

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runO (c : Dev nD) (t : Fin cfg0.N) (arg2 : Memref sig .tc .vmem S1024x4096 .bf16) (harg2 : arg2.IsWhole) (arg4 : Memref sig .tc .vmem S1024x1024 .f32) (harg4 : arg4.IsWhole) (arg5 : Memref sig .tc .vmem S1024x1024 .f32) (harg5 : arg5.IsWhole)
    (hc1 : ¬k0_cond1 (grid0.coords t) = 1#1) (hc2 : ¬k0_cond2 (grid0.coords t) = 1#1) (hc3 : k0_cond3 (grid0.coords t) = 1#1) (hc4 : ¬k0_cond4 (grid0.coords t) = 1#1)
    (x : Vec F S1024x4096 .bf16) (r : Vec F S1024x1024 .f32) (W : HbBuf (F := F) c wM) (C : HbBuf (F := F) c wbf1) (D : HbBuf (F := F) c wbf0) (Q : sProp 𝕄)
    (hQ : iprop(owns (c : Thread nD τ) arg2 fullShare x ∗ owns (c : Thread nD τ) arg4 fullShare r ∗ owns (c : Thread nD τ) arg5 fullShare (outV x C r)
                ∗ hbPt c wbf1 C ∗ hbPt c wbf0 (castIn c W (t.val + 8) D)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare r ∗ (∃ d, owns (c : Thread nD τ) arg5 fullShare d)
            ∗ hbPt c wbf1 C ∗ hbPt c wbf0 D ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_out_proj1 (grid0.coords t) arg2 harg2 (Memref.whole main_arg1) (Memref.isWhole_whole _) arg4 harg4 arg5 harg5 wbf0 (Memref.isWhole_whole _) wbf1 (Memref.isWhole_whole _) stg (Memref.isWhole_whole _) cc0_scratch3) K := by
    intro Ws K
    haveI : Fact (¬k0_cond1 (grid0.coords t) = 1#1) := ⟨hc1⟩
    haveI : Fact (¬k0_cond2 (grid0.coords t) = 1#1) := ⟨hc2⟩
    haveI : Fact (k0_cond3 (grid0.coords t) = 1#1) := ⟨hc3⟩
    haveI : Fact (¬k0_cond4 (grid0.coords t) = 1#1) := ⟨hc4⟩
    simp only [cc0_out_proj1_eq_skeleton]; unfold cc0_out_proj1_skel
    simp -proj only [k0_part12_eq_skeleton]
    unfold owns infl free
    iintro ⟨⟨%farg2, %hfarg2, Harg2⟩, ⟨%farg4, %hfarg4, Harg4⟩, ⟨%dout, %fout, -, Hout⟩, HC, HD, ⟨%g0, Hf, Hr⟩, ⟨Hc, ⟨%e0, Hs⟩, Hw⟩, HW, Hk⟩
    ihave Hx := (src_split c W (Ring.sl 2 (t.val + 1)) (t.val + 9)).1 $$ Hw
    icases Hx with ⟨Hh, Hq⟩
    obtain rfl := harg2.eq_unread hfarg2
    obtain rfl := harg4.eq_unread hfarg4
    sl_exec (disch := first | sl_exact hc1 | sl_exact hc2 | sl_exact hc3 | sl_exact hc4)
    sl_open_run
    ihave HD := (hbPt_congr c wbf0 (writes_castIn0 c W (t.val + 8) _ _ _ _ _
      ((coff17 t).trans (by rw [Nat.add_mod_right]))
      (pe4 _) (cast_piece c W (Ring.sl 2 t.val) (t.val + 8) _ [] _ _ (coff16 t) _))) $$ HD
    sl_step
    iapply Hk
    iapply hQ
    isplitl [Harg2]
    · unfold owns; iexists _; isplitr
      · ipureintro; exact harg2.read_unread x
      · iexact Harg2
    isplitl [Harg4]
    · unfold owns; iexists _; isplitr
      · ipureintro; exact harg4.read_unread r
      · iexact Harg4
    isplitl [Hout]
    · unfold owns; iexists _; isplitr
      swap; · iexact Hout
      ipureintro
      refine (View.read_writes_full _ _ _ _ _).trans (outV_of' ?_ ?_ ?_)
      · exact ld_arg2 harg2 x _
      · exact View.readAt_full _ _ _
      · exact ld_arg4 harg4 r _
    isplitl [HC]; · iexact HC
    isplitl [HD]; · iexact HD
    isplitl [Hc Hq]
    · iapply (infl_mk c W (Ring.sl 2 (t.val + 1)) _ _); isplitl [Hc]; · iexact Hc
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel3Ideal.Own

end
-- ==== Proof.RunL3.lean ====
module

public import proofs.«01_k».proof.Proof.Spec3

@[expose] public section

set_option maxRecDepth 16384

noncomputable section

namespace Cert.Kernel3Ideal.Own

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runL (c : Dev nD) (t : Fin cfg0.N) (arg2 : Memref sig .tc .vmem S1024x4096 .bf16) (harg2 : arg2.IsWhole) (arg4 : Memref sig .tc .vmem S1024x1024 .f32) (harg4 : arg4.IsWhole) (arg5 : Memref sig .tc .vmem S1024x1024 .f32) (harg5 : arg5.IsWhole)
    (hc1 : ¬k0_cond1 (grid0.coords t) = 1#1) (hc2 : ¬k0_cond2 (grid0.coords t) = 1#1) (hc3 : k0_cond3 (grid0.coords t) = 1#1) (hc4 : k0_cond4 (grid0.coords t) = 1#1)
    (x : Vec F S1024x4096 .bf16) (r : Vec F S1024x1024 .f32) (W : HbBuf (F := F) c wM) (C : HbBuf (F := F) c wbf1) (D : HbBuf (F := F) c wbf0) (Q : sProp 𝕄)
    (hQ : iprop(owns (c : Thread nD τ) arg2 fullShare x ∗ owns (c : Thread nD τ) arg4 fullShare r ∗ owns (c : Thread nD τ) arg5 fullShare (outV x C r)
                ∗ hbPt c wbf1 C ∗ hbPt c wbf0 (castIn c W (t.val + 8) D)
                ∗ free c W (Ring.sl 2 (t.val + 1)) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare r ∗ (∃ d, owns (c : Thread nD τ) arg5 fullShare d)
            ∗ hbPt c wbf1 C ∗ hbPt c wbf0 D ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_out_proj1 (grid0.coords t) arg2 harg2 (Memref.whole main_arg1) (Memref.isWhole_whole _) arg4 harg4 arg5 harg5 wbf0 (Memref.isWhole_whole _) wbf1 (Memref.isWhole_whole _) stg (Memref.isWhole_whole _) cc0_scratch3) K := by
    intro Ws K
    haveI : Fact (¬k0_cond1 (grid0.coords t) = 1#1) := ⟨hc1⟩
    haveI : Fact (¬k0_cond2 (grid0.coords t) = 1#1) := ⟨hc2⟩
    haveI : Fact (k0_cond3 (grid0.coords t) = 1#1) := ⟨hc3⟩
    haveI : Fact (k0_cond4 (grid0.coords t) = 1#1) := ⟨hc4⟩
    simp only [cc0_out_proj1_eq_skeleton]; unfold cc0_out_proj1_skel
    simp -proj only [k0_part12_eq_skeleton]
    unfold owns infl free
    iintro ⟨⟨%farg2, %hfarg2, Harg2⟩, ⟨%farg4, %hfarg4, Harg4⟩, ⟨%dout, %fout, -, Hout⟩, HC, HD, ⟨%g0, Hf, Hr⟩, ⟨Hc, ⟨%e0, Hs⟩, Hw⟩, HW, Hk⟩
    ihave Hx := (src_split c W (Ring.sl 2 (t.val + 1)) (t.val + 9)).1 $$ Hw
    icases Hx with ⟨Hh, Hq⟩
    obtain rfl := harg2.eq_unread hfarg2
    obtain rfl := harg4.eq_unread hfarg4
    set_option sl_exec.stopBefore "k0_cond4" in sl_exec (disch := first | sl_exact hc1 | sl_exact hc2 | sl_exact hc3 | sl_exact hc4)
    ihave Hx := (infl_mk c W (Ring.sl 2 (t.val + 1)) (t.val + 9) _) $$ [Hc Hq]
    · isplitl [Hc]; · iexact Hc
      iexact Hq
    unfold infl
    icases Hx with ⟨%u0, Hc, Hq⟩
    sl_exec (disch := first | sl_exact hc1 | sl_exact hc2 | sl_exact hc3 | sl_exact hc4)
    sl_open_run
    ihave HD := (hbPt_congr c wbf0 (writes_castIn0 c W (t.val + 8) _ _ _ _ _
      ((coff17 t).trans (by rw [Nat.add_mod_right]))
      (pe4 _) (cast_piece c W (Ring.sl 2 t.val) (t.val + 8) _ [] _ _ (coff16 t) _))) $$ HD
    sl_step
    iapply Hk
    iapply hQ
    isplitl [Harg2]
    · unfold owns; iexists _; isplitr
      · ipureintro; exact harg2.read_unread x
      · iexact Harg2
    isplitl [Harg4]
    · unfold owns; iexists _; isplitr
      · ipureintro; exact harg4.read_unread r
      · iexact Harg4
    isplitl [Hout]
    · unfold owns; iexists _; isplitr
      swap; · iexact Hout
      ipureintro
      refine (View.read_writes_full _ _ _ _ _).trans (outV_of' ?_ ?_ ?_)
      · exact ld_arg2 harg2 x _
      · exact View.readAt_full _ _ _
      · exact ld_arg4 harg4 r _
    isplitl [HC]; · iexact HC
    isplitl [HD]; · iexact HD
    isplitl [Hc Hc_dst Hc_src Hq]
    · iapply (free_mk c W (Ring.sl 2 (t.val + 1)) _ _)
      isplitl [Hc]; · iexact Hc
      isplitl [Hc_dst]; · iexact Hc_dst
      isplitl [Hc_src]; · iexact Hc_src
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel3Ideal.Own

end
-- ==== Proof.RunF3.lean ====
module

public import proofs.«01_k».proof.Proof.Spec3

@[expose] public section

set_option maxRecDepth 16384

noncomputable section

namespace Cert.Kernel3Ideal.Own

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runF (c : Dev nD) (t : Fin cfg0.N) (arg2 : Memref sig .tc .vmem S1024x4096 .bf16) (harg2 : arg2.IsWhole) (arg4 : Memref sig .tc .vmem S1024x1024 .f32) (harg4 : arg4.IsWhole) (arg5 : Memref sig .tc .vmem S1024x1024 .f32) (harg5 : arg5.IsWhole)
    (hc1 : k0_cond1 (grid0.coords t) = 1#1) (hc2 : k0_cond2 (grid0.coords t) = 1#1) (hc3 : ¬k0_cond3 (grid0.coords t) = 1#1) (hc4 : ¬k0_cond4 (grid0.coords t) = 1#1)
    (x : Vec F S1024x4096 .bf16) (r : Vec F S1024x1024 .f32) (W : HbBuf (F := F) c wM) (C : HbBuf (F := F) c wbf0) (D : HbBuf (F := F) c wbf1) (Q : sProp 𝕄)
    (hQ : iprop(owns (c : Thread nD τ) arg2 fullShare x ∗ owns (c : Thread nD τ) arg4 fullShare r ∗ owns (c : Thread nD τ) arg5 fullShare (outV x (wcols c W 0) r)
                ∗ hbPt c wbf0 (wcols c W 0) ∗ hbPt c wbf1 (castIn c W (t.val + 8) D)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg4 fullShare r ∗ (∃ d, owns (c : Thread nD τ) arg5 fullShare d)
            ∗ hbPt c wbf0 C ∗ hbPt c wbf1 D ∗ free c W 0 ∗ free c W 1 ∗ owes (c : Thread nD τ) 0 Ws
            ∗ (Q -∗ K ⟨⟩))
          ⊢ wp frame (wpE (defs₀ (F := F)) Variants.none c none) Set.univ (cc0_out_proj1 (grid0.coords t) arg2 harg2 (Memref.whole main_arg1) (Memref.isWhole_whole _) arg4 harg4 arg5 harg5 wbf0 (Memref.isWhole_whole _) wbf1 (Memref.isWhole_whole _) stg (Memref.isWhole_whole _) cc0_scratch3) K := by
    intro Ws K
    haveI : Fact (k0_cond1 (grid0.coords t) = 1#1) := ⟨hc1⟩
    haveI : Fact (k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    have ht : t.val = 0 := (hcond1 t).mp hc1
    simp only [cc0_out_proj1_eq_skeleton]; unfold cc0_out_proj1_skel
    simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns free
    iintro ⟨⟨%farg2, %hfarg2, Harg2⟩, ⟨%farg4, %hfarg4, Harg4⟩, ⟨%dout, %fout, -, Hout⟩, HC, HD, ⟨Hc0, ⟨%e0, Hs0⟩, Hw0⟩, ⟨Hc1, ⟨%e1, Hs1⟩, Hw1⟩, HW, Hk⟩
    ihave Hx := (src_split c W 0 0).1 $$ Hw0
    icases Hx with ⟨Hh0, Hk0⟩
    ihave Hx := (src_split c W 1 1).1 $$ Hw1
    icases Hx with ⟨Hh1, Hk1⟩
    obtain rfl := harg2.eq_unread hfarg2
    obtain rfl := harg4.eq_unread hfarg4
    sl_exec (disch := first | sl_exact hc1 | sl_exact hc2 | sl_exact hc3 | sl_exact hc4)
    ihave Hx := (src_swap c W 0 0 2) $$ [Hh0 Hk0]
    · isplitl [Hh0]; · iexact Hh0
      iexact Hk0
    icases Hx with ⟨Hh0, Hk0⟩
    sl_exec (disch := first | sl_exact hc1 | sl_exact hc2 | sl_exact hc3 | sl_exact hc4)
    ihave Hx := (src_swap c W 1 1 3) $$ [Hh1 Hk1]
    · isplitl [Hh1]; · iexact Hh1
      iexact Hk1
    icases Hx with ⟨Hh1, Hk1⟩
    sl_exec (disch := first | sl_exact hc1 | sl_exact hc2 | sl_exact hc3 | sl_exact hc4)
    ihave Hx := (src_swap c W 0 2 4) $$ [Hh0 Hk0]
    · isplitl [Hh0]; · iexact Hh0
      iexact Hk0
    icases Hx with ⟨Hh0, Hk0⟩
    sl_exec (disch := first | sl_exact hc1 | sl_exact hc2 | sl_exact hc3 | sl_exact hc4)
    ihave Hx := (src_swap c W 1 3 5) $$ [Hh1 Hk1]
    · isplitl [Hh1]; · iexact Hh1
      iexact Hk1
    icases Hx with ⟨Hh1, Hk1⟩
    sl_exec (disch := first | sl_exact hc1 | sl_exact hc2 | sl_exact hc3 | sl_exact hc4)
    ihave Hx := (src_swap c W 0 4 6) $$ [Hh0 Hk0]
    · isplitl [Hh0]; · iexact Hh0
      iexact Hk0
    icases Hx with ⟨Hh0, Hk0⟩
    sl_exec (disch := first | sl_exact hc1 | sl_exact hc2 | sl_exact hc3 | sl_exact hc4)
    ihave Hx := (src_swap c W 1 5 7) $$ [Hh1 Hk1]
    · isplitl [Hh1]; · iexact Hh1
      iexact Hk1
    icases Hx with ⟨Hh1, Hk1⟩
    sl_exec (disch := first | sl_exact hc1 | sl_exact hc2 | sl_exact hc3 | sl_exact hc4)
    ihave Hx := (src_swap c W 0 6 8) $$ [Hh0 Hk0]
    · isplitl [Hh0]; · iexact Hh0
      iexact Hk0
    icases Hx with ⟨Hh0, Hk0⟩
    set_option sl_exec.stopBefore "k0_part11" in sl_exec (disch := first | sl_exact hc1 | sl_exact hc2 | sl_exact hc3 | sl_exact hc4)
    sl_open_run
    ihave HC := (hbPt_congr c wbf0 (writes_pro c W _ _ _ _ _ _ _ _ _ _ _ _ _ _ _ _ _ _ _ _ _ _ _ _ _
      (pe6 _) (cast_piece c W 0 0 _ _ ![0, 0, 0, 0] _ rfl _)
      (pe7 _) (cast_piece c W 1 1 _ _ ![1, 0, 0, 0] _ rfl _)
      (pe8 _) (cast_piece c W 0 2 _ _ ![0, 0, 0, 0] _ rfl _)
      (pe9 _) (cast_piece c W 1 3 _ _ ![1, 0, 0, 0] _ rfl _)
      (pe10 _) (cast_piece c W 0 4 _ _ ![0, 0, 0, 0] _ rfl _)
      (pe11 _) (cast_piece c W 1 5 _ _ ![1, 0, 0, 0] _ rfl _)
      (pe12 _) (cast_piece c W 0 6 _ _ ![0, 0, 0, 0] _ rfl _)
      (pe1 _) (cast_piece c W 1 7 _ _ ![1, 0, 0, 0] _ rfl _))) $$ HC
    ihave Hi : infl c W 0 8 $$ [Hc0 Hk0]
    · iapply (infl_mk' c W 0 8 _ _); isplitl [Hc0]; · iexact Hc0
      iexact Hk0
    ihave Hj : free c W 1 $$ [Hc1 Hs1 Hh1 Hk1]
    · iapply (free_mk c W 1 7 _)
      isplitl [Hc1]; · iexact Hc1
      isplitl [Hs1]; · iexact Hs1
      isplitl [Hh1]; · iexact Hh1
      iexact Hk1
    ihave Hi := (infl_first c W ht) $$ Hi
    ihave Hj := (free_first c W ht) $$ Hj
    unfold infl free
    icases Hi with ⟨%g0, Hf, Hr⟩
    icases Hj with ⟨Hc, ⟨%e2, Hs⟩, Hw⟩
    ihave Hx := (src_split c W (Ring.sl 2 (t.val + 1)) (t.val + 9)).1 $$ Hw
    icases Hx with ⟨Hh, Hq⟩
    sl_exec (disch := first | sl_exact hc1 | sl_exact hc2 | sl_exact hc3 | sl_exact hc4)
    sl_open_run
    ihave HD := (hbPt_congr c wbf1 (writes_castIn1 c W (t.val + 8) _ _ _ _ _
      ((coff9 t).trans (by rw [Nat.add_mod_right]))
      (pe2 _) (cast_piece c W (Ring.sl 2 t.val) (t.val + 8) _ [] _ _ (coff8 t) _))) $$ HD
    sl_step
    iapply Hk
    iapply hQ
    isplitl [Harg2]
    · unfold owns; iexists _; isplitr
      · ipureintro; exact harg2.read_unread x
      · iexact Harg2
    isplitl [Harg4]
    · unfold owns; iexists _; isplitr
      · ipureintro; exact harg4.read_unread r
      · iexact Harg4
    isplitl [Hout]
    · unfold owns; iexists _; isplitr
      swap; · iexact Hout
      ipureintro
      refine (View.read_writes_full _ _ _ _ _).trans (outV_of ?_ ?_ ?_)
      · exact ld_arg2 harg2 x _
      · exact View.readAt_full _ _ _
      · exact ld_arg4 harg4 r _
    isplitl [HC]; · iexact HC
    isplitl [HD]; · iexact HD
    isplitl [Hc Hq]
    · iapply (infl_mk c W (Ring.sl 2 (t.val + 1)) _ _); isplitl [Hc]; · iexact Hc
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel3Ideal.Own

end
-- ==== Proof.Frame3.lean ====
module

public import proofs.«01_k».proof.Proof.RunE3
public import proofs.«01_k».proof.Proof.RunO3
public import proofs.«01_k».proof.Proof.RunL3
public import proofs.«01_k».proof.Proof.RunF3
public import proofs.«01_k».proof.Proof.Gen.Kernel3Ideal.Frame
public import Idealize.ShloMosaic.Lib.Ring.AtN
public import Idealize.ShloMosaic.Lib.Claim

@[expose] public section

set_option maxRecDepth 16384

noncomputable section

namespace Cert.Kernel3Ideal.Own

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The stage buffer is its two slots; the weights' copies -/

abbrev partSet (k : Fin 2) : Finset S2x1x512x1024.Idx := (Rect.unit (s := S2x1x512x1024) ![k.val, 0, 0, 0] S1x1x512x1024.size (inb_part k)).set
theorem partSet_eq (k : Fin 2) : (rpart k).view.set = partSet k := by
  simp only [rpart, Memref.view_squeeze, View.set_reshape]; exact View.set_slice_whole _ _
theorem parts_disjoint (k k' : Fin 2) (h : k ≠ k') : Disjoint (partSet k) (partSet k') := by
  rw [Finset.disjoint_left]
  intro i hi hi'
  have h0 := (Rect.mem_set_unit.mp hi) 0
  have h0' := (Rect.mem_set_unit.mp hi') 0
  have e0 : (S1x1x512x1024.size 0) = 1 := rfl
  simp only [Matrix.cons_val_zero] at h0 h0'
  exact h (Fin.ext (by omega))
theorem parts_cover : Finset.univ.biUnion partSet = Finset.univ := by
  ext i
  simp only [Finset.mem_biUnion, Finset.mem_univ, true_and, iff_true]
  have b0 : (i 0).val < 2 := (i 0).isLt
  have b1 : (i 1).val < 1 := (i 1).isLt
  have b2 : (i 2).val < 512 := (i 2).isLt
  have b3 : (i 3).val < 1024 := (i 3).isLt
  refine ⟨⟨(i 0).val, by omega⟩, Rect.mem_set_unit.mpr fun a => ?_⟩
  fin_cases a
  · show (i 0).val ≤ (i 0).val ∧ (i 0).val < (i 0).val + 1; omega
  · show 0 ≤ (i 1).val ∧ (i 1).val < 0 + 1; omega
  · show 0 ≤ (i 2).val ∧ (i 2).val < 0 + 512; omega
  · show 0 ≤ (i 3).val ∧ (i 3).val < 0 + 1024; omega

section InOut
variable (c : Dev nD) (W : HbBuf (F := F) c wM)
theorem partP_eq (k : Fin 2) (f : Buf (Elt F) ((c : Thread nD τ).loc cc0_scratch2)) :
    partP (F := F) c k f = (((c : Thread nD τ).loc cc0_scratch2) ↦[partSet k]{fullShare} f : sProp 𝕄) := by
  unfold partP; rw [partSet_eq]; rfl
/-- The two slots, each at some contents. -/
def parts : sProp 𝕄 := iprop((∃ f, partP (F := F) c 0 f) ∗ (∃ f, partP (F := F) c 1 f))
theorem parts_in : iprop(∃ f, hbPt (F := F) c stg f) ⊢ parts (F := F) c :=
  Ring.slots_split_n (U := Pipeline.UD sig nD τ) (ℓ := (c : Thread nD τ).loc cc0_scratch2) (q := fullShare) partSet parts_disjoint parts_cover
    [0, 1] (by decide) (by decide) (fun k f => partP (F := F) c k f) (fun k f => partP_eq c k f)
theorem parts_out : parts (F := F) c ⊢ iprop(∃ f, hbPt (F := F) c stg f) :=
  Ring.slots_join_n (U := Pipeline.UD sig nD τ) (ℓ := (c : Thread nD τ).loc cc0_scratch2) (q := fullShare) partSet parts_disjoint parts_cover
    [0, 1] (by decide) (by decide) (fun k f => partP (F := F) c k f) (fun k f => partP_eq c k f)

theorem whole2 : (hbPt c wM W : sProp 𝕄) ⊣⊢ iprop(wholeP (F := F) c W 0 ∗ wholeP c W 1) :=
  pointsTo_share (PosShare.mem_left_op_right fullShare)

/-- The cells at zero. -/
def cells : sProp 𝕄 := iprop(cellP (F := F) c 0 ∗ cellP c 1)

theorem ring_in : iprop((∃ f, hbPt (F := F) c stg f) ∗ cells c ∗ hbPt c wM W) ⊢ iprop(free c W 0 ∗ free c W 1) := by
  unfold cells
  iintro ⟨HS, ⟨C0, C1⟩, HW⟩
  ihave HS := (parts_in (F := F) c) $$ HS
  unfold parts
  icases HS with ⟨P0, P1⟩
  ihave HW := (whole2 c W).1 $$ HW
  icases HW with ⟨A0, A1⟩
  unfold free
  isplitl [C0 P0 A0]
  · isplitl [C0]; · iexact C0
    isplitl [P0]; · iexact P0
    iexact A0
  isplitl [C1]; · iexact C1
  isplitl [P1]; · iexact P1
  iexact A1

theorem ring_out : iprop(free c W 0 ∗ free c W 1) ⊢ iprop((∃ f, hbPt (F := F) c stg f) ∗ cells c ∗ hbPt c wM W) := by
  unfold free
  iintro ⟨⟨C0, P0, A0⟩, ⟨C1, P1, A1⟩⟩
  isplitl [P0 P1]
  · iapply (parts_out (F := F) c)
    unfold parts
    isplitl [P0]; · iexact P0
    iexact P1
  isplitl [C0 C1]
  · unfold cells
    isplitl [C0]; · iexact C0
    iexact C1
  iapply (whole2 c W).2
  isplitl [A0]; · iexact A0
  iexact A1
end InOut

/-! ## The launch's own semaphores and the array left where it is -/

abbrev osem : Fin 2 → SemLoc sig := fun j => (![SemLoc.dma 6, SemLoc.dma 7] : Fin 2 → SemLoc sig) j
theorem ownSemFacts : Pipeline.OwnSemFacts spec0 osem := by decide
theorem osem_cell : ∀ k : Fin 2, cellR k = osem k := by decide
theorem ownSems0_eq (c : Dev nD) :
    (Pipeline.ownSems0 (Ix := Unit) (Name := ℕ) (U := Pipeline.UD sig nD τ) (Lvl := ℕ) (Val := Elt F) (τ := τ) osem c : sProp 𝕄) = cells (F := F) c := by
  have e : ∀ k : Fin 2, (semVal ((c : Thread nD τ), osem k) 0 : sProp 𝕄) = cellP (F := F) c k := fun k => by rw [← osem_cell k]
  rw [Pipeline.ownSems0_eq_of_list c osem [0, 1] (by decide) (by decide)]
  unfold cells
  refine Eq.trans (show _ = iprop(semVal ((c : Thread nD τ), osem 0) 0 ∗ semVal ((c : Thread nD τ), osem 1) 0) from rfl) ?_
  rw [e 0, e 1]
def H0 : Finset (Ref sig .tc) := {main_arg1}
theorem H0_sub : H0 ⊆ Pipeline.restRefs sig spec0 := by decide

variable (m : (ℓ : Loc nD τ sig) → Buf (Elt F) ℓ) (ρ : Dev nD → PrngReg)

theorem hbmPts0_eq (c : Dev nD) :
    (bigSep H0 (fun b => ((c : Thread nD τ).loc b) ↦{fullShare} V m c b) : sProp 𝕄) = iprop(hbPt c wM (V m c main_arg1)) := by
  rw [BI.bigSep_eq_bigSepL_of_eq [main_arg1] (by decide) (by decide)]; rfl

theorem PhiD0_eq (c : Dev nD) :
    (Pipeline.ΦD osem spec0 H0 (V m) c : sProp 𝕄)
      = iprop(iprop((∃ f, hbPt (F := F) c wbf0 f) ∗ (∃ f, hbPt (F := F) c wbf1 f) ∗ (∃ f, hbPt (F := F) c stg f)) ∗ (∃ r, prngReg c r) ∗ cells (F := F) c ∗ iprop(hbPt c wM (V m c main_arg1))) := by
  rw [Pipeline.ΦD_eq, scopedRest0_eq, ownSems0_eq, hbmPts0_eq]; try rfl

/-! ## What the buffers hold before each point -/

/-- The other buffer holds the first `k mod 8` parts of the next block. -/
def Has (c : Dev nD) (k : ℕ) (D : Vec F S4096x1024 .bf16) : Prop :=
  ∀ y, (y 0).val < 512 * (k % 8) → D y = wcols c (V m c main_arg1) (k / 8 + 1) y

/-- The two buffers, by the parity of the block. -/
def duo (c : Dev nD) (n : ℕ) (A B : Vec F S4096x1024 .bf16) : sProp 𝕄 :=
  if n % 16 < 8 then iprop(hbPt (F := F) c wbf0 A ∗ hbPt (F := F) c wbf1 B) else iprop(hbPt (F := F) c wbf1 A ∗ hbPt (F := F) c wbf0 B)

theorem duo_swap (c : Dev nD) (n : ℕ) (A B : Vec F S4096x1024 .bf16) (h : n % 8 = 7) : duo (F := F) c n A B ⊢ duo (F := F) c (n + 1) B A := by
  unfold duo
  by_cases hp : n % 16 < 8
  · rw [if_pos hp, if_neg (show ¬(n + 1) % 16 < 8 by omega)]
    iintro ⟨Ha, Hb⟩
    isplitl [Hb]; · iexact Hb
    iexact Ha
  · rw [if_neg hp, if_pos (show (n + 1) % 16 < 8 by omega)]
    iintro ⟨Ha, Hb⟩
    isplitl [Hb]; · iexact Hb
    iexact Ha
theorem duo_keep (c : Dev nD) (n : ℕ) (A B : Vec F S4096x1024 .bf16) (h : ¬n % 8 = 7) : duo (F := F) c n A B ⊢ duo (F := F) c (n + 1) A B := by
  unfold duo
  by_cases hp : n % 16 < 8
  · rw [if_pos hp, if_pos (show (n + 1) % 16 < 8 by omega)]
  · rw [if_neg hp, if_neg (show ¬(n + 1) % 16 < 8 by omega)]

/-- The staging slots before point `k`. -/
def slots (c : Dev nD) (k : ℕ) : sProp 𝕄 :=
  if k = 32 then iprop(free c (V m c main_arg1) (Ring.sl 2 k) ∗ free c (V m c main_arg1) (Ring.sl 2 (k + 1)))
  else iprop(infl c (V m c main_arg1) (Ring.sl 2 k) (k + 8) ∗ free c (V m c main_arg1) (Ring.sl 2 (k + 1)))

/-- What the kernel holds before point `k`. -/
def Phi (c : Dev nD) (k : ℕ) : sProp 𝕄 :=
  if k = 0 then iprop((∃ f, hbPt (F := F) c wbf0 f) ∗ (∃ f, hbPt (F := F) c wbf1 f) ∗ free c (V m c main_arg1) 0 ∗ free c (V m c main_arg1) 1 ∗ (∃ r, prngReg c r))
  else iprop(∃ D, ⌜Has m c k D⌝ ∗ duo c k (wcols c (V m c main_arg1) (k / 8)) D ∗ slots m c k ∗ (∃ r, prngReg c r))

theorem castIn_has (c : Dev nD) (t : ℕ) (D : Vec F S4096x1024 .bf16) (h : Has m c t D) (y) (hy : (y 0).val < 512 * (t % 8 + 1)) :
    castIn c (V m c main_arg1) (t + 8) D y = wcols c (V m c main_arg1) (t / 8 + 1) y := by
  unfold castIn
  have e1 : (t + 8) % 8 = t % 8 := by omega
  have e2 : (t + 8) / 8 = t / 8 + 1 := by omega
  rw [e1, e2]
  split
  · rfl
  · exact h y (by omega)

/-- After a point the invariant holds before the next. -/
theorem step (c : Dev nD) (t : Fin cfg0.N) (D : Vec F S4096x1024 .bf16) (h : Has m c t.val D) :
    iprop(duo (F := F) c t.val (wcols c (V m c main_arg1) (t.val / 8)) (castIn c (V m c main_arg1) (t.val + 8) D)
      ∗ slots m c (t.val + 1) ∗ (∃ r, prngReg c r)) ⊢ Phi m c (t.val + 1) := by
  unfold Phi
  rw [if_neg (Nat.succ_ne_zero _)]
  by_cases h7 : t.val % 8 = 7
  · have e : castIn c (V m c main_arg1) (t.val + 8) D = wcols c (V m c main_arg1) ((t.val + 1) / 8) := by
      funext y
      have hy : (y 0).val < 4096 := (y 0).isLt
      rw [castIn_has m c t.val D h y (by omega), show (t.val + 1) / 8 = t.val / 8 + 1 by omega]
    rw [e]
    iintro ⟨HD, HS, Hg⟩
    iexists (wcols c (V m c main_arg1) (t.val / 8))
    isplitr
    · ipureintro; intro y hy; omega
    isplitl [HD]
    · iapply (duo_swap (F := F) c t.val _ _ h7); iexact HD
    isplitl [HS]; · iexact HS
    iexact Hg
  · have e : (t.val + 1) / 8 = t.val / 8 := by omega
    rw [e]
    iintro ⟨HD, HS, Hg⟩
    iexists (castIn c (V m c main_arg1) (t.val + 8) D)
    isplitr
    · ipureintro; intro y hy
      rw [e]; exact castIn_has m c t.val D h y (by omega)
    isplitl [HD]
    · iapply (duo_keep (F := F) c t.val _ _ h7); iexact HD
    isplitl [HS]; · iexact HS
    iexact Hg

/-! ## The pipeline's proof data -/

/-- The output block of point `t`. -/
def outAt (c : Dev nD) (t : Fin cfg0.N) : Vec F S1024x1024 .f32 :=
  outV (iblk m c 0 t) (wcols c (V m c main_arg1) (t.val / 8)) (iblk m c 1 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.val_castSucc]
theorem Phi_succ (c : Dev nD) (t : Fin cfg0.N) : (dats m 0 c).Φ t.succ = Phi m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0 (c : Dev nD) (t : Fin cfg0.N) (d) : (dats m 0 c).before 0 t d = iblk m c 0 t :=
  before0_of m (dats m 0 c) (A_eq m c 0) (after0 m c) t d
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1 (c : Dev nD) (t : Fin cfg0.N) (d) : (dats m 0 c).before 1 t d = iblk m c 1 t :=
  before1_of m (dats m 0 c) (A_eq m c 1) (after1 m c) t d
abbrev ms0 (t : Fin cfg0.N) : Memref sig .tc .vmem S1024x4096 .bf16 := win0_0.stage (cfg0.slots t 0)
abbrev ms1 (t : Fin cfg0.N) : Memref sig .tc .vmem S1024x1024 .f32 := win0_1.stage (cfg0.slots t 1)
abbrev ms2 (t : Fin cfg0.N) : Memref sig .tc .vmem S1024x1024 .f32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- What a run hands back, less the buffers' names: enough for the point's post. -/
def left (c : Dev nD) (t : Fin cfg0.N) (D : Vec F S4096x1024 .bf16) : sProp 𝕄 :=
  iprop(owns (c : Thread nD τ) (ms0 t) fullShare (iblk m c 0 t) ∗ owns (c : Thread nD τ) (ms1 t) fullShare (iblk m c 1 t) ∗ owns (c : Thread nD τ) (ms2 t) fullShare (outAt m c t)
    ∗ duo (F := F) c t.val (wcols c (V m c main_arg1) (t.val / 8)) (castIn c (V m c main_arg1) (t.val + 8) D)
    ∗ slots m c (t.val + 1) ∗ ∃ Ws', owes (c : Thread nD τ) 0 Ws')

theorem left_post (c : Dev nD) (t : Fin cfg0.N) (D : Vec F S4096x1024 .bf16) (h : Has m c t.val D) :
    iprop(left m c t D ∗ ∃ r, prngReg c r) ⊢ bodyPost m c t := by
  unfold left bodyPost
  rw [Phi_succ m c t, after0, after1, after2]
  unfold Dat.owesAt Pipeline.owesWithin
  rw [show (dats m 0 c).owed t.succ = 0 from rfl]
  iintro ⟨⟨H0, H1, Hout, HD, HS, ⟨%Ws, HW⟩⟩, Hg⟩
  isplitl [HD HS Hg]
  · iapply (step m c t D h)
    isplitl [HD]; · iexact HD
    isplitl [HS]; · iexact HS
    iexact Hg
  isplitl [HW]
  · iexists Ws; isplitr; · ipureintro; exact fun _ _ => Or.inl trivial
    iexact HW
  isplitl [H0]; · iexact H0
  isplitl [H1]; · iexact H1
  iexact Hout

theorem leftE (c : Dev nD) (t : Fin cfg0.N) (hp : t.val % 16 < 8) (hl : ¬t.val = 31) (D : Vec F S4096x1024 .bf16) :
    iprop(owns (c : Thread nD τ) (ms0 t) fullShare (iblk m c 0 t) ∗ owns (c : Thread nD τ) (ms1 t) fullShare (iblk m c 1 t)
        ∗ owns (c : Thread nD τ) (ms2 t) fullShare (outV (iblk m c 0 t) (wcols c (V m c main_arg1) (t.val / 8)) (iblk m c 1 t))
        ∗ hbPt (F := F) c wbf0 (wcols c (V m c main_arg1) (t.val / 8)) ∗ hbPt (F := F) c wbf1 (castIn c (V m c main_arg1) (t.val + 8) D)
        ∗ infl c (V m c main_arg1) (Ring.sl 2 (t.val + 1)) (t.val + 9) ∗ free c (V m c main_arg1) (Ring.sl 2 t.val) ∗ ∃ Ws', owes (c : Thread nD τ) 0 Ws') ⊢ left m c t D := by
  unfold left outAt duo slots
  rw [if_pos hp, if_neg (show ¬t.val + 1 = 32 by omega)]
  rw [show t.val + 1 + 1 = t.val + 2 from rfl, Ring.sl_add 2 t.val]
  try rw [show t.val + 1 + 8 = t.val + 9 from rfl]
  iintro ⟨H0, H1, Hout, Ha, Hb, Hf, Hr, HW⟩
  isplitl [H0]; · iexact H0
  isplitl [H1]; · iexact H1
  isplitl [Hout]; · iexact Hout
  isplitl [Ha Hb]
  · isplitl [Ha]; · iexact Ha
    iexact Hb
  isplitl [Hf Hr]
  · isplitl [Hf]; · iexact Hf
    iexact Hr
  iexact HW

theorem leftO (c : Dev nD) (t : Fin cfg0.N) (hp : ¬t.val % 16 < 8) (hl : ¬t.val = 31) (D : Vec F S4096x1024 .bf16) :
    iprop(owns (c : Thread nD τ) (ms0 t) fullShare (iblk m c 0 t) ∗ owns (c : Thread nD τ) (ms1 t) fullShare (iblk m c 1 t)
        ∗ owns (c : Thread nD τ) (ms2 t) fullShare (outV (iblk m c 0 t) (wcols c (V m c main_arg1) (t.val / 8)) (iblk m c 1 t))
        ∗ hbPt (F := F) c wbf1 (wcols c (V m c main_arg1) (t.val / 8)) ∗ hbPt (F := F) c wbf0 (castIn c (V m c main_arg1) (t.val + 8) D)
        ∗ infl c (V m c main_arg1) (Ring.sl 2 (t.val + 1)) (t.val + 9) ∗ free c (V m c main_arg1) (Ring.sl 2 t.val) ∗ ∃ Ws', owes (c : Thread nD τ) 0 Ws') ⊢ left m c t D := by
  unfold left outAt duo slots
  rw [if_neg hp, if_neg (show ¬t.val + 1 = 32 by omega)]
  rw [show t.val + 1 + 1 = t.val + 2 from rfl, Ring.sl_add 2 t.val]
  try rw [show t.val + 1 + 8 = t.val + 9 from rfl]
  iintro ⟨H0, H1, Hout, Ha, Hb, Hf, Hr, HW⟩
  isplitl [H0]; · iexact H0
  isplitl [H1]; · iexact H1
  isplitl [Hout]; · iexact Hout
  isplitl [Ha Hb]
  · isplitl [Ha]; · iexact Ha
    iexact Hb
  isplitl [Hf Hr]
  · isplitl [Hf]; · iexact Hf
    iexact Hr
  iexact HW

theorem leftL (c : Dev nD) (t : Fin cfg0.N) (hp : ¬t.val % 16 < 8) (hl : t.val = 31) (D : Vec F S4096x1024 .bf16) :
    iprop(owns (c : Thread nD τ) (ms0 t) fullShare (iblk m c 0 t) ∗ owns (c : Thread nD τ) (ms1 t) fullShare (iblk m c 1 t)
        ∗ owns (c : Thread nD τ) (ms2 t) fullShare (outV (iblk m c 0 t) (wcols c (V m c main_arg1) (t.val / 8)) (iblk m c 1 t))
        ∗ hbPt (F := F) c wbf1 (wcols c (V m c main_arg1) (t.val / 8)) ∗ hbPt (F := F) c wbf0 (castIn c (V m c main_arg1) (t.val + 8) D)
        ∗ free c (V m c main_arg1) (Ring.sl 2 (t.val + 1)) ∗ free c (V m c main_arg1) (Ring.sl 2 t.val) ∗ ∃ Ws', owes (c : Thread nD τ) 0 Ws') ⊢ left m c t D := by
  unfold left outAt duo slots
  rw [if_neg hp, if_pos (show t.val + 1 = 32 by omega)]
  rw [show t.val + 1 + 1 = t.val + 2 from rfl, Ring.sl_add 2 t.val]
  try rw [show t.val + 1 + 8 = t.val + 9 from rfl]
  iintro ⟨H0, H1, Hout, Ha, Hb, Hf, Hr, HW⟩
  isplitl [H0]; · iexact H0
  isplitl [H1]; · iexact H1
  isplitl [Hout]; · iexact Hout
  isplitl [Ha Hb]
  · isplitl [Ha]; · iexact Ha
    iexact Hb
  isplitl [Hf Hr]
  · isplitl [Hf]; · iexact Hf
    iexact Hr
  iexact HW

theorem sound_pre (c : Dev nD) (t : Fin cfg0.N) : bodyPre m c t ⊢ iprop(Phi m c t.val ∗ (∃ Ws : Waits sig Unit, ⌜True⌝ ∗ owes (c : Thread nD τ) 0 Ws)
    ∗ (∃ d : Unit, owns (c : Thread nD τ) (ms0 t) fullShare (iblk m c 0 t))
    ∗ (∃ d : Unit, owns (c : Thread nD τ) (ms1 t) fullShare (iblk m c 1 t))
    ∗ (∃ d, owns (c : Thread nD τ) (ms2 t) fullShare d)) := by
  unfold bodyPre
  simp only [before0, before1]
  rw [Phi_castSucc m c t]
  unfold Dat.owesAt Pipeline.owesWithin
  rw [show (dats m 0 c).owed t.castSucc = 0 from rfl]
  iintro ⟨HP, ⟨%Ws, -, HW⟩, ⟨%d0, H0⟩, ⟨%d1, H1⟩, ⟨%d2, Hout⟩⟩
  isplitl [HP]; · iexact HP
  isplitl [HW]
  · iexists Ws; isplitr; · ipureintro; trivial
    iexact HW
  isplitl [H0]; · iexists (); iexact H0
  isplitl [H1]; · iexists (); iexact H1
  iexists _; iexact Hout

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  refine (sound_pre m c t).trans ?_
  have hN : t.val < 32 := lt_of_lt_of_eq t.isLt (show cfg0.N = 32 from N_0)
  unfold bodyAt0 Phi
  by_cases h0 : t.val = 0
  · rw [if_pos h0]
    have e8 : t.val / 8 = 0 := by omega
    have L := leftE m c t (by omega) (by omega)
    rw [e8] at L
    have hD : ∀ D, Has m c t.val D := fun D y hy => by rw [h0] at hy; exact absurd hy (Nat.not_lt_zero _)
    iintro ⟨⟨⟨%C, HC⟩, ⟨%D, HD⟩, HI, HF, Hg⟩, ⟨%Ws, -, HW⟩, ⟨%d0, H0⟩, ⟨%d1, H1⟩, ⟨%d2, Hout⟩⟩
    iapply (runF c t _ _ _ _ _ _ ((hcond1 t).mpr h0) ((hcond2 t).mpr (by omega)) (fun h => absurd ((hcond3 t).mp h) (by omega)) (fun h => absurd ((hcond4 t).mp h) (by omega)) (iblk m c 0 t) (iblk m c 1 t) (V m c main_arg1) C D (left m c t D) (L D) Ws _)
    isplitl [H0]; · iexact H0
    isplitl [H1]; · iexact H1
    isplitl [Hout]; · iexists _; iexact Hout
    isplitl [HC]; · iexact HC
    isplitl [HD]; · iexact HD
    isplitl [HI]; · iexact HI
    isplitl [HF]; · iexact HF
    isplitl [HW]; · iexact HW
    iintro HL
    iapply (left_post m c t D (hD D))
    isplitl [HL]; · iexact HL
    iexact Hg
  rw [if_neg h0]
  unfold slots
  rw [if_neg (show ¬t.val = 32 by omega)]
  by_cases hp : t.val % 16 < 8
  · have hl : ¬t.val = 31 := by omega
    simp only [duo, if_pos hp]
    iintro ⟨⟨%D, %hD, ⟨HC, HD⟩, ⟨HI, HF⟩, Hg⟩, ⟨%Ws, -, HW⟩, ⟨%d0, H0⟩, ⟨%d1, H1⟩, ⟨%d2, Hout⟩⟩
    iapply (runE c t _ _ _ _ _ _ (fun h => h0 ((hcond1 t).mp h)) ((hcond2 t).mpr hp) (fun h => absurd ((hcond3 t).mp h) (by omega)) (fun h => hl ((hcond4 t).mp h)) (iblk m c 0 t) (iblk m c 1 t) (V m c main_arg1) (wcols c (V m c main_arg1) (t.val / 8)) D (left m c t D) (leftE m c t hp hl D) Ws _)
    isplitl [H0]; · iexact H0
    isplitl [H1]; · iexact H1
    isplitl [Hout]; · iexists _; iexact Hout
    isplitl [HC]; · iexact HC
    isplitl [HD]; · iexact HD
    isplitl [HI]; · iexact HI
    isplitl [HF]; · iexact HF
    isplitl [HW]; · iexact HW
    iintro HL
    iapply (left_post m c t D hD)
    isplitl [HL]; · iexact HL
    iexact Hg
  · by_cases hl : t.val = 31
    · simp only [duo, if_neg hp]
      iintro ⟨⟨%D, %hD, ⟨HC, HD⟩, ⟨HI, HF⟩, Hg⟩, ⟨%Ws, -, HW⟩, ⟨%d0, H0⟩, ⟨%d1, H1⟩, ⟨%d2, Hout⟩⟩
      iapply (runL c t _ _ _ _ _ _ (fun h => h0 ((hcond1 t).mp h)) (fun h => hp ((hcond2 t).mp h)) ((hcond3 t).mpr (by omega)) ((hcond4 t).mpr hl) (iblk m c 0 t) (iblk m c 1 t) (V m c main_arg1) (wcols c (V m c main_arg1) (t.val / 8)) D (left m c t D) (leftL m c t hp hl D) Ws _)
      isplitl [H0]; · iexact H0
      isplitl [H1]; · iexact H1
      isplitl [Hout]; · iexists _; iexact Hout
      isplitl [HC]; · iexact HC
      isplitl [HD]; · iexact HD
      isplitl [HI]; · iexact HI
      isplitl [HF]; · iexact HF
      isplitl [HW]; · iexact HW
      iintro HL
      iapply (left_post m c t D hD)
      isplitl [HL]; · iexact HL
      iexact Hg
    · simp only [duo, if_neg hp]
      iintro ⟨⟨%D, %hD, ⟨HC, HD⟩, ⟨HI, HF⟩, Hg⟩, ⟨%Ws, -, HW⟩, ⟨%d0, H0⟩, ⟨%d1, H1⟩, ⟨%d2, Hout⟩⟩
      iapply (runO c t _ _ _ _ _ _ (fun h => h0 ((hcond1 t).mp h)) (fun h => hp ((hcond2 t).mp h)) ((hcond3 t).mpr (by omega)) (fun h => hl ((hcond4 t).mp h)) (iblk m c 0 t) (iblk m c 1 t) (V m c main_arg1) (wcols c (V m c main_arg1) (t.val / 8)) D (left m c t D) (leftO m c t hp hl D) Ws _)
      isplitl [H0]; · iexact H0
      isplitl [H1]; · iexact H1
      isplitl [Hout]; · iexists _; iexact Hout
      isplitl [HC]; · iexact HC
      isplitl [HD]; · iexact HD
      isplitl [HI]; · iexact HI
      isplitl [HF]; · iexact HF
      isplitl [HW]; · iexact HW
      iintro HL
      iapply (left_post m c t D hD)
      isplitl [HL]; · iexact HL
      iexact Hg

theorem defs₀_row (t : Fin cfg0.N) :
    defs₀ (F := F) .tc cfg0.body (cfg0.bodyArgs t (cfg0.slots t)) = bodyAt0 t := by
  unfold defs₀; rw [Defs.onTc_tc]

/-- The output is written at every point. -/
theorem idle2 : ∀ t : Fin cfg0.N, cfg0.idle 2 (cfg0.grid.coords t) = false :=
  (by decide +kernel : ∀ t : Fin grid0.N, cfg0.idle 2 (grid0.coords t) = false)

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i2 := idle2 t
  refine triple_restated (sound_body m c t) rfl .rfl fun _ => ?_
  rw [i0, i2]
  exact .rfl

theorem hin (c : Dev nD) : Pipeline.ΦD osem spec0 H0 (V m) c ⊢ (dats m 0 c).Φ 0 := by
  rw [PhiD0_eq, show (dats m 0 c).Φ 0 = Phi m c 0 from rfl]
  unfold Phi
  rw [if_pos rfl]
  iintro ⟨⟨HA, HB, HS⟩, Hg, HC, HW⟩
  ihave HR := (ring_in (F := F) c (V m c main_arg1)) $$ [HS HC HW]
  · isplitl [HS]; · iexact HS
    isplitl [HC]; · iexact HC
    iexact HW
  icases HR with ⟨HF0, HF1⟩
  isplitl [HA]; · iexact HA
  isplitl [HB]; · iexact HB
  isplitl [HF0]; · iexact HF0
  isplitl [HF1]; · iexact HF1
  iexact Hg

theorem hout (c : Dev nD) : (dats m 0 c).Φ (Fin.last cfg0.N) ⊢ Pipeline.ΦD osem spec0 H0 (V m) c := by
  rw [PhiD0_eq, show (dats m 0 c).Φ (Fin.last cfg0.N) = Phi m c grid0.N from rfl, show grid0.N = 32 by rw [N_0]]
  unfold Phi slots
  rw [if_neg (by decide), if_pos rfl]
  simp only [duo, if_pos (show 32 % 16 < 8 by decide)]
  rw [show Ring.sl 2 32 = 0 by decide, show Ring.sl 2 (32 + 1) = 1 by decide]
  iintro ⟨%D, -, ⟨HA, HB⟩, HF, Hg⟩
  ihave HR := (ring_out (F := F) c (V m c main_arg1)) $$ HF
  icases HR with ⟨HS, HC, HW⟩
  isplitl [HA HB HS]
  · isplitl [HA]; · iexists _; iexact HA
    isplitl [HB]; · iexists _; iexact HB
    iexact HS
  isplitl [Hg]; · iexact Hg
  isplitl [HC]; · iexact HC
  iexact HW

/-! ## The run and the frame -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every semaphore ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c)))⟩, h.2⟩) (run_all m ρ)

/-- The run, its output array named. -/
theorem run_out : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 2, ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c)))⟩) (run_all m ρ)

end Cert.Kernel3Ideal.Own

end
-- ==== Proof.KerVal3.lean ====
module

public import proofs.«01_k».proof.Proof.Frame3
public import Idealize.ShloMosaic.Lib.Pointwise

@[expose] public section

set_option maxRecDepth 16384

noncomputable section

namespace Cert.Kernel3Ideal.Own

open Cert.Kernel3Ideal.Gen
open Idealize.ShloMosaic Idealize.ShloMosaic.TcCoe Idealize.SL Idealize.SL.Sem
open Idealize.ShloMosaic.Pipeline (Dat Cfg Window)

/-! ## The kernel's arithmetic at an index -/

theorem outV_apply (x : FVec Ideal S1024x4096 .bf16) (C : FVec Ideal S4096x1024 .bf16) (z : FVec Ideal S1024x1024 .f32) (r q : Fin 1024) :
    outV (F := Ideal) x C z (ix2 r q) = (∑ k : Fin 4096, x (ix2 r k) * C (ix2 k q)) + z (ix2 r q) := by
  pointwise [outV, k0_pay3]

/-! ## Which part of its array a window's block is -/

variable (m : (ℓ : Loc nD τ sig) → Buf (Elt Ideal) ℓ) (c : Dev nD)

theorem ltN (t : Fin cfg0.N) : t.val < 32 := t.isLt

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

theorem iblk0_apply (t : Fin cfg0.N) (a : Fin 1024) (k : Fin 4096) :
    (iblk m c 0 t : FVec Ideal S1024x4096 .bf16) (ix2 a k)
      = (V m c main_arg0 : FVec Ideal S8192x4096 .bf16) (ix2 ⟨1024 * (t.val % 8) + a.val, by omega⟩ k) := by
  refine congrArg (V m c main_arg0) ?_
  funext x
  apply Fin.ext
  fin_cases x
  · show win0_0.index t 0 * 1024 + 1 * a.val = 1024 * (t.val % 8) + a.val
    rw [(index0 t).1]; omega
  · show win0_0.index t 1 * 4096 + 1 * k.val = k.val
    rw [(index0 t).2]; omega

theorem iblk1_apply (t : Fin cfg0.N) (a : Fin 1024) (k : Fin 1024) :
    (iblk m c 1 t : FVec Ideal S1024x1024 .f32) (ix2 a k)
      = (V m c main_arg2 : FVec Ideal S8192x4096 .f32) (ix2 ⟨1024 * (t.val % 8) + a.val, by omega⟩ ⟨1024 * (t.val / 8) + k.val, by have := ltN t; omega⟩) := by
  refine congrArg (V m c main_arg2) ?_
  funext x
  apply Fin.ext
  fin_cases x
  · show win0_1.index t 0 * 1024 + 1 * a.val = 1024 * (t.val % 8) + a.val
    rw [(index1 t).1]; omega
  · show win0_1.index t 1 * 1024 + 1 * k.val = 1024 * (t.val / 8) + k.val
    rw [(index1 t).2]; omega

theorem wcols_apply (W : HbBuf (F := Ideal) c wM) (jj : ℕ) (hj : jj < 4) (k : Fin 4096) (q : Fin 1024) :
    wcols c W jj (ix2 k q) = (W : FVec Ideal S1x4096x4096 .f32) (ix3 0 k ⟨1024 * jj + q.val, by omega⟩) := by
  show W (wIdx jj (ix2 k q)) = _
  refine congrArg W ?_
  funext x
  apply Fin.ext
  fin_cases x
  · rfl
  · rfl
  · show 1024 * (jj % 4) + q.val = 1024 * jj + q.val
    rw [Nat.mod_eq_of_lt hj]

/-! ## The output array, block by block -/

theorem index2_inj (t t' : Fin cfg0.N) (h : win0_2.index t = win0_2.index t') : t = t' := by
  have h0 := congrFun h 0
  have h1 := congrFun h 1
  rw [(index2 t).1, (index2 t').1] at h0
  rw [(index2 t).2, (index2 t').2] at h1
  apply Fin.ext; omega

theorem disjoint2 (t t' : Fin cfg0.N) (_ : (cfg0.win 2).flush t = true) (_ : (cfg0.win 2).flush t' = true) (hne : t ≠ t') :
    Disjoint ((cfg0.win 2).blk t).view.set ((cfg0.win 2).blk t').view.set :=
  (cfg0.win 2).disjoint_blk fun h => hne (index2_inj t t' h)

theorem flush2 : ∀ t : Fin cfg0.N, (cfg0.win 2).flush t = true :=
  (by decide +kernel : ∀ t : Fin grid0.N, win0_2.flush t = true)

theorem block2 (t : Fin cfg0.N) (a b : Fin 1024) :
    ((dats m 0 c).arrAt 2 cfg0.N : FVec Ideal S8192x4096 .f32) (ix2 ⟨1024 * (t.val % 8) + a.val, by omega⟩ ⟨1024 * (t.val / 8) + b.val, by have := ltN t; omega⟩)
      = outAt m c t (ix2 a b) := by
  have h := congrFun ((dats m 0 c).read_blk_arrAt_eq_flushed 2 disjoint2 cfg0.N t t.isLt (flush2 t)) (ix2 a b)
  have e : (dats m 0 c).flushed 2 t = (cfg0.win 2).cut (grid0.coords t) (outAt m c t) := by
    show (cfg0.win 2).cut (grid0.coords t) ((dats m 0 c).after 2 t) = _
    rw [after2]
  rw [e] at h
  refine Eq.trans ?_ h
  refine congrArg ((dats m 0 c).arrAt 2 cfg0.N) ?_
  funext x
  apply Fin.ext
  fin_cases x
  · show 1024 * (t.val % 8) + a.val = win0_2.index t 0 * 1024 + 1 * a.val
    rw [(index2 t).1]; omega
  · show 1024 * (t.val / 8) + b.val = win0_2.index t 1 * 1024 + 1 * b.val
    rw [(index2 t).2]; omega

/-- The product at row `r`, column `n`, added to the residual. -/
def value (A : FVec Ideal S8192x4096 .bf16) (W : FVec Ideal S1x4096x4096 .f32) (R : FVec Ideal S8192x4096 .f32) (r : Fin 8192) (n : Fin 4096) : EReal :=
  (∑ k : Fin 4096, A (ix2 r k) * W (ix3 0 k n)) + R (ix2 r n)
abbrev valueM (r : Fin 8192) (n : Fin 4096) : EReal := value (m ((c : Thread nD τ).loc main_arg0)) (m ((c : Thread nD τ).loc main_arg1)) (m ((c : Thread nD τ).loc main_arg2)) r n

theorem outAt_apply (t : Fin cfg0.N) (r q : Fin 1024) :
    outAt m c t (ix2 r q) = valueM m c ⟨1024 * (t.val % 8) + r.val, by omega⟩ ⟨1024 * (t.val / 8) + q.val, by have := ltN t; omega⟩ := by
  have ht := ltN t
  unfold outAt
  rw [outV_apply, iblk1_apply]
  refine congrArg (· + _) (Finset.sum_congr rfl fun k _ => ?_)
  rw [iblk0_apply, wcols_apply c _ _ (by omega)]

/-- The output array after the run, at an index. -/
theorem out_apply (r : Fin 8192) (q : Fin 4096) :
    ((dats m 0 c).arrAt 2 cfg0.N : FVec Ideal S8192x4096 .f32) (ix2 r q) = valueM m c r q := by
  have hN : cfg0.N = 32 := rfl
  have ht : q.val / 1024 * 8 + r.val / 1024 < cfg0.N := by omega
  have h := (block2 m c ⟨q.val / 1024 * 8 + r.val / 1024, ht⟩ ⟨r.val % 1024, by omega⟩ ⟨q.val % 1024, by omega⟩).trans (outAt_apply m c _ _ _)
  have e1 : 1024 * ((q.val / 1024 * 8 + r.val / 1024) % 8) + r.val % 1024 = r.val := by omega
  have e2 : 1024 * ((q.val / 1024 * 8 + r.val / 1024) / 8) + q.val % 1024 = q.val := by omega
  simp only [e1, e2] at h
  exact h

end Cert.Kernel3Ideal.Own

end
-- ==== Proof.RefVal3.lean ====
module

public import proofs.«01_k».proof.Proof.Gen.Reference3Ideal.Run
public import Idealize.ShloMosaic.Lib.Pointwise

@[expose] public section

set_option maxRecDepth 16384

noncomputable section

namespace Cert.Reference3Ideal.Own

open Cert.Reference3Ideal Cert.Reference3Ideal.Value Cert.Reference3Ideal.Gen
open Idealize.ShloMosaic Idealize.ShloMosaic.TcCoe Idealize.SL Idealize.SL.Sem
open Idealize.ShloMosaic.Pipeline (Dat Cfg Window)

/-- The product, sequence by sequence. -/
def proj (A : FVec Ideal S8192x4096 .bf16) (W : FVec Ideal S1x4096x4096 .f32) : FVec Ideal S2x4096x4096 .f32 :=
  Host.dotGeneral dot_S2x4096x4096_S4096x4096_S2x4096x4096_2_0_01_1_n_n none (shapeCast _ (extf .f32 A bitsLt_bf16_f32) shapeCasts_S8192x4096_S2x4096x4096) (shapeCast _ W shapeCasts_S1x4096x4096_S4096x4096)

/-- The residual and a product added, the sequences one after the other. -/
def added (R : FVec Ideal S8192x4096 .f32) (Y : FVec Ideal S2x4096x4096 .f32) : FVec Ideal S8192x4096 .f32 :=
  shapeCast _ (addf (shapeCast _ R shapeCasts_S8192x4096_S2x4096x4096) Y) shapeCasts_S2x4096x4096_S8192x4096

/-- The reference's result, of its arguments. -/
def layer (A : FVec Ideal S8192x4096 .bf16) (W : FVec Ideal S1x4096x4096 .f32) (R : FVec Ideal S8192x4096 .f32) : FVec Ideal S8192x4096 .f32 := added R (proj A W)

theorem proj_apply (A : FVec Ideal S8192x4096 .bf16) (W : FVec Ideal S1x4096x4096 .f32) (b : Fin 2) (t : Fin 4096) (n : Fin 4096) :
    proj A W (ix3 b t n) = ∑ k : Fin 4096, A (ix2 ⟨b.val * 4096 + t.val, by omega⟩ k) * W (ix3 0 k n) := by
  pointwise [proj]

theorem added_apply (R : FVec Ideal S8192x4096 .f32) (Y : FVec Ideal S2x4096x4096 .f32) (r : Fin 8192) (n : Fin 4096) :
    added R Y (ix2 r n) = R (ix2 r n) + Y (ix3 ⟨r.val / 4096, by omega⟩ ⟨r.val % 4096, by omega⟩ n) := by
  pointwise [added]

theorem layer_apply (A : FVec Ideal S8192x4096 .bf16) (W : FVec Ideal S1x4096x4096 .f32) (R : FVec Ideal S8192x4096 .f32) (r : Fin 8192) (n : Fin 4096) :
    layer A W R (ix2 r n) = R (ix2 r n) + ∑ k : Fin 4096, A (ix2 r k) * W (ix3 0 k n) := by
  have hr : r.val / 4096 * 4096 + r.val % 4096 = r.val := by omega
  refine (added_apply _ _ _ _).trans (congrArg (_ + ·) ((proj_apply _ _ _ _ _).trans ?_))
  simp only [hr]

end Cert.Reference3Ideal.Own

end
-- ==== Proof.OutClaim.lean ====
module

public import proofs.«01_k».proof.Defs
public import proofs.«01_k».proof.Proof.KerVal3
public import proofs.«01_k».proof.Proof.RefVal3
public import proofs.«01_k».proof.Proof.Quiet
public import proofs.«01_k».proof.Proof.Gen.Reference3Ideal.Run
public import proofs.«01_k».proof.Proof.Gen.Kernel3
public import proofs.«01_k».proof.Proof.Gen.Kernel3.Frame
public import proofs.«01_k».proof.Proof.Gen.Kernel3Ideal
public import proofs.«01_k».proof.Proof.Gen.Reference3Ideal

@[expose] public section

set_option maxRecDepth 16384

noncomputable section

namespace Cert.Proof

open Idealize.ShloMosaic Idealize.SL.Sem

/-- The two printed programs run the same body under the same body table. -/
theorem table_eq3 : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl

theorem defs_eq3 : Cert.Kernel3.defs (F := Bits) = Cert.Kernel3Ideal.defs (F := Bits) :=
  congrArg (Pipeline.defs Cert.Kernel3Ideal.pcfgs) table_eq3

theorem quiet_kernel3 : Cert.quiescent_Kernel3 := fun m ρ _ => run_of_eq defs_eq3 (Cert.Kernel3Ideal.Own.quiescent (F := Bits) m ρ)
theorem quiet_ideal3 : Cert.quiescent_Kernel3Ideal := fun m ρ _ => Cert.Kernel3Ideal.Own.quiescent (F := Ideal) m ρ
theorem quiet_reference3 : Cert.quiescent_Reference3Ideal :=
  fun m ρ _ => (θ_run _ _ _).mono (fun r h => ⟨fun c => ⟨(h c).2.1, (h c).2.2.1, (h c).2.2.2⟩, sem_eq_zero_of_no_sems rfl r.2⟩) (Cert.Reference3Ideal.Value.run (F := Ideal) m ρ)

/-- The two programs' results agree, element by element. -/
theorem result_eq3 (x0 : FVec Ideal Cert.Kernel3Ideal.S8192x4096 .bf16) (x1 : FVec Ideal Cert.Kernel3Ideal.S1x4096x4096 .f32) (x2 : FVec Ideal Cert.Kernel3Ideal.S8192x4096 .f32)
    (m : (ℓ : Loc Cert.Kernel3Ideal.nD Cert.Kernel3Ideal.τ Cert.Kernel3Ideal.sig) → Buf (Elt Ideal) ℓ) (c : Dev Cert.Kernel3Ideal.nD)
    (h0 : x0 = m ((c.tc : Thread Cert.Kernel3Ideal.nD Cert.Kernel3Ideal.τ).loc Cert.Kernel3Ideal.main_arg0))
    (h1 : x1 = m ((c.tc : Thread Cert.Kernel3Ideal.nD Cert.Kernel3Ideal.τ).loc Cert.Kernel3Ideal.main_arg1))
    (h2 : x2 = m ((c.tc : Thread Cert.Kernel3Ideal.nD Cert.Kernel3Ideal.τ).loc Cert.Kernel3Ideal.main_arg2)) :
    Cert.Reference3Ideal.Own.layer x0 x1 x2 = ((Cert.Kernel3Ideal.Own.dats m 0 c).arrAt 2 Cert.Kernel3Ideal.cfg0.N : Vec Ideal Cert.Kernel3Ideal.S8192x4096 .f32) := by
  subst h0 h1 h2
  funext y
  idx_vars y
  exact (Cert.Reference3Ideal.Own.layer_apply _ _ _ _ _).trans ((add_comm _ _).trans (Cert.Kernel3Ideal.Own.out_apply m c _ _).symm)

theorem algebraic3 : Cert.algebraic_Kernel3Ideal_Reference3Ideal := fun m g m' g' _ he =>
  ⟨fun c => (Cert.Kernel3Ideal.Own.dats m 0 c).arrAt 2 Cert.Kernel3Ideal.cfg0.N, Cert.Kernel3Ideal.Own.run_out m g,
    (θ_run _ _ _).mono (fun r h c => ⟨(h c).1.trans (result_eq3 _ _ _ m c (he c).1 (he c).2.1 (he c).2.2), (h c).2⟩) (Cert.Reference3Ideal.Value.run (F := Ideal) m' g')⟩

end Cert.Proof

end
-- ==== Proof.Ring5.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branch conditions over the points -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 16 < 8 :=
  (by decide +kernel : ∀ t : Fin grid0.N, k0_cond2 (grid0.coords t) = 1#1 ↔ t.val % 16 < 8)
theorem hcond3 : ∀ t : Fin cfg0.N, k0_cond3 (grid0.coords t) = 1#1 ↔ 8 ≤ t.val % 16 :=
  (by decide +kernel : ∀ t : Fin grid0.N, k0_cond3 (grid0.coords t) = 1#1 ↔ 8 ≤ t.val % 16)
theorem hcond4 : ∀ t : Fin cfg0.N, k0_cond4 (grid0.coords t) = 1#1 ↔ t.val = 31 :=
  (by decide +kernel : ∀ t : Fin grid0.N, k0_cond4 (grid0.coords t) = 1#1 ↔ t.val = 31)

/-! ## The memrefs -/

abbrev wbf0 : Memref sig .tc .vmem S4096x1024 .bf16 := Memref.whole cc0_scratch0
abbrev wbf1 : Memref sig .tc .vmem S4096x1024 .bf16 := Memref.whole cc0_scratch1
abbrev stg : Memref sig .tc .vmem S2x1x512x1024 .f32 := Memref.whole cc0_scratch2
abbrev wM : Memref sig .tc .hbm S1x4096x4096 .f32 := Memref.whole main_arg2
/-- The contents of a memref's buffer on core `c`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The staging ring: two slots -/

theorem inb_part (s : Fin 2) : ∀ a, (![s.val, 0, 0, 0] : Fin 4 → Nat) a + S1x1x512x1024.size a ≤ S2x1x512x1024.size a := by
  have := s.isLt; intro a; fin_cases a <;> simp <;> omega
theorem inb_src (b : ℕ) : ∀ a, (![0, 512 * (b % 8), 1024 * (b / 8 % 4)] : Fin 3 → Nat) a + S1x512x1024.size a ≤ S1x4096x4096.size a := by
  have := Nat.mod_lt b (by decide : 0 < 8); have := Nat.mod_lt (b / 8) (by decide : 0 < 4)
  intro a; fin_cases a <;> simp <;> omega
theorem inb_cell (s : Fin 2) : ∀ a, (![s.val, 0] : Fin 2 → Nat) a + S1x1.size a ≤ S2x1.size a := by
  have := s.isLt; intro a; fin_cases a <;> simp <;> omega
/-- Slot `s`. -/
def rpart (s : Fin 2) : Memref sig .tc .vmem S512x1024 .f32 :=
  (stg.slice (Rect.unit (s := S2x1x512x1024) ![s.val, 0, 0, 0] S1x1x512x1024.size (inb_part s)) (fun _ => rfl)).squeeze S512x1024 squeezes_S1x1x512x1024_S512x1024
/-- Slab `b` of the weights: part `b mod 8` of the block `b / 8`. -/
def srcB (b : ℕ) : Memref sig .tc .hbm S512x1024 .f32 :=
  (wM.slice (Rect.unit (s := S1x4096x4096) ![0, 512 * (b % 8), 1024 * (b / 8 % 4)] S1x512x1024.size (inb_src b)) (fun _ => rfl)).squeeze S512x1024 squeezes_S1x512x1024_S512x1024
/-- The cell of slot `s`. -/
def cellA (s : Fin 2) : DmaSems sig S_ := (cc0_scratch3.slice (Rect.unit (s := S2x1) ![s.val, 0] S1x1.size (inb_cell s))).squeeze S_ squeezes_S1x1_S_
abbrev cellR (s : Fin 2) : SemLoc sig := SemLoc.dma (cellA s).sem

section Ring
variable (c : Dev nD) (W : HbBuf (F := F) c wM)
/-- The weights are lent by share: one copy for each slot. -/
def qs (s : Fin 2) : PosShare TreeShare := if s.val = 0 then fullShare.left else fullShare.right
abbrev partP (s : Fin 2) (f : HbBuf (F := F) c (rpart s)) : sProp 𝕄 := (rpart s).view.loc (c : Thread nD τ) ↦[(rpart s).view.set]{fullShare} f
abbrev cellP (s : Fin 2) : sProp 𝕄 := semVal ((c : Thread nD τ), cellR s) 0
abbrev srcP (s : Fin 2) (b : ℕ) : sProp 𝕄 := (srcB b).view.loc (c : Thread nD τ) ↦[(srcB b).view.set]{qs s} W
/-- What is left of a copy while slab `b` is lent. -/
def restP (s : Fin 2) (b : ℕ) : sProp 𝕄 := ((c : Thread nD τ).loc main_arg2) ↦[Finset.univ \ (srcB b).view.set]{qs s} W
/-- A copy whole. -/
def wholeP (s : Fin 2) : sProp 𝕄 := ((c : Thread nD τ).loc main_arg2) ↦[Finset.univ]{qs s} W
abbrev landed (s : Fin 2) (b : ℕ) (f : HbBuf (F := F) c (rpart s)) : HbBuf (F := F) c (rpart s) :=
  (rpart s).view.writes (Elt F) f [⟨Rect.whole S512x1024, ReadAs.same.apply ((srcB b).view.read (Elt F) W)⟩]
abbrev flightP (s : Fin 2) (b : ℕ) (f : HbBuf (F := F) c (rpart s)) : sProp 𝕄 :=
  Transfers.Flight countersEmb (c : Thread nD τ) (cellR s) default ((rpart s).view.amount (cellR s))
    iprop(partP c s (landed c W s b f) ∗ srcP c W s b)
/-- Slot `s` in flight with slab `b`; and free. -/
def infl (s : Fin 2) (b : ℕ) : sProp 𝕄 := iprop(∃ f, flightP c W s b f ∗ restP c W s b)
def free (s : Fin 2) : sProp 𝕄 := iprop(cellP c s ∗ (∃ f, partP c s f) ∗ wholeP c W s)
theorem src_split (s : Fin 2) (b : ℕ) : wholeP (F := F) c W s ⊣⊢ iprop(srcP c W s b ∗ restP c W s b) := by
  unfold restP wholeP; exact pointsTo_split_subset (Finset.subset_univ _)
end Ring

/-! ## The body's operands are the ring's slots, slabs and cells -/

section Canon
omit [FloatOps F]
/-- Cells, parts of the stage and slabs of the weights at equal offsets are equal. -/
theorem cell_at {o o' : Fin 2 → Nat} (e : o = o') (h : ∀ a, o a + S1x1.size a ≤ S2x1.size a) (h' : ∀ a, o' a + S1x1.size a ≤ S2x1.size a) :
    (cc0_scratch3.slice (Rect.unit (s := S2x1) o S1x1.size h)).squeeze S_ squeezes_S1x1_S_ = (cc0_scratch3.slice (Rect.unit (s := S2x1) o' S1x1.size h')).squeeze S_ squeezes_S1x1_S_ := by
  subst e; rfl
theorem part_at {o o' : Fin 4 → Nat} (e : o = o') (h : ∀ a, o a + S1x1x512x1024.size a ≤ S2x1x512x1024.size a) (h' : ∀ a, o' a + S1x1x512x1024.size a ≤ S2x1x512x1024.size a) :
    (stg.slice (Rect.unit (s := S2x1x512x1024) o S1x1x512x1024.size h) (fun _ => rfl)).squeeze S512x1024 squeezes_S1x1x512x1024_S512x1024 = (stg.slice (Rect.unit (s := S2x1x512x1024) o' S1x1x512x1024.size h') (fun _ => rfl)).squeeze S512x1024 squeezes_S1x1x512x1024_S512x1024 := by
  subst e; rfl
theorem slab_at {o o' : Fin 3 → Nat} (e : o = o') (h : ∀ a, o a + S1x512x1024.size a ≤ S1x4096x4096.size a) (h' : ∀ a, o' a + S1x512x1024.size a ≤ S1x4096x4096.size a) :
    (wM.slice (Rect.unit (s := S1x4096x4096) o S1x512x1024.size h) (fun _ => rfl)).squeeze S512x1024 squeezes_S1x512x1024_S512x1024 = (wM.slice (Rect.unit (s := S1x4096x4096) o' S1x512x1024.size h') (fun _ => rfl)).squeeze S512x1024 squeezes_S1x512x1024_S512x1024 := by
  subst e; rfl
set_option synthInstance.maxSize 4096 in
theorem coff2 : ∀ t : Fin grid0.N, k0_off2 (grid0.coords t) = ![(Ring.sl 2 t.val).val, 0] := by decide +kernel
@[sl_canon] theorem canon2 (t : Fin grid0.N) (h : k0_cond2 (grid0.coords t) = 1#1) :
    (cc0_scratch3.slice (Rect.unit (s := S2x1) (k0_off2 (grid0.coords t)) S1x1.size (k0_off2_inb (grid0.coords t) h))).squeeze S_ squeezes_S1x1_S_ = cellA (Ring.sl 2 t.val) :=
  cell_at (coff2 t) _ _
set_option synthInstance.maxSize 4096 in
theorem coff3 : ∀ t : Fin grid0.N, k0_off3 (grid0.coords t) = ![(Ring.sl 2 t.val).val, 0, 0, 0] := by decide +kernel
@[sl_canon] theorem canon3 (t : Fin grid0.N) (h : k0_cond2 (grid0.coords t) = 1#1) :
    (stg.slice (Rect.unit (s := S2x1x512x1024) (k0_off3 (grid0.coords t)) S1x1x512x1024.size (k0_off3_inb (grid0.coords t) h)) (fun _ => rfl)).squeeze S512x1024 squeezes_S1x1x512x1024_S512x1024 = rpart (Ring.sl 2 t.val) :=
  part_at (coff3 t) _ _
set_option synthInstance.maxSize 4096 in
theorem coff4 : ∀ t : Fin grid0.N, k0_off4 (grid0.coords t) = ![0, 512 * ((t.val + 8) % 8), 1024 * ((t.val + 8) / 8 % 4)] := by decide +kernel
@[sl_canon] theorem canon4 (t : Fin grid0.N) (h : k0_cond2 (grid0.coords t) = 1#1) :
    (wM.slice (Rect.unit (s := S1x4096x4096) (k0_off4 (grid0.coords t)) S1x512x1024.size (k0_off4_inb (grid0.coords t) h)) (fun _ => rfl)).squeeze S512x1024 squeezes_S1x512x1024_S512x1024 = srcB (t.val + 8) :=
  slab_at (coff4 t) _ _
set_option synthInstance.maxSize 4096 in
theorem coff5 : ∀ t : Fin grid0.N, k0_off5 (grid0.coords t) = ![(Ring.sl 2 (t.val + 1)).val, 0] := by decide +kernel
@[sl_canon] theorem canon5 (t : Fin grid0.N) (h : k0_cond2 (grid0.coords t) = 1#1) :
    (cc0_scratch3.slice (Rect.unit (s := S2x1) (k0_off5 (grid0.coords t)) S1x1.size (k0_off5_inb (grid0.coords t) h))).squeeze S_ squeezes_S1x1_S_ = cellA (Ring.sl 2 (t.val + 1)) :=
  cell_at (coff5 t) _ _
set_option synthInstance.maxSize 4096 in
theorem coff6 : ∀ t : Fin grid0.N, k0_off6 (grid0.coords t) = ![(Ring.sl 2 (t.val + 1)).val, 0, 0, 0] := by decide +kernel
@[sl_canon] theorem canon6 (t : Fin grid0.N) (h : k0_cond2 (grid0.coords t) = 1#1) :
    (stg.slice (Rect.unit (s := S2x1x512x1024) (k0_off6 (grid0.coords t)) S1x1x512x1024.size (k0_off6_inb (grid0.coords t) h)) (fun _ => rfl)).squeeze S512x1024 squeezes_S1x1x512x1024_S512x1024 = rpart (Ring.sl 2 (t.val + 1)) :=
  part_at (coff6 t) _ _
set_option synthInstance.maxSize 4096 in
theorem coff7 : ∀ t : Fin grid0.N, k0_off7 (grid0.coords t) = ![0, 512 * ((t.val + 9) % 8), 1024 * ((t.val + 9) / 8 % 4)] := by decide +kernel
@[sl_canon] theorem canon7 (t : Fin grid0.N) (h : k0_cond2 (grid0.coords t) = 1#1) :
    (wM.slice (Rect.unit (s := S1x4096x4096) (k0_off7 (grid0.coords t)) S1x512x1024.size (k0_off7_inb (grid0.coords t) h)) (fun _ => rfl)).squeeze S512x1024 squeezes_S1x512x1024_S512x1024 = srcB (t.val + 9) :=
  slab_at (coff7 t) _ _
set_option synthInstance.maxSize 4096 in
theorem coff8 : ∀ t : Fin grid0.N, k0_off8 (grid0.coords t) = ![(Ring.sl 2 t.val).val, 0, 0, 0] := by decide +kernel
instance (priority := high) closedOff8 (t : Fin grid0.N) : ClosedOff (k0_off8 (grid0.coords t)) := ⟨![(Ring.sl 2 t.val).val, 0, 0, 0], coff8 t⟩
set_option synthInstance.maxSize 4096 in
theorem coff9 : ∀ t : Fin grid0.N, k0_off9 (grid0.coords t) = ![512 * (t.val % 8), 0] := by decide +kernel
set_option synthInstance.maxSize 4096 in
theorem coff10 : ∀ t : Fin grid0.N, k0_off10 (grid0.coords t) = ![(Ring.sl 2 t.val).val, 0] := by decide +kernel
@[sl_canon] theorem canon10 (t : Fin grid0.N) (h : k0_cond3 (grid0.coords t) = 1#1) :
    (cc0_scratch3.slice (Rect.unit (s := S2x1) (k0_off10 (grid0.coords t)) S1x1.size (k0_off10_inb (grid0.coords t) h))).squeeze S_ squeezes_S1x1_S_ = cellA (Ring.sl 2 t.val) :=
  cell_at (coff10 t) _ _
set_option synthInstance.maxSize 4096 in
theorem coff11 : ∀ t : Fin grid0.N, k0_off11 (grid0.coords t) = ![(Ring.sl 2 t.val).val, 0, 0, 0] := by decide +kernel
@[sl_canon] theorem canon11 (t : Fin grid0.N) (h : k0_cond3 (grid0.coords t) = 1#1) :
    (stg.slice (Rect.unit (s := S2x1x512x1024) (k0_off11 (grid0.coords t)) S1x1x512x1024.size (k0_off11_inb (grid0.coords t) h)) (fun _ => rfl)).squeeze S512x1024 squeezes_S1x1x512x1024_S512x1024 = rpart (Ring.sl 2 t.val) :=
  part_at (coff11 t) _ _
set_option synthInstance.maxSize 4096 in
theorem coff12 : ∀ t : Fin grid0.N, k0_off12 (grid0.coords t) = ![0, 512 * ((t.val + 8) % 8), 1024 * ((t.val + 8) / 8 % 4)] := by decide +kernel
@[sl_canon] theorem canon12 (t : Fin grid0.N) (h : k0_cond3 (grid0.coords t) = 1#1) :
    (wM.slice (Rect.unit (s := S1x4096x4096) (k0_off12 (grid0.coords t)) S1x512x1024.size (k0_off12_inb (grid0.coords t) h)) (fun _ => rfl)).squeeze S512x1024 squeezes_S1x512x1024_S512x1024 = srcB (t.val + 8) :=
  slab_at (coff12 t) _ _
set_option synthInstance.maxSize 4096 in
theorem coff13 : ∀ t : Fin grid0.N, k0_off13 (grid0.coords t) = ![(Ring.sl 2 (t.val + 1)).val, 0] := by decide +kernel
@[sl_canon] theorem canon13 (t : Fin grid0.N) (h : k0_cond3 (grid0.coords t) = 1#1) :
    (cc0_scratch3.slice (Rect.unit (s := S2x1) (k0_off13 (grid0.coords t)) S1x1.size (k0_off13_inb (grid0.coords t) h))).squeeze S_ squeezes_S1x1_S_ = cellA (Ring.sl 2 (t.val + 1)) :=
  cell_at (coff13 t) _ _
set_option synthInstance.maxSize 4096 in
theorem coff14 : ∀ t : Fin grid0.N, k0_off14 (grid0.coords t) = ![(Ring.sl 2 (t.val + 1)).val, 0, 0, 0] := by decide +kernel
@[sl_canon] theorem canon14 (t : Fin grid0.N) (h : k0_cond3 (grid0.coords t) = 1#1) :
    (stg.slice (Rect.unit (s := S2x1x512x1024) (k0_off14 (grid0.coords t)) S1x1x512x1024.size (k0_off14_inb (grid0.coords t) h)) (fun _ => rfl)).squeeze S512x1024 squeezes_S1x1x512x1024_S512x1024 = rpart (Ring.sl 2 (t.val + 1)) :=
  part_at (coff14 t) _ _
set_option synthInstance.maxSize 4096 in
theorem coff15 : ∀ t : Fin grid0.N, k0_off15 (grid0.coords t) = ![0, 512 * ((t.val + 9) % 8), 1024 * ((t.val + 9) / 8 % 4)] := by decide +kernel
@[sl_canon] theorem canon15 (t : Fin grid0.N) (h : k0_cond3 (grid0.coords t) = 1#1) :
    (wM.slice (Rect.unit (s := S1x4096x4096) (k0_off15 (grid0.coords t)) S1x512x1024.size (k0_off15_inb (grid0.coords t) h)) (fun _ => rfl)).squeeze S512x1024 squeezes_S1x512x1024_S512x1024 = srcB (t.val + 9) :=
  slab_at (coff15 t) _ _
set_option synthInstance.maxSize 4096 in
theorem coff16 : ∀ t : Fin grid0.N, k0_off16 (grid0.coords t) = ![(Ring.sl 2 t.val).val, 0, 0, 0] := by decide +kernel
instance (priority := high) closedOff16 (t : Fin grid0.N) : ClosedOff (k0_off16 (grid0.coords t)) := ⟨![(Ring.sl 2 t.val).val, 0, 0, 0], coff16 t⟩
set_option synthInstance.maxSize 4096 in
theorem coff17 : ∀ t : Fin grid0.N, k0_off17 (grid0.coords t) = ![512 * (t.val % 8), 0] := by decide +kernel
set_option synthInstance.maxSize 4096 in
theorem coff18 : ∀ t : Fin grid0.N, k0_off18 (grid0.coords t) = ![(Ring.sl 2 (t.val + 1)).val, 0] := by decide +kernel
@[sl_canon] theorem canon18 (t : Fin grid0.N) (h : k0_cond4 (grid0.coords t) = 1#1) :
    (cc0_scratch3.slice (Rect.unit (s := S2x1) (k0_off18 (grid0.coords t)) S1x1.size (k0_off18_inb (grid0.coords t) h))).squeeze S_ squeezes_S1x1_S_ = cellA (Ring.sl 2 (t.val + 1)) :=
  cell_at (coff18 t) _ _
set_option synthInstance.maxSize 4096 in
theorem coff19 : ∀ t : Fin grid0.N, k0_off19 (grid0.coords t) = ![(Ring.sl 2 (t.val + 1)).val, 0, 0, 0] := by decide +kernel
@[sl_canon] theorem canon19 (t : Fin grid0.N) (h : k0_cond4 (grid0.coords t) = 1#1) :
    (stg.slice (Rect.unit (s := S2x1x512x1024) (k0_off19 (grid0.coords t)) S1x1x512x1024.size (k0_off19_inb (grid0.coords t) h)) (fun _ => rfl)).squeeze S512x1024 squeezes_S1x1x512x1024_S512x1024 = rpart (Ring.sl 2 (t.val + 1)) :=
  part_at (coff19 t) _ _
set_option synthInstance.maxSize 4096 in
theorem coff20 : ∀ t : Fin grid0.N, k0_off20 (grid0.coords t) = ![0, 512 * ((t.val + 9) % 8), 1024 * ((t.val + 9) / 8 % 4)] := by decide +kernel
@[sl_canon] theorem canon20 (t : Fin grid0.N) (h : k0_cond4 (grid0.coords t) = 1#1) :
    (wM.slice (Rect.unit (s := S1x4096x4096) (k0_off20 (grid0.coords t)) S1x512x1024.size (k0_off20_inb (grid0.coords t) h)) (fun _ => rfl)).squeeze S512x1024 squeezes_S1x512x1024_S512x1024 = srcB (t.val + 9) :=
  slab_at (coff20 t) _ _

/-! ## The first point's operands, at literal offsets -/

@[sl_canon] theorem canonS0 :
    (stg.slice (Rect.unit (s := S2x1x512x1024) ![0, 0, 0, 0] S1x1x512x1024.size inb_S2x1x512x1024_S1x1x512x1024_0_0_0_0) (fun _ => rfl)).squeeze S512x1024 squeezes_S1x1x512x1024_S512x1024 = rpart 0 := rfl
@[sl_canon] theorem canonC0 :
    (cc0_scratch3.slice (Rect.unit (s := S2x1) ![0, 0] S1x1.size inb_S2x1_S1x1_0_0)).squeeze S_ squeezes_S1x1_S_ = cellA 0 := rfl
@[sl_canon] theorem canonS1 :
    (stg.slice (Rect.unit (s := S2x1x512x1024) ![1, 0, 0, 0] S1x1x512x1024.size inb_S2x1x512x1024_S1x1x512x1024_1_0_0_0) (fun _ => rfl)).squeeze S512x1024 squeezes_S1x1x512x1024_S512x1024 = rpart 1 := rfl
@[sl_canon] theorem canonC1 :
    (cc0_scratch3.slice (Rect.unit (s := S2x1) ![1, 0] S1x1.size inb_S2x1_S1x1_1_0)).squeeze S_ squeezes_S1x1_S_ = cellA 1 := rfl
theorem coffB0 : k0_off1 0#32 0#32 = ![0, 512 * (0 % 8), 1024 * (0 / 8 % 4)] := by decide +kernel
@[sl_canon] theorem canonB0 (t : Fin grid0.N) (h : k0_cond1 (grid0.coords t) = 1#1) :
    (wM.slice (Rect.unit (s := S1x4096x4096) (k0_off1 0#32 0#32) S1x512x1024.size (k0_off1_inb (grid0.coords t) h 0)) (fun _ => rfl)).squeeze S512x1024 squeezes_S1x512x1024_S512x1024 = srcB 0 :=
  slab_at coffB0 _ _
theorem coffB1 : k0_off1 1#32 1#32 = ![0, 512 * (1 % 8), 1024 * (1 / 8 % 4)] := by decide +kernel
@[sl_canon] theorem canonB1 (t : Fin grid0.N) (h : k0_cond1 (grid0.coords t) = 1#1) :
    (wM.slice (Rect.unit (s := S1x4096x4096) (k0_off1 1#32 1#32) S1x512x1024.size (k0_off1_inb (grid0.coords t) h 1)) (fun _ => rfl)).squeeze S512x1024 squeezes_S1x512x1024_S512x1024 = srcB 1 :=
  slab_at coffB1 _ _
theorem coffB2 : k0_off1 2#32 2#32 = ![0, 512 * (2 % 8), 1024 * (2 / 8 % 4)] := by decide +kernel
@[sl_canon] theorem canonB2 (t : Fin grid0.N) (h : k0_cond1 (grid0.coords t) = 1#1) :
    (wM.slice (Rect.unit (s := S1x4096x4096) (k0_off1 2#32 2#32) S1x512x1024.size (k0_off1_inb (grid0.coords t) h 2)) (fun _ => rfl)).squeeze S512x1024 squeezes_S1x512x1024_S512x1024 = srcB 2 :=
  slab_at coffB2 _ _
theorem coffB3 : k0_off1 3#32 3#32 = ![0, 512 * (3 % 8), 1024 * (3 / 8 % 4)] := by decide +kernel
@[sl_canon] theorem canonB3 (t : Fin grid0.N) (h : k0_cond1 (grid0.coords t) = 1#1) :
    (wM.slice (Rect.unit (s := S1x4096x4096) (k0_off1 3#32 3#32) S1x512x1024.size (k0_off1_inb (grid0.coords t) h 3)) (fun _ => rfl)).squeeze S512x1024 squeezes_S1x512x1024_S512x1024 = srcB 3 :=
  slab_at coffB3 _ _
theorem coffB4 : k0_off1 4#32 4#32 = ![0, 512 * (4 % 8), 1024 * (4 / 8 % 4)] := by decide +kernel
@[sl_canon] theorem canonB4 (t : Fin grid0.N) (h : k0_cond1 (grid0.coords t) = 1#1) :
    (wM.slice (Rect.unit (s := S1x4096x4096) (k0_off1 4#32 4#32) S1x512x1024.size (k0_off1_inb (grid0.coords t) h 4)) (fun _ => rfl)).squeeze S512x1024 squeezes_S1x512x1024_S512x1024 = srcB 4 :=
  slab_at coffB4 _ _
theorem coffB5 : k0_off1 5#32 5#32 = ![0, 512 * (5 % 8), 1024 * (5 / 8 % 4)] := by decide +kernel
@[sl_canon] theorem canonB5 (t : Fin grid0.N) (h : k0_cond1 (grid0.coords t) = 1#1) :
    (wM.slice (Rect.unit (s := S1x4096x4096) (k0_off1 5#32 5#32) S1x512x1024.size (k0_off1_inb (grid0.coords t) h 5)) (fun _ => rfl)).squeeze S512x1024 squeezes_S1x512x1024_S512x1024 = srcB 5 :=
  slab_at coffB5 _ _
theorem coffB6 : k0_off1 6#32 6#32 = ![0, 512 * (6 % 8), 1024 * (6 / 8 % 4)] := by decide +kernel
@[sl_canon] theorem canonB6 (t : Fin grid0.N) (h : k0_cond1 (grid0.coords t) = 1#1) :
    (wM.slice (Rect.unit (s := S1x4096x4096) (k0_off1 6#32 6#32) S1x512x1024.size (k0_off1_inb (grid0.coords t) h 6)) (fun _ => rfl)).squeeze S512x1024 squeezes_S1x512x1024_S512x1024 = srcB 6 :=
  slab_at coffB6 _ _
theorem coffB7 : k0_off1 7#32 7#32 = ![0, 512 * (7 % 8), 1024 * (7 / 8 % 4)] := by decide +kernel
@[sl_canon] theorem canonB7 (t : Fin grid0.N) (h : k0_cond1 (grid0.coords t) = 1#1) :
    (wM.slice (Rect.unit (s := S1x4096x4096) (k0_off1 7#32 7#32) S1x512x1024.size (k0_off1_inb (grid0.coords t) h 7)) (fun _ => rfl)).squeeze S512x1024 squeezes_S1x512x1024_S512x1024 = srcB 7 :=
  slab_at coffB7 _ _
theorem coffB8 : k0_off1 8#32 8#32 = ![0, 512 * (8 % 8), 1024 * (8 / 8 % 4)] := by decide +kernel
@[sl_canon] theorem canonB8 (t : Fin grid0.N) (h : k0_cond1 (grid0.coords t) = 1#1) :
    (wM.slice (Rect.unit (s := S1x4096x4096) (k0_off1 8#32 8#32) S1x512x1024.size (k0_off1_inb (grid0.coords t) h 8)) (fun _ => rfl)).squeeze S512x1024 squeezes_S1x512x1024_S512x1024 = srcB 8 :=
  slab_at coffB8 _ _
end Canon

/-- A copy lent for one slab, once back, is lent for another. -/
theorem src_swap (c : Dev nD) (W : HbBuf (F := F) c wM) (s : Fin 2) (b b' : ℕ) :
    iprop(srcP c W s b ∗ restP c W s b) ⊢ iprop(srcP c W s b' ∗ restP c W s b') :=
  (src_split c W s b).2.trans (src_split c W s b').1

end Cert.Kernel5Ideal.Own

end
-- ==== Proof.Spec5.lean ====
module

public import proofs.«01_k».proof.Proof.Ring5
public import Idealize.ShloMosaic.Lib.ValueLayout
public import Idealize.ShloMosaic.Lib.WritesUnit
public import Idealize.ShloMosaic.Lib.VecWindow
public import Idealize.ShloMosaic.Lib.Pipeline.Value
public import Idealize.ShloMosaic.Lib.Tactic.Stretches

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## What the buffers hold -/

/-- The index of the weights' element at row `y 0` and column `y 1` of block `jj`. -/
def wIdx (jj : ℕ) (y : S4096x1024.Idx) : S1x4096x4096.Idx :=
  ix3 (⟨0, Nat.one_pos⟩ : Fin 1) ⟨(y 0).val, by
      have h := (y 0).isLt; have : S4096x1024.size 0 = 4096 := rfl; have := Nat.mod_lt jj (by decide : 0 < 4); omega⟩
    ⟨1024 * (jj % 4) + (y 1).val, by
      have h := (y 1).isLt; have : S4096x1024.size 1 = 1024 := rfl; have := Nat.mod_lt jj (by decide : 0 < 4); omega⟩

section Spec
variable (c : Dev nD) (W : HbBuf (F := F) c wM)

/-- Block `jj` of the weights, narrowed. -/
def wcols (jj : ℕ) : Vec F S4096x1024 .bf16 := fun y => FloatOps.truncf .bf16 bitsLt_bf16_f32 (W (wIdx jj y))

/-- The contents after slab `b` is put in: its rows are those of its block. -/
def castIn (b : ℕ) (D : Vec F S4096x1024 .bf16) : Vec F S4096x1024 .bf16 :=
  fun y => if 512 * (b % 8) ≤ (y 0).val ∧ (y 0).val < 512 * (b % 8) + 512 then wcols c W (b / 8) y else D y

/-- The upper and the lower half of a buffer's rows. -/
def lo (C : Vec F S4096x1024 .bf16) : Vec F S2048x1024 .bf16 := fun y => C ((Rect.unit (s := S4096x1024) ![0, 0] S2048x1024.size inb_S4096x1024_S2048x1024_0_0).emb y)
def hi (C : Vec F S4096x1024 .bf16) : Vec F S2048x1024 .bf16 := fun y => C ((Rect.unit (s := S4096x1024) ![2048, 0] S2048x1024.size inb_S4096x1024_S2048x1024_2048_0).emb y)

/-- The output block of a point. -/
def outV (x : Vec F S1024x2048 .bf16) (z : Vec F S1024x2048 .bf16) (C : Vec F S4096x1024 .bf16) (r : Vec F S1024x1024 .f32) : Vec F S1024x1024 .f32 := k0_pay3 x (lo C) z (hi C) r

theorem src_read (b : ℕ) (x : S512x1024.Idx) (hi) :
    (srcB b).view.read (Elt F) W x
      = W (wIdx (b / 8) ((Rect.unit (s := S4096x1024) ![512 * (b % 8), 0] S512x1024.size hi).emb x)) := by
  show W ((srcB b).view.emb x) = _
  refine congrArg W ?_
  show (Rect.unit (s := S1x4096x4096) ![0, 512 * (b % 8), 1024 * (b / 8 % 4)] S1x512x1024.size (inb_src b)).emb (Shape.reshapeEquiv _ x) = _
  conv_lhs => rw [eq_ix2 x]
  erw [reshapeEquiv_ix2_1ab]
  funext a
  apply Fin.ext
  fin_cases a
  · show 0 + 1 * 0 = 0
    omega
  · show 512 * (b % 8) + 1 * (x 0).val = 512 * (b % 8) + 1 * (x 0).val
    rfl
  · show 1024 * (b / 8 % 4) + 1 * (x 1).val = 1024 * (b / 8 % 4) + (0 + 1 * (x 1).val)
    omega

/-- A landed slab, read back and narrowed, is its rows of its block. -/
theorem cast_piece (s : Fin 2) (b : ℕ) (f : HbBuf (F := F) c (rpart s)) (L) (off : Fin 4 → ℕ) (inb) (hoff : off = ![s.val, 0, 0, 0]) (hc) (x : S512x1024.Idx) (hi) :
    truncf .bf16 (shapeCast S512x1024 (View.readAt (Elt F) stg.view (Rect.unit (s := S2x1x512x1024) off S1x1x512x1024.size inb).toLoadRect
      ((rpart s).view.writes (Elt F) f (⟨Rect.whole S512x1024, ReadAs.same.apply ((srcB b).view.read (Elt F) W)⟩ :: L))) hc) bitsLt_bf16_f32 x
      = wcols c W (b / 8) ((Rect.unit (s := S4096x1024) ![512 * (b % 8), 0] S512x1024.size hi).emb x) := by
  subst hoff
  show FloatOps.truncf .bf16 bitsLt_bf16_f32 ((rpart s).view.read (Elt F) ((rpart s).view.writes (Elt F) ((rpart s).view.writes (Elt F) f L) [⟨Rect.whole S512x1024, ReadAs.same.apply ((srcB b).view.read (Elt F) W)⟩]) x) = FloatOps.truncf .bf16 bitsLt_bf16_f32 _
  refine congrArg _ ?_
  exact (congrFun (View.read_writes_whole ..) x).trans (src_read c W b x hi)

end Spec

theorem mem_cast (r : ℕ) (inb) (y : S4096x1024.Idx) (h : r ≤ (y 0).val ∧ (y 0).val < r + 512) :
    y ∈ (Rect.unit (s := S4096x1024) ![r, 0] S512x1024.size inb).set :=
  Rect.mem_set_unit.mpr (Fin.forall_fin_two.2 ⟨h, Nat.zero_le _, by have g : (y 1).val < 1024 := (y 1).isLt; show (y 1).val < 0 + 1024; omega⟩)

theorem of_mem_cast (r : ℕ) (inb) (y : S4096x1024.Idx) (h : y ∈ (Rect.unit (s := S4096x1024) ![r, 0] S512x1024.size inb).set) :
    r ≤ (y 0).val ∧ (y 0).val < r + 512 := Rect.mem_set_unit.mp h 0

section Pieces
variable (M : Memref sig .tc .vmem S4096x1024 .bf16) (f : M.view.ty.Contents (Elt F)) (G : Vec F S4096x1024 .bf16)

theorem read_cast1 (r : ℕ) (o : Fin 2 → ℕ) (i) (p : Vec F S512x1024 .bf16) (h0 : o = ![r, 0])
    (e : ∀ x hi, p x = G ((Rect.unit (s := S4096x1024) ![r, 0] S512x1024.size hi).emb x)) (L : List (View.Piece (Elt F) S4096x1024 .bf16)) (y : S4096x1024.Idx) :
    M.view.read (Elt F) (M.view.writes (Elt F) f (⟨Rect.unit (s := S4096x1024) o S512x1024.size i, p⟩ :: L)) y
      = if r ≤ (y 0).val ∧ (y 0).val < r + 512 then G y else M.view.read (Elt F) (M.view.writes (Elt F) f L) y := by
  subst h0
  have key : M.view.writes (Elt F) f (⟨Rect.unit (s := S4096x1024) ![r, 0] S512x1024.size i, p⟩ :: L)
      = M.view.writes (Elt F) (M.view.writes (Elt F) f L) [⟨Rect.unit (s := S4096x1024) ![r, 0] S512x1024.size i, p⟩] := rfl
  rw [key]
  split
  case isTrue h =>
    refine View.read_writes_apply_of_pieces M.view _ G _ ?_ y ?_
    · intro q hq x
      simp only [List.mem_cons, List.not_mem_nil, _root_.or_false] at hq
      subst hq
      exact e x i
    · exact ⟨⟨Rect.unit (s := S4096x1024) ![r, 0] S512x1024.size i, p⟩, by simp, mem_cast r i y h⟩
  case isFalse h =>
    refine View.read_writes_apply_of_forall_not_mem M.view _ y _ ?_
    intro q hq hm
    simp only [List.mem_cons, List.not_mem_nil, _root_.or_false] at hq
    subst hq
    exact h (of_mem_cast r i y hm)
end Pieces

/-! ## The casts' payloads -/

section Pay
theorem pe2 (v : Vec F S1x1x512x1024 .f32) : k0_pay2 v = truncf .bf16 (shapeCast S512x1024 v shapeCasts_S1x1x512x1024_S512x1024) bitsLt_bf16_f32 := shapeCast_self _ _
theorem pe4 (v : Vec F S1x1x512x1024 .f32) : k0_pay4 v = truncf .bf16 (shapeCast S512x1024 v shapeCasts_S1x1x512x1024_S512x1024) bitsLt_bf16_f32 := shapeCast_self _ _
theorem pe6 (v : Vec F S1x1x512x1024 .f32) : k0_pay6 v = truncf .bf16 (shapeCast S512x1024 v shapeCasts_S1x1x512x1024_S512x1024) bitsLt_bf16_f32 := shapeCast_self _ _
theorem pe7 (v : Vec F S1x1x512x1024 .f32) : k0_pay7 v = truncf .bf16 (shapeCast S512x1024 v shapeCasts_S1x1x512x1024_S512x1024) bitsLt_bf16_f32 := shapeCast_self _ _
theorem pe8 (v : Vec F S1x1x512x1024 .f32) : k0_pay8 v = truncf .bf16 (shapeCast S512x1024 v shapeCasts_S1x1x512x1024_S512x1024) bitsLt_bf16_f32 := shapeCast_self _ _
theorem pe9 (v : Vec F S1x1x512x1024 .f32) : k0_pay9 v = truncf .bf16 (shapeCast S512x1024 v shapeCasts_S1x1x512x1024_S512x1024) bitsLt_bf16_f32 := shapeCast_self _ _
theorem pe10 (v : Vec F S1x1x512x1024 .f32) : k0_pay10 v = truncf .bf16 (shapeCast S512x1024 v shapeCasts_S1x1x512x1024_S512x1024) bitsLt_bf16_f32 := shapeCast_self _ _
theorem pe11 (v : Vec F S1x1x512x1024 .f32) : k0_pay11 v = truncf .bf16 (shapeCast S512x1024 v shapeCasts_S1x1x512x1024_S512x1024) bitsLt_bf16_f32 := shapeCast_self _ _
theorem pe12 (v : Vec F S1x1x512x1024 .f32) : k0_pay12 v = truncf .bf16 (shapeCast S512x1024 v shapeCasts_S1x1x512x1024_S512x1024) bitsLt_bf16_f32 := shapeCast_self _ _
theorem pe1 (v : Vec F S1x1x512x1024 .f32) : k0_pay1 (k0_pay13 v) = truncf .bf16 (shapeCast S512x1024 v shapeCasts_S1x1x512x1024_S512x1024) bitsLt_bf16_f32 := shapeCast_self _ _
end Pay

section Whole
theorem ld_arg2 {arg2 : Memref sig .tc .vmem S1024x2048 .bf16} (h : arg2.IsWhole) (x : Vec F S1024x2048 .bf16) (inb) :
    View.readAt (Elt F) arg2.view (Rect.unit (s := S1024x2048) ![0, 0] S1024x2048.size inb).toLoadRect (h.unread x) = x :=
  (View.readAt_full _ _ _).trans (h.read_unread x)
theorem ld_arg3 {arg3 : Memref sig .tc .vmem S1024x2048 .bf16} (h : arg3.IsWhole) (x : Vec F S1024x2048 .bf16) (inb) :
    View.readAt (Elt F) arg3.view (Rect.unit (s := S1024x2048) ![0, 0] S1024x2048.size inb).toLoadRect (h.unread x) = x :=
  (View.readAt_full _ _ _).trans (h.read_unread x)
theorem ld_arg5 {arg5 : Memref sig .tc .vmem S1024x1024 .f32} (h : arg5.IsWhole) (x : Vec F S1024x1024 .f32) (inb) :
    View.readAt (Elt F) arg5.view (Rect.unit (s := S1024x1024) ![0, 0] S1024x1024.size inb).toLoadRect (h.unread x) = x :=
  (View.readAt_full _ _ _).trans (h.read_unread x)
variable (c : Dev nD) (W : HbBuf (F := F) c wM)

theorem wread0 (g : HbBuf (F := F) c wbf0) : wbf0.view.read (Elt F) g = g := rfl
/-- Slab `b`, written into buffer 0. -/
theorem writes_castIn0 (b : ℕ) (D : HbBuf (F := F) c wbf0) (o : Fin 2 → ℕ) (i) (p : Vec F S512x1024 .bf16) (v : Vec F S1x1x512x1024 .f32)
    (h0 : o = ![512 * (b % 8), 0])
    (q : p = truncf .bf16 (shapeCast S512x1024 v shapeCasts_S1x1x512x1024_S512x1024) bitsLt_bf16_f32)
    (e : ∀ x hi, truncf .bf16 (shapeCast S512x1024 v shapeCasts_S1x1x512x1024_S512x1024) bitsLt_bf16_f32 x = wcols c W (b / 8) ((Rect.unit (s := S4096x1024) ![512 * (b % 8), 0] S512x1024.size hi).emb x)) :
    wbf0.view.writes (Elt F) D [⟨Rect.unit (s := S4096x1024) o S512x1024.size i, p⟩] = castIn c W b D := by
  funext y
  have h := read_cast1 wbf0 D (wcols c W (b / 8)) (512 * (b % 8)) o i p h0 (fun x hi => (congrFun q x).trans (e x hi)) [] y
  rw [View.writes_nil] at h
  refine (congrFun (wread0 c _) y).symm.trans (h.trans ?_)
  unfold castIn
  rw [wread0]

theorem wread1 (g : HbBuf (F := F) c wbf1) : wbf1.view.read (Elt F) g = g := rfl
/-- Slab `b`, written into buffer 1. -/
theorem writes_castIn1 (b : ℕ) (D : HbBuf (F := F) c wbf1) (o : Fin 2 → ℕ) (i) (p : Vec F S512x1024 .bf16) (v : Vec F S1x1x512x1024 .f32)
    (h0 : o = ![512 * (b % 8), 0])
    (q : p = truncf .bf16 (shapeCast S512x1024 v shapeCasts_S1x1x512x1024_S512x1024) bitsLt_bf16_f32)
    (e : ∀ x hi, truncf .bf16 (shapeCast S512x1024 v shapeCasts_S1x1x512x1024_S512x1024) bitsLt_bf16_f32 x = wcols c W (b / 8) ((Rect.unit (s := S4096x1024) ![512 * (b % 8), 0] S512x1024.size hi).emb x)) :
    wbf1.view.writes (Elt F) D [⟨Rect.unit (s := S4096x1024) o S512x1024.size i, p⟩] = castIn c W b D := by
  funext y
  have h := read_cast1 wbf1 D (wcols c W (b / 8)) (512 * (b % 8)) o i p h0 (fun x hi => (congrFun q x).trans (e x hi)) [] y
  rw [View.writes_nil] at h
  refine (congrFun (wread1 c _) y).symm.trans (h.trans ?_)
  unfold castIn
  rw [wread1]

theorem outV_of {x' x : Vec F S1024x2048 .bf16} {z' z : Vec F S1024x2048 .bf16} {r' r : Vec F S1024x1024 .f32} {A B : Vec F S2048x1024 .bf16} {C : Vec F S4096x1024 .bf16} (hx : x' = x) (hz : z' = z) (hA : A = lo C) (hB : B = hi C) (hr : r' = r) :
    k0_pay3 x' A z' B r' = outV x z C r := by subst hx hz hA hB hr; rfl
theorem outV_of' {x' x : Vec F S1024x2048 .bf16} {z' z : Vec F S1024x2048 .bf16} {r' r : Vec F S1024x1024 .f32} {A B : Vec F S2048x1024 .bf16} {C : Vec F S4096x1024 .bf16} (hx : x' = x) (hz : z' = z) (hA : A = lo C) (hB : B = hi C) (hr : r' = r) :
    k0_pay5 x' A z' B r' = outV x z C r := by subst hx hz hA hB hr; rfl

theorem hbPt_congr {sp : Space} {S : Shape} {e : EltTy} (M : Memref sig .tc sp S e) {f g : HbBuf (F := F) c M} (h : f = g) :
    hbPt (F := F) c M f ⊢ hbPt (F := F) c M g := by subst h; exact .rfl

theorem free_mk (s : Fin 2) (b : ℕ) (f : HbBuf (F := F) c (rpart s)) :
    iprop(cellP (F := F) c s ∗ partP c s f ∗ srcP c W s b ∗ restP c W s b) ⊢ free c W s := by
  unfold free
  iintro ⟨Hc, Hp, Hs, Hr⟩
  isplitl [Hc]; · iexact Hc
  isplitl [Hp]; · iexists f; iexact Hp
  iapply (src_split c W s b).2
  isplitl [Hs]; · iexact Hs
  iexact Hr

theorem infl_mk (s : Fin 2) (b : ℕ) (f : HbBuf (F := F) c (rpart s)) :
    iprop(flightP c W s b f ∗ restP c W s b) ⊢ infl c W s b := by
  unfold infl
  iintro ⟨Hf, Hr⟩
  iexists f
  isplitl [Hf]; · iexact Hf
  iexact Hr

theorem infl_mk' (s : Fin 2) (b : ℕ) (f : HbBuf (F := F) c (rpart s)) (L) :
    iprop(Transfers.Flight countersEmb (c : Thread nD τ) (cellR s) default ((rpart s).view.amount (cellR s))
      iprop(partP c s ((rpart s).view.writes (Elt F) f (⟨Rect.whole S512x1024, ReadAs.same.apply ((srcB b).view.read (Elt F) W)⟩ :: L)) ∗ srcP c W s b) ∗ restP c W s b) ⊢ infl c W s b :=
  infl_mk c W s b ((rpart s).view.writes (Elt F) f L)

theorem infl_first {t : Fin cfg0.N} (ht : t.val = 0) : infl c W 0 8 ⊢ infl c W (Ring.sl 2 t.val) (t.val + 8) := by rw [ht]; exact .rfl
theorem free_first {t : Fin cfg0.N} (ht : t.val = 0) : free c W 1 ⊢ free c W (Ring.sl 2 (t.val + 1)) := by rw [ht]; exact .rfl

/-- The first eight slabs fill a buffer with the first block. -/
theorem writes_pro (C : HbBuf (F := F) c wbf0) (i0 i1 i2 i3 i4 i5 i6 i7) (p0 p1 p2 p3 p4 p5 p6 p7 : Vec F S512x1024 .bf16) (v0 v1 v2 v3 v4 v5 v6 v7 : Vec F S1x1x512x1024 .f32)
    (q0 : p0 = truncf .bf16 (shapeCast S512x1024 v0 shapeCasts_S1x1x512x1024_S512x1024) bitsLt_bf16_f32)
    (e0 : ∀ x hi, truncf .bf16 (shapeCast S512x1024 v0 shapeCasts_S1x1x512x1024_S512x1024) bitsLt_bf16_f32 x = wcols c W (0 / 8) ((Rect.unit (s := S4096x1024) ![512 * (0 % 8), 0] S512x1024.size hi).emb x))
    (q1 : p1 = truncf .bf16 (shapeCast S512x1024 v1 shapeCasts_S1x1x512x1024_S512x1024) bitsLt_bf16_f32)
    (e1 : ∀ x hi, truncf .bf16 (shapeCast S512x1024 v1 shapeCasts_S1x1x512x1024_S512x1024) bitsLt_bf16_f32 x = wcols c W (1 / 8) ((Rect.unit (s := S4096x1024) ![512 * (1 % 8), 0] S512x1024.size hi).emb x))
    (q2 : p2 = truncf .bf16 (shapeCast S512x1024 v2 shapeCasts_S1x1x512x1024_S512x1024) bitsLt_bf16_f32)
    (e2 : ∀ x hi, truncf .bf16 (shapeCast S512x1024 v2 shapeCasts_S1x1x512x1024_S512x1024) bitsLt_bf16_f32 x = wcols c W (2 / 8) ((Rect.unit (s := S4096x1024) ![512 * (2 % 8), 0] S512x1024.size hi).emb x))
    (q3 : p3 = truncf .bf16 (shapeCast S512x1024 v3 shapeCasts_S1x1x512x1024_S512x1024) bitsLt_bf16_f32)
    (e3 : ∀ x hi, truncf .bf16 (shapeCast S512x1024 v3 shapeCasts_S1x1x512x1024_S512x1024) bitsLt_bf16_f32 x = wcols c W (3 / 8) ((Rect.unit (s := S4096x1024) ![512 * (3 % 8), 0] S512x1024.size hi).emb x))
    (q4 : p4 = truncf .bf16 (shapeCast S512x1024 v4 shapeCasts_S1x1x512x1024_S512x1024) bitsLt_bf16_f32)
    (e4 : ∀ x hi, truncf .bf16 (shapeCast S512x1024 v4 shapeCasts_S1x1x512x1024_S512x1024) bitsLt_bf16_f32 x = wcols c W (4 / 8) ((Rect.unit (s := S4096x1024) ![512 * (4 % 8), 0] S512x1024.size hi).emb x))
    (q5 : p5 = truncf .bf16 (shapeCast S512x1024 v5 shapeCasts_S1x1x512x1024_S512x1024) bitsLt_bf16_f32)
    (e5 : ∀ x hi, truncf .bf16 (shapeCast S512x1024 v5 shapeCasts_S1x1x512x1024_S512x1024) bitsLt_bf16_f32 x = wcols c W (5 / 8) ((Rect.unit (s := S4096x1024) ![512 * (5 % 8), 0] S512x1024.size hi).emb x))
    (q6 : p6 = truncf .bf16 (shapeCast S512x1024 v6 shapeCasts_S1x1x512x1024_S512x1024) bitsLt_bf16_f32)
    (e6 : ∀ x hi, truncf .bf16 (shapeCast S512x1024 v6 shapeCasts_S1x1x512x1024_S512x1024) bitsLt_bf16_f32 x = wcols c W (6 / 8) ((Rect.unit (s := S4096x1024) ![512 * (6 % 8), 0] S512x1024.size hi).emb x))
    (q7 : p7 = truncf .bf16 (shapeCast S512x1024 v7 shapeCasts_S1x1x512x1024_S512x1024) bitsLt_bf16_f32)
    (e7 : ∀ x hi, truncf .bf16 (shapeCast S512x1024 v7 shapeCasts_S1x1x512x1024_S512x1024) bitsLt_bf16_f32 x = wcols c W (7 / 8) ((Rect.unit (s := S4096x1024) ![512 * (7 % 8), 0] S512x1024.size hi).emb x))
    : wbf0.view.writes (Elt F) C [⟨Rect.unit (s := S4096x1024) ![3584, 0] S512x1024.size i7, p7⟩, ⟨Rect.unit (s := S4096x1024) ![3072, 0] S512x1024.size i6, p6⟩, ⟨Rect.unit (s := S4096x1024) ![2560, 0] S512x1024.size i5, p5⟩, ⟨Rect.unit (s := S4096x1024) ![2048, 0] S512x1024.size i4, p4⟩, ⟨Rect.unit (s := S4096x1024) ![1536, 0] S512x1024.size i3, p3⟩, ⟨Rect.unit (s := S4096x1024) ![1024, 0] S512x1024.size i2, p2⟩, ⟨Rect.unit (s := S4096x1024) ![512, 0] S512x1024.size i1, p1⟩, ⟨Rect.unit (s := S4096x1024) ![0, 0] S512x1024.size i0, p0⟩]
      = wcols c W 0 := by
  funext y
  have hy : (y 0).val < 4096 := (y 0).isLt
  refine (congrFun (wread0 c _) y).symm.trans ?_
  refine (read_cast1 wbf0 C (wcols c W 0) 3584 _ _ _ rfl (fun x hi => (congrFun q7 x).trans (e7 x hi)) _ y).trans ?_
  by_cases h7 : 3584 ≤ (y 0).val ∧ (y 0).val < 3584 + 512
  · exact if_pos h7
  refine (if_neg h7).trans ?_
  refine (read_cast1 wbf0 C (wcols c W 0) 3072 _ _ _ rfl (fun x hi => (congrFun q6 x).trans (e6 x hi)) _ y).trans ?_
  by_cases h6 : 3072 ≤ (y 0).val ∧ (y 0).val < 3072 + 512
  · exact if_pos h6
  refine (if_neg h6).trans ?_
  refine (read_cast1 wbf0 C (wcols c W 0) 2560 _ _ _ rfl (fun x hi => (congrFun q5 x).trans (e5 x hi)) _ y).trans ?_
  by_cases h5 : 2560 ≤ (y 0).val ∧ (y 0).val < 2560 + 512
  · exact if_pos h5
  refine (if_neg h5).trans ?_
  refine (read_cast1 wbf0 C (wcols c W 0) 2048 _ _ _ rfl (fun x hi => (congrFun q4 x).trans (e4 x hi)) _ y).trans ?_
  by_cases h4 : 2048 ≤ (y 0).val ∧ (y 0).val < 2048 + 512
  · exact if_pos h4
  refine (if_neg h4).trans ?_
  refine (read_cast1 wbf0 C (wcols c W 0) 1536 _ _ _ rfl (fun x hi => (congrFun q3 x).trans (e3 x hi)) _ y).trans ?_
  by_cases h3 : 1536 ≤ (y 0).val ∧ (y 0).val < 1536 + 512
  · exact if_pos h3
  refine (if_neg h3).trans ?_
  refine (read_cast1 wbf0 C (wcols c W 0) 1024 _ _ _ rfl (fun x hi => (congrFun q2 x).trans (e2 x hi)) _ y).trans ?_
  by_cases h2 : 1024 ≤ (y 0).val ∧ (y 0).val < 1024 + 512
  · exact if_pos h2
  refine (if_neg h2).trans ?_
  refine (read_cast1 wbf0 C (wcols c W 0) 512 _ _ _ rfl (fun x hi => (congrFun q1 x).trans (e1 x hi)) _ y).trans ?_
  by_cases h1 : 512 ≤ (y 0).val ∧ (y 0).val < 512 + 512
  · exact if_pos h1
  refine (if_neg h1).trans ?_
  refine (read_cast1 wbf0 C (wcols c W 0) 0 _ _ _ rfl (fun x hi => (congrFun q0 x).trans (e0 x hi)) _ y).trans ?_
  by_cases h0 : 0 ≤ (y 0).val ∧ (y 0).val < 0 + 512
  · exact if_pos h0
  refine (if_neg h0).trans ?_
  omega
end Whole

end Cert.Kernel5Ideal.Own

end
-- ==== Proof.RunE5.lean ====
module

public import proofs.«01_k».proof.Proof.Spec5

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runE (c : Dev nD) (t : Fin cfg0.N) (arg2 : Memref sig .tc .vmem S1024x2048 .bf16) (harg2 : arg2.IsWhole) (arg3 : Memref sig .tc .vmem S1024x2048 .bf16) (harg3 : arg3.IsWhole) (arg5 : Memref sig .tc .vmem S1024x1024 .f32) (harg5 : arg5.IsWhole) (arg6 : Memref sig .tc .vmem S1024x1024 .f32) (harg6 : arg6.IsWhole)
    (hc1 : ¬k0_cond1 (grid0.coords t) = 1#1) (hc2 : k0_cond2 (grid0.coords t) = 1#1) (hc3 : ¬k0_cond3 (grid0.coords t) = 1#1) (hc4 : ¬k0_cond4 (grid0.coords t) = 1#1)
    (x : Vec F S1024x2048 .bf16) (z : Vec F S1024x2048 .bf16) (r : Vec F S1024x1024 .f32) (W : HbBuf (F := F) c wM) (C : HbBuf (F := F) c wbf0) (D : HbBuf (F := F) c wbf1) (Q : sProp 𝕄)
    (hQ : iprop(owns (c : Thread nD τ) arg2 fullShare x ∗ owns (c : Thread nD τ) arg3 fullShare z ∗ owns (c : Thread nD τ) arg5 fullShare r ∗ owns (c : Thread nD τ) arg6 fullShare (outV x z C r)
                ∗ hbPt c wbf0 C ∗ hbPt c wbf1 (castIn c W (t.val + 8) D)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg3 fullShare z ∗ owns (c : Thread nD τ) arg5 fullShare r ∗ (∃ d, owns (c : Thread nD τ) arg6 fullShare d)
            ∗ hbPt c wbf0 C ∗ hbPt c wbf1 D ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_out_proj0 (grid0.coords t) arg2 harg2 arg3 harg3 (Memref.whole main_arg2) (Memref.isWhole_whole _) arg5 harg5 arg6 harg6 wbf0 (Memref.isWhole_whole _) wbf1 (Memref.isWhole_whole _) stg (Memref.isWhole_whole _) cc0_scratch3) K := by
    intro Ws K
    haveI : Fact (¬k0_cond1 (grid0.coords t) = 1#1) := ⟨hc1⟩
    haveI : Fact (k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    simp only [cc0_out_proj0_eq_skeleton]; unfold cc0_out_proj0_skel
    simp -proj only [k0_part11_eq_skeleton]
    unfold owns infl free
    iintro ⟨⟨%farg2, %hfarg2, Harg2⟩, ⟨%farg3, %hfarg3, Harg3⟩, ⟨%farg5, %hfarg5, Harg5⟩, ⟨%dout, %fout, -, Hout⟩, HC, HD, ⟨%g0, Hf, Hr⟩, ⟨Hc, ⟨%e0, Hs⟩, Hw⟩, HW, Hk⟩
    ihave Hx := (src_split c W (Ring.sl 2 (t.val + 1)) (t.val + 9)).1 $$ Hw
    icases Hx with ⟨Hh, Hq⟩
    obtain rfl := harg2.eq_unread hfarg2
    obtain rfl := harg3.eq_unread hfarg3
    obtain rfl := harg5.eq_unread hfarg5
    sl_exec (disch := first | sl_exact hc1 | sl_exact hc2 | sl_exact hc3 | sl_exact hc4)
    sl_open_run
    ihave HD := (hbPt_congr c wbf1 (writes_castIn1 c W (t.val + 8) _ _ _ _ _
      ((coff9 t).trans (by rw [Nat.add_mod_right]))
      (pe2 _) (cast_piece c W (Ring.sl 2 t.val) (t.val + 8) _ [] _ _ (coff8 t) _))) $$ HD
    sl_step
    iapply Hk
    iapply hQ
    isplitl [Harg2]
    · unfold owns; iexists _; isplitr
      · ipureintro; exact harg2.read_unread x
      · iexact Harg2
    isplitl [Harg3]
    · unfold owns; iexists _; isplitr
      · ipureintro; exact harg3.read_unread z
      · iexact Harg3
    isplitl [Harg5]
    · unfold owns; iexists _; isplitr
      · ipureintro; exact harg5.read_unread r
      · iexact Harg5
    isplitl [Hout]
    · unfold owns; iexists _; isplitr
      swap; · iexact Hout
      ipureintro
      refine (View.read_writes_full _ _ _ _ _).trans (outV_of ?_ ?_ ?_ ?_ ?_)
      · exact ld_arg2 harg2 x _
      · exact ld_arg3 harg3 z _
      · rfl
      · rfl
      · exact ld_arg5 harg5 r _
    isplitl [HC]; · iexact HC
    isplitl [HD]; · iexact HD
    isplitl [Hc Hq]
    · iapply (infl_mk c W (Ring.sl 2 (t.val + 1)) _ _); isplitl [Hc]; · iexact Hc
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel5Ideal.Own

end
-- ==== Proof.RunO5.lean ====
module

public import proofs.«01_k».proof.Proof.Spec5

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runO (c : Dev nD) (t : Fin cfg0.N) (arg2 : Memref sig .tc .vmem S1024x2048 .bf16) (harg2 : arg2.IsWhole) (arg3 : Memref sig .tc .vmem S1024x2048 .bf16) (harg3 : arg3.IsWhole) (arg5 : Memref sig .tc .vmem S1024x1024 .f32) (harg5 : arg5.IsWhole) (arg6 : Memref sig .tc .vmem S1024x1024 .f32) (harg6 : arg6.IsWhole)
    (hc1 : ¬k0_cond1 (grid0.coords t) = 1#1) (hc2 : ¬k0_cond2 (grid0.coords t) = 1#1) (hc3 : k0_cond3 (grid0.coords t) = 1#1) (hc4 : ¬k0_cond4 (grid0.coords t) = 1#1)
    (x : Vec F S1024x2048 .bf16) (z : Vec F S1024x2048 .bf16) (r : Vec F S1024x1024 .f32) (W : HbBuf (F := F) c wM) (C : HbBuf (F := F) c wbf1) (D : HbBuf (F := F) c wbf0) (Q : sProp 𝕄)
    (hQ : iprop(owns (c : Thread nD τ) arg2 fullShare x ∗ owns (c : Thread nD τ) arg3 fullShare z ∗ owns (c : Thread nD τ) arg5 fullShare r ∗ owns (c : Thread nD τ) arg6 fullShare (outV x z C r)
                ∗ hbPt c wbf1 C ∗ hbPt c wbf0 (castIn c W (t.val + 8) D)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg3 fullShare z ∗ owns (c : Thread nD τ) arg5 fullShare r ∗ (∃ d, owns (c : Thread nD τ) arg6 fullShare d)
            ∗ hbPt c wbf1 C ∗ hbPt c wbf0 D ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_out_proj0 (grid0.coords t) arg2 harg2 arg3 harg3 (Memref.whole main_arg2) (Memref.isWhole_whole _) arg5 harg5 arg6 harg6 wbf0 (Memref.isWhole_whole _) wbf1 (Memref.isWhole_whole _) stg (Memref.isWhole_whole _) cc0_scratch3) K := by
    intro Ws K
    haveI : Fact (¬k0_cond1 (grid0.coords t) = 1#1) := ⟨hc1⟩
    haveI : Fact (¬k0_cond2 (grid0.coords t) = 1#1) := ⟨hc2⟩
    haveI : Fact (k0_cond3 (grid0.coords t) = 1#1) := ⟨hc3⟩
    haveI : Fact (¬k0_cond4 (grid0.coords t) = 1#1) := ⟨hc4⟩
    simp only [cc0_out_proj0_eq_skeleton]; unfold cc0_out_proj0_skel
    simp -proj only [k0_part12_eq_skeleton]
    unfold owns infl free
    iintro ⟨⟨%farg2, %hfarg2, Harg2⟩, ⟨%farg3, %hfarg3, Harg3⟩, ⟨%farg5, %hfarg5, Harg5⟩, ⟨%dout, %fout, -, Hout⟩, HC, HD, ⟨%g0, Hf, Hr⟩, ⟨Hc, ⟨%e0, Hs⟩, Hw⟩, HW, Hk⟩
    ihave Hx := (src_split c W (Ring.sl 2 (t.val + 1)) (t.val + 9)).1 $$ Hw
    icases Hx with ⟨Hh, Hq⟩
    obtain rfl := harg2.eq_unread hfarg2
    obtain rfl := harg3.eq_unread hfarg3
    obtain rfl := harg5.eq_unread hfarg5
    sl_exec (disch := first | sl_exact hc1 | sl_exact hc2 | sl_exact hc3 | sl_exact hc4)
    sl_open_run
    ihave HD := (hbPt_congr c wbf0 (writes_castIn0 c W (t.val + 8) _ _ _ _ _
      ((coff17 t).trans (by rw [Nat.add_mod_right]))
      (pe4 _) (cast_piece c W (Ring.sl 2 t.val) (t.val + 8) _ [] _ _ (coff16 t) _))) $$ HD
    sl_step
    iapply Hk
    iapply hQ
    isplitl [Harg2]
    · unfold owns; iexists _; isplitr
      · ipureintro; exact harg2.read_unread x
      · iexact Harg2
    isplitl [Harg3]
    · unfold owns; iexists _; isplitr
      · ipureintro; exact harg3.read_unread z
      · iexact Harg3
    isplitl [Harg5]
    · unfold owns; iexists _; isplitr
      · ipureintro; exact harg5.read_unread r
      · iexact Harg5
    isplitl [Hout]
    · unfold owns; iexists _; isplitr
      swap; · iexact Hout
      ipureintro
      refine (View.read_writes_full _ _ _ _ _).trans (outV_of' ?_ ?_ ?_ ?_ ?_)
      · exact ld_arg2 harg2 x _
      · exact ld_arg3 harg3 z _
      · rfl
      · rfl
      · exact ld_arg5 harg5 r _
    isplitl [HC]; · iexact HC
    isplitl [HD]; · iexact HD
    isplitl [Hc Hq]
    · iapply (infl_mk c W (Ring.sl 2 (t.val + 1)) _ _); isplitl [Hc]; · iexact Hc
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel5Ideal.Own

end
-- ==== Proof.RunL5.lean ====
module

public import proofs.«01_k».proof.Proof.Spec5

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runL (c : Dev nD) (t : Fin cfg0.N) (arg2 : Memref sig .tc .vmem S1024x2048 .bf16) (harg2 : arg2.IsWhole) (arg3 : Memref sig .tc .vmem S1024x2048 .bf16) (harg3 : arg3.IsWhole) (arg5 : Memref sig .tc .vmem S1024x1024 .f32) (harg5 : arg5.IsWhole) (arg6 : Memref sig .tc .vmem S1024x1024 .f32) (harg6 : arg6.IsWhole)
    (hc1 : ¬k0_cond1 (grid0.coords t) = 1#1) (hc2 : ¬k0_cond2 (grid0.coords t) = 1#1) (hc3 : k0_cond3 (grid0.coords t) = 1#1) (hc4 : k0_cond4 (grid0.coords t) = 1#1)
    (x : Vec F S1024x2048 .bf16) (z : Vec F S1024x2048 .bf16) (r : Vec F S1024x1024 .f32) (W : HbBuf (F := F) c wM) (C : HbBuf (F := F) c wbf1) (D : HbBuf (F := F) c wbf0) (Q : sProp 𝕄)
    (hQ : iprop(owns (c : Thread nD τ) arg2 fullShare x ∗ owns (c : Thread nD τ) arg3 fullShare z ∗ owns (c : Thread nD τ) arg5 fullShare r ∗ owns (c : Thread nD τ) arg6 fullShare (outV x z C r)
                ∗ hbPt c wbf1 C ∗ hbPt c wbf0 (castIn c W (t.val + 8) D)
                ∗ free c W (Ring.sl 2 (t.val + 1)) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg3 fullShare z ∗ owns (c : Thread nD τ) arg5 fullShare r ∗ (∃ d, owns (c : Thread nD τ) arg6 fullShare d)
            ∗ hbPt c wbf1 C ∗ hbPt c wbf0 D ∗ infl c W (Ring.sl 2 t.val) (t.val + 8) ∗ free c W (Ring.sl 2 (t.val + 1)) ∗ owes (c : Thread nD τ) 0 Ws
            ∗ (Q -∗ K ⟨⟩))
          ⊢ wp frame (wpE (defs₀ (F := F)) Variants.none c none) Set.univ (cc0_out_proj0 (grid0.coords t) arg2 harg2 arg3 harg3 (Memref.whole main_arg2) (Memref.isWhole_whole _) arg5 harg5 arg6 harg6 wbf0 (Memref.isWhole_whole _) wbf1 (Memref.isWhole_whole _) stg (Memref.isWhole_whole _) cc0_scratch3) K := by
    intro Ws K
    haveI : Fact (¬k0_cond1 (grid0.coords t) = 1#1) := ⟨hc1⟩
    haveI : Fact (¬k0_cond2 (grid0.coords t) = 1#1) := ⟨hc2⟩
    haveI : Fact (k0_cond3 (grid0.coords t) = 1#1) := ⟨hc3⟩
    haveI : Fact (k0_cond4 (grid0.coords t) = 1#1) := ⟨hc4⟩
    simp only [cc0_out_proj0_eq_skeleton]; unfold cc0_out_proj0_skel
    simp -proj only [k0_part12_eq_skeleton]
    unfold owns infl free
    iintro ⟨⟨%farg2, %hfarg2, Harg2⟩, ⟨%farg3, %hfarg3, Harg3⟩, ⟨%farg5, %hfarg5, Harg5⟩, ⟨%dout, %fout, -, Hout⟩, HC, HD, ⟨%g0, Hf, Hr⟩, ⟨Hc, ⟨%e0, Hs⟩, Hw⟩, HW, Hk⟩
    ihave Hx := (src_split c W (Ring.sl 2 (t.val + 1)) (t.val + 9)).1 $$ Hw
    icases Hx with ⟨Hh, Hq⟩
    obtain rfl := harg2.eq_unread hfarg2
    obtain rfl := harg3.eq_unread hfarg3
    obtain rfl := harg5.eq_unread hfarg5
    set_option sl_exec.stopBefore "k0_cond4" in sl_exec (disch := first | sl_exact hc1 | sl_exact hc2 | sl_exact hc3 | sl_exact hc4)
    ihave Hx := (infl_mk c W (Ring.sl 2 (t.val + 1)) (t.val + 9) _) $$ [Hc Hq]
    · isplitl [Hc]; · iexact Hc
      iexact Hq
    unfold infl
    icases Hx with ⟨%u0, Hc, Hq⟩
    sl_exec (disch := first | sl_exact hc1 | sl_exact hc2 | sl_exact hc3 | sl_exact hc4)
    sl_open_run
    ihave HD := (hbPt_congr c wbf0 (writes_castIn0 c W (t.val + 8) _ _ _ _ _
      ((coff17 t).trans (by rw [Nat.add_mod_right]))
      (pe4 _) (cast_piece c W (Ring.sl 2 t.val) (t.val + 8) _ [] _ _ (coff16 t) _))) $$ HD
    sl_step
    iapply Hk
    iapply hQ
    isplitl [Harg2]
    · unfold owns; iexists _; isplitr
      · ipureintro; exact harg2.read_unread x
      · iexact Harg2
    isplitl [Harg3]
    · unfold owns; iexists _; isplitr
      · ipureintro; exact harg3.read_unread z
      · iexact Harg3
    isplitl [Harg5]
    · unfold owns; iexists _; isplitr
      · ipureintro; exact harg5.read_unread r
      · iexact Harg5
    isplitl [Hout]
    · unfold owns; iexists _; isplitr
      swap; · iexact Hout
      ipureintro
      refine (View.read_writes_full _ _ _ _ _).trans (outV_of' ?_ ?_ ?_ ?_ ?_)
      · exact ld_arg2 harg2 x _
      · exact ld_arg3 harg3 z _
      · rfl
      · rfl
      · exact ld_arg5 harg5 r _
    isplitl [HC]; · iexact HC
    isplitl [HD]; · iexact HD
    isplitl [Hc Hc_dst Hc_src Hq]
    · iapply (free_mk c W (Ring.sl 2 (t.val + 1)) _ _)
      isplitl [Hc]; · iexact Hc
      isplitl [Hc_dst]; · iexact Hc_dst
      isplitl [Hc_src]; · iexact Hc_src
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel5Ideal.Own

end
-- ==== Proof.RunF5.lean ====
module

public import proofs.«01_k».proof.Proof.Spec5

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runF (c : Dev nD) (t : Fin cfg0.N) (arg2 : Memref sig .tc .vmem S1024x2048 .bf16) (harg2 : arg2.IsWhole) (arg3 : Memref sig .tc .vmem S1024x2048 .bf16) (harg3 : arg3.IsWhole) (arg5 : Memref sig .tc .vmem S1024x1024 .f32) (harg5 : arg5.IsWhole) (arg6 : Memref sig .tc .vmem S1024x1024 .f32) (harg6 : arg6.IsWhole)
    (hc1 : k0_cond1 (grid0.coords t) = 1#1) (hc2 : k0_cond2 (grid0.coords t) = 1#1) (hc3 : ¬k0_cond3 (grid0.coords t) = 1#1) (hc4 : ¬k0_cond4 (grid0.coords t) = 1#1)
    (x : Vec F S1024x2048 .bf16) (z : Vec F S1024x2048 .bf16) (r : Vec F S1024x1024 .f32) (W : HbBuf (F := F) c wM) (C : HbBuf (F := F) c wbf0) (D : HbBuf (F := F) c wbf1) (Q : sProp 𝕄)
    (hQ : iprop(owns (c : Thread nD τ) arg2 fullShare x ∗ owns (c : Thread nD τ) arg3 fullShare z ∗ owns (c : Thread nD τ) arg5 fullShare r ∗ owns (c : Thread nD τ) arg6 fullShare (outV x z (wcols c W 0) r)
                ∗ hbPt c wbf0 (wcols c W 0) ∗ hbPt c wbf1 (castIn c W (t.val + 8) D)
                ∗ infl c W (Ring.sl 2 (t.val + 1)) (t.val + 9) ∗ free c W (Ring.sl 2 t.val) ∗ ∃ Ws', owes (c : Thread nD τ) 0 Ws') ⊢ Q) :
      ∀ (Ws : Waits sig Unit) (K : PUnit → sProp 𝕄),
        iprop(owns (c : Thread nD τ) arg2 fullShare x ∗ owns (c : Thread nD τ) arg3 fullShare z ∗ owns (c : Thread nD τ) arg5 fullShare r ∗ (∃ d, owns (c : Thread nD τ) arg6 fullShare d)
            ∗ hbPt c wbf0 C ∗ hbPt c wbf1 D ∗ free c W 0 ∗ free c W 1 ∗ owes (c : Thread nD τ) 0 Ws
            ∗ (Q -∗ K ⟨⟩))
          ⊢ wp frame (wpE (defs₀ (F := F)) Variants.none c none) Set.univ (cc0_out_proj0 (grid0.coords t) arg2 harg2 arg3 harg3 (Memref.whole main_arg2) (Memref.isWhole_whole _) arg5 harg5 arg6 harg6 wbf0 (Memref.isWhole_whole _) wbf1 (Memref.isWhole_whole _) stg (Memref.isWhole_whole _) cc0_scratch3) K := by
    intro Ws K
    haveI : Fact (k0_cond1 (grid0.coords t) = 1#1) := ⟨hc1⟩
    haveI : Fact (k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    have ht : t.val = 0 := (hcond1 t).mp hc1
    simp only [cc0_out_proj0_eq_skeleton]; unfold cc0_out_proj0_skel
    simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns free
    iintro ⟨⟨%farg2, %hfarg2, Harg2⟩, ⟨%farg3, %hfarg3, Harg3⟩, ⟨%farg5, %hfarg5, Harg5⟩, ⟨%dout, %fout, -, Hout⟩, HC, HD, ⟨Hc0, ⟨%e0, Hs0⟩, Hw0⟩, ⟨Hc1, ⟨%e1, Hs1⟩, Hw1⟩, HW, Hk⟩
    ihave Hx := (src_split c W 0 0).1 $$ Hw0
    icases Hx with ⟨Hh0, Hk0⟩
    ihave Hx := (src_split c W 1 1).1 $$ Hw1
    icases Hx with ⟨Hh1, Hk1⟩
    obtain rfl := harg2.eq_unread hfarg2
    obtain rfl := harg3.eq_unread hfarg3
    obtain rfl := harg5.eq_unread hfarg5
    sl_exec (disch := first | sl_exact hc1 | sl_exact hc2 | sl_exact hc3 | sl_exact hc4)
    ihave Hx := (src_swap c W 0 0 2) $$ [Hh0 Hk0]
    · isplitl [Hh0]; · iexact Hh0
      iexact Hk0
    icases Hx with ⟨Hh0, Hk0⟩
    sl_exec (disch := first | sl_exact hc1 | sl_exact hc2 | sl_exact hc3 | sl_exact hc4)
    ihave Hx := (src_swap c W 1 1 3) $$ [Hh1 Hk1]
    · isplitl [Hh1]; · iexact Hh1
      iexact Hk1
    icases Hx with ⟨Hh1, Hk1⟩
    sl_exec (disch := first | sl_exact hc1 | sl_exact hc2 | sl_exact hc3 | sl_exact hc4)
    ihave Hx := (src_swap c W 0 2 4) $$ [Hh0 Hk0]
    · isplitl [Hh0]; · iexact Hh0
      iexact Hk0
    icases Hx with ⟨Hh0, Hk0⟩
    sl_exec (disch := first | sl_exact hc1 | sl_exact hc2 | sl_exact hc3 | sl_exact hc4)
    ihave Hx := (src_swap c W 1 3 5) $$ [Hh1 Hk1]
    · isplitl [Hh1]; · iexact Hh1
      iexact Hk1
    icases Hx with ⟨Hh1, Hk1⟩
    sl_exec (disch := first | sl_exact hc1 | sl_exact hc2 | sl_exact hc3 | sl_exact hc4)
    ihave Hx := (src_swap c W 0 4 6) $$ [Hh0 Hk0]
    · isplitl [Hh0]; · iexact Hh0
      iexact Hk0
    icases Hx with ⟨Hh0, Hk0⟩
    sl_exec (disch := first | sl_exact hc1 | sl_exact hc2 | sl_exact hc3 | sl_exact hc4)
    ihave Hx := (src_swap c W 1 5 7) $$ [Hh1 Hk1]
    · isplitl [Hh1]; · iexact Hh1
      iexact Hk1
    icases Hx with ⟨Hh1, Hk1⟩
    sl_exec (disch := first | sl_exact hc1 | sl_exact hc2 | sl_exact hc3 | sl_exact hc4)
    ihave Hx := (src_swap c W 0 6 8) $$ [Hh0 Hk0]
    · isplitl [Hh0]; · iexact Hh0
      iexact Hk0
    icases Hx with ⟨Hh0, Hk0⟩
    set_option sl_exec.stopBefore "k0_part11" in sl_exec (disch := first | sl_exact hc1 | sl_exact hc2 | sl_exact hc3 | sl_exact hc4)
    sl_open_run
    ihave HC := (hbPt_congr c wbf0 (writes_pro c W _ _ _ _ _ _ _ _ _ _ _ _ _ _ _ _ _ _ _ _ _ _ _ _ _
      (pe6 _) (cast_piece c W 0 0 _ _ ![0, 0, 0, 0] _ rfl _)
      (pe7 _) (cast_piece c W 1 1 _ _ ![1, 0, 0, 0] _ rfl _)
      (pe8 _) (cast_piece c W 0 2 _ _ ![0, 0, 0, 0] _ rfl _)
      (pe9 _) (cast_piece c W 1 3 _ _ ![1, 0, 0, 0] _ rfl _)
      (pe10 _) (cast_piece c W 0 4 _ _ ![0, 0, 0, 0] _ rfl _)
      (pe11 _) (cast_piece c W 1 5 _ _ ![1, 0, 0, 0] _ rfl _)
      (pe12 _) (cast_piece c W 0 6 _ _ ![0, 0, 0, 0] _ rfl _)
      (pe1 _) (cast_piece c W 1 7 _ _ ![1, 0, 0, 0] _ rfl _))) $$ HC
    ihave Hi : infl c W 0 8 $$ [Hc0 Hk0]
    · iapply (infl_mk' c W 0 8 _ _); isplitl [Hc0]; · iexact Hc0
      iexact Hk0
    ihave Hj : free c W 1 $$ [Hc1 Hs1 Hh1 Hk1]
    · iapply (free_mk c W 1 7 _)
      isplitl [Hc1]; · iexact Hc1
      isplitl [Hs1]; · iexact Hs1
      isplitl [Hh1]; · iexact Hh1
      iexact Hk1
    ihave Hi := (infl_first c W ht) $$ Hi
    ihave Hj := (free_first c W ht) $$ Hj
    unfold infl free
    icases Hi with ⟨%g0, Hf, Hr⟩
    icases Hj with ⟨Hc, ⟨%e2, Hs⟩, Hw⟩
    ihave Hx := (src_split c W (Ring.sl 2 (t.val + 1)) (t.val + 9)).1 $$ Hw
    icases Hx with ⟨Hh, Hq⟩
    sl_exec (disch := first | sl_exact hc1 | sl_exact hc2 | sl_exact hc3 | sl_exact hc4)
    sl_open_run
    ihave HD := (hbPt_congr c wbf1 (writes_castIn1 c W (t.val + 8) _ _ _ _ _
      ((coff9 t).trans (by rw [Nat.add_mod_right]))
      (pe2 _) (cast_piece c W (Ring.sl 2 t.val) (t.val + 8) _ [] _ _ (coff8 t) _))) $$ HD
    sl_step
    iapply Hk
    iapply hQ
    isplitl [Harg2]
    · unfold owns; iexists _; isplitr
      · ipureintro; exact harg2.read_unread x
      · iexact Harg2
    isplitl [Harg3]
    · unfold owns; iexists _; isplitr
      · ipureintro; exact harg3.read_unread z
      · iexact Harg3
    isplitl [Harg5]
    · unfold owns; iexists _; isplitr
      · ipureintro; exact harg5.read_unread r
      · iexact Harg5
    isplitl [Hout]
    · unfold owns; iexists _; isplitr
      swap; · iexact Hout
      ipureintro
      refine (View.read_writes_full _ _ _ _ _).trans (outV_of ?_ ?_ ?_ ?_ ?_)
      · exact ld_arg2 harg2 x _
      · exact ld_arg3 harg3 z _
      · rfl
      · rfl
      · exact ld_arg5 harg5 r _
    isplitl [HC]; · iexact HC
    isplitl [HD]; · iexact HD
    isplitl [Hc Hq]
    · iapply (infl_mk c W (Ring.sl 2 (t.val + 1)) _ _); isplitl [Hc]; · iexact Hc
      iexact Hq
    isplitl [Hf Hf_dst Hf_src Hr]
    · iapply (free_mk c W (Ring.sl 2 t.val) _ _)
      isplitl [Hf]; · iexact Hf
      isplitl [Hf_dst]; · iexact Hf_dst
      isplitl [Hf_src]; · iexact Hf_src
      iexact Hr
    iexists _; iexact HW

end Cert.Kernel5Ideal.Own

end
-- ==== Proof.Frame5.lean ====
module

public import proofs.«01_k».proof.Proof.RunE5
public import proofs.«01_k».proof.Proof.RunO5
public import proofs.«01_k».proof.Proof.RunL5
public import proofs.«01_k».proof.Proof.RunF5
public import proofs.«01_k».proof.Proof.Gen.Kernel5Ideal.Frame
public import Idealize.ShloMosaic.Lib.Ring.AtN
public import Idealize.ShloMosaic.Lib.Claim

@[expose] public section

set_option maxRecDepth 16384

noncomputable section

namespace Cert.Kernel5Ideal.Own

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The stage buffer is its two slots; the weights' copies -/

abbrev partSet (k : Fin 2) : Finset S2x1x512x1024.Idx := (Rect.unit (s := S2x1x512x1024) ![k.val, 0, 0, 0] S1x1x512x1024.size (inb_part k)).set
theorem partSet_eq (k : Fin 2) : (rpart k).view.set = partSet k := by
  simp only [rpart, Memref.view_squeeze, View.set_reshape]; exact View.set_slice_whole _ _
theorem parts_disjoint (k k' : Fin 2) (h : k ≠ k') : Disjoint (partSet k) (partSet k') := by
  rw [Finset.disjoint_left]
  intro i hi hi'
  have h0 := (Rect.mem_set_unit.mp hi) 0
  have h0' := (Rect.mem_set_unit.mp hi') 0
  have e0 : (S1x1x512x1024.size 0) = 1 := rfl
  simp only [Matrix.cons_val_zero] at h0 h0'
  exact h (Fin.ext (by omega))
theorem parts_cover : Finset.univ.biUnion partSet = Finset.univ := by
  ext i
  simp only [Finset.mem_biUnion, Finset.mem_univ, true_and, iff_true]
  have b0 : (i 0).val < 2 := (i 0).isLt
  have b1 : (i 1).val < 1 := (i 1).isLt
  have b2 : (i 2).val < 512 := (i 2).isLt
  have b3 : (i 3).val < 1024 := (i 3).isLt
  refine ⟨⟨(i 0).val, by omega⟩, Rect.mem_set_unit.mpr fun a => ?_⟩
  fin_cases a
  · show (i 0).val ≤ (i 0).val ∧ (i 0).val < (i 0).val + 1; omega
  · show 0 ≤ (i 1).val ∧ (i 1).val < 0 + 1; omega
  · show 0 ≤ (i 2).val ∧ (i 2).val < 0 + 512; omega
  · show 0 ≤ (i 3).val ∧ (i 3).val < 0 + 1024; omega

section InOut
variable (c : Dev nD) (W : HbBuf (F := F) c wM)
theorem partP_eq (k : Fin 2) (f : Buf (Elt F) ((c : Thread nD τ).loc cc0_scratch2)) :
    partP (F := F) c k f = (((c : Thread nD τ).loc cc0_scratch2) ↦[partSet k]{fullShare} f : sProp 𝕄) := by
  unfold partP; rw [partSet_eq]; rfl
/-- The two slots, each at some contents. -/
def parts : sProp 𝕄 := iprop((∃ f, partP (F := F) c 0 f) ∗ (∃ f, partP (F := F) c 1 f))
theorem parts_in : iprop(∃ f, hbPt (F := F) c stg f) ⊢ parts (F := F) c :=
  Ring.slots_split_n (U := Pipeline.UD sig nD τ) (ℓ := (c : Thread nD τ).loc cc0_scratch2) (q := fullShare) partSet parts_disjoint parts_cover
    [0, 1] (by decide) (by decide) (fun k f => partP (F := F) c k f) (fun k f => partP_eq c k f)
theorem parts_out : parts (F := F) c ⊢ iprop(∃ f, hbPt (F := F) c stg f) :=
  Ring.slots_join_n (U := Pipeline.UD sig nD τ) (ℓ := (c : Thread nD τ).loc cc0_scratch2) (q := fullShare) partSet parts_disjoint parts_cover
    [0, 1] (by decide) (by decide) (fun k f => partP (F := F) c k f) (fun k f => partP_eq c k f)

theorem whole2 : (hbPt c wM W : sProp 𝕄) ⊣⊢ iprop(wholeP (F := F) c W 0 ∗ wholeP c W 1) :=
  pointsTo_share (PosShare.mem_left_op_right fullShare)

/-- The cells at zero. -/
def cells : sProp 𝕄 := iprop(cellP (F := F) c 0 ∗ cellP c 1)

theorem ring_in : iprop((∃ f, hbPt (F := F) c stg f) ∗ cells c ∗ hbPt c wM W) ⊢ iprop(free c W 0 ∗ free c W 1) := by
  unfold cells
  iintro ⟨HS, ⟨C0, C1⟩, HW⟩
  ihave HS := (parts_in (F := F) c) $$ HS
  unfold parts
  icases HS with ⟨P0, P1⟩
  ihave HW := (whole2 c W).1 $$ HW
  icases HW with ⟨A0, A1⟩
  unfold free
  isplitl [C0 P0 A0]
  · isplitl [C0]; · iexact C0
    isplitl [P0]; · iexact P0
    iexact A0
  isplitl [C1]; · iexact C1
  isplitl [P1]; · iexact P1
  iexact A1

theorem ring_out : iprop(free c W 0 ∗ free c W 1) ⊢ iprop((∃ f, hbPt (F := F) c stg f) ∗ cells c ∗ hbPt c wM W) := by
  unfold free
  iintro ⟨⟨C0, P0, A0⟩, ⟨C1, P1, A1⟩⟩
  isplitl [P0 P1]
  · iapply (parts_out (F := F) c)
    unfold parts
    isplitl [P0]; · iexact P0
    iexact P1
  isplitl [C0 C1]
  · unfold cells
    isplitl [C0]; · iexact C0
    iexact C1
  iapply (whole2 c W).2
  isplitl [A0]; · iexact A0
  iexact A1
end InOut

/-! ## The launch's own semaphores and the array left where it is -/

abbrev osem : Fin 2 → SemLoc sig := fun j => (![SemLoc.dma 8, SemLoc.dma 9] : Fin 2 → SemLoc sig) j
theorem ownSemFacts : Pipeline.OwnSemFacts spec0 osem := by decide
theorem osem_cell : ∀ k : Fin 2, cellR k = osem k := by decide
theorem ownSems0_eq (c : Dev nD) :
    (Pipeline.ownSems0 (Ix := Unit) (Name := ℕ) (U := Pipeline.UD sig nD τ) (Lvl := ℕ) (Val := Elt F) (τ := τ) osem c : sProp 𝕄) = cells (F := F) c := by
  have e : ∀ k : Fin 2, (semVal ((c : Thread nD τ), osem k) 0 : sProp 𝕄) = cellP (F := F) c k := fun k => by rw [← osem_cell k]
  rw [Pipeline.ownSems0_eq_of_list c osem [0, 1] (by decide) (by decide)]
  unfold cells
  refine Eq.trans (show _ = iprop(semVal ((c : Thread nD τ), osem 0) 0 ∗ semVal ((c : Thread nD τ), osem 1) 0) from rfl) ?_
  rw [e 0, e 1]
def H0 : Finset (Ref sig .tc) := {main_arg2}
theorem H0_sub : H0 ⊆ Pipeline.restRefs sig spec0 := by decide

variable (m : (ℓ : Loc nD τ sig) → Buf (Elt F) ℓ) (ρ : Dev nD → PrngReg)

theorem hbmPts0_eq (c : Dev nD) :
    (bigSep H0 (fun b => ((c : Thread nD τ).loc b) ↦{fullShare} V m c b) : sProp 𝕄) = iprop(hbPt c wM (V m c main_arg2)) := by
  rw [BI.bigSep_eq_bigSepL_of_eq [main_arg2] (by decide) (by decide)]; rfl

theorem PhiD0_eq (c : Dev nD) :
    (Pipeline.ΦD osem spec0 H0 (V m) c : sProp 𝕄)
      = iprop(iprop((∃ f, hbPt (F := F) c wbf0 f) ∗ (∃ f, hbPt (F := F) c wbf1 f) ∗ (∃ f, hbPt (F := F) c stg f)) ∗ (∃ r, prngReg c r) ∗ cells (F := F) c ∗ iprop(hbPt c wM (V m c main_arg2))) := by
  rw [Pipeline.ΦD_eq, scopedRest0_eq, ownSems0_eq, hbmPts0_eq]; try rfl

/-! ## What the buffers hold before each point -/

/-- The other buffer holds the first `k mod 8` parts of the next block. -/
def Has (c : Dev nD) (k : ℕ) (D : Vec F S4096x1024 .bf16) : Prop :=
  ∀ y, (y 0).val < 512 * (k % 8) → D y = wcols c (V m c main_arg2) (k / 8 + 1) y

/-- The two buffers, by the parity of the block. -/
def duo (c : Dev nD) (n : ℕ) (A B : Vec F S4096x1024 .bf16) : sProp 𝕄 :=
  if n % 16 < 8 then iprop(hbPt (F := F) c wbf0 A ∗ hbPt (F := F) c wbf1 B) else iprop(hbPt (F := F) c wbf1 A ∗ hbPt (F := F) c wbf0 B)

theorem duo_swap (c : Dev nD) (n : ℕ) (A B : Vec F S4096x1024 .bf16) (h : n % 8 = 7) : duo (F := F) c n A B ⊢ duo (F := F) c (n + 1) B A := by
  unfold duo
  by_cases hp : n % 16 < 8
  · rw [if_pos hp, if_neg (show ¬(n + 1) % 16 < 8 by omega)]
    iintro ⟨Ha, Hb⟩
    isplitl [Hb]; · iexact Hb
    iexact Ha
  · rw [if_neg hp, if_pos (show (n + 1) % 16 < 8 by omega)]
    iintro ⟨Ha, Hb⟩
    isplitl [Hb]; · iexact Hb
    iexact Ha
theorem duo_keep (c : Dev nD) (n : ℕ) (A B : Vec F S4096x1024 .bf16) (h : ¬n % 8 = 7) : duo (F := F) c n A B ⊢ duo (F := F) c (n + 1) A B := by
  unfold duo
  by_cases hp : n % 16 < 8
  · rw [if_pos hp, if_pos (show (n + 1) % 16 < 8 by omega)]
  · rw [if_neg hp, if_neg (show ¬(n + 1) % 16 < 8 by omega)]

/-- The staging slots before point `k`. -/
def slots (c : Dev nD) (k : ℕ) : sProp 𝕄 :=
  if k = 32 then iprop(free c (V m c main_arg2) (Ring.sl 2 k) ∗ free c (V m c main_arg2) (Ring.sl 2 (k + 1)))
  else iprop(infl c (V m c main_arg2) (Ring.sl 2 k) (k + 8) ∗ free c (V m c main_arg2) (Ring.sl 2 (k + 1)))

/-- What the kernel holds before point `k`. -/
def Phi (c : Dev nD) (k : ℕ) : sProp 𝕄 :=
  if k = 0 then iprop((∃ f, hbPt (F := F) c wbf0 f) ∗ (∃ f, hbPt (F := F) c wbf1 f) ∗ free c (V m c main_arg2) 0 ∗ free c (V m c main_arg2) 1 ∗ (∃ r, prngReg c r))
  else iprop(∃ D, ⌜Has m c k D⌝ ∗ duo c k (wcols c (V m c main_arg2) (k / 8)) D ∗ slots m c k ∗ (∃ r, prngReg c r))

theorem castIn_has (c : Dev nD) (t : ℕ) (D : Vec F S4096x1024 .bf16) (h : Has m c t D) (y) (hy : (y 0).val < 512 * (t % 8 + 1)) :
    castIn c (V m c main_arg2) (t + 8) D y = wcols c (V m c main_arg2) (t / 8 + 1) y := by
  unfold castIn
  have e1 : (t + 8) % 8 = t % 8 := by omega
  have e2 : (t + 8) / 8 = t / 8 + 1 := by omega
  rw [e1, e2]
  split
  · rfl
  · exact h y (by omega)

/-- After a point the invariant holds before the next. -/
theorem step (c : Dev nD) (t : Fin cfg0.N) (D : Vec F S4096x1024 .bf16) (h : Has m c t.val D) :
    iprop(duo (F := F) c t.val (wcols c (V m c main_arg2) (t.val / 8)) (castIn c (V m c main_arg2) (t.val + 8) D)
      ∗ slots m c (t.val + 1) ∗ (∃ r, prngReg c r)) ⊢ Phi m c (t.val + 1) := by
  unfold Phi
  rw [if_neg (Nat.succ_ne_zero _)]
  by_cases h7 : t.val % 8 = 7
  · have e : castIn c (V m c main_arg2) (t.val + 8) D = wcols c (V m c main_arg2) ((t.val + 1) / 8) := by
      funext y
      have hy : (y 0).val < 4096 := (y 0).isLt
      rw [castIn_has m c t.val D h y (by omega), show (t.val + 1) / 8 = t.val / 8 + 1 by omega]
    rw [e]
    iintro ⟨HD, HS, Hg⟩
    iexists (wcols c (V m c main_arg2) (t.val / 8))
    isplitr
    · ipureintro; intro y hy; omega
    isplitl [HD]
    · iapply (duo_swap (F := F) c t.val _ _ h7); iexact HD
    isplitl [HS]; · iexact HS
    iexact Hg
  · have e : (t.val + 1) / 8 = t.val / 8 := by omega
    rw [e]
    iintro ⟨HD, HS, Hg⟩
    iexists (castIn c (V m c main_arg2) (t.val + 8) D)
    isplitr
    · ipureintro; intro y hy
      rw [e]; exact castIn_has m c t.val D h y (by omega)
    isplitl [HD]
    · iapply (duo_keep (F := F) c t.val _ _ h7); iexact HD
    isplitl [HS]; · iexact HS
    iexact Hg

/-! ## The pipeline's proof data -/

/-- The output block of point `t`. -/
def outAt (c : Dev nD) (t : Fin cfg0.N) : Vec F S1024x1024 .f32 :=
  outV (iblk m c 0 t) (iblk m c 1 t) (wcols c (V m c main_arg2) (t.val / 8)) (iblk m c 2 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.val_castSucc]
theorem Phi_succ (c : Dev nD) (t : Fin cfg0.N) : (dats m 0 c).Φ t.succ = Phi m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0 (c : Dev nD) (t : Fin cfg0.N) (d) : (dats m 0 c).before 0 t d = iblk m c 0 t :=
  before0_of m (dats m 0 c) (A_eq m c 0) (after0 m c) t d
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1 (c : Dev nD) (t : Fin cfg0.N) (d) : (dats m 0 c).before 1 t d = iblk m c 1 t :=
  before1_of m (dats m 0 c) (A_eq m c 1) (after1 m c) t d
theorem before2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2 (c : Dev nD) (t : Fin cfg0.N) (d) : (dats m 0 c).before 2 t d = iblk m c 2 t :=
  before2_of m (dats m 0 c) (A_eq m c 2) (after2 m c) t d
abbrev ms0 (t : Fin cfg0.N) : Memref sig .tc .vmem S1024x2048 .bf16 := win0_0.stage (cfg0.slots t 0)
abbrev ms1 (t : Fin cfg0.N) : Memref sig .tc .vmem S1024x2048 .bf16 := win0_1.stage (cfg0.slots t 1)
abbrev ms2 (t : Fin cfg0.N) : Memref sig .tc .vmem S1024x1024 .f32 := win0_2.stage (cfg0.slots t 2)
abbrev ms3 (t : Fin cfg0.N) : Memref sig .tc .vmem S1024x1024 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

/-- What a run hands back, less the buffers' names: enough for the point's post. -/
def left (c : Dev nD) (t : Fin cfg0.N) (D : Vec F S4096x1024 .bf16) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (outAt m c t)
    ∗ duo (F := F) c t.val (wcols c (V m c main_arg2) (t.val / 8)) (castIn c (V m c main_arg2) (t.val + 8) D)
    ∗ slots m c (t.val + 1) ∗ ∃ Ws', owes (c : Thread nD τ) 0 Ws')

theorem left_post (c : Dev nD) (t : Fin cfg0.N) (D : Vec F S4096x1024 .bf16) (h : Has m c t.val D) :
    iprop(left m c t D ∗ ∃ r, prngReg c r) ⊢ bodyPost m c t := by
  unfold left bodyPost
  rw [Phi_succ m c t, after0, after1, after2, after3]
  unfold Dat.owesAt Pipeline.owesWithin
  rw [show (dats m 0 c).owed t.succ = 0 from rfl]
  iintro ⟨⟨H0, H1, H2, Hout, HD, HS, ⟨%Ws, HW⟩⟩, Hg⟩
  isplitl [HD HS Hg]
  · iapply (step m c t D h)
    isplitl [HD]; · iexact HD
    isplitl [HS]; · iexact HS
    iexact Hg
  isplitl [HW]
  · iexists Ws; isplitr; · ipureintro; exact fun _ _ => Or.inl trivial
    iexact HW
  isplitl [H0]; · iexact H0
  isplitl [H1]; · iexact H1
  isplitl [H2]; · iexact H2
  iexact Hout

theorem leftE (c : Dev nD) (t : Fin cfg0.N) (hp : t.val % 16 < 8) (hl : ¬t.val = 31) (D : Vec F S4096x1024 .bf16) :
    iprop(owns (c : Thread nD τ) (ms0 t) fullShare (iblk m c 0 t) ∗ owns (c : Thread nD τ) (ms1 t) fullShare (iblk m c 1 t) ∗ owns (c : Thread nD τ) (ms2 t) fullShare (iblk m c 2 t)
        ∗ owns (c : Thread nD τ) (ms3 t) fullShare (outV (iblk m c 0 t) (iblk m c 1 t) (wcols c (V m c main_arg2) (t.val / 8)) (iblk m c 2 t))
        ∗ hbPt (F := F) c wbf0 (wcols c (V m c main_arg2) (t.val / 8)) ∗ hbPt (F := F) c wbf1 (castIn c (V m c main_arg2) (t.val + 8) D)
        ∗ infl c (V m c main_arg2) (Ring.sl 2 (t.val + 1)) (t.val + 9) ∗ free c (V m c main_arg2) (Ring.sl 2 t.val) ∗ ∃ Ws', owes (c : Thread nD τ) 0 Ws') ⊢ left m c t D := by
  unfold left outAt duo slots
  rw [if_pos hp, if_neg (show ¬t.val + 1 = 32 by omega)]
  rw [show t.val + 1 + 1 = t.val + 2 from rfl, Ring.sl_add 2 t.val]
  try rw [show t.val + 1 + 8 = t.val + 9 from rfl]
  iintro ⟨H0, H1, H2, Hout, Ha, Hb, Hf, Hr, HW⟩
  isplitl [H0]; · iexact H0
  isplitl [H1]; · iexact H1
  isplitl [H2]; · iexact H2
  isplitl [Hout]; · iexact Hout
  isplitl [Ha Hb]
  · isplitl [Ha]; · iexact Ha
    iexact Hb
  isplitl [Hf Hr]
  · isplitl [Hf]; · iexact Hf
    iexact Hr
  iexact HW

theorem leftO (c : Dev nD) (t : Fin cfg0.N) (hp : ¬t.val % 16 < 8) (hl : ¬t.val = 31) (D : Vec F S4096x1024 .bf16) :
    iprop(owns (c : Thread nD τ) (ms0 t) fullShare (iblk m c 0 t) ∗ owns (c : Thread nD τ) (ms1 t) fullShare (iblk m c 1 t) ∗ owns (c : Thread nD τ) (ms2 t) fullShare (iblk m c 2 t)
        ∗ owns (c : Thread nD τ) (ms3 t) fullShare (outV (iblk m c 0 t) (iblk m c 1 t) (wcols c (V m c main_arg2) (t.val / 8)) (iblk m c 2 t))
        ∗ hbPt (F := F) c wbf1 (wcols c (V m c main_arg2) (t.val / 8)) ∗ hbPt (F := F) c wbf0 (castIn c (V m c main_arg2) (t.val + 8) D)
        ∗ infl c (V m c main_arg2) (Ring.sl 2 (t.val + 1)) (t.val + 9) ∗ free c (V m c main_arg2) (Ring.sl 2 t.val) ∗ ∃ Ws', owes (c : Thread nD τ) 0 Ws') ⊢ left m c t D := by
  unfold left outAt duo slots
  rw [if_neg hp, if_neg (show ¬t.val + 1 = 32 by omega)]
  rw [show t.val + 1 + 1 = t.val + 2 from rfl, Ring.sl_add 2 t.val]
  try rw [show t.val + 1 + 8 = t.val + 9 from rfl]
  iintro ⟨H0, H1, H2, Hout, Ha, Hb, Hf, Hr, HW⟩
  isplitl [H0]; · iexact H0
  isplitl [H1]; · iexact H1
  isplitl [H2]; · iexact H2
  isplitl [Hout]; · iexact Hout
  isplitl [Ha Hb]
  · isplitl [Ha]; · iexact Ha
    iexact Hb
  isplitl [Hf Hr]
  · isplitl [Hf]; · iexact Hf
    iexact Hr
  iexact HW

theorem leftL (c : Dev nD) (t : Fin cfg0.N) (hp : ¬t.val % 16 < 8) (hl : t.val = 31) (D : Vec F S4096x1024 .bf16) :
    iprop(owns (c : Thread nD τ) (ms0 t) fullShare (iblk m c 0 t) ∗ owns (c : Thread nD τ) (ms1 t) fullShare (iblk m c 1 t) ∗ owns (c : Thread nD τ) (ms2 t) fullShare (iblk m c 2 t)
        ∗ owns (c : Thread nD τ) (ms3 t) fullShare (outV (iblk m c 0 t) (iblk m c 1 t) (wcols c (V m c main_arg2) (t.val / 8)) (iblk m c 2 t))
        ∗ hbPt (F := F) c wbf1 (wcols c (V m c main_arg2) (t.val / 8)) ∗ hbPt (F := F) c wbf0 (castIn c (V m c main_arg2) (t.val + 8) D)
        ∗ free c (V m c main_arg2) (Ring.sl 2 (t.val + 1)) ∗ free c (V m c main_arg2) (Ring.sl 2 t.val) ∗ ∃ Ws', owes (c : Thread nD τ) 0 Ws') ⊢ left m c t D := by
  unfold left outAt duo slots
  rw [if_neg hp, if_pos (show t.val + 1 = 32 by omega)]
  rw [show t.val + 1 + 1 = t.val + 2 from rfl, Ring.sl_add 2 t.val]
  try rw [show t.val + 1 + 8 = t.val + 9 from rfl]
  iintro ⟨H0, H1, H2, Hout, Ha, Hb, Hf, Hr, HW⟩
  isplitl [H0]; · iexact H0
  isplitl [H1]; · iexact H1
  isplitl [H2]; · iexact H2
  isplitl [Hout]; · iexact Hout
  isplitl [Ha Hb]
  · isplitl [Ha]; · iexact Ha
    iexact Hb
  isplitl [Hf Hr]
  · isplitl [Hf]; · iexact Hf
    iexact Hr
  iexact HW

theorem sound_pre (c : Dev nD) (t : Fin cfg0.N) : bodyPre m c t ⊢ iprop(Phi m c t.val ∗ (∃ Ws : Waits sig Unit, ⌜True⌝ ∗ owes (c : Thread nD τ) 0 Ws)
    ∗ (∃ d : Unit, owns (c : Thread nD τ) (ms0 t) fullShare (iblk m c 0 t))
    ∗ (∃ d : Unit, owns (c : Thread nD τ) (ms1 t) fullShare (iblk m c 1 t))
    ∗ (∃ d : Unit, owns (c : Thread nD τ) (ms2 t) fullShare (iblk m c 2 t))
    ∗ (∃ d, owns (c : Thread nD τ) (ms3 t) fullShare d)) := by
  unfold bodyPre
  simp only [before0, before1, before2]
  rw [Phi_castSucc m c t]
  unfold Dat.owesAt Pipeline.owesWithin
  rw [show (dats m 0 c).owed t.castSucc = 0 from rfl]
  iintro ⟨HP, ⟨%Ws, -, HW⟩, ⟨%d0, H0⟩, ⟨%d1, H1⟩, ⟨%d2, H2⟩, ⟨%d3, Hout⟩⟩
  isplitl [HP]; · iexact HP
  isplitl [HW]
  · iexists Ws; isplitr; · ipureintro; trivial
    iexact HW
  isplitl [H0]; · iexists (); iexact H0
  isplitl [H1]; · iexists (); iexact H1
  isplitl [H2]; · iexists (); iexact H2
  iexists _; iexact Hout

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  refine (sound_pre m c t).trans ?_
  have hN : t.val < 32 := lt_of_lt_of_eq t.isLt (show cfg0.N = 32 from N_0)
  unfold bodyAt0 Phi
  by_cases h0 : t.val = 0
  · rw [if_pos h0]
    have e8 : t.val / 8 = 0 := by omega
    have L := leftE m c t (by omega) (by omega)
    rw [e8] at L
    have hD : ∀ D, Has m c t.val D := fun D y hy => by rw [h0] at hy; exact absurd hy (Nat.not_lt_zero _)
    iintro ⟨⟨⟨%C, HC⟩, ⟨%D, HD⟩, HI, HF, Hg⟩, ⟨%Ws, -, HW⟩, ⟨%d0, H0⟩, ⟨%d1, H1⟩, ⟨%d2, H2⟩, ⟨%d3, Hout⟩⟩
    iapply (runF c t _ _ _ _ _ _ _ _ ((hcond1 t).mpr h0) ((hcond2 t).mpr (by omega)) (fun h => absurd ((hcond3 t).mp h) (by omega)) (fun h => absurd ((hcond4 t).mp h) (by omega)) (iblk m c 0 t) (iblk m c 1 t) (iblk m c 2 t) (V m c main_arg2) C D (left m c t D) (L D) Ws _)
    isplitl [H0]; · iexact H0
    isplitl [H1]; · iexact H1
    isplitl [H2]; · iexact H2
    isplitl [Hout]; · iexists _; iexact Hout
    isplitl [HC]; · iexact HC
    isplitl [HD]; · iexact HD
    isplitl [HI]; · iexact HI
    isplitl [HF]; · iexact HF
    isplitl [HW]; · iexact HW
    iintro HL
    iapply (left_post m c t D (hD D))
    isplitl [HL]; · iexact HL
    iexact Hg
  rw [if_neg h0]
  unfold slots
  rw [if_neg (show ¬t.val = 32 by omega)]
  by_cases hp : t.val % 16 < 8
  · have hl : ¬t.val = 31 := by omega
    simp only [duo, if_pos hp]
    iintro ⟨⟨%D, %hD, ⟨HC, HD⟩, ⟨HI, HF⟩, Hg⟩, ⟨%Ws, -, HW⟩, ⟨%d0, H0⟩, ⟨%d1, H1⟩, ⟨%d2, H2⟩, ⟨%d3, Hout⟩⟩
    iapply (runE c t _ _ _ _ _ _ _ _ (fun h => h0 ((hcond1 t).mp h)) ((hcond2 t).mpr hp) (fun h => absurd ((hcond3 t).mp h) (by omega)) (fun h => hl ((hcond4 t).mp h)) (iblk m c 0 t) (iblk m c 1 t) (iblk m c 2 t) (V m c main_arg2) (wcols c (V m c main_arg2) (t.val / 8)) D (left m c t D) (leftE m c t hp hl D) Ws _)
    isplitl [H0]; · iexact H0
    isplitl [H1]; · iexact H1
    isplitl [H2]; · iexact H2
    isplitl [Hout]; · iexists _; iexact Hout
    isplitl [HC]; · iexact HC
    isplitl [HD]; · iexact HD
    isplitl [HI]; · iexact HI
    isplitl [HF]; · iexact HF
    isplitl [HW]; · iexact HW
    iintro HL
    iapply (left_post m c t D hD)
    isplitl [HL]; · iexact HL
    iexact Hg
  · by_cases hl : t.val = 31
    · simp only [duo, if_neg hp]
      iintro ⟨⟨%D, %hD, ⟨HC, HD⟩, ⟨HI, HF⟩, Hg⟩, ⟨%Ws, -, HW⟩, ⟨%d0, H0⟩, ⟨%d1, H1⟩, ⟨%d2, H2⟩, ⟨%d3, Hout⟩⟩
      iapply (runL c t _ _ _ _ _ _ _ _ (fun h => h0 ((hcond1 t).mp h)) (fun h => hp ((hcond2 t).mp h)) ((hcond3 t).mpr (by omega)) ((hcond4 t).mpr hl) (iblk m c 0 t) (iblk m c 1 t) (iblk m c 2 t) (V m c main_arg2) (wcols c (V m c main_arg2) (t.val / 8)) D (left m c t D) (leftL m c t hp hl D) Ws _)
      isplitl [H0]; · iexact H0
      isplitl [H1]; · iexact H1
      isplitl [H2]; · iexact H2
      isplitl [Hout]; · iexists _; iexact Hout
      isplitl [HC]; · iexact HC
      isplitl [HD]; · iexact HD
      isplitl [HI]; · iexact HI
      isplitl [HF]; · iexact HF
      isplitl [HW]; · iexact HW
      iintro HL
      iapply (left_post m c t D hD)
      isplitl [HL]; · iexact HL
      iexact Hg
    · simp only [duo, if_neg hp]
      iintro ⟨⟨%D, %hD, ⟨HC, HD⟩, ⟨HI, HF⟩, Hg⟩, ⟨%Ws, -, HW⟩, ⟨%d0, H0⟩, ⟨%d1, H1⟩, ⟨%d2, H2⟩, ⟨%d3, Hout⟩⟩
      iapply (runO c t _ _ _ _ _ _ _ _ (fun h => h0 ((hcond1 t).mp h)) (fun h => hp ((hcond2 t).mp h)) ((hcond3 t).mpr (by omega)) (fun h => hl ((hcond4 t).mp h)) (iblk m c 0 t) (iblk m c 1 t) (iblk m c 2 t) (V m c main_arg2) (wcols c (V m c main_arg2) (t.val / 8)) D (left m c t D) (leftO m c t hp hl D) Ws _)
      isplitl [H0]; · iexact H0
      isplitl [H1]; · iexact H1
      isplitl [H2]; · iexact H2
      isplitl [Hout]; · iexists _; iexact Hout
      isplitl [HC]; · iexact HC
      isplitl [HD]; · iexact HD
      isplitl [HI]; · iexact HI
      isplitl [HF]; · iexact HF
      isplitl [HW]; · iexact HW
      iintro HL
      iapply (left_post m c t D hD)
      isplitl [HL]; · iexact HL
      iexact Hg

theorem defs₀_row (t : Fin cfg0.N) :
    defs₀ (F := F) .tc cfg0.body (cfg0.bodyArgs t (cfg0.slots t)) = bodyAt0 t := by
  unfold defs₀; rw [Defs.onTc_tc]

/-- The output is written at every point. -/
theorem idle3 : ∀ t : Fin cfg0.N, cfg0.idle 3 (cfg0.grid.coords t) = false :=
  (by decide +kernel : ∀ t : Fin grid0.N, cfg0.idle 3 (grid0.coords t) = false)

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i3 := idle3 t
  refine triple_restated (sound_body m c t) rfl .rfl fun _ => ?_
  rw [i0, i3]
  exact .rfl

theorem hin (c : Dev nD) : Pipeline.ΦD osem spec0 H0 (V m) c ⊢ (dats m 0 c).Φ 0 := by
  rw [PhiD0_eq, show (dats m 0 c).Φ 0 = Phi m c 0 from rfl]
  unfold Phi
  rw [if_pos rfl]
  iintro ⟨⟨HA, HB, HS⟩, Hg, HC, HW⟩
  ihave HR := (ring_in (F := F) c (V m c main_arg2)) $$ [HS HC HW]
  · isplitl [HS]; · iexact HS
    isplitl [HC]; · iexact HC
    iexact HW
  icases HR with ⟨HF0, HF1⟩
  isplitl [HA]; · iexact HA
  isplitl [HB]; · iexact HB
  isplitl [HF0]; · iexact HF0
  isplitl [HF1]; · iexact HF1
  iexact Hg

theorem hout (c : Dev nD) : (dats m 0 c).Φ (Fin.last cfg0.N) ⊢ Pipeline.ΦD osem spec0 H0 (V m) c := by
  rw [PhiD0_eq, show (dats m 0 c).Φ (Fin.last cfg0.N) = Phi m c grid0.N from rfl, show grid0.N = 32 by rw [N_0]]
  unfold Phi slots
  rw [if_neg (by decide), if_pos rfl]
  simp only [duo, if_pos (show 32 % 16 < 8 by decide)]
  rw [show Ring.sl 2 32 = 0 by decide, show Ring.sl 2 (32 + 1) = 1 by decide]
  iintro ⟨%D, -, ⟨HA, HB⟩, HF, Hg⟩
  ihave HR := (ring_out (F := F) c (V m c main_arg2)) $$ HF
  icases HR with ⟨HS, HC, HW⟩
  isplitl [HA HB HS]
  · isplitl [HA]; · iexists _; iexact HA
    isplitl [HB]; · iexists _; iexact HB
    iexact HS
  isplitl [Hg]; · iexact Hg
  isplitl [HC]; · iexact HC
  iexact HW

/-! ## The run and the frame -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every semaphore ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c)))⟩, h.2⟩) (run_all m ρ)

/-- The run, its output array named. -/
theorem run_out : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 3, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c)))⟩) (run_all m ρ)

end Cert.Kernel5Ideal.Own

end
-- ==== Proof.KerVal5.lean ====
module

public import proofs.«01_k».proof.Proof.Frame5
public import Idealize.ShloMosaic.Lib.Pointwise

@[expose] public section

set_option maxRecDepth 16384

noncomputable section

namespace Cert.Kernel5Ideal.Own

open Cert.Kernel5Ideal.Gen
open Idealize.ShloMosaic Idealize.ShloMosaic.TcCoe Idealize.SL Idealize.SL.Sem
open Idealize.ShloMosaic.Pipeline (Dat Cfg Window)

/-! ## The kernel's arithmetic at an index -/

theorem pay3_apply (x : FVec Ideal S1024x2048 .bf16) (A : FVec Ideal S2048x1024 .bf16) (z : FVec Ideal S1024x2048 .bf16) (B : FVec Ideal S2048x1024 .bf16) (w : FVec Ideal S1024x1024 .f32) (r q : Fin 1024) :
    k0_pay3 (F := Ideal) x A z B w (ix2 r q) = ((∑ k : Fin 2048, x (ix2 r k) * A (ix2 k q)) + ∑ k : Fin 2048, z (ix2 r k) * B (ix2 k q)) + w (ix2 r q) := by
  pointwise [k0_pay3]
theorem lo_apply (C : Vec Ideal S4096x1024 .bf16) (k : Fin 2048) (q : Fin 1024) : lo C (ix2 k q) = C (ix2 ⟨k.val, by omega⟩ q) := by
  refine congrArg C ?_
  funext a
  apply Fin.ext
  fin_cases a
  · show 0 + 1 * k.val = k.val; omega
  · show 0 + 1 * q.val = q.val; omega
theorem hi_apply (C : Vec Ideal S4096x1024 .bf16) (k : Fin 2048) (q : Fin 1024) : hi C (ix2 k q) = C (ix2 ⟨2048 + k.val, by omega⟩ q) := by
  refine congrArg C ?_
  funext a
  apply Fin.ext
  fin_cases a
  · show 2048 + 1 * k.val = 2048 + k.val; omega
  · show 0 + 1 * q.val = q.val; omega

/-! ## Which part of its array a window's block is -/

variable (m : (ℓ : Loc nD τ sig) → Buf (Elt Ideal) ℓ) (c : Dev nD)

theorem ltN (t : Fin cfg0.N) : t.val < 32 := t.isLt

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)
theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
theorem index3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

theorem iblk0_apply (t : Fin cfg0.N) (a : Fin 1024) (k : Fin 2048) :
    (iblk m c 0 t : FVec Ideal S1024x2048 .bf16) (ix2 a k)
      = (V m c main_arg0 : FVec Ideal S8192x2048 .bf16) (ix2 ⟨1024 * (t.val % 8) + a.val, by omega⟩ k) := by
  refine congrArg (V m c main_arg0) ?_
  funext x
  apply Fin.ext
  fin_cases x
  · show win0_0.index t 0 * 1024 + 1 * a.val = 1024 * (t.val % 8) + a.val
    rw [(index0 t).1]; omega
  · show win0_0.index t 1 * 2048 + 1 * k.val = k.val
    rw [(index0 t).2]; omega

theorem iblk1_apply (t : Fin cfg0.N) (a : Fin 1024) (k : Fin 2048) :
    (iblk m c 1 t : FVec Ideal S1024x2048 .bf16) (ix2 a k)
      = (V m c main_arg1 : FVec Ideal S8192x2048 .bf16) (ix2 ⟨1024 * (t.val % 8) + a.val, by omega⟩ k) := by
  refine congrArg (V m c main_arg1) ?_
  funext x
  apply Fin.ext
  fin_cases x
  · show win0_1.index t 0 * 1024 + 1 * a.val = 1024 * (t.val % 8) + a.val
    rw [(index1 t).1]; omega
  · show win0_1.index t 1 * 2048 + 1 * k.val = k.val
    rw [(index1 t).2]; omega

theorem iblk2_apply (t : Fin cfg0.N) (a : Fin 1024) (k : Fin 1024) :
    (iblk m c 2 t : FVec Ideal S1024x1024 .f32) (ix2 a k)
      = (V m c main_arg3 : FVec Ideal S8192x4096 .f32) (ix2 ⟨1024 * (t.val % 8) + a.val, by omega⟩ ⟨1024 * (t.val / 8) + k.val, by have := ltN t; omega⟩) := by
  refine congrArg (V m c main_arg3) ?_
  funext x
  apply Fin.ext
  fin_cases x
  · show win0_2.index t 0 * 1024 + 1 * a.val = 1024 * (t.val % 8) + a.val
    rw [(index2 t).1]; omega
  · show win0_2.index t 1 * 1024 + 1 * k.val = 1024 * (t.val / 8) + k.val
    rw [(index2 t).2]; omega

theorem wcols_apply (W : HbBuf (F := Ideal) c wM) (jj : ℕ) (hj : jj < 4) (k : Fin 4096) (q : Fin 1024) :
    wcols c W jj (ix2 k q) = (W : FVec Ideal S1x4096x4096 .f32) (ix3 0 k ⟨1024 * jj + q.val, by omega⟩) := by
  show W (wIdx jj (ix2 k q)) = _
  refine congrArg W ?_
  funext x
  apply Fin.ext
  fin_cases x
  · rfl
  · rfl
  · show 1024 * (jj % 4) + q.val = 1024 * jj + q.val
    rw [Nat.mod_eq_of_lt hj]

/-! ## The output array, block by block -/

theorem index3_inj (t t' : Fin cfg0.N) (h : win0_3.index t = win0_3.index t') : t = t' := by
  have h0 := congrFun h 0
  have h1 := congrFun h 1
  rw [(index3 t).1, (index3 t').1] at h0
  rw [(index3 t).2, (index3 t').2] at h1
  apply Fin.ext; omega

theorem disjoint3 (t t' : Fin cfg0.N) (_ : (cfg0.win 3).flush t = true) (_ : (cfg0.win 3).flush t' = true) (hne : t ≠ t') :
    Disjoint ((cfg0.win 3).blk t).view.set ((cfg0.win 3).blk t').view.set :=
  (cfg0.win 3).disjoint_blk fun h => hne (index3_inj t t' h)

theorem flush3 : ∀ t : Fin cfg0.N, (cfg0.win 3).flush t = true :=
  (by decide +kernel : ∀ t : Fin grid0.N, win0_3.flush t = true)

theorem block3 (t : Fin cfg0.N) (a b : Fin 1024) :
    ((dats m 0 c).arrAt 3 cfg0.N : FVec Ideal S8192x4096 .f32) (ix2 ⟨1024 * (t.val % 8) + a.val, by omega⟩ ⟨1024 * (t.val / 8) + b.val, by have := ltN t; omega⟩)
      = outAt m c t (ix2 a b) := by
  have h := congrFun ((dats m 0 c).read_blk_arrAt_eq_flushed 3 disjoint3 cfg0.N t t.isLt (flush3 t)) (ix2 a b)
  have e : (dats m 0 c).flushed 3 t = (cfg0.win 3).cut (grid0.coords t) (outAt m c t) := by
    show (cfg0.win 3).cut (grid0.coords t) ((dats m 0 c).after 3 t) = _
    rw [after3]
  rw [e] at h
  refine Eq.trans ?_ h
  refine congrArg ((dats m 0 c).arrAt 3 cfg0.N) ?_
  funext x
  apply Fin.ext
  fin_cases x
  · show 1024 * (t.val % 8) + a.val = win0_3.index t 0 * 1024 + 1 * a.val
    rw [(index3 t).1]; omega
  · show 1024 * (t.val / 8) + b.val = win0_3.index t 1 * 1024 + 1 * b.val
    rw [(index3 t).2]; omega

/-- The two products at row `r`, column `n`, added to the residual. -/
def value (A B : FVec Ideal S8192x2048 .bf16) (W : FVec Ideal S1x4096x4096 .f32) (R : FVec Ideal S8192x4096 .f32) (r : Fin 8192) (n : Fin 4096) : EReal :=
  ((∑ k : Fin 2048, A (ix2 r k) * W (ix3 0 ⟨k.val, by omega⟩ n)) + ∑ k : Fin 2048, B (ix2 r k) * W (ix3 0 ⟨2048 + k.val, by omega⟩ n)) + R (ix2 r n)
abbrev valueM (r : Fin 8192) (n : Fin 4096) : EReal :=
  value (m ((c : Thread nD τ).loc main_arg0)) (m ((c : Thread nD τ).loc main_arg1)) (m ((c : Thread nD τ).loc main_arg2)) (m ((c : Thread nD τ).loc main_arg3)) r n

theorem outAt_apply (t : Fin cfg0.N) (r q : Fin 1024) :
    outAt m c t (ix2 r q) = valueM m c ⟨1024 * (t.val % 8) + r.val, by omega⟩ ⟨1024 * (t.val / 8) + q.val, by have := ltN t; omega⟩ := by
  have ht := ltN t
  unfold outAt outV
  rw [pay3_apply, iblk2_apply]
  refine congrArg (· + _) (congrArg₂ (· + ·) (Finset.sum_congr rfl fun k _ => ?_) (Finset.sum_congr rfl fun k _ => ?_))
  · rw [iblk0_apply, lo_apply, wcols_apply c _ _ (by omega)]
  · rw [iblk1_apply, hi_apply, wcols_apply c _ _ (by omega)]

/-- The output array after the run, at an index. -/
theorem out_apply (r : Fin 8192) (q : Fin 4096) :
    ((dats m 0 c).arrAt 3 cfg0.N : FVec Ideal S8192x4096 .f32) (ix2 r q) = valueM m c r q := by
  have hN : cfg0.N = 32 := rfl
  have ht : q.val / 1024 * 8 + r.val / 1024 < cfg0.N := by omega
  have h := (block3 m c ⟨q.val / 1024 * 8 + r.val / 1024, ht⟩ ⟨r.val % 1024, by omega⟩ ⟨q.val % 1024, by omega⟩).trans (outAt_apply m c _ _ _)
  have e1 : 1024 * ((q.val / 1024 * 8 + r.val / 1024) % 8) + r.val % 1024 = r.val := by omega
  have e2 : 1024 * ((q.val / 1024 * 8 + r.val / 1024) / 8) + q.val % 1024 = q.val := by omega
  simp only [e1, e2] at h
  exact h

end Cert.Kernel5Ideal.Own

end
-- ==== Proof.RefVal5.lean ====
module

public import proofs.«01_k».proof.Proof.Gen.Reference5Ideal.Run
public import Idealize.ShloMosaic.Lib.Pointwise

@[expose] public section

set_option maxRecDepth 16384

noncomputable section

namespace Cert.Reference5Ideal.Own

open Cert.Reference5Ideal Cert.Reference5Ideal.Value Cert.Reference5Ideal.Gen
open Idealize.ShloMosaic Idealize.ShloMosaic.TcCoe Idealize.SL Idealize.SL.Sem
open Idealize.ShloMosaic.Pipeline (Dat Cfg Window)

/-- The two activations side by side. -/
def joined (A B : FVec Ideal S8192x2048 .bf16) : FVec Ideal S2x4096x4096 .f32 :=
  concatenate S2x4096x4096 2 [⟨S2x4096x2048, (shapeCast _ (extf .f32 A bitsLt_bf16_f32) shapeCasts_S8192x2048_S2x4096x2048)⟩, ⟨S2x4096x2048, (shapeCast _ (extf .f32 B bitsLt_bf16_f32) shapeCasts_S8192x2048_S2x4096x2048)⟩] concatenates_S2x4096x2048_S2x4096x2048_S2x4096x4096_d2

/-- The product, sequence by sequence. -/
def proj (Y : FVec Ideal S2x4096x4096 .f32) (W : FVec Ideal S1x4096x4096 .f32) : FVec Ideal S2x4096x4096 .f32 :=
  Host.dotGeneral dot_S2x4096x4096_S4096x4096_S2x4096x4096_2_0_01_1_n_n none Y (shapeCast _ W shapeCasts_S1x4096x4096_S4096x4096)

/-- The residual and a product added, the sequences one after the other. -/
def added (R : FVec Ideal S8192x4096 .f32) (Y : FVec Ideal S2x4096x4096 .f32) : FVec Ideal S8192x4096 .f32 :=
  shapeCast _ (addf (shapeCast _ R shapeCasts_S8192x4096_S2x4096x4096) Y) shapeCasts_S2x4096x4096_S8192x4096

/-- The reference's result, of its joined activations, the weights and the residual. -/
def layer (Y : FVec Ideal S2x4096x4096 .f32) (W : FVec Ideal S1x4096x4096 .f32) (R : FVec Ideal S8192x4096 .f32) : FVec Ideal S8192x4096 .f32 := added R (proj Y W)

theorem proj_apply (Y : FVec Ideal S2x4096x4096 .f32) (W : FVec Ideal S1x4096x4096 .f32) (b : Fin 2) (t : Fin 4096) (n : Fin 4096) :
    proj Y W (ix3 b t n) = ∑ k : Fin 4096, Y (ix3 b t k) * W (ix3 0 k n) := by
  pointwise [proj]

theorem added_apply (R : FVec Ideal S8192x4096 .f32) (Y : FVec Ideal S2x4096x4096 .f32) (r : Fin 8192) (n : Fin 4096) :
    added R Y (ix2 r n) = R (ix2 r n) + Y (ix3 ⟨r.val / 4096, by omega⟩ ⟨r.val % 4096, by omega⟩ n) := by
  pointwise [added]

theorem joined_apply (A B : FVec Ideal S8192x2048 .bf16) (b : Fin 2) (t : Fin 4096) (k : Fin 4096) :
    joined A B (ix3 b t k) = if h : k.val < 2048 then A (ix2 ⟨b.val * 4096 + t.val, by omega⟩ ⟨k.val, h⟩) else B (ix2 ⟨b.val * 4096 + t.val, by omega⟩ ⟨k.val - 2048, by omega⟩) := by
  pointwise [joined]

theorem layer_apply (Y : FVec Ideal S2x4096x4096 .f32) (W : FVec Ideal S1x4096x4096 .f32) (R : FVec Ideal S8192x4096 .f32) (r : Fin 8192) (n : Fin 4096) :
    layer Y W R (ix2 r n) = R (ix2 r n) + ∑ k : Fin 4096, Y (ix3 ⟨r.val / 4096, by omega⟩ ⟨r.val % 4096, by omega⟩ k) * W (ix3 0 k n) := by
  exact (added_apply _ _ _ _).trans (congrArg (_ + ·) (proj_apply _ _ _ _ _))

theorem joined_sum (A B : FVec Ideal S8192x2048 .bf16) (r : Fin 8192) (w : Fin 4096 → EReal) :
    (∑ k : Fin 4096, joined A B (ix3 ⟨r.val / 4096, by omega⟩ ⟨r.val % 4096, by omega⟩ k) * w k)
      = (∑ k : Fin 2048, A (ix2 r k) * w ⟨k.val, by omega⟩) + ∑ k : Fin 2048, B (ix2 r k) * w ⟨2048 + k.val, by omega⟩ := by
  have hr : r.val / 4096 * 4096 + r.val % 4096 = r.val := by omega
  refine (Fin.sum_univ_add (a := 2048) (b := 2048) (fun k : Fin (2048 + 2048) => joined A B (ix3 ⟨r.val / 4096, by omega⟩ ⟨r.val % 4096, by omega⟩ (k : Fin 4096)) * w k)).trans ?_
  refine congrArg₂ (· + ·) (Finset.sum_congr rfl fun k _ => ?_) (Finset.sum_congr rfl fun k _ => ?_)
  · refine congrArg (· * w ⟨k.val, by omega⟩) ((joined_apply A B _ _ ⟨k.val, by omega⟩).trans ?_)
    rw [dif_pos k.isLt]
    simp only [hr]
  · refine congrArg (· * w ⟨2048 + k.val, by omega⟩) ((joined_apply A B _ _ ⟨2048 + k.val, by omega⟩).trans ?_)
    rw [dif_neg (show ¬2048 + k.val < 2048 by omega)]
    simp only [hr, Nat.add_sub_cancel_left]

theorem result_apply (A B : FVec Ideal S8192x2048 .bf16) (W : FVec Ideal S1x4096x4096 .f32) (R : FVec Ideal S8192x4096 .f32) (r : Fin 8192) (n : Fin 4096) :
    layer (joined A B) W R (ix2 r n)
      = ((∑ k : Fin 2048, A (ix2 r k) * W (ix3 0 ⟨k.val, by omega⟩ n)) + ∑ k : Fin 2048, B (ix2 r k) * W (ix3 0 ⟨2048 + k.val, by omega⟩ n)) + R (ix2 r n) :=
  (layer_apply _ _ _ _ _).trans ((congrArg (_ + ·) (joined_sum A B r fun k => W (ix3 0 k n))).trans (add_comm _ _))

end Cert.Reference5Ideal.Own

end
-- ==== Proof.Out2Claim.lean ====
module

public import proofs.«01_k».proof.Defs
public import proofs.«01_k».proof.Proof.KerVal5
public import proofs.«01_k».proof.Proof.RefVal5
public import proofs.«01_k».proof.Proof.Quiet
public import proofs.«01_k».proof.Proof.Gen.Reference5Ideal.Run
public import proofs.«01_k».proof.Proof.Gen.Kernel5
public import proofs.«01_k».proof.Proof.Gen.Kernel5.Frame
public import proofs.«01_k».proof.Proof.Gen.Kernel5Ideal
public import proofs.«01_k».proof.Proof.Gen.Reference5Ideal

@[expose] public section

set_option maxRecDepth 16384

noncomputable section

namespace Cert.Proof

open Idealize.ShloMosaic Idealize.SL.Sem

/-- The two printed programs run the same body under the same body table. -/
theorem table_eq5 : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, (t, s) => rfl

theorem defs_eq5 : Cert.Kernel5.defs (F := Bits) = Cert.Kernel5Ideal.defs (F := Bits) :=
  congrArg (Pipeline.defs Cert.Kernel5Ideal.pcfgs) table_eq5

theorem quiet_kernel5 : Cert.quiescent_Kernel5 := fun m ρ _ => run_of_eq defs_eq5 (Cert.Kernel5Ideal.Own.quiescent (F := Bits) m ρ)
theorem quiet_ideal5 : Cert.quiescent_Kernel5Ideal := fun m ρ _ => Cert.Kernel5Ideal.Own.quiescent (F := Ideal) m ρ
theorem quiet_reference5 : Cert.quiescent_Reference5Ideal :=
  fun m ρ _ => (θ_run _ _ _).mono (fun r h => ⟨fun c => ⟨(h c).2.1, (h c).2.2.1, (h c).2.2.2.1, (h c).2.2.2.2⟩, sem_eq_zero_of_no_sems rfl r.2⟩) (Cert.Reference5Ideal.Value.run (F := Ideal) m ρ)

/-- The two programs' results agree, element by element. -/
theorem result_eq5 (x0 : FVec Ideal Cert.Kernel5Ideal.S8192x2048 .bf16) (x1 : FVec Ideal Cert.Kernel5Ideal.S8192x2048 .bf16) (x2 : FVec Ideal Cert.Kernel5Ideal.S1x4096x4096 .f32) (x3 : FVec Ideal Cert.Kernel5Ideal.S8192x4096 .f32)
    (m : (ℓ : Loc Cert.Kernel5Ideal.nD Cert.Kernel5Ideal.τ Cert.Kernel5Ideal.sig) → Buf (Elt Ideal) ℓ) (c : Dev Cert.Kernel5Ideal.nD)
    (h0 : x0 = m ((c.tc : Thread Cert.Kernel5Ideal.nD Cert.Kernel5Ideal.τ).loc Cert.Kernel5Ideal.main_arg0))
    (h1 : x1 = m ((c.tc : Thread Cert.Kernel5Ideal.nD Cert.Kernel5Ideal.τ).loc Cert.Kernel5Ideal.main_arg1))
    (h2 : x2 = m ((c.tc : Thread Cert.Kernel5Ideal.nD Cert.Kernel5Ideal.τ).loc Cert.Kernel5Ideal.main_arg2))
    (h3 : x3 = m ((c.tc : Thread Cert.Kernel5Ideal.nD Cert.Kernel5Ideal.τ).loc Cert.Kernel5Ideal.main_arg3)) :
    Cert.Reference5Ideal.Own.layer (Cert.Reference5Ideal.Own.joined x0 x1) x2 x3 = ((Cert.Kernel5Ideal.Own.dats m 0 c).arrAt 3 Cert.Kernel5Ideal.cfg0.N : Vec Ideal Cert.Kernel5Ideal.S8192x4096 .f32) := by
  subst h0 h1 h2 h3
  funext y
  idx_vars y
  exact (Cert.Reference5Ideal.Own.result_apply _ _ _ _ _ _).trans (Cert.Kernel5Ideal.Own.out_apply m c _ _).symm

theorem algebraic5 : Cert.algebraic_Kernel5Ideal_Reference5Ideal := fun m g m' g' _ he =>
  ⟨fun c => (Cert.Kernel5Ideal.Own.dats m 0 c).arrAt 3 Cert.Kernel5Ideal.cfg0.N, Cert.Kernel5Ideal.Own.run_out m g,
    (θ_run _ _ _).mono (fun r h c => ⟨(h c).1.trans (result_eq5 _ _ _ _ m c (he c).1 (he c).2.1 (he c).2.2.1 (he c).2.2.2), (h c).2⟩) (Cert.Reference5Ideal.Value.run (F := Ideal) m' g')⟩

end Cert.Proof

end
-- ==== Proof.PreNorm.lean ====
module

public import proofs.«01_k».proof.Proof.Gen.Kernel6Ideal.Value
public import proofs.«01_k».proof.Proof.Gen.Reference6Ideal.Run
public import Idealize.ShloMosaic.Lib.Pointwise
public import Idealize.ShloMosaic.Lib.Quiescent

@[expose] public section

set_option maxRecDepth 16384

noncomputable section

namespace Cert.Kernel6Ideal.Own

open Cert.Kernel6Ideal.Gen
open Idealize.ShloMosaic Idealize.ShloMosaic.TcCoe
open Idealize.SL.Sem

/-- One element of a normed row. -/
def normed (x : Fin 4096 → EReal) (w : EReal) (q : Fin 4096) : EReal :=
  x q * Ideal.rsqrt (Ideal.div (∑ k : Fin 4096, x k * x k) (Ideal.ofBits .f32 0x45800000#32) + Ideal.ofBits .f32 0x358637BD#32) * w

theorem pay1_apply (P0 : FVec Ideal S512x4096 .f32) (P1 : FVec Ideal S1x4096 .f32) (a : Fin 512) (q : Fin 4096) :
    k0_pay1 (F := Ideal) P0 P1 (ix2 a q) = normed (fun k => P0 (ix2 a k)) (P1 (ix2 0 q)) q := by
  unfold normed
  pointwise [k0_pay1]

theorem ld0 (x : FVec Ideal S512x4096 .f32) : View.ld (Val := Elt Ideal) (e' := .f32) x r0_0 = x := by
  funext i
  refine congrArg x (funext fun y => Fin.ext ?_)
  match y with
  | ⟨0, _⟩ => show 0 + 1 * (i 0).val = (i 0).val; omega
  | ⟨1, _⟩ => show 0 + 1 * (i 1).val = (i 1).val; omega

theorem ld1 (x : FVec Ideal S1x4096 .f32) : View.ld (Val := Elt Ideal) (e' := .f32) x r0_1 = x := by
  funext i
  refine congrArg x (funext fun y => Fin.ext ?_)
  match y with
  | ⟨0, _⟩ => show 0 + 1 * (i 0).val = (i 0).val; omega
  | ⟨1, _⟩ => show 0 + 1 * (i 1).val = (i 1).val; omega

theorem canon_pay (P0 : FVec Ideal S512x4096 .f32) (P1 : FVec Ideal S1x4096 .f32) (y : S512x4096.Idx) :
    View.canon (Val := Elt Ideal) (e := .bf16) [⟨r0_0, k0_pay1 (F := Ideal) P0 P1⟩] y = k0_pay1 (F := Ideal) P0 P1 y := by
  refine View.canon_apply_of_pieces (Val := Elt Ideal) (e := .bf16) (k0_pay1 (F := Ideal) P0 P1) _ ?_ y (cover0_2 (F := Ideal) _ y)
  intro pc hpc
  rcases List.mem_cons.mp hpc with rfl | hpc
  · intro x
    refine congrArg (k0_pay1 (F := Ideal) P0 P1) (funext fun y => Fin.ext ?_)
    match y with
    | ⟨0, _⟩ => show (x 0).val = 0 + 1 * (x 0).val; omega
    | ⟨1, _⟩ => show (x 1).val = 0 + 1 * (x 1).val; omega
  nomatch hpc

theorem row_apply (w : FVec Ideal S1x4096 .f32) (q : Fin 4096) : (shapeCast S1x4096 (shapeCast S4096 w shapeCasts_S1x4096_S4096) shapeCasts_S4096_S1x4096 : FVec Ideal S1x4096 .f32) (ix2 0 q) = w (ix2 0 q) := by
  pointwise []

variable (m : (ℓ : Loc nD τ sig) → Buf (Elt Ideal) ℓ)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem flush2 : ∀ t : Fin cfg0.N, (cfg0.win 2).flush t = true :=
  (by decide +kernel : ∀ t : Fin grid0.N, win0_2.flush t = true)
theorem lt16 (t : Fin cfg0.N) : t.val < 16 := t.isLt

theorem iblk0_apply (c : Dev nD) (t : Fin cfg0.N) (a : Fin 512) (k : Fin 4096) :
    (iblk m c 0 t : FVec Ideal S512x4096 .f32) (ix2 a k)
      = (V m c main_arg0 : FVec Ideal S8192x4096 .f32) (ix2 ⟨512 * t.val + a.val, by have := lt16 t; omega⟩ k) := by
  refine congrArg (V m c main_arg0) ?_
  funext x
  apply Fin.ext
  fin_cases x
  · show win0_0.index t 0 * 512 + 1 * a.val = 512 * t.val + a.val
    rw [(index0 t).1]; omega
  · show win0_0.index t 1 * 4096 + 1 * k.val = k.val
    rw [(index0 t).2]; omega

theorem iblk1_apply (c : Dev nD) (t : Fin cfg0.N) (k : Fin 4096) :
    (iblk m c 1 t : FVec Ideal S1x4096 .f32) (ix2 0 k) = (V m c main_v1 : FVec Ideal S1x4096 .f32) (ix2 0 k) := by
  refine congrArg (V m c main_v1) ?_
  funext x
  apply Fin.ext
  fin_cases x
  · show win0_1.index t 0 * 1 + 1 * 0 = 0
    rw [(index1 t).1]
  · show win0_1.index t 1 * 4096 + 1 * k.val = k.val
    rw [(index1 t).2]; omega

theorem V_main_v1 (c : Dev nD) : V m c main_v1 = (shapeCast S1x4096 (shapeCast S4096 (m ((c : Thread nD τ).loc main_arg1) : FVec Ideal S1x4096 .f32) shapeCasts_S1x4096_S4096) shapeCasts_S4096_S1x4096 : FVec Ideal S1x4096 .f32) := by
  unfold V
  after_results <;> rfl

theorem V_main_v1_apply (c : Dev nD) (q : Fin 4096) : (V m c main_v1 : FVec Ideal S1x4096 .f32) (ix2 0 q) = (m ((c : Thread nD τ).loc main_arg1) : FVec Ideal S1x4096 .f32) (ix2 0 q) := by
  rw [V_main_v1]
  exact row_apply _ q

theorem block2 (c : Dev nD) (t : Fin cfg0.N) (a : Fin 512) (b : Fin 4096) :
    ((dats m 0 c).arrAt 2 cfg0.N : FVec Ideal S8192x4096 .bf16) (ix2 ⟨512 * t.val + a.val, by have := lt16 t; omega⟩ b)
      = k0_pay1 (iblk m c 0 t) (iblk m c 1 t) (ix2 a b) := by
  have h := congrFun (Value.blocks2 m c t (flush2 t)) (ix2 a b)
  refine Eq.trans ?_ (h.trans ?_)
  · refine congrArg ((dats m 0 c).arrAt 2 cfg0.N) ?_
    funext x
    apply Fin.ext
    fin_cases x
    · show 512 * t.val + a.val = win0_2.index t 0 * 512 + 1 * a.val
      rw [(index2 t).1]; omega
    · show b.val = win0_2.index t 1 * 4096 + 1 * b.val
      rw [(index2 t).2]; omega
  · rw [Value.flushed2]
    show out0_2 (F := Ideal) _ _ (ix2 a b) = _
    unfold out0_2
    rw [ld0, ld1]
    exact canon_pay _ _ _

theorem out_apply (c : Dev nD) (r : Fin 8192) (q : Fin 4096) :
    ((dats m 0 c).arrAt 2 cfg0.N : FVec Ideal S8192x4096 .bf16) (ix2 r q)
      = normed (fun k => (m ((c : Thread nD τ).loc main_arg0) : FVec Ideal S8192x4096 .f32) (ix2 r k)) ((m ((c : Thread nD τ).loc main_arg1) : FVec Ideal S1x4096 .f32) (ix2 0 q)) q := by
  have h := block2 m c ⟨r.val / 512, by show r.val / 512 < 16; omega⟩ ⟨r.val % 512, by omega⟩ q
  rw [pay1_apply, iblk1_apply, V_main_v1_apply] at h
  simp only [iblk0_apply, V_main_arg0] at h
  have hr : (⟨512 * (r.val / 512) + r.val % 512, by omega⟩ : Fin 8192) = r := Fin.ext (by show 512 * (r.val / 512) + r.val % 512 = r.val; omega)
  simp only [hr] at h
  exact h

end Cert.Kernel6Ideal.Own

namespace Cert.Reference6Ideal.Own

open Cert.Reference6Ideal Cert.Reference6Ideal.Gen
open Idealize.ShloMosaic Idealize.ShloMosaic.TcCoe

/-- The norm of arrays of the reference's shapes. -/
def layer (x : FVec Ideal S8192x4096 .f32) (w : FVec Ideal S1x4096 .f32) : FVec Ideal S8192x4096 .bf16 :=
  shapeCast S8192x4096 (truncf .bf16 (mulf (mulf (shapeCast _ x shapeCasts_S8192x4096_S2x4096x4096) (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf (shapeCast _ x shapeCasts_S8192x4096_S2x4096x4096) (shapeCast _ x shapeCasts_S8192x4096_S2x4096x4096)) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 (shapeCast _ w shapeCasts_S1x4096_S4096)))) bitsLt_bf16_f32) shapeCasts_S2x4096x4096_S8192x4096

theorem layer_apply (x : FVec Ideal S8192x4096 .f32) (w : FVec Ideal S1x4096 .f32) (r : Fin 8192) (q : Fin 4096) :
    layer x w (ix2 r q) = Cert.Kernel6Ideal.Own.normed (fun k => x (ix2 r k)) (w (ix2 0 q)) q := by
  unfold Cert.Kernel6Ideal.Own.normed
  pointwise [layer]

end Cert.Reference6Ideal.Own

end
-- ==== Proof.PreNormClaim.lean ====
module

public import proofs.«01_k».proof.Defs
public import proofs.«01_k».proof.Proof.PreNorm
public import proofs.«01_k».proof.Proof.Gen.Kernel6.Frame
public import proofs.«01_k».proof.Proof.Gen.Kernel6
public import proofs.«01_k».proof.Proof.Gen.Kernel6Ideal
public import proofs.«01_k».proof.Proof.Gen.Reference6Ideal

@[expose] public section

set_option maxRecDepth 16384

noncomputable section

namespace Cert.Proof

open Idealize.ShloMosaic Idealize.SL.Sem

theorem quiet_kernel6 : Cert.quiescent_Kernel6 := fun m ρ _ => Cert.Kernel6.Gen.frame (F := Bits) m ρ
theorem quiet_ideal6 : Cert.quiescent_Kernel6Ideal := fun m ρ _ => Cert.Kernel6Ideal.Gen.frame (F := Ideal) m ρ
theorem quiet_reference6 : Cert.quiescent_Reference6Ideal :=
  fun m ρ _ => (θ_run _ _ _).mono (fun r h => ⟨fun c => ⟨(h c).2.1, (h c).2.2⟩, sem_eq_zero_of_no_sems rfl r.2⟩) (Cert.Reference6Ideal.Value.run (F := Ideal) m ρ)

theorem prenorm_eq (x : FVec Ideal Cert.Kernel6Ideal.S8192x4096 .f32) (w : FVec Ideal Cert.Kernel6Ideal.S1x4096 .f32)
    (m : (ℓ : Loc Cert.Kernel6Ideal.nD Cert.Kernel6Ideal.τ Cert.Kernel6Ideal.sig) → Buf (Elt Ideal) ℓ) (c : Dev Cert.Kernel6Ideal.nD)
    (h0 : x = m ((c.tc : Thread Cert.Kernel6Ideal.nD Cert.Kernel6Ideal.τ).loc Cert.Kernel6Ideal.main_arg0))
    (h1 : w = m ((c.tc : Thread Cert.Kernel6Ideal.nD Cert.Kernel6Ideal.τ).loc Cert.Kernel6Ideal.main_arg1)) :
    Cert.Reference6Ideal.Own.layer x w = ((Cert.Kernel6Ideal.Gen.dats m 0 c).arrAt 2 Cert.Kernel6Ideal.cfg0.N : Vec Ideal Cert.Kernel6Ideal.S8192x4096 .bf16) := by
  subst h0 h1
  funext y
  idx_vars y
  exact (Cert.Reference6Ideal.Own.layer_apply _ _ _ _).trans (Cert.Kernel6Ideal.Own.out_apply m c _ _).symm

theorem algebraic6 : Cert.algebraic_Kernel6Ideal_Reference6Ideal := fun m g m' g' _ he =>
  ⟨fun c => (Cert.Kernel6Ideal.Gen.dats m 0 c).arrAt 2 Cert.Kernel6Ideal.cfg0.N, Cert.Kernel6Ideal.Value.run_blocks m g,
    (θ_run _ _ _).mono (fun r h c => ⟨(h c).1.trans (prenorm_eq _ _ m c (he c).1 (he c).2), (h c).2⟩) (Cert.Reference6Ideal.Value.run (F := Ideal) m' g')⟩

end Cert.Proof

end
-- ==== Proof.GateSpec.lean ====
module

public import Idealize.ShloMosaic.Lib.Pointwise

@[expose] public section

noncomputable section

namespace Cert.Gates

open Idealize.ShloMosaic

/-- One element of a normed row. -/
def normed (x : Fin 4096 → EReal) (w : EReal) (q : Fin 4096) : EReal :=
  x q * Ideal.rsqrt (Ideal.div (∑ k : Fin 4096, x k * x k) (Ideal.ofBits .f32 0x45800000#32) + Ideal.ofBits .f32 0x358637BD#32) * w

/-- One row's product with one of the gate columns. -/
def tail (x w u : Fin 4096 → EReal) : EReal := ∑ k : Fin 4096, normed x (w k) k * u k

/-- The decay's exponent at one place: the scale `a` of the head, the shifted column `t`. -/
def decay (a t : EReal) : EReal := (0 - Ideal.exp a) * (max t 0 + Ideal.log1p (Ideal.exp (0 - max t (-t))))

/-- The last `s` places of a chunk of 64 up to place `r`, summed. -/
def win (s : ℕ) (f : ℕ → EReal) (r : ℕ) : EReal := ∑ j ∈ Finset.range s, if j ≤ r % 64 then f (r - j) else 0

theorem win_one (f : ℕ → EReal) (r : ℕ) : win 1 f r = f r := by
  unfold win
  simp

/-- A sum over `2 s` places is one over `s` places and the one `s` places before. -/
theorem win_double (s : ℕ) (f : ℕ → EReal) (r : ℕ) : win (s + s) f r = win s f r + if s ≤ r % 64 then win s f (r - s) else 0 := by
  unfold win
  rw [Finset.sum_range_add]
  congr 1
  split
  · next h =>
    refine Finset.sum_congr rfl fun j _ => ?_
    have h1 : (r - s) % 64 = r % 64 - s := by omega
    have h2 : r - (s + j) = r - s - j := by omega
    rw [h1, h2]
    exact if_congr (by omega) rfl rfl
  · next h =>
    exact Finset.sum_eq_zero fun j _ => if_neg (by omega)

/-- Rows past the end are taken round: only rows of the array are meant. -/
def row (x : Fin 8192 → Fin 4096 → EReal) (n : ℕ) : Fin 4096 → EReal := x ⟨n % 8192, Nat.mod_lt _ (by norm_num)⟩

/-- The head's column of the decay, place by place. -/
def places (x : Fin 8192 → Fin 4096 → EReal) (w u : Fin 4096 → EReal) (a d : EReal) (n : ℕ) : EReal := decay a (tail (row x n) w u + d)

end Cert.Gates

end
-- ==== Proof.GatePay.lean ====
module

public import proofs.«01_k».proof.Proof.GateSpec
public import proofs.«01_k».proof.Proof.Gen.Kernel7Ideal.Skeleton
public import Idealize.ShloMosaic.Lib.Pointwise

@[expose] public section

set_option maxRecDepth 16384

noncomputable section

namespace Cert.Kernel7Ideal.Own

open Cert.Kernel7Ideal.Gen
open Idealize.ShloMosaic Idealize.ShloMosaic.TcCoe
open Idealize.SL.Sem
open Cert.Gates

theorem pay3_apply (P0 : FVec Ideal S512x4096 .f32) (P1 : FVec Ideal S1x4096 .f32) (a : Fin 512) (q : Fin 4096) :
    k0_pay3 (F := Ideal) P0 P1 (ix2 a q) = normed (fun k => P0 (ix2 a k)) (P1 (ix2 0 q)) q := by
  unfold normed
  pointwise [k0_pay3]

theorem pay4_apply (P0 : FVec Ideal S512x4096 .f32) (P1 : FVec Ideal S1x4096 .f32) (P2 : FVec Ideal S128x4096 .bf16) (a : Fin 512) (l : Fin 128) :
    k0_pay4 (F := Ideal) P0 P1 P2 (ix2 a l) = tail (fun k => P0 (ix2 a k)) (fun k => P1 (ix2 0 k)) (fun k => P2 (ix2 l k)) := by
  have h : k0_pay4 (F := Ideal) P0 P1 P2 (ix2 a l) = ∑ k : Fin 4096, k0_pay3 (F := Ideal) P0 P1 (ix2 a k) * P2 (ix2 l k) := by
    pointwise [k0_pay4]
  rw [h]
  exact Finset.sum_congr rfl fun k _ => by rw [pay3_apply]

/-- One step of the chunk's running sum: each place takes the one `s` places before it in its chunk. -/
def dbl (s : BitVec 32) (g : FVec Ideal S512x128 .f32) : FVec Ideal S512x128 .f32 :=
  addf g (select (cmpi .sge k0_pay8 (broadcast S512x128 s)) (dynamicRotate 0 s none g rotates_S512x128_d0) (broadcast S512x128 (Scalar.ofBits .f32 0x00000000#32)))

/-- The decay's exponents before they are summed. -/
def base (v21 : FVec Ideal S512x128 .f32) (v32 : FVec Ideal S1x128 .f32) (v35 : FVec Ideal S512x128 .f32) : FVec Ideal S512x128 .f32 :=
  select k0_pay5 (mulf (broadcastTo S512x128 v32 broadcasts_S1x128_S512x128) (addf (maximumf (addf v21 v35) (broadcast S512x128 (Scalar.ofBits .f32 0x00000000#32)))
    (log1p (exp (subf (broadcast S512x128 (Scalar.ofBits .f32 0x00000000#32)) (absf (addf v21 v35))))))) (broadcast S512x128 (Scalar.ofBits .f32 0x00000000#32))

theorem pay9_eq (v21 : FVec Ideal S512x128 .f32) (v32 : FVec Ideal S1x128 .f32) (v35 : FVec Ideal S512x128 .f32) :
    k0_pay9 v21 k0_pay5 v32 v35 = dbl 8#32 (dbl 4#32 (dbl 2#32 (dbl 1#32 (base v21 v32 v35)))) := rfl

theorem pay1_eq (v21 v75 : FVec Ideal S512x128 .f32) :
    k0_pay1 v21 k0_pay5 k0_pay8 v75 k0_pay10 16#32 = select k0_pay5 (dbl 32#32 (dbl 16#32 v75)) (logistic v21) := rfl

theorem lane_in : ∀ l : Fin 128, 16 ≤ l.val → l.val < 32 → ∀ a : Fin 512, k0_pay5 (ix2 a l) = 1#1 := by
  have h : ∀ l : Fin 128, 16 ≤ l.val → l.val < 32 → IntOp.andi (IntOp.cmpi .sge (BitVec.ofNat 32 l.val) 16#32) (IntOp.cmpi .slt (BitVec.ofNat 32 l.val) 32#32) = 1#1 := by decide +kernel
  intro l h1 h2 a
  pointwise [k0_pay5]
  exact h l h1 h2

theorem lane_out : ∀ l : Fin 128, (l.val < 16 ∨ 32 ≤ l.val) → ∀ a : Fin 512, k0_pay5 (ix2 a l) = 0#1 := by
  have h : ∀ l : Fin 128, (l.val < 16 ∨ 32 ≤ l.val) → IntOp.andi (IntOp.cmpi .sge (BitVec.ofNat 32 l.val) 16#32) (IntOp.cmpi .slt (BitVec.ofNat 32 l.val) 32#32) = 0#1 := by decide +kernel
  intro l h1 a
  pointwise [k0_pay5]
  exact h l h1

theorem select_ge {X : EReal} {c : BitVec 1} {p : Prop} [Decidable p] (h1 : p → c = 1#1) (h0 : ¬ p → c = 0#1) : Scalar.select c X 0 = if p then X else 0 := by
  by_cases h : p
  · rw [h1 h, if_pos h]; rfl
  · rw [h0 h, if_neg h]; rfl

/-- One step doubles the places summed. -/
theorem dbl_of (s : ℕ) (hs : 0 < s ∧ s < 64) (g d : FVec Ideal S512x128 .f32) (F : ℕ → EReal) (b : ℕ) (hb : b % 64 = 0) (l : Fin 128)
    (hd : ∀ a : Fin 512, d (ix2 a l) = g (ix2 a l) + if s ≤ a.val % 64 then g (ix2 ⟨(a.val + 512 - s) % 512, by omega⟩ l) else 0)
    (hg : ∀ a : Fin 512, g (ix2 a l) = win s F (b + a.val)) (a : Fin 512) : d (ix2 a l) = win (s + s) F (b + a.val) := by
  have hm : (b + a.val) % 64 = a.val % 64 := by omega
  rw [hd, win_double, hg a, hm]
  congr 1
  by_cases h : s ≤ a.val % 64
  · rw [if_pos h, if_pos h, hg]
    refine congrArg (win s F) ?_
    show b + (a.val + 512 - s) % 512 = b + a.val - s
    omega
  · rw [if_neg h, if_neg h]

theorem ge1 : ∀ a : Fin 512, (1 ≤ a.val % 64 → IntOp.cmpi .sge (IntOp.andi (BitVec.ofNat 32 a.val) 63#32) 1#32 = 1#1) ∧
    (¬ 1 ≤ a.val % 64 → IntOp.cmpi .sge (IntOp.andi (BitVec.ofNat 32 a.val) 63#32) 1#32 = 0#1) := by decide +kernel

theorem dbl1_win (g : FVec Ideal S512x128 .f32) (F : ℕ → EReal) (b : ℕ) (hb : b % 64 = 0) (l : Fin 128)
    (hg : ∀ a : Fin 512, g (ix2 a l) = win 1 F (b + a.val)) (a : Fin 512) : dbl 1#32 g (ix2 a l) = win 2 F (b + a.val) := by
  refine dbl_of 1 (by norm_num) g _ F b hb l (fun a => ?_) hg a
  rw [← select_ge (ge1 a).1 (ge1 a).2]
  pointwise [dbl, k0_pay8]

theorem ge2 : ∀ a : Fin 512, (2 ≤ a.val % 64 → IntOp.cmpi .sge (IntOp.andi (BitVec.ofNat 32 a.val) 63#32) 2#32 = 1#1) ∧
    (¬ 2 ≤ a.val % 64 → IntOp.cmpi .sge (IntOp.andi (BitVec.ofNat 32 a.val) 63#32) 2#32 = 0#1) := by decide +kernel

theorem dbl2_win (g : FVec Ideal S512x128 .f32) (F : ℕ → EReal) (b : ℕ) (hb : b % 64 = 0) (l : Fin 128)
    (hg : ∀ a : Fin 512, g (ix2 a l) = win 2 F (b + a.val)) (a : Fin 512) : dbl 2#32 g (ix2 a l) = win 4 F (b + a.val) := by
  refine dbl_of 2 (by norm_num) g _ F b hb l (fun a => ?_) hg a
  rw [← select_ge (ge2 a).1 (ge2 a).2]
  pointwise [dbl, k0_pay8]

theorem ge4 : ∀ a : Fin 512, (4 ≤ a.val % 64 → IntOp.cmpi .sge (IntOp.andi (BitVec.ofNat 32 a.val) 63#32) 4#32 = 1#1) ∧
    (¬ 4 ≤ a.val % 64 → IntOp.cmpi .sge (IntOp.andi (BitVec.ofNat 32 a.val) 63#32) 4#32 = 0#1) := by decide +kernel

theorem dbl4_win (g : FVec Ideal S512x128 .f32) (F : ℕ → EReal) (b : ℕ) (hb : b % 64 = 0) (l : Fin 128)
    (hg : ∀ a : Fin 512, g (ix2 a l) = win 4 F (b + a.val)) (a : Fin 512) : dbl 4#32 g (ix2 a l) = win 8 F (b + a.val) := by
  refine dbl_of 4 (by norm_num) g _ F b hb l (fun a => ?_) hg a
  rw [← select_ge (ge4 a).1 (ge4 a).2]
  pointwise [dbl, k0_pay8]

theorem ge8 : ∀ a : Fin 512, (8 ≤ a.val % 64 → IntOp.cmpi .sge (IntOp.andi (BitVec.ofNat 32 a.val) 63#32) 8#32 = 1#1) ∧
    (¬ 8 ≤ a.val % 64 → IntOp.cmpi .sge (IntOp.andi (BitVec.ofNat 32 a.val) 63#32) 8#32 = 0#1) := by decide +kernel

theorem dbl8_win (g : FVec Ideal S512x128 .f32) (F : ℕ → EReal) (b : ℕ) (hb : b % 64 = 0) (l : Fin 128)
    (hg : ∀ a : Fin 512, g (ix2 a l) = win 8 F (b + a.val)) (a : Fin 512) : dbl 8#32 g (ix2 a l) = win 16 F (b + a.val) := by
  refine dbl_of 8 (by norm_num) g _ F b hb l (fun a => ?_) hg a
  rw [← select_ge (ge8 a).1 (ge8 a).2]
  pointwise [dbl, k0_pay8]

theorem ge16 : ∀ a : Fin 512, (16 ≤ a.val % 64 → IntOp.cmpi .sge (IntOp.andi (BitVec.ofNat 32 a.val) 63#32) 16#32 = 1#1) ∧
    (¬ 16 ≤ a.val % 64 → IntOp.cmpi .sge (IntOp.andi (BitVec.ofNat 32 a.val) 63#32) 16#32 = 0#1) := by decide +kernel

theorem dbl16_win (g : FVec Ideal S512x128 .f32) (F : ℕ → EReal) (b : ℕ) (hb : b % 64 = 0) (l : Fin 128)
    (hg : ∀ a : Fin 512, g (ix2 a l) = win 16 F (b + a.val)) (a : Fin 512) : dbl 16#32 g (ix2 a l) = win 32 F (b + a.val) := by
  refine dbl_of 16 (by norm_num) g _ F b hb l (fun a => ?_) hg a
  rw [← select_ge (ge16 a).1 (ge16 a).2]
  pointwise [dbl, k0_pay8]

theorem ge32 : ∀ a : Fin 512, (32 ≤ a.val % 64 → IntOp.cmpi .sge (IntOp.andi (BitVec.ofNat 32 a.val) 63#32) 32#32 = 1#1) ∧
    (¬ 32 ≤ a.val % 64 → IntOp.cmpi .sge (IntOp.andi (BitVec.ofNat 32 a.val) 63#32) 32#32 = 0#1) := by decide +kernel

theorem dbl32_win (g : FVec Ideal S512x128 .f32) (F : ℕ → EReal) (b : ℕ) (hb : b % 64 = 0) (l : Fin 128)
    (hg : ∀ a : Fin 512, g (ix2 a l) = win 32 F (b + a.val)) (a : Fin 512) : dbl 32#32 g (ix2 a l) = win 64 F (b + a.val) := by
  refine dbl_of 32 (by norm_num) g _ F b hb l (fun a => ?_) hg a
  rw [← select_ge (ge32 a).1 (ge32 a).2]
  pointwise [dbl, k0_pay8]

/-- The rows of the padded scales, negated. -/
theorem pay6_apply (P : FVec Ideal S1x128 .f32) (l : Fin 128) : k0_pay6 (F := Ideal) P (ix2 0 l) = 0 - Ideal.exp (P (ix2 0 l)) := by
  pointwise [k0_pay6]

theorem pay7_apply (P : FVec Ideal S1x128 .f32) (a : Fin 512) (l : Fin 128) : k0_pay7 (F := Ideal) P (ix2 a l) = P (ix2 0 l) := by
  pointwise [k0_pay7]

theorem base_apply (v21 : FVec Ideal S512x128 .f32) (P3 P4 : FVec Ideal S1x128 .f32) (a : Fin 512) (l : Fin 128) (h1 : 16 ≤ l.val) (h2 : l.val < 32) :
    base v21 (k0_pay6 P3) (k0_pay7 P4) (ix2 a l) = decay (P3 (ix2 0 l)) (v21 (ix2 a l) + P4 (ix2 0 l)) := by
  have h := lane_in l h1 h2 a
  have h3 := pay6_apply P3 l
  have h4 := pay7_apply P4 a l
  unfold decay
  rw [← h3, ← h4]
  pointwise [base]
  rw [h]
  rfl

/-- The stored gates, lane by lane. -/
def gates (P0 : FVec Ideal S512x4096 .f32) (P1 : FVec Ideal S1x4096 .f32) (P2 : FVec Ideal S128x4096 .bf16) (P3 P4 : FVec Ideal S1x128 .f32) : FVec Ideal S512x128 .f32 :=
  k0_pay1 (k0_pay4 P0 P1 P2) k0_pay5 k0_pay8 (k0_pay9 (k0_pay4 P0 P1 P2) k0_pay5 (k0_pay6 P3) (k0_pay7 P4)) k0_pay10 16#32

theorem gates_out (P0 : FVec Ideal S512x4096 .f32) (P1 : FVec Ideal S1x4096 .f32) (P2 : FVec Ideal S128x4096 .bf16) (P3 P4 : FVec Ideal S1x128 .f32) (a : Fin 512) (l : Fin 128)
    (hl : l.val < 16 ∨ 32 ≤ l.val) :
    gates P0 P1 P2 P3 P4 (ix2 a l) = Ideal.logistic (tail (fun k => P0 (ix2 a k)) (fun k => P1 (ix2 0 k)) (fun k => P2 (ix2 l k))) := by
  unfold gates
  rw [pay1_eq, ← pay4_apply]
  have h := lane_out l hl a
  show Scalar.select (k0_pay5 (ix2 a l)) _ _ = _
  rw [h]
  rfl

theorem gates_in (P0 : FVec Ideal S512x4096 .f32) (P1 : FVec Ideal S1x4096 .f32) (P2 : FVec Ideal S128x4096 .bf16) (P3 P4 : FVec Ideal S1x128 .f32) (a : Fin 512) (l : Fin 128)
    (h1 : 16 ≤ l.val) (h2 : l.val < 32) (F : ℕ → EReal) (b : ℕ) (hb : b % 64 = 0)
    (hF : ∀ a : Fin 512, decay (P3 (ix2 0 l)) (tail (fun k => P0 (ix2 a k)) (fun k => P1 (ix2 0 k)) (fun k => P2 (ix2 l k)) + P4 (ix2 0 l)) = F (b + a.val)) :
    gates P0 P1 P2 P3 P4 (ix2 a l) = win 64 F (b + a.val) := by
  unfold gates
  rw [pay1_eq, pay9_eq]
  have h := lane_in l h1 h2 a
  show Scalar.select (k0_pay5 (ix2 a l)) _ _ = _
  rw [h]
  refine Eq.trans (b := dbl 32#32 _ (ix2 a l)) rfl ?_
  refine dbl32_win _ F b hb l (dbl16_win _ F b hb l (dbl8_win _ F b hb l (dbl4_win _ F b hb l (dbl2_win _ F b hb l (dbl1_win _ F b hb l fun a => ?_))))) a
  rw [win_one, ← hF a, base_apply _ _ _ _ _ h1 h2, pay4_apply]

end Cert.Kernel7Ideal.Own

end
-- ==== Proof.GateKer.lean ====
module

public import proofs.«01_k».proof.Proof.GatePay
public import proofs.«01_k».proof.Proof.Gen.Kernel7Ideal.Value
public import Idealize.ShloMosaic.Lib.Pipeline.ReadBack
public import Idealize.ShloMosaic.Lib.Pipeline.ValueKit

@[expose] public section

set_option maxRecDepth 16384

noncomputable section

namespace Cert.Kernel7Ideal.Own

open Cert.Kernel7Ideal.Gen
open Idealize.ShloMosaic Idealize.ShloMosaic.TcCoe
open Idealize.SL.Sem
open Cert.Gates

variable (m : (ℓ : Loc nD τ sig) → Buf (Elt Ideal) ℓ)

theorem outs_first (c : Dev nD) (t : Fin cfg0.N) (h : t.val % 16 = 0) :
    outsAt0 m c t.val t.isLt = (k0_pay3 (iblk m c 0 t) (iblk m c 1 t), gates (iblk m c 0 t) (iblk m c 1 t) (k0_pay2 (iblk m c 2 t)) (iblk m c 3 t) (iblk m c 4 t), k0_pay2 (iblk m c 2 t)) := by
  rw [outsAt0_A m c t h]
  unfold gates
  refine Prod.ext ?_ (Prod.ext ?_ ?_)
  · dsimp only
    frame_out
  · dsimp only
    frame_out
  · dsimp only
    frame_out

theorem outs_next (c : Dev nD) (t : Fin cfg0.N) (h : ¬ t.val % 16 = 0) (S : FVec Ideal S128x4096 .bf16)
    (hS : (outsAt0 m c (t.val - 1) (Nat.lt_of_le_of_lt (Nat.sub_le _ _) t.isLt)).2.2 = S) :
    outsAt0 m c t.val t.isLt = (k0_pay3 (iblk m c 0 t) (iblk m c 1 t), gates (iblk m c 0 t) (iblk m c 1 t) S (iblk m c 3 t) (iblk m c 4 t), S) := by
  rw [outsAt0_B m c t h, hS]
  unfold gates
  refine Prod.ext ?_ (Prod.ext ?_ ?_)
  · dsimp only
    frame_out
  · dsimp only
    frame_out
    simp only [read_unread_whole]
  · dsimp only
    unfold sout0_B_0; rfl

/-- The narrowed gate columns stay in the scratch from the first point on. -/
theorem scratch_eq (c : Dev nD) : ∀ (n : ℕ) (hn : n < cfg0.N), (outsAt0 m c n hn).2.2 = k0_pay2 (iblk m c 2 ⟨0, by decide⟩) := by
  intro n
  induction n with
  | zero => intro hn; rw [outs_first m c ⟨0, hn⟩ rfl]
  | succ n ih =>
    intro hn
    have h16 : n + 1 < 16 := hn
    rw [outs_next m c ⟨n + 1, hn⟩ (by show ¬ (n + 1) % 16 = 0; omega) _ (ih (by omega))]

theorem outs_eq (c : Dev nD) (t : Fin cfg0.N) :
    (outsAt0 m c t.val t.isLt).1 = k0_pay3 (iblk m c 0 t) (iblk m c 1 t) ∧
    (outsAt0 m c t.val t.isLt).2.1 = gates (iblk m c 0 t) (iblk m c 1 t) (k0_pay2 (iblk m c 2 ⟨0, by decide⟩)) (iblk m c 3 t) (iblk m c 4 t) := by
  by_cases h : t.val % 16 = 0
  · have h16 : t.val < 16 := t.isLt
    have ht : t = ⟨0, by decide⟩ := Fin.ext (by show t.val = 0; omega)
    subst ht
    rw [outs_first m c _ rfl]
    exact ⟨rfl, rfl⟩
  · rw [outs_next m c t h _ (scratch_eq m c _ _)]
    exact ⟨rfl, rfl⟩

end Cert.Kernel7Ideal.Own

end
-- ==== Proof.GateHost.lean ====
module

public import proofs.«01_k».proof.Proof.GateKer
public import Idealize.ShloMosaic.Lib.Pointwise

@[expose] public section

set_option maxRecDepth 16384

noncomputable section

namespace Cert.Kernel7Ideal.Own

open Cert.Kernel7Ideal.Gen
open Idealize.ShloMosaic Idealize.ShloMosaic.TcCoe
open Idealize.SL.Sem

/-- The padded gate columns, as rows. -/
def cols (w : FVec Ideal S1x4096x12320 .f32) : FVec Ideal S128x4096 .f32 :=
  pad S128x4096 ![0, 0] ![96, 0] ![0, 0] (shapeCast S32x4096 (extractStridedSlice S1x32x4096 ![0, 12288, 0] (transpose S1x12320x4096 [0, 2, 1] w transposes_S1x4096x12320_S1x12320x4096_0_2_1) slices_S1x12320x4096_S1x32x4096_0_12288_0) shapeCasts_S1x32x4096_S32x4096)
    (sitofp .f32 (constantI S_ 32 0#32) : FVec Ideal S_ .f32) pads_S32x4096_S128x4096_0960_000 h_S_

/-- A vector of the heads, padded into its lanes. -/
def lanes (v : FVec Ideal S1x16 .f32) : FVec Ideal S1x128 .f32 :=
  shapeCast S1x128 (pad S128 ![16] ![96] ![0] (shapeCast S16 v shapeCasts_S1x16_S16) (sitofp .f32 (constantI S_ 32 0#32) : FVec Ideal S_ .f32) pads_S16_S128_16960 h_S_) shapeCasts_S128_S1x128

theorem cols_in (w : FVec Ideal S1x4096x12320 .f32) (l : Fin 128) (h : l.val < 32) (k : Fin 4096) :
    cols w (ix2 l k) = w (ix3 0 k ⟨12288 + l.val, by omega⟩) := by
  pointwise [cols]
  rw [dif_pos h]

theorem zero_word : (FloatOps.sitofp (F := Ideal) .f32 (0#32 : BitVec 32) : EReal) = 0 := by
  show (((0#32 : BitVec 32).toInt : ℝ) : EReal) = 0
  simp

theorem cols_out (w : FVec Ideal S1x4096x12320 .f32) (l : Fin 128) (h : 32 ≤ l.val) (k : Fin 4096) :
    cols w (ix2 l k) = 0 := by
  pointwise [cols]
  rw [dif_neg (by omega)]
  exact zero_word

theorem lanes_in (v : FVec Ideal S1x16 .f32) (l : Fin 128) (h1 : 16 ≤ l.val) (h2 : l.val < 32) :
    lanes v (ix2 0 l) = v (ix2 0 ⟨l.val - 16, by omega⟩) := by
  pointwise [lanes]
  rw [dif_pos ⟨h1, by omega⟩]

theorem row_apply (w : FVec Ideal S1x4096 .f32) (q : Fin 4096) : (shapeCast S1x4096 (shapeCast S4096 w shapeCasts_S1x4096_S4096) shapeCasts_S4096_S1x4096 : FVec Ideal S1x4096 .f32) (ix2 0 q) = w (ix2 0 q) := by
  pointwise []

variable (m : (ℓ : Loc nD τ sig) → Buf (Elt Ideal) ℓ)

theorem V_main_v7 (c : Dev nD) : V m c main_v7 = (shapeCast S1x4096 (shapeCast S4096 (m ((c : Thread nD τ).loc main_arg1) : FVec Ideal S1x4096 .f32) shapeCasts_S1x4096_S4096) shapeCasts_S4096_S1x4096 : FVec Ideal S1x4096 .f32) := by
  unfold V
  simp only [List.flatten_cons, List.flatten_nil, List.append_nil, List.cons_append, List.nil_append, StableHlo.TRef.unary, StableHlo.TRef.binary, StableHlo.TRef.toBuf, StableHlo.TRef.ofBuf, cast_eq]
  after_results_simp <;> rfl

theorem V_main_v3 (c : Dev nD) : V m c main_v3 = cols (m ((c : Thread nD τ).loc main_arg2) : FVec Ideal S1x4096x12320 .f32) := by
  unfold V
  simp only [List.flatten_cons, List.flatten_nil, List.append_nil, List.cons_append, List.nil_append, StableHlo.TRef.unary, StableHlo.TRef.binary, StableHlo.TRef.toBuf, StableHlo.TRef.ofBuf, cast_eq]
  after_results_simp <;> rfl

theorem V_main_v9 (c : Dev nD) : V m c main_v9 = lanes (m ((c : Thread nD τ).loc main_arg3) : FVec Ideal S1x16 .f32) := by
  unfold V
  simp only [List.flatten_cons, List.flatten_nil, List.append_nil, List.cons_append, List.nil_append, StableHlo.TRef.unary, StableHlo.TRef.binary, StableHlo.TRef.toBuf, StableHlo.TRef.ofBuf, cast_eq]
  after_results_simp <;> rfl

theorem V_main_v11 (c : Dev nD) : V m c main_v11 = lanes (m ((c : Thread nD τ).loc main_arg4) : FVec Ideal S1x16 .f32) := by
  unfold V
  simp only [List.flatten_cons, List.flatten_nil, List.append_nil, List.cons_append, List.nil_append, StableHlo.TRef.unary, StableHlo.TRef.binary, StableHlo.TRef.toBuf, StableHlo.TRef.ofBuf, cast_eq]
  after_results_simp <;> rfl

end Cert.Kernel7Ideal.Own

end
-- ==== Proof.GateOut.lean ====
module

public import proofs.«01_k».proof.Proof.GateHost

@[expose] public section

set_option maxRecDepth 16384

noncomputable section

namespace Cert.Kernel7Ideal.Own

open Cert.Kernel7Ideal.Gen
open Idealize.ShloMosaic Idealize.ShloMosaic.TcCoe
open Idealize.SL.Sem
open Cert.Gates

variable (m : (ℓ : Loc nD τ sig) → Buf (Elt Ideal) ℓ)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem flush5 : ∀ t : Fin cfg0.N, (cfg0.win 5).flush t = true :=
  (by decide +kernel : ∀ t : Fin grid0.N, win0_5.flush t = true)
theorem flush6 : ∀ t : Fin cfg0.N, (cfg0.win 6).flush t = true :=
  (by decide +kernel : ∀ t : Fin grid0.N, win0_6.flush t = true)
theorem lt16 (t : Fin cfg0.N) : t.val < 16 := t.isLt

theorem iblk0_apply (c : Dev nD) (t : Fin cfg0.N) (a : Fin 512) (k : Fin 4096) :
    (iblk m c 0 t : FVec Ideal S512x4096 .f32) (ix2 a k)
      = (m ((c : Thread nD τ).loc main_arg0) : FVec Ideal S8192x4096 .f32) (ix2 ⟨512 * t.val + a.val, by have := lt16 t; omega⟩ k) := by
  rw [← V_main_arg0 m c]
  refine congrArg (V m c main_arg0) ?_
  funext x
  apply Fin.ext
  fin_cases x
  · show win0_0.index t 0 * 512 + 1 * a.val = 512 * t.val + a.val
    rw [(index0 t).1]; omega
  · show win0_0.index t 1 * 4096 + 1 * k.val = k.val
    rw [(index0 t).2]; omega

theorem iblk1_apply (c : Dev nD) (t : Fin cfg0.N) (l : Fin 1) (k : Fin 4096) :
    (iblk m c 1 t : FVec Ideal S1x4096 .f32) (ix2 l k) = (V m c main_v7 : FVec Ideal S1x4096 .f32) (ix2 l k) := by
  refine congrArg (V m c main_v7) ?_
  funext x
  apply Fin.ext
  fin_cases x
  · show win0_1.index t 0 * 1 + 1 * l.val = l.val
    rw [(index1 t).1]; omega
  · show win0_1.index t 1 * 4096 + 1 * k.val = k.val
    rw [(index1 t).2]; omega

theorem iblk2_apply (c : Dev nD) (t : Fin cfg0.N) (l : Fin 128) (k : Fin 4096) :
    (iblk m c 2 t : FVec Ideal S128x4096 .f32) (ix2 l k) = (V m c main_v3 : FVec Ideal S128x4096 .f32) (ix2 l k) := by
  refine congrArg (V m c main_v3) ?_
  funext x
  apply Fin.ext
  fin_cases x
  · show win0_2.index t 0 * 128 + 1 * l.val = l.val
    rw [(index2 t).1]; omega
  · show win0_2.index t 1 * 4096 + 1 * k.val = k.val
    rw [(index2 t).2]; omega

theorem iblk3_apply (c : Dev nD) (t : Fin cfg0.N) (l : Fin 1) (k : Fin 128) :
    (iblk m c 3 t : FVec Ideal S1x128 .f32) (ix2 l k) = (V m c main_v9 : FVec Ideal S1x128 .f32) (ix2 l k) := by
  refine congrArg (V m c main_v9) ?_
  funext x
  apply Fin.ext
  fin_cases x
  · show win0_3.index t 0 * 1 + 1 * l.val = l.val
    rw [(index3 t).1]; omega
  · show win0_3.index t 1 * 128 + 1 * k.val = k.val
    rw [(index3 t).2]; omega

theorem iblk4_apply (c : Dev nD) (t : Fin cfg0.N) (l : Fin 1) (k : Fin 128) :
    (iblk m c 4 t : FVec Ideal S1x128 .f32) (ix2 l k) = (V m c main_v11 : FVec Ideal S1x128 .f32) (ix2 l k) := by
  refine congrArg (V m c main_v11) ?_
  funext x
  apply Fin.ext
  fin_cases x
  · show win0_4.index t 0 * 1 + 1 * l.val = l.val
    rw [(index4 t).1]; omega
  · show win0_4.index t 1 * 128 + 1 * k.val = k.val
    rw [(index4 t).2]; omega

theorem block5 (c : Dev nD) (t : Fin cfg0.N) (a : Fin 512) (b : Fin 4096) :
    ((dats m 0 c).arrAt 5 cfg0.N : FVec Ideal S8192x4096 .bf16) (ix2 ⟨512 * t.val + a.val, by have := lt16 t; omega⟩ b)
      = (k0_pay3 (iblk m c 0 t) (iblk m c 1 t)) (ix2 a b) := by
  have h := congrFun (Value.blocks5 m c t (flush5 t)) (ix2 a b)
  refine Eq.trans ?_ (h.trans ?_)
  · refine congrArg ((dats m 0 c).arrAt 5 cfg0.N) ?_
    funext x
    apply Fin.ext
    fin_cases x
    · show 512 * t.val + a.val = win0_5.index t 0 * 512 + 1 * a.val
      rw [(index5 t).1]; omega
    · show b.val = win0_5.index t 1 * 4096 + 1 * b.val
      rw [(index5 t).2]; omega
  · rw [Value.flushed5, (outs_eq m c t).1]
    rfl

theorem block6 (c : Dev nD) (t : Fin cfg0.N) (a : Fin 512) (b : Fin 128) :
    ((dats m 0 c).arrAt 6 cfg0.N : FVec Ideal S8192x128 .f32) (ix2 ⟨512 * t.val + a.val, by have := lt16 t; omega⟩ b)
      = (gates (iblk m c 0 t) (iblk m c 1 t) (k0_pay2 (iblk m c 2 ⟨0, by decide⟩)) (iblk m c 3 t) (iblk m c 4 t)) (ix2 a b) := by
  have h := congrFun (Value.blocks6 m c t (flush6 t)) (ix2 a b)
  refine Eq.trans ?_ (h.trans ?_)
  · refine congrArg ((dats m 0 c).arrAt 6 cfg0.N) ?_
    funext x
    apply Fin.ext
    fin_cases x
    · show 512 * t.val + a.val = win0_6.index t 0 * 512 + 1 * a.val
      rw [(index6 t).1]; omega
    · show b.val = win0_6.index t 1 * 128 + 1 * b.val
      rw [(index6 t).2]; omega
  · rw [Value.flushed6, (outs_eq m c t).2]
    rfl

theorem whole (r : Fin 8192) : (⟨512 * (r.val / 512) + r.val % 512, by omega⟩ : Fin 8192) = r :=
  Fin.ext (by show 512 * (r.val / 512) + r.val % 512 = r.val; omega)

theorem pay2_apply (w : FVec Ideal S128x4096 .f32) (l : Fin 128) (k : Fin 4096) : k0_pay2 (F := Ideal) w (ix2 l k) = w (ix2 l k) := by
  pointwise [k0_pay2]

/-- The grid point that writes a row. -/
def point (r : Fin 8192) : Fin cfg0.N := ⟨r.val / 512, by show r.val / 512 < 16; omega⟩

theorem norm_apply (c : Dev nD) (r : Fin 8192) (q : Fin 4096) :
    ((dats m 0 c).arrAt 5 cfg0.N : FVec Ideal S8192x4096 .bf16) (ix2 r q)
      = normed (fun k => (m ((c : Thread nD τ).loc main_arg0) : FVec Ideal S8192x4096 .f32) (ix2 r k)) ((m ((c : Thread nD τ).loc main_arg1) : FVec Ideal S1x4096 .f32) (ix2 0 q)) q := by
  have h := block5 m c (point r) ⟨r.val % 512, by omega⟩ q
  rw [pay3_apply, iblk1_apply, V_main_v7, row_apply] at h
  simp only [iblk0_apply, point, whole] at h
  exact h

theorem w1 (c : Dev nD) (t : Fin cfg0.N) : (fun k => (iblk m c 1 t : FVec Ideal S1x4096 .f32) (ix2 0 k)) = fun k => (m ((c : Thread nD τ).loc main_arg1) : FVec Ideal S1x4096 .f32) (ix2 0 k) := by
  funext k
  rw [iblk1_apply, V_main_v7, row_apply]

theorem w2_in (c : Dev nD) (t : Fin cfg0.N) (l : Fin 128) (h : l.val < 32) :
    (fun k => (k0_pay2 (F := Ideal) (iblk m c 2 t) : FVec Ideal S128x4096 .bf16) (ix2 l k)) = fun k => (m ((c : Thread nD τ).loc main_arg2) : FVec Ideal S1x4096x12320 .f32) (ix3 0 k ⟨12288 + l.val, by omega⟩) := by
  funext k
  rw [pay2_apply, iblk2_apply, V_main_v3, cols_in _ _ h]

theorem w2_out (c : Dev nD) (t : Fin cfg0.N) (l : Fin 128) (h : 32 ≤ l.val) :
    (fun k => (k0_pay2 (F := Ideal) (iblk m c 2 t) : FVec Ideal S128x4096 .bf16) (ix2 l k)) = fun _ => (0 : EReal) := by
  funext k
  rw [pay2_apply, iblk2_apply, V_main_v3, cols_out _ _ h]

theorem w0 (c : Dev nD) (r : Fin 8192) : (fun k => (iblk m c 0 (point r) : FVec Ideal S512x4096 .f32) (ix2 ⟨r.val % 512, by omega⟩ k)) = fun k => (m ((c : Thread nD τ).loc main_arg0) : FVec Ideal S8192x4096 .f32) (ix2 r k) := by
  funext k
  rw [iblk0_apply]
  simp only [point, whole]

theorem gates_first (c : Dev nD) (r : Fin 8192) (l : Fin 128) (h : l.val < 16) :
    ((dats m 0 c).arrAt 6 cfg0.N : FVec Ideal S8192x128 .f32) (ix2 r l)
      = Ideal.logistic (tail (fun k => (m ((c : Thread nD τ).loc main_arg0) : FVec Ideal S8192x4096 .f32) (ix2 r k)) (fun k => (m ((c : Thread nD τ).loc main_arg1) : FVec Ideal S1x4096 .f32) (ix2 0 k))
          (fun k => (m ((c : Thread nD τ).loc main_arg2) : FVec Ideal S1x4096x12320 .f32) (ix3 0 k ⟨12288 + l.val, by omega⟩))) := by
  have e := block6 m c (point r) ⟨r.val % 512, by omega⟩ l
  rw [gates_out _ _ _ _ _ _ _ (Or.inl h), w0, w1, w2_in _ _ _ _ (by omega)] at e
  simp only [point, whole] at e
  exact e

theorem tail_zero (x w : Fin 4096 → EReal) : tail x w (fun _ => 0) = 0 := by
  unfold tail
  simp only [mul_zero, Finset.sum_const_zero]

theorem half : Ideal.logistic 0 = Ideal.ofBits .f32 0x3F000000#32 := by
  have e : Ideal.logistic (((0 : ℝ)) : EReal) = (((1 + Real.exp (-0))⁻¹ : ℝ) : EReal) := Ideal.logistic_coe 0
  have f : Ideal.ofBits .f32 0x3F000000#32 = ((2⁻¹ : ℝ) : EReal) := by
    simp [Ideal.ofBits, Ideal.ieee, -EReal.coe_mul]; norm_num
  rw [f, ← EReal.coe_zero, e]
  norm_num

theorem gates_rest (c : Dev nD) (r : Fin 8192) (l : Fin 128) (h : 32 ≤ l.val) :
    ((dats m 0 c).arrAt 6 cfg0.N : FVec Ideal S8192x128 .f32) (ix2 r l) = Ideal.ofBits .f32 0x3F000000#32 := by
  have e := block6 m c (point r) ⟨r.val % 512, by omega⟩ l
  rw [gates_out _ _ _ _ _ _ _ (Or.inr h), w2_out _ _ _ _ h, tail_zero, half] at e
  simp only [point, whole] at e
  exact e

theorem gates_second (c : Dev nD) (r : Fin 8192) (l : Fin 128) (h1 : 16 ≤ l.val) (h2 : l.val < 32) :
    ((dats m 0 c).arrAt 6 cfg0.N : FVec Ideal S8192x128 .f32) (ix2 r l)
      = win 64 (places (fun r k => (m ((c : Thread nD τ).loc main_arg0) : FVec Ideal S8192x4096 .f32) (ix2 r k)) (fun k => (m ((c : Thread nD τ).loc main_arg1) : FVec Ideal S1x4096 .f32) (ix2 0 k))
          (fun k => (m ((c : Thread nD τ).loc main_arg2) : FVec Ideal S1x4096x12320 .f32) (ix3 0 k ⟨12288 + l.val, by omega⟩))
          ((m ((c : Thread nD τ).loc main_arg3) : FVec Ideal S1x16 .f32) (ix2 0 ⟨l.val - 16, by omega⟩)) ((m ((c : Thread nD τ).loc main_arg4) : FVec Ideal S1x16 .f32) (ix2 0 ⟨l.val - 16, by omega⟩))) r.val := by
  have e := block6 m c (point r) ⟨r.val % 512, by omega⟩ l
  have ht := lt16 (point r)
  rw [gates_in _ _ _ _ _ _ _ h1 h2 (places (fun r k => (m ((c : Thread nD τ).loc main_arg0) : FVec Ideal S8192x4096 .f32) (ix2 r k)) (fun k => (m ((c : Thread nD τ).loc main_arg1) : FVec Ideal S1x4096 .f32) (ix2 0 k))
          (fun k => (m ((c : Thread nD τ).loc main_arg2) : FVec Ideal S1x4096x12320 .f32) (ix3 0 k ⟨12288 + l.val, by omega⟩))
          ((m ((c : Thread nD τ).loc main_arg3) : FVec Ideal S1x16 .f32) (ix2 0 ⟨l.val - 16, by omega⟩)) ((m ((c : Thread nD τ).loc main_arg4) : FVec Ideal S1x16 .f32) (ix2 0 ⟨l.val - 16, by omega⟩)))
        (512 * (point r).val) (by omega) (fun a => by
      rw [w1, w2_in _ _ _ _ h2, iblk3_apply, iblk4_apply, V_main_v9, V_main_v11, lanes_in _ _ h1 h2, lanes_in _ _ h1 h2]
      unfold places row
      have ha : (⟨(512 * (point r).val + a.val) % 8192, Nat.mod_lt _ (by norm_num)⟩ : Fin 8192) = ⟨512 * (point r).val + a.val, by omega⟩ := Fin.ext (Nat.mod_eq_of_lt (by omega))
      simp only [iblk0_apply, ha])] at e
  have hr : 512 * (r.val / 512) + r.val % 512 = r.val := by omega
  simp only [point, whole, hr] at e
  exact e

end Cert.Kernel7Ideal.Own

end
-- ==== Proof.GateRef.lean ====
module

public import proofs.«01_k».proof.Proof.GateSpec
public import proofs.«01_k».proof.Proof.Gen.Reference7Ideal.Run
public import Idealize.ShloMosaic.Lib.Pointwise

@[expose] public section

set_option maxRecDepth 16384

noncomputable section

namespace Cert.Reference7Ideal.Own

open Cert.Reference7Ideal Cert.Reference7Ideal.Gen
open Idealize.ShloMosaic Idealize.ShloMosaic.TcCoe
open Cert.Gates

/-- The norm. -/
def hid (x0 : FVec Ideal S8192x4096 .f32) (x1 : FVec Ideal S1x4096 .f32) : FVec Ideal S2x4096x4096 .f32 :=
  (mulf (mulf (shapeCast _ x0 shapeCasts_S8192x4096_S2x4096x4096) (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf (shapeCast _ x0 shapeCasts_S8192x4096_S2x4096x4096) (shapeCast _ x0 shapeCasts_S8192x4096_S2x4096x4096)) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 (shapeCast _ x1 shapeCasts_S1x4096_S4096))))

/-- Its product with the gate columns. -/
def prod (H : FVec Ideal S2x4096x4096 .f32) (x2 : FVec Ideal S1x4096x12320 .f32) : FVec Ideal S2x4096x32 .f32 :=
  Host.dotGeneral dot_S2x4096x4096_S4096x32_S2x4096x32_2_0_01_1_n_n none H (extractStridedSlice S4096x32 ![0, 12288] (shapeCast _ x2 shapeCasts_S1x4096x12320_S4096x12320) slices_S4096x12320_S4096x32_0_12288)

/-- The shifted columns of the decay. -/
def shifted (D : FVec Ideal S2x4096x32 .f32) (x4 : FVec Ideal S1x16 .f32) : FVec Ideal S2x4096x16 .f32 :=
  (addf (extractStridedSlice S2x4096x16 ![0, 0, 16] D slices_S2x4096x32_S2x4096x16_0_0_16) (broadcastInDim S2x4096x16 ![0, 1, 2] bcast_S1x1x16_S2x4096x16_0_1_2 (broadcastInDim S1x1x16 ![2] bcast_S16_S1x1x16_2 (shapeCast _ x4 shapeCasts_S1x16_S16))))

/-- The decay's exponents. -/
def exps (A : FVec Ideal S2x4096x16 .f32) (x3 : FVec Ideal S1x16 .f32) : FVec Ideal S2x4096x16 .f32 :=
  (mulf (broadcastInDim S2x4096x16 ![0, 1, 2] bcast_S1x1x16_S2x4096x16_0_1_2 (broadcastInDim S1x1x16 ![2] bcast_S16_S1x1x16_2 (Host.negf (Host.exp (shapeCast _ x3 shapeCasts_S1x16_S16))))) (select (cmpf .une (subf A (broadcastInDim S2x4096x16 ![] bcast_S_S2x4096x16 (constant S_ .f32 0x00000000#32))) (subf A (broadcastInDim S2x4096x16 ![] bcast_S_S2x4096x16 (constant S_ .f32 0x00000000#32)))) (addf A (broadcastInDim S2x4096x16 ![] bcast_S_S2x4096x16 (constant S_ .f32 0x00000000#32))) (addf (maximumf A (broadcastInDim S2x4096x16 ![] bcast_S_S2x4096x16 (constant S_ .f32 0x00000000#32))) (Host.log1p (Host.exp (Host.negf (Host.absf (subf A (broadcastInDim S2x4096x16 ![] bcast_S_S2x4096x16 (constant S_ .f32 0x00000000#32))))))))))

/-- The running sums within the chunks. -/
def sums (E : FVec Ideal S2x4096x16 .f32) : FVec Ideal S2x4096x16 .f32 :=
  (shapeCast _ (Host.reduceWindowAdd ![1, 1, 64, 1] ![1, 1, 1, 1] ![0, 0, 63, 0] ![0, 0, 0, 0] (shapeCast _ E shapeCasts_S2x4096x16_S2x64x64x16) (broadcastInDim S_ ![] bcast_S_S_ (constant S_ .f32 0x00000000#32)) reduceWindows_S2x64x64x16_S2x64x64x16_w1s1p0_0_w1s1p0_0_w64s1p63_0_w1s1p0_0 h_S_) shapeCasts_S2x64x64x16_S2x4096x16)

/-- The first gate. -/
def beta (D : FVec Ideal S2x4096x32 .f32) : FVec Ideal S2x4096x16 .f32 :=
  (Host.divf (broadcastInDim S2x4096x16 ![] bcast_S_S2x4096x16 (constant S_ .f32 0x3F800000#32)) (addf (broadcastInDim S2x4096x16 ![] bcast_S_S2x4096x16 (constant S_ .f32 0x3F800000#32)) (Host.exp (Host.negf (extractStridedSlice S2x4096x16 ![0, 0, 0] D slices_S2x4096x32_S2x4096x16_0_0_0)))))

/-- The gates side by side. -/
def joined (B G : FVec Ideal S2x4096x16 .f32) : FVec Ideal S8192x128 .f32 :=
  shapeCast _ ((concatenate S2x4096x128 2 [⟨S2x4096x16, B⟩, ⟨S2x4096x16, G⟩, ⟨S2x4096x96, ((id (broadcastInDim S2x4096x96 ![] bcast_S_S2x4096x96 (constant S_ .f32 0x3F000000#32 : FVec Ideal S_ .f32))) : (⟨S2x4096x96, .f32⟩ : BufTy).Contents (Elt Ideal))⟩] concatenates_S2x4096x16_S2x4096x16_S2x4096x96_S2x4096x128_d2 : (⟨S2x4096x128, .f32⟩ : BufTy).Contents (Elt Ideal))) shapeCasts_S2x4096x128_S8192x128

theorem res_eq (m : (ℓ : Loc nD τ sig) → Buf (Elt Ideal) ℓ) (c : Dev nD) : Value.res_main_v45 m c
    = joined (beta (prod (hid (m ((c.tc : Thread nD τ).loc main_arg0)) (m ((c.tc : Thread nD τ).loc main_arg1))) (m ((c.tc : Thread nD τ).loc main_arg2))))
        (sums (exps (shifted (prod (hid (m ((c.tc : Thread nD τ).loc main_arg0)) (m ((c.tc : Thread nD τ).loc main_arg1))) (m ((c.tc : Thread nD τ).loc main_arg2))) (m ((c.tc : Thread nD τ).loc main_arg4))) (m ((c.tc : Thread nD τ).loc main_arg3)))) := rfl

theorem hid_apply (x0 : FVec Ideal S8192x4096 .f32) (x1 : FVec Ideal S1x4096 .f32) (b : Fin 2) (t k : Fin 4096) :
    hid x0 x1 (ix3 b t k) = normed (fun k => x0 (ix2 ⟨b.val * 4096 + t.val, by omega⟩ k)) (x1 (ix2 0 k)) k := by
  unfold normed
  pointwise [hid]

theorem prod_apply (H : FVec Ideal S2x4096x4096 .f32) (x2 : FVec Ideal S1x4096x12320 .f32) (b : Fin 2) (t : Fin 4096) (l : Fin 32) :
    prod H x2 (ix3 b t l) = ∑ k : Fin 4096, H (ix3 b t k) * x2 (ix3 0 k ⟨12288 + l.val, by omega⟩) := by
  pointwise [prod]

theorem shifted_apply (D : FVec Ideal S2x4096x32 .f32) (x4 : FVec Ideal S1x16 .f32) (b : Fin 2) (t : Fin 4096) (h : Fin 16) :
    shifted D x4 (ix3 b t h) = D (ix3 b t ⟨16 + h.val, by omega⟩) + x4 (ix2 0 h) := by
  pointwise [shifted]

theorem exps_apply (A : FVec Ideal S2x4096x16 .f32) (x3 : FVec Ideal S1x16 .f32) (b : Fin 2) (t : Fin 4096) (h : Fin 16) :
    exps A x3 (ix3 b t h) = decay (x3 (ix2 0 h)) (A (ix3 b t h)) := by
  unfold decay
  pointwise [exps]
  rw [if_neg (fun h => h rfl), zero_sub, zero_sub]
  rfl

theorem beta_apply (D : FVec Ideal S2x4096x32 .f32) (b : Fin 2) (t : Fin 4096) (h : Fin 16) :
    beta D (ix3 b t h) = Ideal.logistic (D (ix3 b t ⟨h.val, by omega⟩)) := by
  unfold Ideal.logistic
  pointwise [beta]

theorem joined_beta (B G : FVec Ideal S2x4096x16 .f32) (r : Fin 8192) (l : Fin 128) (h : l.val < 16) :
    joined B G (ix2 r l) = B (ix3 ⟨r.val / 4096, by omega⟩ ⟨r.val % 4096, by omega⟩ ⟨l.val, h⟩) := by
  pointwise [joined]
  rw [dif_pos h]

theorem joined_sums (B G : FVec Ideal S2x4096x16 .f32) (r : Fin 8192) (l : Fin 128) (h1 : 16 ≤ l.val) (h2 : l.val < 32) :
    joined B G (ix2 r l) = G (ix3 ⟨r.val / 4096, by omega⟩ ⟨r.val % 4096, by omega⟩ ⟨l.val - 16, by omega⟩) := by
  pointwise [joined]
  rw [dif_neg (by omega), dif_pos (by omega)]

theorem joined_rest (B G : FVec Ideal S2x4096x16 .f32) (r : Fin 8192) (l : Fin 128) (h : 32 ≤ l.val) :
    joined B G (ix2 r l) = Ideal.ofBits .f32 0x3F000000#32 := by
  pointwise [joined]
  rw [dif_neg (by omega), dif_neg (by omega)]
  rfl

/-- The window's shape. -/
abbrev W : Shape := ⟨4, ![1, 1, 64, 1]⟩

theorem W_numel : W.numel = 64 := by decide

theorem W_coord : ∀ n : Fin W.numel, (W.rowMajor.symm n 0).val = 0 ∧ (W.rowMajor.symm n 1).val = 0 ∧ (W.rowMajor.symm n 2).val = n.val ∧ (W.rowMajor.symm n 3).val = 0 := by
  decide +kernel

theorem foldl_sum {α : Type} (f : α → EReal) (L : List α) (a : EReal) : L.foldl (fun r n => r + f n) a = a + (L.map f).sum := by
  induction L generalizing a with
  | nil => simp
  | cons n L ih => rw [List.foldl_cons, ih, List.map_cons, List.sum_cons, add_assoc]

/-- A fold over the window's places is a sum over its 64 rows, counted back from the last. -/
theorem fold_window (g : Fin W.numel → EReal) (f : ℕ → EReal) (i : ℕ) (a : EReal) (ha : a = 0)
    (h : ∀ n, g n = if 63 ≤ i + n.val then f (i + n.val - 63) else 0) :
    (List.finRange W.numel).foldl (fun r n => r + g n) a = ∑ j ∈ Finset.range 64, if j ≤ i then f (i - j) else 0 := by
  rw [foldl_sum, ha, zero_add, ← Fin.sum_univ_def, Finset.sum_congr rfl (fun n _ => h n),
    ← Finset.sum_range (fun n => if 63 ≤ i + n then f (i + n - 63) else 0), W_numel, ← Finset.sum_range_reflect]
  refine Finset.sum_congr rfl fun j hj => ?_
  have hj := Finset.mem_range.mp hj
  by_cases h : j ≤ i
  · rw [if_pos h, if_pos (by omega)]
    congr 1
    omega
  · rw [if_neg h, if_neg (by omega)]

/-- The window's sum at place `i` of a chunk. -/
theorem window_apply (x : FVec Ideal S2x64x64x16 .f32) (init : FVec Ideal S_ .f32) (hi : init (Shape.Idx.first h_S_) = 0) (b : Fin 2) (c i : Fin 64) (h : Fin 16) (f : ℕ → EReal)
    (hf : ∀ n : Fin 64, x (ix4 b c n h) = f n.val) :
    (Host.reduceWindowAdd ![1, 1, 64, 1] ![1, 1, 1, 1] ![0, 0, 63, 0] ![0, 0, 0, 0] x init reduceWindows_S2x64x64x16_S2x64x64x16_w1s1p0_0_w1s1p0_0_w64s1p63_0_w1s1p0_0 h_S_ : FVec Ideal S2x64x64x16 .f32) (ix4 b c i h)
      = ∑ j ∈ Finset.range 64, if j ≤ i.val then f (i.val - j) else 0 := by
  have hb := b.isLt
  have hc := c.isLt
  have hii := i.isLt
  have hh := h.isLt
  unfold Host.reduceWindowAdd
  show Ideal.hostReduceWindowAdd _ _ _ _ _ _ _ _ = _
  unfold Ideal.hostReduceWindowAdd Host.reduceWindow
  refine fold_window _ f i.val _ hi fun n => ?_
  obtain ⟨w0, w1, w2, w3⟩ := W_coord n
  have hn : n.val < 64 := lt_of_lt_of_eq n.isLt W_numel
  dsimp only
  split
  · next hin =>
    have h2 := hin 2
    change 63 ≤ i.val * 1 + (W.rowMajor.symm n 2).val ∧ i.val * 1 + (W.rowMajor.symm n 2).val - 63 < 64 at h2
    rw [w2] at h2
    rw [if_pos (by omega)]
    refine (congrArg x (funext fun a => Fin.ext ?_)).trans (hf ⟨i.val + n.val - 63, by omega⟩)
    match a with
    | ⟨0, _⟩ =>
      show b.val * 1 + (W.rowMajor.symm n 0).val - 0 = b.val
      rw [w0]; omega
    | ⟨1, _⟩ =>
      show c.val * 1 + (W.rowMajor.symm n 1).val - 0 = c.val
      rw [w1]; omega
    | ⟨2, _⟩ =>
      show i.val * 1 + (W.rowMajor.symm n 2).val - 63 = i.val + n.val - 63
      rw [w2]; omega
    | ⟨3, _⟩ =>
      show h.val * 1 + (W.rowMajor.symm n 3).val - 0 = h.val
      rw [w3]; omega
  · next hin =>
    rw [if_neg fun hle => hin fun a => by
      match a with
      | ⟨0, _⟩ =>
        show 0 ≤ b.val * 1 + (W.rowMajor.symm n 0).val ∧ b.val * 1 + (W.rowMajor.symm n 0).val - 0 < 2
        rw [w0]; omega
      | ⟨1, _⟩ =>
        show 0 ≤ c.val * 1 + (W.rowMajor.symm n 1).val ∧ c.val * 1 + (W.rowMajor.symm n 1).val - 0 < 64
        rw [w1]; omega
      | ⟨2, _⟩ =>
        show 63 ≤ i.val * 1 + (W.rowMajor.symm n 2).val ∧ i.val * 1 + (W.rowMajor.symm n 2).val - 63 < 64
        rw [w2]; omega
      | ⟨3, _⟩ =>
        show 0 ≤ h.val * 1 + (W.rowMajor.symm n 3).val ∧ h.val * 1 + (W.rowMajor.symm n 3).val - 0 < 16
        rw [w3]; omega]
    exact hi

theorem split_apply (E : FVec Ideal S2x4096x16 .f32) (b : Fin 2) (c i : Fin 64) (h : Fin 16) :
    (shapeCast S2x64x64x16 E shapeCasts_S2x4096x16_S2x64x64x16 : FVec Ideal S2x64x64x16 .f32) (ix4 b c i h) = E (ix3 b ⟨c.val * 64 + i.val, by omega⟩ h) := by
  pointwise []

theorem join_apply (E : FVec Ideal S2x64x64x16 .f32) (b : Fin 2) (t : Fin 4096) (h : Fin 16) :
    (shapeCast S2x4096x16 E shapeCasts_S2x64x64x16_S2x4096x16 : FVec Ideal S2x4096x16 .f32) (ix3 b t h) = E (ix4 b ⟨t.val / 64, by omega⟩ ⟨t.val % 64, by omega⟩ h) := by
  pointwise []

theorem sums_apply (E : FVec Ideal S2x4096x16 .f32) (h : Fin 16) (F : ℕ → EReal)
    (hF : ∀ r : Fin 8192, E (ix3 ⟨r.val / 4096, by omega⟩ ⟨r.val % 4096, by omega⟩ h) = F r.val) (r : Fin 8192) :
    sums E (ix3 ⟨r.val / 4096, by omega⟩ ⟨r.val % 4096, by omega⟩ h) = win 64 F r.val := by
  unfold sums
  rw [join_apply, window_apply _ _ (by pointwise []) _ _ _ _ (fun n => F (r.val - r.val % 64 + n))]
  · unfold win
    show (∑ j ∈ Finset.range 64, if j ≤ r.val % 4096 % 64 then F (r.val - r.val % 64 + (r.val % 4096 % 64 - j)) else 0) = _
    refine Finset.sum_congr rfl fun j _ => ?_
    have e : r.val % 4096 % 64 = r.val % 64 := by omega
    rw [e]
    by_cases hj : j ≤ r.val % 64
    · rw [if_pos hj, if_pos hj]
      congr 1
      omega
    · rw [if_neg hj, if_neg hj]
  · intro n
    rw [split_apply, ← hF ⟨r.val - r.val % 64 + n.val, by omega⟩]
    congr 1
    have e1 : (r.val - r.val % 64 + n.val) / 4096 = r.val / 4096 := by omega
    have e2 : (r.val - r.val % 64 + n.val) % 4096 = r.val % 4096 / 64 * 64 + n.val := by omega
    refine congrArg₂ (fun a b => ix3 a b h) (Fin.ext e1.symm) (Fin.ext e2.symm)

/-- The gates of arrays of the reference's shapes. -/
def layer (x0 : FVec Ideal S8192x4096 .f32) (x1 : FVec Ideal S1x4096 .f32) (x2 : FVec Ideal S1x4096x12320 .f32) (x3 x4 : FVec Ideal S1x16 .f32) : FVec Ideal S8192x128 .f32 :=
  joined (beta (prod (hid x0 x1) x2)) (sums (exps (shifted (prod (hid x0 x1) x2) x4) x3))

theorem prod_row (x0 : FVec Ideal S8192x4096 .f32) (x1 : FVec Ideal S1x4096 .f32) (x2 : FVec Ideal S1x4096x12320 .f32) (r : Fin 8192) (l : Fin 32) :
    prod (hid x0 x1) x2 (ix3 ⟨r.val / 4096, by omega⟩ ⟨r.val % 4096, by omega⟩ l)
      = tail (fun k => x0 (ix2 r k)) (fun k => x1 (ix2 0 k)) (fun k => x2 (ix3 0 k ⟨12288 + l.val, by omega⟩)) := by
  have hr : r.val / 4096 * 4096 + r.val % 4096 = r.val := by omega
  rw [prod_apply]
  unfold tail
  simp only [hid_apply, hr]

theorem layer_first (x0 : FVec Ideal S8192x4096 .f32) (x1 : FVec Ideal S1x4096 .f32) (x2 : FVec Ideal S1x4096x12320 .f32) (x3 x4 : FVec Ideal S1x16 .f32) (r : Fin 8192) (l : Fin 128) (h : l.val < 16) :
    layer x0 x1 x2 x3 x4 (ix2 r l) = Ideal.logistic (tail (fun k => x0 (ix2 r k)) (fun k => x1 (ix2 0 k)) (fun k => x2 (ix3 0 k ⟨12288 + l.val, by omega⟩))) := by
  unfold layer
  rw [joined_beta _ _ _ _ h, beta_apply, prod_row]

theorem layer_second (x0 : FVec Ideal S8192x4096 .f32) (x1 : FVec Ideal S1x4096 .f32) (x2 : FVec Ideal S1x4096x12320 .f32) (x3 x4 : FVec Ideal S1x16 .f32) (r : Fin 8192) (l : Fin 128)
    (h1 : 16 ≤ l.val) (h2 : l.val < 32) :
    layer x0 x1 x2 x3 x4 (ix2 r l) = win 64 (places (fun r k => x0 (ix2 r k)) (fun k => x1 (ix2 0 k)) (fun k => x2 (ix3 0 k ⟨12288 + l.val, by omega⟩))
      (x3 (ix2 0 ⟨l.val - 16, by omega⟩)) (x4 (ix2 0 ⟨l.val - 16, by omega⟩))) r.val := by
  unfold layer
  rw [joined_sums _ _ _ _ h1 h2]
  refine sums_apply _ _ _ (fun r => ?_) r
  rw [exps_apply, shifted_apply, prod_row]
  unfold places row
  have hr : (⟨r.val % 8192, Nat.mod_lt _ (by norm_num)⟩ : Fin 8192) = r := Fin.ext (Nat.mod_eq_of_lt r.isLt)
  have hl : (⟨12288 + (16 + (l.val - 16)), by omega⟩ : Fin 12320) = ⟨12288 + l.val, by omega⟩ := Fin.ext (by show 12288 + (16 + (l.val - 16)) = 12288 + l.val; omega)
  simp only [hr, hl]

theorem layer_rest (x0 : FVec Ideal S8192x4096 .f32) (x1 : FVec Ideal S1x4096 .f32) (x2 : FVec Ideal S1x4096x12320 .f32) (x3 x4 : FVec Ideal S1x16 .f32) (r : Fin 8192) (l : Fin 128) (h : 32 ≤ l.val) :
    layer x0 x1 x2 x3 x4 (ix2 r l) = Ideal.ofBits .f32 0x3F000000#32 := by
  unfold layer
  rw [joined_rest _ _ _ _ h]

/-- The norm as the call returns it. -/
def normOut (x0 : FVec Ideal S8192x4096 .f32) (x1 : FVec Ideal S1x4096 .f32) : FVec Ideal S8192x4096 .bf16 :=
  shapeCast _ (truncf .bf16 (hid x0 x1) bitsLt_bf16_f32) shapeCasts_S2x4096x4096_S8192x4096

theorem normOut_apply (x0 : FVec Ideal S8192x4096 .f32) (x1 : FVec Ideal S1x4096 .f32) (r : Fin 8192) (q : Fin 4096) :
    normOut x0 x1 (ix2 r q) = normed (fun k => x0 (ix2 r k)) (x1 (ix2 0 q)) q := by
  unfold normed
  pointwise [normOut, hid]

end Cert.Reference7Ideal.Own

end
-- ==== Proof.GateClaim.lean ====
module

public import proofs.«01_k».proof.Defs
public import proofs.«01_k».proof.Proof.GateOut
public import proofs.«01_k».proof.Proof.GateRef
public import proofs.«01_k».proof.Proof.Gen.Kernel7.Frame
public import proofs.«01_k».proof.Proof.Gen.Kernel7
public import proofs.«01_k».proof.Proof.Gen.Kernel7Ideal
public import proofs.«01_k».proof.Proof.Gen.Reference7Ideal
public import Idealize.ShloMosaic.Lib.Quiescent

@[expose] public section

set_option maxRecDepth 16384

noncomputable section

namespace Cert.Proof

open Idealize.ShloMosaic Idealize.SL.Sem

theorem quiet_kernel7 : Cert.quiescent_Kernel7 := fun m ρ _ => Cert.Kernel7.Gen.frame (F := Bits) m ρ
theorem quiet_ideal7 : Cert.quiescent_Kernel7Ideal := fun m ρ _ => Cert.Kernel7Ideal.Gen.frame (F := Ideal) m ρ
theorem quiet_reference7 : Cert.quiescent_Reference7Ideal :=
  fun m ρ _ => (θ_run _ _ _).mono (fun r h => ⟨fun c => (h c).2.2, sem_eq_zero_of_no_sems rfl r.2⟩) (Cert.Reference7Ideal.Value.run (F := Ideal) m ρ)

theorem gate_norm_eq (x0 : FVec Ideal Cert.Kernel7Ideal.S8192x4096 .f32) (x1 : FVec Ideal Cert.Kernel7Ideal.S1x4096 .f32)
    (m : (ℓ : Loc Cert.Kernel7Ideal.nD Cert.Kernel7Ideal.τ Cert.Kernel7Ideal.sig) → Buf (Elt Ideal) ℓ) (c : Dev Cert.Kernel7Ideal.nD)
    (h0 : x0 = m ((c.tc : Thread Cert.Kernel7Ideal.nD Cert.Kernel7Ideal.τ).loc Cert.Kernel7Ideal.main_arg0))
    (h1 : x1 = m ((c.tc : Thread Cert.Kernel7Ideal.nD Cert.Kernel7Ideal.τ).loc Cert.Kernel7Ideal.main_arg1)) :
    Cert.Reference7Ideal.Own.normOut x0 x1 = ((Cert.Kernel7Ideal.Gen.dats m 0 c).arrAt 5 Cert.Kernel7Ideal.cfg0.N : Vec Ideal Cert.Kernel7Ideal.S8192x4096 .bf16) := by
  subst h0 h1
  funext y
  idx_vars y
  exact (Cert.Reference7Ideal.Own.normOut_apply _ _ _ _).trans (Cert.Kernel7Ideal.Own.norm_apply m c _ _).symm

theorem gates_eq (x0 : FVec Ideal Cert.Kernel7Ideal.S8192x4096 .f32) (x1 : FVec Ideal Cert.Kernel7Ideal.S1x4096 .f32)
    (x2 : FVec Ideal Cert.Kernel7Ideal.S1x4096x12320 .f32) (x3 x4 : FVec Ideal Cert.Kernel7Ideal.S1x16 .f32)
    (m : (ℓ : Loc Cert.Kernel7Ideal.nD Cert.Kernel7Ideal.τ Cert.Kernel7Ideal.sig) → Buf (Elt Ideal) ℓ) (c : Dev Cert.Kernel7Ideal.nD)
    (h0 : x0 = m ((c.tc : Thread Cert.Kernel7Ideal.nD Cert.Kernel7Ideal.τ).loc Cert.Kernel7Ideal.main_arg0))
    (h1 : x1 = m ((c.tc : Thread Cert.Kernel7Ideal.nD Cert.Kernel7Ideal.τ).loc Cert.Kernel7Ideal.main_arg1))
    (h2 : x2 = m ((c.tc : Thread Cert.Kernel7Ideal.nD Cert.Kernel7Ideal.τ).loc Cert.Kernel7Ideal.main_arg2))
    (h3 : x3 = m ((c.tc : Thread Cert.Kernel7Ideal.nD Cert.Kernel7Ideal.τ).loc Cert.Kernel7Ideal.main_arg3))
    (h4 : x4 = m ((c.tc : Thread Cert.Kernel7Ideal.nD Cert.Kernel7Ideal.τ).loc Cert.Kernel7Ideal.main_arg4)) :
    Cert.Reference7Ideal.Own.layer x0 x1 x2 x3 x4 = ((Cert.Kernel7Ideal.Gen.dats m 0 c).arrAt 6 Cert.Kernel7Ideal.cfg0.N : Vec Ideal Cert.Kernel7Ideal.S8192x128 .f32) := by
  subst h0 h1 h2 h3 h4
  funext y
  obtain ⟨r, l, rfl⟩ : ∃ (r : Fin 8192) (l : Fin 128), y = ix2 r l := ⟨y 0, y 1, eq_ix2 y⟩
  by_cases h1 : l.val < 16
  · exact (Cert.Reference7Ideal.Own.layer_first _ _ _ _ _ _ _ h1).trans (Cert.Kernel7Ideal.Own.gates_first m c _ _ h1).symm
  by_cases h2 : l.val < 32
  · exact (Cert.Reference7Ideal.Own.layer_second _ _ _ _ _ _ _ (by omega) h2).trans (Cert.Kernel7Ideal.Own.gates_second m c _ _ (by omega) h2).symm
  · exact (Cert.Reference7Ideal.Own.layer_rest _ _ _ _ _ _ _ (by omega)).trans (Cert.Kernel7Ideal.Own.gates_rest m c _ _ (by omega)).symm

theorem algebraic7 : Cert.algebraic_Kernel7Ideal_Reference7Ideal := fun m g m' g' _ he =>
  ⟨fun c => (Cert.Kernel7Ideal.Gen.dats m 0 c).arrAt 5 Cert.Kernel7Ideal.cfg0.N, fun c => (Cert.Kernel7Ideal.Gen.dats m 0 c).arrAt 6 Cert.Kernel7Ideal.cfg0.N, Cert.Kernel7Ideal.Value.run_blocks m g,
    (θ_run _ _ _).mono (fun r h c => ⟨(h c).1.trans (gate_norm_eq _ _ m c (he c).1 (he c).2.1),
      (h c).2.1.trans ((Cert.Reference7Ideal.Own.res_eq m' c).trans (gates_eq _ _ _ _ _ m c (he c).1 (he c).2.1 (he c).2.2.1 (he c).2.2.2.1 (he c).2.2.2.2)), (h c).2.2⟩) (Cert.Reference7Ideal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Quiet
public import proofs.«01_k».proof.Proof.NormClaim
public import proofs.«01_k».proof.Proof.InClaim
public import proofs.«01_k».proof.Proof.OutClaim
public import proofs.«01_k».proof.Proof.Out2Claim
public import proofs.«01_k».proof.Proof.PreNormClaim
public import proofs.«01_k».proof.Proof.GateClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  quiet_kernel, quiet_ideal, quiet_reference, quiet_kernel2, quiet_ideal2, quiet_reference2, quiet_kernel3, quiet_ideal3, quiet_reference3, quiet_kernel4, quiet_ideal4, quiet_reference4, quiet_kernel5, quiet_ideal5, quiet_reference5, quiet_kernel6, quiet_ideal6, quiet_reference6, quiet_kernel7, quiet_ideal7, quiet_reference7,
  trivial, algebraic, trivial, algebraic2, trivial, algebraic3, trivial, algebraic4, trivial, algebraic5, trivial, algebraic6, trivial, algebraic7⟩

end Cert.Proof

end
